-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DgradUp (m : (ℓ : Loc Cert.DgradUp.nD Cert.DgradUp.τ Cert.DgradUp.sig) → Buf (Elt Bits) ℓ) : Prop :=
  True

def Pre_DgradUpIdeal (m : (ℓ : Loc Cert.DgradUpIdeal.nD Cert.DgradUpIdeal.τ Cert.DgradUpIdeal.sig) → Buf (Elt Ideal) ℓ) : Prop :=
  True

def Pre_DgradUpRefIdeal (m : (ℓ : Loc Cert.DgradUpRefIdeal.nD Cert.DgradUpRefIdeal.τ Cert.DgradUpRefIdeal.sig) → Buf (Elt Ideal) ℓ) : Prop :=
  True

def Pre_DgradIn (m : (ℓ : Loc Cert.DgradIn.nD Cert.DgradIn.τ Cert.DgradIn.sig) → Buf (Elt Bits) ℓ) : Prop :=
  True

def Pre_DgradInIdeal (m : (ℓ : Loc Cert.DgradInIdeal.nD Cert.DgradInIdeal.τ Cert.DgradInIdeal.sig) → Buf (Elt Ideal) ℓ) : Prop :=
  True

def Pre_DgradInRefIdeal (m : (ℓ : Loc Cert.DgradInRefIdeal.nD Cert.DgradInRefIdeal.τ Cert.DgradInRefIdeal.sig) → Buf (Elt Ideal) ℓ) : Prop :=
  True

def Pre_WgradPre (m : (ℓ : Loc Cert.WgradPre.nD Cert.WgradPre.τ Cert.WgradPre.sig) → Buf (Elt Bits) ℓ) : Prop :=
  True

def Pre_WgradPreIdeal (m : (ℓ : Loc Cert.WgradPreIdeal.nD Cert.WgradPreIdeal.τ Cert.WgradPreIdeal.sig) → Buf (Elt Ideal) ℓ) : Prop :=
  True

def Pre_WgradPreRefIdeal (m : (ℓ : Loc Cert.WgradPreRefIdeal.nD Cert.WgradPreRefIdeal.τ Cert.WgradPreRefIdeal.sig) → Buf (Elt Ideal) ℓ) : Prop :=
  True

def Pre_WgradSq (m : (ℓ : Loc Cert.WgradSq.nD Cert.WgradSq.τ Cert.WgradSq.sig) → Buf (Elt Bits) ℓ) : Prop :=
  True

def Pre_WgradSqIdeal (m : (ℓ : Loc Cert.WgradSqIdeal.nD Cert.WgradSqIdeal.τ Cert.WgradSqIdeal.sig) → Buf (Elt Ideal) ℓ) : Prop :=
  True

def Pre_WgradSqRefIdeal (m : (ℓ : Loc Cert.WgradSqRefIdeal.nD Cert.WgradSqRefIdeal.τ Cert.WgradSqRefIdeal.sig) → Buf (Elt Ideal) ℓ) : Prop :=
  True

def Pre_WgradBa (m : (ℓ : Loc Cert.WgradBa.nD Cert.WgradBa.τ Cert.WgradBa.sig) → Buf (Elt Bits) ℓ) : Prop :=
  True

def Pre_WgradBaIdeal (m : (ℓ : Loc Cert.WgradBaIdeal.nD Cert.WgradBaIdeal.τ Cert.WgradBaIdeal.sig) → Buf (Elt Ideal) ℓ) : Prop :=
  True

def Pre_WgradBaRefIdeal (m : (ℓ : Loc Cert.WgradBaRefIdeal.nD Cert.WgradBaRefIdeal.τ Cert.WgradBaRefIdeal.sig) → Buf (Elt Ideal) ℓ) : Prop :=
  True

def Pre_WgradUp (m : (ℓ : Loc Cert.WgradUp.nD Cert.WgradUp.τ Cert.WgradUp.sig) → Buf (Elt Bits) ℓ) : Prop :=
  True

def Pre_WgradUpIdeal (m : (ℓ : Loc Cert.WgradUpIdeal.nD Cert.WgradUpIdeal.τ Cert.WgradUpIdeal.sig) → Buf (Elt Ideal) ℓ) : Prop :=
  True

def Pre_WgradUpRefIdeal (m : (ℓ : Loc Cert.WgradUpRefIdeal.nD Cert.WgradUpRefIdeal.τ Cert.WgradUpRefIdeal.sig) → Buf (Elt Ideal) ℓ) : Prop :=
  True

def Pre_WgradDown (m : (ℓ : Loc Cert.WgradDown.nD Cert.WgradDown.τ Cert.WgradDown.sig) → Buf (Elt Bits) ℓ) : Prop :=
  True

def Pre_WgradDownIdeal (m : (ℓ : Loc Cert.WgradDownIdeal.nD Cert.WgradDownIdeal.τ Cert.WgradDownIdeal.sig) → Buf (Elt Ideal) ℓ) : Prop :=
  True

def Pre_WgradDownRefIdeal (m : (ℓ : Loc Cert.WgradDownRefIdeal.nD Cert.WgradDownRefIdeal.τ Cert.WgradDownRefIdeal.sig) → Buf (Elt Ideal) ℓ) : Prop :=
  True

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_FwdInRefIdeal (m : (ℓ : Loc Cert.FwdInRefIdeal.nD Cert.FwdInRefIdeal.τ Cert.FwdInRefIdeal.sig) → Buf (Elt Ideal) ℓ) : Prop :=
  True

def Pre_FwdUp (m : (ℓ : Loc Cert.FwdUp.nD Cert.FwdUp.τ Cert.FwdUp.sig) → Buf (Elt Bits) ℓ) : Prop :=
  True

def Pre_FwdUpIdeal (m : (ℓ : Loc Cert.FwdUpIdeal.nD Cert.FwdUpIdeal.τ Cert.FwdUpIdeal.sig) → Buf (Elt Ideal) ℓ) : Prop :=
  True

def Pre_FwdUpRefIdeal (m : (ℓ : Loc Cert.FwdUpRefIdeal.nD Cert.FwdUpRefIdeal.τ Cert.FwdUpRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSq (m : (ℓ : Loc Cert.AdamSq.nD Cert.AdamSq.τ Cert.AdamSq.sig) → Buf (Elt Bits) ℓ) : Prop :=
  True

def Pre_AdamSqIdeal (m : (ℓ : Loc Cert.AdamSqIdeal.nD Cert.AdamSqIdeal.τ Cert.AdamSqIdeal.sig) → Buf (Elt Ideal) ℓ) : Prop :=
  True

def Pre_AdamSqRefIdeal (m : (ℓ : Loc Cert.AdamSqRefIdeal.nD Cert.AdamSqRefIdeal.τ Cert.AdamSqRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_ModBwd (m : (ℓ : Loc Cert.ModBwd.nD Cert.ModBwd.τ Cert.ModBwd.sig) → Buf (Elt Bits) ℓ) : Prop :=
  True

def Pre_ModBwdIdeal (m : (ℓ : Loc Cert.ModBwdIdeal.nD Cert.ModBwdIdeal.τ Cert.ModBwdIdeal.sig) → Buf (Elt Ideal) ℓ) : Prop :=
  True

def Pre_ModBwdRefIdeal (m : (ℓ : Loc Cert.ModBwdRefIdeal.nD Cert.ModBwdRefIdeal.τ Cert.ModBwdRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_AdaGrad (m : (ℓ : Loc Cert.AdaGrad.nD Cert.AdaGrad.τ Cert.AdaGrad.sig) → Buf (Elt Bits) ℓ) : Prop :=
  True

def Pre_AdaGradIdeal (m : (ℓ : Loc Cert.AdaGradIdeal.nD Cert.AdaGradIdeal.τ Cert.AdaGradIdeal.sig) → Buf (Elt Ideal) ℓ) : Prop :=
  True

def Pre_AdaGradRefIdeal (m : (ℓ : Loc Cert.AdaGradRefIdeal.nD Cert.AdaGradRefIdeal.τ Cert.AdaGradRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_DgradUp [hDgradUp : Cert.DgradUp.Facts] : Prop :=
  ∀ (m : (ℓ : Loc Cert.DgradUp.nD Cert.DgradUp.τ Cert.DgradUp.sig) → Buf (Elt Bits) ℓ) (g : Dev Cert.DgradUp.nD → PrngReg), Pre_DgradUp m →
    θ_run (Cert.DgradUp.defs (F := Bits)) (onTc (τ := Cert.DgradUp.τ) (Cert.DgradUp.main (F := Bits))) ⟨m, fun _ => 0, g⟩ (fun r => (∀ c : Dev Cert.DgradUp.nD,
      r.2.mem ((c.tc : Thread Cert.DgradUp.nD Cert.DgradUp.τ).loc Cert.DgradUp.main_arg0) = m ((c.tc : Thread Cert.DgradUp.nD Cert.DgradUp.τ).loc Cert.DgradUp.main_arg0)
      ∧ r.2.mem ((c.tc : Thread Cert.DgradUp.nD Cert.DgradUp.τ).loc Cert.DgradUp.main_arg1) = m ((c.tc : Thread Cert.DgradUp.nD Cert.DgradUp.τ).loc Cert.DgradUp.main_arg1)
      ∧ r.2.mem ((c.tc : Thread Cert.DgradUp.nD Cert.DgradUp.τ).loc Cert.DgradUp.main_arg2) = m ((c.tc : Thread Cert.DgradUp.nD Cert.DgradUp.τ).loc Cert.DgradUp.main_arg2)
      ∧ r.2.mem ((c.tc : Thread Cert.DgradUp.nD Cert.DgradUp.τ).loc Cert.DgradUp.main_arg3) = m ((c.tc : Thread Cert.DgradUp.nD Cert.DgradUp.τ).loc Cert.DgradUp.main_arg3)
      ∧ r.2.mem ((c.tc : Thread Cert.DgradUp.nD Cert.DgradUp.τ).loc Cert.DgradUp.main_arg4) = m ((c.tc : Thread Cert.DgradUp.nD Cert.DgradUp.τ).loc Cert.DgradUp.main_arg4))
      ∧ r.2.sem = fun _ => 0)

def quiescent_DgradUpIdeal [hDgradUpIdeal : Cert.DgradUpIdeal.Facts] : Prop :=
  ∀ (m : (ℓ : Loc Cert.DgradUpIdeal.nD Cert.DgradUpIdeal.τ Cert.DgradUpIdeal.sig) → Buf (Elt Ideal) ℓ) (g : Dev Cert.DgradUpIdeal.nD → PrngReg), Pre_DgradUpIdeal m →
    θ_run (Cert.DgradUpIdeal.defs (F := Ideal)) (onTc (τ := Cert.DgradUpIdeal.τ) (Cert.DgradUpIdeal.main (F := Ideal))) ⟨m, fun _ => 0, g⟩ (fun r => (∀ c : Dev Cert.DgradUpIdeal.nD,
      r.2.mem ((c.tc : Thread Cert.DgradUpIdeal.nD Cert.DgradUpIdeal.τ).loc Cert.DgradUpIdeal.main_arg0) = m ((c.tc : Thread Cert.DgradUpIdeal.nD Cert.DgradUpIdeal.τ).loc Cert.DgradUpIdeal.main_arg0)
      ∧ r.2.mem ((c.tc : Thread Cert.DgradUpIdeal.nD Cert.DgradUpIdeal.τ).loc Cert.DgradUpIdeal.main_arg1) = m ((c.tc : Thread Cert.DgradUpIdeal.nD Cert.DgradUpIdeal.τ).loc Cert.DgradUpIdeal.main_arg1)
      ∧ r.2.mem ((c.tc : Thread Cert.DgradUpIdeal.nD Cert.DgradUpIdeal.τ).loc Cert.DgradUpIdeal.main_arg2) = m ((c.tc : Thread Cert.DgradUpIdeal.nD Cert.DgradUpIdeal.τ).loc Cert.DgradUpIdeal.main_arg2)
      ∧ r.2.mem ((c.tc : Thread Cert.DgradUpIdeal.nD Cert.DgradUpIdeal.τ).loc Cert.DgradUpIdeal.main_arg3) = m ((c.tc : Thread Cert.DgradUpIdeal.nD Cert.DgradUpIdeal.τ).loc Cert.DgradUpIdeal.main_arg3)
      ∧ r.2.mem ((c.tc : Thread Cert.DgradUpIdeal.nD Cert.DgradUpIdeal.τ).loc Cert.DgradUpIdeal.main_arg4) = m ((c.tc : Thread Cert.DgradUpIdeal.nD Cert.DgradUpIdeal.τ).loc Cert.DgradUpIdeal.main_arg4))
      ∧ r.2.sem = fun _ => 0)

def quiescent_DgradUpRefIdeal [hDgradUpRefIdeal : Cert.DgradUpRefIdeal.Facts] : Prop :=
  ∀ (m : (ℓ : Loc Cert.DgradUpRefIdeal.nD Cert.DgradUpRefIdeal.τ Cert.DgradUpRefIdeal.sig) → Buf (Elt Ideal) ℓ) (g : Dev Cert.DgradUpRefIdeal.nD → PrngReg), Pre_DgradUpRefIdeal m →
    θ_run (Cert.DgradUpRefIdeal.defs (F := Ideal)) (onTc (τ := Cert.DgradUpRefIdeal.τ) (Cert.DgradUpRefIdeal.main (F := Ideal))) ⟨m, fun _ => 0, g⟩ (fun r => (∀ c : Dev Cert.DgradUpRefIdeal.nD,
      r.2.mem ((c.tc : Thread Cert.DgradUpRefIdeal.nD Cert.DgradUpRefIdeal.τ).loc Cert.DgradUpRefIdeal.main_arg0) = m ((c.tc : Thread Cert.DgradUpRefIdeal.nD Cert.DgradUpRefIdeal.τ).loc Cert.DgradUpRefIdeal.main_arg0)
      ∧ r.2.mem ((c.tc : Thread Cert.DgradUpRefIdeal.nD Cert.DgradUpRefIdeal.τ).loc Cert.DgradUpRefIdeal.main_arg1) = m ((c.tc : Thread Cert.DgradUpRefIdeal.nD Cert.DgradUpRefIdeal.τ).loc Cert.DgradUpRefIdeal.main_arg1)
      ∧ r.2.mem ((c.tc : Thread Cert.DgradUpRefIdeal.nD Cert.DgradUpRefIdeal.τ).loc Cert.DgradUpRefIdeal.main_arg2) = m ((c.tc : Thread Cert.DgradUpRefIdeal.nD Cert.DgradUpRefIdeal.τ).loc Cert.DgradUpRefIdeal.main_arg2)
      ∧ r.2.mem ((c.tc : Thread Cert.DgradUpRefIdeal.nD Cert.DgradUpRefIdeal.τ).loc Cert.DgradUpRefIdeal.main_arg3) = m ((c.tc : Thread Cert.DgradUpRefIdeal.nD Cert.DgradUpRefIdeal.τ).loc Cert.DgradUpRefIdeal.main_arg3)
      ∧ r.2.mem ((c.tc : Thread Cert.DgradUpRefIdeal.nD Cert.DgradUpRefIdeal.τ).loc Cert.DgradUpRefIdeal.main_arg4) = m ((c.tc : Thread Cert.DgradUpRefIdeal.nD Cert.DgradUpRefIdeal.τ).loc Cert.DgradUpRefIdeal.main_arg4))
      ∧ r.2.sem = fun _ => 0)

def quiescent_DgradIn [hDgradIn : Cert.DgradIn.Facts] : Prop :=
  ∀ (m : (ℓ : Loc Cert.DgradIn.nD Cert.DgradIn.τ Cert.DgradIn.sig) → Buf (Elt Bits) ℓ) (g : Dev Cert.DgradIn.nD → PrngReg), Pre_DgradIn m →
    θ_run (Cert.DgradIn.defs (F := Bits)) (onTc (τ := Cert.DgradIn.τ) (Cert.DgradIn.main (F := Bits))) ⟨m, fun _ => 0, g⟩ (fun r => (∀ c : Dev Cert.DgradIn.nD,
      r.2.mem ((c.tc : Thread Cert.DgradIn.nD Cert.DgradIn.τ).loc Cert.DgradIn.main_arg0) = m ((c.tc : Thread Cert.DgradIn.nD Cert.DgradIn.τ).loc Cert.DgradIn.main_arg0)
      ∧ r.2.mem ((c.tc : Thread Cert.DgradIn.nD Cert.DgradIn.τ).loc Cert.DgradIn.main_arg1) = m ((c.tc : Thread Cert.DgradIn.nD Cert.DgradIn.τ).loc Cert.DgradIn.main_arg1)
      ∧ r.2.mem ((c.tc : Thread Cert.DgradIn.nD Cert.DgradIn.τ).loc Cert.DgradIn.main_arg2) = m ((c.tc : Thread Cert.DgradIn.nD Cert.DgradIn.τ).loc Cert.DgradIn.main_arg2)
      ∧ r.2.mem ((c.tc : Thread Cert.DgradIn.nD Cert.DgradIn.τ).loc Cert.DgradIn.main_arg3) = m ((c.tc : Thread Cert.DgradIn.nD Cert.DgradIn.τ).loc Cert.DgradIn.main_arg3)
      ∧ r.2.mem ((c.tc : Thread Cert.DgradIn.nD Cert.DgradIn.τ).loc Cert.DgradIn.main_arg4) = m ((c.tc : Thread Cert.DgradIn.nD Cert.DgradIn.τ).loc Cert.DgradIn.main_arg4)
      ∧ r.2.mem ((c.tc : Thread Cert.DgradIn.nD Cert.DgradIn.τ).loc Cert.DgradIn.main_arg5) = m ((c.tc : Thread Cert.DgradIn.nD Cert.DgradIn.τ).loc Cert.DgradIn.main_arg5)
      ∧ r.2.mem ((c.tc : Thread Cert.DgradIn.nD Cert.DgradIn.τ).loc Cert.DgradIn.main_arg6) = m ((c.tc : Thread Cert.DgradIn.nD Cert.DgradIn.τ).loc Cert.DgradIn.main_arg6)
      ∧ r.2.mem ((c.tc : Thread Cert.DgradIn.nD Cert.DgradIn.τ).loc Cert.DgradIn.main_arg7) = m ((c.tc : Thread Cert.DgradIn.nD Cert.DgradIn.τ).loc Cert.DgradIn.main_arg7)
      ∧ r.2.mem ((c.tc : Thread Cert.DgradIn.nD Cert.DgradIn.τ).loc Cert.DgradIn.main_arg8) = m ((c.tc : Thread Cert.DgradIn.nD Cert.DgradIn.τ).loc Cert.DgradIn.main_arg8))
      ∧ r.2.sem = fun _ => 0)

def quiescent_DgradInIdeal [hDgradInIdeal : Cert.DgradInIdeal.Facts] : Prop :=
  ∀ (m : (ℓ : Loc Cert.DgradInIdeal.nD Cert.DgradInIdeal.τ Cert.DgradInIdeal.sig) → Buf (Elt Ideal) ℓ) (g : Dev Cert.DgradInIdeal.nD → PrngReg), Pre_DgradInIdeal m →
    θ_run (Cert.DgradInIdeal.defs (F := Ideal)) (onTc (τ := Cert.DgradInIdeal.τ) (Cert.DgradInIdeal.main (F := Ideal))) ⟨m, fun _ => 0, g⟩ (fun r => (∀ c : Dev Cert.DgradInIdeal.nD,
      r.2.mem ((c.tc : Thread Cert.DgradInIdeal.nD Cert.DgradInIdeal.τ).loc Cert.DgradInIdeal.main_arg0) = m ((c.tc : Thread Cert.DgradInIdeal.nD Cert.DgradInIdeal.τ).loc Cert.DgradInIdeal.main_arg0)
      ∧ r.2.mem ((c.tc : Thread Cert.DgradInIdeal.nD Cert.DgradInIdeal.τ).loc Cert.DgradInIdeal.main_arg1) = m ((c.tc : Thread Cert.DgradInIdeal.nD Cert.DgradInIdeal.τ).loc Cert.DgradInIdeal.main_arg1)
      ∧ r.2.mem ((c.tc : Thread Cert.DgradInIdeal.nD Cert.DgradInIdeal.τ).loc Cert.DgradInIdeal.main_arg2) = m ((c.tc : Thread Cert.DgradInIdeal.nD Cert.DgradInIdeal.τ).loc Cert.DgradInIdeal.main_arg2)
      ∧ r.2.mem ((c.tc : Thread Cert.DgradInIdeal.nD Cert.DgradInIdeal.τ).loc Cert.DgradInIdeal.main_arg3) = m ((c.tc : Thread Cert.DgradInIdeal.nD Cert.DgradInIdeal.τ).loc Cert.DgradInIdeal.main_arg3)
      ∧ r.2.mem ((c.tc : Thread Cert.DgradInIdeal.nD Cert.DgradInIdeal.τ).loc Cert.DgradInIdeal.main_arg4) = m ((c.tc : Thread Cert.DgradInIdeal.nD Cert.DgradInIdeal.τ).loc Cert.DgradInIdeal.main_arg4)
      ∧ r.2.mem ((c.tc : Thread Cert.DgradInIdeal.nD Cert.DgradInIdeal.τ).loc Cert.DgradInIdeal.main_arg5) = m ((c.tc : Thread Cert.DgradInIdeal.nD Cert.DgradInIdeal.τ).loc Cert.DgradInIdeal.main_arg5)
      ∧ r.2.mem ((c.tc : Thread Cert.DgradInIdeal.nD Cert.DgradInIdeal.τ).loc Cert.DgradInIdeal.main_arg6) = m ((c.tc : Thread Cert.DgradInIdeal.nD Cert.DgradInIdeal.τ).loc Cert.DgradInIdeal.main_arg6)
      ∧ r.2.mem ((c.tc : Thread Cert.DgradInIdeal.nD Cert.DgradInIdeal.τ).loc Cert.DgradInIdeal.main_arg7) = m ((c.tc : Thread Cert.DgradInIdeal.nD Cert.DgradInIdeal.τ).loc Cert.DgradInIdeal.main_arg7)
      ∧ r.2.mem ((c.tc : Thread Cert.DgradInIdeal.nD Cert.DgradInIdeal.τ).loc Cert.DgradInIdeal.main_arg8) = m ((c.tc : Thread Cert.DgradInIdeal.nD Cert.DgradInIdeal.τ).loc Cert.DgradInIdeal.main_arg8))
      ∧ r.2.sem = fun _ => 0)

def quiescent_DgradInRefIdeal [hDgradInRefIdeal : Cert.DgradInRefIdeal.Facts] : Prop :=
  ∀ (m : (ℓ : Loc Cert.DgradInRefIdeal.nD Cert.DgradInRefIdeal.τ Cert.DgradInRefIdeal.sig) → Buf (Elt Ideal) ℓ) (g : Dev Cert.DgradInRefIdeal.nD → PrngReg), Pre_DgradInRefIdeal m →
    θ_run (Cert.DgradInRefIdeal.defs (F := Ideal)) (onTc (τ := Cert.DgradInRefIdeal.τ) (Cert.DgradInRefIdeal.main (F := Ideal))) ⟨m, fun _ => 0, g⟩ (fun r => (∀ c : Dev Cert.DgradInRefIdeal.nD,
      r.2.mem ((c.tc : Thread Cert.DgradInRefIdeal.nD Cert.DgradInRefIdeal.τ).loc Cert.DgradInRefIdeal.main_arg0) = m ((c.tc : Thread Cert.DgradInRefIdeal.nD Cert.DgradInRefIdeal.τ).loc Cert.DgradInRefIdeal.main_arg0)
      ∧ r.2.mem ((c.tc : Thread Cert.DgradInRefIdeal.nD Cert.DgradInRefIdeal.τ).loc Cert.DgradInRefIdeal.main_arg1) = m ((c.tc : Thread Cert.DgradInRefIdeal.nD Cert.DgradInRefIdeal.τ).loc Cert.DgradInRefIdeal.main_arg1)
      ∧ r.2.mem ((c.tc : Thread Cert.DgradInRefIdeal.nD Cert.DgradInRefIdeal.τ).loc Cert.DgradInRefIdeal.main_arg2) = m ((c.tc : Thread Cert.DgradInRefIdeal.nD Cert.DgradInRefIdeal.τ).loc Cert.DgradInRefIdeal.main_arg2)
      ∧ r.2.mem ((c.tc : Thread Cert.DgradInRefIdeal.nD Cert.DgradInRefIdeal.τ).loc Cert.DgradInRefIdeal.main_arg3) = m ((c.tc : Thread Cert.DgradInRefIdeal.nD Cert.DgradInRefIdeal.τ).loc Cert.DgradInRefIdeal.main_arg3)
      ∧ r.2.mem ((c.tc : Thread Cert.DgradInRefIdeal.nD Cert.DgradInRefIdeal.τ).loc Cert.DgradInRefIdeal.main_arg4) = m ((c.tc : Thread Cert.DgradInRefIdeal.nD Cert.DgradInRefIdeal.τ).loc Cert.DgradInRefIdeal.main_arg4)
      ∧ r.2.mem ((c.tc : Thread Cert.DgradInRefIdeal.nD Cert.DgradInRefIdeal.τ).loc Cert.DgradInRefIdeal.main_arg5) = m ((c.tc : Thread Cert.DgradInRefIdeal.nD Cert.DgradInRefIdeal.τ).loc Cert.DgradInRefIdeal.main_arg5)
      ∧ r.2.mem ((c.tc : Thread Cert.DgradInRefIdeal.nD Cert.DgradInRefIdeal.τ).loc Cert.DgradInRefIdeal.main_arg6) = m ((c.tc : Thread Cert.DgradInRefIdeal.nD Cert.DgradInRefIdeal.τ).loc Cert.DgradInRefIdeal.main_arg6)
      ∧ r.2.mem ((c.tc : Thread Cert.DgradInRefIdeal.nD Cert.DgradInRefIdeal.τ).loc Cert.DgradInRefIdeal.main_arg7) = m ((c.tc : Thread Cert.DgradInRefIdeal.nD Cert.DgradInRefIdeal.τ).loc Cert.DgradInRefIdeal.main_arg7)
      ∧ r.2.mem ((c.tc : Thread Cert.DgradInRefIdeal.nD Cert.DgradInRefIdeal.τ).loc Cert.DgradInRefIdeal.main_arg8) = m ((c.tc : Thread Cert.DgradInRefIdeal.nD Cert.DgradInRefIdeal.τ).loc Cert.DgradInRefIdeal.main_arg8))
      ∧ r.2.sem = fun _ => 0)

def quiescent_WgradPre [hWgradPre : Cert.WgradPre.Facts] : Prop :=
  ∀ (m : (ℓ : Loc Cert.WgradPre.nD Cert.WgradPre.τ Cert.WgradPre.sig) → Buf (Elt Bits) ℓ) (g : Dev Cert.WgradPre.nD → PrngReg), Pre_WgradPre m →
    θ_run (Cert.WgradPre.defs (F := Bits)) (onTc (τ := Cert.WgradPre.τ) (Cert.WgradPre.main (F := Bits))) ⟨m, fun _ => 0, g⟩ (fun r => (∀ c : Dev Cert.WgradPre.nD,
      r.2.mem ((c.tc : Thread Cert.WgradPre.nD Cert.WgradPre.τ).loc Cert.WgradPre.main_arg0) = m ((c.tc : Thread Cert.WgradPre.nD Cert.WgradPre.τ).loc Cert.WgradPre.main_arg0)
      ∧ r.2.mem ((c.tc : Thread Cert.WgradPre.nD Cert.WgradPre.τ).loc Cert.WgradPre.main_arg1) = m ((c.tc : Thread Cert.WgradPre.nD Cert.WgradPre.τ).loc Cert.WgradPre.main_arg1))
      ∧ r.2.sem = fun _ => 0)

def quiescent_WgradPreIdeal [hWgradPreIdeal : Cert.WgradPreIdeal.Facts] : Prop :=
  ∀ (m : (ℓ : Loc Cert.WgradPreIdeal.nD Cert.WgradPreIdeal.τ Cert.WgradPreIdeal.sig) → Buf (Elt Ideal) ℓ) (g : Dev Cert.WgradPreIdeal.nD → PrngReg), Pre_WgradPreIdeal m →
    θ_run (Cert.WgradPreIdeal.defs (F := Ideal)) (onTc (τ := Cert.WgradPreIdeal.τ) (Cert.WgradPreIdeal.main (F := Ideal))) ⟨m, fun _ => 0, g⟩ (fun r => (∀ c : Dev Cert.WgradPreIdeal.nD,
      r.2.mem ((c.tc : Thread Cert.WgradPreIdeal.nD Cert.WgradPreIdeal.τ).loc Cert.WgradPreIdeal.main_arg0) = m ((c.tc : Thread Cert.WgradPreIdeal.nD Cert.WgradPreIdeal.τ).loc Cert.WgradPreIdeal.main_arg0)
      ∧ r.2.mem ((c.tc : Thread Cert.WgradPreIdeal.nD Cert.WgradPreIdeal.τ).loc Cert.WgradPreIdeal.main_arg1) = m ((c.tc : Thread Cert.WgradPreIdeal.nD Cert.WgradPreIdeal.τ).loc Cert.WgradPreIdeal.main_arg1))
      ∧ r.2.sem = fun _ => 0)

def quiescent_WgradPreRefIdeal [hWgradPreRefIdeal : Cert.WgradPreRefIdeal.Facts] : Prop :=
  ∀ (m : (ℓ : Loc Cert.WgradPreRefIdeal.nD Cert.WgradPreRefIdeal.τ Cert.WgradPreRefIdeal.sig) → Buf (Elt Ideal) ℓ) (g : Dev Cert.WgradPreRefIdeal.nD → PrngReg), Pre_WgradPreRefIdeal m →
    θ_run (Cert.WgradPreRefIdeal.defs (F := Ideal)) (onTc (τ := Cert.WgradPreRefIdeal.τ) (Cert.WgradPreRefIdeal.main (F := Ideal))) ⟨m, fun _ => 0, g⟩ (fun r => (∀ c : Dev Cert.WgradPreRefIdeal.nD,
      r.2.mem ((c.tc : Thread Cert.WgradPreRefIdeal.nD Cert.WgradPreRefIdeal.τ).loc Cert.WgradPreRefIdeal.main_arg0) = m ((c.tc : Thread Cert.WgradPreRefIdeal.nD Cert.WgradPreRefIdeal.τ).loc Cert.WgradPreRefIdeal.main_arg0)
      ∧ r.2.mem ((c.tc : Thread Cert.WgradPreRefIdeal.nD Cert.WgradPreRefIdeal.τ).loc Cert.WgradPreRefIdeal.main_arg1) = m ((c.tc : Thread Cert.WgradPreRefIdeal.nD Cert.WgradPreRefIdeal.τ).loc Cert.WgradPreRefIdeal.main_arg1))
      ∧ r.2.sem = fun _ => 0)

def quiescent_WgradSq [hWgradSq : Cert.WgradSq.Facts] : Prop :=
  ∀ (m : (ℓ : Loc Cert.WgradSq.nD Cert.WgradSq.τ Cert.WgradSq.sig) → Buf (Elt Bits) ℓ) (g : Dev Cert.WgradSq.nD → PrngReg), Pre_WgradSq m →
    θ_run (Cert.WgradSq.defs (F := Bits)) (onTc (τ := Cert.WgradSq.τ) (Cert.WgradSq.main (F := Bits))) ⟨m, fun _ => 0, g⟩ (fun r => (∀ c : Dev Cert.WgradSq.nD,
      r.2.mem ((c.tc : Thread Cert.WgradSq.nD Cert.WgradSq.τ).loc Cert.WgradSq.main_arg0) = m ((c.tc : Thread Cert.WgradSq.nD Cert.WgradSq.τ).loc Cert.WgradSq.main_arg0)
      ∧ r.2.mem ((c.tc : Thread Cert.WgradSq.nD Cert.WgradSq.τ).loc Cert.WgradSq.main_arg1) = m ((c.tc : Thread Cert.WgradSq.nD Cert.WgradSq.τ).loc Cert.WgradSq.main_arg1))
      ∧ r.2.sem = fun _ => 0)

def quiescent_WgradSqIdeal [hWgradSqIdeal : Cert.WgradSqIdeal.Facts] : Prop :=
  ∀ (m : (ℓ : Loc Cert.WgradSqIdeal.nD Cert.WgradSqIdeal.τ Cert.WgradSqIdeal.sig) → Buf (Elt Ideal) ℓ) (g : Dev Cert.WgradSqIdeal.nD → PrngReg), Pre_WgradSqIdeal m →
    θ_run (Cert.WgradSqIdeal.defs (F := Ideal)) (onTc (τ := Cert.WgradSqIdeal.τ) (Cert.WgradSqIdeal.main (F := Ideal))) ⟨m, fun _ => 0, g⟩ (fun r => (∀ c : Dev Cert.WgradSqIdeal.nD,
      r.2.mem ((c.tc : Thread Cert.WgradSqIdeal.nD Cert.WgradSqIdeal.τ).loc Cert.WgradSqIdeal.main_arg0) = m ((c.tc : Thread Cert.WgradSqIdeal.nD Cert.WgradSqIdeal.τ).loc Cert.WgradSqIdeal.main_arg0)
      ∧ r.2.mem ((c.tc : Thread Cert.WgradSqIdeal.nD Cert.WgradSqIdeal.τ).loc Cert.WgradSqIdeal.main_arg1) = m ((c.tc : Thread Cert.WgradSqIdeal.nD Cert.WgradSqIdeal.τ).loc Cert.WgradSqIdeal.main_arg1))
      ∧ r.2.sem = fun _ => 0)

def quiescent_WgradSqRefIdeal [hWgradSqRefIdeal : Cert.WgradSqRefIdeal.Facts] : Prop :=
  ∀ (m : (ℓ : Loc Cert.WgradSqRefIdeal.nD Cert.WgradSqRefIdeal.τ Cert.WgradSqRefIdeal.sig) → Buf (Elt Ideal) ℓ) (g : Dev Cert.WgradSqRefIdeal.nD → PrngReg), Pre_WgradSqRefIdeal m →
    θ_run (Cert.WgradSqRefIdeal.defs (F := Ideal)) (onTc (τ := Cert.WgradSqRefIdeal.τ) (Cert.WgradSqRefIdeal.main (F := Ideal))) ⟨m, fun _ => 0, g⟩ (fun r => (∀ c : Dev Cert.WgradSqRefIdeal.nD,
      r.2.mem ((c.tc : Thread Cert.WgradSqRefIdeal.nD Cert.WgradSqRefIdeal.τ).loc Cert.WgradSqRefIdeal.main_arg0) = m ((c.tc : Thread Cert.WgradSqRefIdeal.nD Cert.WgradSqRefIdeal.τ).loc Cert.WgradSqRefIdeal.main_arg0)
      ∧ r.2.mem ((c.tc : Thread Cert.WgradSqRefIdeal.nD Cert.WgradSqRefIdeal.τ).loc Cert.WgradSqRefIdeal.main_arg1) = m ((c.tc : Thread Cert.WgradSqRefIdeal.nD Cert.WgradSqRefIdeal.τ).loc Cert.WgradSqRefIdeal.main_arg1))
      ∧ r.2.sem = fun _ => 0)

def quiescent_WgradBa [hWgradBa : Cert.WgradBa.Facts] : Prop :=
  ∀ (m : (ℓ : Loc Cert.WgradBa.nD Cert.WgradBa.τ Cert.WgradBa.sig) → Buf (Elt Bits) ℓ) (g : Dev Cert.WgradBa.nD → PrngReg), Pre_WgradBa m →
    θ_run (Cert.WgradBa.defs (F := Bits)) (onTc (τ := Cert.WgradBa.τ) (Cert.WgradBa.main (F := Bits))) ⟨m, fun _ => 0, g⟩ (fun r => (∀ c : Dev Cert.WgradBa.nD,
      r.2.mem ((c.tc : Thread Cert.WgradBa.nD Cert.WgradBa.τ).loc Cert.WgradBa.main_arg0) = m ((c.tc : Thread Cert.WgradBa.nD Cert.WgradBa.τ).loc Cert.WgradBa.main_arg0)
      ∧ r.2.mem ((c.tc : Thread Cert.WgradBa.nD Cert.WgradBa.τ).loc Cert.WgradBa.main_arg1) = m ((c.tc : Thread Cert.WgradBa.nD Cert.WgradBa.τ).loc Cert.WgradBa.main_arg1))
      ∧ r.2.sem = fun _ => 0)

def quiescent_WgradBaIdeal [hWgradBaIdeal : Cert.WgradBaIdeal.Facts] : Prop :=
  ∀ (m : (ℓ : Loc Cert.WgradBaIdeal.nD Cert.WgradBaIdeal.τ Cert.WgradBaIdeal.sig) → Buf (Elt Ideal) ℓ) (g : Dev Cert.WgradBaIdeal.nD → PrngReg), Pre_WgradBaIdeal m →
    θ_run (Cert.WgradBaIdeal.defs (F := Ideal)) (onTc (τ := Cert.WgradBaIdeal.τ) (Cert.WgradBaIdeal.main (F := Ideal))) ⟨m, fun _ => 0, g⟩ (fun r => (∀ c : Dev Cert.WgradBaIdeal.nD,
      r.2.mem ((c.tc : Thread Cert.WgradBaIdeal.nD Cert.WgradBaIdeal.τ).loc Cert.WgradBaIdeal.main_arg0) = m ((c.tc : Thread Cert.WgradBaIdeal.nD Cert.WgradBaIdeal.τ).loc Cert.WgradBaIdeal.main_arg0)
      ∧ r.2.mem ((c.tc : Thread Cert.WgradBaIdeal.nD Cert.WgradBaIdeal.τ).loc Cert.WgradBaIdeal.main_arg1) = m ((c.tc : Thread Cert.WgradBaIdeal.nD Cert.WgradBaIdeal.τ).loc Cert.WgradBaIdeal.main_arg1))
      ∧ r.2.sem = fun _ => 0)

def quiescent_WgradBaRefIdeal [hWgradBaRefIdeal : Cert.WgradBaRefIdeal.Facts] : Prop :=
  ∀ (m : (ℓ : Loc Cert.WgradBaRefIdeal.nD Cert.WgradBaRefIdeal.τ Cert.WgradBaRefIdeal.sig) → Buf (Elt Ideal) ℓ) (g : Dev Cert.WgradBaRefIdeal.nD → PrngReg), Pre_WgradBaRefIdeal m →
    θ_run (Cert.WgradBaRefIdeal.defs (F := Ideal)) (onTc (τ := Cert.WgradBaRefIdeal.τ) (Cert.WgradBaRefIdeal.main (F := Ideal))) ⟨m, fun _ => 0, g⟩ (fun r => (∀ c : Dev Cert.WgradBaRefIdeal.nD,
      r.2.mem ((c.tc : Thread Cert.WgradBaRefIdeal.nD Cert.WgradBaRefIdeal.τ).loc Cert.WgradBaRefIdeal.main_arg0) = m ((c.tc : Thread Cert.WgradBaRefIdeal.nD Cert.WgradBaRefIdeal.τ).loc Cert.WgradBaRefIdeal.main_arg0)
      ∧ r.2.mem ((c.tc : Thread Cert.WgradBaRefIdeal.nD Cert.WgradBaRefIdeal.τ).loc Cert.WgradBaRefIdeal.main_arg1) = m ((c.tc : Thread Cert.WgradBaRefIdeal.nD Cert.WgradBaRefIdeal.τ).loc Cert.WgradBaRefIdeal.main_arg1))
      ∧ r.2.sem = fun _ => 0)

def quiescent_WgradUp [hWgradUp : Cert.WgradUp.Facts] : Prop :=
  ∀ (m : (ℓ : Loc Cert.WgradUp.nD Cert.WgradUp.τ Cert.WgradUp.sig) → Buf (Elt Bits) ℓ) (g : Dev Cert.WgradUp.nD → PrngReg), Pre_WgradUp m →
    θ_run (Cert.WgradUp.defs (F := Bits)) (onTc (τ := Cert.WgradUp.τ) (Cert.WgradUp.main (F := Bits))) ⟨m, fun _ => 0, g⟩ (fun r => (∀ c : Dev Cert.WgradUp.nD,
      r.2.mem ((c.tc : Thread Cert.WgradUp.nD Cert.WgradUp.τ).loc Cert.WgradUp.main_arg0) = m ((c.tc : Thread Cert.WgradUp.nD Cert.WgradUp.τ).loc Cert.WgradUp.main_arg0)
      ∧ r.2.mem ((c.tc : Thread Cert.WgradUp.nD Cert.WgradUp.τ).loc Cert.WgradUp.main_arg1) = m ((c.tc : Thread Cert.WgradUp.nD Cert.WgradUp.τ).loc Cert.WgradUp.main_arg1))
      ∧ r.2.sem = fun _ => 0)

def quiescent_WgradUpIdeal [hWgradUpIdeal : Cert.WgradUpIdeal.Facts] : Prop :=
  ∀ (m : (ℓ : Loc Cert.WgradUpIdeal.nD Cert.WgradUpIdeal.τ Cert.WgradUpIdeal.sig) → Buf (Elt Ideal) ℓ) (g : Dev Cert.WgradUpIdeal.nD → PrngReg), Pre_WgradUpIdeal m →
    θ_run (Cert.WgradUpIdeal.defs (F := Ideal)) (onTc (τ := Cert.WgradUpIdeal.τ) (Cert.WgradUpIdeal.main (F := Ideal))) ⟨m, fun _ => 0, g⟩ (fun r => (∀ c : Dev Cert.WgradUpIdeal.nD,
      r.2.mem ((c.tc : Thread Cert.WgradUpIdeal.nD Cert.WgradUpIdeal.τ).loc Cert.WgradUpIdeal.main_arg0) = m ((c.tc : Thread Cert.WgradUpIdeal.nD Cert.WgradUpIdeal.τ).loc Cert.WgradUpIdeal.main_arg0)
      ∧ r.2.mem ((c.tc : Thread Cert.WgradUpIdeal.nD Cert.WgradUpIdeal.τ).loc Cert.WgradUpIdeal.main_arg1) = m ((c.tc : Thread Cert.WgradUpIdeal.nD Cert.WgradUpIdeal.τ).loc Cert.WgradUpIdeal.main_arg1))
      ∧ r.2.sem = fun _ => 0)

def quiescent_WgradUpRefIdeal [hWgradUpRefIdeal : Cert.WgradUpRefIdeal.Facts] : Prop :=
  ∀ (m : (ℓ : Loc Cert.WgradUpRefIdeal.nD Cert.WgradUpRefIdeal.τ Cert.WgradUpRefIdeal.sig) → Buf (Elt Ideal) ℓ) (g : Dev Cert.WgradUpRefIdeal.nD → PrngReg), Pre_WgradUpRefIdeal m →
    θ_run (Cert.WgradUpRefIdeal.defs (F := Ideal)) (onTc (τ := Cert.WgradUpRefIdeal.τ) (Cert.WgradUpRefIdeal.main (F := Ideal))) ⟨m, fun _ => 0, g⟩ (fun r => (∀ c : Dev Cert.WgradUpRefIdeal.nD,
      r.2.mem ((c.tc : Thread Cert.WgradUpRefIdeal.nD Cert.WgradUpRefIdeal.τ).loc Cert.WgradUpRefIdeal.main_arg0) = m ((c.tc : Thread Cert.WgradUpRefIdeal.nD Cert.WgradUpRefIdeal.τ).loc Cert.WgradUpRefIdeal.main_arg0)
      ∧ r.2.mem ((c.tc : Thread Cert.WgradUpRefIdeal.nD Cert.WgradUpRefIdeal.τ).loc Cert.WgradUpRefIdeal.main_arg1) = m ((c.tc : Thread Cert.WgradUpRefIdeal.nD Cert.WgradUpRefIdeal.τ).loc Cert.WgradUpRefIdeal.main_arg1))
      ∧ r.2.sem = fun _ => 0)

def quiescent_WgradDown [hWgradDown : Cert.WgradDown.Facts] : Prop :=
  ∀ (m : (ℓ : Loc Cert.WgradDown.nD Cert.WgradDown.τ Cert.WgradDown.sig) → Buf (Elt Bits) ℓ) (g : Dev Cert.WgradDown.nD → PrngReg), Pre_WgradDown m →
    θ_run (Cert.WgradDown.defs (F := Bits)) (onTc (τ := Cert.WgradDown.τ) (Cert.WgradDown.main (F := Bits))) ⟨m, fun _ => 0, g⟩ (fun r => (∀ c : Dev Cert.WgradDown.nD,
      r.2.mem ((c.tc : Thread Cert.WgradDown.nD Cert.WgradDown.τ).loc Cert.WgradDown.main_arg0) = m ((c.tc : Thread Cert.WgradDown.nD Cert.WgradDown.τ).loc Cert.WgradDown.main_arg0)
      ∧ r.2.mem ((c.tc : Thread Cert.WgradDown.nD Cert.WgradDown.τ).loc Cert.WgradDown.main_arg1) = m ((c.tc : Thread Cert.WgradDown.nD Cert.WgradDown.τ).loc Cert.WgradDown.main_arg1))
      ∧ r.2.sem = fun _ => 0)

def quiescent_WgradDownIdeal [hWgradDownIdeal : Cert.WgradDownIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg), Pre_WgradDownIdeal m →
    θ_run (Cert.WgradDownIdeal.defs (F := Ideal)) (onTc (τ := Cert.WgradDownIdeal.τ) (Cert.WgradDownIdeal.main (F := Ideal))) ⟨m, fun _ => 0, g⟩ (fun r => (∀ c : Dev Cert.WgradDownIdeal.nD,
      r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
      ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1))
      ∧ r.2.sem = fun _ => 0)

def quiescent_WgradDownRefIdeal [hWgradDownRefIdeal : Cert.WgradDownRefIdeal.Facts] : Prop :=
  ∀ (m : (ℓ : Loc Cert.WgradDownRefIdeal.nD Cert.WgradDownRefIdeal.τ Cert.WgradDownRefIdeal.sig) → Buf (Elt Ideal) ℓ) (g : Dev Cert.WgradDownRefIdeal.nD → PrngReg), Pre_WgradDownRefIdeal m →
    θ_run (Cert.WgradDownRefIdeal.defs (F := Ideal)) (onTc (τ := Cert.WgradDownRefIdeal.τ) (Cert.WgradDownRefIdeal.main (F := Ideal))) ⟨m, fun _ => 0, g⟩ (fun r => (∀ c : Dev Cert.WgradDownRefIdeal.nD,
      r.2.mem ((c.tc : Thread Cert.WgradDownRefIdeal.nD Cert.WgradDownRefIdeal.τ).loc Cert.WgradDownRefIdeal.main_arg0) = m ((c.tc : Thread Cert.WgradDownRefIdeal.nD Cert.WgradDownRefIdeal.τ).loc Cert.WgradDownRefIdeal.main_arg0)
      ∧ r.2.mem ((c.tc : Thread Cert.WgradDownRefIdeal.nD Cert.WgradDownRefIdeal.τ).loc Cert.WgradDownRefIdeal.main_arg1) = m ((c.tc : Thread Cert.WgradDownRefIdeal.nD Cert.WgradDownRefIdeal.τ).loc Cert.WgradDownRefIdeal.main_arg1))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1))
      ∧ r.2.sem = fun _ => 0)

def quiescent_FwdInRefIdeal [hFwdInRefIdeal : Cert.FwdInRefIdeal.Facts] : Prop :=
  ∀ (m : (ℓ : Loc Cert.FwdInRefIdeal.nD Cert.FwdInRefIdeal.τ Cert.FwdInRefIdeal.sig) → Buf (Elt Ideal) ℓ) (g : Dev Cert.FwdInRefIdeal.nD → PrngReg), Pre_FwdInRefIdeal m →
    θ_run (Cert.FwdInRefIdeal.defs (F := Ideal)) (onTc (τ := Cert.FwdInRefIdeal.τ) (Cert.FwdInRefIdeal.main (F := Ideal))) ⟨m, fun _ => 0, g⟩ (fun r => (∀ c : Dev Cert.FwdInRefIdeal.nD,
      r.2.mem ((c.tc : Thread Cert.FwdInRefIdeal.nD Cert.FwdInRefIdeal.τ).loc Cert.FwdInRefIdeal.main_arg0) = m ((c.tc : Thread Cert.FwdInRefIdeal.nD Cert.FwdInRefIdeal.τ).loc Cert.FwdInRefIdeal.main_arg0)
      ∧ r.2.mem ((c.tc : Thread Cert.FwdInRefIdeal.nD Cert.FwdInRefIdeal.τ).loc Cert.FwdInRefIdeal.main_arg1) = m ((c.tc : Thread Cert.FwdInRefIdeal.nD Cert.FwdInRefIdeal.τ).loc Cert.FwdInRefIdeal.main_arg1))
      ∧ r.2.sem = fun _ => 0)

def quiescent_FwdUp [hFwdUp : Cert.FwdUp.Facts] : Prop :=
  ∀ (m : (ℓ : Loc Cert.FwdUp.nD Cert.FwdUp.τ Cert.FwdUp.sig) → Buf (Elt Bits) ℓ) (g : Dev Cert.FwdUp.nD → PrngReg), Pre_FwdUp m →
    θ_run (Cert.FwdUp.defs (F := Bits)) (onTc (τ := Cert.FwdUp.τ) (Cert.FwdUp.main (F := Bits))) ⟨m, fun _ => 0, g⟩ (fun r => (∀ c : Dev Cert.FwdUp.nD,
      r.2.mem ((c.tc : Thread Cert.FwdUp.nD Cert.FwdUp.τ).loc Cert.FwdUp.main_arg0) = m ((c.tc : Thread Cert.FwdUp.nD Cert.FwdUp.τ).loc Cert.FwdUp.main_arg0)
      ∧ r.2.mem ((c.tc : Thread Cert.FwdUp.nD Cert.FwdUp.τ).loc Cert.FwdUp.main_arg1) = m ((c.tc : Thread Cert.FwdUp.nD Cert.FwdUp.τ).loc Cert.FwdUp.main_arg1))
      ∧ r.2.sem = fun _ => 0)

def quiescent_FwdUpIdeal [hFwdUpIdeal : Cert.FwdUpIdeal.Facts] : Prop :=
  ∀ (m : (ℓ : Loc Cert.FwdUpIdeal.nD Cert.FwdUpIdeal.τ Cert.FwdUpIdeal.sig) → Buf (Elt Ideal) ℓ) (g : Dev Cert.FwdUpIdeal.nD → PrngReg), Pre_FwdUpIdeal m →
    θ_run (Cert.FwdUpIdeal.defs (F := Ideal)) (onTc (τ := Cert.FwdUpIdeal.τ) (Cert.FwdUpIdeal.main (F := Ideal))) ⟨m, fun _ => 0, g⟩ (fun r => (∀ c : Dev Cert.FwdUpIdeal.nD,
      r.2.mem ((c.tc : Thread Cert.FwdUpIdeal.nD Cert.FwdUpIdeal.τ).loc Cert.FwdUpIdeal.main_arg0) = m ((c.tc : Thread Cert.FwdUpIdeal.nD Cert.FwdUpIdeal.τ).loc Cert.FwdUpIdeal.main_arg0)
      ∧ r.2.mem ((c.tc : Thread Cert.FwdUpIdeal.nD Cert.FwdUpIdeal.τ).loc Cert.FwdUpIdeal.main_arg1) = m ((c.tc : Thread Cert.FwdUpIdeal.nD Cert.FwdUpIdeal.τ).loc Cert.FwdUpIdeal.main_arg1))
      ∧ r.2.sem = fun _ => 0)

def quiescent_FwdUpRefIdeal [hFwdUpRefIdeal : Cert.FwdUpRefIdeal.Facts] : Prop :=
  ∀ (m : (ℓ : Loc Cert.FwdUpRefIdeal.nD Cert.FwdUpRefIdeal.τ Cert.FwdUpRefIdeal.sig) → Buf (Elt Ideal) ℓ) (g : Dev Cert.FwdUpRefIdeal.nD → PrngReg), Pre_FwdUpRefIdeal m →
    θ_run (Cert.FwdUpRefIdeal.defs (F := Ideal)) (onTc (τ := Cert.FwdUpRefIdeal.τ) (Cert.FwdUpRefIdeal.main (F := Ideal))) ⟨m, fun _ => 0, g⟩ (fun r => (∀ c : Dev Cert.FwdUpRefIdeal.nD,
      r.2.mem ((c.tc : Thread Cert.FwdUpRefIdeal.nD Cert.FwdUpRefIdeal.τ).loc Cert.FwdUpRefIdeal.main_arg0) = m ((c.tc : Thread Cert.FwdUpRefIdeal.nD Cert.FwdUpRefIdeal.τ).loc Cert.FwdUpRefIdeal.main_arg0)
      ∧ r.2.mem ((c.tc : Thread Cert.FwdUpRefIdeal.nD Cert.FwdUpRefIdeal.τ).loc Cert.FwdUpRefIdeal.main_arg1) = m ((c.tc : Thread Cert.FwdUpRefIdeal.nD Cert.FwdUpRefIdeal.τ).loc Cert.FwdUpRefIdeal.main_arg1))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6)
      ∧ r.2.mem ((c.tc : Thread Cert.MergeBwd.nD Cert.MergeBwd.τ).loc Cert.MergeBwd.main_arg7) = m ((c.tc : Thread Cert.MergeBwd.nD Cert.MergeBwd.τ).loc Cert.MergeBwd.main_arg7)
      ∧ r.2.mem ((c.tc : Thread Cert.MergeBwd.nD Cert.MergeBwd.τ).loc Cert.MergeBwd.main_arg8) = m ((c.tc : Thread Cert.MergeBwd.nD Cert.MergeBwd.τ).loc Cert.MergeBwd.main_arg8)
      ∧ r.2.mem ((c.tc : Thread Cert.MergeBwd.nD Cert.MergeBwd.τ).loc Cert.MergeBwd.main_arg9) = m ((c.tc : Thread Cert.MergeBwd.nD Cert.MergeBwd.τ).loc Cert.MergeBwd.main_arg9)
      ∧ r.2.mem ((c.tc : Thread Cert.MergeBwd.nD Cert.MergeBwd.τ).loc Cert.MergeBwd.main_arg10) = m ((c.tc : Thread Cert.MergeBwd.nD Cert.MergeBwd.τ).loc Cert.MergeBwd.main_arg10)
      ∧ r.2.mem ((c.tc : Thread Cert.MergeBwd.nD Cert.MergeBwd.τ).loc Cert.MergeBwd.main_arg11) = m ((c.tc : Thread Cert.MergeBwd.nD Cert.MergeBwd.τ).loc Cert.MergeBwd.main_arg11)
      ∧ r.2.mem ((c.tc : Thread Cert.MergeBwd.nD Cert.MergeBwd.τ).loc Cert.MergeBwd.main_arg12) = m ((c.tc : Thread Cert.MergeBwd.nD Cert.MergeBwd.τ).loc Cert.MergeBwd.main_arg12)
      ∧ r.2.mem ((c.tc : Thread Cert.MergeBwd.nD Cert.MergeBwd.τ).loc Cert.MergeBwd.main_arg13) = m ((c.tc : Thread Cert.MergeBwd.nD Cert.MergeBwd.τ).loc Cert.MergeBwd.main_arg13)
      ∧ r.2.mem ((c.tc : Thread Cert.MergeBwd.nD Cert.MergeBwd.τ).loc Cert.MergeBwd.main_arg14) = m ((c.tc : Thread Cert.MergeBwd.nD Cert.MergeBwd.τ).loc Cert.MergeBwd.main_arg14))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
      ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7)
      ∧ r.2.mem ((c.tc : Thread Cert.MergeBwdIdeal.nD Cert.MergeBwdIdeal.τ).loc Cert.MergeBwdIdeal.main_arg8) = m ((c.tc : Thread Cert.MergeBwdIdeal.nD Cert.MergeBwdIdeal.τ).loc Cert.MergeBwdIdeal.main_arg8)
      ∧ r.2.mem ((c.tc : Thread Cert.MergeBwdIdeal.nD Cert.MergeBwdIdeal.τ).loc Cert.MergeBwdIdeal.main_arg9) = m ((c.tc : Thread Cert.MergeBwdIdeal.nD Cert.MergeBwdIdeal.τ).loc Cert.MergeBwdIdeal.main_arg9)
      ∧ r.2.mem ((c.tc : Thread Cert.MergeBwdIdeal.nD Cert.MergeBwdIdeal.τ).loc Cert.MergeBwdIdeal.main_arg10) = m ((c.tc : Thread Cert.MergeBwdIdeal.nD Cert.MergeBwdIdeal.τ).loc Cert.MergeBwdIdeal.main_arg10)
      ∧ r.2.mem ((c.tc : Thread Cert.MergeBwdIdeal.nD Cert.MergeBwdIdeal.τ).loc Cert.MergeBwdIdeal.main_arg11) = m ((c.tc : Thread Cert.MergeBwdIdeal.nD Cert.MergeBwdIdeal.τ).loc Cert.MergeBwdIdeal.main_arg11)
      ∧ r.2.mem ((c.tc : Thread Cert.MergeBwdIdeal.nD Cert.MergeBwdIdeal.τ).loc Cert.MergeBwdIdeal.main_arg12) = m ((c.tc : Thread Cert.MergeBwdIdeal.nD Cert.MergeBwdIdeal.τ).loc Cert.MergeBwdIdeal.main_arg12)
      ∧ r.2.mem ((c.tc : Thread Cert.MergeBwdIdeal.nD Cert.MergeBwdIdeal.τ).loc Cert.MergeBwdIdeal.main_arg13) = m ((c.tc : Thread Cert.MergeBwdIdeal.nD Cert.MergeBwdIdeal.τ).loc Cert.MergeBwdIdeal.main_arg13)
      ∧ r.2.mem ((c.tc : Thread Cert.MergeBwdIdeal.nD Cert.MergeBwdIdeal.τ).loc Cert.MergeBwdIdeal.main_arg14) = m ((c.tc : Thread Cert.MergeBwdIdeal.nD Cert.MergeBwdIdeal.τ).loc Cert.MergeBwdIdeal.main_arg14))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6)
      ∧ r.2.mem ((c.tc : Thread Cert.MergeBwdRefIdeal.nD Cert.MergeBwdRefIdeal.τ).loc Cert.MergeBwdRefIdeal.main_arg7) = m ((c.tc : Thread Cert.MergeBwdRefIdeal.nD Cert.MergeBwdRefIdeal.τ).loc Cert.MergeBwdRefIdeal.main_arg7)
      ∧ r.2.mem ((c.tc : Thread Cert.MergeBwdRefIdeal.nD Cert.MergeBwdRefIdeal.τ).loc Cert.MergeBwdRefIdeal.main_arg8) = m ((c.tc : Thread Cert.MergeBwdRefIdeal.nD Cert.MergeBwdRefIdeal.τ).loc Cert.MergeBwdRefIdeal.main_arg8)
      ∧ r.2.mem ((c.tc : Thread Cert.MergeBwdRefIdeal.nD Cert.MergeBwdRefIdeal.τ).loc Cert.MergeBwdRefIdeal.main_arg9) = m ((c.tc : Thread Cert.MergeBwdRefIdeal.nD Cert.MergeBwdRefIdeal.τ).loc Cert.MergeBwdRefIdeal.main_arg9)
      ∧ r.2.mem ((c.tc : Thread Cert.MergeBwdRefIdeal.nD Cert.MergeBwdRefIdeal.τ).loc Cert.MergeBwdRefIdeal.main_arg10) = m ((c.tc : Thread Cert.MergeBwdRefIdeal.nD Cert.MergeBwdRefIdeal.τ).loc Cert.MergeBwdRefIdeal.main_arg10)
      ∧ r.2.mem ((c.tc : Thread Cert.MergeBwdRefIdeal.nD Cert.MergeBwdRefIdeal.τ).loc Cert.MergeBwdRefIdeal.main_arg11) = m ((c.tc : Thread Cert.MergeBwdRefIdeal.nD Cert.MergeBwdRefIdeal.τ).loc Cert.MergeBwdRefIdeal.main_arg11)
      ∧ r.2.mem ((c.tc : Thread Cert.MergeBwdRefIdeal.nD Cert.MergeBwdRefIdeal.τ).loc Cert.MergeBwdRefIdeal.main_arg12) = m ((c.tc : Thread Cert.MergeBwdRefIdeal.nD Cert.MergeBwdRefIdeal.τ).loc Cert.MergeBwdRefIdeal.main_arg12)
      ∧ r.2.mem ((c.tc : Thread Cert.MergeBwdRefIdeal.nD Cert.MergeBwdRefIdeal.τ).loc Cert.MergeBwdRefIdeal.main_arg13) = m ((c.tc : Thread Cert.MergeBwdRefIdeal.nD Cert.MergeBwdRefIdeal.τ).loc Cert.MergeBwdRefIdeal.main_arg13)
      ∧ r.2.mem ((c.tc : Thread Cert.MergeBwdRefIdeal.nD Cert.MergeBwdRefIdeal.τ).loc Cert.MergeBwdRefIdeal.main_arg14) = m ((c.tc : Thread Cert.MergeBwdRefIdeal.nD Cert.MergeBwdRefIdeal.τ).loc Cert.MergeBwdRefIdeal.main_arg14))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSq [hAdamSq : Cert.AdamSq.Facts] : Prop :=
  ∀ (m : (ℓ : Loc Cert.AdamSq.nD Cert.AdamSq.τ Cert.AdamSq.sig) → Buf (Elt Bits) ℓ) (g : Dev Cert.AdamSq.nD → PrngReg), Pre_AdamSq m →
    θ_run (Cert.AdamSq.defs (F := Bits)) (onTc (τ := Cert.AdamSq.τ) (Cert.AdamSq.main (F := Bits))) ⟨m, fun _ => 0, g⟩ (fun r => (∀ c : Dev Cert.AdamSq.nD,
      r.2.mem ((c.tc : Thread Cert.AdamSq.nD Cert.AdamSq.τ).loc Cert.AdamSq.main_arg0) = m ((c.tc : Thread Cert.AdamSq.nD Cert.AdamSq.τ).loc Cert.AdamSq.main_arg0)
      ∧ r.2.mem ((c.tc : Thread Cert.AdamSq.nD Cert.AdamSq.τ).loc Cert.AdamSq.main_arg1) = m ((c.tc : Thread Cert.AdamSq.nD Cert.AdamSq.τ).loc Cert.AdamSq.main_arg1)
      ∧ r.2.mem ((c.tc : Thread Cert.AdamSq.nD Cert.AdamSq.τ).loc Cert.AdamSq.main_arg2) = m ((c.tc : Thread Cert.AdamSq.nD Cert.AdamSq.τ).loc Cert.AdamSq.main_arg2)
      ∧ r.2.mem ((c.tc : Thread Cert.AdamSq.nD Cert.AdamSq.τ).loc Cert.AdamSq.main_arg3) = m ((c.tc : Thread Cert.AdamSq.nD Cert.AdamSq.τ).loc Cert.AdamSq.main_arg3))
      ∧ r.2.sem = fun _ => 0)

def quiescent_AdamSqIdeal [hAdamSqIdeal : Cert.AdamSqIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg), Pre_AdamSqIdeal m →
    θ_run (Cert.AdamSqIdeal.defs (F := Ideal)) (onTc (τ := Cert.AdamSqIdeal.τ) (Cert.AdamSqIdeal.main (F := Ideal))) ⟨m, fun _ => 0, g⟩ (fun r => (∀ c : Dev Cert.AdamSqIdeal.nD,
      r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
      ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
      ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
      ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3))
      ∧ r.2.sem = fun _ => 0)

def quiescent_AdamSqRefIdeal [hAdamSqRefIdeal : Cert.AdamSqRefIdeal.Facts] : Prop :=
  ∀ (m : (ℓ : Loc Cert.AdamSqRefIdeal.nD Cert.AdamSqRefIdeal.τ Cert.AdamSqRefIdeal.sig) → Buf (Elt Ideal) ℓ) (g : Dev Cert.AdamSqRefIdeal.nD → PrngReg), Pre_AdamSqRefIdeal m →
    θ_run (Cert.AdamSqRefIdeal.defs (F := Ideal)) (onTc (τ := Cert.AdamSqRefIdeal.τ) (Cert.AdamSqRefIdeal.main (F := Ideal))) ⟨m, fun _ => 0, g⟩ (fun r => (∀ c : Dev Cert.AdamSqRefIdeal.nD,
      r.2.mem ((c.tc : Thread Cert.AdamSqRefIdeal.nD Cert.AdamSqRefIdeal.τ).loc Cert.AdamSqRefIdeal.main_arg0) = m ((c.tc : Thread Cert.AdamSqRefIdeal.nD Cert.AdamSqRefIdeal.τ).loc Cert.AdamSqRefIdeal.main_arg0)
      ∧ r.2.mem ((c.tc : Thread Cert.AdamSqRefIdeal.nD Cert.AdamSqRefIdeal.τ).loc Cert.AdamSqRefIdeal.main_arg1) = m ((c.tc : Thread Cert.AdamSqRefIdeal.nD Cert.AdamSqRefIdeal.τ).loc Cert.AdamSqRefIdeal.main_arg1)
      ∧ r.2.mem ((c.tc : Thread Cert.AdamSqRefIdeal.nD Cert.AdamSqRefIdeal.τ).loc Cert.AdamSqRefIdeal.main_arg2) = m ((c.tc : Thread Cert.AdamSqRefIdeal.nD Cert.AdamSqRefIdeal.τ).loc Cert.AdamSqRefIdeal.main_arg2)
      ∧ r.2.mem ((c.tc : Thread Cert.AdamSqRefIdeal.nD Cert.AdamSqRefIdeal.τ).loc Cert.AdamSqRefIdeal.main_arg3) = m ((c.tc : Thread Cert.AdamSqRefIdeal.nD Cert.AdamSqRefIdeal.τ).loc Cert.AdamSqRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_ModBwd [hModBwd : Cert.ModBwd.Facts] : Prop :=
  ∀ (m : (ℓ : Loc Cert.ModBwd.nD Cert.ModBwd.τ Cert.ModBwd.sig) → Buf (Elt Bits) ℓ) (g : Dev Cert.ModBwd.nD → PrngReg), Pre_ModBwd m →
    θ_run (Cert.ModBwd.defs (F := Bits)) (onTc (τ := Cert.ModBwd.τ) (Cert.ModBwd.main (F := Bits))) ⟨m, fun _ => 0, g⟩ (fun r => (∀ c : Dev Cert.ModBwd.nD,
      r.2.mem ((c.tc : Thread Cert.ModBwd.nD Cert.ModBwd.τ).loc Cert.ModBwd.main_arg0) = m ((c.tc : Thread Cert.ModBwd.nD Cert.ModBwd.τ).loc Cert.ModBwd.main_arg0)
      ∧ r.2.mem ((c.tc : Thread Cert.ModBwd.nD Cert.ModBwd.τ).loc Cert.ModBwd.main_arg1) = m ((c.tc : Thread Cert.ModBwd.nD Cert.ModBwd.τ).loc Cert.ModBwd.main_arg1)
      ∧ r.2.mem ((c.tc : Thread Cert.ModBwd.nD Cert.ModBwd.τ).loc Cert.ModBwd.main_arg2) = m ((c.tc : Thread Cert.ModBwd.nD Cert.ModBwd.τ).loc Cert.ModBwd.main_arg2)
      ∧ r.2.mem ((c.tc : Thread Cert.ModBwd.nD Cert.ModBwd.τ).loc Cert.ModBwd.main_arg3) = m ((c.tc : Thread Cert.ModBwd.nD Cert.ModBwd.τ).loc Cert.ModBwd.main_arg3))
      ∧ r.2.sem = fun _ => 0)

def quiescent_ModBwdIdeal [hModBwdIdeal : Cert.ModBwdIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg), Pre_ModBwdIdeal m →
    θ_run (Cert.ModBwdIdeal.defs (F := Ideal)) (onTc (τ := Cert.ModBwdIdeal.τ) (Cert.ModBwdIdeal.main (F := Ideal))) ⟨m, fun _ => 0, g⟩ (fun r => (∀ c : Dev Cert.ModBwdIdeal.nD,
      r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
      ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
      ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2)
      ∧ r.2.mem ((c.tc : Thread Cert.ModBwdIdeal.nD Cert.ModBwdIdeal.τ).loc Cert.ModBwdIdeal.main_arg3) = m ((c.tc : Thread Cert.ModBwdIdeal.nD Cert.ModBwdIdeal.τ).loc Cert.ModBwdIdeal.main_arg3))
      ∧ r.2.sem = fun _ => 0)

def quiescent_ModBwdRefIdeal [hModBwdRefIdeal : Cert.ModBwdRefIdeal.Facts] : Prop :=
  ∀ (m : (ℓ : Loc Cert.ModBwdRefIdeal.nD Cert.ModBwdRefIdeal.τ Cert.ModBwdRefIdeal.sig) → Buf (Elt Ideal) ℓ) (g : Dev Cert.ModBwdRefIdeal.nD → PrngReg), Pre_ModBwdRefIdeal m →
    θ_run (Cert.ModBwdRefIdeal.defs (F := Ideal)) (onTc (τ := Cert.ModBwdRefIdeal.τ) (Cert.ModBwdRefIdeal.main (F := Ideal))) ⟨m, fun _ => 0, g⟩ (fun r => (∀ c : Dev Cert.ModBwdRefIdeal.nD,
      r.2.mem ((c.tc : Thread Cert.ModBwdRefIdeal.nD Cert.ModBwdRefIdeal.τ).loc Cert.ModBwdRefIdeal.main_arg0) = m ((c.tc : Thread Cert.ModBwdRefIdeal.nD Cert.ModBwdRefIdeal.τ).loc Cert.ModBwdRefIdeal.main_arg0)
      ∧ r.2.mem ((c.tc : Thread Cert.ModBwdRefIdeal.nD Cert.ModBwdRefIdeal.τ).loc Cert.ModBwdRefIdeal.main_arg1) = m ((c.tc : Thread Cert.ModBwdRefIdeal.nD Cert.ModBwdRefIdeal.τ).loc Cert.ModBwdRefIdeal.main_arg1)
      ∧ r.2.mem ((c.tc : Thread Cert.ModBwdRefIdeal.nD Cert.ModBwdRefIdeal.τ).loc Cert.ModBwdRefIdeal.main_arg2) = m ((c.tc : Thread Cert.ModBwdRefIdeal.nD Cert.ModBwdRefIdeal.τ).loc Cert.ModBwdRefIdeal.main_arg2)
      ∧ r.2.mem ((c.tc : Thread Cert.ModBwdRefIdeal.nD Cert.ModBwdRefIdeal.τ).loc Cert.ModBwdRefIdeal.main_arg3) = m ((c.tc : Thread Cert.ModBwdRefIdeal.nD Cert.ModBwdRefIdeal.τ).loc Cert.ModBwdRefIdeal.main_arg3))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_AdaGrad [hAdaGrad : Cert.AdaGrad.Facts] : Prop :=
  ∀ (m : (ℓ : Loc Cert.AdaGrad.nD Cert.AdaGrad.τ Cert.AdaGrad.sig) → Buf (Elt Bits) ℓ) (g : Dev Cert.AdaGrad.nD → PrngReg), Pre_AdaGrad m →
    θ_run (Cert.AdaGrad.defs (F := Bits)) (onTc (τ := Cert.AdaGrad.τ) (Cert.AdaGrad.main (F := Bits))) ⟨m, fun _ => 0, g⟩ (fun r => (∀ c : Dev Cert.AdaGrad.nD,
      r.2.mem ((c.tc : Thread Cert.AdaGrad.nD Cert.AdaGrad.τ).loc Cert.AdaGrad.main_arg0) = m ((c.tc : Thread Cert.AdaGrad.nD Cert.AdaGrad.τ).loc Cert.AdaGrad.main_arg0)
      ∧ r.2.mem ((c.tc : Thread Cert.AdaGrad.nD Cert.AdaGrad.τ).loc Cert.AdaGrad.main_arg1) = m ((c.tc : Thread Cert.AdaGrad.nD Cert.AdaGrad.τ).loc Cert.AdaGrad.main_arg1))
      ∧ r.2.sem = fun _ => 0)

def quiescent_AdaGradIdeal [hAdaGradIdeal : Cert.AdaGradIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg), Pre_AdaGradIdeal m →
    θ_run (Cert.AdaGradIdeal.defs (F := Ideal)) (onTc (τ := Cert.AdaGradIdeal.τ) (Cert.AdaGradIdeal.main (F := Ideal))) ⟨m, fun _ => 0, g⟩ (fun r => (∀ c : Dev Cert.AdaGradIdeal.nD,
      r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
      ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ r.2.sem = fun _ => 0)

def quiescent_AdaGradRefIdeal [hAdaGradRefIdeal : Cert.AdaGradRefIdeal.Facts] : Prop :=
  ∀ (m : (ℓ : Loc Cert.AdaGradRefIdeal.nD Cert.AdaGradRefIdeal.τ Cert.AdaGradRefIdeal.sig) → Buf (Elt Ideal) ℓ) (g : Dev Cert.AdaGradRefIdeal.nD → PrngReg), Pre_AdaGradRefIdeal m →
    θ_run (Cert.AdaGradRefIdeal.defs (F := Ideal)) (onTc (τ := Cert.AdaGradRefIdeal.τ) (Cert.AdaGradRefIdeal.main (F := Ideal))) ⟨m, fun _ => 0, g⟩ (fun r => (∀ c : Dev Cert.AdaGradRefIdeal.nD,
      r.2.mem ((c.tc : Thread Cert.AdaGradRefIdeal.nD Cert.AdaGradRefIdeal.τ).loc Cert.AdaGradRefIdeal.main_arg0) = m ((c.tc : Thread Cert.AdaGradRefIdeal.nD Cert.AdaGradRefIdeal.τ).loc Cert.AdaGradRefIdeal.main_arg0)
      ∧ r.2.mem ((c.tc : Thread Cert.AdaGradRefIdeal.nD Cert.AdaGradRefIdeal.τ).loc Cert.AdaGradRefIdeal.main_arg1) = m ((c.tc : Thread Cert.AdaGradRefIdeal.nD Cert.AdaGradRefIdeal.τ).loc Cert.AdaGradRefIdeal.main_arg1))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6)
      ∧ r.2.mem ((c.tc : Thread Cert.ScanRefIdeal.nD Cert.ScanRefIdeal.τ).loc Cert.ScanRefIdeal.main_arg7) = m ((c.tc : Thread Cert.ScanRefIdeal.nD Cert.ScanRefIdeal.τ).loc Cert.ScanRefIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_v26_17) = v4 c
          ∧ r.2.mem ((c.tc : Thread Cert.ReferenceIdeal.nD Cert.ReferenceIdeal.τ).loc Cert.ReferenceIdeal.main_v26_18) = v5 c
          ∧ r.2.mem ((c.tc : Thread Cert.ReferenceIdeal.nD Cert.ReferenceIdeal.τ).loc Cert.ReferenceIdeal.main_v39) = v6 c
          ∧ r.2.mem ((c.tc : Thread Cert.ReferenceIdeal.nD Cert.ReferenceIdeal.τ).loc Cert.ReferenceIdeal.main_v26_12) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_DgradUp_DgradUpIdeal : Prop :=
  True

def algebraic_DgradUpIdeal_DgradUpRefIdeal [hDgradUpIdeal : Cert.DgradUpIdeal.Facts] [hDgradUpRefIdeal : Cert.DgradUpRefIdeal.Facts] : Prop :=
  ∀ (m : (ℓ : Loc Cert.DgradUpIdeal.nD Cert.DgradUpIdeal.τ Cert.DgradUpIdeal.sig) → Buf (Elt Ideal) ℓ) (g : Dev Cert.DgradUpIdeal.nD → PrngReg)
    (m' : (ℓ : Loc Cert.DgradUpRefIdeal.nD Cert.DgradUpRefIdeal.τ Cert.DgradUpRefIdeal.sig) → Buf (Elt Ideal) ℓ) (g' : Dev Cert.DgradUpRefIdeal.nD → PrngReg), Pre_DgradUpIdeal m →
    (∀ c : Dev Cert.DgradUpIdeal.nD,
      m' ((c.tc : Thread Cert.DgradUpRefIdeal.nD Cert.DgradUpRefIdeal.τ).loc Cert.DgradUpRefIdeal.main_arg0) = m ((c.tc : Thread Cert.DgradUpIdeal.nD Cert.DgradUpIdeal.τ).loc Cert.DgradUpIdeal.main_arg0)
      ∧ m' ((c.tc : Thread Cert.DgradUpRefIdeal.nD Cert.DgradUpRefIdeal.τ).loc Cert.DgradUpRefIdeal.main_arg1) = m ((c.tc : Thread Cert.DgradUpIdeal.nD Cert.DgradUpIdeal.τ).loc Cert.DgradUpIdeal.main_arg1)
      ∧ m' ((c.tc : Thread Cert.DgradUpRefIdeal.nD Cert.DgradUpRefIdeal.τ).loc Cert.DgradUpRefIdeal.main_arg2) = m ((c.tc : Thread Cert.DgradUpIdeal.nD Cert.DgradUpIdeal.τ).loc Cert.DgradUpIdeal.main_arg2)
      ∧ m' ((c.tc : Thread Cert.DgradUpRefIdeal.nD Cert.DgradUpRefIdeal.τ).loc Cert.DgradUpRefIdeal.main_arg3) = m ((c.tc : Thread Cert.DgradUpIdeal.nD Cert.DgradUpIdeal.τ).loc Cert.DgradUpIdeal.main_arg3)
      ∧ m' ((c.tc : Thread Cert.DgradUpRefIdeal.nD Cert.DgradUpRefIdeal.τ).loc Cert.DgradUpRefIdeal.main_arg4) = m ((c.tc : Thread Cert.DgradUpIdeal.nD Cert.DgradUpIdeal.τ).loc Cert.DgradUpIdeal.main_arg4)) →
    ∃ (v0 : (c : Dev Cert.DgradUpIdeal.nD) → Buf (Elt Ideal) ((c.tc : Thread Cert.DgradUpIdeal.nD Cert.DgradUpIdeal.τ).loc Cert.DgradUpIdeal.main_v0_0)) (v1 : (c : Dev Cert.DgradUpIdeal.nD) → Buf (Elt Ideal) ((c.tc : Thread Cert.DgradUpIdeal.nD Cert.DgradUpIdeal.τ).loc Cert.DgradUpIdeal.main_v0_1)) (v2 : (c : Dev Cert.DgradUpIdeal.nD) → Buf (Elt Ideal) ((c.tc : Thread Cert.DgradUpIdeal.nD Cert.DgradUpIdeal.τ).loc Cert.DgradUpIdeal.main_v0_2)),
      θ_run (Cert.DgradUpIdeal.defs (F := Ideal)) (onTc (τ := Cert.DgradUpIdeal.τ) (Cert.DgradUpIdeal.main (F := Ideal))) ⟨m, fun _ => 0, g⟩ (fun r => ∀ c : Dev Cert.DgradUpIdeal.nD,
          r.2.mem ((c.tc : Thread Cert.DgradUpIdeal.nD Cert.DgradUpIdeal.τ).loc Cert.DgradUpIdeal.main_v0_0) = v0 c
          ∧ r.2.mem ((c.tc : Thread Cert.DgradUpIdeal.nD Cert.DgradUpIdeal.τ).loc Cert.DgradUpIdeal.main_v0_1) = v1 c
          ∧ r.2.mem ((c.tc : Thread Cert.DgradUpIdeal.nD Cert.DgradUpIdeal.τ).loc Cert.DgradUpIdeal.main_v0_2) = v2 c
          ∧ r.2.mem ((c.tc : Thread Cert.DgradUpIdeal.nD Cert.DgradUpIdeal.τ).loc Cert.DgradUpIdeal.main_arg0) = m ((c.tc : Thread Cert.DgradUpIdeal.nD Cert.DgradUpIdeal.τ).loc Cert.DgradUpIdeal.main_arg0)
          ∧ r.2.mem ((c.tc : Thread Cert.DgradUpIdeal.nD Cert.DgradUpIdeal.τ).loc Cert.DgradUpIdeal.main_arg1) = m ((c.tc : Thread Cert.DgradUpIdeal.nD Cert.DgradUpIdeal.τ).loc Cert.DgradUpIdeal.main_arg1)
          ∧ r.2.mem ((c.tc : Thread Cert.DgradUpIdeal.nD Cert.DgradUpIdeal.τ).loc Cert.DgradUpIdeal.main_arg2) = m ((c.tc : Thread Cert.DgradUpIdeal.nD Cert.DgradUpIdeal.τ).loc Cert.DgradUpIdeal.main_arg2)
          ∧ r.2.mem ((c.tc : Thread Cert.DgradUpIdeal.nD Cert.DgradUpIdeal.τ).loc Cert.DgradUpIdeal.main_arg3) = m ((c.tc : Thread Cert.DgradUpIdeal.nD Cert.DgradUpIdeal.τ).loc Cert.DgradUpIdeal.main_arg3)
          ∧ r.2.mem ((c.tc : Thread Cert.DgradUpIdeal.nD Cert.DgradUpIdeal.τ).loc Cert.DgradUpIdeal.main_arg4) = m ((c.tc : Thread Cert.DgradUpIdeal.nD Cert.DgradUpIdeal.τ).loc Cert.DgradUpIdeal.main_arg4))
      ∧ θ_run (Cert.DgradUpRefIdeal.defs (F := Ideal)) (onTc (τ := Cert.DgradUpRefIdeal.τ) (Cert.DgradUpRefIdeal.main (F := Ideal))) ⟨m', fun _ => 0, g'⟩ (fun r => ∀ c : Dev Cert.DgradUpRefIdeal.nD,
          r.2.mem ((c.tc : Thread Cert.DgradUpRefIdeal.nD Cert.DgradUpRefIdeal.τ).loc Cert.DgradUpRefIdeal.main_v18) = v0 c
          ∧ r.2.mem ((c.tc : Thread Cert.DgradUpRefIdeal.nD Cert.DgradUpRefIdeal.τ).loc Cert.DgradUpRefIdeal.main_v15) = v1 c
          ∧ r.2.mem ((c.tc : Thread Cert.DgradUpRefIdeal.nD Cert.DgradUpRefIdeal.τ).loc Cert.DgradUpRefIdeal.main_v12) = v2 c
          ∧ r.2.mem ((c.tc : Thread Cert.DgradUpRefIdeal.nD Cert.DgradUpRefIdeal.τ).loc Cert.DgradUpRefIdeal.main_arg0) = m' ((c.tc : Thread Cert.DgradUpRefIdeal.nD Cert.DgradUpRefIdeal.τ).loc Cert.DgradUpRefIdeal.main_arg0)
          ∧ r.2.mem ((c.tc : Thread Cert.DgradUpRefIdeal.nD Cert.DgradUpRefIdeal.τ).loc Cert.DgradUpRefIdeal.main_arg1) = m' ((c.tc : Thread Cert.DgradUpRefIdeal.nD Cert.DgradUpRefIdeal.τ).loc Cert.DgradUpRefIdeal.main_arg1)
          ∧ r.2.mem ((c.tc : Thread Cert.DgradUpRefIdeal.nD Cert.DgradUpRefIdeal.τ).loc Cert.DgradUpRefIdeal.main_arg2) = m' ((c.tc : Thread Cert.DgradUpRefIdeal.nD Cert.DgradUpRefIdeal.τ).loc Cert.DgradUpRefIdeal.main_arg2)
          ∧ r.2.mem ((c.tc : Thread Cert.DgradUpRefIdeal.nD Cert.DgradUpRefIdeal.τ).loc Cert.DgradUpRefIdeal.main_arg3) = m' ((c.tc : Thread Cert.DgradUpRefIdeal.nD Cert.DgradUpRefIdeal.τ).loc Cert.DgradUpRefIdeal.main_arg3)
          ∧ r.2.mem ((c.tc : Thread Cert.DgradUpRefIdeal.nD Cert.DgradUpRefIdeal.τ).loc Cert.DgradUpRefIdeal.main_arg4) = m' ((c.tc : Thread Cert.DgradUpRefIdeal.nD Cert.DgradUpRefIdeal.τ).loc Cert.DgradUpRefIdeal.main_arg4))

def preserves_DgradIn_DgradInIdeal : Prop :=
  True

def algebraic_DgradInIdeal_DgradInRefIdeal [hDgradInIdeal : Cert.DgradInIdeal.Facts] [hDgradInRefIdeal : Cert.DgradInRefIdeal.Facts] : Prop :=
  ∀ (m : (ℓ : Loc Cert.DgradInIdeal.nD Cert.DgradInIdeal.τ Cert.DgradInIdeal.sig) → Buf (Elt Ideal) ℓ) (g : Dev Cert.DgradInIdeal.nD → PrngReg)
    (m' : (ℓ : Loc Cert.DgradInRefIdeal.nD Cert.DgradInRefIdeal.τ Cert.DgradInRefIdeal.sig) → Buf (Elt Ideal) ℓ) (g' : Dev Cert.DgradInRefIdeal.nD → PrngReg), Pre_DgradInIdeal m →
    (∀ c : Dev Cert.DgradInIdeal.nD,
      m' ((c.tc : Thread Cert.DgradInRefIdeal.nD Cert.DgradInRefIdeal.τ).loc Cert.DgradInRefIdeal.main_arg0) = m ((c.tc : Thread Cert.DgradInIdeal.nD Cert.DgradInIdeal.τ).loc Cert.DgradInIdeal.main_arg0)
      ∧ m' ((c.tc : Thread Cert.DgradInRefIdeal.nD Cert.DgradInRefIdeal.τ).loc Cert.DgradInRefIdeal.main_arg1) = m ((c.tc : Thread Cert.DgradInIdeal.nD Cert.DgradInIdeal.τ).loc Cert.DgradInIdeal.main_arg1)
      ∧ m' ((c.tc : Thread Cert.DgradInRefIdeal.nD Cert.DgradInRefIdeal.τ).loc Cert.DgradInRefIdeal.main_arg2) = m ((c.tc : Thread Cert.DgradInIdeal.nD Cert.DgradInIdeal.τ).loc Cert.DgradInIdeal.main_arg2)
      ∧ m' ((c.tc : Thread Cert.DgradInRefIdeal.nD Cert.DgradInRefIdeal.τ).loc Cert.DgradInRefIdeal.main_arg3) = m ((c.tc : Thread Cert.DgradInIdeal.nD Cert.DgradInIdeal.τ).loc Cert.DgradInIdeal.main_arg3)
      ∧ m' ((c.tc : Thread Cert.DgradInRefIdeal.nD Cert.DgradInRefIdeal.τ).loc Cert.DgradInRefIdeal.main_arg4) = m ((c.tc : Thread Cert.DgradInIdeal.nD Cert.DgradInIdeal.τ).loc Cert.DgradInIdeal.main_arg4)
      ∧ m' ((c.tc : Thread Cert.DgradInRefIdeal.nD Cert.DgradInRefIdeal.τ).loc Cert.DgradInRefIdeal.main_arg5) = m ((c.tc : Thread Cert.DgradInIdeal.nD Cert.DgradInIdeal.τ).loc Cert.DgradInIdeal.main_arg5)
      ∧ m' ((c.tc : Thread Cert.DgradInRefIdeal.nD Cert.DgradInRefIdeal.τ).loc Cert.DgradInRefIdeal.main_arg6) = m ((c.tc : Thread Cert.DgradInIdeal.nD Cert.DgradInIdeal.τ).loc Cert.DgradInIdeal.main_arg6)
      ∧ m' ((c.tc : Thread Cert.DgradInRefIdeal.nD Cert.DgradInRefIdeal.τ).loc Cert.DgradInRefIdeal.main_arg7) = m ((c.tc : Thread Cert.DgradInIdeal.nD Cert.DgradInIdeal.τ).loc Cert.DgradInIdeal.main_arg7)
      ∧ m' ((c.tc : Thread Cert.DgradInRefIdeal.nD Cert.DgradInRefIdeal.τ).loc Cert.DgradInRefIdeal.main_arg8) = m ((c.tc : Thread Cert.DgradInIdeal.nD Cert.DgradInIdeal.τ).loc Cert.DgradInIdeal.main_arg8)) →
    ∃ (v0 : (c : Dev Cert.DgradInIdeal.nD) → Buf (Elt Ideal) ((c.tc : Thread Cert.DgradInIdeal.nD Cert.DgradInIdeal.τ).loc Cert.DgradInIdeal.main_v0)),
      θ_run (Cert.DgradInIdeal.defs (F := Ideal)) (onTc (τ := Cert.DgradInIdeal.τ) (Cert.DgradInIdeal.main (F := Ideal))) ⟨m, fun _ => 0, g⟩ (fun r => ∀ c : Dev Cert.DgradInIdeal.nD,
          r.2.mem ((c.tc : Thread Cert.DgradInIdeal.nD Cert.DgradInIdeal.τ).loc Cert.DgradInIdeal.main_v0) = v0 c
          ∧ r.2.mem ((c.tc : Thread Cert.DgradInIdeal.nD Cert.DgradInIdeal.τ).loc Cert.DgradInIdeal.main_arg0) = m ((c.tc : Thread Cert.DgradInIdeal.nD Cert.DgradInIdeal.τ).loc Cert.DgradInIdeal.main_arg0)
          ∧ r.2.mem ((c.tc : Thread Cert.DgradInIdeal.nD Cert.DgradInIdeal.τ).loc Cert.DgradInIdeal.main_arg1) = m ((c.tc : Thread Cert.DgradInIdeal.nD Cert.DgradInIdeal.τ).loc Cert.DgradInIdeal.main_arg1)
          ∧ r.2.mem ((c.tc : Thread Cert.DgradInIdeal.nD Cert.DgradInIdeal.τ).loc Cert.DgradInIdeal.main_arg2) = m ((c.tc : Thread Cert.DgradInIdeal.nD Cert.DgradInIdeal.τ).loc Cert.DgradInIdeal.main_arg2)
          ∧ r.2.mem ((c.tc : Thread Cert.DgradInIdeal.nD Cert.DgradInIdeal.τ).loc Cert.DgradInIdeal.main_arg3) = m ((c.tc : Thread Cert.DgradInIdeal.nD Cert.DgradInIdeal.τ).loc Cert.DgradInIdeal.main_arg3)
          ∧ r.2.mem ((c.tc : Thread Cert.DgradInIdeal.nD Cert.DgradInIdeal.τ).loc Cert.DgradInIdeal.main_arg4) = m ((c.tc : Thread Cert.DgradInIdeal.nD Cert.DgradInIdeal.τ).loc Cert.DgradInIdeal.main_arg4)
          ∧ r.2.mem ((c.tc : Thread Cert.DgradInIdeal.nD Cert.DgradInIdeal.τ).loc Cert.DgradInIdeal.main_arg5) = m ((c.tc : Thread Cert.DgradInIdeal.nD Cert.DgradInIdeal.τ).loc Cert.DgradInIdeal.main_arg5)
          ∧ r.2.mem ((c.tc : Thread Cert.DgradInIdeal.nD Cert.DgradInIdeal.τ).loc Cert.DgradInIdeal.main_arg6) = m ((c.tc : Thread Cert.DgradInIdeal.nD Cert.DgradInIdeal.τ).loc Cert.DgradInIdeal.main_arg6)
          ∧ r.2.mem ((c.tc : Thread Cert.DgradInIdeal.nD Cert.DgradInIdeal.τ).loc Cert.DgradInIdeal.main_arg7) = m ((c.tc : Thread Cert.DgradInIdeal.nD Cert.DgradInIdeal.τ).loc Cert.DgradInIdeal.main_arg7)
          ∧ r.2.mem ((c.tc : Thread Cert.DgradInIdeal.nD Cert.DgradInIdeal.τ).loc Cert.DgradInIdeal.main_arg8) = m ((c.tc : Thread Cert.DgradInIdeal.nD Cert.DgradInIdeal.τ).loc Cert.DgradInIdeal.main_arg8))
      ∧ θ_run (Cert.DgradInRefIdeal.defs (F := Ideal)) (onTc (τ := Cert.DgradInRefIdeal.τ) (Cert.DgradInRefIdeal.main (F := Ideal))) ⟨m', fun _ => 0, g'⟩ (fun r => ∀ c : Dev Cert.DgradInRefIdeal.nD,
          r.2.mem ((c.tc : Thread Cert.DgradInRefIdeal.nD Cert.DgradInRefIdeal.τ).loc Cert.DgradInRefIdeal.main_v20) = v0 c
          ∧ r.2.mem ((c.tc : Thread Cert.DgradInRefIdeal.nD Cert.DgradInRefIdeal.τ).loc Cert.DgradInRefIdeal.main_arg0) = m' ((c.tc : Thread Cert.DgradInRefIdeal.nD Cert.DgradInRefIdeal.τ).loc Cert.DgradInRefIdeal.main_arg0)
          ∧ r.2.mem ((c.tc : Thread Cert.DgradInRefIdeal.nD Cert.DgradInRefIdeal.τ).loc Cert.DgradInRefIdeal.main_arg1) = m' ((c.tc : Thread Cert.DgradInRefIdeal.nD Cert.DgradInRefIdeal.τ).loc Cert.DgradInRefIdeal.main_arg1)
          ∧ r.2.mem ((c.tc : Thread Cert.DgradInRefIdeal.nD Cert.DgradInRefIdeal.τ).loc Cert.DgradInRefIdeal.main_arg2) = m' ((c.tc : Thread Cert.DgradInRefIdeal.nD Cert.DgradInRefIdeal.τ).loc Cert.DgradInRefIdeal.main_arg2)
          ∧ r.2.mem ((c.tc : Thread Cert.DgradInRefIdeal.nD Cert.DgradInRefIdeal.τ).loc Cert.DgradInRefIdeal.main_arg3) = m' ((c.tc : Thread Cert.DgradInRefIdeal.nD Cert.DgradInRefIdeal.τ).loc Cert.DgradInRefIdeal.main_arg3)
          ∧ r.2.mem ((c.tc : Thread Cert.DgradInRefIdeal.nD Cert.DgradInRefIdeal.τ).loc Cert.DgradInRefIdeal.main_arg4) = m' ((c.tc : Thread Cert.DgradInRefIdeal.nD Cert.DgradInRefIdeal.τ).loc Cert.DgradInRefIdeal.main_arg4)
          ∧ r.2.mem ((c.tc : Thread Cert.DgradInRefIdeal.nD Cert.DgradInRefIdeal.τ).loc Cert.DgradInRefIdeal.main_arg5) = m' ((c.tc : Thread Cert.DgradInRefIdeal.nD Cert.DgradInRefIdeal.τ).loc Cert.DgradInRefIdeal.main_arg5)
          ∧ r.2.mem ((c.tc : Thread Cert.DgradInRefIdeal.nD Cert.DgradInRefIdeal.τ).loc Cert.DgradInRefIdeal.main_arg6) = m' ((c.tc : Thread Cert.DgradInRefIdeal.nD Cert.DgradInRefIdeal.τ).loc Cert.DgradInRefIdeal.main_arg6)
          ∧ r.2.mem ((c.tc : Thread Cert.DgradInRefIdeal.nD Cert.DgradInRefIdeal.τ).loc Cert.DgradInRefIdeal.main_arg7) = m' ((c.tc : Thread Cert.DgradInRefIdeal.nD Cert.DgradInRefIdeal.τ).loc Cert.DgradInRefIdeal.main_arg7)
          ∧ r.2.mem ((c.tc : Thread Cert.DgradInRefIdeal.nD Cert.DgradInRefIdeal.τ).loc Cert.DgradInRefIdeal.main_arg8) = m' ((c.tc : Thread Cert.DgradInRefIdeal.nD Cert.DgradInRefIdeal.τ).loc Cert.DgradInRefIdeal.main_arg8))

def preserves_WgradPre_WgradPreIdeal : Prop :=
  True

def algebraic_WgradPreIdeal_WgradPreRefIdeal [hWgradPreIdeal : Cert.WgradPreIdeal.Facts] [hWgradPreRefIdeal : Cert.WgradPreRefIdeal.Facts] : Prop :=
  ∀ (m : (ℓ : Loc Cert.WgradPreIdeal.nD Cert.WgradPreIdeal.τ Cert.WgradPreIdeal.sig) → Buf (Elt Ideal) ℓ) (g : Dev Cert.WgradPreIdeal.nD → PrngReg)
    (m' : (ℓ : Loc Cert.WgradPreRefIdeal.nD Cert.WgradPreRefIdeal.τ Cert.WgradPreRefIdeal.sig) → Buf (Elt Ideal) ℓ) (g' : Dev Cert.WgradPreRefIdeal.nD → PrngReg), Pre_WgradPreIdeal m →
    (∀ c : Dev Cert.WgradPreIdeal.nD,
      m' ((c.tc : Thread Cert.WgradPreRefIdeal.nD Cert.WgradPreRefIdeal.τ).loc Cert.WgradPreRefIdeal.main_arg0) = m ((c.tc : Thread Cert.WgradPreIdeal.nD Cert.WgradPreIdeal.τ).loc Cert.WgradPreIdeal.main_arg0)
      ∧ m' ((c.tc : Thread Cert.WgradPreRefIdeal.nD Cert.WgradPreRefIdeal.τ).loc Cert.WgradPreRefIdeal.main_arg1) = m ((c.tc : Thread Cert.WgradPreIdeal.nD Cert.WgradPreIdeal.τ).loc Cert.WgradPreIdeal.main_arg1)) →
    ∃ (v0 : (c : Dev Cert.WgradPreIdeal.nD) → Buf (Elt Ideal) ((c.tc : Thread Cert.WgradPreIdeal.nD Cert.WgradPreIdeal.τ).loc Cert.WgradPreIdeal.main_v0)),
      θ_run (Cert.WgradPreIdeal.defs (F := Ideal)) (onTc (τ := Cert.WgradPreIdeal.τ) (Cert.WgradPreIdeal.main (F := Ideal))) ⟨m, fun _ => 0, g⟩ (fun r => ∀ c : Dev Cert.WgradPreIdeal.nD,
          r.2.mem ((c.tc : Thread Cert.WgradPreIdeal.nD Cert.WgradPreIdeal.τ).loc Cert.WgradPreIdeal.main_v0) = v0 c
          ∧ r.2.mem ((c.tc : Thread Cert.WgradPreIdeal.nD Cert.WgradPreIdeal.τ).loc Cert.WgradPreIdeal.main_arg0) = m ((c.tc : Thread Cert.WgradPreIdeal.nD Cert.WgradPreIdeal.τ).loc Cert.WgradPreIdeal.main_arg0)
          ∧ r.2.mem ((c.tc : Thread Cert.WgradPreIdeal.nD Cert.WgradPreIdeal.τ).loc Cert.WgradPreIdeal.main_arg1) = m ((c.tc : Thread Cert.WgradPreIdeal.nD Cert.WgradPreIdeal.τ).loc Cert.WgradPreIdeal.main_arg1))
      ∧ θ_run (Cert.WgradPreRefIdeal.defs (F := Ideal)) (onTc (τ := Cert.WgradPreRefIdeal.τ) (Cert.WgradPreRefIdeal.main (F := Ideal))) ⟨m', fun _ => 0, g'⟩ (fun r => ∀ c : Dev Cert.WgradPreRefIdeal.nD,
          r.2.mem ((c.tc : Thread Cert.WgradPreRefIdeal.nD Cert.WgradPreRefIdeal.τ).loc Cert.WgradPreRefIdeal.main_v6) = v0 c
          ∧ r.2.mem ((c.tc : Thread Cert.WgradPreRefIdeal.nD Cert.WgradPreRefIdeal.τ).loc Cert.WgradPreRefIdeal.main_arg0) = m' ((c.tc : Thread Cert.WgradPreRefIdeal.nD Cert.WgradPreRefIdeal.τ).loc Cert.WgradPreRefIdeal.main_arg0)
          ∧ r.2.mem ((c.tc : Thread Cert.WgradPreRefIdeal.nD Cert.WgradPreRefIdeal.τ).loc Cert.WgradPreRefIdeal.main_arg1) = m' ((c.tc : Thread Cert.WgradPreRefIdeal.nD Cert.WgradPreRefIdeal.τ).loc Cert.WgradPreRefIdeal.main_arg1))

def preserves_WgradSq_WgradSqIdeal : Prop :=
  True

def algebraic_WgradSqIdeal_WgradSqRefIdeal [hWgradSqIdeal : Cert.WgradSqIdeal.Facts] [hWgradSqRefIdeal : Cert.WgradSqRefIdeal.Facts] : Prop :=
  ∀ (m : (ℓ : Loc Cert.WgradSqIdeal.nD Cert.WgradSqIdeal.τ Cert.WgradSqIdeal.sig) → Buf (Elt Ideal) ℓ) (g : Dev Cert.WgradSqIdeal.nD → PrngReg)
    (m' : (ℓ : Loc Cert.WgradSqRefIdeal.nD Cert.WgradSqRefIdeal.τ Cert.WgradSqRefIdeal.sig) → Buf (Elt Ideal) ℓ) (g' : Dev Cert.WgradSqRefIdeal.nD → PrngReg), Pre_WgradSqIdeal m →
    (∀ c : Dev Cert.WgradSqIdeal.nD,
      m' ((c.tc : Thread Cert.WgradSqRefIdeal.nD Cert.WgradSqRefIdeal.τ).loc Cert.WgradSqRefIdeal.main_arg0) = m ((c.tc : Thread Cert.WgradSqIdeal.nD Cert.WgradSqIdeal.τ).loc Cert.WgradSqIdeal.main_arg0)
      ∧ m' ((c.tc : Thread Cert.WgradSqRefIdeal.nD Cert.WgradSqRefIdeal.τ).loc Cert.WgradSqRefIdeal.main_arg1) = m ((c.tc : Thread Cert.WgradSqIdeal.nD Cert.WgradSqIdeal.τ).loc Cert.WgradSqIdeal.main_arg1)) →
    ∃ (v0 : (c : Dev Cert.WgradSqIdeal.nD) → Buf (Elt Ideal) ((c.tc : Thread Cert.WgradSqIdeal.nD Cert.WgradSqIdeal.τ).loc Cert.WgradSqIdeal.main_v0)),
      θ_run (Cert.WgradSqIdeal.defs (F := Ideal)) (onTc (τ := Cert.WgradSqIdeal.τ) (Cert.WgradSqIdeal.main (F := Ideal))) ⟨m, fun _ => 0, g⟩ (fun r => ∀ c : Dev Cert.WgradSqIdeal.nD,
          r.2.mem ((c.tc : Thread Cert.WgradSqIdeal.nD Cert.WgradSqIdeal.τ).loc Cert.WgradSqIdeal.main_v0) = v0 c
          ∧ r.2.mem ((c.tc : Thread Cert.WgradSqIdeal.nD Cert.WgradSqIdeal.τ).loc Cert.WgradSqIdeal.main_arg0) = m ((c.tc : Thread Cert.WgradSqIdeal.nD Cert.WgradSqIdeal.τ).loc Cert.WgradSqIdeal.main_arg0)
          ∧ r.2.mem ((c.tc : Thread Cert.WgradSqIdeal.nD Cert.WgradSqIdeal.τ).loc Cert.WgradSqIdeal.main_arg1) = m ((c.tc : Thread Cert.WgradSqIdeal.nD Cert.WgradSqIdeal.τ).loc Cert.WgradSqIdeal.main_arg1))
      ∧ θ_run (Cert.WgradSqRefIdeal.defs (F := Ideal)) (onTc (τ := Cert.WgradSqRefIdeal.τ) (Cert.WgradSqRefIdeal.main (F := Ideal))) ⟨m', fun _ => 0, g'⟩ (fun r => ∀ c : Dev Cert.WgradSqRefIdeal.nD,
          r.2.mem ((c.tc : Thread Cert.WgradSqRefIdeal.nD Cert.WgradSqRefIdeal.τ).loc Cert.WgradSqRefIdeal.main_v6) = v0 c
          ∧ r.2.mem ((c.tc : Thread Cert.WgradSqRefIdeal.nD Cert.WgradSqRefIdeal.τ).loc Cert.WgradSqRefIdeal.main_arg0) = m' ((c.tc : Thread Cert.WgradSqRefIdeal.nD Cert.WgradSqRefIdeal.τ).loc Cert.WgradSqRefIdeal.main_arg0)
          ∧ r.2.mem ((c.tc : Thread Cert.WgradSqRefIdeal.nD Cert.WgradSqRefIdeal.τ).loc Cert.WgradSqRefIdeal.main_arg1) = m' ((c.tc : Thread Cert.WgradSqRefIdeal.nD Cert.WgradSqRefIdeal.τ).loc Cert.WgradSqRefIdeal.main_arg1))

def preserves_WgradBa_WgradBaIdeal : Prop :=
  True

def algebraic_WgradBaIdeal_WgradBaRefIdeal [hWgradBaIdeal : Cert.WgradBaIdeal.Facts] [hWgradBaRefIdeal : Cert.WgradBaRefIdeal.Facts] : Prop :=
  ∀ (m : (ℓ : Loc Cert.WgradBaIdeal.nD Cert.WgradBaIdeal.τ Cert.WgradBaIdeal.sig) → Buf (Elt Ideal) ℓ) (g : Dev Cert.WgradBaIdeal.nD → PrngReg)
    (m' : (ℓ : Loc Cert.WgradBaRefIdeal.nD Cert.WgradBaRefIdeal.τ Cert.WgradBaRefIdeal.sig) → Buf (Elt Ideal) ℓ) (g' : Dev Cert.WgradBaRefIdeal.nD → PrngReg), Pre_WgradBaIdeal m →
    (∀ c : Dev Cert.WgradBaIdeal.nD,
      m' ((c.tc : Thread Cert.WgradBaRefIdeal.nD Cert.WgradBaRefIdeal.τ).loc Cert.WgradBaRefIdeal.main_arg0) = m ((c.tc : Thread Cert.WgradBaIdeal.nD Cert.WgradBaIdeal.τ).loc Cert.WgradBaIdeal.main_arg0)
      ∧ m' ((c.tc : Thread Cert.WgradBaRefIdeal.nD Cert.WgradBaRefIdeal.τ).loc Cert.WgradBaRefIdeal.main_arg1) = m ((c.tc : Thread Cert.WgradBaIdeal.nD Cert.WgradBaIdeal.τ).loc Cert.WgradBaIdeal.main_arg1)) →
    ∃ (v0 : (c : Dev Cert.WgradBaIdeal.nD) → Buf (Elt Ideal) ((c.tc : Thread Cert.WgradBaIdeal.nD Cert.WgradBaIdeal.τ).loc Cert.WgradBaIdeal.main_v0)),
      θ_run (Cert.WgradBaIdeal.defs (F := Ideal)) (onTc (τ := Cert.WgradBaIdeal.τ) (Cert.WgradBaIdeal.main (F := Ideal))) ⟨m, fun _ => 0, g⟩ (fun r => ∀ c : Dev Cert.WgradBaIdeal.nD,
          r.2.mem ((c.tc : Thread Cert.WgradBaIdeal.nD Cert.WgradBaIdeal.τ).loc Cert.WgradBaIdeal.main_v0) = v0 c
          ∧ r.2.mem ((c.tc : Thread Cert.WgradBaIdeal.nD Cert.WgradBaIdeal.τ).loc Cert.WgradBaIdeal.main_arg0) = m ((c.tc : Thread Cert.WgradBaIdeal.nD Cert.WgradBaIdeal.τ).loc Cert.WgradBaIdeal.main_arg0)
          ∧ r.2.mem ((c.tc : Thread Cert.WgradBaIdeal.nD Cert.WgradBaIdeal.τ).loc Cert.WgradBaIdeal.main_arg1) = m ((c.tc : Thread Cert.WgradBaIdeal.nD Cert.WgradBaIdeal.τ).loc Cert.WgradBaIdeal.main_arg1))
      ∧ θ_run (Cert.WgradBaRefIdeal.defs (F := Ideal)) (onTc (τ := Cert.WgradBaRefIdeal.τ) (Cert.WgradBaRefIdeal.main (F := Ideal))) ⟨m', fun _ => 0, g'⟩ (fun r => ∀ c : Dev Cert.WgradBaRefIdeal.nD,
          r.2.mem ((c.tc : Thread Cert.WgradBaRefIdeal.nD Cert.WgradBaRefIdeal.τ).loc Cert.WgradBaRefIdeal.main_v6) = v0 c
          ∧ r.2.mem ((c.tc : Thread Cert.WgradBaRefIdeal.nD Cert.WgradBaRefIdeal.τ).loc Cert.WgradBaRefIdeal.main_arg0) = m' ((c.tc : Thread Cert.WgradBaRefIdeal.nD Cert.WgradBaRefIdeal.τ).loc Cert.WgradBaRefIdeal.main_arg0)
          ∧ r.2.mem ((c.tc : Thread Cert.WgradBaRefIdeal.nD Cert.WgradBaRefIdeal.τ).loc Cert.WgradBaRefIdeal.main_arg1) = m' ((c.tc : Thread Cert.WgradBaRefIdeal.nD Cert.WgradBaRefIdeal.τ).loc Cert.WgradBaRefIdeal.main_arg1))

def preserves_WgradUp_WgradUpIdeal : Prop :=
  True

def algebraic_WgradUpIdeal_WgradUpRefIdeal [hWgradUpIdeal : Cert.WgradUpIdeal.Facts] [hWgradUpRefIdeal : Cert.WgradUpRefIdeal.Facts] : Prop :=
  ∀ (m : (ℓ : Loc Cert.WgradUpIdeal.nD Cert.WgradUpIdeal.τ Cert.WgradUpIdeal.sig) → Buf (Elt Ideal) ℓ) (g : Dev Cert.WgradUpIdeal.nD → PrngReg)
    (m' : (ℓ : Loc Cert.WgradUpRefIdeal.nD Cert.WgradUpRefIdeal.τ Cert.WgradUpRefIdeal.sig) → Buf (Elt Ideal) ℓ) (g' : Dev Cert.WgradUpRefIdeal.nD → PrngReg), Pre_WgradUpIdeal m →
    (∀ c : Dev Cert.WgradUpIdeal.nD,
      m' ((c.tc : Thread Cert.WgradUpRefIdeal.nD Cert.WgradUpRefIdeal.τ).loc Cert.WgradUpRefIdeal.main_arg0) = m ((c.tc : Thread Cert.WgradUpIdeal.nD Cert.WgradUpIdeal.τ).loc Cert.WgradUpIdeal.main_arg0)
      ∧ m' ((c.tc : Thread Cert.WgradUpRefIdeal.nD Cert.WgradUpRefIdeal.τ).loc Cert.WgradUpRefIdeal.main_arg1) = m ((c.tc : Thread Cert.WgradUpIdeal.nD Cert.WgradUpIdeal.τ).loc Cert.WgradUpIdeal.main_arg1)) →
    ∃ (v0 : (c : Dev Cert.WgradUpIdeal.nD) → Buf (Elt Ideal) ((c.tc : Thread Cert.WgradUpIdeal.nD Cert.WgradUpIdeal.τ).loc Cert.WgradUpIdeal.main_v0)),
      θ_run (Cert.WgradUpIdeal.defs (F := Ideal)) (onTc (τ := Cert.WgradUpIdeal.τ) (Cert.WgradUpIdeal.main (F := Ideal))) ⟨m, fun _ => 0, g⟩ (fun r => ∀ c : Dev Cert.WgradUpIdeal.nD,
          r.2.mem ((c.tc : Thread Cert.WgradUpIdeal.nD Cert.WgradUpIdeal.τ).loc Cert.WgradUpIdeal.main_v0) = v0 c
          ∧ r.2.mem ((c.tc : Thread Cert.WgradUpIdeal.nD Cert.WgradUpIdeal.τ).loc Cert.WgradUpIdeal.main_arg0) = m ((c.tc : Thread Cert.WgradUpIdeal.nD Cert.WgradUpIdeal.τ).loc Cert.WgradUpIdeal.main_arg0)
          ∧ r.2.mem ((c.tc : Thread Cert.WgradUpIdeal.nD Cert.WgradUpIdeal.τ).loc Cert.WgradUpIdeal.main_arg1) = m ((c.tc : Thread Cert.WgradUpIdeal.nD Cert.WgradUpIdeal.τ).loc Cert.WgradUpIdeal.main_arg1))
      ∧ θ_run (Cert.WgradUpRefIdeal.defs (F := Ideal)) (onTc (τ := Cert.WgradUpRefIdeal.τ) (Cert.WgradUpRefIdeal.main (F := Ideal))) ⟨m', fun _ => 0, g'⟩ (fun r => ∀ c : Dev Cert.WgradUpRefIdeal.nD,
          r.2.mem ((c.tc : Thread Cert.WgradUpRefIdeal.nD Cert.WgradUpRefIdeal.τ).loc Cert.WgradUpRefIdeal.main_v6) = v0 c
          ∧ r.2.mem ((c.tc : Thread Cert.WgradUpRefIdeal.nD Cert.WgradUpRefIdeal.τ).loc Cert.WgradUpRefIdeal.main_arg0) = m' ((c.tc : Thread Cert.WgradUpRefIdeal.nD Cert.WgradUpRefIdeal.τ).loc Cert.WgradUpRefIdeal.main_arg0)
          ∧ r.2.mem ((c.tc : Thread Cert.WgradUpRefIdeal.nD Cert.WgradUpRefIdeal.τ).loc Cert.WgradUpRefIdeal.main_arg1) = m' ((c.tc : Thread Cert.WgradUpRefIdeal.nD Cert.WgradUpRefIdeal.τ).loc Cert.WgradUpRefIdeal.main_arg1))

def preserves_WgradDown_WgradDownIdeal : Prop :=
  True

def algebraic_WgradDownIdeal_WgradDownRefIdeal [hWgradDownIdeal : Cert.WgradDownIdeal.Facts] [hWgradDownRefIdeal : Cert.WgradDownRefIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg)
    (m' : (ℓ : Loc Cert.WgradDownRefIdeal.nD Cert.WgradDownRefIdeal.τ Cert.WgradDownRefIdeal.sig) → Buf (Elt Ideal) ℓ) (g' : Dev Cert.WgradDownRefIdeal.nD → PrngReg), Pre_WgradDownIdeal m →
    (∀ c : Dev Cert.WgradDownIdeal.nD,
      m' ((c.tc : Thread Cert.WgradDownRefIdeal.nD Cert.WgradDownRefIdeal.τ).loc Cert.WgradDownRefIdeal.main_arg0) = m ((c.tc : Thread Cert.WgradDownIdeal.nD Cert.WgradDownIdeal.τ).loc Cert.WgradDownIdeal.main_arg0)
      ∧ m' ((c.tc : Thread Cert.WgradDownRefIdeal.nD Cert.WgradDownRefIdeal.τ).loc Cert.WgradDownRefIdeal.main_arg1) = m ((c.tc : Thread Cert.WgradDownIdeal.nD Cert.WgradDownIdeal.τ).loc Cert.WgradDownIdeal.main_arg1)) →
    ∃ (v0 : (c : Dev Cert.WgradDownIdeal.nD) → Buf (Elt Ideal) ((c.tc : Thread Cert.WgradDownIdeal.nD Cert.WgradDownIdeal.τ).loc Cert.WgradDownIdeal.main_v0)),
      θ_run (Cert.WgradDownIdeal.defs (F := Ideal)) (onTc (τ := Cert.WgradDownIdeal.τ) (Cert.WgradDownIdeal.main (F := Ideal))) ⟨m, fun _ => 0, g⟩ (fun r => ∀ c : Dev Cert.WgradDownIdeal.nD,
          r.2.mem ((c.tc : Thread Cert.WgradDownIdeal.nD Cert.WgradDownIdeal.τ).loc Cert.WgradDownIdeal.main_v0) = v0 c
          ∧ r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
          ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1))
      ∧ θ_run (Cert.WgradDownRefIdeal.defs (F := Ideal)) (onTc (τ := Cert.WgradDownRefIdeal.τ) (Cert.WgradDownRefIdeal.main (F := Ideal))) ⟨m', fun _ => 0, g'⟩ (fun r => ∀ c : Dev Cert.WgradDownRefIdeal.nD,
          r.2.mem ((c.tc : Thread Cert.WgradDownRefIdeal.nD Cert.WgradDownRefIdeal.τ).loc Cert.WgradDownRefIdeal.main_v6) = v0 c
          ∧ r.2.mem ((c.tc : Thread Cert.WgradDownRefIdeal.nD Cert.WgradDownRefIdeal.τ).loc Cert.WgradDownRefIdeal.main_arg0) = m' ((c.tc : Thread Cert.WgradDownRefIdeal.nD Cert.WgradDownRefIdeal.τ).loc Cert.WgradDownRefIdeal.main_arg0)
          ∧ r.2.mem ((c.tc : Thread Cert.WgradDownRefIdeal.nD Cert.WgradDownRefIdeal.τ).loc Cert.WgradDownRefIdeal.main_arg1) = m' ((c.tc : Thread Cert.WgradDownRefIdeal.nD Cert.WgradDownRefIdeal.τ).loc Cert.WgradDownRefIdeal.main_arg1))

def preserves_FwdIn_FwdInIdeal : Prop :=
  True

def algebraic_FwdInIdeal_FwdInRefIdeal [hFwdInIdeal : Cert.FwdInIdeal.Facts] [hFwdInRefIdeal : Cert.FwdInRefIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.FwdInRefIdeal.nD Cert.FwdInRefIdeal.τ Cert.FwdInRefIdeal.sig) → Buf (Elt Ideal) ℓ) (g' : Dev Cert.FwdInRefIdeal.nD → PrngReg), Pre_FwdInIdeal m →
    (∀ c : Dev Cert.FwdInIdeal.nD,
      m' ((c.tc : Thread Cert.FwdInRefIdeal.nD Cert.FwdInRefIdeal.τ).loc Cert.FwdInRefIdeal.main_arg0) = m ((c.tc : Thread Cert.FwdInIdeal.nD Cert.FwdInIdeal.τ).loc Cert.FwdInIdeal.main_arg0)
      ∧ m' ((c.tc : Thread Cert.FwdInRefIdeal.nD Cert.FwdInRefIdeal.τ).loc Cert.FwdInRefIdeal.main_arg1) = m ((c.tc : Thread Cert.FwdInIdeal.nD Cert.FwdInIdeal.τ).loc Cert.FwdInIdeal.main_arg1)) →
    ∃ (v0 : (c : Dev Cert.FwdInIdeal.nD) → Buf (Elt Ideal) ((c.tc : Thread Cert.FwdInIdeal.nD Cert.FwdInIdeal.τ).loc Cert.FwdInIdeal.main_v0)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v0) = v0 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1))
      ∧ θ_run (Cert.FwdInRefIdeal.defs (F := Ideal)) (onTc (τ := Cert.FwdInRefIdeal.τ) (Cert.FwdInRefIdeal.main (F := Ideal))) ⟨m', fun _ => 0, g'⟩ (fun r => ∀ c : Dev Cert.FwdInRefIdeal.nD,
          r.2.mem ((c.tc : Thread Cert.FwdInRefIdeal.nD Cert.FwdInRefIdeal.τ).loc Cert.FwdInRefIdeal.main_v2) = v0 c
          ∧ r.2.mem ((c.tc : Thread Cert.FwdInRefIdeal.nD Cert.FwdInRefIdeal.τ).loc Cert.FwdInRefIdeal.main_arg0) = m' ((c.tc : Thread Cert.FwdInRefIdeal.nD Cert.FwdInRefIdeal.τ).loc Cert.FwdInRefIdeal.main_arg0)
          ∧ r.2.mem ((c.tc : Thread Cert.FwdInRefIdeal.nD Cert.FwdInRefIdeal.τ).loc Cert.FwdInRefIdeal.main_arg1) = m' ((c.tc : Thread Cert.FwdInRefIdeal.nD Cert.FwdInRefIdeal.τ).loc Cert.FwdInRefIdeal.main_arg1))

def preserves_FwdUp_FwdUpIdeal : Prop :=
  True

def algebraic_FwdUpIdeal_FwdUpRefIdeal [hFwdUpIdeal : Cert.FwdUpIdeal.Facts] [hFwdUpRefIdeal : Cert.FwdUpRefIdeal.Facts] : Prop :=
  ∀ (m : (ℓ : Loc Cert.FwdUpIdeal.nD Cert.FwdUpIdeal.τ Cert.FwdUpIdeal.sig) → Buf (Elt Ideal) ℓ) (g : Dev Cert.FwdUpIdeal.nD → PrngReg)
    (m' : (ℓ : Loc Cert.FwdUpRefIdeal.nD Cert.FwdUpRefIdeal.τ Cert.FwdUpRefIdeal.sig) → Buf (Elt Ideal) ℓ) (g' : Dev Cert.FwdUpRefIdeal.nD → PrngReg), Pre_FwdUpIdeal m →
    (∀ c : Dev Cert.FwdUpIdeal.nD,
      m' ((c.tc : Thread Cert.FwdUpRefIdeal.nD Cert.FwdUpRefIdeal.τ).loc Cert.FwdUpRefIdeal.main_arg0) = m ((c.tc : Thread Cert.FwdUpIdeal.nD Cert.FwdUpIdeal.τ).loc Cert.FwdUpIdeal.main_arg0)
      ∧ m' ((c.tc : Thread Cert.FwdUpRefIdeal.nD Cert.FwdUpRefIdeal.τ).loc Cert.FwdUpRefIdeal.main_arg1) = m ((c.tc : Thread Cert.FwdUpIdeal.nD Cert.FwdUpIdeal.τ).loc Cert.FwdUpIdeal.main_arg1)) →
    ∃ (v0 : (c : Dev Cert.FwdUpIdeal.nD) → Buf (Elt Ideal) ((c.tc : Thread Cert.FwdUpIdeal.nD Cert.FwdUpIdeal.τ).loc Cert.FwdUpIdeal.main_v0)),
      θ_run (Cert.FwdUpIdeal.defs (F := Ideal)) (onTc (τ := Cert.FwdUpIdeal.τ) (Cert.FwdUpIdeal.main (F := Ideal))) ⟨m, fun _ => 0, g⟩ (fun r => ∀ c : Dev Cert.FwdUpIdeal.nD,
          r.2.mem ((c.tc : Thread Cert.FwdUpIdeal.nD Cert.FwdUpIdeal.τ).loc Cert.FwdUpIdeal.main_v0) = v0 c
          ∧ r.2.mem ((c.tc : Thread Cert.FwdUpIdeal.nD Cert.FwdUpIdeal.τ).loc Cert.FwdUpIdeal.main_arg0) = m ((c.tc : Thread Cert.FwdUpIdeal.nD Cert.FwdUpIdeal.τ).loc Cert.FwdUpIdeal.main_arg0)
          ∧ r.2.mem ((c.tc : Thread Cert.FwdUpIdeal.nD Cert.FwdUpIdeal.τ).loc Cert.FwdUpIdeal.main_arg1) = m ((c.tc : Thread Cert.FwdUpIdeal.nD Cert.FwdUpIdeal.τ).loc Cert.FwdUpIdeal.main_arg1))
      ∧ θ_run (Cert.FwdUpRefIdeal.defs (F := Ideal)) (onTc (τ := Cert.FwdUpRefIdeal.τ) (Cert.FwdUpRefIdeal.main (F := Ideal))) ⟨m', fun _ => 0, g'⟩ (fun r => ∀ c : Dev Cert.FwdUpRefIdeal.nD,
          r.2.mem ((c.tc : Thread Cert.FwdUpRefIdeal.nD Cert.FwdUpRefIdeal.τ).loc Cert.FwdUpRefIdeal.main_v2) = v0 c
          ∧ r.2.mem ((c.tc : Thread Cert.FwdUpRefIdeal.nD Cert.FwdUpRefIdeal.τ).loc Cert.FwdUpRefIdeal.main_arg0) = m' ((c.tc : Thread Cert.FwdUpRefIdeal.nD Cert.FwdUpRefIdeal.τ).loc Cert.FwdUpRefIdeal.main_arg0)
          ∧ r.2.mem ((c.tc : Thread Cert.FwdUpRefIdeal.nD Cert.FwdUpRefIdeal.τ).loc Cert.FwdUpRefIdeal.main_arg1) = m' ((c.tc : Thread Cert.FwdUpRefIdeal.nD Cert.FwdUpRefIdeal.τ).loc Cert.FwdUpRefIdeal.main_arg1))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)) →
    ∃ (v0 : (c : Dev Cert.HeadIdeal.nD) → Buf (Elt Ideal) ((c.tc : Thread Cert.HeadIdeal.nD Cert.HeadIdeal.τ).loc Cert.HeadIdeal.main_v0_0)) (v1 : (c : Dev Cert.HeadIdeal.nD) → Buf (Elt Ideal) ((c.tc : Thread Cert.HeadIdeal.nD Cert.HeadIdeal.τ).loc Cert.HeadIdeal.main_v0_1)) (v2 : (c : Dev Cert.HeadIdeal.nD) → Buf (Elt Ideal) ((c.tc : Thread Cert.HeadIdeal.nD Cert.HeadIdeal.τ).loc Cert.HeadIdeal.main_v0_2)) (v3 : (c : Dev Cert.HeadIdeal.nD) → Buf (Elt Ideal) ((c.tc : Thread Cert.HeadIdeal.nD Cert.HeadIdeal.τ).loc Cert.HeadIdeal.main_v0_3)) (v4 : (c : Dev Cert.HeadIdeal.nD) → Buf (Elt Ideal) ((c.tc : Thread Cert.HeadIdeal.nD Cert.HeadIdeal.τ).loc Cert.HeadIdeal.main_v0_4)) (v5 : (c : Dev Cert.HeadIdeal.nD) → Buf (Elt Ideal) ((c.tc : Thread Cert.HeadIdeal.nD Cert.HeadIdeal.τ).loc Cert.HeadIdeal.main_v0_5)) (v6 : (c : Dev Cert.HeadIdeal.nD) → Buf (Elt Ideal) ((c.tc : Thread Cert.HeadIdeal.nD Cert.HeadIdeal.τ).loc Cert.HeadIdeal.main_v0_6)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_0) = v0 c
          ∧ r.2.mem ((c.tc : Thread Cert.HeadIdeal.nD Cert.HeadIdeal.τ).loc Cert.HeadIdeal.main_v0_1) = v1 c
          ∧ r.2.mem ((c.tc : Thread Cert.HeadIdeal.nD Cert.HeadIdeal.τ).loc Cert.HeadIdeal.main_v0_2) = v2 c
          ∧ r.2.mem ((c.tc : Thread Cert.HeadIdeal.nD Cert.HeadIdeal.τ).loc Cert.HeadIdeal.main_v0_3) = v3 c
          ∧ r.2.mem ((c.tc : Thread Cert.HeadIdeal.nD Cert.HeadIdeal.τ).loc Cert.HeadIdeal.main_v0_4) = v4 c
          ∧ r.2.mem ((c.tc : Thread Cert.HeadIdeal.nD Cert.HeadIdeal.τ).loc Cert.HeadIdeal.main_v0_5) = v5 c
          ∧ r.2.mem ((c.tc : Thread Cert.HeadIdeal.nD Cert.HeadIdeal.τ).loc Cert.HeadIdeal.main_v0_6) = v6 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v82) = v0 c
          ∧ r.2.mem ((c.tc : Thread Cert.HeadRefIdeal.nD Cert.HeadRefIdeal.τ).loc Cert.HeadRefIdeal.main_v81) = v1 c
          ∧ r.2.mem ((c.tc : Thread Cert.HeadRefIdeal.nD Cert.HeadRefIdeal.τ).loc Cert.HeadRefIdeal.main_v83) = v2 c
          ∧ r.2.mem ((c.tc : Thread Cert.HeadRefIdeal.nD Cert.HeadRefIdeal.τ).loc Cert.HeadRefIdeal.main_v79) = v3 c
          ∧ r.2.mem ((c.tc : Thread Cert.HeadRefIdeal.nD Cert.HeadRefIdeal.τ).loc Cert.HeadRefIdeal.main_v52) = v4 c
          ∧ r.2.mem ((c.tc : Thread Cert.HeadRefIdeal.nD Cert.HeadRefIdeal.τ).loc Cert.HeadRefIdeal.main_v49) = v5 c
          ∧ r.2.mem ((c.tc : Thread Cert.HeadRefIdeal.nD Cert.HeadRefIdeal.τ).loc Cert.HeadRefIdeal.main_v84) = v6 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v53) = v0 c
          ∧ r.2.mem ((c.tc : Thread Cert.MergeRefIdeal.nD Cert.MergeRefIdeal.τ).loc Cert.MergeRefIdeal.main_v60) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)
      ∧ m' ((c.tc : Thread Cert.MergeBwdRefIdeal.nD Cert.MergeBwdRefIdeal.τ).loc Cert.MergeBwdRefIdeal.main_arg7) = m ((c.tc : Thread Cert.MergeBwdIdeal.nD Cert.MergeBwdIdeal.τ).loc Cert.MergeBwdIdeal.main_arg7)
      ∧ m' ((c.tc : Thread Cert.MergeBwdRefIdeal.nD Cert.MergeBwdRefIdeal.τ).loc Cert.MergeBwdRefIdeal.main_arg8) = m ((c.tc : Thread Cert.MergeBwdIdeal.nD Cert.MergeBwdIdeal.τ).loc Cert.MergeBwdIdeal.main_arg8)
      ∧ m' ((c.tc : Thread Cert.MergeBwdRefIdeal.nD Cert.MergeBwdRefIdeal.τ).loc Cert.MergeBwdRefIdeal.main_arg9) = m ((c.tc : Thread Cert.MergeBwdIdeal.nD Cert.MergeBwdIdeal.τ).loc Cert.MergeBwdIdeal.main_arg9)
      ∧ m' ((c.tc : Thread Cert.MergeBwdRefIdeal.nD Cert.MergeBwdRefIdeal.τ).loc Cert.MergeBwdRefIdeal.main_arg10) = m ((c.tc : Thread Cert.MergeBwdIdeal.nD Cert.MergeBwdIdeal.τ).loc Cert.MergeBwdIdeal.main_arg10)
      ∧ m' ((c.tc : Thread Cert.MergeBwdRefIdeal.nD Cert.MergeBwdRefIdeal.τ).loc Cert.MergeBwdRefIdeal.main_arg11) = m ((c.tc : Thread Cert.MergeBwdIdeal.nD Cert.MergeBwdIdeal.τ).loc Cert.MergeBwdIdeal.main_arg11)
      ∧ m' ((c.tc : Thread Cert.MergeBwdRefIdeal.nD Cert.MergeBwdRefIdeal.τ).loc Cert.MergeBwdRefIdeal.main_arg12) = m ((c.tc : Thread Cert.MergeBwdIdeal.nD Cert.MergeBwdIdeal.τ).loc Cert.MergeBwdIdeal.main_arg12)
      ∧ m' ((c.tc : Thread Cert.MergeBwdRefIdeal.nD Cert.MergeBwdRefIdeal.τ).loc Cert.MergeBwdRefIdeal.main_arg13) = m ((c.tc : Thread Cert.MergeBwdIdeal.nD Cert.MergeBwdIdeal.τ).loc Cert.MergeBwdIdeal.main_arg13)
      ∧ m' ((c.tc : Thread Cert.MergeBwdRefIdeal.nD Cert.MergeBwdRefIdeal.τ).loc Cert.MergeBwdRefIdeal.main_arg14) = m ((c.tc : Thread Cert.MergeBwdIdeal.nD Cert.MergeBwdIdeal.τ).loc Cert.MergeBwdIdeal.main_arg14)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)) (v4 : (c : Dev Cert.MergeBwdIdeal.nD) → Buf (Elt Ideal) ((c.tc : Thread Cert.MergeBwdIdeal.nD Cert.MergeBwdIdeal.τ).loc Cert.MergeBwdIdeal.main_v0_4)) (v5 : (c : Dev Cert.MergeBwdIdeal.nD) → Buf (Elt Ideal) ((c.tc : Thread Cert.MergeBwdIdeal.nD Cert.MergeBwdIdeal.τ).loc Cert.MergeBwdIdeal.main_v0_5)) (v6 : (c : Dev Cert.MergeBwdIdeal.nD) → Buf (Elt Ideal) ((c.tc : Thread Cert.MergeBwdIdeal.nD Cert.MergeBwdIdeal.τ).loc Cert.MergeBwdIdeal.main_v0_6)) (v7 : (c : Dev Cert.MergeBwdIdeal.nD) → Buf (Elt Ideal) ((c.tc : Thread Cert.MergeBwdIdeal.nD Cert.MergeBwdIdeal.τ).loc Cert.MergeBwdIdeal.main_v0_7)) (v8 : (c : Dev Cert.MergeBwdIdeal.nD) → Buf (Elt Ideal) ((c.tc : Thread Cert.MergeBwdIdeal.nD Cert.MergeBwdIdeal.τ).loc Cert.MergeBwdIdeal.main_v0_8)) (v9 : (c : Dev Cert.MergeBwdIdeal.nD) → Buf (Elt Ideal) ((c.tc : Thread Cert.MergeBwdIdeal.nD Cert.MergeBwdIdeal.τ).loc Cert.MergeBwdIdeal.main_v0_9)) (v10 : (c : Dev Cert.MergeBwdIdeal.nD) → Buf (Elt Ideal) ((c.tc : Thread Cert.MergeBwdIdeal.nD Cert.MergeBwdIdeal.τ).loc Cert.MergeBwdIdeal.main_v0_10)) (v11 : (c : Dev Cert.MergeBwdIdeal.nD) → Buf (Elt Ideal) ((c.tc : Thread Cert.MergeBwdIdeal.nD Cert.MergeBwdIdeal.τ).loc Cert.MergeBwdIdeal.main_v0_11)) (v12 : (c : Dev Cert.MergeBwdIdeal.nD) → Buf (Elt Ideal) ((c.tc : Thread Cert.MergeBwdIdeal.nD Cert.MergeBwdIdeal.τ).loc Cert.MergeBwdIdeal.main_v0_12)) (v13 : (c : Dev Cert.MergeBwdIdeal.nD) → Buf (Elt Ideal) ((c.tc : Thread Cert.MergeBwdIdeal.nD Cert.MergeBwdIdeal.τ).loc Cert.MergeBwdIdeal.main_v0_13)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_v0_4) = v4 c
          ∧ r.2.mem ((c.tc : Thread Cert.MergeBwdIdeal.nD Cert.MergeBwdIdeal.τ).loc Cert.MergeBwdIdeal.main_v0_5) = v5 c
          ∧ r.2.mem ((c.tc : Thread Cert.MergeBwdIdeal.nD Cert.MergeBwdIdeal.τ).loc Cert.MergeBwdIdeal.main_v0_6) = v6 c
          ∧ r.2.mem ((c.tc : Thread Cert.MergeBwdIdeal.nD Cert.MergeBwdIdeal.τ).loc Cert.MergeBwdIdeal.main_v0_7) = v7 c
          ∧ r.2.mem ((c.tc : Thread Cert.MergeBwdIdeal.nD Cert.MergeBwdIdeal.τ).loc Cert.MergeBwdIdeal.main_v0_8) = v8 c
          ∧ r.2.mem ((c.tc : Thread Cert.MergeBwdIdeal.nD Cert.MergeBwdIdeal.τ).loc Cert.MergeBwdIdeal.main_v0_9) = v9 c
          ∧ r.2.mem ((c.tc : Thread Cert.MergeBwdIdeal.nD Cert.MergeBwdIdeal.τ).loc Cert.MergeBwdIdeal.main_v0_10) = v10 c
          ∧ r.2.mem ((c.tc : Thread Cert.MergeBwdIdeal.nD Cert.MergeBwdIdeal.τ).loc Cert.MergeBwdIdeal.main_v0_11) = v11 c
          ∧ r.2.mem ((c.tc : Thread Cert.MergeBwdIdeal.nD Cert.MergeBwdIdeal.τ).loc Cert.MergeBwdIdeal.main_v0_12) = v12 c
          ∧ r.2.mem ((c.tc : Thread Cert.MergeBwdIdeal.nD Cert.MergeBwdIdeal.τ).loc Cert.MergeBwdIdeal.main_v0_13) = v13 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
          ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7)
          ∧ r.2.mem ((c.tc : Thread Cert.MergeBwdIdeal.nD Cert.MergeBwdIdeal.τ).loc Cert.MergeBwdIdeal.main_arg8) = m ((c.tc : Thread Cert.MergeBwdIdeal.nD Cert.MergeBwdIdeal.τ).loc Cert.MergeBwdIdeal.main_arg8)
          ∧ r.2.mem ((c.tc : Thread Cert.MergeBwdIdeal.nD Cert.MergeBwdIdeal.τ).loc Cert.MergeBwdIdeal.main_arg9) = m ((c.tc : Thread Cert.MergeBwdIdeal.nD Cert.MergeBwdIdeal.τ).loc Cert.MergeBwdIdeal.main_arg9)
          ∧ r.2.mem ((c.tc : Thread Cert.MergeBwdIdeal.nD Cert.MergeBwdIdeal.τ).loc Cert.MergeBwdIdeal.main_arg10) = m ((c.tc : Thread Cert.MergeBwdIdeal.nD Cert.MergeBwdIdeal.τ).loc Cert.MergeBwdIdeal.main_arg10)
          ∧ r.2.mem ((c.tc : Thread Cert.MergeBwdIdeal.nD Cert.MergeBwdIdeal.τ).loc Cert.MergeBwdIdeal.main_arg11) = m ((c.tc : Thread Cert.MergeBwdIdeal.nD Cert.MergeBwdIdeal.τ).loc Cert.MergeBwdIdeal.main_arg11)
          ∧ r.2.mem ((c.tc : Thread Cert.MergeBwdIdeal.nD Cert.MergeBwdIdeal.τ).loc Cert.MergeBwdIdeal.main_arg12) = m ((c.tc : Thread Cert.MergeBwdIdeal.nD Cert.MergeBwdIdeal.τ).loc Cert.MergeBwdIdeal.main_arg12)
          ∧ r.2.mem ((c.tc : Thread Cert.MergeBwdIdeal.nD Cert.MergeBwdIdeal.τ).loc Cert.MergeBwdIdeal.main_arg13) = m ((c.tc : Thread Cert.MergeBwdIdeal.nD Cert.MergeBwdIdeal.τ).loc Cert.MergeBwdIdeal.main_arg13)
          ∧ r.2.mem ((c.tc : Thread Cert.MergeBwdIdeal.nD Cert.MergeBwdIdeal.τ).loc Cert.MergeBwdIdeal.main_arg14) = m ((c.tc : Thread Cert.MergeBwdIdeal.nD Cert.MergeBwdIdeal.τ).loc Cert.MergeBwdIdeal.main_arg14))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v99) = v0 c
          ∧ r.2.mem ((c.tc : Thread Cert.MergeBwdRefIdeal.nD Cert.MergeBwdRefIdeal.τ).loc Cert.MergeBwdRefIdeal.main_v111) = v1 c
          ∧ r.2.mem ((c.tc : Thread Cert.MergeBwdRefIdeal.nD Cert.MergeBwdRefIdeal.τ).loc Cert.MergeBwdRefIdeal.main_v112) = v2 c
          ∧ r.2.mem ((c.tc : Thread Cert.MergeBwdRefIdeal.nD Cert.MergeBwdRefIdeal.τ).loc Cert.MergeBwdRefIdeal.main_v113) = v3 c
          ∧ r.2.mem ((c.tc : Thread Cert.MergeBwdRefIdeal.nD Cert.MergeBwdRefIdeal.τ).loc Cert.MergeBwdRefIdeal.main_v114) = v4 c
          ∧ r.2.mem ((c.tc : Thread Cert.MergeBwdRefIdeal.nD Cert.MergeBwdRefIdeal.τ).loc Cert.MergeBwdRefIdeal.main_v115) = v5 c
          ∧ r.2.mem ((c.tc : Thread Cert.MergeBwdRefIdeal.nD Cert.MergeBwdRefIdeal.τ).loc Cert.MergeBwdRefIdeal.main_v116) = v6 c
          ∧ r.2.mem ((c.tc : Thread Cert.MergeBwdRefIdeal.nD Cert.MergeBwdRefIdeal.τ).loc Cert.MergeBwdRefIdeal.main_v117) = v7 c
          ∧ r.2.mem ((c.tc : Thread Cert.MergeBwdRefIdeal.nD Cert.MergeBwdRefIdeal.τ).loc Cert.MergeBwdRefIdeal.main_v118) = v8 c
          ∧ r.2.mem ((c.tc : Thread Cert.MergeBwdRefIdeal.nD Cert.MergeBwdRefIdeal.τ).loc Cert.MergeBwdRefIdeal.main_v110) = v9 c
          ∧ r.2.mem ((c.tc : Thread Cert.MergeBwdRefIdeal.nD Cert.MergeBwdRefIdeal.τ).loc Cert.MergeBwdRefIdeal.main_v105) = v10 c
          ∧ r.2.mem ((c.tc : Thread Cert.MergeBwdRefIdeal.nD Cert.MergeBwdRefIdeal.τ).loc Cert.MergeBwdRefIdeal.main_v97) = v11 c
          ∧ r.2.mem ((c.tc : Thread Cert.MergeBwdRefIdeal.nD Cert.MergeBwdRefIdeal.τ).loc Cert.MergeBwdRefIdeal.main_v70) = v12 c
          ∧ r.2.mem ((c.tc : Thread Cert.MergeBwdRefIdeal.nD Cert.MergeBwdRefIdeal.τ).loc Cert.MergeBwdRefIdeal.main_v67) = v13 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6)
          ∧ r.2.mem ((c.tc : Thread Cert.MergeBwdRefIdeal.nD Cert.MergeBwdRefIdeal.τ).loc Cert.MergeBwdRefIdeal.main_arg7) = m' ((c.tc : Thread Cert.MergeBwdRefIdeal.nD Cert.MergeBwdRefIdeal.τ).loc Cert.MergeBwdRefIdeal.main_arg7)
          ∧ r.2.mem ((c.tc : Thread Cert.MergeBwdRefIdeal.nD Cert.MergeBwdRefIdeal.τ).loc Cert.MergeBwdRefIdeal.main_arg8) = m' ((c.tc : Thread Cert.MergeBwdRefIdeal.nD Cert.MergeBwdRefIdeal.τ).loc Cert.MergeBwdRefIdeal.main_arg8)
          ∧ r.2.mem ((c.tc : Thread Cert.MergeBwdRefIdeal.nD Cert.MergeBwdRefIdeal.τ).loc Cert.MergeBwdRefIdeal.main_arg9) = m' ((c.tc : Thread Cert.MergeBwdRefIdeal.nD Cert.MergeBwdRefIdeal.τ).loc Cert.MergeBwdRefIdeal.main_arg9)
          ∧ r.2.mem ((c.tc : Thread Cert.MergeBwdRefIdeal.nD Cert.MergeBwdRefIdeal.τ).loc Cert.MergeBwdRefIdeal.main_arg10) = m' ((c.tc : Thread Cert.MergeBwdRefIdeal.nD Cert.MergeBwdRefIdeal.τ).loc Cert.MergeBwdRefIdeal.main_arg10)
          ∧ r.2.mem ((c.tc : Thread Cert.MergeBwdRefIdeal.nD Cert.MergeBwdRefIdeal.τ).loc Cert.MergeBwdRefIdeal.main_arg11) = m' ((c.tc : Thread Cert.MergeBwdRefIdeal.nD Cert.MergeBwdRefIdeal.τ).loc Cert.MergeBwdRefIdeal.main_arg11)
          ∧ r.2.mem ((c.tc : Thread Cert.MergeBwdRefIdeal.nD Cert.MergeBwdRefIdeal.τ).loc Cert.MergeBwdRefIdeal.main_arg12) = m' ((c.tc : Thread Cert.MergeBwdRefIdeal.nD Cert.MergeBwdRefIdeal.τ).loc Cert.MergeBwdRefIdeal.main_arg12)
          ∧ r.2.mem ((c.tc : Thread Cert.MergeBwdRefIdeal.nD Cert.MergeBwdRefIdeal.τ).loc Cert.MergeBwdRefIdeal.main_arg13) = m' ((c.tc : Thread Cert.MergeBwdRefIdeal.nD Cert.MergeBwdRefIdeal.τ).loc Cert.MergeBwdRefIdeal.main_arg13)
          ∧ r.2.mem ((c.tc : Thread Cert.MergeBwdRefIdeal.nD Cert.MergeBwdRefIdeal.τ).loc Cert.MergeBwdRefIdeal.main_arg14) = m' ((c.tc : Thread Cert.MergeBwdRefIdeal.nD Cert.MergeBwdRefIdeal.τ).loc Cert.MergeBwdRefIdeal.main_arg14))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v2) = v0 c
          ∧ r.2.mem ((c.tc : Thread Cert.AdamInRefIdeal.nD Cert.AdamInRefIdeal.τ).loc Cert.AdamInRefIdeal.main_v26) = v1 c
          ∧ r.2.mem ((c.tc : Thread Cert.AdamInRefIdeal.nD Cert.AdamInRefIdeal.τ).loc Cert.AdamInRefIdeal.main_v7) = v2 c
          ∧ r.2.mem ((c.tc : Thread Cert.AdamInRefIdeal.nD Cert.AdamInRefIdeal.τ).loc Cert.AdamInRefIdeal.main_v13) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v2) = v0 c
          ∧ r.2.mem ((c.tc : Thread Cert.AdamUpRefIdeal.nD Cert.AdamUpRefIdeal.τ).loc Cert.AdamUpRefIdeal.main_v26) = v1 c
          ∧ r.2.mem ((c.tc : Thread Cert.AdamUpRefIdeal.nD Cert.AdamUpRefIdeal.τ).loc Cert.AdamUpRefIdeal.main_v7) = v2 c
          ∧ r.2.mem ((c.tc : Thread Cert.AdamUpRefIdeal.nD Cert.AdamUpRefIdeal.τ).loc Cert.AdamUpRefIdeal.main_v13) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v2) = v0 c
          ∧ r.2.mem ((c.tc : Thread Cert.AdamDownRefIdeal.nD Cert.AdamDownRefIdeal.τ).loc Cert.AdamDownRefIdeal.main_v26) = v1 c
          ∧ r.2.mem ((c.tc : Thread Cert.AdamDownRefIdeal.nD Cert.AdamDownRefIdeal.τ).loc Cert.AdamDownRefIdeal.main_v7) = v2 c
          ∧ r.2.mem ((c.tc : Thread Cert.AdamDownRefIdeal.nD Cert.AdamDownRefIdeal.τ).loc Cert.AdamDownRefIdeal.main_v13) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSq_AdamSqIdeal : Prop :=
  True

def algebraic_AdamSqIdeal_AdamSqRefIdeal [hAdamSqIdeal : Cert.AdamSqIdeal.Facts] [hAdamSqRefIdeal : Cert.AdamSqRefIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg)
    (m' : (ℓ : Loc Cert.AdamSqRefIdeal.nD Cert.AdamSqRefIdeal.τ Cert.AdamSqRefIdeal.sig) → Buf (Elt Ideal) ℓ) (g' : Dev Cert.AdamSqRefIdeal.nD → PrngReg), Pre_AdamSqIdeal m →
    (∀ c : Dev Cert.AdamSqIdeal.nD,
      m' ((c.tc : Thread Cert.AdamSqRefIdeal.nD Cert.AdamSqRefIdeal.τ).loc Cert.AdamSqRefIdeal.main_arg0) = m ((c.tc : Thread Cert.AdamSqIdeal.nD Cert.AdamSqIdeal.τ).loc Cert.AdamSqIdeal.main_arg0)
      ∧ m' ((c.tc : Thread Cert.AdamSqRefIdeal.nD Cert.AdamSqRefIdeal.τ).loc Cert.AdamSqRefIdeal.main_arg1) = m ((c.tc : Thread Cert.AdamSqIdeal.nD Cert.AdamSqIdeal.τ).loc Cert.AdamSqIdeal.main_arg1)
      ∧ m' ((c.tc : Thread Cert.AdamSqRefIdeal.nD Cert.AdamSqRefIdeal.τ).loc Cert.AdamSqRefIdeal.main_arg2) = m ((c.tc : Thread Cert.AdamSqIdeal.nD Cert.AdamSqIdeal.τ).loc Cert.AdamSqIdeal.main_arg2)
      ∧ m' ((c.tc : Thread Cert.AdamSqRefIdeal.nD Cert.AdamSqRefIdeal.τ).loc Cert.AdamSqRefIdeal.main_arg3) = m ((c.tc : Thread Cert.AdamSqIdeal.nD Cert.AdamSqIdeal.τ).loc Cert.AdamSqIdeal.main_arg3)) →
    ∃ (v0 : (c : Dev Cert.AdamSqIdeal.nD) → Buf (Elt Ideal) ((c.tc : Thread Cert.AdamSqIdeal.nD Cert.AdamSqIdeal.τ).loc Cert.AdamSqIdeal.main_v0_0)) (v1 : (c : Dev Cert.AdamSqIdeal.nD) → Buf (Elt Ideal) ((c.tc : Thread Cert.AdamSqIdeal.nD Cert.AdamSqIdeal.τ).loc Cert.AdamSqIdeal.main_v0_1)) (v2 : (c : Dev Cert.AdamSqIdeal.nD) → Buf (Elt Ideal) ((c.tc : Thread Cert.AdamSqIdeal.nD Cert.AdamSqIdeal.τ).loc Cert.AdamSqIdeal.main_v0_2)) (v3 : (c : Dev Cert.AdamSqIdeal.nD) → Buf (Elt Ideal) ((c.tc : Thread Cert.AdamSqIdeal.nD Cert.AdamSqIdeal.τ).loc Cert.AdamSqIdeal.main_v0_3)),
      θ_run (Cert.AdamSqIdeal.defs (F := Ideal)) (onTc (τ := Cert.AdamSqIdeal.τ) (Cert.AdamSqIdeal.main (F := Ideal))) ⟨m, fun _ => 0, g⟩ (fun r => ∀ c : Dev Cert.AdamSqIdeal.nD,
          r.2.mem ((c.tc : Thread Cert.AdamSqIdeal.nD Cert.AdamSqIdeal.τ).loc Cert.AdamSqIdeal.main_v0_0) = v0 c
          ∧ r.2.mem ((c.tc : Thread Cert.AdamSqIdeal.nD Cert.AdamSqIdeal.τ).loc Cert.AdamSqIdeal.main_v0_1) = v1 c
          ∧ r.2.mem ((c.tc : Thread Cert.AdamSqIdeal.nD Cert.AdamSqIdeal.τ).loc Cert.AdamSqIdeal.main_v0_2) = v2 c
          ∧ r.2.mem ((c.tc : Thread Cert.AdamSqIdeal.nD Cert.AdamSqIdeal.τ).loc Cert.AdamSqIdeal.main_v0_3) = v3 c
          ∧ r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
          ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
          ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
          ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3))
      ∧ θ_run (Cert.AdamSqRefIdeal.defs (F := Ideal)) (onTc (τ := Cert.AdamSqRefIdeal.τ) (Cert.AdamSqRefIdeal.main (F := Ideal))) ⟨m', fun _ => 0, g'⟩ (fun r => ∀ c : Dev Cert.AdamSqRefIdeal.nD,
          r.2.mem ((c.tc : Thread Cert.AdamSqRefIdeal.nD Cert.AdamSqRefIdeal.τ).loc Cert.AdamSqRefIdeal.main_v2) = v0 c
          ∧ r.2.mem ((c.tc : Thread Cert.AdamSqRefIdeal.nD Cert.AdamSqRefIdeal.τ).loc Cert.AdamSqRefIdeal.main_v26) = v1 c
          ∧ r.2.mem ((c.tc : Thread Cert.AdamSqRefIdeal.nD Cert.AdamSqRefIdeal.τ).loc Cert.AdamSqRefIdeal.main_v7) = v2 c
          ∧ r.2.mem ((c.tc : Thread Cert.AdamSqRefIdeal.nD Cert.AdamSqRefIdeal.τ).loc Cert.AdamSqRefIdeal.main_v13) = v3 c
          ∧ r.2.mem ((c.tc : Thread Cert.AdamSqRefIdeal.nD Cert.AdamSqRefIdeal.τ).loc Cert.AdamSqRefIdeal.main_arg0) = m' ((c.tc : Thread Cert.AdamSqRefIdeal.nD Cert.AdamSqRefIdeal.τ).loc Cert.AdamSqRefIdeal.main_arg0)
          ∧ r.2.mem ((c.tc : Thread Cert.AdamSqRefIdeal.nD Cert.AdamSqRefIdeal.τ).loc Cert.AdamSqRefIdeal.main_arg1) = m' ((c.tc : Thread Cert.AdamSqRefIdeal.nD Cert.AdamSqRefIdeal.τ).loc Cert.AdamSqRefIdeal.main_arg1)
          ∧ r.2.mem ((c.tc : Thread Cert.AdamSqRefIdeal.nD Cert.AdamSqRefIdeal.τ).loc Cert.AdamSqRefIdeal.main_arg2) = m' ((c.tc : Thread Cert.AdamSqRefIdeal.nD Cert.AdamSqRefIdeal.τ).loc Cert.AdamSqRefIdeal.main_arg2)
          ∧ r.2.mem ((c.tc : Thread Cert.AdamSqRefIdeal.nD Cert.AdamSqRefIdeal.τ).loc Cert.AdamSqRefIdeal.main_arg3) = m' ((c.tc : Thread Cert.AdamSqRefIdeal.nD Cert.AdamSqRefIdeal.τ).loc Cert.AdamSqRefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v1) = v0 c
          ∧ r.2.mem ((c.tc : Thread Cert.AdamAdaRefIdeal.nD Cert.AdamAdaRefIdeal.τ).loc Cert.AdamAdaRefIdeal.main_v25) = v1 c
          ∧ r.2.mem ((c.tc : Thread Cert.AdamAdaRefIdeal.nD Cert.AdamAdaRefIdeal.τ).loc Cert.AdamAdaRefIdeal.main_v6) = v2 c
          ∧ r.2.mem ((c.tc : Thread Cert.AdamAdaRefIdeal.nD Cert.AdamAdaRefIdeal.τ).loc Cert.AdamAdaRefIdeal.main_v12) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_ModBwd_ModBwdIdeal : Prop :=
  True

def algebraic_ModBwdIdeal_ModBwdRefIdeal [hModBwdIdeal : Cert.ModBwdIdeal.Facts] [hModBwdRefIdeal : Cert.ModBwdRefIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg)
    (m' : (ℓ : Loc Cert.ModBwdRefIdeal.nD Cert.ModBwdRefIdeal.τ Cert.ModBwdRefIdeal.sig) → Buf (Elt Ideal) ℓ) (g' : Dev Cert.ModBwdRefIdeal.nD → PrngReg), Pre_ModBwdIdeal m →
    (∀ c : Dev Cert.ModBwdIdeal.nD,
      m' ((c.tc : Thread Cert.ModBwdRefIdeal.nD Cert.ModBwdRefIdeal.τ).loc Cert.ModBwdRefIdeal.main_arg0) = m ((c.tc : Thread Cert.ModBwdIdeal.nD Cert.ModBwdIdeal.τ).loc Cert.ModBwdIdeal.main_arg0)
      ∧ m' ((c.tc : Thread Cert.ModBwdRefIdeal.nD Cert.ModBwdRefIdeal.τ).loc Cert.ModBwdRefIdeal.main_arg1) = m ((c.tc : Thread Cert.ModBwdIdeal.nD Cert.ModBwdIdeal.τ).loc Cert.ModBwdIdeal.main_arg1)
      ∧ m' ((c.tc : Thread Cert.ModBwdRefIdeal.nD Cert.ModBwdRefIdeal.τ).loc Cert.ModBwdRefIdeal.main_arg2) = m ((c.tc : Thread Cert.ModBwdIdeal.nD Cert.ModBwdIdeal.τ).loc Cert.ModBwdIdeal.main_arg2)
      ∧ m' ((c.tc : Thread Cert.ModBwdRefIdeal.nD Cert.ModBwdRefIdeal.τ).loc Cert.ModBwdRefIdeal.main_arg3) = m ((c.tc : Thread Cert.ModBwdIdeal.nD Cert.ModBwdIdeal.τ).loc Cert.ModBwdIdeal.main_arg3)) →
    ∃ (v0 : (c : Dev Cert.ModBwdIdeal.nD) → Buf (Elt Ideal) ((c.tc : Thread Cert.ModBwdIdeal.nD Cert.ModBwdIdeal.τ).loc Cert.ModBwdIdeal.main_v0_0)) (v1 : (c : Dev Cert.ModBwdIdeal.nD) → Buf (Elt Ideal) ((c.tc : Thread Cert.ModBwdIdeal.nD Cert.ModBwdIdeal.τ).loc Cert.ModBwdIdeal.main_v0_1)) (v2 : (c : Dev Cert.ModBwdIdeal.nD) → Buf (Elt Ideal) ((c.tc : Thread Cert.ModBwdIdeal.nD Cert.ModBwdIdeal.τ).loc Cert.ModBwdIdeal.main_v0_2)),
      θ_run (Cert.ModBwdIdeal.defs (F := Ideal)) (onTc (τ := Cert.ModBwdIdeal.τ) (Cert.ModBwdIdeal.main (F := Ideal))) ⟨m, fun _ => 0, g⟩ (fun r => ∀ c : Dev Cert.ModBwdIdeal.nD,
          r.2.mem ((c.tc : Thread Cert.ModBwdIdeal.nD Cert.ModBwdIdeal.τ).loc Cert.ModBwdIdeal.main_v0_0) = v0 c
          ∧ r.2.mem ((c.tc : Thread Cert.ModBwdIdeal.nD Cert.ModBwdIdeal.τ).loc Cert.ModBwdIdeal.main_v0_1) = v1 c
          ∧ r.2.mem ((c.tc : Thread Cert.ModBwdIdeal.nD Cert.ModBwdIdeal.τ).loc Cert.ModBwdIdeal.main_v0_2) = v2 c
          ∧ r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
          ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
          ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2)
          ∧ r.2.mem ((c.tc : Thread Cert.ModBwdIdeal.nD Cert.ModBwdIdeal.τ).loc Cert.ModBwdIdeal.main_arg3) = m ((c.tc : Thread Cert.ModBwdIdeal.nD Cert.ModBwdIdeal.τ).loc Cert.ModBwdIdeal.main_arg3))
      ∧ θ_run (Cert.ModBwdRefIdeal.defs (F := Ideal)) (onTc (τ := Cert.ModBwdRefIdeal.τ) (Cert.ModBwdRefIdeal.main (F := Ideal))) ⟨m', fun _ => 0, g'⟩ (fun r => ∀ c : Dev Cert.ModBwdRefIdeal.nD,
          r.2.mem ((c.tc : Thread Cert.ModBwdRefIdeal.nD Cert.ModBwdRefIdeal.τ).loc Cert.ModBwdRefIdeal.main_v15) = v0 c
          ∧ r.2.mem ((c.tc : Thread Cert.ModBwdRefIdeal.nD Cert.ModBwdRefIdeal.τ).loc Cert.ModBwdRefIdeal.main_v12) = v1 c
          ∧ r.2.mem ((c.tc : Thread Cert.ModBwdRefIdeal.nD Cert.ModBwdRefIdeal.τ).loc Cert.ModBwdRefIdeal.main_v9) = v2 c
          ∧ r.2.mem ((c.tc : Thread Cert.ModBwdRefIdeal.nD Cert.ModBwdRefIdeal.τ).loc Cert.ModBwdRefIdeal.main_arg0) = m' ((c.tc : Thread Cert.ModBwdRefIdeal.nD Cert.ModBwdRefIdeal.τ).loc Cert.ModBwdRefIdeal.main_arg0)
          ∧ r.2.mem ((c.tc : Thread Cert.ModBwdRefIdeal.nD Cert.ModBwdRefIdeal.τ).loc Cert.ModBwdRefIdeal.main_arg1) = m' ((c.tc : Thread Cert.ModBwdRefIdeal.nD Cert.ModBwdRefIdeal.τ).loc Cert.ModBwdRefIdeal.main_arg1)
          ∧ r.2.mem ((c.tc : Thread Cert.ModBwdRefIdeal.nD Cert.ModBwdRefIdeal.τ).loc Cert.ModBwdRefIdeal.main_arg2) = m' ((c.tc : Thread Cert.ModBwdRefIdeal.nD Cert.ModBwdRefIdeal.τ).loc Cert.ModBwdRefIdeal.main_arg2)
          ∧ r.2.mem ((c.tc : Thread Cert.ModBwdRefIdeal.nD Cert.ModBwdRefIdeal.τ).loc Cert.ModBwdRefIdeal.main_arg3) = m' ((c.tc : Thread Cert.ModBwdRefIdeal.nD Cert.ModBwdRefIdeal.τ).loc Cert.ModBwdRefIdeal.main_arg3))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v0)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v0) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v6) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v3) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_AdaGrad_AdaGradIdeal : Prop :=
  True

def algebraic_AdaGradIdeal_AdaGradRefIdeal [hAdaGradIdeal : Cert.AdaGradIdeal.Facts] [hAdaGradRefIdeal : Cert.AdaGradRefIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg)
    (m' : (ℓ : Loc Cert.AdaGradRefIdeal.nD Cert.AdaGradRefIdeal.τ Cert.AdaGradRefIdeal.sig) → Buf (Elt Ideal) ℓ) (g' : Dev Cert.AdaGradRefIdeal.nD → PrngReg), Pre_AdaGradIdeal m →
    (∀ c : Dev Cert.AdaGradIdeal.nD,
      m' ((c.tc : Thread Cert.AdaGradRefIdeal.nD Cert.AdaGradRefIdeal.τ).loc Cert.AdaGradRefIdeal.main_arg0) = m ((c.tc : Thread Cert.AdaGradIdeal.nD Cert.AdaGradIdeal.τ).loc Cert.AdaGradIdeal.main_arg0)
      ∧ m' ((c.tc : Thread Cert.AdaGradRefIdeal.nD Cert.AdaGradRefIdeal.τ).loc Cert.AdaGradRefIdeal.main_arg1) = m ((c.tc : Thread Cert.AdaGradIdeal.nD Cert.AdaGradIdeal.τ).loc Cert.AdaGradIdeal.main_arg1)) →
    ∃ (v0 : (c : Dev Cert.AdaGradIdeal.nD) → Buf (Elt Ideal) ((c.tc : Thread Cert.AdaGradIdeal.nD Cert.AdaGradIdeal.τ).loc Cert.AdaGradIdeal.main_v0)),
      θ_run (Cert.AdaGradIdeal.defs (F := Ideal)) (onTc (τ := Cert.AdaGradIdeal.τ) (Cert.AdaGradIdeal.main (F := Ideal))) ⟨m, fun _ => 0, g⟩ (fun r => ∀ c : Dev Cert.AdaGradIdeal.nD,
          r.2.mem ((c.tc : Thread Cert.AdaGradIdeal.nD Cert.AdaGradIdeal.τ).loc Cert.AdaGradIdeal.main_v0) = v0 c
          ∧ r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
          ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ θ_run (Cert.AdaGradRefIdeal.defs (F := Ideal)) (onTc (τ := Cert.AdaGradRefIdeal.τ) (Cert.AdaGradRefIdeal.main (F := Ideal))) ⟨m', fun _ => 0, g'⟩ (fun r => ∀ c : Dev Cert.AdaGradRefIdeal.nD,
          r.2.mem ((c.tc : Thread Cert.AdaGradRefIdeal.nD Cert.AdaGradRefIdeal.τ).loc Cert.AdaGradRefIdeal.main_v5) = v0 c
          ∧ r.2.mem ((c.tc : Thread Cert.AdaGradRefIdeal.nD Cert.AdaGradRefIdeal.τ).loc Cert.AdaGradRefIdeal.main_arg0) = m' ((c.tc : Thread Cert.AdaGradRefIdeal.nD Cert.AdaGradRefIdeal.τ).loc Cert.AdaGradRefIdeal.main_arg0)
          ∧ r.2.mem ((c.tc : Thread Cert.AdaGradRefIdeal.nD Cert.AdaGradRefIdeal.τ).loc Cert.AdaGradRefIdeal.main_arg1) = m' ((c.tc : Thread Cert.AdaGradRefIdeal.nD Cert.AdaGradRefIdeal.τ).loc Cert.AdaGradRefIdeal.main_arg1))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v21) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_Scan_ScanIdeal : Prop :=
  True

def algebraic_ScanIdeal_ScanRefIdeal [hScanIdeal : Cert.ScanIdeal.Facts] [hScanRefIdeal : Cert.ScanRefIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)
      ∧ m' ((c.tc : Thread Cert.ScanRefIdeal.nD Cert.ScanRefIdeal.τ).loc Cert.ScanRefIdeal.main_arg7) = m ((c.tc : Thread Cert.ScanIdeal.nD Cert.ScanIdeal.τ).loc Cert.ScanIdeal.main_arg7)) →
    ∃ (v0 : (c : Dev Cert.ScanIdeal.nD) → Buf (Elt Ideal) ((c.tc : Thread Cert.ScanIdeal.nD Cert.ScanIdeal.τ).loc Cert.ScanIdeal.main_v0_0)) (v1 : (c : Dev Cert.ScanIdeal.nD) → Buf (Elt Ideal) ((c.tc : Thread Cert.ScanIdeal.nD Cert.ScanIdeal.τ).loc Cert.ScanIdeal.main_v0_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v0_0) = v0 c
          ∧ r.2.mem ((c.tc : Thread Cert.ScanIdeal.nD Cert.ScanIdeal.τ).loc Cert.ScanIdeal.main_v0_1) = v1 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
          ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v21) = v0 c
          ∧ r.2.mem ((c.tc : Thread Cert.ScanRefIdeal.nD Cert.ScanRefIdeal.τ).loc Cert.ScanRefIdeal.main_v18_11) = v1 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5)
          ∧ r.2.mem ((c.tc : Thread Cert.ScanRefIdeal.nD Cert.ScanRefIdeal.τ).loc Cert.ScanRefIdeal.main_arg6) = m' ((c.tc : Thread Cert.ScanRefIdeal.nD Cert.ScanRefIdeal.τ).loc Cert.ScanRefIdeal.main_arg6)
          ∧ r.2.mem ((c.tc : Thread Cert.ScanRefIdeal.nD Cert.ScanRefIdeal.τ).loc Cert.ScanRefIdeal.main_arg7) = m' ((c.tc : Thread Cert.ScanRefIdeal.nD Cert.ScanRefIdeal.τ).loc Cert.ScanRefIdeal.main_arg7))

def Claim : Prop :=
  ∃ (hKernel : Cert.Kernel.Facts) (hKernelIdeal : Cert.KernelIdeal.Facts) (hReferenceIdeal : Cert.ReferenceIdeal.Facts) (hDgradUp : Cert.DgradUp.Facts) (hDgradUpIdeal : Cert.DgradUpIdeal.Facts) (hDgradUpRefIdeal : Cert.DgradUpRefIdeal.Facts) (hDgradIn : Cert.DgradIn.Facts) (hDgradInIdeal : Cert.DgradInIdeal.Facts) (hDgradInRefIdeal : Cert.DgradInRefIdeal.Facts) (hWgradPre : Cert.WgradPre.Facts) (hWgradPreIdeal : Cert.WgradPreIdeal.Facts) (hWgradPreRefIdeal : Cert.WgradPreRefIdeal.Facts) (hWgradSq : Cert.WgradSq.Facts) (hWgradSqIdeal : Cert.WgradSqIdeal.Facts) (hWgradSqRefIdeal : Cert.WgradSqRefIdeal.Facts) (hWgradBa : Cert.WgradBa.Facts) (hWgradBaIdeal : Cert.WgradBaIdeal.Facts) (hWgradBaRefIdeal : Cert.WgradBaRefIdeal.Facts) (hWgradUp : Cert.WgradUp.Facts) (hWgradUpIdeal : Cert.WgradUpIdeal.Facts) (hWgradUpRefIdeal : Cert.WgradUpRefIdeal.Facts) (hWgradDown : Cert.WgradDown.Facts) (hWgradDownIdeal : Cert.WgradDownIdeal.Facts) (hWgradDownRefIdeal : Cert.WgradDownRefIdeal.Facts) (hFwdIn : Cert.FwdIn.Facts) (hFwdInIdeal : Cert.FwdInIdeal.Facts) (hFwdInRefIdeal : Cert.FwdInRefIdeal.Facts) (hFwdUp : Cert.FwdUp.Facts) (hFwdUpIdeal : Cert.FwdUpIdeal.Facts) (hFwdUpRefIdeal : Cert.FwdUpRefIdeal.Facts) (hHead : Cert.Head.Facts) (hHeadIdeal : Cert.HeadIdeal.Facts) (hHeadRefIdeal : Cert.HeadRefIdeal.Facts) (hMerge : Cert.Merge.Facts) (hMergeIdeal : Cert.MergeIdeal.Facts) (hMergeRefIdeal : Cert.MergeRefIdeal.Facts) (hMergeBwd : Cert.MergeBwd.Facts) (hMergeBwdIdeal : Cert.MergeBwdIdeal.Facts) (hMergeBwdRefIdeal : Cert.MergeBwdRefIdeal.Facts) (hAdamIn : Cert.AdamIn.Facts) (hAdamInIdeal : Cert.AdamInIdeal.Facts) (hAdamInRefIdeal : Cert.AdamInRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamSq : Cert.AdamSq.Facts) (hAdamSqIdeal : Cert.AdamSqIdeal.Facts) (hAdamSqRefIdeal : Cert.AdamSqRefIdeal.Facts) (hAdamAda : Cert.AdamAda.Facts) (hAdamAdaIdeal : Cert.AdamAdaIdeal.Facts) (hAdamAdaRefIdeal : Cert.AdamAdaRefIdeal.Facts) (hModBwd : Cert.ModBwd.Facts) (hModBwdIdeal : Cert.ModBwdIdeal.Facts) (hModBwdRefIdeal : Cert.ModBwdRefIdeal.Facts) (hMod : Cert.Mod.Facts) (hModIdeal : Cert.ModIdeal.Facts) (hModRefIdeal : Cert.ModRefIdeal.Facts) (hAda : Cert.Ada.Facts) (hAdaIdeal : Cert.AdaIdeal.Facts) (hAdaRefIdeal : Cert.AdaRefIdeal.Facts) (hAdaGrad : Cert.AdaGrad.Facts) (hAdaGradIdeal : Cert.AdaGradIdeal.Facts) (hAdaGradRefIdeal : Cert.AdaGradRefIdeal.Facts) (hAct : Cert.Act.Facts) (hActIdeal : Cert.ActIdeal.Facts) (hActRefIdeal : Cert.ActRefIdeal.Facts) (hScan : Cert.Scan.Facts) (hScanIdeal : Cert.ScanIdeal.Facts) (hScanRefIdeal : Cert.ScanRefIdeal.Facts),
    quiescent_Kernel (hKernel := hKernel)
    ∧ quiescent_KernelIdeal (hKernelIdeal := hKernelIdeal)
    ∧ quiescent_ReferenceIdeal (hReferenceIdeal := hReferenceIdeal)
    ∧ quiescent_DgradUp (hDgradUp := hDgradUp)
    ∧ quiescent_DgradUpIdeal (hDgradUpIdeal := hDgradUpIdeal)
    ∧ quiescent_DgradUpRefIdeal (hDgradUpRefIdeal := hDgradUpRefIdeal)
    ∧ quiescent_DgradIn (hDgradIn := hDgradIn)
    ∧ quiescent_DgradInIdeal (hDgradInIdeal := hDgradInIdeal)
    ∧ quiescent_DgradInRefIdeal (hDgradInRefIdeal := hDgradInRefIdeal)
    ∧ quiescent_WgradPre (hWgradPre := hWgradPre)
    ∧ quiescent_WgradPreIdeal (hWgradPreIdeal := hWgradPreIdeal)
    ∧ quiescent_WgradPreRefIdeal (hWgradPreRefIdeal := hWgradPreRefIdeal)
    ∧ quiescent_WgradSq (hWgradSq := hWgradSq)
    ∧ quiescent_WgradSqIdeal (hWgradSqIdeal := hWgradSqIdeal)
    ∧ quiescent_WgradSqRefIdeal (hWgradSqRefIdeal := hWgradSqRefIdeal)
    ∧ quiescent_WgradBa (hWgradBa := hWgradBa)
    ∧ quiescent_WgradBaIdeal (hWgradBaIdeal := hWgradBaIdeal)
    ∧ quiescent_WgradBaRefIdeal (hWgradBaRefIdeal := hWgradBaRefIdeal)
    ∧ quiescent_WgradUp (hWgradUp := hWgradUp)
    ∧ quiescent_WgradUpIdeal (hWgradUpIdeal := hWgradUpIdeal)
    ∧ quiescent_WgradUpRefIdeal (hWgradUpRefIdeal := hWgradUpRefIdeal)
    ∧ quiescent_WgradDown (hWgradDown := hWgradDown)
    ∧ quiescent_WgradDownIdeal (hWgradDownIdeal := hWgradDownIdeal)
    ∧ quiescent_WgradDownRefIdeal (hWgradDownRefIdeal := hWgradDownRefIdeal)
    ∧ quiescent_FwdIn (hFwdIn := hFwdIn)
    ∧ quiescent_FwdInIdeal (hFwdInIdeal := hFwdInIdeal)
    ∧ quiescent_FwdInRefIdeal (hFwdInRefIdeal := hFwdInRefIdeal)
    ∧ quiescent_FwdUp (hFwdUp := hFwdUp)
    ∧ quiescent_FwdUpIdeal (hFwdUpIdeal := hFwdUpIdeal)
    ∧ quiescent_FwdUpRefIdeal (hFwdUpRefIdeal := hFwdUpRefIdeal)
    ∧ quiescent_Head (hHead := hHead)
    ∧ quiescent_HeadIdeal (hHeadIdeal := hHeadIdeal)
    ∧ quiescent_HeadRefIdeal (hHeadRefIdeal := hHeadRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSq (hAdamSq := hAdamSq)
    ∧ quiescent_AdamSqIdeal (hAdamSqIdeal := hAdamSqIdeal)
    ∧ quiescent_AdamSqRefIdeal (hAdamSqRefIdeal := hAdamSqRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_ModBwd (hModBwd := hModBwd)
    ∧ quiescent_ModBwdIdeal (hModBwdIdeal := hModBwdIdeal)
    ∧ quiescent_ModBwdRefIdeal (hModBwdRefIdeal := hModBwdRefIdeal)
    ∧ quiescent_Mod (hMod := hMod)
    ∧ quiescent_ModIdeal (hModIdeal := hModIdeal)
    ∧ quiescent_ModRefIdeal (hModRefIdeal := hModRefIdeal)
    ∧ quiescent_Ada (hAda := hAda)
    ∧ quiescent_AdaIdeal (hAdaIdeal := hAdaIdeal)
    ∧ quiescent_AdaRefIdeal (hAdaRefIdeal := hAdaRefIdeal)
    ∧ quiescent_AdaGrad (hAdaGrad := hAdaGrad)
    ∧ quiescent_AdaGradIdeal (hAdaGradIdeal := hAdaGradIdeal)
    ∧ quiescent_AdaGradRefIdeal (hAdaGradRefIdeal := hAdaGradRefIdeal)
    ∧ quiescent_Act (hAct := hAct)
    ∧ quiescent_ActIdeal (hActIdeal := hActIdeal)
    ∧ quiescent_ActRefIdeal (hActRefIdeal := hActRefIdeal)
    ∧ quiescent_Scan (hScan := hScan)
    ∧ quiescent_ScanIdeal (hScanIdeal := hScanIdeal)
    ∧ quiescent_ScanRefIdeal (hScanRefIdeal := hScanRefIdeal)
    ∧ preserves_Kernel_KernelIdeal
    ∧ algebraic_KernelIdeal_ReferenceIdeal (hKernelIdeal := hKernelIdeal) (hReferenceIdeal := hReferenceIdeal)
    ∧ preserves_DgradUp_DgradUpIdeal
    ∧ algebraic_DgradUpIdeal_DgradUpRefIdeal (hDgradUpIdeal := hDgradUpIdeal) (hDgradUpRefIdeal := hDgradUpRefIdeal)
    ∧ preserves_DgradIn_DgradInIdeal
    ∧ algebraic_DgradInIdeal_DgradInRefIdeal (hDgradInIdeal := hDgradInIdeal) (hDgradInRefIdeal := hDgradInRefIdeal)
    ∧ preserves_WgradPre_WgradPreIdeal
    ∧ algebraic_WgradPreIdeal_WgradPreRefIdeal (hWgradPreIdeal := hWgradPreIdeal) (hWgradPreRefIdeal := hWgradPreRefIdeal)
    ∧ preserves_WgradSq_WgradSqIdeal
    ∧ algebraic_WgradSqIdeal_WgradSqRefIdeal (hWgradSqIdeal := hWgradSqIdeal) (hWgradSqRefIdeal := hWgradSqRefIdeal)
    ∧ preserves_WgradBa_WgradBaIdeal
    ∧ algebraic_WgradBaIdeal_WgradBaRefIdeal (hWgradBaIdeal := hWgradBaIdeal) (hWgradBaRefIdeal := hWgradBaRefIdeal)
    ∧ preserves_WgradUp_WgradUpIdeal
    ∧ algebraic_WgradUpIdeal_WgradUpRefIdeal (hWgradUpIdeal := hWgradUpIdeal) (hWgradUpRefIdeal := hWgradUpRefIdeal)
    ∧ preserves_WgradDown_WgradDownIdeal
    ∧ algebraic_WgradDownIdeal_WgradDownRefIdeal (hWgradDownIdeal := hWgradDownIdeal) (hWgradDownRefIdeal := hWgradDownRefIdeal)
    ∧ preserves_FwdIn_FwdInIdeal
    ∧ algebraic_FwdInIdeal_FwdInRefIdeal (hFwdInIdeal := hFwdInIdeal) (hFwdInRefIdeal := hFwdInRefIdeal)
    ∧ preserves_FwdUp_FwdUpIdeal
    ∧ algebraic_FwdUpIdeal_FwdUpRefIdeal (hFwdUpIdeal := hFwdUpIdeal) (hFwdUpRefIdeal := hFwdUpRefIdeal)
    ∧ preserves_Head_HeadIdeal
    ∧ algebraic_HeadIdeal_HeadRefIdeal (hHeadIdeal := hHeadIdeal) (hHeadRefIdeal := hHeadRefIdeal)
    ∧ preserves_Merge_MergeIdeal
    ∧ algebraic_MergeIdeal_MergeRefIdeal (hMergeIdeal := hMergeIdeal) (hMergeRefIdeal := hMergeRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_AdamIn_AdamInIdeal
    ∧ algebraic_AdamInIdeal_AdamInRefIdeal (hAdamInIdeal := hAdamInIdeal) (hAdamInRefIdeal := hAdamInRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSq_AdamSqIdeal
    ∧ algebraic_AdamSqIdeal_AdamSqRefIdeal (hAdamSqIdeal := hAdamSqIdeal) (hAdamSqRefIdeal := hAdamSqRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_ModBwd_ModBwdIdeal
    ∧ algebraic_ModBwdIdeal_ModBwdRefIdeal (hModBwdIdeal := hModBwdIdeal) (hModBwdRefIdeal := hModBwdRefIdeal)
    ∧ preserves_Mod_ModIdeal
    ∧ algebraic_ModIdeal_ModRefIdeal (hModIdeal := hModIdeal) (hModRefIdeal := hModRefIdeal)
    ∧ preserves_Ada_AdaIdeal
    ∧ algebraic_AdaIdeal_AdaRefIdeal (hAdaIdeal := hAdaIdeal) (hAdaRefIdeal := hAdaRefIdeal)
    ∧ preserves_AdaGrad_AdaGradIdeal
    ∧ algebraic_AdaGradIdeal_AdaGradRefIdeal (hAdaGradIdeal := hAdaGradIdeal) (hAdaGradRefIdeal := hAdaGradRefIdeal)
    ∧ preserves_Act_ActIdeal
    ∧ algebraic_ActIdeal_ActRefIdeal (hActIdeal := hActIdeal) (hActRefIdeal := hActRefIdeal)
    ∧ preserves_Scan_ScanIdeal
    ∧ algebraic_ScanIdeal_ScanRefIdeal (hScanIdeal := hScanIdeal) (hScanRefIdeal := hScanRefIdeal)
-- ==== Kernel.lean ====
abbrev S8x8192x128 : Shape := ⟨3, ![8, 8192, 128]⟩
abbrev S128x8x64x64 : Shape := ⟨4, ![128, 8, 64, 64]⟩
abbrev S128x8x1x128 : Shape := ⟨4, ![128, 8, 1, 128]⟩
abbrev S8192x9728 : Shape := ⟨2, ![8192, 9728]⟩
abbrev S1x128 : Shape := ⟨2, ![1, 128]⟩
abbrev S128x8x128x128 : Shape := ⟨4, ![128, 8, 128, 128]⟩
abbrev S8192x1024 : Shape := ⟨2, ![8192, 1024]⟩
abbrev S8x512x128 : Shape := ⟨3, ![8, 512, 128]⟩
abbrev S8x8x64x64 : Shape := ⟨4, ![8, 8, 64, 64]⟩
abbrev S8x8x1x128 : Shape := ⟨4, ![8, 8, 1, 128]⟩
abbrev S512x1024 : Shape := ⟨2, ![512, 1024]⟩
abbrev S8x8x128x128 : Shape := ⟨4, ![8, 8, 128, 128]⟩
abbrev S8x128x128 : Shape := ⟨3, ![8, 128, 128]⟩
abbrev S1x8x128x128 : Shape := ⟨4, ![1, 8, 128, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8x1x128 : Shape := ⟨4, ![1, 8, 1, 128]⟩
abbrev S8x1x128 : Shape := ⟨3, ![8, 1, 128]⟩
abbrev S64x128 : Shape := ⟨2, ![64, 128]⟩
abbrev S1x64x128 : Shape := ⟨3, ![1, 64, 128]⟩
abbrev S8x64 : Shape := ⟨2, ![8, 64]⟩
abbrev S8x64x1 : Shape := ⟨3, ![8, 64, 1]⟩
abbrev S1x1x128 : Shape := ⟨3, ![1, 1, 128]⟩
abbrev S128 : Shape := ⟨1, ![128]⟩
abbrev S8x128 : Shape := ⟨2, ![8, 128]⟩

abbrev nBuf : Space → Nat
  | .hbm => 18
  | .vmem => 35
  | .smem => 0
  | _ => 0

abbrev bufTy : (tb : Table) → Fin (tcTables nBuf tb) → BufTy
  | .hbm, ⟨0, _⟩ => ⟨S8x8192x128, .f32⟩
  | .hbm, ⟨1, _⟩ => ⟨S8x8192x128, .bf16⟩
  | .hbm, ⟨2, _⟩ => ⟨S8x8192x128, .bf16⟩
  | .hbm, ⟨3, _⟩ => ⟨S8x8192x128, .bf16⟩
  | .hbm, ⟨4, _⟩ => ⟨S128x8x64x64, .bf16⟩
  | .hbm, ⟨5, _⟩ => ⟨S128x8x1x128, .f32⟩
  | .hbm, ⟨6, _⟩ => ⟨S8192x9728, .f32⟩
  | .hbm, ⟨7, _⟩ => ⟨S1x128, .f32⟩
  | .hbm, ⟨8, _⟩ => ⟨S128x8x128x128, .f32⟩
  | .hbm, ⟨9, _⟩ => ⟨S8192x1024, .f32⟩
  | .hbm, ⟨10, _⟩ => ⟨S8x8192x128, .bf16⟩
  | .hbm, ⟨11, _⟩ => ⟨S8x8192x128, .bf16⟩
  | .hbm, ⟨12, _⟩ => ⟨S8x8192x128, .f32⟩
  | .hbm, ⟨13, _⟩ => ⟨S8x8192x128, .f32⟩
  | .hbm, ⟨14, _⟩ => ⟨S128x8x64x64, .f32⟩
  | .hbm, ⟨15, _⟩ => ⟨S128x8x1x128, .f32⟩
  | .hbm, ⟨16, _⟩ => ⟨S8192x1024, .bf16⟩
  | .hbm, ⟨17, _⟩ => ⟨S1x128, .f32⟩
  | .local _ .vmem, ⟨0, _⟩ => ⟨S8x512x128, .f32⟩
  | .local _ .vmem, ⟨1, _⟩ => ⟨S8x512x128, .f32⟩
  | .local _ .vmem, ⟨2, _⟩ => ⟨S8x512x128, .bf16⟩
  | .local _ .vmem, ⟨3, _⟩ => ⟨S8x512x128, .bf16⟩
  | .local _ .vmem, ⟨4, _⟩ => ⟨S8x512x128, .bf16⟩
  | .local _ .vmem, ⟨5, _⟩ => ⟨S8x512x128, .bf16⟩
  | .local _ .vmem, ⟨6, _⟩ => ⟨S8x512x128, .bf16⟩
  | .local _ .vmem, ⟨7, _⟩ => ⟨S8x512x128, .bf16⟩
  | .local _ .vmem, ⟨8, _⟩ => ⟨S8x8x64x64, .bf16⟩
  | .local _ .vmem, ⟨9, _⟩ => ⟨S8x8x64x64, .bf16⟩
  | .local _ .vmem, ⟨10, _⟩ => ⟨S8x8x1x128, .f32⟩
  | .local _ .vmem, ⟨11, _⟩ => ⟨S8x8x1x128, .f32⟩
  | .local _ .vmem, ⟨12, _⟩ => ⟨S512x1024, .f32⟩
  | .local _ .vmem, ⟨13, _⟩ => ⟨S512x1024, .f32⟩
  | .local _ .vmem, ⟨14, _⟩ => ⟨S1x128, .f32⟩
  | .local _ .vmem, ⟨15, _⟩ => ⟨S8x8x128x128, .f32⟩
  | .local _ .vmem, ⟨16, _⟩ => ⟨S8x8x128x128, .f32⟩
  | .local _ .vmem, ⟨17, _⟩ => ⟨S512x1024, .f32⟩
  | .local _ .vmem, ⟨18, _⟩ => ⟨S512x1024, .f32⟩
  | .local _ .vmem, ⟨19, _⟩ => ⟨S8x512x128, .bf16⟩
  | .local _ .vmem, ⟨20, _⟩ => ⟨S8x512x128, .bf16⟩
  | .local _ .vmem, ⟨21, _⟩ => ⟨S8x512x128, .bf16⟩
  | .local _ .vmem, ⟨22, _⟩ => ⟨S8x512x128, .bf16⟩
  | .local _ .vmem, ⟨23, _⟩ => ⟨S8x512x128, .f32⟩
  | .local _ .vmem, ⟨24, _⟩ => ⟨S8x512x128, .f32⟩
  | .local _ .vmem, ⟨25, _⟩ => ⟨S8x512x128, .f32⟩
  | .local _ .vmem, ⟨26, _⟩ => ⟨S8x512x128, .f32⟩
  | .local _ .vmem, ⟨27, _⟩ => ⟨S8x8x64x64, .f32⟩
  | .local _ .vmem, ⟨28, _⟩ => ⟨S8x8x64x64, .f32⟩
  | .local _ .vmem, ⟨29, _⟩ => ⟨S8x8x1x128, .f32⟩
  | .local _ .vmem, ⟨30, _⟩ => ⟨S8x8x1x128, .f32⟩
  | .local _ .vmem, ⟨31, _⟩ => ⟨S512x1024, .bf16⟩
  | .local _ .vmem, ⟨32, _⟩ => ⟨S512x1024, .bf16⟩
  | .local _ .vmem, ⟨33, _⟩ => ⟨S1x128, .f32⟩
  | .local _ .vmem, ⟨34, _⟩ => ⟨S8x128x128, .f32⟩
  | _, _ => ⟨S8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_12 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_14 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_15 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_16 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x8x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x8x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x8x64x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x8x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S8x8192x128 : Shape := ⟨3, ![8, 8192, 128]⟩
abbrev S128x8x64x64 : Shape := ⟨4, ![128, 8, 64, 64]⟩
abbrev S128x8x1x128 : Shape := ⟨4, ![128, 8, 1, 128]⟩
abbrev S8192x9728 : Shape := ⟨2, ![8192, 9728]⟩
abbrev S1x128 : Shape := ⟨2, ![1, 128]⟩
abbrev S128x8x128x128 : Shape := ⟨4, ![128, 8, 128, 128]⟩
abbrev S8192x1024 : Shape := ⟨2, ![8192, 1024]⟩
abbrev S128x64x8x128 : Shape := ⟨4, ![128, 64, 8, 128]⟩
abbrev S128x8x64x128 : Shape := ⟨4, ![128, 8, 64, 128]⟩
abbrev S8x128x64x128 : Shape := ⟨4, ![8, 128, 64, 128]⟩
abbrev S_ : Shape := ⟨0, ![]⟩
abbrev S8x128x128 : Shape := ⟨3, ![8, 128, 128]⟩
abbrev S1x8x64x128 : Shape := ⟨4, ![1, 8, 64, 128]⟩
abbrev S8x64x128 : Shape := ⟨3, ![8, 64, 128]⟩
abbrev S1x8x128x128 : Shape := ⟨4, ![1, 8, 128, 128]⟩
abbrev S1x8x64x64 : Shape := ⟨4, ![1, 8, 64, 64]⟩
abbrev S8x64x64 : Shape := ⟨3, ![8, 64, 64]⟩
abbrev S1x8x1x128 : Shape := ⟨4, ![1, 8, 1, 128]⟩
abbrev S8x1x128 : Shape := ⟨3, ![8, 1, 128]⟩
abbrev S8x64 : Shape := ⟨2, ![8, 64]⟩
abbrev S8x64x1 : Shape := ⟨3, ![8, 64, 1]⟩
abbrev S1x1x128 : Shape := ⟨3, ![1, 1, 128]⟩
abbrev S128 : Shape := ⟨1, ![128]⟩
abbrev S8x128x64 : Shape := ⟨3, ![8, 128, 64]⟩
abbrev S8x128 : Shape := ⟨2, ![8, 128]⟩

abbrev nBuf : Space → Nat
  | .hbm => 267
  | .vmem => 0
  | .smem => 0
  | _ => 0

abbrev hbmTy0_0 (i : Nat) : BufTy := match i % 128 with
  | 0 => ⟨S8x8192x128, .f32⟩
  | 1 => ⟨S8x8192x128, .bf16⟩
  | 2 => ⟨S8x8192x128, .bf16⟩
  | 3 => ⟨S8x8192x128, .bf16⟩
  | 4 => ⟨S128x8x64x64, .bf16⟩
  | 5 => ⟨S128x8x1x128, .f32⟩
  | 6 => ⟨S8192x9728, .f32⟩
  | 7 => ⟨S1x128, .f32⟩
  | 8 => ⟨S128x8x128x128, .f32⟩
  | 9 => ⟨S8192x1024, .f32⟩
  | 10 => ⟨S8x8192x128, .f32⟩
  | 11 => ⟨S8x8192x128, .f32⟩
  | 12 => ⟨S8x8192x128, .f32⟩
  | 13 => ⟨S128x8x64x64, .f32⟩
  | 14 => ⟨S128x64x8x128, .f32⟩
  | 15 => ⟨S128x8x64x128, .f32⟩
  | 16 => ⟨S8x128x64x128, .f32⟩
  | 17 => ⟨S128x8x64x128, .f32⟩
  | 18 => ⟨S8x128x64x128, .f32⟩
  | 19 => ⟨S128x8x64x128, .f32⟩
  | 20 => ⟨S8x128x64x128, .f32⟩
  | 21 => ⟨S128x8x64x128, .f32⟩
  | 22 => ⟨S8x128x64x128, .f32⟩
  | 23 => ⟨S128x8x64x128, .f32⟩
  | 24 => ⟨S8192x1024, .f32⟩
  | 25 => ⟨S128x64x8x128, .f32⟩
  | 26 => ⟨S128x8x64x128, .f32⟩
  | 27 => ⟨S_, .f32⟩
  | 28 => ⟨S8x128x128, .f32⟩
  | 29 => ⟨S_, .f32⟩
  | 30 => ⟨S1x128, .f32⟩
  | 31 => ⟨S_, .f32⟩
  | 32 => ⟨S128x8x64x128, .f32⟩
  | 33 => ⟨S_, .f32⟩
  | 34 => ⟨S128x8x64x128, .f32⟩
  | 35 => ⟨S_, .f32⟩
  | 36 => ⟨S128x8x64x128, .f32⟩
  | 37 => ⟨S_, .f32⟩
  | 38 => ⟨S128x8x64x128, .f32⟩
  | 39 => ⟨S_, .f32⟩
  | 40 => ⟨S128x8x64x64, .f32⟩
  | 41 => ⟨S_, .f32⟩
  | 42 => ⟨S128x8x1x128, .f32⟩
  | 43 => ⟨S_, .f32⟩
  | 44 => ⟨S128x8x64x128, .f32⟩
  | 45 => ⟨S_, .i32⟩
  | 46 => ⟨S128x8x64x128, .f32⟩
  | 47 => ⟨S128x8x128x128, .f32⟩
  | 48 => ⟨S128x8x64x128, .f32⟩
  | 49 => ⟨S128x8x64x128, .f32⟩
  | 50 => ⟨S128x8x64x128, .f32⟩
  | 51 => ⟨S128x8x64x128, .f32⟩
  | 52 => ⟨S128x8x64x64, .f32⟩
  | 53 => ⟨S128x8x1x128, .f32⟩
  | 54 => ⟨S128x8x64x128, .f32⟩
  | 55 => ⟨S1x128, .f32⟩
  | 56 => ⟨S_, .i32⟩
  | 57 => ⟨S8x128x128, .f32⟩
  | 58 => ⟨S1x128, .f32⟩
  | 59 => ⟨S128x8x64x128, .f32⟩
  | 60 => ⟨S128x8x64x128, .f32⟩
  | 61 => ⟨S128x8x64x128, .f32⟩
  | 62 => ⟨S128x8x64x128, .f32⟩
  | 63 => ⟨S128x8x64x64, .f32⟩
  | 64 => ⟨S128x8x1x128, .f32⟩
  | 65 => ⟨S128x8x64x128, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S1x8x64x128, .f32⟩
  | 76 => ⟨S8x64x128, .f32⟩
  | 77 => ⟨S_, .i32⟩
  | 78 => ⟨S_, .i32⟩
  | 79 => ⟨S_, .i32⟩
  | 80 => ⟨S1x8x128x128, .f32⟩
  | 81 => ⟨S8x128x128, .f32⟩
  | 82 => ⟨S_, .i32⟩
  | 83 => ⟨S_, .i32⟩
  | 84 => ⟨S_, .i32⟩
  | 85 => ⟨S1x8x64x128, .f32⟩
  | 86 => ⟨S8x64x128, .f32⟩
  | 87 => ⟨S_, .i32⟩
  | 88 => ⟨S_, .i32⟩
  | 89 => ⟨S_, .i32⟩
  | 90 => ⟨S1x8x64x128, .f32⟩
  | 91 => ⟨S8x64x128, .f32⟩
  | 92 => ⟨S_, .i32⟩
  | 93 => ⟨S_, .i32⟩
  | 94 => ⟨S_, .i32⟩
  | 95 => ⟨S1x8x64x128, .f32⟩
  | 96 => ⟨S8x64x128, .f32⟩
  | 97 => ⟨S_, .i32⟩
  | 98 => ⟨S_, .i32⟩
  | 99 => ⟨S_, .i32⟩
  | 100 => ⟨S1x8x64x128, .f32⟩
  | 101 => ⟨S8x64x128, .f32⟩
  | 102 => ⟨S_, .i32⟩
  | 103 => ⟨S_, .i32⟩
  | 104 => ⟨S_, .i32⟩
  | 105 => ⟨S1x8x64x64, .f32⟩
  | 106 => ⟨S8x64x64, .f32⟩
  | 107 => ⟨S_, .i32⟩
  | 108 => ⟨S_, .i32⟩
  | 109 => ⟨S_, .i32⟩
  | 110 => ⟨S1x8x1x128, .f32⟩
  | 111 => ⟨S8x1x128, .f32⟩
  | 112 => ⟨S_, .i32⟩
  | 113 => ⟨S_, .i32⟩
  | 114 => ⟨S_, .i32⟩
  | 115 => ⟨S1x8x64x128, .f32⟩
  | 116 => ⟨S8x64x128, .f32⟩
  | 117 => ⟨S8x64x128, .f32⟩
  | 118 => ⟨S8x64x128, .f32⟩
  | 119 => ⟨S8x64x128, .f32⟩
  | 120 => ⟨S8x64x128, .f32⟩
  | 121 => ⟨S8x64x128, .f32⟩
  | 122 => ⟨S8x128x128, .f32⟩
  | 123 => ⟨S8x128x128, .f32⟩
  | 124 => ⟨S8x128x128, .f32⟩
  | 125 => ⟨S8x128x128, .f32⟩
  | 126 => ⟨S8x64x128, .f32⟩
  | 127 => ⟨S_, .f32⟩
  | _ => ⟨S8x8192x128, .f32⟩

abbrev hbmTy0_1 (i : Nat) : BufTy := match i % 128 with
  | 0 => ⟨S8x64x128, .f32⟩
  | 1 => ⟨S8x64x128, .f32⟩
  | 2 => ⟨S_, .f32⟩
  | 3 => ⟨S8x64, .f32⟩
  | 4 => ⟨S8x64x1, .f32⟩
  | 5 => ⟨S_, .f32⟩
  | 6 => ⟨S8x64x1, .f32⟩
  | 7 => ⟨S8x64x1, .f32⟩
  | 8 => ⟨S_, .f32⟩
  | 9 => ⟨S8x64x1, .f32⟩
  | 10 => ⟨S8x64x1, .f32⟩
  | 11 => ⟨S8x64x1, .f32⟩
  | 12 => ⟨S8x64x1, .f32⟩
  | 13 => ⟨S_, .f32⟩
  | 14 => ⟨S8x64x1, .f32⟩
  | 15 => ⟨S8x64x1, .f32⟩
  | 16 => ⟨S8x64x128, .f32⟩
  | 17 => ⟨S8x64x128, .f32⟩
  | 18 => ⟨S1x1x128, .f32⟩
  | 19 => ⟨S8x64x128, .f32⟩
  | 20 => ⟨S8x64x128, .f32⟩
  | 21 => ⟨S8x64x128, .f32⟩
  | 22 => ⟨S8x64x128, .f32⟩
  | 23 => ⟨S_, .f32⟩
  | 24 => ⟨S8x64x128, .f32⟩
  | 25 => ⟨S8x64x128, .f32⟩
  | 26 => ⟨S_, .f32⟩
  | 27 => ⟨S8x64x128, .f32⟩
  | 28 => ⟨S8x64x128, .f32⟩
  | 29 => ⟨S_, .f32⟩
  | 30 => ⟨S8x64x128, .f32⟩
  | 31 => ⟨S8x64x128, .f32⟩
  | 32 => ⟨S8x64x128, .f32⟩
  | 33 => ⟨S8x64x128, .f32⟩
  | 34 => ⟨S8x64x128, .f32⟩
  | 35 => ⟨S8x64x128, .f32⟩
  | 36 => ⟨S8x64x128, .f32⟩
  | 37 => ⟨S8x64x128, .f32⟩
  | 38 => ⟨S8x64x128, .f32⟩
  | 39 => ⟨S8x64x128, .f32⟩
  | 40 => ⟨S8x64x128, .f32⟩
  | 41 => ⟨S8x64x128, .f32⟩
  | 42 => ⟨S_, .f32⟩
  | 43 => ⟨S128, .f32⟩
  | 44 => ⟨S1x1x128, .f32⟩
  | 45 => ⟨S8x64x128, .f32⟩
  | 46 => ⟨S8x64x128, .f32⟩
  | 47 => ⟨S_, .f32⟩
  | 48 => ⟨S128, .f32⟩
  | 49 => ⟨S1x128, .f32⟩
  | 50 => ⟨S8x64x128, .f32⟩
  | 51 => ⟨S_, .f32⟩
  | 52 => ⟨S8x64, .f32⟩
  | 53 => ⟨S8x64x1, .f32⟩
  | 54 => ⟨S8x64x128, .f32⟩
  | 55 => ⟨S8x64x128, .f32⟩
  | 56 => ⟨S8x64x1, .f32⟩
  | 57 => ⟨S_, .f32⟩
  | 58 => ⟨S8x64x1, .f32⟩
  | 59 => ⟨S8x64x1, .f32⟩
  | 60 => ⟨S_, .f32⟩
  | 61 => ⟨S8x64, .f32⟩
  | 62 => ⟨S8x64x128, .f32⟩
  | 63 => ⟨S8x64x128, .f32⟩
  | 64 => ⟨S8x64x128, .f32⟩
  | 65 => ⟨S8x128x64, .f32⟩
  | 66 => ⟨S8x64x128, .f32⟩
  | 67 => ⟨S8x128x64, .f32⟩
  | 68 => ⟨S8x64x128, .f32⟩
  | 69 => ⟨S8x128x128, .f32⟩
  | 70 => ⟨S_, .f32⟩
  | 71 => ⟨S8x128, .f32⟩
  | 72 => ⟨S8x1x128, .f32⟩
  | 73 => ⟨S8x128x128, .f32⟩
  | 74 => ⟨S8x128x128, .f32⟩
  | 75 => ⟨S8x128x64, .f32⟩
  | 76 => ⟨S8x64x128, .f32⟩
  | 77 => ⟨S8x64x128, .f32⟩
  | 78 => ⟨S8x64x64, .f32⟩
  | 79 => ⟨S8x128x128, .f32⟩
  | 80 => ⟨S8x128x128, .f32⟩
  | 81 => ⟨S8x128x128, .f32⟩
  | 82 => ⟨S8x64x128, .f32⟩
  | 83 => ⟨S8x64x128, .f32⟩
  | 84 => ⟨S8x128x128, .f32⟩
  | 85 => ⟨S8x128x128, .f32⟩
  | 86 => ⟨S8x128x128, .f32⟩
  | 87 => ⟨S8x64x128, .f32⟩
  | 88 => ⟨S1x128, .f32⟩
  | 89 => ⟨S1x8x64x128, .f32⟩
  | 90 => ⟨S_, .i32⟩
  | 91 => ⟨S_, .i32⟩
  | 92 => ⟨S_, .i32⟩
  | 93 => ⟨S128x8x64x128, .f32⟩
  | 94 => ⟨S1x8x64x128, .f32⟩
  | 95 => ⟨S_, .i32⟩
  | 96 => ⟨S_, .i32⟩
  | 97 => ⟨S_, .i32⟩
  | 98 => ⟨S128x8x64x128, .f32⟩
  | 99 => ⟨S1x8x64x128, .f32⟩
  | 100 => ⟨S_, .i32⟩
  | 101 => ⟨S_, .i32⟩
  | 102 => ⟨S_, .i32⟩
  | 103 => ⟨S128x8x64x128, .f32⟩
  | 104 => ⟨S1x8x64x128, .f32⟩
  | 105 => ⟨S_, .i32⟩
  | 106 => ⟨S_, .i32⟩
  | 107 => ⟨S_, .i32⟩
  | 108 => ⟨S128x8x64x128, .f32⟩
  | 109 => ⟨S1x8x64x64, .f32⟩
  | 110 => ⟨S_, .i32⟩
  | 111 => ⟨S_, .i32⟩
  | 112 => ⟨S_, .i32⟩
  | 113 => ⟨S128x8x64x64, .f32⟩
  | 114 => ⟨S1x8x1x128, .f32⟩
  | 115 => ⟨S_, .i32⟩
  | 116 => ⟨S_, .i32⟩
  | 117 => ⟨S_, .i32⟩
  | 118 => ⟨S128x8x1x128, .f32⟩
  | 119 => ⟨S1x8x64x128, .f32⟩
  | 120 => ⟨S_, .i32⟩
  | 121 => ⟨S_, .i32⟩
  | 122 => ⟨S_, .i32⟩
  | 123 => ⟨S128x8x64x128, .f32⟩
  | 124 => ⟨S_, .i32⟩
  | 125 => ⟨S_, .i32⟩
  | 126 => ⟨S128x64x8x128, .f32⟩
  | 127 => ⟨S8192x1024, .f32⟩
  | _ => ⟨S8x8192x128, .f32⟩

abbrev hbmTy0_2 (i : Nat) : BufTy := match i % 128 with
  | 0 => ⟨S8x128x64x128, .f32⟩
  | 1 => ⟨S8x8192x128, .f32⟩
  | 2 => ⟨S8x8192x128, .bf16⟩
  | 3 => ⟨S8x128x64x128, .f32⟩
  | 4 => ⟨S8x8192x128, .f32⟩
  | 5 => ⟨S8x8192x128, .bf16⟩
  | 6 => ⟨S8x128x64x128, .f32⟩
  | 7 => ⟨S8x8192x128, .f32⟩
  | 8 => ⟨S8x128x64x128, .f32⟩
  | 9 => ⟨S8x8192x128, .f32⟩
  | 10 => ⟨S8192x1024, .bf16⟩
  | _ => ⟨S8x8192x128, .f32⟩

abbrev hbmTy (i : Nat) : BufTy := match i / 128 with
  | 0 => hbmTy0_0 i
  | 1 => hbmTy0_1 i
  | 2 => hbmTy0_2 i
  | _ => ⟨S8x8192x128, .f32⟩

abbrev bufTy : (tb : Table) → Fin (tcTables nBuf tb) → BufTy
  | .hbm, ⟨i, _⟩ => hbmTy i
  | _, _ => ⟨S8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_c : Ref sig .tc := ⟨.hbm, 45, rfl⟩
abbrev main_v26_0 : Ref sig .tc := ⟨.hbm, 46, rfl⟩
abbrev main_v26_1 : Ref sig .tc := ⟨.hbm, 47, rfl⟩
abbrev main_v26_2 : Ref sig .tc := ⟨.hbm, 48, rfl⟩
abbrev main_v26_3 : Ref sig .tc := ⟨.hbm, 49, rfl⟩
abbrev main_v26_4 : Ref sig .tc := ⟨.hbm, 50, rfl⟩
abbrev main_v26_5 : Ref sig .tc := ⟨.hbm, 51, rfl⟩
abbrev main_v26_6 : Ref sig .tc := ⟨.hbm, 52, rfl⟩
abbrev main_v26_7 : Ref sig .tc := ⟨.hbm, 53, rfl⟩
abbrev main_v26_8 : Ref sig .tc := ⟨.hbm, 54, rfl⟩
abbrev main_v26_9 : Ref sig .tc := ⟨.hbm, 55, rfl⟩
abbrev main_v26_10 : Ref sig .tc := ⟨.hbm, 56, rfl⟩
abbrev main_v26_11 : Ref sig .tc := ⟨.hbm, 57, rfl⟩
abbrev main_v26_12 : Ref sig .tc := ⟨.hbm, 58, rfl⟩
abbrev main_v26_13 : Ref sig .tc := ⟨.hbm, 59, rfl⟩
abbrev main_v26_14 : Ref sig .tc := ⟨.hbm, 60, rfl⟩
abbrev main_v26_15 : Ref sig .tc := ⟨.hbm, 61, rfl⟩
abbrev main_v26_16 : Ref sig .tc := ⟨.hbm, 62, rfl⟩
abbrev main_v26_17 : Ref sig .tc := ⟨.hbm, 63, rfl⟩
abbrev main_v26_18 : Ref sig .tc := ⟨.hbm, 64, rfl⟩
abbrev main_v26_19 : Ref sig .tc := ⟨.hbm, 65, rfl⟩
abbrev main_while0c_c_27 : Ref sig .tc := ⟨.hbm, 66, rfl⟩
abbrev main_while0c_v40 : Ref sig .tc := ⟨.hbm, 67, rfl⟩
abbrev main_while0b_c_27 : Ref sig .tc := ⟨.hbm, 68, rfl⟩
abbrev main_while0b_v40 : Ref sig .tc := ⟨.hbm, 69, rfl⟩
abbrev main_while0b_c_28 : Ref sig .tc := ⟨.hbm, 70, rfl⟩
abbrev main_while0b_v41 : Ref sig .tc := ⟨.hbm, 71, rfl⟩
abbrev main_while0b_call0_c : Ref sig .tc := ⟨.hbm, 72, rfl⟩
abbrev main_while0b_call0_c_0 : Ref sig .tc := ⟨.hbm, 73, rfl⟩
abbrev main_while0b_call0_c_1 : Ref sig .tc := ⟨.hbm, 74, rfl⟩
abbrev main_while0b_call0_v0 : Ref sig .tc := ⟨.hbm, 75, rfl⟩
abbrev main_while0b_v42 : Ref sig .tc := ⟨.hbm, 76, rfl⟩
abbrev main_while0b_call1_c : Ref sig .tc := ⟨.hbm, 77, rfl⟩
abbrev main_while0b_call1_c_0 : Ref sig .tc := ⟨.hbm, 78, rfl⟩
abbrev main_while0b_call1_c_1 : Ref sig .tc := ⟨.hbm, 79, rfl⟩
abbrev main_while0b_call1_v0 : Ref sig .tc := ⟨.hbm, 80, rfl⟩
abbrev main_while0b_v43 : Ref sig .tc := ⟨.hbm, 81, rfl⟩
abbrev main_while0b_call2_c : Ref sig .tc := ⟨.hbm, 82, rfl⟩
abbrev main_while0b_call2_c_0 : Ref sig .tc := ⟨.hbm, 83, rfl⟩
abbrev main_while0b_call2_c_1 : Ref sig .tc := ⟨.hbm, 84, rfl⟩
abbrev main_while0b_call2_v0 : Ref sig .tc := ⟨.hbm, 85, rfl⟩
abbrev main_while0b_v44 : Ref sig .tc := ⟨.hbm, 86, rfl⟩
abbrev main_while0b_call3_c : Ref sig .tc := ⟨.hbm, 87, rfl⟩
abbrev main_while0b_call3_c_0 : Ref sig .tc := ⟨.hbm, 88, rfl⟩
abbrev main_while0b_call3_c_1 : Ref sig .tc := ⟨.hbm, 89, rfl⟩
abbrev main_while0b_call3_v0 : Ref sig .tc := ⟨.hbm, 90, rfl⟩
abbrev main_while0b_v45 : Ref sig .tc := ⟨.hbm, 91, rfl⟩
abbrev main_while0b_call4_c : Ref sig .tc := ⟨.hbm, 92, rfl⟩
abbrev main_while0b_call4_c_0 : Ref sig .tc := ⟨.hbm, 93, rfl⟩
abbrev main_while0b_call4_c_1 : Ref sig .tc := ⟨.hbm, 94, rfl⟩
abbrev main_while0b_call4_v0 : Ref sig .tc := ⟨.hbm, 95, rfl⟩
abbrev main_while0b_v46 : Ref sig .tc := ⟨.hbm, 96, rfl⟩
abbrev main_while0b_call5_c : Ref sig .tc := ⟨.hbm, 97, rfl⟩
abbrev main_while0b_call5_c_0 : Ref sig .tc := ⟨.hbm, 98, rfl⟩
abbrev main_while0b_call5_c_1 : Ref sig .tc := ⟨.hbm, 99, rfl⟩
abbrev main_while0b_call5_v0 : Ref sig .tc := ⟨.hbm, 100, rfl⟩
abbrev main_while0b_v47 : Ref sig .tc := ⟨.hbm, 101, rfl⟩
abbrev main_while0b_call6_c : Ref sig .tc := ⟨.hbm, 102, rfl⟩
abbrev main_while0b_call6_c_0 : Ref sig .tc := ⟨.hbm, 103, rfl⟩
abbrev main_while0b_call6_c_1 : Ref sig .tc := ⟨.hbm, 104, rfl⟩
abbrev main_while0b_call6_v0 : Ref sig .tc := ⟨.hbm, 105, rfl⟩
abbrev main_while0b_v48 : Ref sig .tc := ⟨.hbm, 106, rfl⟩
abbrev main_while0b_call7_c : Ref sig .tc := ⟨.hbm, 107, rfl⟩
abbrev main_while0b_call7_c_0 : Ref sig .tc := ⟨.hbm, 108, rfl⟩
abbrev main_while0b_call7_c_1 : Ref sig .tc := ⟨.hbm, 109, rfl⟩
abbrev main_while0b_call7_v0 : Ref sig .tc := ⟨.hbm, 110, rfl⟩
abbrev main_while0b_v49 : Ref sig .tc := ⟨.hbm, 111, rfl⟩
abbrev main_while0b_call8_c : Ref sig .tc := ⟨.hbm, 112, rfl⟩
abbrev main_while0b_call8_c_0 : Ref sig .tc := ⟨.hbm, 113, rfl⟩
abbrev main_while0b_call8_c_1 : Ref sig .tc := ⟨.hbm, 114, rfl⟩
abbrev main_while0b_call8_v0 : Ref sig .tc := ⟨.hbm, 115, rfl⟩
abbrev main_while0b_v50 : Ref sig .tc := ⟨.hbm, 116, rfl⟩
abbrev main_while0b_v51 : Ref sig .tc := ⟨.hbm, 117, rfl⟩
abbrev main_while0b_v52 : Ref sig .tc := ⟨.hbm, 118, rfl⟩
abbrev main_while0b_v53 : Ref sig .tc := ⟨.hbm, 119, rfl⟩
abbrev main_while0b_v54 : Ref sig .tc := ⟨.hbm, 120, rfl⟩
abbrev main_while0b_v55 : Ref sig .tc := ⟨.hbm, 121, rfl⟩
abbrev main_while0b_v56 : Ref sig .tc := ⟨.hbm, 122, rfl⟩
abbrev main_while0b_v57 : Ref sig .tc := ⟨.hbm, 123, rfl⟩
abbrev main_while0b_v58 : Ref sig .tc := ⟨.hbm, 124, rfl⟩
abbrev main_while0b_v59 : Ref sig .tc := ⟨.hbm, 125, rfl⟩
abbrev main_while0b_v60 : Ref sig .tc := ⟨.hbm, 126, rfl⟩
abbrev main_while0b_cst_29 : Ref sig .tc := ⟨.hbm, 127, rfl⟩
abbrev main_while0b_v61 : Ref sig .tc := ⟨.hbm, 128, rfl⟩
abbrev main_while0b_v62 : Ref sig .tc := ⟨.hbm, 129, rfl⟩
abbrev main_while0b_cst_30 : Ref sig .tc := ⟨.hbm, 130, rfl⟩
abbrev main_while0b_v63 : Ref sig .tc := ⟨.hbm, 131, rfl⟩
abbrev main_while0b_v64 : Ref sig .tc := ⟨.hbm, 132, rfl⟩
abbrev main_while0b_cst_31 : Ref sig .tc := ⟨.hbm, 133, rfl⟩
abbrev main_while0b_v65 : Ref sig .tc := ⟨.hbm, 134, rfl⟩
abbrev main_while0b_v66 : Ref sig .tc := ⟨.hbm, 135, rfl⟩
abbrev main_while0b_cst_32 : Ref sig .tc := ⟨.hbm, 136, rfl⟩
abbrev main_while0b_v67 : Ref sig .tc := ⟨.hbm, 137, rfl⟩
abbrev main_while0b_v68 : Ref sig .tc := ⟨.hbm, 138, rfl⟩
abbrev main_while0b_v69 : Ref sig .tc := ⟨.hbm, 139, rfl⟩
abbrev main_while0b_v70 : Ref sig .tc := ⟨.hbm, 140, rfl⟩
abbrev main_while0b_cst_33 : Ref sig .tc := ⟨.hbm, 141, rfl⟩
abbrev main_while0b_v71 : Ref sig .tc := ⟨.hbm, 142, rfl⟩
abbrev main_while0b_v72 : Ref sig .tc := ⟨.hbm, 143, rfl⟩
abbrev main_while0b_v73 : Ref sig .tc := ⟨.hbm, 144, rfl⟩
abbrev main_while0b_v74 : Ref sig .tc := ⟨.hbm, 145, rfl⟩
abbrev main_while0b_v75 : Ref sig .tc := ⟨.hbm, 146, rfl⟩
abbrev main_while0b_v76 : Ref sig .tc := ⟨.hbm, 147, rfl⟩
abbrev main_while0b_v77 : Ref sig .tc := ⟨.hbm, 148, rfl⟩
abbrev main_while0b_call9_v0 : Ref sig .tc := ⟨.hbm, 149, rfl⟩
abbrev main_while0b_call9_v1 : Ref sig .tc := ⟨.hbm, 150, rfl⟩
abbrev main_while0b_call9_cst : Ref sig .tc := ⟨.hbm, 151, rfl⟩
abbrev main_while0b_call9_v2 : Ref sig .tc := ⟨.hbm, 152, rfl⟩
abbrev main_while0b_call9_v3 : Ref sig .tc := ⟨.hbm, 153, rfl⟩
abbrev main_while0b_call9_cst_0 : Ref sig .tc := ⟨.hbm, 154, rfl⟩
abbrev main_while0b_call9_v4 : Ref sig .tc := ⟨.hbm, 155, rfl⟩
abbrev main_while0b_v78_2 : Ref sig .tc := ⟨.hbm, 156, rfl⟩
abbrev main_while0b_call9_cst_1 : Ref sig .tc := ⟨.hbm, 157, rfl⟩
abbrev main_while0b_call9_v6 : Ref sig .tc := ⟨.hbm, 158, rfl⟩
abbrev main_while0b_call9_v7 : Ref sig .tc := ⟨.hbm, 159, rfl⟩
abbrev main_while0b_v78_1 : Ref sig .tc := ⟨.hbm, 160, rfl⟩
abbrev main_while0b_v78_0 : Ref sig .tc := ⟨.hbm, 161, rfl⟩
abbrev main_while0b_v79 : Ref sig .tc := ⟨.hbm, 162, rfl⟩
abbrev main_while0b_v80 : Ref sig .tc := ⟨.hbm, 163, rfl⟩
abbrev main_while0b_v81 : Ref sig .tc := ⟨.hbm, 164, rfl⟩
abbrev main_while0b_call10_v0 : Ref sig .tc := ⟨.hbm, 165, rfl⟩
abbrev main_while0b_call10_v1 : Ref sig .tc := ⟨.hbm, 166, rfl⟩
abbrev main_while0b_call10_v2 : Ref sig .tc := ⟨.hbm, 167, rfl⟩
abbrev main_while0b_v82 : Ref sig .tc := ⟨.hbm, 168, rfl⟩
abbrev main_while0b_v83 : Ref sig .tc := ⟨.hbm, 169, rfl⟩
abbrev main_while0b_cst_34 : Ref sig .tc := ⟨.hbm, 170, rfl⟩
abbrev main_while0b_v84 : Ref sig .tc := ⟨.hbm, 171, rfl⟩
abbrev main_while0b_v85 : Ref sig .tc := ⟨.hbm, 172, rfl⟩
abbrev main_while0b_v86 : Ref sig .tc := ⟨.hbm, 173, rfl⟩
abbrev main_while0b_v87 : Ref sig .tc := ⟨.hbm, 174, rfl⟩
abbrev main_while0b_cst_35 : Ref sig .tc := ⟨.hbm, 175, rfl⟩
abbrev main_while0b_v88 : Ref sig .tc := ⟨.hbm, 176, rfl⟩
abbrev main_while0b_v89 : Ref sig .tc := ⟨.hbm, 177, rfl⟩
abbrev main_while0b_v90 : Ref sig .tc := ⟨.hbm, 178, rfl⟩
abbrev main_while0b_cst_36 : Ref sig .tc := ⟨.hbm, 179, rfl⟩
abbrev main_while0b_v91 : Ref sig .tc := ⟨.hbm, 180, rfl⟩
abbrev main_while0b_v92 : Ref sig .tc := ⟨.hbm, 181, rfl⟩
abbrev main_while0b_v93 : Ref sig .tc := ⟨.hbm, 182, rfl⟩
abbrev main_while0b_v94 : Ref sig .tc := ⟨.hbm, 183, rfl⟩
abbrev main_while0b_v95 : Ref sig .tc := ⟨.hbm, 184, rfl⟩
abbrev main_while0b_cst_37 : Ref sig .tc := ⟨.hbm, 185, rfl⟩
abbrev main_while0b_v96 : Ref sig .tc := ⟨.hbm, 186, rfl⟩
abbrev main_while0b_v97 : Ref sig .tc := ⟨.hbm, 187, rfl⟩
abbrev main_while0b_cst_38 : Ref sig .tc := ⟨.hbm, 188, rfl⟩
abbrev main_while0b_v98 : Ref sig .tc := ⟨.hbm, 189, rfl⟩
abbrev main_while0b_v99 : Ref sig .tc := ⟨.hbm, 190, rfl⟩
abbrev main_while0b_v100 : Ref sig .tc := ⟨.hbm, 191, rfl⟩
abbrev main_while0b_v101 : Ref sig .tc := ⟨.hbm, 192, rfl⟩
abbrev main_while0b_v102 : Ref sig .tc := ⟨.hbm, 193, rfl⟩
abbrev main_while0b_v103 : Ref sig .tc := ⟨.hbm, 194, rfl⟩
abbrev main_while0b_v104 : Ref sig .tc := ⟨.hbm, 195, rfl⟩
abbrev main_while0b_v105 : Ref sig .tc := ⟨.hbm, 196, rfl⟩
abbrev main_while0b_v106 : Ref sig .tc := ⟨.hbm, 197, rfl⟩
abbrev main_while0b_cst_39 : Ref sig .tc := ⟨.hbm, 198, rfl⟩
abbrev main_while0b_v107 : Ref sig .tc := ⟨.hbm, 199, rfl⟩
abbrev main_while0b_v108 : Ref sig .tc := ⟨.hbm, 200, rfl⟩
abbrev main_while0b_v109 : Ref sig .tc := ⟨.hbm, 201, rfl⟩
abbrev main_while0b_v110 : Ref sig .tc := ⟨.hbm, 202, rfl⟩
abbrev main_while0b_v111 : Ref sig .tc := ⟨.hbm, 203, rfl⟩
abbrev main_while0b_v112 : Ref sig .tc := ⟨.hbm, 204, rfl⟩
abbrev main_while0b_v113 : Ref sig .tc := ⟨.hbm, 205, rfl⟩
abbrev main_while0b_v114 : Ref sig .tc := ⟨.hbm, 206, rfl⟩
abbrev main_while0b_v115 : Ref sig .tc := ⟨.hbm, 207, rfl⟩
abbrev main_while0b_v116 : Ref sig .tc := ⟨.hbm, 208, rfl⟩
abbrev main_while0b_v117 : Ref sig .tc := ⟨.hbm, 209, rfl⟩
abbrev main_while0b_v118 : Ref sig .tc := ⟨.hbm, 210, rfl⟩
abbrev main_while0b_v119 : Ref sig .tc := ⟨.hbm, 211, rfl⟩
abbrev main_while0b_v120 : Ref sig .tc := ⟨.hbm, 212, rfl⟩
abbrev main_while0b_v121 : Ref sig .tc := ⟨.hbm, 213, rfl⟩
abbrev main_while0b_v122 : Ref sig .tc := ⟨.hbm, 214, rfl⟩
abbrev main_while0b_v123 : Ref sig .tc := ⟨.hbm, 215, rfl⟩
abbrev main_while0b_v124 : Ref sig .tc := ⟨.hbm, 216, rfl⟩
abbrev main_while0b_call11_v0 : Ref sig .tc := ⟨.hbm, 217, rfl⟩
abbrev main_while0b_call11_c : Ref sig .tc := ⟨.hbm, 218, rfl⟩
abbrev main_while0b_call11_c_0 : Ref sig .tc := ⟨.hbm, 219, rfl⟩
abbrev main_while0b_call11_c_1 : Ref sig .tc := ⟨.hbm, 220, rfl⟩
abbrev main_while0b_v125 : Ref sig .tc := ⟨.hbm, 221, rfl⟩
abbrev main_while0b_call12_v0 : Ref sig .tc := ⟨.hbm, 222, rfl⟩
abbrev main_while0b_call12_c : Ref sig .tc := ⟨.hbm, 223, rfl⟩
abbrev main_while0b_call12_c_0 : Ref sig .tc := ⟨.hbm, 224, rfl⟩
abbrev main_while0b_call12_c_1 : Ref sig .tc := ⟨.hbm, 225, rfl⟩
abbrev main_while0b_v126 : Ref sig .tc := ⟨.hbm, 226, rfl⟩
abbrev main_while0b_call13_v0 : Ref sig .tc := ⟨.hbm, 227, rfl⟩
abbrev main_while0b_call13_c : Ref sig .tc := ⟨.hbm, 228, rfl⟩
abbrev main_while0b_call13_c_0 : Ref sig .tc := ⟨.hbm, 229, rfl⟩
abbrev main_while0b_call13_c_1 : Ref sig .tc := ⟨.hbm, 230, rfl⟩
abbrev main_while0b_v127 : Ref sig .tc := ⟨.hbm, 231, rfl⟩
abbrev main_while0b_call14_v0 : Ref sig .tc := ⟨.hbm, 232, rfl⟩
abbrev main_while0b_call14_c : Ref sig .tc := ⟨.hbm, 233, rfl⟩
abbrev main_while0b_call14_c_0 : Ref sig .tc := ⟨.hbm, 234, rfl⟩
abbrev main_while0b_call14_c_1 : Ref sig .tc := ⟨.hbm, 235, rfl⟩
abbrev main_while0b_v128 : Ref sig .tc := ⟨.hbm, 236, rfl⟩
abbrev main_while0b_call15_v0 : Ref sig .tc := ⟨.hbm, 237, rfl⟩
abbrev main_while0b_call15_c : Ref sig .tc := ⟨.hbm, 238, rfl⟩
abbrev main_while0b_call15_c_0 : Ref sig .tc := ⟨.hbm, 239, rfl⟩
abbrev main_while0b_call15_c_1 : Ref sig .tc := ⟨.hbm, 240, rfl⟩
abbrev main_while0b_v129 : Ref sig .tc := ⟨.hbm, 241, rfl⟩
abbrev main_while0b_call16_v0 : Ref sig .tc := ⟨.hbm, 242, rfl⟩
abbrev main_while0b_call16_c : Ref sig .tc := ⟨.hbm, 243, rfl⟩
abbrev main_while0b_call16_c_0 : Ref sig .tc := ⟨.hbm, 244, rfl⟩
abbrev main_while0b_call16_c_1 : Ref sig .tc := ⟨.hbm, 245, rfl⟩
abbrev main_while0b_v130 : Ref sig .tc := ⟨.hbm, 246, rfl⟩
abbrev main_while0b_call17_v0 : Ref sig .tc := ⟨.hbm, 247, rfl⟩
abbrev main_while0b_call17_c : Ref sig .tc := ⟨.hbm, 248, rfl⟩
abbrev main_while0b_call17_c_0 : Ref sig .tc := ⟨.hbm, 249, rfl⟩
abbrev main_while0b_call17_c_1 : Ref sig .tc := ⟨.hbm, 250, rfl⟩
abbrev main_while0b_v131 : Ref sig .tc := ⟨.hbm, 251, rfl⟩
abbrev main_while0b_c_40 : Ref sig .tc := ⟨.hbm, 252, rfl⟩
abbrev main_while0b_v132 : Ref sig .tc := ⟨.hbm, 253, rfl⟩
abbrev main_v27 : Ref sig .tc := ⟨.hbm, 254, rfl⟩
abbrev main_v28 : Ref sig .tc := ⟨.hbm, 255, rfl⟩
abbrev main_v29 : Ref sig .tc := ⟨.hbm, 256, rfl⟩
abbrev main_v30 : Ref sig .tc := ⟨.hbm, 257, rfl⟩
abbrev main_v31 : Ref sig .tc := ⟨.hbm, 258, rfl⟩
abbrev main_v32 : Ref sig .tc := ⟨.hbm, 259, rfl⟩
abbrev main_v33 : Ref sig .tc := ⟨.hbm, 260, rfl⟩
abbrev main_v34 : Ref sig .tc := ⟨.hbm, 261, rfl⟩
abbrev main_v35 : Ref sig .tc := ⟨.hbm, 262, rfl⟩
abbrev main_v36 : Ref sig .tc := ⟨.hbm, 263, rfl⟩
abbrev main_v37 : Ref sig .tc := ⟨.hbm, 264, rfl⟩
abbrev main_v38 : Ref sig .tc := ⟨.hbm, 265, rfl⟩
abbrev main_v39 : Ref sig .tc := ⟨.hbm, 266, rfl⟩

abbrev nD : Nat := 1
abbrev τ : Topo := Topo.v7x

variable {F : FTy → Type} [FloatOps F]

abbrev main_while0_count : Scf.Loop 32 := ⟨0#32, 128#32, 1#32⟩
-- ==== DgradUp.lean ====
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S1024x1408 : Shape := ⟨2, ![1024, 1408]⟩
abbrev S1024x1024 : Shape := ⟨2, ![1024, 1024]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_9 : BitVec 32 := 0#32
  let v16 : BitVec 1 := Scalar.cmpi .ne v15 c0_i32_9
  v16

def k0_cond3 (i : grid0.Coords) : BitVec 1 :=
  let arg0 : BitVec 32 := BitVec.ofNat 32 (i 0).val
  let c0_i32_6 : BitVec 32 := 0#32
  let v9 : BitVec 1 := Scalar.cmpi .eq arg0 c0_i32_6
  let arg1 : BitVec 32 := BitVec.ofNat 32 (i 1).val
  let c0_i32_7 : BitVec 32 := 0#32
  let v10 : BitVec 1 := Scalar.cmpi .eq arg1 c0_i32_7
  let v11 : BitVec 1 := Scalar.andi v9 v10
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== DgradUpRefIdeal.lean ====
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S_ : Shape := ⟨0, ![]⟩
abbrev S1024 : Shape := ⟨1, ![1024]⟩

abbrev nBuf : Space → Nat
  | .hbm => 28
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S1024x5632, .f32⟩
  | .hbm, ⟨15, _⟩ => ⟨S8192x5632, .f32⟩
  | .hbm, ⟨16, _⟩ => ⟨S8192x5632, .f32⟩
  | .hbm, ⟨17, _⟩ => ⟨S8192x1024, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S8192x1024, .f32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== DgradIn.lean ====
abbrev S8192x3072 : Shape := ⟨2, ![8192, 3072]⟩
abbrev S8192x1024 : Shape := ⟨2, ![8192, 1024]⟩
abbrev S8192x512 : Shape := ⟨2, ![8192, 512]⟩
abbrev S1024x9728 : Shape := ⟨2, ![1024, 9728]⟩
abbrev S1024x1024 : Shape := ⟨2, ![1024, 1024]⟩
abbrev S1024x512 : Shape := ⟨2, ![1024, 512]⟩

abbrev nBuf : Space → Nat
  | .hbm => 10
  | .vmem => 22
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x512, .bf16⟩
  | .hbm, ⟨8, _⟩ => ⟨S1024x9728, .bf16⟩
  | .hbm, ⟨9, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x512, .bf16⟩
  | .local _ .vmem, ⟨15, _⟩ => ⟨S1024x512, .bf16⟩
  | .local _ .vmem, ⟨16, _⟩ => ⟨S1024x1024, .bf16⟩
  | .local _ .vmem, ⟨17, _⟩ => ⟨S1024x1024, .bf16⟩
  | .local _ .vmem, ⟨18, _⟩ => ⟨S1024x512, .bf16⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 9], ![false, false]⟩

def k0_cond9 (i : grid0.Coords) : BitVec 1 :=
  let arg1 : BitVec 32 := BitVec.ofNat 32 (i 1).val
  let c8_i32_15 : BitVec 32 := 8#32
  let v38 : BitVec 1 := Scalar.cmpi .eq arg1 c8_i32_15
  let v39 : BitVec 32 := Scalar.extui v38
  let c0_i32_16 : BitVec 32 := 0#32
  let v40 : BitVec 1 := Scalar.cmpi .ne v39 c0_i32_16
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c18_i32 : BitVec 32 := 18#32
  let c0_i32_0 : BitVec 32 := 0#32
  ![c0_i32.toNat, c18_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== DgradInRefIdeal.lean ====
abbrev S8192x3072 : Shape := ⟨2, ![8192, 3072]⟩
abbrev S8192x1024 : Shape := ⟨2, ![8192, 1024]⟩
abbrev S8192x512 : Shape := ⟨2, ![8192, 512]⟩
abbrev S1024x9728 : Shape := ⟨2, ![1024, 9728]⟩
abbrev S_ : Shape := ⟨0, ![]⟩
abbrev S8192x9728 : Shape := ⟨2, ![8192, 9728]⟩

abbrev nBuf : Space → Nat
  | .hbm => 31
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x512, .bf16⟩
  | .hbm, ⟨8, _⟩ => ⟨S1024x9728, .bf16⟩
  | .hbm, ⟨9, _⟩ => ⟨S1024x9728, .f32⟩
  | .hbm, ⟨10, _⟩ => ⟨S8192x3072, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x512, .f32⟩
  | .hbm, ⟨18, _⟩ => ⟨S_, .f32⟩
  | .hbm, ⟨19, _⟩ => ⟨S8192x1024, .f32⟩
  | .hbm, ⟨20, _⟩ => ⟨S8192x9728, .f32⟩
  | .hbm, ⟨21, _⟩ => ⟨S8192x3072, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x512, .f32⟩
  | .hbm, ⟨29, _⟩ => ⟨S8192x9728, .f32⟩
  | .hbm, ⟨30, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== WgradPre.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradPreIdeal.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradPreRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S8192x3072, .f32⟩
  | .hbm, ⟨4, _⟩ => ⟨S_, .f32⟩
  | .hbm, ⟨5, _⟩ => ⟨S1024x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WgradSq.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgradSqIdeal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgradSqRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WgradBa.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgradBaIdeal.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgradBaRefIdeal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x1024, .f32⟩
  | .hbm, ⟨3, _⟩ => ⟨S8192x512, .f32⟩
  | .hbm, ⟨4, _⟩ => ⟨S_, .f32⟩
  | .hbm, ⟨5, _⟩ => ⟨S1024x512, .f32⟩
  | .hbm, ⟨6, _⟩ => ⟨S8192x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WgradUp.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradUpIdeal.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradUpRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WgradDown.lean ====
abbrev S8192x2816 : Shape := ⟨2, ![8192, 2816]⟩
abbrev S8192x1024 : Shape := ⟨2, ![8192, 1024]⟩
abbrev S2816x1024 : Shape := ⟨2, ![2816, 1024]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FwdIn.lean ====
abbrev S8192x1024 : Shape := ⟨2, ![8192, 1024]⟩
abbrev S1024x9728 : Shape := ⟨2, ![1024, 9728]⟩
abbrev S8192x9728 : Shape := ⟨2, ![8192, 9728]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x9728, .bf16⟩
  | .hbm, ⟨2, _⟩ => ⟨S8192x9728, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 19, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdInIdeal.lean ====
abbrev S8192x1024 : Shape := ⟨2, ![8192, 1024]⟩
abbrev S1024x9728 : Shape := ⟨2, ![1024, 9728]⟩
abbrev S8192x9728 : Shape := ⟨2, ![8192, 9728]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x9728, .bf16⟩
  | .hbm, ⟨2, _⟩ => ⟨S8192x9728, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 19, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdInRefIdeal.lean ====
abbrev S8192x1024 : Shape := ⟨2, ![8192, 1024]⟩
abbrev S1024x9728 : Shape := ⟨2, ![1024, 9728]⟩
abbrev S8192x9728 : Shape := ⟨2, ![8192, 9728]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x9728, .bf16⟩
  | .hbm, ⟨2, _⟩ => ⟨S8192x1024, .f32⟩
  | .hbm, ⟨3, _⟩ => ⟨S1024x9728, .f32⟩
  | .hbm, ⟨4, _⟩ => ⟨S8192x9728, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FwdUp.lean ====
abbrev S8192x1024 : Shape := ⟨2, ![8192, 1024]⟩
abbrev S1024x5632 : Shape := ⟨2, ![1024, 5632]⟩
abbrev S8192x5632 : Shape := ⟨2, ![8192, 5632]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdUpRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Head.lean ====
abbrev S8192x2816 : Shape := ⟨2, ![8192, 2816]⟩
abbrev S8192x1024 : Shape := ⟨2, ![8192, 1024]⟩
abbrev S1x1024 : Shape := ⟨2, ![1, 1024]⟩
abbrev S2816x1024 : Shape := ⟨2, ![2816, 1024]⟩
abbrev S1x128 : Shape := ⟨2, ![1, 128]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S2816x1024, .bf16⟩
  | .hbm, ⟨7, _⟩ => ⟨S8192x2816, .f32⟩
  | .hbm, ⟨8, _⟩ => ⟨S8192x1024, .f32⟩
  | .hbm, ⟨9, _⟩ => ⟨S8192x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x128, .f32⟩
  | .local _ .vmem, ⟨0, _⟩ => ⟨S256x2816, .bf16⟩
  | .local _ .vmem, ⟨1, _⟩ => ⟨S256x2816, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S2816x1024, .bf16⟩
  | .local _ .vmem, ⟨10, _⟩ => ⟨S256x2816, .f32⟩
  | .local _ .vmem, ⟨11, _⟩ => ⟨S256x2816, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x128, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== HeadRefIdeal.lean ====
abbrev S8192x2816 : Shape := ⟨2, ![8192, 2816]⟩
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 118
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S2816x1024, .bf16⟩
  | .hbm, ⟨7, _⟩ => ⟨S2816x1024, .f32⟩
  | .hbm, ⟨8, _⟩ => ⟨S8192x2816, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S8192x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S8192x1024, .f32⟩
  | .hbm, ⟨85, _⟩ => ⟨S8192x1024, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S8192, .f32⟩
  | .hbm, ⟨98, _⟩ => ⟨S8192x1, .f32⟩
  | .hbm, ⟨99, _⟩ => ⟨S_, .f32⟩
  | .hbm, ⟨100, _⟩ => ⟨S8192x1, .f32⟩
  | .hbm, ⟨101, _⟩ => ⟨S8192x1, .f32⟩
  | .hbm, ⟨102, _⟩ => ⟨S_, .f32⟩
  | .hbm, ⟨103, _⟩ => ⟨S8192, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .f32⟩
  | .hbm, ⟨109, _⟩ => ⟨S_, .f32⟩
  | .hbm, ⟨110, _⟩ => ⟨S1024, .f32⟩
  | .hbm, ⟨111, _⟩ => ⟨S1x1024, .f32⟩
  | .hbm, ⟨112, _⟩ => ⟨S_, .f32⟩
  | .hbm, ⟨113, _⟩ => ⟨S8192x1024, .f32⟩
  | .hbm, ⟨114, _⟩ => ⟨S8192x1024, .f32⟩
  | .hbm, ⟨115, _⟩ => ⟨S8192x2816, .f32⟩
  | .hbm, ⟨116, _⟩ => ⟨S8192x1024, .bf16⟩
  | .hbm, ⟨117, _⟩ => ⟨S1x128, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_cst_12 : Ref sig .tc := ⟨.hbm, 62, rfl⟩
abbrev main_cst_13 : Ref sig .tc := ⟨.hbm, 63, rfl⟩
abbrev main_v42 : Ref sig .tc := ⟨.hbm, 64, rfl⟩
abbrev main_v43 : Ref sig .tc := ⟨.hbm, 65, rfl⟩
abbrev main_cst_14 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_15 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_16 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_17 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_18 : Ref sig .tc := ⟨.hbm, 87, rfl⟩
abbrev main_v61 : Ref sig .tc := ⟨.hbm, 88, rfl⟩
abbrev main_v62 : Ref sig .tc := ⟨.hbm, 89, rfl⟩
abbrev main_cst_19 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_20 : Ref sig .tc := ⟨.hbm, 96, rfl⟩
abbrev main_v68 : Ref sig .tc := ⟨.hbm, 97, rfl⟩
abbrev main_v69 : Ref sig .tc := ⟨.hbm, 98, rfl⟩
abbrev main_cst_21 : Ref sig .tc := ⟨.hbm, 99, rfl⟩
abbrev main_v70 : Ref sig .tc := ⟨.hbm, 100, rfl⟩
abbrev main_v71 : Ref sig .tc := ⟨.hbm, 101, rfl⟩
abbrev main_cst_22 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_23 : Ref sig .tc := ⟨.hbm, 109, rfl⟩
abbrev main_v78 : Ref sig .tc := ⟨.hbm, 110, rfl⟩
abbrev main_v79 : Ref sig .tc := ⟨.hbm, 111, rfl⟩
abbrev main_cst_24 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]
-- ==== Merge.lean ====
abbrev S8192x1024 : Shape := ⟨2, ![8192, 1024]⟩
abbrev S8192x9728 : Shape := ⟨2, ![8192, 9728]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x9728, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S8192x1024, .f32⟩
  | .hbm, ⟨15, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S8192x1024 : Shape := ⟨2, ![8192, 1024]⟩
abbrev S8192x9728 : Shape := ⟨2, ![8192, 9728]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x9728, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1024x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S1024x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S1024x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== MergeBwd.lean ====
abbrev S8192x1024 : Shape := ⟨2, ![8192, 1024]⟩
abbrev S8192x9728 : Shape := ⟨2, ![8192, 9728]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 29
  | .vmem => 45
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x9728, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S8192x1024, .bf16⟩
  | .hbm, ⟨22, _⟩ => ⟨S8192x1024, .bf16⟩
  | .hbm, ⟨23, _⟩ => ⟨S8192x1024, .bf16⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | .local _ .vmem, ⟨39, _⟩ => ⟨S256x1024, .bf16⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v0_7 : Ref sig .tc := ⟨.hbm, 22, rfl⟩
abbrev main_v0_8 : Ref sig .tc := ⟨.hbm, 23, rfl⟩
abbrev main_v0_9 : Ref sig .tc := ⟨.hbm, 24, rfl⟩
abbrev main_v0_10 : Ref sig .tc := ⟨.hbm, 25, rfl⟩
abbrev main_v0_11 : Ref sig .tc := ⟨.hbm, 26, rfl⟩
abbrev main_v0_12 : Ref sig .tc := ⟨.hbm, 27, rfl⟩
abbrev main_v0_13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_stg25_0 : Ref sig .tc := ⟨.vmem, 40, rfl⟩
abbrev cc0_stg26_0 : Ref sig .tc := ⟨.vmem, 41, rfl⟩
abbrev cc0_stg27_0 : Ref sig .tc := ⟨.vmem, 42, rfl⟩
abbrev cc0_stg28_0 : Ref sig .tc := ⟨.vmem, 43, rfl⟩
abbrev cc0_stg29_0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39
abbrev cc0_sem25_0 : DmaSem sig := 40
abbrev cc0_sem26_0 : DmaSem sig := 41
abbrev cc0_sem27_0 : DmaSem sig := 42
abbrev cc0_sem28_0 : DmaSem sig := 43
abbrev cc0_sem29_0 : DmaSem sig := 44

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]
-- ==== MergeBwdRefIdeal.lean ====
abbrev S8192x1024 : Shape := ⟨2, ![8192, 1024]⟩
abbrev S8192x9728 : Shape := ⟨2, ![8192, 9728]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 160
  | .vmem => 0
  | .smem => 0
  | _ => 0

abbrev hbmTy0_0 (i : Nat) : BufTy := match i % 128 with
  | 0 => ⟨S8192x1024, .f32⟩
  | 1 => ⟨S8192x1024, .bf16⟩
  | 2 => ⟨S8192x1024, .bf16⟩
  | 3 => ⟨S8192x9728, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1024x1024, .bf16⟩
  | 12 => ⟨S1024x1024, .bf16⟩
  | 13 => ⟨S1024x1024, .bf16⟩
  | 14 => ⟨S8192x1024, .f32⟩
  | 15 => ⟨S8192x1024, .f32⟩
  | 16 => ⟨S8192x1024, .f32⟩
  | 17 => ⟨S1024x1024, .f32⟩
  | 18 => ⟨S1024x1024, .f32⟩
  | 19 => ⟨S1024x1024, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S_, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S_, .f32⟩
  | 44 => ⟨S8192x1024, .f32⟩
  | 45 => ⟨S8192x1024, .f32⟩
  | 46 => ⟨S_, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S_, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S_, .f32⟩
  | 63 => ⟨S8192, .f32⟩
  | 64 => ⟨S8192x1, .f32⟩
  | 65 => ⟨S_, .f32⟩
  | 66 => ⟨S8192x1, .f32⟩
  | 67 => ⟨S8192x1, .f32⟩
  | 68 => ⟨S8192x1024, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S_, .f32⟩
  | 75 => ⟨S8192, .f32⟩
  | 76 => ⟨S8192x1, .f32⟩
  | 77 => ⟨S_, .f32⟩
  | 78 => ⟨S8192x1, .f32⟩
  | 79 => ⟨S8192x1, .f32⟩
  | 80 => ⟨S_, .f32⟩
  | 81 => ⟨S8192x1, .f32⟩
  | 82 => ⟨S8192x1, .f32⟩
  | 83 => ⟨S8192x1, .f32⟩
  | 84 => ⟨S8192x1, .f32⟩
  | 85 => ⟨S_, .f32⟩
  | 86 => ⟨S8192x1, .f32⟩
  | 87 => ⟨S8192x1, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S_, .f32⟩
  | 96 => ⟨S1024, .f32⟩
  | 97 => ⟨S1x1024, .f32⟩
  | 98 => ⟨S8192x1024, .f32⟩
  | 99 => ⟨S_, .f32⟩
  | 100 => ⟨S1024, .f32⟩
  | 101 => ⟨S1x1024, .f32⟩
  | 102 => ⟨S8192x1024, .f32⟩
  | 103 => ⟨S8192x1024, .f32⟩
  | 104 => ⟨S8192x1024, .f32⟩
  | 105 => ⟨S_, .f32⟩
  | 106 => ⟨S8192, .f32⟩
  | 107 => ⟨S8192x1, .f32⟩
  | 108 => ⟨S8192x1024, .f32⟩
  | 109 => ⟨S8192x1024, .f32⟩
  | 110 => ⟨S8192x1, .f32⟩
  | 111 => ⟨S_, .f32⟩
  | 112 => ⟨S8192x1, .f32⟩
  | 113 => ⟨S8192x1, .f32⟩
  | 114 => ⟨S_, .f32⟩
  | 115 => ⟨S8192, .f32⟩
  | 116 => ⟨S8192x1024, .f32⟩
  | 117 => ⟨S8192x1024, .f32⟩
  | 118 => ⟨S8192x1024, .f32⟩
  | 119 => ⟨S8192x1024, .f32⟩
  | 120 => ⟨S_, .f32⟩
  | 121 => ⟨S8192, .f32⟩
  | 122 => ⟨S8192x1, .f32⟩
  | 123 => ⟨S_, .f32⟩
  | 124 => ⟨S8192x1, .f32⟩
  | 125 => ⟨S8192x1, .f32⟩
  | 126 => ⟨S_, .f32⟩
  | 127 => ⟨S8192, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S_, .f32⟩
  | 6 => ⟨S1024, .f32⟩
  | 7 => ⟨S1x1024, .f32⟩
  | 8 => ⟨S_, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S_, .f32⟩
  | 16 => ⟨S1024, .f32⟩
  | 17 => ⟨S1x1024, .f32⟩
  | 18 => ⟨S8192x1024, .f32⟩
  | 19 => ⟨S8192x1024, .f32⟩
  | 20 => ⟨S8192x1024, .f32⟩
  | 21 => ⟨S_, .f32⟩
  | 22 => ⟨S1024, .f32⟩
  | 23 => ⟨S1x1024, .f32⟩
  | 24 => ⟨S8192x1024, .f32⟩
  | 25 => ⟨S8192x1024, .f32⟩
  | 26 => ⟨S8192x1024, .bf16⟩
  | 27 => ⟨S8192x1024, .bf16⟩
  | 28 => ⟨S8192x1024, .bf16⟩
  | 29 => ⟨S8192x1024, .bf16⟩
  | 30 => ⟨S8192x1024, .bf16⟩
  | 31 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_13 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_15 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_16 : Ref sig .tc := ⟨.hbm, 111, rfl⟩
abbrev main_v79 : Ref sig .tc := ⟨.hbm, 112, rfl⟩
abbrev main_v80 : Ref sig .tc := ⟨.hbm, 113, rfl⟩
abbrev main_cst_17 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_18 : Ref sig .tc := ⟨.hbm, 120, rfl⟩
abbrev main_v86 : Ref sig .tc := ⟨.hbm, 121, rfl⟩
abbrev main_v87 : Ref sig .tc := ⟨.hbm, 122, rfl⟩
abbrev main_cst_19 : Ref sig .tc := ⟨.hbm, 123, rfl⟩
abbrev main_v88 : Ref sig .tc := ⟨.hbm, 124, rfl⟩
abbrev main_v89 : Ref sig .tc := ⟨.hbm, 125, rfl⟩
abbrev main_cst_20 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_21 : Ref sig .tc := ⟨.hbm, 133, rfl⟩
abbrev main_v96 : Ref sig .tc := ⟨.hbm, 134, rfl⟩
abbrev main_v97 : Ref sig .tc := ⟨.hbm, 135, rfl⟩
abbrev main_cst_22 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_23 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_24 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩

abbrev nD : Nat := 1
abbrev τ : Topo := Topo.v7x

variable {F : FTy → Type} [FloatOps F]
-- ==== AdamIn.lean ====
abbrev S8x1024x1154 : Shape := ⟨3, ![8, 1024, 1154]⟩
abbrev S1x1024x1154 : Shape := ⟨3, ![1, 1024, 1154]⟩
abbrev S8x256x1154 : Shape := ⟨3, ![8, 256, 1154]⟩
abbrev S1x256x1154 : Shape := ⟨3, ![1, 256, 1154]⟩
abbrev S256x1154 : Shape := ⟨2, ![256, 1154]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x1154, .bf16⟩
  | .hbm, ⟨1, _⟩ => ⟨S1x1024x1154, .f32⟩
  | .hbm, ⟨2, _⟩ => ⟨S1x1024x1154, .f32⟩
  | .hbm, ⟨3, _⟩ => ⟨S1x1024x1154, .f32⟩
  | .hbm, ⟨4, _⟩ => ⟨S1x1024x1154, .f32⟩
  | .hbm, ⟨5, _⟩ => ⟨S1x1024x1154, .f32⟩
  | .hbm, ⟨6, _⟩ => ⟨S1x1024x1154, .f32⟩
  | .hbm, ⟨7, _⟩ => ⟨S1x1024x1154, .f32⟩
  | .local _ .vmem, ⟨0, _⟩ => ⟨S8x256x1154, .bf16⟩
  | .local _ .vmem, ⟨1, _⟩ => ⟨S8x256x1154, .bf16⟩
  | .local _ .vmem, ⟨2, _⟩ => ⟨S1x256x1154, .f32⟩
  | .local _ .vmem, ⟨3, _⟩ => ⟨S1x256x1154, .f32⟩
  | .local _ .vmem, ⟨4, _⟩ => ⟨S1x256x1154, .f32⟩
  | .local _ .vmem, ⟨5, _⟩ => ⟨S1x256x1154, .f32⟩
  | .local _ .vmem, ⟨6, _⟩ => ⟨S1x256x1154, .f32⟩
  | .local _ .vmem, ⟨7, _⟩ => ⟨S1x256x1154, .f32⟩
  | .local _ .vmem, ⟨8, _⟩ => ⟨S1x256x1154, .f32⟩
  | .local _ .vmem, ⟨9, _⟩ => ⟨S1x256x1154, .f32⟩
  | .local _ .vmem, ⟨10, _⟩ => ⟨S1x256x1154, .f32⟩
  | .local _ .vmem, ⟨11, _⟩ => ⟨S1x256x1154, .f32⟩
  | .local _ .vmem, ⟨12, _⟩ => ⟨S1x256x1154, .f32⟩
  | .local _ .vmem, ⟨13, _⟩ => ⟨S1x256x1154, .f32⟩
  | .local _ .vmem, ⟨14, _⟩ => ⟨S1x256x1154, .f32⟩
  | .local _ .vmem, ⟨15, _⟩ => ⟨S1x256x1154, .f32⟩
  | _, _ => ⟨S8x1024x1154, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x1154 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1154 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1154 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1154 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1154 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1154 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1154 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1154 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S8x1024x1154 : Shape := ⟨3, ![8, 1024, 1154]⟩
abbrev S1x1024x1154 : Shape := ⟨3, ![1, 1024, 1154]⟩
abbrev S8x256x1154 : Shape := ⟨3, ![8, 256, 1154]⟩
abbrev S1x256x1154 : Shape := ⟨3, ![1, 256, 1154]⟩
abbrev S256x1154 : Shape := ⟨2, ![256, 1154]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x1154, .bf16⟩
  | .hbm, ⟨1, _⟩ => ⟨S1x1024x1154, .f32⟩
  | .hbm, ⟨2, _⟩ => ⟨S1x1024x1154, .f32⟩
  | .hbm, ⟨3, _⟩ => ⟨S1x1024x1154, .f32⟩
  | .hbm, ⟨4, _⟩ => ⟨S1x1024x1154, .f32⟩
  | .hbm, ⟨5, _⟩ => ⟨S1x1024x1154, .f32⟩
  | .hbm, ⟨6, _⟩ => ⟨S1x1024x1154, .f32⟩
  | .hbm, ⟨7, _⟩ => ⟨S1x1024x1154, .f32⟩
  | .local _ .vmem, ⟨0, _⟩ => ⟨S8x256x1154, .bf16⟩
  | .local _ .vmem, ⟨1, _⟩ => ⟨S8x256x1154, .bf16⟩
  | .local _ .vmem, ⟨2, _⟩ => ⟨S1x256x1154, .f32⟩
  | .local _ .vmem, ⟨3, _⟩ => ⟨S1x256x1154, .f32⟩
  | .local _ .vmem, ⟨4, _⟩ => ⟨S1x256x1154, .f32⟩
  | .local _ .vmem, ⟨5, _⟩ => ⟨S1x256x1154, .f32⟩
  | .local _ .vmem, ⟨6, _⟩ => ⟨S1x256x1154, .f32⟩
  | .local _ .vmem, ⟨7, _⟩ => ⟨S1x256x1154, .f32⟩
  | .local _ .vmem, ⟨8, _⟩ => ⟨S1x256x1154, .f32⟩
  | .local _ .vmem, ⟨9, _⟩ => ⟨S1x256x1154, .f32⟩
  | .local _ .vmem, ⟨10, _⟩ => ⟨S1x256x1154, .f32⟩
  | .local _ .vmem, ⟨11, _⟩ => ⟨S1x256x1154, .f32⟩
  | .local _ .vmem, ⟨12, _⟩ => ⟨S1x256x1154, .f32⟩
  | .local _ .vmem, ⟨13, _⟩ => ⟨S1x256x1154, .f32⟩
  | .local _ .vmem, ⟨14, _⟩ => ⟨S1x256x1154, .f32⟩
  | .local _ .vmem, ⟨15, _⟩ => ⟨S1x256x1154, .f32⟩
  | _, _ => ⟨S8x1024x1154, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x1154 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1154 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1154 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1154 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1154 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1154 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1154 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1154 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S8x1024x1154 : Shape := ⟨3, ![8, 1024, 1154]⟩
abbrev S1x1024x1154 : Shape := ⟨3, ![1, 1024, 1154]⟩
abbrev S_ : Shape := ⟨0, ![]⟩
abbrev S1024x1154 : Shape := ⟨2, ![1024, 1154]⟩

abbrev nBuf : Space → Nat
  | .hbm => 41
  | .vmem => 0
  | .smem => 0
  | _ => 0

abbrev bufTy : (tb : Table) → Fin (tcTables nBuf tb) → BufTy
  | .hbm, ⟨0, _⟩ => ⟨S8x1024x1154, .bf16⟩
  | .hbm, ⟨1, _⟩ => ⟨S1x1024x1154, .f32⟩
  | .hbm, ⟨2, _⟩ => ⟨S1x1024x1154, .f32⟩
  | .hbm, ⟨3, _⟩ => ⟨S1x1024x1154, .f32⟩
  | .hbm, ⟨4, _⟩ => ⟨S8x1024x1154, .f32⟩
  | .hbm, ⟨5, _⟩ => ⟨S_, .f32⟩
  | .hbm, ⟨6, _⟩ => ⟨S1024x1154, .f32⟩
  | .hbm, ⟨7, _⟩ => ⟨S1x1024x1154, .f32⟩
  | .hbm, ⟨8, _⟩ => ⟨S_, .f32⟩
  | .hbm, ⟨9, _⟩ => ⟨S1x1024x1154, .f32⟩
  | .hbm, ⟨10, _⟩ => ⟨S1x1024x1154, .f32⟩
  | .hbm, ⟨11, _⟩ => ⟨S_, .f32⟩
  | .hbm, ⟨12, _⟩ => ⟨S1x1024x1154, .f32⟩
  | .hbm, ⟨13, _⟩ => ⟨S1x1024x1154, .f32⟩
  | .hbm, ⟨14, _⟩ => ⟨S1x1024x1154, .f32⟩
  | .hbm, ⟨15, _⟩ => ⟨S_, .f32⟩
  | .hbm, ⟨16, _⟩ => ⟨S1x1024x1154, .f32⟩
  | .hbm, ⟨17, _⟩ => ⟨S1x1024x1154, .f32⟩
  | .hbm, ⟨18, _⟩ => ⟨S1x1024x1154, .f32⟩
  | .hbm, ⟨19, _⟩ => ⟨S_, .f32⟩
  | .hbm, ⟨20, _⟩ => ⟨S1x1024x1154, .f32⟩
  | .hbm, ⟨21, _⟩ => ⟨S1x1024x1154, .f32⟩
  | .hbm, ⟨22, _⟩ => ⟨S1x1024x1154, .f32⟩
  | .hbm, ⟨23, _⟩ => ⟨S_, .f32⟩
  | .hbm, ⟨24, _⟩ => ⟨S1x1024x1154, .f32⟩
  | .hbm, ⟨25, _⟩ => ⟨S1x1024x1154, .f32⟩
  | .hbm, ⟨26, _⟩ => ⟨S_, .f32⟩
  | .hbm, ⟨27, _⟩ => ⟨S1x1024x1154, .f32⟩
  | .hbm, ⟨28, _⟩ => ⟨S1x1024x1154, .f32⟩
  | .hbm, ⟨29, _⟩ => ⟨S1x1024x1154, .f32⟩
  | .hbm, ⟨30, _⟩ => ⟨S_, .f32⟩
  | .hbm, ⟨31, _⟩ => ⟨S1x1024x1154, .f32⟩
  | .hbm, ⟨32, _⟩ => ⟨S1x1024x1154, .f32⟩
  | .hbm, ⟨33, _⟩ => ⟨S1x1024x1154, .f32⟩
  | .hbm, ⟨34, _⟩ => ⟨S_, .f32⟩
  | .hbm, ⟨35, _⟩ => ⟨S1x1024x1154, .f32⟩
  | .hbm, ⟨36, _⟩ => ⟨S1x1024x1154, .f32⟩
  | .hbm, ⟨37, _⟩ => ⟨S1x1024x1154, .f32⟩
  | .hbm, ⟨38, _⟩ => ⟨S_, .f32⟩
  | .hbm, ⟨39, _⟩ => ⟨S1x1024x1154, .f32⟩
  | .hbm, ⟨40, _⟩ => ⟨S1x1024x1154, .f32⟩
  | _, _ => ⟨S8x1024x1154, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamUp.lean ====
abbrev S8x1024x704 : Shape := ⟨3, ![8, 1024, 704]⟩
abbrev S1x1024x704 : Shape := ⟨3, ![1, 1024, 704]⟩
abbrev S8x256x704 : Shape := ⟨3, ![8, 256, 704]⟩
abbrev S1x256x704 : Shape := ⟨3, ![1, 256, 704]⟩
abbrev S256x704 : Shape := ⟨2, ![256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S1x1024x704, .f32⟩
  | .hbm, ⟨6, _⟩ => ⟨S1x1024x704, .f32⟩
  | .hbm, ⟨7, _⟩ => ⟨S1x1024x704, .f32⟩
  | .local _ .vmem, ⟨0, _⟩ => ⟨S8x256x704, .bf16⟩
  | .local _ .vmem, ⟨1, _⟩ => ⟨S8x256x704, .bf16⟩
  | .local _ .vmem, ⟨2, _⟩ => ⟨S1x256x704, .f32⟩
  | .local _ .vmem, ⟨3, _⟩ => ⟨S1x256x704, .f32⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpIdeal.lean ====
abbrev S8x1024x704 : Shape := ⟨3, ![8, 1024, 704]⟩
abbrev S1x1024x704 : Shape := ⟨3, ![1, 1024, 704]⟩
abbrev S8x256x704 : Shape := ⟨3, ![8, 256, 704]⟩
abbrev S1x256x704 : Shape := ⟨3, ![1, 256, 704]⟩
abbrev S256x704 : Shape := ⟨2, ![256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S1x1024x704, .f32⟩
  | .hbm, ⟨6, _⟩ => ⟨S1x1024x704, .f32⟩
  | .hbm, ⟨7, _⟩ => ⟨S1x1024x704, .f32⟩
  | .local _ .vmem, ⟨0, _⟩ => ⟨S8x256x704, .bf16⟩
  | .local _ .vmem, ⟨1, _⟩ => ⟨S8x256x704, .bf16⟩
  | .local _ .vmem, ⟨2, _⟩ => ⟨S1x256x704, .f32⟩
  | .local _ .vmem, ⟨3, _⟩ => ⟨S1x256x704, .f32⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S8x1024x704 : Shape := ⟨3, ![8, 1024, 704]⟩
abbrev S1x1024x704 : Shape := ⟨3, ![1, 1024, 704]⟩
abbrev S_ : Shape := ⟨0, ![]⟩
abbrev S1024x704 : Shape := ⟨2, ![1024, 704]⟩

abbrev nBuf : Space → Nat
  | .hbm => 41
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S1x1024x704, .f32⟩
  | .hbm, ⟨8, _⟩ => ⟨S_, .f32⟩
  | .hbm, ⟨9, _⟩ => ⟨S1x1024x704, .f32⟩
  | .hbm, ⟨10, _⟩ => ⟨S1x1024x704, .f32⟩
  | .hbm, ⟨11, _⟩ => ⟨S_, .f32⟩
  | .hbm, ⟨12, _⟩ => ⟨S1x1024x704, .f32⟩
  | .hbm, ⟨13, _⟩ => ⟨S1x1024x704, .f32⟩
  | .hbm, ⟨14, _⟩ => ⟨S1x1024x704, .f32⟩
  | .hbm, ⟨15, _⟩ => ⟨S_, .f32⟩
  | .hbm, ⟨16, _⟩ => ⟨S1x1024x704, .f32⟩
  | .hbm, ⟨17, _⟩ => ⟨S1x1024x704, .f32⟩
  | .hbm, ⟨18, _⟩ => ⟨S1x1024x704, .f32⟩
  | .hbm, ⟨19, _⟩ => ⟨S_, .f32⟩
  | .hbm, ⟨20, _⟩ => ⟨S1x1024x704, .f32⟩
  | .hbm, ⟨21, _⟩ => ⟨S1x1024x704, .f32⟩
  | .hbm, ⟨22, _⟩ => ⟨S1x1024x704, .f32⟩
  | .hbm, ⟨23, _⟩ => ⟨S_, .f32⟩
  | .hbm, ⟨24, _⟩ => ⟨S1x1024x704, .f32⟩
  | .hbm, ⟨25, _⟩ => ⟨S1x1024x704, .f32⟩
  | .hbm, ⟨26, _⟩ => ⟨S_, .f32⟩
  | .hbm, ⟨27, _⟩ => ⟨S1x1024x704, .f32⟩
  | .hbm, ⟨28, _⟩ => ⟨S1x1024x704, .f32⟩
  | .hbm, ⟨29, _⟩ => ⟨S1x1024x704, .f32⟩
  | .hbm, ⟨30, _⟩ => ⟨S_, .f32⟩
  | .hbm, ⟨31, _⟩ => ⟨S1x1024x704, .f32⟩
  | .hbm, ⟨32, _⟩ => ⟨S1x1024x704, .f32⟩
  | .hbm, ⟨33, _⟩ => ⟨S1x1024x704, .f32⟩
  | .hbm, ⟨34, _⟩ => ⟨S_, .f32⟩
  | .hbm, ⟨35, _⟩ => ⟨S1x1024x704, .f32⟩
  | .hbm, ⟨36, _⟩ => ⟨S1x1024x704, .f32⟩
  | .hbm, ⟨37, _⟩ => ⟨S1x1024x704, .f32⟩
  | .hbm, ⟨38, _⟩ => ⟨S_, .f32⟩
  | .hbm, ⟨39, _⟩ => ⟨S1x1024x704, .f32⟩
  | .hbm, ⟨40, _⟩ => ⟨S1x1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamDown.lean ====
abbrev S8x352x1024 : Shape := ⟨3, ![8, 352, 1024]⟩
abbrev S1x352x1024 : Shape := ⟨3, ![1, 352, 1024]⟩
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S8x352x1024 : Shape := ⟨3, ![8, 352, 1024]⟩
abbrev S1x352x1024 : Shape := ⟨3, ![1, 352, 1024]⟩
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S8x352x1024 : Shape := ⟨3, ![8, 352, 1024]⟩
abbrev S1x352x1024 : Shape := ⟨3, ![1, 352, 1024]⟩
abbrev S_ : Shape := ⟨0, ![]⟩
abbrev S352x1024 : Shape := ⟨2, ![352, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S1x352x1024, .f32⟩
  | .hbm, ⟨8, _⟩ => ⟨S_, .f32⟩
  | .hbm, ⟨9, _⟩ => ⟨S1x352x1024, .f32⟩
  | .hbm, ⟨10, _⟩ => ⟨S1x352x1024, .f32⟩
  | .hbm, ⟨11, _⟩ => ⟨S_, .f32⟩
  | .hbm, ⟨12, _⟩ => ⟨S1x352x1024, .f32⟩
  | .hbm, ⟨13, _⟩ => ⟨S1x352x1024, .f32⟩
  | .hbm, ⟨14, _⟩ => ⟨S1x352x1024, .f32⟩
  | .hbm, ⟨15, _⟩ => ⟨S_, .f32⟩
  | .hbm, ⟨16, _⟩ => ⟨S1x352x1024, .f32⟩
  | .hbm, ⟨17, _⟩ => ⟨S1x352x1024, .f32⟩
  | .hbm, ⟨18, _⟩ => ⟨S1x352x1024, .f32⟩
  | .hbm, ⟨19, _⟩ => ⟨S_, .f32⟩
  | .hbm, ⟨20, _⟩ => ⟨S1x352x1024, .f32⟩
  | .hbm, ⟨21, _⟩ => ⟨S1x352x1024, .f32⟩
  | .hbm, ⟨22, _⟩ => ⟨S1x352x1024, .f32⟩
  | .hbm, ⟨23, _⟩ => ⟨S_, .f32⟩
  | .hbm, ⟨24, _⟩ => ⟨S1x352x1024, .f32⟩
  | .hbm, ⟨25, _⟩ => ⟨S1x352x1024, .f32⟩
  | .hbm, ⟨26, _⟩ => ⟨S_, .f32⟩
  | .hbm, ⟨27, _⟩ => ⟨S1x352x1024, .f32⟩
  | .hbm, ⟨28, _⟩ => ⟨S1x352x1024, .f32⟩
  | .hbm, ⟨29, _⟩ => ⟨S1x352x1024, .f32⟩
  | .hbm, ⟨30, _⟩ => ⟨S_, .f32⟩
  | .hbm, ⟨31, _⟩ => ⟨S1x352x1024, .f32⟩
  | .hbm, ⟨32, _⟩ => ⟨S1x352x1024, .f32⟩
  | .hbm, ⟨33, _⟩ => ⟨S1x352x1024, .f32⟩
  | .hbm, ⟨34, _⟩ => ⟨S_, .f32⟩
  | .hbm, ⟨35, _⟩ => ⟨S1x352x1024, .f32⟩
  | .hbm, ⟨36, _⟩ => ⟨S1x352x1024, .f32⟩
  | .hbm, ⟨37, _⟩ => ⟨S1x352x1024, .f32⟩
  | .hbm, ⟨38, _⟩ => ⟨S_, .f32⟩
  | .hbm, ⟨39, _⟩ => ⟨S1x352x1024, .f32⟩
  | .hbm, ⟨40, _⟩ => ⟨S1x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamSq.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSqIdeal.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSqRefIdeal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamAda.lean ====
abbrev S1x1024x768 : Shape := ⟨3, ![1, 1024, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaRefIdeal.lean ====
abbrev S1x1024x768 : Shape := ⟨3, ![1, 1024, 768]⟩
abbrev S_ : Shape := ⟨0, ![]⟩
abbrev S1024x768 : Shape := ⟨2, ![1024, 768]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S_, .f32⟩
  | .hbm, ⟨5, _⟩ => ⟨S1024x768, .f32⟩
  | .hbm, ⟨6, _⟩ => ⟨S1x1024x768, .f32⟩
  | .hbm, ⟨7, _⟩ => ⟨S_, .f32⟩
  | .hbm, ⟨8, _⟩ => ⟨S1x1024x768, .f32⟩
  | .hbm, ⟨9, _⟩ => ⟨S1x1024x768, .f32⟩
  | .hbm, ⟨10, _⟩ => ⟨S_, .f32⟩
  | .hbm, ⟨11, _⟩ => ⟨S1x1024x768, .f32⟩
  | .hbm, ⟨12, _⟩ => ⟨S1x1024x768, .f32⟩
  | .hbm, ⟨13, _⟩ => ⟨S1x1024x768, .f32⟩
  | .hbm, ⟨14, _⟩ => ⟨S_, .f32⟩
  | .hbm, ⟨15, _⟩ => ⟨S1x1024x768, .f32⟩
  | .hbm, ⟨16, _⟩ => ⟨S1x1024x768, .f32⟩
  | .hbm, ⟨17, _⟩ => ⟨S1x1024x768, .f32⟩
  | .hbm, ⟨18, _⟩ => ⟨S_, .f32⟩
  | .hbm, ⟨19, _⟩ => ⟨S1x1024x768, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S_, .f32⟩
  | .hbm, ⟨26, _⟩ => ⟨S1x1024x768, .f32⟩
  | .hbm, ⟨27, _⟩ => ⟨S1x1024x768, .f32⟩
  | .hbm, ⟨28, _⟩ => ⟨S1x1024x768, .f32⟩
  | .hbm, ⟨29, _⟩ => ⟨S_, .f32⟩
  | .hbm, ⟨30, _⟩ => ⟨S1x1024x768, .f32⟩
  | .hbm, ⟨31, _⟩ => ⟨S1x1024x768, .f32⟩
  | .hbm, ⟨32, _⟩ => ⟨S1x1024x768, .f32⟩
  | .hbm, ⟨33, _⟩ => ⟨S_, .f32⟩
  | .hbm, ⟨34, _⟩ => ⟨S1x1024x768, .f32⟩
  | .hbm, ⟨35, _⟩ => ⟨S1x1024x768, .f32⟩
  | .hbm, ⟨36, _⟩ => ⟨S1x1024x768, .f32⟩
  | .hbm, ⟨37, _⟩ => ⟨S_, .f32⟩
  | .hbm, ⟨38, _⟩ => ⟨S1x1024x768, .f32⟩
  | .hbm, ⟨39, _⟩ => ⟨S1x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== ModBwd.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ModBwdRefIdeal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S8192x1024, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Mod.lean ====
abbrev S8192x1024 : Shape := ⟨2, ![8192, 1024]⟩
abbrev S1x1024 : Shape := ⟨2, ![1, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S8192x1024 : Shape := ⟨2, ![8192, 1024]⟩
abbrev S1x1024 : Shape := ⟨2, ![1, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Ada.lean ====
abbrev S8x1024 : Shape := ⟨2, ![8, 1024]⟩
abbrev S1024x768 : Shape := ⟨2, ![1024, 768]⟩
abbrev S1x768 : Shape := ⟨2, ![1, 768]⟩
abbrev S8x768 : Shape := ⟨2, ![8, 768]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x768, .f32⟩
  | .local _ .vmem, ⟨0, _⟩ => ⟨S8x1024, .f32⟩
  | .local _ .vmem, ⟨1, _⟩ => ⟨S1024x768, .f32⟩
  | .local _ .vmem, ⟨2, _⟩ => ⟨S1x768, .f32⟩
  | .local _ .vmem, ⟨3, _⟩ => ⟨S8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== AdaRefIdeal.lean ====
abbrev S8x1024 : Shape := ⟨2, ![8, 1024]⟩
abbrev S1024x768 : Shape := ⟨2, ![1024, 768]⟩
abbrev S1x768 : Shape := ⟨2, ![1, 768]⟩
abbrev S_ : Shape := ⟨0, ![]⟩
abbrev S8x768 : Shape := ⟨2, ![8, 768]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x768, .f32⟩
  | .hbm, ⟨13, _⟩ => ⟨S8x768, .f32⟩
  | .hbm, ⟨14, _⟩ => ⟨S8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== AdaGrad.lean ====
abbrev S1024x8 : Shape := ⟨2, ![1024, 8]⟩
abbrev S8x768 : Shape := ⟨2, ![8, 768]⟩
abbrev S1024x768 : Shape := ⟨2, ![1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S1024x8, .f32⟩
  | .hbm, ⟨1, _⟩ => ⟨S8x768, .f32⟩
  | .hbm, ⟨2, _⟩ => ⟨S1024x768, .f32⟩
  | .local _ .vmem, ⟨0, _⟩ => ⟨S1024x8, .f32⟩
  | .local _ .vmem, ⟨1, _⟩ => ⟨S8x768, .f32⟩
  | .local _ .vmem, ⟨2, _⟩ => ⟨S1024x768, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaGradRefIdeal.lean ====
abbrev S1024x8 : Shape := ⟨2, ![1024, 8]⟩
abbrev S8x768 : Shape := ⟨2, ![8, 768]⟩
abbrev S_ : Shape := ⟨0, ![]⟩
abbrev S1024x768 : Shape := ⟨2, ![1024, 768]⟩
abbrev S8x1024 : Shape := ⟨2, ![8, 1024]⟩
abbrev S768x1024 : Shape := ⟨2, ![768, 1024]⟩

abbrev nBuf : Space → Nat
  | .hbm => 17
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S8x768, .f32⟩
  | .hbm, ⟨2, _⟩ => ⟨S_, .f32⟩
  | .hbm, ⟨3, _⟩ => ⟨S1024x768, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x768, .f32⟩
  | .hbm, ⟨15, _⟩ => ⟨S768x1024, .f32⟩
  | .hbm, ⟨16, _⟩ => ⟨S1024x768, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Act.lean ====
abbrev S8192x5632 : Shape := ⟨2, ![8192, 5632]⟩
abbrev S3x5632 : Shape := ⟨2, ![3, 5632]⟩
abbrev S1x5632 : Shape := ⟨2, ![1, 5632]⟩
abbrev S8192x2816 : Shape := ⟨2, ![8192, 2816]⟩
abbrev S8x5632 : Shape := ⟨2, ![8, 5632]⟩
abbrev S128x5632 : Shape := ⟨2, ![128, 5632]⟩
abbrev S128x2816 : Shape := ⟨2, ![128, 2816]⟩
abbrev S8x128 : Shape := ⟨2, ![8, 128]⟩
abbrev S128x128 : Shape := ⟨2, ![128, 128]⟩
abbrev S136x128 : Shape := ⟨2, ![136, 128]⟩
abbrev S1x128 : Shape := ⟨2, ![1, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S1x5632, .f32⟩
  | .hbm, ⟨3, _⟩ => ⟨S8192x2816, .bf16⟩
  | .local _ .vmem, ⟨0, _⟩ => ⟨S8x5632, .f32⟩
  | .local _ .vmem, ⟨1, _⟩ => ⟨S8x5632, .f32⟩
  | .local _ .vmem, ⟨2, _⟩ => ⟨S128x5632, .f32⟩
  | .local _ .vmem, ⟨3, _⟩ => ⟨S128x5632, .f32⟩
  | .local _ .vmem, ⟨4, _⟩ => ⟨S3x5632, .f32⟩
  | .local _ .vmem, ⟨5, _⟩ => ⟨S1x5632, .f32⟩
  | .local _ .vmem, ⟨6, _⟩ => ⟨S128x2816, .bf16⟩
  | .local _ .vmem, ⟨7, _⟩ => ⟨S128x2816, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ActRefIdeal.lean ====
abbrev S8192x5632 : Shape := ⟨2, ![8192, 5632]⟩
abbrev S3x5632 : Shape := ⟨2, ![3, 5632]⟩
abbrev S1x5632 : Shape := ⟨2, ![1, 5632]⟩
abbrev S_ : Shape := ⟨0, ![]⟩
abbrev S8194x5632 : Shape := ⟨2, ![8194, 5632]⟩
abbrev S8192x2816 : Shape := ⟨2, ![8192, 2816]⟩

abbrev nBuf : Space → Nat
  | .hbm => 35
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S1x5632, .f32⟩
  | .hbm, ⟨3, _⟩ => ⟨S_, .i32⟩
  | .hbm, ⟨4, _⟩ => ⟨S_, .f32⟩
  | .hbm, ⟨5, _⟩ => ⟨S8194x5632, .f32⟩
  | .hbm, ⟨6, _⟩ => ⟨S8192x5632, .f32⟩
  | .hbm, ⟨7, _⟩ => ⟨S1x5632, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S1x5632, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S1x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== Scan.lean ====
abbrev S8x8192x128 : Shape := ⟨3, ![8, 8192, 128]⟩
abbrev S128x8x64x64 : Shape := ⟨4, ![128, 8, 64, 64]⟩
abbrev S128x8x1x128 : Shape := ⟨4, ![128, 8, 1, 128]⟩
abbrev S8192x9728 : Shape := ⟨2, ![8192, 9728]⟩
abbrev S1x128 : Shape := ⟨2, ![1, 128]⟩
abbrev S8192x1024 : Shape := ⟨2, ![8192, 1024]⟩
abbrev S128x8x128x128 : Shape := ⟨4, ![128, 8, 128, 128]⟩
abbrev S8x512x128 : Shape := ⟨3, ![8, 512, 128]⟩
abbrev S8x8x64x64 : Shape := ⟨4, ![8, 8, 64, 64]⟩
abbrev S8x8x1x128 : Shape := ⟨4, ![8, 8, 1, 128]⟩
abbrev S512x1024 : Shape := ⟨2, ![512, 1024]⟩
abbrev S8x8x128x128 : Shape := ⟨4, ![8, 8, 128, 128]⟩
abbrev S8x128x128 : Shape := ⟨3, ![8, 128, 128]⟩
abbrev S1x8x128x128 : Shape := ⟨4, ![1, 8, 128, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8x1x128 : Shape := ⟨4, ![1, 8, 1, 128]⟩
abbrev S8x1x128 : Shape := ⟨3, ![8, 1, 128]⟩
abbrev S64x128 : Shape := ⟨2, ![64, 128]⟩
abbrev S1x64x128 : Shape := ⟨3, ![1, 64, 128]⟩
abbrev S8x64 : Shape := ⟨2, ![8, 64]⟩
abbrev S8x64x1 : Shape := ⟨3, ![8, 64, 1]⟩
abbrev S1x1x128 : Shape := ⟨3, ![1, 1, 128]⟩

abbrev nBuf : Space → Nat
  | .hbm => 10
  | .vmem => 20
  | .smem => 0
  | _ => 0

abbrev bufTy : (tb : Table) → Fin (tcTables nBuf tb) → BufTy
  | .hbm, ⟨0, _⟩ => ⟨S8x8192x128, .f32⟩
  | .hbm, ⟨1, _⟩ => ⟨S8x8192x128, .bf16⟩
  | .hbm, ⟨2, _⟩ => ⟨S8x8192x128, .bf16⟩
  | .hbm, ⟨3, _⟩ => ⟨S8x8192x128, .bf16⟩
  | .hbm, ⟨4, _⟩ => ⟨S128x8x64x64, .bf16⟩
  | .hbm, ⟨5, _⟩ => ⟨S128x8x1x128, .f32⟩
  | .hbm, ⟨6, _⟩ => ⟨S8192x9728, .f32⟩
  | .hbm, ⟨7, _⟩ => ⟨S1x128, .f32⟩
  | .hbm, ⟨8, _⟩ => ⟨S8192x1024, .bf16⟩
  | .hbm, ⟨9, _⟩ => ⟨S128x8x128x128, .f32⟩
  | .local _ .vmem, ⟨0, _⟩ => ⟨S8x512x128, .f32⟩
  | .local _ .vmem, ⟨1, _⟩ => ⟨S8x512x128, .f32⟩
  | .local _ .vmem, ⟨2, _⟩ => ⟨S8x512x128, .bf16⟩
  | .local _ .vmem, ⟨3, _⟩ => ⟨S8x512x128, .bf16⟩
  | .local _ .vmem, ⟨4, _⟩ => ⟨S8x512x128, .bf16⟩
  | .local _ .vmem, ⟨5, _⟩ => ⟨S8x512x128, .bf16⟩
  | .local _ .vmem, ⟨6, _⟩ => ⟨S8x512x128, .bf16⟩
  | .local _ .vmem, ⟨7, _⟩ => ⟨S8x512x128, .bf16⟩
  | .local _ .vmem, ⟨8, _⟩ => ⟨S8x8x64x64, .bf16⟩
  | .local _ .vmem, ⟨9, _⟩ => ⟨S8x8x64x64, .bf16⟩
  | .local _ .vmem, ⟨10, _⟩ => ⟨S8x8x1x128, .f32⟩
  | .local _ .vmem, ⟨11, _⟩ => ⟨S8x8x1x128, .f32⟩
  | .local _ .vmem, ⟨12, _⟩ => ⟨S512x1024, .f32⟩
  | .local _ .vmem, ⟨13, _⟩ => ⟨S512x1024, .f32⟩
  | .local _ .vmem, ⟨14, _⟩ => ⟨S1x128, .f32⟩
  | .local _ .vmem, ⟨15, _⟩ => ⟨S512x1024, .bf16⟩
  | .local _ .vmem, ⟨16, _⟩ => ⟨S512x1024, .bf16⟩
  | .local _ .vmem, ⟨17, _⟩ => ⟨S8x8x128x128, .f32⟩
  | .local _ .vmem, ⟨18, _⟩ => ⟨S8x8x128x128, .f32⟩
  | .local _ .vmem, ⟨19, _⟩ => ⟨S8x128x128, .f32⟩
  | _, _ => ⟨S8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x8x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x8x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ScanRefIdeal.lean ====
abbrev S8x8192x128 : Shape := ⟨3, ![8, 8192, 128]⟩
abbrev S128x8x64x64 : Shape := ⟨4, ![128, 8, 64, 64]⟩
abbrev S128x8x1x128 : Shape := ⟨4, ![128, 8, 1, 128]⟩
abbrev S8192x9728 : Shape := ⟨2, ![8192, 9728]⟩
abbrev S1x128 : Shape := ⟨2, ![1, 128]⟩
abbrev S8x128x64x128 : Shape := ⟨4, ![8, 128, 64, 128]⟩
abbrev S128x8x64x128 : Shape := ⟨4, ![128, 8, 64, 128]⟩
abbrev S8192x1024 : Shape := ⟨2, ![8192, 1024]⟩
abbrev S128x64x8x128 : Shape := ⟨4, ![128, 64, 8, 128]⟩
abbrev S_ : Shape := ⟨0, ![]⟩
abbrev S8x128x128 : Shape := ⟨3, ![8, 128, 128]⟩
abbrev S128x8x128x128 : Shape := ⟨4, ![128, 8, 128, 128]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8x1x128 : Shape := ⟨4, ![1, 8, 1, 128]⟩
abbrev S8x1x128 : Shape := ⟨3, ![8, 1, 128]⟩
abbrev S8x64 : Shape := ⟨2, ![8, 64]⟩
abbrev S8x64x1 : Shape := ⟨3, ![8, 64, 1]⟩
abbrev S1x1x128 : Shape := ⟨3, ![1, 1, 128]⟩
abbrev S1x8x128x128 : Shape := ⟨4, ![1, 8, 128, 128]⟩

abbrev nBuf : Space → Nat
  | .hbm => 129
  | .vmem => 0
  | .smem => 0
  | _ => 0

abbrev hbmTy0_0 (i : Nat) : BufTy := match i % 128 with
  | 0 => ⟨S8x8192x128, .f32⟩
  | 1 => ⟨S8x8192x128, .bf16⟩
  | 2 => ⟨S8x8192x128, .bf16⟩
  | 3 => ⟨S8x8192x128, .bf16⟩
  | 4 => ⟨S128x8x64x64, .bf16⟩
  | 5 => ⟨S128x8x1x128, .f32⟩
  | 6 => ⟨S8192x9728, .f32⟩
  | 7 => ⟨S1x128, .f32⟩
  | 8 => ⟨S8x8192x128, .f32⟩
  | 9 => ⟨S8x8192x128, .f32⟩
  | 10 => ⟨S8x8192x128, .f32⟩
  | 11 => ⟨S128x8x64x64, .f32⟩
  | 12 => ⟨S8x128x64x128, .f32⟩
  | 13 => ⟨S128x8x64x128, .f32⟩
  | 14 => ⟨S8x128x64x128, .f32⟩
  | 15 => ⟨S128x8x64x128, .f32⟩
  | 16 => ⟨S8x128x64x128, .f32⟩
  | 17 => ⟨S128x8x64x128, .f32⟩
  | 18 => ⟨S8x128x64x128, .f32⟩
  | 19 => ⟨S128x8x64x128, .f32⟩
  | 20 => ⟨S8192x1024, .f32⟩
  | 21 => ⟨S128x64x8x128, .f32⟩
  | 22 => ⟨S128x8x64x128, .f32⟩
  | 23 => ⟨S_, .f32⟩
  | 24 => ⟨S8x128x128, .f32⟩
  | 25 => ⟨S_, .f32⟩
  | 26 => ⟨S128x8x64x128, .f32⟩
  | 27 => ⟨S_, .f32⟩
  | 28 => ⟨S128x8x128x128, .f32⟩
  | 29 => ⟨S_, .i32⟩
  | 30 => ⟨S128x8x64x128, .f32⟩
  | 31 => ⟨S128x8x64x128, .f32⟩
  | 32 => ⟨S128x8x64x128, .f32⟩
  | 33 => ⟨S128x8x64x128, .f32⟩
  | 34 => ⟨S128x8x64x64, .f32⟩
  | 35 => ⟨S128x8x1x128, .f32⟩
  | 36 => ⟨S128x8x64x128, .f32⟩
  | 37 => ⟨S1x128, .f32⟩
  | 38 => ⟨S_, .i32⟩
  | 39 => ⟨S8x128x128, .f32⟩
  | 40 => ⟨S128x8x64x128, .f32⟩
  | 41 => ⟨S128x8x128x128, .f32⟩
  | 42 => ⟨S_, .i32⟩
  | 43 => ⟨S_, .i1⟩
  | 44 => ⟨S_, .i32⟩
  | 45 => ⟨S_, .i32⟩
  | 46 => ⟨S_, .i32⟩
  | 47 => ⟨S1x8x64x128, .f32⟩
  | 48 => ⟨S8x64x128, .f32⟩
  | 49 => ⟨S_, .i32⟩
  | 50 => ⟨S_, .i32⟩
  | 51 => ⟨S_, .i32⟩
  | 52 => ⟨S1x8x64x128, .f32⟩
  | 53 => ⟨S8x64x128, .f32⟩
  | 54 => ⟨S_, .i32⟩
  | 55 => ⟨S_, .i32⟩
  | 56 => ⟨S_, .i32⟩
  | 57 => ⟨S1x8x64x128, .f32⟩
  | 58 => ⟨S8x64x128, .f32⟩
  | 59 => ⟨S_, .i32⟩
  | 60 => ⟨S_, .i32⟩
  | 61 => ⟨S_, .i32⟩
  | 62 => ⟨S1x8x64x128, .f32⟩
  | 63 => ⟨S8x64x128, .f32⟩
  | 64 => ⟨S_, .i32⟩
  | 65 => ⟨S_, .i32⟩
  | 66 => ⟨S_, .i32⟩
  | 67 => ⟨S1x8x64x64, .f32⟩
  | 68 => ⟨S8x64x64, .f32⟩
  | 69 => ⟨S_, .i32⟩
  | 70 => ⟨S_, .i32⟩
  | 71 => ⟨S_, .i32⟩
  | 72 => ⟨S1x8x1x128, .f32⟩
  | 73 => ⟨S8x1x128, .f32⟩
  | 74 => ⟨S_, .i32⟩
  | 75 => ⟨S_, .i32⟩
  | 76 => ⟨S_, .i32⟩
  | 77 => ⟨S1x8x64x128, .f32⟩
  | 78 => ⟨S8x64x128, .f32⟩
  | 79 => ⟨S8x64x128, .f32⟩
  | 80 => ⟨S8x64x128, .f32⟩
  | 81 => ⟨S8x64x128, .f32⟩
  | 82 => ⟨S8x64x128, .f32⟩
  | 83 => ⟨S8x64x128, .f32⟩
  | 84 => ⟨S8x128x128, .f32⟩
  | 85 => ⟨S8x128x128, .f32⟩
  | 86 => ⟨S8x128x128, .f32⟩
  | 87 => ⟨S8x128x128, .f32⟩
  | 88 => ⟨S8x64x128, .f32⟩
  | 89 => ⟨S_, .f32⟩
  | 90 => ⟨S8x64, .f32⟩
  | 91 => ⟨S8x64x1, .f32⟩
  | 92 => ⟨S_, .f32⟩
  | 93 => ⟨S8x64x1, .f32⟩
  | 94 => ⟨S8x64x1, .f32⟩
  | 95 => ⟨S_, .f32⟩
  | 96 => ⟨S8x64x1, .f32⟩
  | 97 => ⟨S8x64x1, .f32⟩
  | 98 => ⟨S8x64x1, .f32⟩
  | 99 => ⟨S8x64x128, .f32⟩
  | 100 => ⟨S8x64x128, .f32⟩
  | 101 => ⟨S1x1x128, .f32⟩
  | 102 => ⟨S8x64x128, .f32⟩
  | 103 => ⟨S8x64x128, .f32⟩
  | 104 => ⟨S8x64x128, .f32⟩
  | 105 => ⟨S8x64x128, .f32⟩
  | 106 => ⟨S_, .f32⟩
  | 107 => ⟨S8x64x128, .f32⟩
  | 108 => ⟨S8x64x128, .f32⟩
  | 109 => ⟨S_, .f32⟩
  | 110 => ⟨S8x64x128, .f32⟩
  | 111 => ⟨S8x64x128, .f32⟩
  | 112 => ⟨S8x64x128, .f32⟩
  | 113 => ⟨S8x64x128, .f32⟩
  | 114 => ⟨S1x8x64x128, .f32⟩
  | 115 => ⟨S_, .i32⟩
  | 116 => ⟨S_, .i32⟩
  | 117 => ⟨S_, .i32⟩
  | 118 => ⟨S128x8x64x128, .f32⟩
  | 119 => ⟨S1x8x128x128, .f32⟩
  | 120 => ⟨S_, .i32⟩
  | 121 => ⟨S_, .i32⟩
  | 122 => ⟨S_, .i32⟩
  | 123 => ⟨S128x8x128x128, .f32⟩
  | 124 => ⟨S_, .i32⟩
  | 125 => ⟨S_, .i32⟩
  | 126 => ⟨S128x64x8x128, .f32⟩
  | 127 => ⟨S8192x1024, .f32⟩
  | _ => ⟨S8x8192x128, .f32⟩

abbrev hbmTy0_1 (i : Nat) : BufTy := match i % 128 with
  | 0 => ⟨S8192x1024, .bf16⟩
  | _ => ⟨S8x8192x128, .f32⟩

abbrev hbmTy (i : Nat) : BufTy := match i / 128 with
  | 0 => hbmTy0_0 i
  | 1 => hbmTy0_1 i
  | _ => ⟨S8x8192x128, .f32⟩

abbrev bufTy : (tb : Table) → Fin (tcTables nBuf tb) → BufTy
  | .hbm, ⟨i, _⟩ => hbmTy i
  | _, _ => ⟨S8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_c : Ref sig .tc := ⟨.hbm, 29, rfl⟩
abbrev main_v18_0 : Ref sig .tc := ⟨.hbm, 30, rfl⟩
abbrev main_v18_1 : Ref sig .tc := ⟨.hbm, 31, rfl⟩
abbrev main_v18_2 : Ref sig .tc := ⟨.hbm, 32, rfl⟩
abbrev main_v18_3 : Ref sig .tc := ⟨.hbm, 33, rfl⟩
abbrev main_v18_4 : Ref sig .tc := ⟨.hbm, 34, rfl⟩
abbrev main_v18_5 : Ref sig .tc := ⟨.hbm, 35, rfl⟩
abbrev main_v18_6 : Ref sig .tc := ⟨.hbm, 36, rfl⟩
abbrev main_v18_7 : Ref sig .tc := ⟨.hbm, 37, rfl⟩
abbrev main_v18_8 : Ref sig .tc := ⟨.hbm, 38, rfl⟩
abbrev main_v18_9 : Ref sig .tc := ⟨.hbm, 39, rfl⟩
abbrev main_v18_10 : Ref sig .tc := ⟨.hbm, 40, rfl⟩
abbrev main_v18_11 : Ref sig .tc := ⟨.hbm, 41, rfl⟩
abbrev main_while0c_c_13 : Ref sig .tc := ⟨.hbm, 42, rfl⟩
abbrev main_while0c_v22 : Ref sig .tc := ⟨.hbm, 43, rfl⟩
abbrev main_while0b_call0_c : Ref sig .tc := ⟨.hbm, 44, rfl⟩
abbrev main_while0b_call0_c_0 : Ref sig .tc := ⟨.hbm, 45, rfl⟩
abbrev main_while0b_call0_c_1 : Ref sig .tc := ⟨.hbm, 46, rfl⟩
abbrev main_while0b_call0_v0 : Ref sig .tc := ⟨.hbm, 47, rfl⟩
abbrev main_while0b_v22 : Ref sig .tc := ⟨.hbm, 48, rfl⟩
abbrev main_while0b_call1_c : Ref sig .tc := ⟨.hbm, 49, rfl⟩
abbrev main_while0b_call1_c_0 : Ref sig .tc := ⟨.hbm, 50, rfl⟩
abbrev main_while0b_call1_c_1 : Ref sig .tc := ⟨.hbm, 51, rfl⟩
abbrev main_while0b_call1_v0 : Ref sig .tc := ⟨.hbm, 52, rfl⟩
abbrev main_while0b_v23 : Ref sig .tc := ⟨.hbm, 53, rfl⟩
abbrev main_while0b_call2_c : Ref sig .tc := ⟨.hbm, 54, rfl⟩
abbrev main_while0b_call2_c_0 : Ref sig .tc := ⟨.hbm, 55, rfl⟩
abbrev main_while0b_call2_c_1 : Ref sig .tc := ⟨.hbm, 56, rfl⟩
abbrev main_while0b_call2_v0 : Ref sig .tc := ⟨.hbm, 57, rfl⟩
abbrev main_while0b_v24 : Ref sig .tc := ⟨.hbm, 58, rfl⟩
abbrev main_while0b_call3_c : Ref sig .tc := ⟨.hbm, 59, rfl⟩
abbrev main_while0b_call3_c_0 : Ref sig .tc := ⟨.hbm, 60, rfl⟩
abbrev main_while0b_call3_c_1 : Ref sig .tc := ⟨.hbm, 61, rfl⟩
abbrev main_while0b_call3_v0 : Ref sig .tc := ⟨.hbm, 62, rfl⟩
abbrev main_while0b_v25 : Ref sig .tc := ⟨.hbm, 63, rfl⟩
abbrev main_while0b_call4_c : Ref sig .tc := ⟨.hbm, 64, rfl⟩
abbrev main_while0b_call4_c_0 : Ref sig .tc := ⟨.hbm, 65, rfl⟩
abbrev main_while0b_call4_c_1 : Ref sig .tc := ⟨.hbm, 66, rfl⟩
abbrev main_while0b_call4_v0 : Ref sig .tc := ⟨.hbm, 67, rfl⟩
abbrev main_while0b_v26 : Ref sig .tc := ⟨.hbm, 68, rfl⟩
abbrev main_while0b_call5_c : Ref sig .tc := ⟨.hbm, 69, rfl⟩
abbrev main_while0b_call5_c_0 : Ref sig .tc := ⟨.hbm, 70, rfl⟩
abbrev main_while0b_call5_c_1 : Ref sig .tc := ⟨.hbm, 71, rfl⟩
abbrev main_while0b_call5_v0 : Ref sig .tc := ⟨.hbm, 72, rfl⟩
abbrev main_while0b_v27 : Ref sig .tc := ⟨.hbm, 73, rfl⟩
abbrev main_while0b_call6_c : Ref sig .tc := ⟨.hbm, 74, rfl⟩
abbrev main_while0b_call6_c_0 : Ref sig .tc := ⟨.hbm, 75, rfl⟩
abbrev main_while0b_call6_c_1 : Ref sig .tc := ⟨.hbm, 76, rfl⟩
abbrev main_while0b_call6_v0 : Ref sig .tc := ⟨.hbm, 77, rfl⟩
abbrev main_while0b_v28 : Ref sig .tc := ⟨.hbm, 78, rfl⟩
abbrev main_while0b_v29 : Ref sig .tc := ⟨.hbm, 79, rfl⟩
abbrev main_while0b_v30 : Ref sig .tc := ⟨.hbm, 80, rfl⟩
abbrev main_while0b_v31 : Ref sig .tc := ⟨.hbm, 81, rfl⟩
abbrev main_while0b_v32 : Ref sig .tc := ⟨.hbm, 82, rfl⟩
abbrev main_while0b_v33 : Ref sig .tc := ⟨.hbm, 83, rfl⟩
abbrev main_while0b_v34 : Ref sig .tc := ⟨.hbm, 84, rfl⟩
abbrev main_while0b_v35 : Ref sig .tc := ⟨.hbm, 85, rfl⟩
abbrev main_while0b_v36 : Ref sig .tc := ⟨.hbm, 86, rfl⟩
abbrev main_while0b_v37 : Ref sig .tc := ⟨.hbm, 87, rfl⟩
abbrev main_while0b_v38 : Ref sig .tc := ⟨.hbm, 88, rfl⟩
abbrev main_while0b_cst_13 : Ref sig .tc := ⟨.hbm, 89, rfl⟩
abbrev main_while0b_v39 : Ref sig .tc := ⟨.hbm, 90, rfl⟩
abbrev main_while0b_v40 : Ref sig .tc := ⟨.hbm, 91, rfl⟩
abbrev main_while0b_cst_14 : Ref sig .tc := ⟨.hbm, 92, rfl⟩
abbrev main_while0b_v41 : Ref sig .tc := ⟨.hbm, 93, rfl⟩
abbrev main_while0b_v42 : Ref sig .tc := ⟨.hbm, 94, rfl⟩
abbrev main_while0b_cst_15 : Ref sig .tc := ⟨.hbm, 95, rfl⟩
abbrev main_while0b_v43 : Ref sig .tc := ⟨.hbm, 96, rfl⟩
abbrev main_while0b_v44 : Ref sig .tc := ⟨.hbm, 97, rfl⟩
abbrev main_while0b_v45 : Ref sig .tc := ⟨.hbm, 98, rfl⟩
abbrev main_while0b_v46 : Ref sig .tc := ⟨.hbm, 99, rfl⟩
abbrev main_while0b_v47 : Ref sig .tc := ⟨.hbm, 100, rfl⟩
abbrev main_while0b_v48 : Ref sig .tc := ⟨.hbm, 101, rfl⟩
abbrev main_while0b_v49 : Ref sig .tc := ⟨.hbm, 102, rfl⟩
abbrev main_while0b_v50 : Ref sig .tc := ⟨.hbm, 103, rfl⟩
abbrev main_while0b_call7_v0 : Ref sig .tc := ⟨.hbm, 104, rfl⟩
abbrev main_while0b_call7_v1 : Ref sig .tc := ⟨.hbm, 105, rfl⟩
abbrev main_while0b_call7_cst : Ref sig .tc := ⟨.hbm, 106, rfl⟩
abbrev main_while0b_call7_v2 : Ref sig .tc := ⟨.hbm, 107, rfl⟩
abbrev main_while0b_call7_v3 : Ref sig .tc := ⟨.hbm, 108, rfl⟩
abbrev main_while0b_call7_cst_0 : Ref sig .tc := ⟨.hbm, 109, rfl⟩
abbrev main_while0b_call7_v4 : Ref sig .tc := ⟨.hbm, 110, rfl⟩
abbrev main_while0b_call7_v5 : Ref sig .tc := ⟨.hbm, 111, rfl⟩
abbrev main_while0b_v51 : Ref sig .tc := ⟨.hbm, 112, rfl⟩
abbrev main_while0b_v52 : Ref sig .tc := ⟨.hbm, 113, rfl⟩
abbrev main_while0b_call8_v0 : Ref sig .tc := ⟨.hbm, 114, rfl⟩
abbrev main_while0b_call8_c : Ref sig .tc := ⟨.hbm, 115, rfl⟩
abbrev main_while0b_call8_c_0 : Ref sig .tc := ⟨.hbm, 116, rfl⟩
abbrev main_while0b_call8_c_1 : Ref sig .tc := ⟨.hbm, 117, rfl⟩
abbrev main_while0b_v53 : Ref sig .tc := ⟨.hbm, 118, rfl⟩
abbrev main_while0b_call9_v0 : Ref sig .tc := ⟨.hbm, 119, rfl⟩
abbrev main_while0b_call9_c : Ref sig .tc := ⟨.hbm, 120, rfl⟩
abbrev main_while0b_call9_c_0 : Ref sig .tc := ⟨.hbm, 121, rfl⟩
abbrev main_while0b_call9_c_1 : Ref sig .tc := ⟨.hbm, 122, rfl⟩
abbrev main_while0b_v54 : Ref sig .tc := ⟨.hbm, 123, rfl⟩
abbrev main_while0b_c_16 : Ref sig .tc := ⟨.hbm, 124, rfl⟩
abbrev main_while0b_v55 : Ref sig .tc := ⟨.hbm, 125, rfl⟩
abbrev main_v19 : Ref sig .tc := ⟨.hbm, 126, rfl⟩
abbrev main_v20 : Ref sig .tc := ⟨.hbm, 127, rfl⟩
abbrev main_v21 : Ref sig .tc := ⟨.hbm, 128, rfl⟩

abbrev nD : Nat := 1
abbrev τ : Topo := Topo.v7x

variable {F : FTy → Type} [FloatOps F]

abbrev main_while0_count : Scf.Loop 32 := ⟨0#32, 128#32, 1#32⟩
-- ==== Proof.Chunk.lean ====
module

public import proofs.«01_k».proof.Proof.Gen.KernelIdeal.Value

/-! One chunk of the kernel as functions of what it loads: the kernel handles eight chunks per grid
    point with the same operations, so each chunk's stores are these functions at that chunk's loads
    and at the state gradient carried so far. -/

@[expose] public section

noncomputable section

namespace Cert.KernelIdeal.Chunk

open Idealize.ShloMosaic Idealize.SL.Sem Cert.KernelIdeal.Gen

variable {F : FTy → Type} [FloatOps F]

/-- What one chunk loads: the state it started from, its six chunk-local arrays, its eight head slices of the gate
    and of the incoming gradient, and the norm weight. -/
structure In (F : FTy → Type) [FloatOps F] where
  S : Vec F S1x8x128x128 .f32
  U : Vec F S8x64x128 .f32
  W : Vec F S8x64x128 .bf16
  QG : Vec F S8x64x128 .bf16
  KD : Vec F S8x64x128 .bf16
  QK : Vec F S1x8x64x64 .bf16
  EG : Vec F S1x8x1x128 .f32
  Z : Fin 8 → Vec F S64x128 .f32
  NW : Vec F S1x128 .f32
  DO : Fin 8 → Vec F S64x128 .f32

variable (I : In F) (D : Vec F S8x128x128 .f32)

def s : FVec F S8x128x128 .f32 := k0_pay8 I.S
def w : FVec F S8x64x128 .f32 := k0_pay9 I.W
def qk : FVec F S8x64x64 .f32 := k0_pay10 I.QK
def qg : FVec F S8x64x128 .f32 := k0_pay11 I.QG
def kd : FVec F S8x64x128 .f32 := k0_pay12 I.KD
def eg : FVec F S8x1x128 .f32 := k0_pay13 I.EG
def z : FVec F S8x64x128 .f32 := k0_pay14 (I.Z 0) (I.Z 1) (I.Z 2) (I.Z 3) (I.Z 4) (I.Z 5) (I.Z 6) (I.Z 7)
def g : FVec F S8x64x128 .f32 := k0_pay25 (I.DO 0) (I.DO 1) (I.DO 2) (I.DO 3) (I.DO 4) (I.DO 5) (I.DO 6) (I.DO 7)
def vn : FVec F S8x64x128 .f32 := k0_pay15 (s I) I.U (w I)
def o : FVec F S8x64x128 .f32 := k0_pay16 (s I) I.U (w I) (qk I) (qg I)
def ms : FVec F S8x64x1 .f32 := k0_pay17 (s I) I.U (w I) (qk I) (qg I)
def r : FVec F S8x64x1 .f32 := k0_pay18 (s I) I.U (w I) (qk I) (qg I)
def rp : FVec F S8x64x1 .f32 := k0_pay19 (s I) I.U (w I) (qk I) (qg I)
def orr : FVec F S8x64x128 .f32 := k0_pay20 (s I) I.U (w I) (qk I) (qg I)
def onw : FVec F S8x64x128 .f32 := k0_pay22 (s I) I.U (w I) (qk I) (qg I) I.NW
def th : FVec F S8x64x128 .f32 := k0_pay23 (I.Z 0) (I.Z 1) (I.Z 2) (I.Z 3) (I.Z 4) (I.Z 5) (I.Z 6) (I.Z 7)
/-- The gradient at the normalised output: `g` through the gate. -/
def gz : FVec F S8x64x128 .f32 :=
  k0_pay27 (z I) (th I) (I.DO 0) (I.DO 1) (I.DO 2) (I.DO 3) (I.DO 4) (I.DO 5) (I.DO 6) (I.DO 7)
/-- The gradient at the gate's argument. -/
def dz : FVec F S8x64x128 .f32 :=
  k0_pay31 (k0_pay28 (onw I) (th I) (I.DO 0) (I.DO 1) (I.DO 2) (I.DO 3) (I.DO 4) (I.DO 5) (I.DO 6) (I.DO 7))
    (k0_pay29 (z I) (onw I) (th I) (Scalar.ofBits .f32 0x3F800000#32) (I.DO 0) (I.DO 1) (I.DO 2) (I.DO 3) (I.DO 4) (I.DO 5) (I.DO 6) (I.DO 7))
    k0_pay30
/-- This chunk's part of the norm weight's gradient. -/
def dnw : FVec F S1x128 .f32 := k0_pay32 (orr I) (gz I)
/-- The gradient at the recurrence's output. -/
def dO : FVec F S8x64x128 .f32 := k0_pay33 (o I) (r I) (rp I) (k0_pay21 I.NW) (gz I)
def dkd : FVec F S8x64x128 .f32 := k0_pay36 (vn I) D
def deg : FVec F S8x1x128 .f32 := k0_pay37 (s I) D
def dqk : FVec F S8x64x64 .f32 := k0_pay39 (vn I) (o I) (r I) (rp I) (k0_pay21 I.NW) (gz I)
def dvn : FVec F S8x64x128 .f32 := k0_pay40 (qk I) (kd I) (o I) (r I) (rp I) (k0_pay21 I.NW) D (gz I)
def dqg : FVec F S8x64x128 .f32 := k0_pay41 (s I) (o I) (r I) (rp I) (k0_pay21 I.NW) (gz I)
def du : FVec F S8x64x128 .bf16 := k0_pay46 (dvn I D)
def dw : FVec F S8x64x128 .bf16 := k0_pay47 (s I) (dvn I D)
def dqk4 : FVec F S1x8x64x64 .f32 := k0_pay48 (dqk I)
def deg4 : FVec F S1x8x1x128 .f32 := k0_pay49 (deg I D)
/-- The state's gradient handed to the chunk before. -/
def ds : FVec F S8x128x128 .f32 :=
  k0_pay45 (w I) (k0_pay38 (eg I) D) (dvn I D) (k0_pay42 (qg I)) (k0_pay43 (o I) (r I) (rp I) (k0_pay21 I.NW) (gz I))
/-- The norm weight's gradient with this chunk's part added to the part so far. -/
def nacc (n : FVec F S1x128 .f32) : FVec F S1x128 .f32 := k0_pay59 (dnw I) (k0_pay58 n)
/-- Head `h` of the gate's gradient, as it is stored. -/
def dzh : Fin 8 → FVec F S64x128 .bf16
  | 0 => k0_pay50 (dz I) | 1 => k0_pay51 (dz I) | 2 => k0_pay52 (dz I) | 3 => k0_pay53 (dz I)
  | 4 => k0_pay54 (dz I) | 5 => k0_pay55 (dz I) | 6 => k0_pay56 (dz I) | 7 => k0_pay57 (dz I)

/-- The state gradient after the first `n` chunks of a point, its loads being `I 0`, `I 1`, … in the order handled. -/
def dchain (I : ℕ → In F) (D : FVec F S8x128x128 .f32) : ℕ → FVec F S8x128x128 .f32
  | 0 => D
  | n + 1 => ds (I n) (dchain I D n)

/-- The norm weight's gradient likewise. -/
def nchain (I : ℕ → In F) (D : FVec F S1x128 .f32) : ℕ → FVec F S1x128 .f32
  | 0 => D
  | n + 1 => nacc (I n) (nchain I D n)

/-- The loads of chunk `j` of a grid point, off the point's input blocks. -/
def loads (x0 : Vec F S8x512x128 .f32) (x1 x2 x3 : Vec F S8x512x128 .bf16) (x4 : Vec F S8x8x64x64 .bf16)
    (x5 : Vec F S8x8x1x128 .f32) (x6 : Vec F S512x1024 .f32) (x7 : Vec F S1x128 .f32) (x8 : Vec F S8x8x128x128 .f32)
    (x9 : Vec F S512x1024 .f32) (j : ℕ) (hj : j < 8) : In F where
  S := View.ld x8 (Rect.unit ![j, 0, 0, 0] S1x8x128x128.size (by intro a; fin_cases a <;> simp [S1x8x128x128, S8x8x128x128] <;> omega))
  U := View.ld x0 (Rect.unit ![0, 64 * j, 0] S8x64x128.size (by intro a; fin_cases a <;> simp [S8x64x128, S8x512x128] <;> omega))
  W := View.ld x1 (Rect.unit ![0, 64 * j, 0] S8x64x128.size (by intro a; fin_cases a <;> simp [S8x64x128, S8x512x128] <;> omega))
  QG := View.ld x2 (Rect.unit ![0, 64 * j, 0] S8x64x128.size (by intro a; fin_cases a <;> simp [S8x64x128, S8x512x128] <;> omega))
  KD := View.ld x3 (Rect.unit ![0, 64 * j, 0] S8x64x128.size (by intro a; fin_cases a <;> simp [S8x64x128, S8x512x128] <;> omega))
  QK := View.ld x4 (Rect.unit ![j, 0, 0, 0] S1x8x64x64.size (by intro a; fin_cases a <;> simp [S1x8x64x64, S8x8x64x64] <;> omega))
  EG := View.ld x5 (Rect.unit ![j, 0, 0, 0] S1x8x1x128.size (by intro a; fin_cases a <;> simp [S1x8x1x128, S8x8x1x128] <;> omega))
  Z := fun h => View.ld x6 (Rect.unit ![64 * j, 128 * h.val] S64x128.size (by intro a; fin_cases a <;> simp [S64x128, S512x1024] <;> omega))
  NW := View.ld x7 (Rect.unit ![0, 0] S1x128.size inb_S1x128_S1x128_0_0)
  DO := fun h => View.ld x9 (Rect.unit ![64 * j, 128 * h.val] S64x128.size (by intro a; fin_cases a <;> simp [S64x128, S512x1024] <;> omega))

end Cert.KernelIdeal.Chunk

end
-- ==== Proof.Spec.lean ====
module

public import Idealize.ShloMosaic.Lib.Pointwise
public import Idealize.ShloMosaic.Lib.IdealHost

/-! The backward of the gated delta recurrence over the extended reals, at indices: one chunk's gradients from its inputs
    and the gradient of the state it leaves, and the sums carried from chunk to chunk, last chunk first. -/

@[expose] public section

noncomputable section

namespace Cert.Spec

open Idealize.ShloMosaic

/-- One chunk's inputs, by head, row and lane. -/
structure Ch where
  s : Fin 8 → Fin 128 → Fin 128 → EReal
  u : Fin 8 → Fin 64 → Fin 128 → EReal
  w : Fin 8 → Fin 64 → Fin 128 → EReal
  qg : Fin 8 → Fin 64 → Fin 128 → EReal
  kd : Fin 8 → Fin 64 → Fin 128 → EReal
  qk : Fin 8 → Fin 64 → Fin 64 → EReal
  eg : Fin 8 → Fin 128 → EReal
  z : Fin 8 → Fin 64 → Fin 128 → EReal
  nw : Fin 128 → EReal
  g : Fin 8 → Fin 64 → Fin 128 → EReal

variable (C : Ch) (D : Fin 8 → Fin 128 → Fin 128 → EReal) (h : Fin 8) (i : Fin 64) (x : Fin 128)

def c128 : EReal := Ideal.ofBits .f32 0x43000000#32
def eps : EReal := Ideal.ofBits .f32 0x358637BD#32
def mhalf : EReal := Ideal.ofBits .f32 0xBF000000#32
def half : EReal := Ideal.ofBits .f32 0x3F000000#32
def two : EReal := Ideal.ofBits .f32 0x40000000#32

/-- The corrected values and the output. -/
def vn : EReal := C.u h i x - ∑ k, C.w h i k * C.s h k x
def o : EReal := ∑ k, C.qg h i k * C.s h k x + ∑ j, C.qk h i j * vn C h j x
/-- The norm. -/
def ms : EReal := Ideal.div (∑ x, o C h i x * o C h i x) c128 + eps
def r : EReal := Ideal.rsqrt (ms C h i)
/-- The gate's sigmoid. -/
def sg : EReal := Ideal.div 1 (1 + Ideal.exp (-(C.z h i x)))
/-- The gradient through the gate, and through the norm's weight. -/
def gz : EReal := C.g h i x * (C.z h i x * sg C h i x)
def gn : EReal := gz C h i x * C.nw x
def pull : EReal := Ideal.div ((∑ x, o C h i x * gn C h i x) * (mhalf * Ideal.div (r C h i) (ms C h i))) c128
def dO : EReal := gn C h i x * r C h i + pull C h i * (two * o C h i x)
def dvn : EReal := ∑ k, C.kd h i k * D h k x + ∑ j, C.qk h j i * dO C h j x
def dw : EReal := ∑ y, -(dvn C D h i y) * C.s h x y
def dqg : EReal := ∑ y, dO C h i y * C.s h x y
def dkd : EReal := ∑ y, vn C h i y * D h x y
def dqk (j : Fin 64) : EReal := ∑ y, dO C h i y * vn C h j y
def deg : EReal := ∑ a, C.s h a x * D h a x
def gated : EReal := o C h i x * r C h i * C.nw x * C.g h i x
def dz : EReal := gated C h i x * sg C h i x + C.z h i x * gated C h i x * (sg C h i x * (1 - sg C h i x))
def dnw : EReal := ∑ h, ∑ i, o C h i x * r C h i * gz C h i x
def ds (a : Fin 128) : EReal :=
  D h a x * C.eg h x + ∑ j, C.qg h j a * dO C h j x + ∑ j, C.w h j a * -(dvn C D h j x)

/-- The state's gradient after `k` chunks, and the norm weight's. -/
def dst (C : ℕ → Ch) : ℕ → Fin 8 → Fin 128 → Fin 128 → EReal
  | 0 => fun _ _ _ => 0
  | k + 1 => fun h a x => ds (C k) (dst C k) h x a
def nst (C : ℕ → Ch) : ℕ → Fin 128 → EReal
  | 0 => fun _ => 0
  | k + 1 => fun x => nst C k x + dnw (C k) x

/-- Chunk `n` of the whole arrays: heads lead, then 64 rows of 8192, or the chunk leads; the gate's argument is the
    projection's columns from 3072. -/
def ofArgs (u w qg kd : (⟨3, ![8, 8192, 128]⟩ : Shape).Idx → EReal) (qk : (⟨4, ![128, 8, 64, 64]⟩ : Shape).Idx → EReal)
    (eg : (⟨4, ![128, 8, 1, 128]⟩ : Shape).Idx → EReal) (p : (⟨2, ![8192, 9728]⟩ : Shape).Idx → EReal)
    (nw : (⟨2, ![1, 128]⟩ : Shape).Idx → EReal) (s : (⟨4, ![128, 8, 128, 128]⟩ : Shape).Idx → EReal)
    (g : (⟨2, ![8192, 1024]⟩ : Shape).Idx → EReal) (n : Fin 128) : Ch where
  s h a x := s (ix4 n h a x)
  u h i x := u (ix3 h ⟨64 * n.val + i.val, by omega⟩ x)
  w h i x := w (ix3 h ⟨64 * n.val + i.val, by omega⟩ x)
  qg h i x := qg (ix3 h ⟨64 * n.val + i.val, by omega⟩ x)
  kd h i x := kd (ix3 h ⟨64 * n.val + i.val, by omega⟩ x)
  qk h i j := qk (ix4 n h i j)
  eg h x := eg (ix4 n h 0 x)
  z h i x := p (ix2 ⟨64 * n.val + i.val, by omega⟩ ⟨3072 + 128 * h.val + x.val, by omega⟩)
  nw x := nw (ix2 0 x)
  g h i x := g (ix2 ⟨64 * n.val + i.val, by omega⟩ ⟨128 * h.val + x.val, by omega⟩)

/-- The chunk handled `k`th: the last chunk first. -/
def back (k : ℕ) : Fin 128 := ⟨127 - k, by omega⟩

theorem dst_congr {C C' : ℕ → Ch} : ∀ k, (∀ n, n < k → C n = C' n) → dst C k = dst C' k
  | 0, _ => rfl
  | k + 1, e => by
    show (fun h a x => ds (C k) (dst C k) h x a) = fun h a x => ds (C' k) (dst C' k) h x a
    rw [e k (Nat.lt_succ_self k), dst_congr k fun n hn => e n (Nat.lt_succ_of_lt hn)]

theorem nst_congr {C C' : ℕ → Ch} : ∀ k, (∀ n, n < k → C n = C' n) → nst C k = nst C' k
  | 0, _ => rfl
  | k + 1, e => by
    show (fun x => nst C k x + dnw (C k) x) = fun x => nst C' k x + dnw (C' k) x
    rw [e k (Nat.lt_succ_self k), nst_congr k fun n hn => e n (Nat.lt_succ_of_lt hn)]

/-! ### The two spellings of the gate -/

theorem half_eq : half = ((1 / 2 : ℝ) : EReal) := by
  unfold half; simp [Ideal.ofBits, Ideal.ieee, -EReal.coe_mul]; norm_num

theorem two_eq : two = ((2 : ℝ) : EReal) := by
  unfold two; simp [Ideal.ofBits, Ideal.ieee, -EReal.coe_mul]; norm_num

/-- A sum over the indices of a rank 3 block that keep the last coordinate. -/
theorem sum01 {n0 n1 n2 : ℕ} (d : (⟨3, ![n0, n1, n2]⟩ : Shape).Idx → (⟨1, ![n2]⟩ : Shape).Idx)
    (hd : ∀ i, d i 0 = i 2) (v : (⟨3, ![n0, n1, n2]⟩ : Shape).Idx → EReal) (x : Fin n2) :
    ∑ i ∈ Finset.univ.filter (fun i => d i = ix1 x), v i = ∑ a, ∑ b, v (ix3 a b x) := by
  refine (Finset.sum_filter_eq_sum_of_fiber _ (fun k : Fin n0 × Fin n1 => ix3 k.1 k.2 x)
    (fun _ _ e => Prod.ext (congrFun e 0) (congrFun e 1)) (fun i => ?_) v).trans ?_
  · constructor
    · intro e
      refine ⟨(i 0, i 1), ?_⟩
      funext a
      match a with
      | ⟨0, _⟩ => rfl
      | ⟨1, _⟩ => rfl
      | ⟨2, _⟩ => exact (congrFun e 0).symm.trans (hd i)
    · rintro ⟨k, rfl⟩
      funext b
      match b with
      | ⟨0, _⟩ => exact hd _
  · simp only [Fintype.sum_prod_type]

theorem two_mul_add (a : EReal) : a + a = two * a := by
  rw [two_eq]
  induction a with
  | bot => rw [EReal.coe_mul_bot_of_pos (by norm_num)]; rfl
  | top => rw [EReal.coe_mul_top_of_pos (by norm_num)]; rfl
  | coe a => norm_cast; ring

theorem real_sigmoid (r : ℝ) : 1 / 2 * Real.tanh (1 / 2 * r) + 1 / 2 = 1 * (1 + Real.exp (-r))⁻¹ := by
  have h1 := Real.exp_pos (1 / 2 * r)
  have h2 := Real.exp_pos (-(1 / 2 * r))
  have e : Real.exp (-r) = Real.exp (-(1 / 2 * r)) * Real.exp (-(1 / 2 * r)) := by rw [← Real.exp_add]; congr 1; ring
  have e1 : Real.exp (1 / 2 * r) * Real.exp (-(1 / 2 * r)) = 1 := by rw [← Real.exp_add]; simp
  rw [Real.tanh_eq_sinh_div_cosh, Real.sinh_eq, Real.cosh_eq, e]
  generalize Real.exp (1 / 2 * r) = p at *
  generalize Real.exp (-(1 / 2 * r)) = q at *
  have h3 : p + q ≠ 0 := by positivity
  have h4 : 1 + q * q ≠ 0 := by positivity
  field_simp
  linear_combination (2 * q) * e1

theorem sigmoid_real (r : ℝ) :
    Ideal.div 1 (1 + Ideal.exp (-(r : EReal))) = ((1 * (1 + Real.exp (-r))⁻¹ : ℝ) : EReal) := by
  have h0 : (1 : ℝ) + Real.exp (-r) ≠ 0 := by positivity
  rw [← EReal.coe_neg]
  show Ideal.div ((1 : ℝ) : EReal) (((1 : ℝ) : EReal) + ((Real.exp (-r) : ℝ) : EReal)) = _
  rw [← EReal.coe_add, Ideal.div_coe h0, ← EReal.coe_mul, one_div]

theorem sigmoid_top : Ideal.div 1 (1 + Ideal.exp (-(⊤ : EReal))) = 1 := by
  show Ideal.div 1 (1 + 0) = 1
  rw [add_zero]
  show Ideal.div 1 ((1 : ℝ) : EReal) = 1
  rw [show (1 : EReal) = ((1 : ℝ) : EReal) from rfl, Ideal.div_coe (by norm_num)]
  norm_num

theorem sigmoid_bot : Ideal.div 1 (1 + Ideal.exp (-(⊥ : EReal))) = 0 := by
  show Ideal.div 1 (1 + ⊤) = 0
  rw [show (1 : EReal) + ⊤ = ⊤ from rfl]
  unfold Ideal.div
  rw [if_neg (by simp)]
  simp

/-- `½ tanh (½ z) + ½` is the sigmoid. -/
theorem sigmoid_eq (z : EReal) :
    half * Ideal.tanh (half * z) + half = Ideal.div 1 (1 + Ideal.exp (-z)) := by
  rw [half_eq]
  induction z with
  | bot =>
    rw [sigmoid_bot, EReal.coe_mul_bot_of_pos (by norm_num), Ideal.tanh_bot]
    rw [show (-1 : EReal) = ((-1 : ℝ) : EReal) from rfl, ← EReal.coe_mul, ← EReal.coe_add]
    norm_num
  | top =>
    rw [sigmoid_top, EReal.coe_mul_top_of_pos (by norm_num), Ideal.tanh_top]
    rw [show (1 : EReal) = ((1 : ℝ) : EReal) from rfl, ← EReal.coe_mul, ← EReal.coe_add]
    norm_num
  | coe r =>
    rw [sigmoid_real, ← EReal.coe_mul, Ideal.tanh_coe, ← EReal.coe_mul, ← EReal.coe_add, real_sigmoid]

/-- A quarter of `(1 + t) (1 - t)` is the sigmoid's slope. -/
theorem slope_eq (z : EReal) :
    half * half * ((1 + Ideal.tanh (half * z)) * (1 - Ideal.tanh (half * z)))
      = Ideal.div 1 (1 + Ideal.exp (-z)) * (1 - Ideal.div 1 (1 + Ideal.exp (-z))) := by
  rw [half_eq]
  induction z with
  | bot =>
    rw [sigmoid_bot, EReal.coe_mul_bot_of_pos (by norm_num), Ideal.tanh_bot, zero_mul]
    rw [show (1 : EReal) + -1 = 0 by rw [show (-1 : EReal) = ((-1 : ℝ) : EReal) from rfl, show (1 : EReal) = ((1 : ℝ) : EReal) from rfl, ← EReal.coe_add]; norm_num]
    simp
  | top =>
    rw [sigmoid_top, EReal.coe_mul_top_of_pos (by norm_num), Ideal.tanh_top]
    rw [show (1 : EReal) - 1 = 0 by rw [show (1 : EReal) = ((1 : ℝ) : EReal) from rfl, ← EReal.coe_sub]; norm_num]
    simp
  | coe r =>
    rw [sigmoid_real, ← real_sigmoid, ← EReal.coe_mul (1 / 2) r, Ideal.tanh_coe, show (1 : EReal) = ((1 : ℝ) : EReal) from rfl]
    simp only [← EReal.coe_mul, ← EReal.coe_add, ← EReal.coe_sub]
    congr 1
    ring

/-- The gate's gradient as the half-angle spelling has it. -/
theorem gate_eq (a z : EReal) :
    a * (half * Ideal.tanh (half * z) + half)
        + half * (half * (z * a) * ((1 + Ideal.tanh (half * z)) * (1 - Ideal.tanh (half * z))))
      = a * Ideal.div 1 (1 + Ideal.exp (-z))
        + z * a * (Ideal.div 1 (1 + Ideal.exp (-z)) * (1 - Ideal.div 1 (1 + Ideal.exp (-z)))) := by
  rw [sigmoid_eq, ← slope_eq]
  congr 1
  ac_rfl

end Cert.Spec

end
-- ==== Proof.Kern.lean ====
module

public import proofs.«01_k».proof.Proof.Chunk
public import proofs.«01_k».proof.Proof.Spec
public import Idealize.ShloMosaic.Lib.Pointwise

/-! The kernel's chunk functions over the extended reals, at indices, are the ones of `Spec`. -/

@[expose] public section

set_option maxRecDepth 16384

noncomputable section

namespace Cert.KernelIdeal.Chunk

open Idealize.ShloMosaic Idealize.SL.Sem Cert.KernelIdeal Cert.KernelIdeal.Gen

/-- What a chunk loads, by head, row and lane. -/
def chOf (I : In Ideal) : Spec.Ch where
  s h a x := I.S (ix4 0 h a x)
  u h i x := I.U (ix3 h i x)
  w h i x := I.W (ix3 h i x)
  qg h i x := I.QG (ix3 h i x)
  kd h i x := I.KD (ix3 h i x)
  qk h i j := I.QK (ix4 0 h i j)
  eg h x := I.EG (ix4 0 h 0 x)
  z h i x := I.Z h (ix2 i x)
  nw x := I.NW (ix2 0 x)
  g h i x := I.DO h (ix2 i x)

variable (I : In Ideal) (D : FVec Ideal S8x128x128 .f32) (h : Fin 8) (i : Fin 64) (x : Fin 128)

/-- The state gradient by head, key and lane. -/
def dOf : Fin 8 → Fin 128 → Fin 128 → EReal := fun h a x => D (ix3 h a x)

theorem s_at (a : Fin 128) : s I (ix3 h a x) = (chOf I).s h a x := by
  unfold chOf; pointwise [s, k0_pay8]
theorem w_at : w I (ix3 h i x) = (chOf I).w h i x := by
  unfold chOf; pointwise [w, k0_pay9]
theorem qg_at : qg I (ix3 h i x) = (chOf I).qg h i x := by
  unfold chOf; pointwise [qg, k0_pay11]
theorem kd_at : kd I (ix3 h i x) = (chOf I).kd h i x := by
  unfold chOf; pointwise [kd, k0_pay12]
theorem qk_at (j : Fin 64) : qk I (ix3 h i j) = (chOf I).qk h i j := by
  unfold chOf; pointwise [qk, k0_pay10]
theorem eg_at : eg I (ix3 h 0 x) = (chOf I).eg h x := by
  unfold chOf; pointwise [eg, k0_pay13]
theorem z_at : z I (ix3 h i x) = (chOf I).z h i x := by
  unfold chOf; fin_cases h <;> pointwise [z, k0_pay14]
theorem g_at : g I (ix3 h i x) = (chOf I).g h i x := by
  unfold chOf; fin_cases h <;> pointwise [g, k0_pay25]
theorem nw_at : k0_pay21 (F := Ideal) I.NW (ix3 0 0 x) = (chOf I).nw x := by
  unfold chOf; pointwise [k0_pay21]

theorem vn_at : vn I (ix3 h i x) = Spec.vn (chOf I) h i x := by
  have e : vn I (ix3 h i x) = I.U (ix3 h i x) - ∑ k, w I (ix3 h i k) * s I (ix3 h k x) := by
    pointwise [vn, k0_pay15]
  rw [e]
  simp only [w_at, s_at]
  rfl

theorem o_at : o I (ix3 h i x) = Spec.o (chOf I) h i x := by
  have e : o I (ix3 h i x)
      = ∑ k, qg I (ix3 h i k) * s I (ix3 h k x) + ∑ j, qk I (ix3 h i j) * vn I (ix3 h j x) := by
    pointwise [o, k0_pay16, vn]
  rw [e]
  simp only [qg_at, s_at, qk_at, vn_at]
  rfl

theorem ms_at : ms I (ix3 h i 0) = Spec.ms (chOf I) h i := by
  have e : ms I (ix3 h i 0)
      = Ideal.div (∑ x, o I (ix3 h i x) * o I (ix3 h i x)) Spec.c128 + Spec.eps := by
    unfold Spec.c128 Spec.eps
    pointwise [ms, k0_pay17, o]
  rw [e]
  simp only [o_at]
  rfl

theorem r_at : r I (ix3 h i 0) = Spec.r (chOf I) h i := by
  have e : r I (ix3 h i 0) = Ideal.rsqrt (ms I (ix3 h i 0)) := by
    pointwise [r, k0_pay18, ms]
  rw [e, ms_at]
  rfl

theorem rp_at : rp I (ix3 h i 0)
    = Spec.mhalf * Ideal.div (Spec.r (chOf I) h i) (Spec.ms (chOf I) h i) := by
  have e : rp I (ix3 h i 0) = Spec.mhalf * Ideal.div (r I (ix3 h i 0)) (ms I (ix3 h i 0)) := by
    unfold Spec.mhalf
    pointwise [rp, k0_pay19, r, ms]
  rw [e, ms_at, r_at]

theorem orr_at : orr I (ix3 h i x) = Spec.o (chOf I) h i x * Spec.r (chOf I) h i := by
  have e : orr I (ix3 h i x) = o I (ix3 h i x) * r I (ix3 h i 0) := by
    pointwise [orr, k0_pay20, o, r]
  rw [e, o_at, r_at]

theorem onw_at : onw I (ix3 h i x) = Spec.o (chOf I) h i x * Spec.r (chOf I) h i * (chOf I).nw x := by
  have e : onw I (ix3 h i x) = orr I (ix3 h i x) * k0_pay21 (F := Ideal) I.NW (ix3 0 0 x) := by
    pointwise [onw, k0_pay22, orr]
  rw [e, orr_at, nw_at]

theorem th_at : th I (ix3 h i x) = Ideal.tanh (Spec.half * (chOf I).z h i x) := by
  have e : th I (ix3 h i x) = Ideal.tanh (Spec.half * z I (ix3 h i x)) := by
    unfold Spec.half
    pointwise [th, k0_pay23, z]
  rw [e, z_at]

theorem sg_at : k0_pay24 (F := Ideal) (th I) (ix3 h i x) = Spec.sg (chOf I) h i x := by
  have e : k0_pay24 (F := Ideal) (th I) (ix3 h i x) = Spec.half * th I (ix3 h i x) + Spec.half := by
    unfold Spec.half
    pointwise [k0_pay24]
  rw [e, th_at, Spec.sigmoid_eq]
  rfl

theorem gz_at : gz I (ix3 h i x) = Spec.gz (chOf I) h i x := by
  have e : gz I (ix3 h i x) = g I (ix3 h i x) * (z I (ix3 h i x) * k0_pay24 (F := Ideal) (th I) (ix3 h i x)) := by
    pointwise [gz, k0_pay27, g]
  rw [e, g_at, z_at, sg_at]
  rfl

theorem gated_at : k0_pay26 (F := Ideal) (onw I) (I.DO 0) (I.DO 1) (I.DO 2) (I.DO 3) (I.DO 4) (I.DO 5) (I.DO 6)
    (I.DO 7) (ix3 h i x) = Spec.gated (chOf I) h i x := by
  have e : k0_pay26 (F := Ideal) (onw I) (I.DO 0) (I.DO 1) (I.DO 2) (I.DO 3) (I.DO 4) (I.DO 5) (I.DO 6)
      (I.DO 7) (ix3 h i x) = onw I (ix3 h i x) * g I (ix3 h i x) := by
    pointwise [k0_pay26, g]
  rw [e, onw_at, g_at]
  rfl

theorem dz_at : dz I (ix3 h i x) = Spec.dz (chOf I) h i x := by
  have e : dz I (ix3 h i x)
      = k0_pay26 (F := Ideal) (onw I) (I.DO 0) (I.DO 1) (I.DO 2) (I.DO 3) (I.DO 4) (I.DO 5) (I.DO 6) (I.DO 7) (ix3 h i x)
          * k0_pay24 (F := Ideal) (th I) (ix3 h i x)
        + Spec.half * (Spec.half * (z I (ix3 h i x)
            * k0_pay26 (F := Ideal) (onw I) (I.DO 0) (I.DO 1) (I.DO 2) (I.DO 3) (I.DO 4) (I.DO 5) (I.DO 6) (I.DO 7)
              (ix3 h i x))
          * ((1 + th I (ix3 h i x)) * (1 - th I (ix3 h i x)))) := by
    unfold Spec.half
    pointwise [dz, k0_pay28, k0_pay29, k0_pay30, k0_pay31]
  rw [e, gated_at, sg_at, z_at, th_at]
  unfold Spec.dz Spec.sg
  rw [← Spec.gate_eq, Spec.sigmoid_eq]

theorem dnw_at : dnw I (ix2 0 x) = Spec.dnw (chOf I) x := by
  have e : dnw I (ix2 0 x) = ∑ h, ∑ i, orr I (ix3 h i x) * gz I (ix3 h i x) := by
    pointwise [dnw, k0_pay32]
    refine (Spec.sum01 (n0 := 1) (n1 := 1) (n2 := 128) reduces_S1x1x128_S128.drop (fun _ => rfl) _ x).trans ?_
    pointwise []
    simp only [Fin.sum_univ_one]
    refine (Spec.sum01 (n0 := 8) (n1 := 64) (n2 := 128) reduces_S8x64x128_S128.drop (fun _ => rfl) _ x).trans ?_
    pointwise []
  rw [e]
  simp only [orr_at, gz_at]
  rfl

theorem dO_raw : k0_pay33 (F := Ideal) (o I) (r I) (rp I) (k0_pay21 I.NW) (gz I) (ix3 h i x) = Spec.dO (chOf I) h i x := by
  have e : k0_pay33 (F := Ideal) (o I) (r I) (rp I) (k0_pay21 I.NW) (gz I) (ix3 h i x)
      = gz I (ix3 h i x) * k0_pay21 (F := Ideal) I.NW (ix3 0 0 x) * r I (ix3 h i 0)
        + o I (ix3 h i x) * Ideal.div ((∑ x, o I (ix3 h i x) * (gz I (ix3 h i x) * k0_pay21 (F := Ideal) I.NW (ix3 0 0 x)))
            * rp I (ix3 h i 0)) Spec.c128
        + Ideal.div ((∑ x, o I (ix3 h i x) * (gz I (ix3 h i x) * k0_pay21 (F := Ideal) I.NW (ix3 0 0 x)))
            * rp I (ix3 h i 0)) Spec.c128 * o I (ix3 h i x) := by
    unfold Spec.c128
    pointwise [k0_pay33]
    simp only [Fin.sum_univ_one]
  rw [e]
  simp only [gz_at, nw_at, r_at, o_at, rp_at]
  unfold Spec.dO
  rw [add_assoc, mul_comm (Spec.o (chOf I) h i x), Spec.two_mul_add, mul_left_comm]
  rfl

theorem dqg_at : dqg I (ix3 h i x) = Spec.dqg (chOf I) h i x := by
  have e : dqg I (ix3 h i x)
      = ∑ y, k0_pay33 (F := Ideal) (o I) (r I) (rp I) (k0_pay21 I.NW) (gz I) (ix3 h i y) * s I (ix3 h x y) := by
    pointwise [dqg, k0_pay41]
  rw [e]
  simp only [dO_raw, s_at]
  rfl

theorem dkd_at : dkd I D (ix3 h i x) = Spec.dkd (chOf I) (dOf D) h i x := by
  have e : dkd I D (ix3 h i x) = ∑ y, vn I (ix3 h i y) * D (ix3 h x y) := by
    pointwise [dkd, k0_pay36, k0_pay35]
  rw [e]
  simp only [vn_at]
  rfl

theorem dqk_at (j : Fin 64) : dqk4 I (ix4 0 h i j) = Spec.dqk (chOf I) h i j := by
  have e : dqk4 I (ix4 0 h i j)
      = ∑ y, k0_pay33 (F := Ideal) (o I) (r I) (rp I) (k0_pay21 I.NW) (gz I) (ix3 h i y) * vn I (ix3 h j y) := by
    pointwise [dqk4, dqk, k0_pay48, k0_pay39]
  rw [e]
  simp only [dO_raw, vn_at]
  rfl

theorem deg_at : deg4 I D (ix4 0 h 0 x) = Spec.deg (chOf I) (dOf D) h x := by
  have e : deg4 I D (ix4 0 h 0 x) = ∑ a, s I (ix3 h a x) * D (ix3 h a x) := by
    pointwise [deg4, deg, k0_pay49, k0_pay37, k0_pay34]
  rw [e]
  simp only [s_at]
  rfl

theorem dvn_at : dvn I D (ix3 h i x) = Spec.dvn (chOf I) (dOf D) h i x := by
  have e : dvn I D (ix3 h i x) = ∑ k, kd I (ix3 h i k) * D (ix3 h k x)
      + ∑ j, qk I (ix3 h j i) * k0_pay33 (F := Ideal) (o I) (r I) (rp I) (k0_pay21 I.NW) (gz I) (ix3 h j x) := by
    pointwise [dvn, k0_pay40, k0_pay35]
  rw [e]
  simp only [kd_at, qk_at, dO_raw]
  rfl

theorem du_at : du I D (ix3 h i x) = Spec.dvn (chOf I) (dOf D) h i x := by
  have e : du I D (ix3 h i x) = dvn I D (ix3 h i x) := by
    pointwise [du, k0_pay46]
  rw [e, dvn_at]

theorem neg_at : k0_pay44 (F := Ideal) (dvn I D) (ix3 h i x) = -(Spec.dvn (chOf I) (dOf D) h i x) := by
  have e : k0_pay44 (F := Ideal) (dvn I D) (ix3 h i x) = 0 - dvn I D (ix3 h i x) := by
    pointwise [k0_pay44]
  rw [e, dvn_at, zero_sub]

theorem dw_at : dw I D (ix3 h i x) = Spec.dw (chOf I) (dOf D) h i x := by
  have e : dw I D (ix3 h i x) = ∑ y, k0_pay44 (F := Ideal) (dvn I D) (ix3 h i y) * s I (ix3 h x y) := by
    pointwise [dw, k0_pay47]
  rw [e]
  simp only [neg_at, s_at]
  rfl

theorem ds_at (a : Fin 128) : ds I D (ix3 h a x) = Spec.ds (chOf I) (dOf D) h x a := by
  have e : ds I D (ix3 h a x) = D (ix3 h a x) * eg I (ix3 h 0 x)
      + ∑ j, qg I (ix3 h j a) * k0_pay33 (F := Ideal) (o I) (r I) (rp I) (k0_pay21 I.NW) (gz I) (ix3 h j x)
      + ∑ j, w I (ix3 h j a) * k0_pay44 (F := Ideal) (dvn I D) (ix3 h j x) := by
    pointwise [ds, k0_pay45, k0_pay38, k0_pay34, k0_pay42, k0_pay43]
  rw [e]
  simp only [eg_at, qg_at, w_at, dO_raw, neg_at]
  rfl

theorem dzh_at : dzh I h (ix2 i x) = Spec.dz (chOf I) h i x := by
  rw [← dz_at]
  fin_cases h <;> pointwise [dzh, k0_pay50, k0_pay51, k0_pay52, k0_pay53, k0_pay54, k0_pay55, k0_pay56, k0_pay57]

/-- The state gradient carried through the chunks. -/
theorem dst_at (J : ℕ → In Ideal) : ∀ k, dOf (dchain J k0_pay6 k) = Spec.dst (fun n => chOf (J n)) k
  | 0 => by
    funext h a x
    show k0_pay6 (F := Ideal) (ix3 h a x) = 0
    pointwise [k0_pay6]
  | k + 1 => by
    funext h a x
    show ds (J k) (dchain J k0_pay6 k) (ix3 h a x) = _
    rw [ds_at, dst_at J k]
    rfl

/-- The norm weight's gradient carried through the chunks. -/
theorem nst_at (J : ℕ → In Ideal) : ∀ k, nchain J k0_pay7 k (ix2 0 x) = Spec.nst (fun n => chOf (J n)) k x
  | 0 => by
    show k0_pay7 (F := Ideal) (ix2 0 x) = 0
    pointwise [k0_pay7]
  | k + 1 => by
    have e : nchain J k0_pay7 (k + 1) (ix2 0 x) = nchain J k0_pay7 k (ix2 0 x) + dnw (J k) (ix2 0 x) := by
      pointwise [nchain, nacc, k0_pay59, k0_pay58]
    rw [e, nst_at J k, dnw_at]
    rfl

end Cert.KernelIdeal.Chunk

end
-- ==== Proof.Run.lean ====
module

public import proofs.«01_k».proof.Proof.Chunk
import all proofs.«01_k».proof.Proof.Gen.KernelIdeal.Frame.RunA
import all proofs.«01_k».proof.Proof.Gen.KernelIdeal.Frame.RunB
import all proofs.«01_k».proof.Proof.Gen.KernelIdeal.Frame
public import Idealize.ShloMosaic.Lib.Pointwise

/-! The loads of a grid point's chunks, in the order the body handles them, and what a grid point leaves with eight such
    chunks. -/

@[expose] public section

set_option maxRecDepth 16384

noncomputable section

namespace Cert.KernelIdeal.Chunk

open Idealize.ShloMosaic Idealize.SL.Sem Cert.KernelIdeal.Gen
open Idealize.ShloMosaic.Tactic

variable {F : FTy → Type} [FloatOps F]

/-- The loads of the chunk handled `n`th: chunk 7 first, chunk 0 last. -/
def pt (x0 : Vec F S8x512x128 .f32) (x1 x2 x3 : Vec F S8x512x128 .bf16) (x4 : Vec F S8x8x64x64 .bf16)
    (x5 : Vec F S8x8x1x128 .f32) (x6 : Vec F S512x1024 .f32) (x7 : Vec F S1x128 .f32) (x8 : Vec F S8x8x128x128 .f32)
    (x9 : Vec F S512x1024 .f32) (n : ℕ) : In F :=
  loads x0 x1 x2 x3 x4 x5 x6 x7 x8 x9 (7 - n) (by omega)

/-! ## Blocks assembled from the chunks' stores -/

/-- A row block of the eight heads: rows `64 j …` of it are what the chunk handled `7 - j`th stored. -/
def blk3 {α : Type} (f : ℕ → S8x64x128.Idx → α) : S8x512x128.Idx → α := fun y =>
  f (7 - (y 1).val / 64) (ix3 (y 0) ⟨(y 1).val % 64, Nat.mod_lt _ (by norm_num)⟩ (y 2))

/-- The chunk-local square blocks of a point. -/
def blk4q {α : Type} (f : ℕ → S1x8x64x64.Idx → α) : S8x8x64x64.Idx → α := fun y =>
  f (7 - (y 0).val) (ix4 0 (y 1) (y 2) (y 3))

/-- The chunk-local decay rows of a point. -/
def blk4e {α : Type} (f : ℕ → S1x8x1x128.Idx → α) : S8x8x1x128.Idx → α := fun y =>
  f (7 - (y 0).val) (ix4 0 (y 1) (y 2) (y 3))

/-- The gate's rows: head `h` in columns `128 h …`. -/
def blk2 {α : Type} (f : ℕ → Fin 8 → S64x128.Idx → α) : S512x1024.Idx → α := fun y =>
  f (7 - (y 0).val / 64) ⟨(y 1).val / 128, Nat.div_lt_of_lt_mul (y 1).isLt⟩
    (ix2 ⟨(y 0).val % 64, Nat.mod_lt _ (by norm_num)⟩ ⟨(y 1).val % 128, Nat.mod_lt _ (by norm_num)⟩)

theorem blk3_at {α : Type} (f : ℕ → S8x64x128.Idx → α) (y : S8x512x128.Idx) (x : S8x64x128.Idx) (j n : ℕ) (hj : j < 8)
    (hn : n = 7 - j) (h0 : (y 0).val = (x 0).val) (h1 : (y 1).val = 64 * j + (x 1).val) (h2 : (y 2).val = (x 2).val) :
    f n x = blk3 f y := by
  have hx := (x 1).isLt
  have hd : (y 1).val / 64 = j := by have : (x 1).val < 64 := hx; omega
  unfold blk3
  rw [hd, ← hn]
  congr 1
  funext a
  apply Fin.ext
  have : (x 1).val < 64 := hx
  fin_cases a
  · exact h0.symm
  · show (x 1).val = (y 1).val % 64; omega
  · exact h2.symm

theorem blk4q_at {α : Type} (f : ℕ → S1x8x64x64.Idx → α) (y : S8x8x64x64.Idx) (x : S1x8x64x64.Idx) (j n : ℕ)
    (hn : n = 7 - j) (h0 : (y 0).val = j + (x 0).val) (h1 : (y 1).val = (x 1).val) (h2 : (y 2).val = (x 2).val)
    (h3 : (y 3).val = (x 3).val) : f n x = blk4q f y := by
  have hx : (x 0).val < 1 := (x 0).isLt
  unfold blk4q
  rw [h0, show j + (x 0).val = j by omega, ← hn]
  congr 1
  funext a
  apply Fin.ext
  fin_cases a
  · show (x 0).val = 0; omega
  · exact h1.symm
  · exact h2.symm
  · exact h3.symm

theorem blk4e_at {α : Type} (f : ℕ → S1x8x1x128.Idx → α) (y : S8x8x1x128.Idx) (x : S1x8x1x128.Idx) (j n : ℕ)
    (hn : n = 7 - j) (h0 : (y 0).val = j + (x 0).val) (h1 : (y 1).val = (x 1).val) (h2 : (y 2).val = (x 2).val)
    (h3 : (y 3).val = (x 3).val) : f n x = blk4e f y := by
  have hx : (x 0).val < 1 := (x 0).isLt
  unfold blk4e
  rw [h0, show j + (x 0).val = j by omega, ← hn]
  congr 1
  funext a
  apply Fin.ext
  fin_cases a
  · show (x 0).val = 0; omega
  · exact h1.symm
  · exact h2.symm
  · exact h3.symm

theorem blk2_at {α : Type} (f : ℕ → Fin 8 → S64x128.Idx → α) (y : S512x1024.Idx) (x : S64x128.Idx) (j n : ℕ) (h : Fin 8)
    (hn : n = 7 - j) (h0 : (y 0).val = 64 * j + (x 0).val) (h1 : (y 1).val = 128 * h.val + (x 1).val) :
    f n h x = blk2 f y := by
  have hx0 : (x 0).val < 64 := (x 0).isLt
  have hx1 : (x 1).val < 128 := (x 1).isLt
  unfold blk2
  have e0 : (y 0).val / 64 = j := by omega
  have e1 : (⟨(y 1).val / 128, Nat.div_lt_of_lt_mul (y 1).isLt⟩ : Fin 8) = h := by
    apply Fin.ext; show (y 1).val / 128 = h.val; omega
  rw [e0, ← hn, e1]
  congr 1
  funext a
  apply Fin.ext
  fin_cases a
  · show (x 0).val = (y 0).val % 64; omega
  · show (x 1).val = (y 1).val % 128; omega

theorem blk3_piece {α : Type} (f : ℕ → S8x64x128.Idx → α) (j n : ℕ) (hn : n = 7 - j) (hj : j < 8)
    (off : Fin S8x512x128.rank → ℕ) (ho : off = ![0, 64 * j, 0]) (inb : ∀ a, off a + S8x64x128.size a ≤ S8x512x128.size a) (x : S8x64x128.Idx) :
    f n x = blk3 f ((Rect.unit (s := S8x512x128) off S8x64x128.size inb).emb x) := by
  subst ho
  refine blk3_at f _ x j n hj hn ?_ ?_ ?_
  · show 0 + 1 * (x 0).val = _; omega
  · show 64 * j + 1 * (x 1).val = _; omega
  · show 0 + 1 * (x 2).val = _; omega

theorem blk4q_piece {α : Type} (f : ℕ → S1x8x64x64.Idx → α) (j n : ℕ) (hn : n = 7 - j)
    (off : Fin S8x8x64x64.rank → ℕ) (ho : off = ![j, 0, 0, 0]) (inb : ∀ a, off a + S1x8x64x64.size a ≤ S8x8x64x64.size a) (x : S1x8x64x64.Idx) :
    f n x = blk4q f ((Rect.unit (s := S8x8x64x64) off S1x8x64x64.size inb).emb x) := by
  subst ho
  refine blk4q_at f _ x j n hn ?_ ?_ ?_ ?_
  · show j + 1 * (x 0).val = _; omega
  · show 0 + 1 * (x 1).val = _; omega
  · show 0 + 1 * (x 2).val = _; omega
  · show 0 + 1 * (x 3).val = _; omega

theorem blk4e_piece {α : Type} (f : ℕ → S1x8x1x128.Idx → α) (j n : ℕ) (hn : n = 7 - j)
    (off : Fin S8x8x1x128.rank → ℕ) (ho : off = ![j, 0, 0, 0]) (inb : ∀ a, off a + S1x8x1x128.size a ≤ S8x8x1x128.size a) (x : S1x8x1x128.Idx) :
    f n x = blk4e f ((Rect.unit (s := S8x8x1x128) off S1x8x1x128.size inb).emb x) := by
  subst ho
  refine blk4e_at f _ x j n hn ?_ ?_ ?_ ?_
  · show j + 1 * (x 0).val = _; omega
  · show 0 + 1 * (x 1).val = _; omega
  · show 0 + 1 * (x 2).val = _; omega
  · show 0 + 1 * (x 3).val = _; omega

theorem blk2_piece {α : Type} (f : ℕ → Fin 8 → S64x128.Idx → α) (j n : ℕ) (h : Fin 8) (hn : n = 7 - j)
    (off : Fin S512x1024.rank → ℕ) (ho : off = ![64 * j, 128 * h.val]) (inb : ∀ a, off a + S64x128.size a ≤ S512x1024.size a) (x : S64x128.Idx) :
    f n h x = blk2 f ((Rect.unit (s := S512x1024) off S64x128.size inb).emb x) := by
  subst ho
  refine blk2_at f _ x j n h hn ?_ ?_
  · show 64 * j + 1 * (x 0).val = _; omega
  · show 128 * h.val + 1 * (x 1).val = _; omega

/-! ## The stores of the chunks, the one handled last first -/

theorem fit3 (n : ℕ) : ∀ a, (![0, 64 * (7 - n), 0] : Fin S8x512x128.rank → ℕ) a + S8x64x128.size a ≤ S8x512x128.size a := by
  intro a; fin_cases a <;> simp [S8x64x128, S8x512x128] <;> omega

def store3 {e : EltTy} (f : ℕ → S8x64x128.Idx → Elt F e) (n : ℕ) : View.Piece (Elt F) S8x512x128 e :=
  ⟨Rect.unit ![0, 64 * (7 - n), 0] S8x64x128.size (fit3 n), f n⟩

theorem canon3 {e : EltTy} (f : ℕ → S8x64x128.Idx → Elt F e) :
    View.canon ((List.range 8).reverse.map (store3 f)) = blk3 f := by
  funext y
  refine View.canon_apply_of_pieces _ _ (fun p hp x => ?_) y (View.cover_of_tiledL ((List.range 8).reverse.map (store3 f)) S8x64x128.size (by sl_kernel_rfl) y)
  obtain ⟨n, hn, rfl⟩ := List.mem_map.mp hp
  have hn : n < 8 := by simpa using hn
  exact blk3_piece f (7 - n) n (by omega) (by omega) _ rfl (fit3 n) x

theorem fit4q (n : ℕ) : ∀ a, (![7 - n, 0, 0, 0] : Fin S8x8x64x64.rank → ℕ) a + S1x8x64x64.size a ≤ S8x8x64x64.size a := by
  intro a; fin_cases a <;> simp [S1x8x64x64, S8x8x64x64] <;> omega

def store4q {e : EltTy} (f : ℕ → S1x8x64x64.Idx → Elt F e) (n : ℕ) : View.Piece (Elt F) S8x8x64x64 e :=
  ⟨Rect.unit ![7 - n, 0, 0, 0] S1x8x64x64.size (fit4q n), f n⟩

theorem canon4q {e : EltTy} (f : ℕ → S1x8x64x64.Idx → Elt F e) :
    View.canon ((List.range 8).reverse.map (store4q f)) = blk4q f := by
  funext y
  refine View.canon_apply_of_pieces _ _ (fun p hp x => ?_) y (View.cover_of_tiledL ((List.range 8).reverse.map (store4q f)) S1x8x64x64.size (by sl_kernel_rfl) y)
  obtain ⟨n, hn, rfl⟩ := List.mem_map.mp hp
  have hn : n < 8 := by simpa using hn
  exact blk4q_piece f (7 - n) n (by omega) _ rfl (fit4q n) x

theorem fit4e (n : ℕ) : ∀ a, (![7 - n, 0, 0, 0] : Fin S8x8x1x128.rank → ℕ) a + S1x8x1x128.size a ≤ S8x8x1x128.size a := by
  intro a; fin_cases a <;> simp [S1x8x1x128, S8x8x1x128] <;> omega

def store4e {e : EltTy} (f : ℕ → S1x8x1x128.Idx → Elt F e) (n : ℕ) : View.Piece (Elt F) S8x8x1x128 e :=
  ⟨Rect.unit ![7 - n, 0, 0, 0] S1x8x1x128.size (fit4e n), f n⟩

theorem canon4e {e : EltTy} (f : ℕ → S1x8x1x128.Idx → Elt F e) :
    View.canon ((List.range 8).reverse.map (store4e f)) = blk4e f := by
  funext y
  refine View.canon_apply_of_pieces _ _ (fun p hp x => ?_) y (View.cover_of_tiledL ((List.range 8).reverse.map (store4e f)) S1x8x1x128.size (by sl_kernel_rfl) y)
  obtain ⟨n, hn, rfl⟩ := List.mem_map.mp hp
  have hn : n < 8 := by simpa using hn
  exact blk4e_piece f (7 - n) n (by omega) _ rfl (fit4e n) x

theorem fit2 (b : ℕ) : ∀ a, (![64 * (7 - b / 8), 128 * (b % 8)] : Fin S512x1024.rank → ℕ) a + S64x128.size a ≤ S512x1024.size a := by
  intro a; fin_cases a <;> simp [S64x128, S512x1024] <;> omega

def store2 {e : EltTy} (f : ℕ → Fin 8 → S64x128.Idx → Elt F e) (b : ℕ) : View.Piece (Elt F) S512x1024 e :=
  ⟨Rect.unit ![64 * (7 - b / 8), 128 * (b % 8)] S64x128.size (fit2 b),
    f (b / 8) ⟨b % 8, by omega⟩⟩

theorem canon2 {e : EltTy} (f : ℕ → Fin 8 → S64x128.Idx → Elt F e) :
    View.canon ((List.range 64).reverse.map (store2 f)) = blk2 f := by
  funext y
  refine View.canon_apply_of_pieces _ _ (fun p hp x => ?_) y (View.cover_of_tiledL ((List.range 64).reverse.map (store2 f)) S64x128.size (by sl_kernel_rfl) y)
  obtain ⟨b, hb, rfl⟩ := List.mem_map.mp hp
  have hb : b < 64 := by simpa using hb
  exact blk2_piece f (7 - b / 8) (b / 8) ⟨b % 8, by omega⟩ (by omega) _ rfl (fit2 b) x

theorem hz : (![0, 0, 0] : Fin 3 → Nat) = fun _ => 0 := funext fun a => by fin_cases a <;> rfl
theorem hz2 : (![0, 0] : Fin 2 → Nat) = fun _ => 0 := funext fun a => by fin_cases a <;> rfl

variable (c : Dev nD) (i : grid0.Coords) (a1 : Memref sig .tc .vmem S8x512x128 .f32) (h1 : a1.IsWhole)
  (a2 : Memref sig .tc .vmem S8x512x128 .bf16) (h2 : a2.IsWhole) (a3 : Memref sig .tc .vmem S8x512x128 .bf16)
  (h3 : a3.IsWhole) (a4 : Memref sig .tc .vmem S8x512x128 .bf16) (h4 : a4.IsWhole)
  (a5 : Memref sig .tc .vmem S8x8x64x64 .bf16) (h5 : a5.IsWhole) (a6 : Memref sig .tc .vmem S8x8x1x128 .f32) (h6 : a6.IsWhole)
  (a7 : Memref sig .tc .vmem S512x1024 .f32) (h7 : a7.IsWhole) (a8 : Memref sig .tc .vmem S1x128 .f32) (h8 : a8.IsWhole)
  (a9 : Memref sig .tc .vmem S8x8x128x128 .f32) (h9 : a9.IsWhole) (a10 : Memref sig .tc .vmem S512x1024 .f32)
  (h10 : a10.IsWhole) (a11 : Memref sig .tc .vmem S8x512x128 .bf16) (h11 : a11.IsWhole)
  (a12 : Memref sig .tc .vmem S8x512x128 .bf16) (h12 : a12.IsWhole) (a13 : Memref sig .tc .vmem S8x512x128 .f32)
  (h13 : a13.IsWhole) (a14 : Memref sig .tc .vmem S8x512x128 .f32) (h14 : a14.IsWhole)
  (a15 : Memref sig .tc .vmem S8x8x64x64 .f32) (h15 : a15.IsWhole) (a16 : Memref sig .tc .vmem S8x8x1x128 .f32)
  (h16 : a16.IsWhole) (a17 : Memref sig .tc .vmem S512x1024 .bf16) (h17 : a17.IsWhole)
  (a18 : Memref sig .tc .vmem S1x128 .f32) (h18 : a18.IsWhole) (a19 : Memref sig .tc .vmem S8x128x128 .f32)
  (h19 : a19.IsWhole) (x0 : Vec F S8x512x128 .f32) (x1 : Vec F S8x512x128 .bf16) (x2 : Vec F S8x512x128 .bf16)
  (x3 : Vec F S8x512x128 .bf16) (x4 : Vec F S8x8x64x64 .bf16) (x5 : Vec F S8x8x1x128 .f32) (x6 : Vec F S512x1024 .f32)
  (x7 : Vec F S1x128 .f32) (x8 : Vec F S8x8x128x128 .f32) (x9 : Vec F S512x1024 .f32)

/-- A later point. -/
theorem outs_B (hc : ¬cond0_0 i) (n0 : Vec F S1x128 .f32) (D0 : Vec F S8x128x128 .f32) :
    out0_B_10 c i a1 h1 a2 h2 a3 h3 a4 h4 a5 h5 a6 h6 a7 h7 a8 h8 a9 h9 a10 h10 a11 h11 a12 h12 a13 h13 a14 h14 a15 h15 a16 h16 a17 h17 a18 h18 a19 h19
      hc x0 x1 x2 x3 x4 x5 x6 x7 x8 x9 n0 D0 = blk3 (fun s => du ((pt x0 x1 x2 x3 x4 x5 x6 x7 x8 x9) s) (dchain (pt x0 x1 x2 x3 x4 x5 x6 x7 x8 x9) D0 s))
    ∧ out0_B_11 c i a1 h1 a2 h2 a3 h3 a4 h4 a5 h5 a6 h6 a7 h7 a8 h8 a9 h9 a10 h10 a11 h11 a12 h12 a13 h13 a14 h14 a15 h15 a16 h16 a17 h17 a18 h18 a19 h19
      hc x0 x1 x2 x3 x4 x5 x6 x7 x8 x9 n0 D0 = blk3 (fun s => dw ((pt x0 x1 x2 x3 x4 x5 x6 x7 x8 x9) s) (dchain (pt x0 x1 x2 x3 x4 x5 x6 x7 x8 x9) D0 s))
    ∧ out0_B_12 c i a1 h1 a2 h2 a3 h3 a4 h4 a5 h5 a6 h6 a7 h7 a8 h8 a9 h9 a10 h10 a11 h11 a12 h12 a13 h13 a14 h14 a15 h15 a16 h16 a17 h17 a18 h18 a19 h19
      hc x0 x1 x2 x3 x4 x5 x6 x7 x8 x9 n0 D0 = blk3 (fun s => dqg ((pt x0 x1 x2 x3 x4 x5 x6 x7 x8 x9) s))
    ∧ out0_B_13 c i a1 h1 a2 h2 a3 h3 a4 h4 a5 h5 a6 h6 a7 h7 a8 h8 a9 h9 a10 h10 a11 h11 a12 h12 a13 h13 a14 h14 a15 h15 a16 h16 a17 h17 a18 h18 a19 h19
      hc x0 x1 x2 x3 x4 x5 x6 x7 x8 x9 n0 D0 = blk3 (fun s => dkd ((pt x0 x1 x2 x3 x4 x5 x6 x7 x8 x9) s) (dchain (pt x0 x1 x2 x3 x4 x5 x6 x7 x8 x9) D0 s))
    ∧ out0_B_14 c i a1 h1 a2 h2 a3 h3 a4 h4 a5 h5 a6 h6 a7 h7 a8 h8 a9 h9 a10 h10 a11 h11 a12 h12 a13 h13 a14 h14 a15 h15 a16 h16 a17 h17 a18 h18 a19 h19
      hc x0 x1 x2 x3 x4 x5 x6 x7 x8 x9 n0 D0 = blk4q (fun s => dqk4 ((pt x0 x1 x2 x3 x4 x5 x6 x7 x8 x9) s))
    ∧ out0_B_15 c i a1 h1 a2 h2 a3 h3 a4 h4 a5 h5 a6 h6 a7 h7 a8 h8 a9 h9 a10 h10 a11 h11 a12 h12 a13 h13 a14 h14 a15 h15 a16 h16 a17 h17 a18 h18 a19 h19
      hc x0 x1 x2 x3 x4 x5 x6 x7 x8 x9 n0 D0 = blk4e (fun s => deg4 ((pt x0 x1 x2 x3 x4 x5 x6 x7 x8 x9) s) (dchain (pt x0 x1 x2 x3 x4 x5 x6 x7 x8 x9) D0 s))
    ∧ out0_B_16 c i a1 h1 a2 h2 a3 h3 a4 h4 a5 h5 a6 h6 a7 h7 a8 h8 a9 h9 a10 h10 a11 h11 a12 h12 a13 h13 a14 h14 a15 h15 a16 h16 a17 h17 a18 h18 a19 h19
      hc x0 x1 x2 x3 x4 x5 x6 x7 x8 x9 n0 D0 = blk2 (fun s => dzh ((pt x0 x1 x2 x3 x4 x5 x6 x7 x8 x9) s))
    ∧ out0_B_17 c i a1 h1 a2 h2 a3 h3 a4 h4 a5 h5 a6 h6 a7 h7 a8 h8 a9 h9 a10 h10 a11 h11 a12 h12 a13 h13 a14 h14 a15 h15 a16 h16 a17 h17 a18 h18 a19 h19
      hc x0 x1 x2 x3 x4 x5 x6 x7 x8 x9 n0 D0 = nchain (pt x0 x1 x2 x3 x4 x5 x6 x7 x8 x9) n0 8
    ∧ sout0_B_0 c i a1 h1 a2 h2 a3 h3 a4 h4 a5 h5 a6 h6 a7 h7 a8 h8 a9 h9 a10 h10 a11 h11 a12 h12 a13 h13 a14 h14 a15 h15 a16 h16 a17 h17 a18 h18 a19 h19
      hc x0 x1 x2 x3 x4 x5 x6 x7 x8 x9 n0 D0 = dchain (pt x0 x1 x2 x3 x4 x5 x6 x7 x8 x9) D0 8 := by
  unfold out0_B_10 out0_B_11 out0_B_12 out0_B_13 out0_B_14 out0_B_15 out0_B_16 out0_B_17 sout0_B_0
  simp only [View.read_writes_junk_eq_canon]
  unfold kernelRun0_B
  dsimp only
  sl_unfold_words
  simp only [View.readCov_cons_toLoadRect, View.readAt_eq_ld, h1.read_unread, h2.read_unread, h3.read_unread, h4.read_unread, h5.read_unread, h6.read_unread, h7.read_unread, h8.read_unread, h9.read_unread, h10.read_unread, h18.read_unread, h19.read_unread,
    View.ld_unit_zero (S := S8x128x128) hz, View.ld_unit_zero hz2 _ n0]
  refine ⟨Eq.trans ?_ (canon3 (e := .bf16) _), Eq.trans ?_ (canon3 (e := .bf16) _), Eq.trans ?_ (canon3 (e := .f32) _),
    Eq.trans ?_ (canon3 (e := .f32) _), Eq.trans ?_ (canon4q (e := .f32) _), Eq.trans ?_ (canon4e (e := .f32) _),
    Eq.trans ?_ (canon2 (e := .bf16) _), (View.canon_cons_unit_zero hz2 _ _ _).trans ?_, (View.canon_cons_unit_zero hz _ _ _).trans ?_⟩
  · sl_kernel_rfl
  · sl_kernel_rfl
  · sl_kernel_rfl
  · sl_kernel_rfl
  · sl_kernel_rfl
  · sl_kernel_rfl
  · sl_kernel_rfl
  · sl_kernel_rfl
  · sl_kernel_rfl

/-- The first point, met with zeros. -/
theorem outs_A (hc : cond0_0 i) :
    out0_A_10 c i a1 h1 a2 h2 a3 h3 a4 h4 a5 h5 a6 h6 a7 h7 a8 h8 a9 h9 a10 h10 a11 h11 a12 h12 a13 h13 a14 h14 a15 h15 a16 h16 a17 h17 a18 h18 a19 h19
      hc x0 x1 x2 x3 x4 x5 x6 x7 x8 x9 = blk3 (fun s => du ((pt x0 x1 x2 x3 x4 x5 x6 x7 x8 x9) s) (dchain (pt x0 x1 x2 x3 x4 x5 x6 x7 x8 x9) k0_pay6 s))
    ∧ out0_A_11 c i a1 h1 a2 h2 a3 h3 a4 h4 a5 h5 a6 h6 a7 h7 a8 h8 a9 h9 a10 h10 a11 h11 a12 h12 a13 h13 a14 h14 a15 h15 a16 h16 a17 h17 a18 h18 a19 h19
      hc x0 x1 x2 x3 x4 x5 x6 x7 x8 x9 = blk3 (fun s => dw ((pt x0 x1 x2 x3 x4 x5 x6 x7 x8 x9) s) (dchain (pt x0 x1 x2 x3 x4 x5 x6 x7 x8 x9) k0_pay6 s))
    ∧ out0_A_12 c i a1 h1 a2 h2 a3 h3 a4 h4 a5 h5 a6 h6 a7 h7 a8 h8 a9 h9 a10 h10 a11 h11 a12 h12 a13 h13 a14 h14 a15 h15 a16 h16 a17 h17 a18 h18 a19 h19
      hc x0 x1 x2 x3 x4 x5 x6 x7 x8 x9 = blk3 (fun s => dqg ((pt x0 x1 x2 x3 x4 x5 x6 x7 x8 x9) s))
    ∧ out0_A_13 c i a1 h1 a2 h2 a3 h3 a4 h4 a5 h5 a6 h6 a7 h7 a8 h8 a9 h9 a10 h10 a11 h11 a12 h12 a13 h13 a14 h14 a15 h15 a16 h16 a17 h17 a18 h18 a19 h19
      hc x0 x1 x2 x3 x4 x5 x6 x7 x8 x9 = blk3 (fun s => dkd ((pt x0 x1 x2 x3 x4 x5 x6 x7 x8 x9) s) (dchain (pt x0 x1 x2 x3 x4 x5 x6 x7 x8 x9) k0_pay6 s))
    ∧ out0_A_14 c i a1 h1 a2 h2 a3 h3 a4 h4 a5 h5 a6 h6 a7 h7 a8 h8 a9 h9 a10 h10 a11 h11 a12 h12 a13 h13 a14 h14 a15 h15 a16 h16 a17 h17 a18 h18 a19 h19
      hc x0 x1 x2 x3 x4 x5 x6 x7 x8 x9 = blk4q (fun s => dqk4 ((pt x0 x1 x2 x3 x4 x5 x6 x7 x8 x9) s))
    ∧ out0_A_15 c i a1 h1 a2 h2 a3 h3 a4 h4 a5 h5 a6 h6 a7 h7 a8 h8 a9 h9 a10 h10 a11 h11 a12 h12 a13 h13 a14 h14 a15 h15 a16 h16 a17 h17 a18 h18 a19 h19
      hc x0 x1 x2 x3 x4 x5 x6 x7 x8 x9 = blk4e (fun s => deg4 ((pt x0 x1 x2 x3 x4 x5 x6 x7 x8 x9) s) (dchain (pt x0 x1 x2 x3 x4 x5 x6 x7 x8 x9) k0_pay6 s))
    ∧ out0_A_16 c i a1 h1 a2 h2 a3 h3 a4 h4 a5 h5 a6 h6 a7 h7 a8 h8 a9 h9 a10 h10 a11 h11 a12 h12 a13 h13 a14 h14 a15 h15 a16 h16 a17 h17 a18 h18 a19 h19
      hc x0 x1 x2 x3 x4 x5 x6 x7 x8 x9 = blk2 (fun s => dzh ((pt x0 x1 x2 x3 x4 x5 x6 x7 x8 x9) s))
    ∧ out0_A_17 c i a1 h1 a2 h2 a3 h3 a4 h4 a5 h5 a6 h6 a7 h7 a8 h8 a9 h9 a10 h10 a11 h11 a12 h12 a13 h13 a14 h14 a15 h15 a16 h16 a17 h17 a18 h18 a19 h19
      hc x0 x1 x2 x3 x4 x5 x6 x7 x8 x9 = nchain (pt x0 x1 x2 x3 x4 x5 x6 x7 x8 x9) k0_pay7 8
    ∧ sout0_A_0 c i a1 h1 a2 h2 a3 h3 a4 h4 a5 h5 a6 h6 a7 h7 a8 h8 a9 h9 a10 h10 a11 h11 a12 h12 a13 h13 a14 h14 a15 h15 a16 h16 a17 h17 a18 h18 a19 h19
      hc x0 x1 x2 x3 x4 x5 x6 x7 x8 x9 = dchain (pt x0 x1 x2 x3 x4 x5 x6 x7 x8 x9) k0_pay6 8 := by
  unfold out0_A_10 out0_A_11 out0_A_12 out0_A_13 out0_A_14 out0_A_15 out0_A_16 out0_A_17 sout0_A_0
  simp only [View.read_writes_junk_eq_canon]
  unfold kernelRun0_A
  dsimp only
  sl_unfold_words
  simp only [View.readCov_cons_toLoadRect, View.readAt_eq_ld, h1.read_unread, h2.read_unread, h3.read_unread, h4.read_unread, h5.read_unread, h6.read_unread, h7.read_unread, h8.read_unread, h9.read_unread, h10.read_unread,
    View.ld_unit_zero (S := S8x128x128) hz]
  refine ⟨Eq.trans ?_ (canon3 (e := .bf16) _), Eq.trans ?_ (canon3 (e := .bf16) _), Eq.trans ?_ (canon3 (e := .f32) _),
    Eq.trans ?_ (canon3 (e := .f32) _), Eq.trans ?_ (canon4q (e := .f32) _), Eq.trans ?_ (canon4e (e := .f32) _),
    Eq.trans ?_ (canon2 (e := .bf16) _), (View.canon_cons_unit_zero hz2 _ _ _).trans ?_, (View.canon_cons_unit_zero hz _ _ _).trans ?_⟩
  · sl_kernel_rfl
  · sl_kernel_rfl
  · sl_kernel_rfl
  · sl_kernel_rfl
  · sl_kernel_rfl
  · sl_kernel_rfl
  · sl_kernel_rfl
  · sl_kernel_rfl
  · sl_kernel_rfl

end Cert.KernelIdeal.Chunk

end
-- ==== Proof.State.lean ====
module

public import proofs.«01_k».proof.Proof.Run

/-! What the kernel's outputs hold after each grid point, and the arrays after the run: the chunk handled `k`th
    (chunk `127 - k`) at the state gradient the `k` chunks before it left. -/

@[expose] public section

set_option maxRecDepth 16384

noncomputable section

namespace Cert.KernelIdeal.Chunk

open Idealize.ShloMosaic Idealize.ShloMosaic.TcCoe Idealize.SL.Sem Cert.KernelIdeal.Gen Cert.KernelIdeal.Value
open Idealize.ShloMosaic.Pipeline (Dat)

variable {F : FTy → Type} [FloatOps F]

theorem dchain_congr {I I' : ℕ → In F} (D : FVec F S8x128x128 .f32) :
    ∀ n : ℕ, (∀ s < n, I s = I' s) → dchain I D n = dchain I' D n
  | 0, _ => rfl
  | n + 1, h => by
    show ds (I n) (dchain I D n) = ds (I' n) (dchain I' D n)
    rw [h n (Nat.lt_succ_self n), dchain_congr D n fun s hs => h s (Nat.lt_succ_of_lt hs)]

theorem dchain_add (I : ℕ → In F) (D : FVec F S8x128x128 .f32) (a : ℕ) :
    ∀ n : ℕ, dchain I D (a + n) = dchain (fun s => I (a + s)) (dchain I D a) n
  | 0 => rfl
  | n + 1 => by
    show ds (I (a + n)) (dchain I D (a + n)) = _
    rw [dchain_add I D a n]; rfl

theorem nchain_congr {I I' : ℕ → In F} (D : FVec F S1x128 .f32) :
    ∀ n : ℕ, (∀ s < n, I s = I' s) → nchain I D n = nchain I' D n
  | 0, _ => rfl
  | n + 1, h => by
    show nacc (I n) (nchain I D n) = nacc (I' n) (nchain I' D n)
    rw [h n (Nat.lt_succ_self n), nchain_congr D n fun s hs => h s (Nat.lt_succ_of_lt hs)]

theorem nchain_add (I : ℕ → In F) (D : FVec F S1x128 .f32) (a : ℕ) :
    ∀ n : ℕ, nchain I D (a + n) = nchain (fun s => I (a + s)) (nchain I D a) n
  | 0 => rfl
  | n + 1 => by
    show nacc (I (a + n)) (nchain I D (a + n)) = _
    rw [nchain_add I D a n]; rfl

theorem blk3_congr {α : Type} {f g : ℕ → S8x64x128.Idx → α} (h : ∀ s < 8, f s = g s) : blk3 f = blk3 g := by
  funext y; unfold blk3; rw [h _ (by omega)]

theorem blk4q_congr {α : Type} {f g : ℕ → S1x8x64x64.Idx → α} (h : ∀ s < 8, f s = g s) : blk4q f = blk4q g := by
  funext y; unfold blk4q; rw [h _ (by omega)]

theorem blk4e_congr {α : Type} {f g : ℕ → S1x8x1x128.Idx → α} (h : ∀ s < 8, f s = g s) : blk4e f = blk4e g := by
  funext y; unfold blk4e; rw [h _ (by omega)]

theorem blk2_congr {α : Type} {f g : ℕ → Fin 8 → S64x128.Idx → α} (h : ∀ s < 8, f s = g s) : blk2 f = blk2 g := by
  funext y; unfold blk2; rw [h _ (by omega)]

theorem nine {A1 A2 A3 A4 A5 A6 A7 A8 A9 : Type} {a1 b1 : A1} {a2 b2 : A2} {a3 b3 : A3} {a4 b4 : A4} {a5 b5 : A5}
    {a6 b6 : A6} {a7 b7 : A7} {a8 b8 : A8} {a9 b9 : A9} (h1 : a1 = b1) (h2 : a2 = b2) (h3 : a3 = b3) (h4 : a4 = b4)
    (h5 : a5 = b5) (h6 : a6 = b6) (h7 : a7 = b7) (h8 : a8 = b8) (h9 : a9 = b9) :
    (a1, a2, a3, a4, a5, a6, a7, a8, a9) = (b1, b2, b3, b4, b5, b6, b7, b8, b9) := by
  subst h1 h2 h3 h4 h5 h6 h7 h8 h9; rfl

variable (m : (ℓ : Loc nD τ sig) → Buf (Elt F) ℓ)

/-- The loads of the chunks of grid point `t`, in the order handled. -/
def atPt (c : Dev nD) (t : Fin cfg0.N) : ℕ → In F :=
  pt (iblk m c 0 t) (iblk m c 1 t) (iblk m c 2 t) (iblk m c 3 t) (iblk m c 4 t) (iblk m c 5 t) (X0_6 m c t)
    (iblk m c 7 t) (iblk m c 8 t) (iblk m c 9 t)

/-- The loads of the chunk handled `k`th over the whole run. -/
def cin (c : Dev nD) (k : ℕ) : In F :=
  atPt m c ⟨(k / 8) % 16, lt_of_lt_of_eq (Nat.mod_lt _ (by norm_num)) N_0.symm⟩ (k % 8)

/-- The state gradient the first `k` chunks leave, from zero. -/
def Dg (c : Dev nD) (k : ℕ) : FVec F S8x128x128 .f32 := dchain (cin m c) k0_pay6 k

/-- The norm weight's gradient over the first `k` chunks, from zero. -/
def Ng (c : Dev nD) (k : ℕ) : FVec F S1x128 .f32 := nchain (cin m c) k0_pay7 k

theorem atPt_eq (c : Dev nD) (t : Fin cfg0.N) (s : ℕ) (hs : s < 8) : atPt m c t s = cin m c (8 * t.val + s) := by
  have ht : t.val < 16 := lt_of_lt_of_eq t.isLt N_0
  unfold cin
  congr 1
  · congr 1
    apply Fin.ext
    show t.val = (8 * t.val + s) / 8 % 16
    omega
  · omega

theorem dchain_atPt (c : Dev nD) (t : Fin cfg0.N) (n : ℕ) (hn : n ≤ 8) :
    dchain (atPt m c t) (Dg m c (8 * t.val)) n = Dg m c (8 * t.val + n) := by
  unfold Dg
  rw [dchain_add]
  exact dchain_congr _ n fun s hs => atPt_eq m c t s (by omega)

theorem nchain_atPt (c : Dev nD) (t : Fin cfg0.N) (n : ℕ) (hn : n ≤ 8) :
    nchain (atPt m c t) (Ng m c (8 * t.val)) n = Ng m c (8 * t.val + n) := by
  unfold Ng
  rw [nchain_add]
  exact nchain_congr _ n fun s hs => atPt_eq m c t s (by omega)

/-- What each grid point leaves: its outputs' blocks, the norm weight's gradient so far, and the carried state gradient. -/
def left (c : Dev nD) (t : ℕ) : Vec F S8x512x128 .bf16 × Vec F S8x512x128 .bf16 × Vec F S8x512x128 .f32 × Vec F S8x512x128 .f32 × Vec F S8x8x64x64 .f32 × Vec F S8x8x1x128 .f32 × Vec F S512x1024 .bf16 × Vec F S1x128 .f32 × Vec F S8x128x128 .f32 :=
  (blk3 (fun s => du (cin m c (8 * t + s)) (Dg m c (8 * t + s))),
   blk3 (fun s => dw (cin m c (8 * t + s)) (Dg m c (8 * t + s))),
   blk3 (fun s => dqg (cin m c (8 * t + s))),
   blk3 (fun s => dkd (cin m c (8 * t + s)) (Dg m c (8 * t + s))),
   blk4q (fun s => dqk4 (cin m c (8 * t + s))),
   blk4e (fun s => deg4 (cin m c (8 * t + s)) (Dg m c (8 * t + s))),
   blk2 (fun s => dzh (cin m c (8 * t + s))),
   Ng m c (8 * t + 8), Dg m c (8 * t + 8))

theorem left_A (c : Dev nD) (t : Fin cfg0.N) (h0 : t.val % 16 = 0) : outsAt0 m c t.val t.isLt = left m c t.val := by
  have ht : t.val < 16 := lt_of_lt_of_eq t.isLt N_0
  have hz : t.val = 0 := by omega
  rw [outsAt0_A m c t h0]
  simp only [outs_A]
  change (blk3 (fun s => du (atPt m c t s) (dchain (atPt m c t) k0_pay6 s)), blk3 (fun s => dw (atPt m c t s) (dchain (atPt m c t) k0_pay6 s)), blk3 (fun s => dqg (atPt m c t s)), blk3 (fun s => dkd (atPt m c t s) (dchain (atPt m c t) k0_pay6 s)), blk4q (fun s => dqk4 (atPt m c t s)), blk4e (fun s => deg4 (atPt m c t s) (dchain (atPt m c t) k0_pay6 s)), blk2 (fun s => dzh (atPt m c t s)), nchain (atPt m c t) k0_pay7 8, dchain (atPt m c t) k0_pay6 8) = _
  rw [show (k0_pay6 : FVec F S8x128x128 .f32) = Dg m c (8 * t.val) by rw [hz]; rfl,
    show (k0_pay7 : FVec F S1x128 .f32) = Ng m c (8 * t.val) by rw [hz]; rfl]
  unfold left
  refine nine (blk3_congr fun s hs => ?_) (blk3_congr fun s hs => ?_) (blk3_congr fun s hs => ?_) (blk3_congr fun s hs => ?_)
    (blk4q_congr fun s hs => ?_) (blk4e_congr fun s hs => ?_) (blk2_congr fun s hs => ?_) ?_ ?_
  · rw [dchain_atPt m c t s (by omega), atPt_eq m c t s hs]
  · rw [dchain_atPt m c t s (by omega), atPt_eq m c t s hs]
  · rw [atPt_eq m c t s hs]
  · rw [dchain_atPt m c t s (by omega), atPt_eq m c t s hs]
  · rw [atPt_eq m c t s hs]
  · rw [dchain_atPt m c t s (by omega), atPt_eq m c t s hs]
  · rw [atPt_eq m c t s hs]
  · exact nchain_atPt m c t 8 le_rfl
  · exact dchain_atPt m c t 8 le_rfl

theorem left_B (c : Dev nD) (t : Fin cfg0.N) (h0 : ¬t.val % 16 = 0)
    (ih : outsAt0 m c (t.val - 1) (Nat.lt_of_le_of_lt (Nat.sub_le _ _) t.isLt) = left m c (t.val - 1)) :
    outsAt0 m c t.val t.isLt = left m c t.val := by
  have ht : t.val < 16 := lt_of_lt_of_eq t.isLt N_0
  rw [outsAt0_B m c t h0, ih]
  simp only [outs_B]
  change (blk3 (fun s => du (atPt m c t s) (dchain (atPt m c t) (Dg m c (8 * (t.val - 1) + 8)) s)), blk3 (fun s => dw (atPt m c t s) (dchain (atPt m c t) (Dg m c (8 * (t.val - 1) + 8)) s)), blk3 (fun s => dqg (atPt m c t s)), blk3 (fun s => dkd (atPt m c t s) (dchain (atPt m c t) (Dg m c (8 * (t.val - 1) + 8)) s)), blk4q (fun s => dqk4 (atPt m c t s)), blk4e (fun s => deg4 (atPt m c t s) (dchain (atPt m c t) (Dg m c (8 * (t.val - 1) + 8)) s)), blk2 (fun s => dzh (atPt m c t s)), nchain (atPt m c t) (Ng m c (8 * (t.val - 1) + 8)) 8, dchain (atPt m c t) (Dg m c (8 * (t.val - 1) + 8)) 8) = _
  rw [show 8 * (t.val - 1) + 8 = 8 * t.val by omega]
  unfold left
  refine nine (blk3_congr fun s hs => ?_) (blk3_congr fun s hs => ?_) (blk3_congr fun s hs => ?_) (blk3_congr fun s hs => ?_)
    (blk4q_congr fun s hs => ?_) (blk4e_congr fun s hs => ?_) (blk2_congr fun s hs => ?_) ?_ ?_
  · rw [dchain_atPt m c t s (by omega), atPt_eq m c t s hs]
  · rw [dchain_atPt m c t s (by omega), atPt_eq m c t s hs]
  · rw [atPt_eq m c t s hs]
  · rw [dchain_atPt m c t s (by omega), atPt_eq m c t s hs]
  · rw [atPt_eq m c t s hs]
  · rw [dchain_atPt m c t s (by omega), atPt_eq m c t s hs]
  · rw [atPt_eq m c t s hs]
  · exact nchain_atPt m c t 8 le_rfl
  · exact dchain_atPt m c t 8 le_rfl

theorem left_eq (c : Dev nD) : ∀ (n : ℕ) (hn : n < cfg0.N), outsAt0 m c n hn = left m c n
  | 0, hn => left_A m c ⟨0, hn⟩ rfl
  | n + 1, hn => left_B m c ⟨n + 1, hn⟩
      (by have := lt_of_lt_of_eq hn N_0; show ¬(n + 1) % 16 = 0; omega)
      (left_eq c n (Nat.lt_of_succ_lt hn))

end Cert.KernelIdeal.Chunk

end
-- ==== Proof.Final.lean ====
module

public import proofs.«01_k».proof.Proof.State
public import Idealize.ShloMosaic.Lib.Pipeline.ValueKit.Geometry

/-! The kernel's loads and result arrays at their indices. -/

@[expose] public section

noncomputable section

namespace Cert.KernelIdeal.Chunk

open Idealize.ShloMosaic Idealize.ShloMosaic.TcCoe Idealize.SL.Sem Cert.KernelIdeal.Gen Cert.KernelIdeal.Value
open Idealize.ShloMosaic.Pipeline (Dat)

variable {F : FTy → Type} [FloatOps F]

theorem ix_0 : ∀ t : Fin cfg0.N, win0_0.index t = ![0, 15 - t.val, 0] := (by decide +kernel : ∀ t : Fin grid0.N, _)
theorem ix_1 : ∀ t : Fin cfg0.N, win0_1.index t = ![0, 15 - t.val, 0] := (by decide +kernel : ∀ t : Fin grid0.N, _)
theorem ix_2 : ∀ t : Fin cfg0.N, win0_2.index t = ![0, 15 - t.val, 0] := (by decide +kernel : ∀ t : Fin grid0.N, _)
theorem ix_3 : ∀ t : Fin cfg0.N, win0_3.index t = ![0, 15 - t.val, 0] := (by decide +kernel : ∀ t : Fin grid0.N, _)
theorem ix_4 : ∀ t : Fin cfg0.N, win0_4.index t = ![15 - t.val, 0, 0, 0] := (by decide +kernel : ∀ t : Fin grid0.N, _)
theorem ix_5 : ∀ t : Fin cfg0.N, win0_5.index t = ![15 - t.val, 0, 0, 0] := (by decide +kernel : ∀ t : Fin grid0.N, _)
theorem ix_6 : ∀ t : Fin cfg0.N, win0_6.index t = ![15 - t.val, 3] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![15 - t.val, 0, 0, 0] := (by decide +kernel : ∀ t : Fin grid0.N, _)
theorem ix_9 : ∀ t : Fin cfg0.N, win0_9.index t = ![15 - t.val, 0] := (by decide +kernel : ∀ t : Fin grid0.N, _)
theorem ix_10 : ∀ t : Fin cfg0.N, win0_10.index t = ![0, 15 - t.val, 0] := (by decide +kernel : ∀ t : Fin grid0.N, _)
theorem ix_11 : ∀ t : Fin cfg0.N, win0_11.index t = ![0, 15 - t.val, 0] := (by decide +kernel : ∀ t : Fin grid0.N, _)
theorem ix_12 : ∀ t : Fin cfg0.N, win0_12.index t = ![0, 15 - t.val, 0] := (by decide +kernel : ∀ t : Fin grid0.N, _)
theorem ix_13 : ∀ t : Fin cfg0.N, win0_13.index t = ![0, 15 - t.val, 0] := (by decide +kernel : ∀ t : Fin grid0.N, _)
theorem ix_14 : ∀ t : Fin cfg0.N, win0_14.index t = ![15 - t.val, 0, 0, 0] := (by decide +kernel : ∀ t : Fin grid0.N, _)
theorem ix_15 : ∀ t : Fin cfg0.N, win0_15.index t = ![15 - t.val, 0, 0, 0] := (by decide +kernel : ∀ t : Fin grid0.N, _)
theorem ix_16 : ∀ t : Fin cfg0.N, win0_16.index t = ![15 - t.val, 0] := (by decide +kernel : ∀ t : Fin grid0.N, _)

variable (m : (ℓ : Loc nD τ sig) → Buf (Elt F) ℓ)

theorem cong3 {A B C E : Type*} (f : A → B → C → E) {a a' : A} {b b' : B} {c c' : C} (h1 : a = a') (h2 : b = b')
    (h3 : c = c') : f a b c = f a' b' c' := by
  subst h1 h2 h3; rfl

theorem idx_unit {s : Shape} (off size : Fin s.rank → Nat) (inb) (j : (Rect.unit off size inb).shape.Idx) (a : Fin s.rank) :
    (((Rect.unit off size inb).idx j a : Fin _) : Nat) = off a + (j a : Nat) := by
  show off a + 1 * (j a : Nat) = _; omega

theorem val_lt (t : Fin cfg0.N) : t.val < 16 := lt_of_lt_of_eq t.isLt N_0

/-- The grid point of the chunk handled `k`th. -/
def tp (k : ℕ) : Fin cfg0.N := ⟨(k / 8) % 16, lt_of_lt_of_eq (Nat.mod_lt _ (by norm_num)) N_0.symm⟩

theorem tp_val (k : ℕ) : (tp k).val = k / 8 % 16 := rfl

theorem ZE (c : Dev nD) (t : Fin cfg0.N) (y : S512x1024.Idx) : X0_6 m c t y = V m c main_arg6 (((cfg0.win 6).blk t).view.emb (fun a => ⟨(y a).val, lt_of_lt_of_eq (y a).isLt (xsize0_6 t a).symm⟩)) := by
  unfold X0_6 Pipeline.Window.fill
  rw [dif_pos (moved0_6 t y)]
  rfl

theorem cin_U (c : Dev nD) (k : ℕ) (hk : k < 128) (h : Fin 8) (i : Fin 64) (x : Fin 128) :
    (cin m c k).U (ix3 h i x) = m ((c : Thread nD τ).loc main_arg0) (ix3 h ⟨64 * (127 - k) + i.val, by omega⟩ x) := by
  show iblk m c 0 (tp k) _ = _
  blk_simp [iblk]
  rw [V_main_arg0]
  congr 1
  have hv := tp_val k
  blk_ext [ix_0, hv, idx_unit]

theorem cin_W (c : Dev nD) (k : ℕ) (hk : k < 128) (h : Fin 8) (i : Fin 64) (x : Fin 128) :
    (cin m c k).W (ix3 h i x) = m ((c : Thread nD τ).loc main_arg1) (ix3 h ⟨64 * (127 - k) + i.val, by omega⟩ x) := by
  show iblk m c 1 (tp k) _ = _
  blk_simp [iblk]
  rw [V_main_arg1]
  congr 1
  have hv := tp_val k
  blk_ext [ix_1, hv, idx_unit]

theorem cin_QG (c : Dev nD) (k : ℕ) (hk : k < 128) (h : Fin 8) (i : Fin 64) (x : Fin 128) :
    (cin m c k).QG (ix3 h i x) = m ((c : Thread nD τ).loc main_arg2) (ix3 h ⟨64 * (127 - k) + i.val, by omega⟩ x) := by
  show iblk m c 2 (tp k) _ = _
  blk_simp [iblk]
  rw [V_main_arg2]
  congr 1
  have hv := tp_val k
  blk_ext [ix_2, hv, idx_unit]

theorem cin_KD (c : Dev nD) (k : ℕ) (hk : k < 128) (h : Fin 8) (i : Fin 64) (x : Fin 128) :
    (cin m c k).KD (ix3 h i x) = m ((c : Thread nD τ).loc main_arg3) (ix3 h ⟨64 * (127 - k) + i.val, by omega⟩ x) := by
  show iblk m c 3 (tp k) _ = _
  blk_simp [iblk]
  rw [V_main_arg3]
  congr 1
  have hv := tp_val k
  blk_ext [ix_3, hv, idx_unit]

theorem cin_QK (c : Dev nD) (k : ℕ) (hk : k < 128) (h : Fin 8) (i j : Fin 64) :
    (cin m c k).QK (ix4 0 h i j) = m ((c : Thread nD τ).loc main_arg4) (ix4 ⟨127 - k, by omega⟩ h i j) := by
  show iblk m c 4 (tp k) _ = _
  blk_simp [iblk]
  rw [V_main_arg4]
  congr 1
  have hv := tp_val k
  blk_ext [ix_4, hv, idx_unit]

theorem cin_EG (c : Dev nD) (k : ℕ) (hk : k < 128) (h : Fin 8) (x : Fin 128) :
    (cin m c k).EG (ix4 0 h 0 x) = m ((c : Thread nD τ).loc main_arg5) (ix4 ⟨127 - k, by omega⟩ h 0 x) := by
  show iblk m c 5 (tp k) _ = _
  blk_simp [iblk]
  rw [V_main_arg5]
  congr 1
  have hv := tp_val k
  blk_ext [ix_5, hv, idx_unit]

theorem cin_S (c : Dev nD) (k : ℕ) (hk : k < 128) (h : Fin 8) (a x : Fin 128) :
    (cin m c k).S (ix4 0 h a x) = m ((c : Thread nD τ).loc main_arg8) (ix4 ⟨127 - k, by omega⟩ h a x) := by
  show iblk m c 8 (tp k) _ = _
  blk_simp [iblk]
  rw [V_main_arg8]
  congr 1
  have hv := tp_val k
  blk_ext [ix_8, hv, idx_unit]

theorem cin_NW (c : Dev nD) (k : ℕ) (hk : k < 128) (x : Fin 128) :
    (cin m c k).NW (ix2 0 x) = m ((c : Thread nD τ).loc main_arg7) (ix2 0 x) := by
  show iblk m c 7 (tp k) _ = _
  blk_simp [iblk]
  rw [V_main_arg7]
  congr 1
  have hv := tp_val k
  blk_ext [ix_7, hv, idx_unit]

theorem cin_DO (c : Dev nD) (k : ℕ) (hk : k < 128) (h : Fin 8) (i : Fin 64) (x : Fin 128) :
    (cin m c k).DO h (ix2 i x) = m ((c : Thread nD τ).loc main_arg9) (ix2 ⟨64 * (127 - k) + i.val, by omega⟩ ⟨128 * h.val + x.val, by omega⟩) := by
  show iblk m c 9 (tp k) _ = _
  blk_simp [iblk]
  rw [V_main_arg9]
  congr 1
  have hv := tp_val k
  blk_ext [ix_9, hv, idx_unit]

theorem cin_Z (c : Dev nD) (k : ℕ) (hk : k < 128) (h : Fin 8) (i : Fin 64) (x : Fin 128) :
    (cin m c k).Z h (ix2 i x) = m ((c : Thread nD τ).loc main_arg6) (ix2 ⟨64 * (127 - k) + i.val, by omega⟩ ⟨3072 + 128 * h.val + x.val, by omega⟩) := by
  show X0_6 m c (tp k) _ = _
  rw [ZE]
  blk_simp
  rw [V_main_arg6]
  congr 1
  have hv := tp_val k
  blk_ext [ix_6, hv, idx_unit]

/-- Rows of the run, chunk after chunk (chunk `127 - k` handled `k`th), from what each chunk leaves. -/
def arr3 {α : Type} (f : ℕ → S8x64x128.Idx → α) : S8x8192x128.Idx → α := fun y =>
  f (127 - (y 1).val / 64) (ix3 (y 0) ⟨(y 1).val % 64, Nat.mod_lt _ (by norm_num)⟩ (y 2))

def arr4q {α : Type} (f : ℕ → S1x8x64x64.Idx → α) : S128x8x64x64.Idx → α := fun y =>
  f (127 - (y 0).val) (ix4 0 (y 1) (y 2) (y 3))

def arr4e {α : Type} (f : ℕ → S1x8x1x128.Idx → α) : S128x8x1x128.Idx → α := fun y =>
  f (127 - (y 0).val) (ix4 0 (y 1) (y 2) (y 3))

def arr2 {α : Type} (f : ℕ → Fin 8 → S64x128.Idx → α) : S8192x1024.Idx → α := fun y =>
  f (127 - (y 0).val / 64) ⟨(y 1).val / 128, Nat.div_lt_of_lt_mul (y 1).isLt⟩
    (ix2 ⟨(y 0).val % 64, Nat.mod_lt _ (by norm_num)⟩ ⟨(y 1).val % 128, Nat.mod_lt _ (by norm_num)⟩)

theorem arr3_blk {α : Type} (f : ℕ → S8x64x128.Idx → α) (t : Fin cfg0.N) (y : S8x512x128.Idx) (e : S8x8192x128.Idx)
    (h0 : (e 0).val = (y 0).val) (h1 : (e 1).val = (15 - t.val) * 512 + (y 1).val) (h2 : (e 2).val = (y 2).val) :
    blk3 (fun s => f (8 * t.val + s)) y = arr3 f e := by
  have ht := val_lt t
  have hy : (y 1).val < 512 := (y 1).isLt
  show f (8 * t.val + (7 - (y 1).val / 64)) _ = f _ _
  have e1 : 8 * t.val + (7 - (y 1).val / 64) = 127 - (e 1).val / 64 := by omega
  rw [e1]
  congr 1
  have e2 : (y 1).val % 64 = (e 1).val % 64 := by omega
  exact cong3 ix3 (Fin.ext h0.symm) (Fin.ext e2) (Fin.ext h2.symm)

theorem arr4q_blk {α : Type} (f : ℕ → S1x8x64x64.Idx → α) (t : Fin cfg0.N) (y : S8x8x64x64.Idx) (e : S128x8x64x64.Idx)
    (h0 : (e 0).val = (15 - t.val) * 8 + (y 0).val) (h1 : (e 1).val = (y 1).val) (h2 : (e 2).val = (y 2).val)
    (h3 : (e 3).val = (y 3).val) :
    blk4q (fun s => f (8 * t.val + s)) y = arr4q f e := by
  have ht := val_lt t
  have hy : (y 0).val < 8 := (y 0).isLt
  show f (8 * t.val + (7 - (y 0).val)) _ = f _ _
  have e1 : 8 * t.val + (7 - (y 0).val) = 127 - (e 0).val := by omega
  rw [e1]
  congr 1
  exact cong3 (ix4 0) (Fin.ext h1.symm) (Fin.ext h2.symm) (Fin.ext h3.symm)

theorem arr4e_blk {α : Type} (f : ℕ → S1x8x1x128.Idx → α) (t : Fin cfg0.N) (y : S8x8x1x128.Idx) (e : S128x8x1x128.Idx)
    (h0 : (e 0).val = (15 - t.val) * 8 + (y 0).val) (h1 : (e 1).val = (y 1).val) (h2 : (e 2).val = (y 2).val)
    (h3 : (e 3).val = (y 3).val) :
    blk4e (fun s => f (8 * t.val + s)) y = arr4e f e := by
  have ht := val_lt t
  have hy : (y 0).val < 8 := (y 0).isLt
  show f (8 * t.val + (7 - (y 0).val)) _ = f _ _
  have e1 : 8 * t.val + (7 - (y 0).val) = 127 - (e 0).val := by omega
  rw [e1]
  congr 1
  exact cong3 (ix4 0) (Fin.ext h1.symm) (Fin.ext h2.symm) (Fin.ext h3.symm)

theorem arr2_blk {α : Type} (f : ℕ → Fin 8 → S64x128.Idx → α) (t : Fin cfg0.N) (y : S512x1024.Idx) (e : S8192x1024.Idx)
    (h0 : (e 0).val = (15 - t.val) * 512 + (y 0).val) (h1 : (e 1).val = (y 1).val) :
    blk2 (fun s => f (8 * t.val + s)) y = arr2 f e := by
  have ht := val_lt t
  have hy : (y 0).val < 512 := (y 0).isLt
  show f (8 * t.val + (7 - (y 0).val / 64)) _ _ = f _ _ _
  have e1 : 8 * t.val + (7 - (y 0).val / 64) = 127 - (e 0).val / 64 := by omega
  rw [e1]
  have e2 : (y 0).val % 64 = (e 0).val % 64 := by omega
  exact cong3 (fun a b d => f (127 - (e 0).val / 64) a (ix2 b d)) (Fin.ext (by show (y 1).val / 128 = (e 1).val / 128; rw [h1])) (Fin.ext e2)
    (Fin.ext (by show (y 1).val % 128 = (e 1).val % 128; rw [h1]))

theorem final_10 (c : Dev nD) : (dats m 0 c).arrAt 10 cfg0.N = arr3 (fun k => du (cin m c k) (Dg m c k)) := by
  refine (dats m 0 c).arrAt_eq_of_covers 10 _ (by decide +kernel) fun t hf y => ?_
  blk_simp
  rw [after0_10, left_eq]
  refine arr3_blk (fun k => du (cin m c k) (Dg m c k)) t y _ ?_ ?_ ?_ <;> (have e := ix_10 t; blk_simp [e])
theorem final_11 (c : Dev nD) : (dats m 0 c).arrAt 11 cfg0.N = arr3 (fun k => dw (cin m c k) (Dg m c k)) := by
  refine (dats m 0 c).arrAt_eq_of_covers 11 _ (by decide +kernel) fun t hf y => ?_
  blk_simp
  rw [after0_11, left_eq]
  refine arr3_blk (fun k => dw (cin m c k) (Dg m c k)) t y _ ?_ ?_ ?_ <;> (have e := ix_11 t; blk_simp [e])
theorem final_12 (c : Dev nD) : (dats m 0 c).arrAt 12 cfg0.N = arr3 (fun k => dqg (cin m c k)) := by
  refine (dats m 0 c).arrAt_eq_of_covers 12 _ (by decide +kernel) fun t hf y => ?_
  blk_simp
  rw [after0_12, left_eq]
  refine arr3_blk (fun k => dqg (cin m c k)) t y _ ?_ ?_ ?_ <;> (have e := ix_12 t; blk_simp [e])
theorem final_13 (c : Dev nD) : (dats m 0 c).arrAt 13 cfg0.N = arr3 (fun k => dkd (cin m c k) (Dg m c k)) := by
  refine (dats m 0 c).arrAt_eq_of_covers 13 _ (by decide +kernel) fun t hf y => ?_
  blk_simp
  rw [after0_13, left_eq]
  refine arr3_blk (fun k => dkd (cin m c k) (Dg m c k)) t y _ ?_ ?_ ?_ <;> (have e := ix_13 t; blk_simp [e])
theorem final_14 (c : Dev nD) : (dats m 0 c).arrAt 14 cfg0.N = arr4q (fun k => dqk4 (cin m c k)) := by
  refine (dats m 0 c).arrAt_eq_of_covers 14 _ (by decide +kernel) fun t hf y => ?_
  blk_simp
  rw [after0_14, left_eq]
  refine arr4q_blk (fun k => dqk4 (cin m c k)) t y _ ?_ ?_ ?_ ?_ <;> (have e := ix_14 t; blk_simp [e])
theorem final_15 (c : Dev nD) : (dats m 0 c).arrAt 15 cfg0.N = arr4e (fun k => deg4 (cin m c k) (Dg m c k)) := by
  refine (dats m 0 c).arrAt_eq_of_covers 15 _ (by decide +kernel) fun t hf y => ?_
  blk_simp
  rw [after0_15, left_eq]
  refine arr4e_blk (fun k => deg4 (cin m c k) (Dg m c k)) t y _ ?_ ?_ ?_ ?_ <;> (have e := ix_15 t; blk_simp [e])
theorem final_16 (c : Dev nD) : (dats m 0 c).arrAt 16 cfg0.N = arr2 (fun k => dzh (cin m c k)) := by
  refine (dats m 0 c).arrAt_eq_of_covers 16 _ (by decide +kernel) fun t hf y => ?_
  blk_simp
  rw [after0_16, left_eq]
  refine arr2_blk (fun k => dzh (cin m c k)) t y _ ?_ ?_ <;> (have e := ix_16 t; blk_simp [e])

theorem final_17 (c : Dev nD) : (dats m 0 c).arrAt 17 cfg0.N = Ng m c 128 := by
  refine (dats m 0 c).arrAt_eq_of_after_last 17 (tp 120) (by decide +kernel) _ fun j => ?_
  blk_simp
  rw [after0_17, left_eq]
  rfl

end Cert.KernelIdeal.Chunk

end
-- ==== Proof.Outs.lean ====
module

public import proofs.«01_k».proof.Proof.Spec

/-! The eight result arrays, as functions of the chunks' data. -/

@[expose] public section

noncomputable section

namespace Cert.Spec

open Idealize.ShloMosaic

/-- The chunk a row of the sequence lies in. -/
def chunkOf (r : Fin 8192) : Fin 128 := ⟨r.val / 64, by omega⟩

/-- A row's place in its chunk. -/
def rowOf (r : Fin 8192) : Fin 64 := ⟨r.val % 64, by omega⟩

/-- The head a column lies in. -/
def headOf (q : Fin 1024) : Fin 8 := ⟨q.val / 128, by omega⟩

/-- A column's lane in its head. -/
def laneOf (q : Fin 1024) : Fin 128 := ⟨q.val % 128, by omega⟩

variable (C : Fin 128 → Ch)

/-- The gradient of the state a chunk leaves. -/
def after (n : Fin 128) : Fin 8 → Fin 128 → Fin 128 → EReal := dst (fun k => C (back k)) (127 - n.val)

def outU (h : Fin 8) (r : Fin 8192) (x : Fin 128) : EReal := dvn (C (chunkOf r)) (after C (chunkOf r)) h (rowOf r) x
def outW (h : Fin 8) (r : Fin 8192) (x : Fin 128) : EReal := dw (C (chunkOf r)) (after C (chunkOf r)) h (rowOf r) x
def outQG (h : Fin 8) (r : Fin 8192) (x : Fin 128) : EReal := dqg (C (chunkOf r)) h (rowOf r) x
def outKD (h : Fin 8) (r : Fin 8192) (x : Fin 128) : EReal := dkd (C (chunkOf r)) (after C (chunkOf r)) h (rowOf r) x
def outQK (n : Fin 128) (h : Fin 8) (i j : Fin 64) : EReal := dqk (C n) h i j
def outEG (n : Fin 128) (h : Fin 8) (x : Fin 128) : EReal := deg (C n) (after C n) h x
def outZ (r : Fin 8192) (q : Fin 1024) : EReal := dz (C (chunkOf r)) (headOf q) (rowOf r) (laneOf q)
def outNW (x : Fin 128) : EReal := nst (fun k => C (back k)) 128 x

end Cert.Spec

end
-- ==== Proof.Left.lean ====
module

public import proofs.«01_k».proof.Proof.Kern
public import proofs.«01_k».proof.Proof.Final
public import proofs.«01_k».proof.Proof.Outs

/-! The kernel's result arrays over the extended reals, at indices. -/

@[expose] public section

noncomputable section

namespace Cert.KernelIdeal.Chunk

open Idealize.ShloMosaic Idealize.ShloMosaic.TcCoe Idealize.SL.Sem Cert.KernelIdeal.Gen Cert.KernelIdeal.Value

variable (m : (ℓ : Loc nD τ sig) → Buf (Elt Ideal) ℓ) (c : Dev nD)

/-- A chunk's data in the argument arrays. -/
def chK (n : Fin 128) : Spec.Ch :=
  Spec.ofArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) n

theorem ch_cin (k : ℕ) (hk : k < 128) : chOf (cin m c k) = chK m c (Spec.back k) := by
  unfold chOf chK Spec.ofArgs
  simp only [cin_U m c k hk, cin_W m c k hk, cin_QG m c k hk, cin_KD m c k hk, cin_QK m c k hk, cin_EG m c k hk,
    cin_S m c k hk, cin_NW m c k hk, cin_DO m c k hk, cin_Z m c k hk]
  rfl

theorem D_eq (k : ℕ) (hk : k ≤ 128) : dOf (Dg m c k) = Spec.dst (fun n => chK m c (Spec.back n)) k := by
  unfold Dg
  rw [dst_at]
  exact Spec.dst_congr k fun n hn => ch_cin m c n (by omega)

theorem ch_row (n : Fin 128) : chOf (cin m c (127 - n.val)) = chK m c n := by
  rw [ch_cin m c _ (by omega)]
  exact congrArg _ (Fin.ext (by show 127 - (127 - n.val) = n.val; omega))

theorem D_row (n : Fin 128) : dOf (Dg m c (127 - n.val)) = Spec.after (chK m c) n := D_eq m c _ (by omega)

variable (h : Fin 8) (q : Fin 8192) (x : Fin 128)

theorem res_U : (dats m 0 c).arrAt 10 cfg0.N (ix3 h q x) = Spec.outU (chK m c) h q x := by
  rw [final_10]
  refine (du_at (cin m c (127 - (Spec.chunkOf q).val)) (Dg m c (127 - (Spec.chunkOf q).val)) h (Spec.rowOf q) x).trans ?_
  rw [ch_row, D_row]
  rfl

theorem res_W : (dats m 0 c).arrAt 11 cfg0.N (ix3 h q x) = Spec.outW (chK m c) h q x := by
  rw [final_11]
  refine (dw_at (cin m c (127 - (Spec.chunkOf q).val)) (Dg m c (127 - (Spec.chunkOf q).val)) h (Spec.rowOf q) x).trans ?_
  rw [ch_row, D_row]
  rfl

theorem res_QG : (dats m 0 c).arrAt 12 cfg0.N (ix3 h q x) = Spec.outQG (chK m c) h q x := by
  rw [final_12]
  refine (dqg_at (cin m c (127 - (Spec.chunkOf q).val)) h (Spec.rowOf q) x).trans ?_
  rw [ch_row]
  rfl

theorem res_KD : (dats m 0 c).arrAt 13 cfg0.N (ix3 h q x) = Spec.outKD (chK m c) h q x := by
  rw [final_13]
  refine (dkd_at (cin m c (127 - (Spec.chunkOf q).val)) (Dg m c (127 - (Spec.chunkOf q).val)) h (Spec.rowOf q) x).trans ?_
  rw [ch_row, D_row]
  rfl

theorem res_QK (n : Fin 128) (i j : Fin 64) : (dats m 0 c).arrAt 14 cfg0.N (ix4 n h i j) = Spec.outQK (chK m c) n h i j := by
  rw [final_14]
  refine (dqk_at (cin m c (127 - n.val)) h i j).trans ?_
  rw [ch_row]
  rfl

theorem res_EG (n : Fin 128) : (dats m 0 c).arrAt 15 cfg0.N (ix4 n h 0 x) = Spec.outEG (chK m c) n h x := by
  rw [final_15]
  refine (deg_at (cin m c (127 - n.val)) (Dg m c (127 - n.val)) h x).trans ?_
  rw [ch_row, D_row]
  rfl

theorem res_Z (p : Fin 1024) : (dats m 0 c).arrAt 16 cfg0.N (ix2 q p) = Spec.outZ (chK m c) q p := by
  rw [final_16]
  refine (dzh_at (cin m c (127 - (Spec.chunkOf q).val)) (Spec.headOf p) (Spec.rowOf q) (Spec.laneOf p)).trans ?_
  rw [ch_row]
  rfl

theorem res_NW : (dats m 0 c).arrAt 17 cfg0.N (ix2 0 x) = Spec.outNW (chK m c) x := by
  rw [final_17]
  unfold Ng
  rw [nst_at]
  exact congrFun (Spec.nst_congr 128 fun n hn => ch_cin m c n hn) x

end Cert.KernelIdeal.Chunk

end
-- ==== Proof.Rows.lean ====
module

public import Idealize.ShloMosaic.Lib.Pointwise
public import Idealize.ShloMosaic.Lib.DynamicIndex
public import Idealize.ShloMosaic.Lib.WordCmp

/-! One chunk of a stack of 128: read by a dynamic slice, written by a dynamic update. -/

@[expose] public section

namespace Cert.Rows

open Idealize.ShloMosaic

variable {α : Type} {p q r : ℕ}

theorem slice_row (t : (⟨4, ![128, p, q, r]⟩ : Shape).Idx → α) (st : Fin 4 → ℤ)
    (h : (⟨4, ![128, p, q, r]⟩ : Shape).Slices (fun _ => 0) ⟨4, ![1, p, q, r]⟩) (n : Fin 128)
    (hs : ∀ a, st a = ((![n.val, 0, 0, 0] : Fin 4 → ℕ) a : ℤ)) :
    Host.dynamicSlice ⟨4, ![1, p, q, r]⟩ t st h = fun j => t (ix4 n (j 1) (j 2) (j 3)) := by
  have hoff : (⟨4, ![128, p, q, r]⟩ : Shape).Slices ![n.val, 0, 0, 0] ⟨4, ![1, p, q, r]⟩ := by
    refine ⟨rfl, fun a => ?_⟩
    have := n.isLt
    fin_cases a
    · show n.val + 1 ≤ 128; omega
    · show 0 + p ≤ p; omega
    · show 0 + q ≤ q; omega
    · show 0 + r ≤ r; omega
  rw [Host.dynamicSlice_eq_extractStridedSlice _ t st ![n.val, 0, 0, 0] h hoff hs]
  funext j
  refine congrArg t (funext fun a => ?_)
  fin_cases a
  · refine Fin.ext ?_
    have : (j 0).val < 1 := (j 0).isLt
    show n.val + (j 0).val = n.val
    omega
  · refine Fin.ext ?_
    show 0 + (j 1).val = (j 1).val
    omega
  · refine Fin.ext ?_
    show 0 + (j 2).val = (j 2).val
    omega
  · refine Fin.ext ?_
    show 0 + (j 3).val = (j 3).val
    omega

theorem update_row (t : (⟨4, ![128, p, q, r]⟩ : Shape).Idx → α) (u : (⟨4, ![1, p, q, r]⟩ : Shape).Idx → α) (st : Fin 4 → ℤ)
    (h : (⟨4, ![128, p, q, r]⟩ : Shape).Slices (fun _ => 0) ⟨4, ![1, p, q, r]⟩) (n : Fin 128)
    (hs : ∀ a, st a = ((![n.val, 0, 0, 0] : Fin 4 → ℕ) a : ℤ)) (m : Fin 128) (a : Fin p) (b : Fin q) (c : Fin r) :
    Host.dynamicUpdateSlice t u st h (ix4 m a b c) = if m = n then u (ix4 0 a b c) else t (ix4 m a b c) := by
  have hoff : (⟨4, ![128, p, q, r]⟩ : Shape).Slices ![n.val, 0, 0, 0] ⟨4, ![1, p, q, r]⟩ := by
    refine ⟨rfl, fun a => ?_⟩
    have := n.isLt
    fin_cases a
    · show n.val + 1 ≤ 128; omega
    · show 0 + p ≤ p; omega
    · show 0 + q ≤ q; omega
    · show 0 + r ≤ r; omega
  rw [WordCmp.dynamicUpdateSlice_eq_update _ _ st h ![n.val, 0, 0, 0] hoff hs]
  unfold updateSlice
  split_ifs with h1 h2 h2
  · refine congrArg u (funext fun d => ?_)
    fin_cases d
    · exact Subsingleton.elim (α := Fin 1) _ _
    · exact Fin.ext (Nat.sub_zero _)
    · exact Fin.ext (Nat.sub_zero _)
    · exact Fin.ext (Nat.sub_zero _)
  · exfalso
    have := h1 0
    have h3 : n.val ≤ m.val ∧ m.val < n.val + 1 := this
    exact h2 (Fin.ext (by omega))
  · exfalso
    refine h1 fun d => ?_
    subst h2
    fin_cases d
    · show m.val ≤ m.val ∧ m.val < m.val + 1; omega
    · exact ⟨Nat.zero_le _, by show a.val < 0 + p; omega⟩
    · exact ⟨Nat.zero_le _, by show b.val < 0 + q; omega⟩
    · exact ⟨Nat.zero_le _, by show c.val < 0 + r; omega⟩
  · rfl

end Cert.Rows
-- ==== Proof.Trip.lean ====
module

public import proofs.«01_k».proof.Proof.Gen.ReferenceIdeal.Run
public import proofs.«01_k».proof.Proof.Rows
public import proofs.«01_k».proof.Proof.Spec

/-! One trip of the reference's scan over the extended reals, at indices: from any contents with the counter at `k`, what
    it makes of chunk `127 - k` is `Spec`'s. -/

@[expose] public section

set_option maxRecDepth 16384

noncomputable section

namespace Cert.ReferenceIdeal.Trip

open Idealize.ShloMosaic Idealize.SL.Sem Cert.ReferenceIdeal Cert.ReferenceIdeal.Gen Cert.ReferenceIdeal.Value

variable (V : Valuation τ sig (Elt Ideal))

/-! ### The carried arrays -/

def cg : FVec Ideal S128x8x64x128 .f32 := V (Proc.devRef .tc main_v26_0)
def cs : FVec Ideal S128x8x128x128 .f32 := V (Proc.devRef .tc main_v26_1)
def cu : FVec Ideal S128x8x64x128 .f32 := V (Proc.devRef .tc main_v26_2)
def cw : FVec Ideal S128x8x64x128 .f32 := V (Proc.devRef .tc main_v26_3)
def cqg : FVec Ideal S128x8x64x128 .f32 := V (Proc.devRef .tc main_v26_4)
def ckd : FVec Ideal S128x8x64x128 .f32 := V (Proc.devRef .tc main_v26_5)
def cqk : FVec Ideal S128x8x64x64 .f32 := V (Proc.devRef .tc main_v26_6)
def ceg : FVec Ideal S128x8x1x128 .f32 := V (Proc.devRef .tc main_v26_7)
def cz : FVec Ideal S128x8x64x128 .f32 := V (Proc.devRef .tc main_v26_8)
def cnw : FVec Ideal S1x128 .f32 := V (Proc.devRef .tc main_v26_9)
def cD : FVec Ideal S8x128x128 .f32 := V (Proc.devRef .tc main_v26_11)
def cN : FVec Ideal S1x128 .f32 := V (Proc.devRef .tc main_v26_12)
def cdu : FVec Ideal S128x8x64x128 .f32 := V (Proc.devRef .tc main_v26_13)
def cdw : FVec Ideal S128x8x64x128 .f32 := V (Proc.devRef .tc main_v26_14)
def cdqg : FVec Ideal S128x8x64x128 .f32 := V (Proc.devRef .tc main_v26_15)
def cdkd : FVec Ideal S128x8x64x128 .f32 := V (Proc.devRef .tc main_v26_16)
def cdqk : FVec Ideal S128x8x64x64 .f32 := V (Proc.devRef .tc main_v26_17)
def cdeg : FVec Ideal S128x8x1x128 .f32 := V (Proc.devRef .tc main_v26_18)
def cdz : FVec Ideal S128x8x64x128 .f32 := V (Proc.devRef .tc main_v26_19)

/-- Chunk `n` of the carried inputs. -/
def chAt (n : Fin 128) : Spec.Ch where
  s h a x := cs V (ix4 n h a x)
  u h i x := cu V (ix4 n h i x)
  w h i x := cw V (ix4 n h i x)
  qg h i x := cqg V (ix4 n h i x)
  kd h i x := ckd V (ix4 n h i x)
  qk h i j := cqk V (ix4 n h i j)
  eg h x := ceg V (ix4 n h 0 x)
  z h i x := cz V (ix4 n h i x)
  nw x := cnw V (ix2 0 x)
  g h i x := cg V (ix4 n h i x)

def dAt : Fin 8 → Fin 128 → Fin 128 → EReal := fun h a x => cD V (ix3 h a x)

/-- The counter's value. -/
def Ctr (n : Fin 128) : Prop :=
  ∀ a : Fin 4, (((![res_main_while0b_v41 V, constantI S_ 32 0#32, constantI S_ 32 0#32, constantI S_ 32 0#32] :
    Fin 4 → (⟨S_, .i32⟩ : BufTy).Contents (Elt Ideal))) a (Shape.Idx.first h_S_)).toInt
      = ((![n.val, 0, 0, 0] : Fin 4 → ℕ) a : ℤ)

theorem sum_block (t : FVec Ideal S8x64x128 .f32) (x : Fin 128) :
    Host.reduceAdd (F := Ideal) t (constant S_ .f32 0x00000000#32) reducesTo_S8x64x128_S128_d0_1 h_S_ (ix1 x)
      = ∑ a, ∑ b, t (ix3 a b x) := by
  refine Eq.trans ?_ (Spec.sum01 (n0 := 8) (n1 := 64) (n2 := 128) reducesTo_S8x64x128_S128_d0_1.drop (fun _ => rfl) t x)
  show Ideal.ofBits .f32 0x00000000#32 + _ = _
  rw [Ideal.ofBits_zero_f32, zero_add]

theorem row_at (t : FVec Ideal S128 .f32) (x : Fin 128) :
    broadcastInDim S1x128 ![1] bcast_S128_S1x128_1 t (ix2 0 x) = t (ix1 x) := by
  pointwise []

theorem unit_at (t : FVec Ideal S128 .f32) (x : Fin 128) :
    shapeCast S1x1x128 t shapeCasts_S128_S1x1x128 (ix3 0 0 x) = t (ix1 x) := by
  pointwise []

theorem sum_unit (t : FVec Ideal S1x1x128 .f32) (x : Fin 128) :
    Host.reduceAdd (F := Ideal) t (constant S_ .f32 0x00000000#32) reducesTo_S1x1x128_S128_d0_1 h_S_ (ix1 x)
      = t (ix3 0 0 x) := by
  refine Eq.trans ?_ ((Spec.sum01 (n0 := 1) (n1 := 1) (n2 := 128) reducesTo_S1x1x128_S128_d0_1.drop (fun _ => rfl) t x).trans
    (by simp only [Fin.sum_univ_one]))
  show Ideal.ofBits .f32 0x00000000#32 + _ = _
  rw [Ideal.ofBits_zero_f32, zero_add]

variable {V} {n : Fin 128} (hn : Ctr V n) (h : Fin 8) (i : Fin 64) (x : Fin 128)
include hn

theorem g_at : res_main_while0b_v42 V (ix3 h i x) = (chAt V n).g h i x := by
  unfold res_main_while0b_v42
  refine (congrArg (fun t => shapeCast S8x64x128 t shapeCasts_S1x8x64x128_S8x64x128 (ix3 h i x))
    (Rows.slice_row (p := 8) (q := 64) (r := 128) _ _ _ n hn)).trans ?_
  pointwise [chAt, cg]
theorem s_at (a : Fin 128) : res_main_while0b_v43 V (ix3 h a x) = (chAt V n).s h a x := by
  unfold res_main_while0b_v43
  refine (congrArg (fun t => shapeCast S8x128x128 t shapeCasts_S1x8x128x128_S8x128x128 (ix3 h a x))
    (Rows.slice_row (p := 8) (q := 128) (r := 128) _ _ _ n hn)).trans ?_
  pointwise [chAt, cs]
theorem w_at : res_main_while0b_v45 V (ix3 h i x) = (chAt V n).w h i x := by
  unfold res_main_while0b_v45
  refine (congrArg (fun t => shapeCast S8x64x128 t shapeCasts_S1x8x64x128_S8x64x128 (ix3 h i x))
    (Rows.slice_row (p := 8) (q := 64) (r := 128) _ _ _ n hn)).trans ?_
  pointwise [chAt, cw]
theorem qg_at : res_main_while0b_v46 V (ix3 h i x) = (chAt V n).qg h i x := by
  unfold res_main_while0b_v46
  refine (congrArg (fun t => shapeCast S8x64x128 t shapeCasts_S1x8x64x128_S8x64x128 (ix3 h i x))
    (Rows.slice_row (p := 8) (q := 64) (r := 128) _ _ _ n hn)).trans ?_
  pointwise [chAt, cqg]
theorem kd_at : res_main_while0b_v47 V (ix3 h i x) = (chAt V n).kd h i x := by
  unfold res_main_while0b_v47
  refine (congrArg (fun t => shapeCast S8x64x128 t shapeCasts_S1x8x64x128_S8x64x128 (ix3 h i x))
    (Rows.slice_row (p := 8) (q := 64) (r := 128) _ _ _ n hn)).trans ?_
  pointwise [chAt, ckd]
theorem qk_at (j : Fin 64) : res_main_while0b_v48 V (ix3 h i j) = (chAt V n).qk h i j := by
  unfold res_main_while0b_v48
  refine (congrArg (fun t => shapeCast S8x64x64 t shapeCasts_S1x8x64x64_S8x64x64 (ix3 h i j))
    (Rows.slice_row (p := 8) (q := 64) (r := 64) _ _ _ n hn)).trans ?_
  pointwise [chAt, cqk]
theorem eg_at : res_main_while0b_v49 V (ix3 h 0 x) = (chAt V n).eg h x := by
  unfold res_main_while0b_v49
  refine (congrArg (fun t => shapeCast S8x1x128 t shapeCasts_S1x8x1x128_S8x1x128 (ix3 h 0 x))
    (Rows.slice_row (p := 8) (q := 1) (r := 128) _ _ _ n hn)).trans ?_
  pointwise [chAt, ceg]
theorem z_at : res_main_while0b_v50 V (ix3 h i x) = (chAt V n).z h i x := by
  unfold res_main_while0b_v50
  refine (congrArg (fun t => shapeCast S8x64x128 t shapeCasts_S1x8x64x128_S8x64x128 (ix3 h i x))
    (Rows.slice_row (p := 8) (q := 64) (r := 128) _ _ _ n hn)).trans ?_
  pointwise [chAt, cz]
omit hn in
theorem nw_at : res_main_while0b_v75 V (ix3 0 0 x) = (chAt V n).nw x := by
  pointwise [res_main_while0b_v75, chAt, cnw]

theorem vn_at : res_main_while0b_v52 V (ix3 h i x) = Spec.vn (chAt V n) h i x := by
  unfold res_main_while0b_v52
  refine (congrArg (fun t => subf (shapeCast S8x64x128 t shapeCasts_S1x8x64x128_S8x64x128)
    (Host.dotGeneral (F := Ideal) dot_S8x64x128_S8x128x128_S8x64x128_2_1_1_2_0_0 none (res_main_while0b_v45 V) (res_main_while0b_v43 V))
    (ix3 h i x)) (Rows.slice_row (p := 8) (q := 64) (r := 128) _ _ _ n hn)).trans ?_
  pointwise []
  simp only [w_at hn, s_at hn]
  rfl

theorem o_at : res_main_while0b_v55 V (ix3 h i x) = Spec.o (chAt V n) h i x := by
  pointwise [res_main_while0b_v55]
  simp only [qg_at hn, s_at hn, qk_at hn, vn_at hn]
  rfl

theorem ms_at : res_main_while0b_v68 V (ix3 h i 0) = Spec.ms (chAt V n) h i := by
  pointwise [res_main_while0b_v68]
  simp only [o_at hn]
  rfl

theorem r_at : res_main_while0b_v69 V (ix3 h i 0) = Spec.r (chAt V n) h i := by
  pointwise [res_main_while0b_v69]
  simp only [ms_at hn]
  rfl

theorem orr_at : res_main_while0b_v74 V (ix3 h i x) = Spec.o (chAt V n) h i x * Spec.r (chAt V n) h i := by
  pointwise [res_main_while0b_v74]
  simp only [o_at hn, r_at hn]

theorem onw_at : res_main_while0b_v77 V (ix3 h i x)
    = Spec.o (chAt V n) h i x * Spec.r (chAt V n) h i * (chAt V n).nw x := by
  pointwise [res_main_while0b_v77]
  simp only [orr_at hn, nw_at (n := n)]

theorem sg_at : res_main_while0b_v78_2 V (ix3 h i x) = Spec.sg (chAt V n) h i x := by
  pointwise [res_main_while0b_v78_2]
  simp only [z_at hn]
  rfl

theorem gz_at : res_main_while0b_v81 V (ix3 h i x) = Spec.gz (chAt V n) h i x := by
  pointwise [res_main_while0b_v81, res_main_while0b_v78_0]
  simp only [z_at hn, sg_at hn, g_at hn]
  rfl

theorem gated_at : res_main_while0b_v80 V (ix3 h i x) = Spec.gated (chAt V n) h i x := by
  pointwise [res_main_while0b_v80]
  simp only [onw_at hn, g_at hn]
  rfl

theorem gn_at : res_main_while0b_v87 V (ix3 h i x) = Spec.gn (chAt V n) h i x := by
  pointwise [res_main_while0b_v87]
  simp only [gz_at hn, nw_at (n := n)]
  rfl

theorem dO_at : res_main_while0b_v101 V (ix3 h i x) = Spec.dO (chAt V n) h i x := by
  pointwise [res_main_while0b_v101]
  simp only [Fin.sum_univ_one, gn_at hn, r_at hn, o_at hn, ms_at hn]
  rfl

theorem dvn_at : res_main_while0b_v113 V (ix3 h i x) = Spec.dvn (chAt V n) (dAt V) h i x := by
  pointwise [res_main_while0b_v113]
  simp only [kd_at hn, qk_at hn, dO_at hn]
  unfold Spec.dvn
  refine congrArg₂ (· + ·) (Finset.sum_congr rfl fun k _ => mul_comm _ _) (Finset.sum_congr rfl fun k _ => mul_comm _ _)

theorem neg_at : res_main_while0b_v119 V (ix3 h i x) = -(Spec.dvn (chAt V n) (dAt V) h i x) := by
  pointwise [res_main_while0b_v119]
  simp only [dvn_at hn]

/-! ### What the trip leaves -/

theorem D_step (a : Fin 128) : cD (STEP V) (ix3 h a x) = Spec.ds (chAt V n) (dAt V) h x a := by
  unfold cD
  rw [STEP_main_v26_11]
  unfold step_main_v26_11
  rw [id_eq]
  pointwise []
  simp only [eg_at hn, dO_at hn, qg_at hn, neg_at hn, w_at hn]
  unfold Spec.ds
  refine congrArg₂ (· + ·) (congrArg₂ (· + ·) rfl (Finset.sum_congr rfl fun k _ => mul_comm _ _))
    (Finset.sum_congr rfl fun k _ => mul_comm _ _)

theorem N_step : cN (STEP V) (ix2 0 x) = cN V (ix2 0 x) + Spec.dnw (chAt V n) x := by
  unfold cN
  rw [STEP_main_v26_12]
  unfold step_main_v26_12
  refine congrArg₂ (· + ·) rfl ?_
  refine (row_at _ x).trans ?_
  refine (sum_unit _ x).trans ?_
  refine (unit_at _ x).trans ?_
  refine (sum_block _ x).trans ?_
  pointwise []
  simp only [orr_at hn, gz_at hn]
  rfl

theorem du_step (m : Fin 128) : cdu (STEP V) (ix4 m h i x)
    = if m = n then Spec.dvn (chAt V n) (dAt V) h i x else cdu V (ix4 m h i x) := by
  unfold cdu
  rw [STEP_main_v26_13]
  unfold step_main_v26_13
  refine (Rows.update_row (p := 8) (q := 64) (r := 128) _ _ _ _ n hn m h i x).trans ?_
  refine congrArg₂ (ite (m = n)) ?_ rfl
  pointwise []
  simp only [dvn_at hn]

theorem dw_step (m : Fin 128) : cdw (STEP V) (ix4 m h i x)
    = if m = n then Spec.dw (chAt V n) (dAt V) h i x else cdw V (ix4 m h i x) := by
  unfold cdw
  rw [STEP_main_v26_14]
  unfold step_main_v26_14
  refine (Rows.update_row (p := 8) (q := 64) (r := 128) _ _ _ _ n hn m h i x).trans ?_
  refine congrArg₂ (ite (m = n)) ?_ rfl
  pointwise []
  simp only [neg_at hn, s_at hn]
  rfl

theorem dqg_step (m : Fin 128) : cdqg (STEP V) (ix4 m h i x)
    = if m = n then Spec.dqg (chAt V n) h i x else cdqg V (ix4 m h i x) := by
  unfold cdqg
  rw [STEP_main_v26_15]
  unfold step_main_v26_15
  refine (Rows.update_row (p := 8) (q := 64) (r := 128) _ _ _ _ n hn m h i x).trans ?_
  refine congrArg₂ (ite (m = n)) ?_ rfl
  pointwise []
  simp only [dO_at hn, s_at hn]
  rfl

theorem dkd_step (m : Fin 128) : cdkd (STEP V) (ix4 m h i x)
    = if m = n then Spec.dkd (chAt V n) (dAt V) h i x else cdkd V (ix4 m h i x) := by
  unfold cdkd
  rw [STEP_main_v26_16]
  unfold step_main_v26_16
  refine (Rows.update_row (p := 8) (q := 64) (r := 128) _ _ _ _ n hn m h i x).trans ?_
  refine congrArg₂ (ite (m = n)) ?_ rfl
  pointwise []
  simp only [vn_at hn]
  exact Finset.sum_congr rfl fun k _ => mul_comm _ _

theorem dqk_step (m : Fin 128) (j : Fin 64) : cdqk (STEP V) (ix4 m h i j)
    = if m = n then Spec.dqk (chAt V n) h i j else cdqk V (ix4 m h i j) := by
  unfold cdqk
  rw [STEP_main_v26_17]
  unfold step_main_v26_17
  refine (Rows.update_row (p := 8) (q := 64) (r := 64) _ _ _ _ n hn m h i j).trans ?_
  refine congrArg₂ (ite (m = n)) ?_ rfl
  pointwise []
  simp only [dO_at hn, vn_at hn]
  rfl

theorem deg_step (m : Fin 128) : cdeg (STEP V) (ix4 m h 0 x)
    = if m = n then Spec.deg (chAt V n) (dAt V) h x else cdeg V (ix4 m h 0 x) := by
  unfold cdeg
  rw [STEP_main_v26_18]
  unfold step_main_v26_18
  refine (Rows.update_row (p := 8) (q := 1) (r := 128) _ _ _ _ n hn m h 0 x).trans ?_
  refine congrArg₂ (ite (m = n)) ?_ rfl
  pointwise []
  simp only [s_at hn]
  rfl

theorem dz_step (m : Fin 128) : cdz (STEP V) (ix4 m h i x)
    = if m = n then Spec.dz (chAt V n) h i x else cdz V (ix4 m h i x) := by
  unfold cdz
  rw [STEP_main_v26_19]
  unfold step_main_v26_19
  refine (Rows.update_row (p := 8) (q := 64) (r := 128) _ _ _ _ n hn m h i x).trans ?_
  refine congrArg₂ (ite (m = n)) ?_ rfl
  pointwise []
  simp only [gated_at hn, sg_at hn, z_at hn]
  rfl

end Cert.ReferenceIdeal.Trip

end
-- ==== Proof.Scan.lean ====
module

public import proofs.«01_k».proof.Proof.Trip

/-! The reference's scan: its 128 trips, from the contents the operations before the loop leave. -/

@[expose] public section

set_option maxRecDepth 16384

noncomputable section

namespace Cert.ReferenceIdeal.Trip

open Idealize.ShloMosaic Idealize.SL.Sem Cert.ReferenceIdeal Cert.ReferenceIdeal.Gen Cert.ReferenceIdeal.Value
open Idealize.ShloMosaic.StableHlo Idealize.ShloMosaic.Tactic Idealize.ShloMosaic.TcCoe Idealize.SL

variable (m : (ℓ : Loc nD τ sig) → Buf (Elt Ideal) ℓ) (c : Dev nD)

/-- The contents the loop starts from. -/
abbrev E : Valuation τ sig (Elt Ideal) := entryContents preI m c

theorem E_u (n : Fin 128) (h : Fin 8) (i : Fin 64) (x : Fin 128) : cu (E m c) (ix4 n h i x)
    = (m ((c.tc : Thread nD τ).loc main_arg0) : FVec Ideal S8x8192x128 .f32) (ix3 h ⟨64 * n.val + i.val, by omega⟩ x) := by
  unfold cu E
  simp only [entryContents, afterL_cons, afterL_nil]
  after_reads_simp
  rw [id_eq]
  pointwise []
  exact congrArg (m ((c.tc : Thread nD τ).loc main_arg0)) (congrArg (ix3 h · x) (Fin.ext (by show n.val * 64 + i.val = 64 * n.val + i.val; omega)))

theorem E_w (n : Fin 128) (h : Fin 8) (i : Fin 64) (x : Fin 128) : cw (E m c) (ix4 n h i x)
    = (m ((c.tc : Thread nD τ).loc main_arg1) : FVec Ideal S8x8192x128 .bf16) (ix3 h ⟨64 * n.val + i.val, by omega⟩ x) := by
  unfold cw E
  simp only [entryContents, afterL_cons, afterL_nil]
  after_reads_simp
  rw [id_eq]
  pointwise []
  exact congrArg (m ((c.tc : Thread nD τ).loc main_arg1)) (congrArg (ix3 h · x) (Fin.ext (by show n.val * 64 + i.val = 64 * n.val + i.val; omega)))

theorem E_qg (n : Fin 128) (h : Fin 8) (i : Fin 64) (x : Fin 128) : cqg (E m c) (ix4 n h i x)
    = (m ((c.tc : Thread nD τ).loc main_arg2) : FVec Ideal S8x8192x128 .bf16) (ix3 h ⟨64 * n.val + i.val, by omega⟩ x) := by
  unfold cqg E
  simp only [entryContents, afterL_cons, afterL_nil]
  after_reads_simp
  rw [id_eq]
  pointwise []
  exact congrArg (m ((c.tc : Thread nD τ).loc main_arg2)) (congrArg (ix3 h · x) (Fin.ext (by show n.val * 64 + i.val = 64 * n.val + i.val; omega)))

theorem E_kd (n : Fin 128) (h : Fin 8) (i : Fin 64) (x : Fin 128) : ckd (E m c) (ix4 n h i x)
    = (m ((c.tc : Thread nD τ).loc main_arg3) : FVec Ideal S8x8192x128 .bf16) (ix3 h ⟨64 * n.val + i.val, by omega⟩ x) := by
  unfold ckd E
  simp only [entryContents, afterL_cons, afterL_nil]
  after_reads_simp
  rw [id_eq]
  pointwise []
  exact congrArg (m ((c.tc : Thread nD τ).loc main_arg3)) (congrArg (ix3 h · x) (Fin.ext (by show n.val * 64 + i.val = 64 * n.val + i.val; omega)))

theorem E_qk (n : Fin 128) (h : Fin 8) (i j : Fin 64) : cqk (E m c) (ix4 n h i j)
    = (m ((c.tc : Thread nD τ).loc main_arg4) : FVec Ideal S128x8x64x64 .bf16) (ix4 n h i j) := by
  unfold cqk E
  simp only [entryContents, afterL_cons, afterL_nil]
  after_reads_simp
  rw [id_eq]
  pointwise []

theorem E_eg (n : Fin 128) (h : Fin 8) (x : Fin 128) : ceg (E m c) (ix4 n h 0 x)
    = (m ((c.tc : Thread nD τ).loc main_arg5) : FVec Ideal S128x8x1x128 .f32) (ix4 n h 0 x) := by
  unfold ceg E
  simp only [entryContents, afterL_cons, afterL_nil]
  after_reads_simp
  rfl

theorem E_z (n : Fin 128) (h : Fin 8) (i : Fin 64) (x : Fin 128) : cz (E m c) (ix4 n h i x)
    = (m ((c.tc : Thread nD τ).loc main_arg6) : FVec Ideal S8192x9728 .f32) (ix2 ⟨64 * n.val + i.val, by omega⟩ ⟨3072 + 128 * h.val + x.val, by omega⟩) := by
  unfold cz E
  simp only [entryContents, afterL_cons, afterL_nil]
  after_reads_simp
  rw [id_eq]
  pointwise []
  exact congrArg (m ((c.tc : Thread nD τ).loc main_arg6)) (congrArg₂ ix2 (Fin.ext (by show n.val * 64 + i.val = 64 * n.val + i.val; omega))
    (Fin.ext (by show 3072 + (h.val * 128 + x.val) = 3072 + 128 * h.val + x.val; omega)))

theorem E_nw (x : Fin 128) : cnw (E m c) (ix2 0 x)
    = (m ((c.tc : Thread nD τ).loc main_arg7) : FVec Ideal S1x128 .f32) (ix2 0 x) := by
  unfold cnw E
  simp only [entryContents, afterL_cons, afterL_nil]
  after_reads_simp
  rfl

theorem E_s (n : Fin 128) (h : Fin 8) (a x : Fin 128) : cs (E m c) (ix4 n h a x)
    = (m ((c.tc : Thread nD τ).loc main_arg8) : FVec Ideal S128x8x128x128 .f32) (ix4 n h a x) := by
  unfold cs E
  simp only [entryContents, afterL_cons, afterL_nil]
  after_reads_simp
  rfl

theorem E_g (n : Fin 128) (h : Fin 8) (i : Fin 64) (x : Fin 128) : cg (E m c) (ix4 n h i x)
    = (m ((c.tc : Thread nD τ).loc main_arg9) : FVec Ideal S8192x1024 .f32) (ix2 ⟨64 * n.val + i.val, by omega⟩ ⟨128 * h.val + x.val, by omega⟩) := by
  unfold cg E
  simp only [entryContents, afterL_cons, afterL_nil]
  after_reads_simp
  rw [id_eq]
  pointwise []
  exact congrArg (m ((c.tc : Thread nD τ).loc main_arg9)) (congrArg₂ ix2 (Fin.ext (by show n.val * 64 + i.val = 64 * n.val + i.val; omega))
    (Fin.ext (by show h.val * 128 + x.val = 128 * h.val + x.val; omega)))

theorem E_D (h : Fin 8) (a x : Fin 128) : cD (E m c) (ix3 h a x) = 0 := by
  unfold cD E
  simp only [entryContents, afterL_cons, afterL_nil]
  after_reads_simp
  rw [id_eq]
  pointwise []

theorem E_N (x : Fin 128) : cN (E m c) (ix2 0 x) = 0 := by
  unfold cN E
  simp only [entryContents, afterL_cons, afterL_nil]
  after_reads_simp
  rw [id_eq]
  pointwise []

/-- Chunk `n` of the reference's arguments. -/
def chM (n : Fin 128) : Spec.Ch :=
  Spec.ofArgs (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) n

theorem chE (n : Fin 128) : chAt (E m c) n = chM m c n := by
  unfold chAt chM Spec.ofArgs
  simp only [E_u, E_w, E_qg, E_kd, E_qk, E_eg, E_z, E_nw, E_s, E_g]

/-- The contents after `k` trips. -/
def at_ (k : ℕ) : Valuation τ sig (Elt Ideal) := STEP^[k] (E m c)

theorem at_succ (k : ℕ) : at_ m c (k + 1) = STEP (at_ m c k) := Function.iterate_succ_apply' _ _ _

theorem at_ctr : ∀ k, at_ m c k (Proc.devRef .tc main_v26_10) = fun _ => BitVec.ofNat 32 k
  | 0 => ctr_entry m c
  | k + 1 => by
    rw [at_succ, STEP_main_v26_10]
    unfold step_main_v26_10
    rw [id_eq, at_ctr k]
    funext j
    show BitVec.ofNat 32 k + BitVec.ofNat 32 1 = BitVec.ofNat 32 (k + 1)
    rw [BitVec.ofNat_add]

theorem word_back : ∀ k : Fin 128, (128#32 - BitVec.ofNat 32 k.val - 1#32).toInt = ((127 - k.val : ℕ) : ℤ) := by
  decide +kernel

theorem at_Ctr (k : ℕ) (hk : k < 128) : Ctr (at_ m c k) (Spec.back k) := by
  intro a
  fin_cases a
  · show (res_main_while0b_v41 (at_ m c k) (Shape.Idx.first h_S_)).toInt = ((127 - k : ℕ) : ℤ)
    unfold res_main_while0b_v41
    rw [at_ctr]
    exact word_back ⟨k, hk⟩
  · rfl
  · rfl
  · rfl

theorem at_ch (n : Fin 128) : ∀ k, chAt (at_ m c k) n = chM m c n
  | 0 => chE m c n
  | k + 1 => by
    rw [← at_ch n k, at_succ]
    unfold chAt cs cu cw cqg ckd cqk ceg cz cnw cg
    rw [STEP_main_v26_0, STEP_main_v26_1, STEP_main_v26_2, STEP_main_v26_3, STEP_main_v26_4, STEP_main_v26_5,
      STEP_main_v26_6, STEP_main_v26_7, STEP_main_v26_8, STEP_main_v26_9]

/-- The chunks in the order handled. -/
def ord (k : ℕ) : Spec.Ch := chM m c (Spec.back k)

theorem at_D : ∀ k, k ≤ 128 → dAt (at_ m c k) = Spec.dst (ord m c) k
  | 0, _ => by
    funext h a x
    exact E_D m c h a x
  | k + 1, hk => by
    funext h a x
    show cD (at_ m c (k + 1)) (ix3 h a x) = Spec.ds (ord m c k) (Spec.dst (ord m c) k) h x a
    rw [at_succ, D_step (at_Ctr m c k hk), at_D k (by omega), at_ch]
    rfl

theorem at_N (x : Fin 128) : ∀ k, k ≤ 128 → cN (at_ m c k) (ix2 0 x) = Spec.nst (ord m c) k x
  | 0, _ => E_N m c x
  | k + 1, hk => by
    show cN (at_ m c (k + 1)) (ix2 0 x) = Spec.nst (ord m c) k x + Spec.dnw (ord m c k) x
    rw [at_succ, N_step (at_Ctr m c k hk), at_N x k (by omega), at_ch]
    rfl

/-- The gradient of the state chunk `n` leaves. -/
def dAfter (n : Fin 128) : Fin 8 → Fin 128 → Fin 128 → EReal := Spec.dst (ord m c) (127 - n.val)

/-- A row written when its chunk is handled, and kept after. -/
theorem keep {α : Type} (f : ℕ → α) (n : Fin 128) (v : α)
    (hs : ∀ k, k < 128 → f (k + 1) = if n = Spec.back k then v else f k) : f 128 = v := by
  have hw : f (127 - n.val + 1) = v := by
    rw [hs _ (by omega), if_pos (Fin.ext (by show n.val = 127 - (127 - n.val); omega))]
  have hk : ∀ d, 127 - n.val + 1 + d ≤ 128 → f (127 - n.val + 1 + d) = v := by
    intro d
    induction d with
    | zero => exact fun _ => hw
    | succ d ih =>
      intro hd
      rw [← add_assoc, hs _ (by omega), if_neg (fun e => by
        have := congrArg Fin.val e
        have h2 : n.val = 127 - (127 - n.val + 1 + d) := this
        omega), ih (by omega)]
  have h1 := hk n.val (by omega)
  rwa [show 127 - n.val + 1 + n.val = 128 by omega] at h1

theorem at_du (n : Fin 128) (h : Fin 8) (i : Fin 64) (x : Fin 128) : cdu (at_ m c 128) (ix4 n h i x) = Spec.dvn (chM m c n) (dAfter m c n) h i x := by
  refine keep (fun k => cdu (at_ m c k) (ix4 n h i x)) n _ fun k hk => ?_
  show cdu (at_ m c (k + 1)) (ix4 n h i x) = _
  rw [at_succ, du_step (at_Ctr m c k hk) h i x n, at_D m c k (by omega), at_ch]
  split_ifs with e
  · subst e
    unfold dAfter
    rw [show 127 - (Spec.back k).val = k from (by show 127 - (127 - k) = k; omega)]
  · rfl

theorem at_dw (n : Fin 128) (h : Fin 8) (i : Fin 64) (x : Fin 128) : cdw (at_ m c 128) (ix4 n h i x) = Spec.dw (chM m c n) (dAfter m c n) h i x := by
  refine keep (fun k => cdw (at_ m c k) (ix4 n h i x)) n _ fun k hk => ?_
  show cdw (at_ m c (k + 1)) (ix4 n h i x) = _
  rw [at_succ, dw_step (at_Ctr m c k hk) h i x n, at_D m c k (by omega), at_ch]
  split_ifs with e
  · subst e
    unfold dAfter
    rw [show 127 - (Spec.back k).val = k from (by show 127 - (127 - k) = k; omega)]
  · rfl

theorem at_dqg (n : Fin 128) (h : Fin 8) (i : Fin 64) (x : Fin 128) : cdqg (at_ m c 128) (ix4 n h i x) = Spec.dqg (chM m c n) h i x := by
  refine keep (fun k => cdqg (at_ m c k) (ix4 n h i x)) n _ fun k hk => ?_
  show cdqg (at_ m c (k + 1)) (ix4 n h i x) = _
  rw [at_succ, dqg_step (at_Ctr m c k hk) h i x n, at_ch]
  split_ifs with e
  · subst e
    rfl
  · rfl

theorem at_dkd (n : Fin 128) (h : Fin 8) (i : Fin 64) (x : Fin 128) : cdkd (at_ m c 128) (ix4 n h i x) = Spec.dkd (chM m c n) (dAfter m c n) h i x := by
  refine keep (fun k => cdkd (at_ m c k) (ix4 n h i x)) n _ fun k hk => ?_
  show cdkd (at_ m c (k + 1)) (ix4 n h i x) = _
  rw [at_succ, dkd_step (at_Ctr m c k hk) h i x n, at_D m c k (by omega), at_ch]
  split_ifs with e
  · subst e
    unfold dAfter
    rw [show 127 - (Spec.back k).val = k from (by show 127 - (127 - k) = k; omega)]
  · rfl

theorem at_dqk (n : Fin 128) (h : Fin 8) (i j : Fin 64) : cdqk (at_ m c 128) (ix4 n h i j) = Spec.dqk (chM m c n) h i j := by
  refine keep (fun k => cdqk (at_ m c k) (ix4 n h i j)) n _ fun k hk => ?_
  show cdqk (at_ m c (k + 1)) (ix4 n h i j) = _
  rw [at_succ, dqk_step (at_Ctr m c k hk) h i n j, at_ch]
  split_ifs with e
  · subst e
    rfl
  · rfl

theorem at_deg (n : Fin 128) (h : Fin 8) (x : Fin 128) : cdeg (at_ m c 128) (ix4 n h 0 x) = Spec.deg (chM m c n) (dAfter m c n) h x := by
  refine keep (fun k => cdeg (at_ m c k) (ix4 n h 0 x)) n _ fun k hk => ?_
  show cdeg (at_ m c (k + 1)) (ix4 n h 0 x) = _
  rw [at_succ, deg_step (at_Ctr m c k hk) h x n, at_D m c k (by omega), at_ch]
  split_ifs with e
  · subst e
    unfold dAfter
    rw [show 127 - (Spec.back k).val = k from (by show 127 - (127 - k) = k; omega)]
  · rfl

theorem at_dz (n : Fin 128) (h : Fin 8) (i : Fin 64) (x : Fin 128) : cdz (at_ m c 128) (ix4 n h i x) = Spec.dz (chM m c n) h i x := by
  refine keep (fun k => cdz (at_ m c k) (ix4 n h i x)) n _ fun k hk => ?_
  show cdz (at_ m c (k + 1)) (ix4 n h i x) = _
  rw [at_succ, dz_step (at_Ctr m c k hk) h i x n, at_ch]
  split_ifs with e
  · subst e
    rfl
  · rfl

end Cert.ReferenceIdeal.Trip

end
-- ==== Proof.Right.lean ====
module

public import proofs.«01_k».proof.Proof.Scan
public import proofs.«01_k».proof.Proof.Outs

/-! The reference's result arrays over the extended reals, at indices. -/

@[expose] public section

set_option maxRecDepth 16384

noncomputable section

namespace Cert.ReferenceIdeal.Trip

open Idealize.ShloMosaic Idealize.SL.Sem Cert.ReferenceIdeal Cert.ReferenceIdeal.Gen Cert.ReferenceIdeal.Value
open Idealize.ShloMosaic.StableHlo Idealize.ShloMosaic.Tactic Idealize.ShloMosaic.TcCoe Idealize.SL

variable (m : (ℓ : Loc nD τ sig) → Buf (Elt Ideal) ℓ) (c : Dev nD)

variable (h : Fin 8) (q : Fin 8192) (x : Fin 128)

/-- A chunked array laid out by head and row of the sequence. -/
theorem laid_at (f : FVec Ideal S128x8x64x128 .f32) :
    shapeCast S8x8192x128 (transpose S8x128x64x128 [1, 0, 2, 3] f transposes_S128x8x64x128_S8x128x64x128_1_0_2_3)
      shapeCasts_S8x128x64x128_S8x8192x128 (ix3 h q x) = f (ix4 (Spec.chunkOf q) h (Spec.rowOf q) x) := by
  unfold Spec.chunkOf Spec.rowOf
  pointwise []

/-- A chunked array laid out by row and head's lane. -/
theorem flat_at (f : FVec Ideal S128x8x64x128 .f32) (p : Fin 1024) :
    shapeCast S8192x1024 (transpose S128x64x8x128 [0, 2, 1, 3] f transposes_S128x8x64x128_S128x64x8x128_0_2_1_3)
      shapeCasts_S128x64x8x128_S8192x1024 (ix2 q p) = f (ix4 (Spec.chunkOf q) (Spec.headOf p) (Spec.rowOf q) (Spec.laneOf p)) := by
  unfold Spec.chunkOf Spec.rowOf Spec.headOf Spec.laneOf
  pointwise []

/-- The cast to bf16 keeps an extended real. -/
theorem cast_at {s : Shape} (f : FVec Ideal s .f32) (j : s.Idx) : truncf (F := Ideal) .bf16 f bitsLt_bf16_f32 j = f j := rfl

theorem out_U : out_main_v31 (at_ m c 128) (ix3 h q x) = Spec.outU (chM m c) h q x := by
  unfold out_main_v31
  refine (cast_at _ _).trans ?_
  exact (laid_at h q x (cdu (at_ m c 128))).trans (at_du m c _ h _ x)

theorem out_W : out_main_v34 (at_ m c 128) (ix3 h q x) = Spec.outW (chM m c) h q x := by
  unfold out_main_v34
  refine (cast_at _ _).trans ?_
  exact (laid_at h q x (cdw (at_ m c 128))).trans (at_dw m c _ h _ x)

theorem out_QG : out_main_v36 (at_ m c 128) (ix3 h q x) = Spec.outQG (chM m c) h q x :=
  (laid_at h q x (cdqg (at_ m c 128))).trans (at_dqg m c _ h _ x)

theorem out_KD : out_main_v38 (at_ m c 128) (ix3 h q x) = Spec.outKD (chM m c) h q x :=
  (laid_at h q x (cdkd (at_ m c 128))).trans (at_dkd m c _ h _ x)

theorem out_Z (p : Fin 1024) : out_main_v39 (at_ m c 128) (ix2 q p) = Spec.outZ (chM m c) q p := by
  unfold out_main_v39
  refine (cast_at _ _).trans ?_
  exact (flat_at q (cdz (at_ m c 128)) p).trans (at_dz m c _ _ _ _)

end Cert.ReferenceIdeal.Trip

end
-- ==== Proof.Meet.lean ====
module

public import proofs.«01_k».proof.Defs
public import proofs.«01_k».proof.Proof.Left
public import proofs.«01_k».proof.Proof.Right

/-! The kernel and the reference leave the same arrays. -/

@[expose] public section

set_option maxRecDepth 16384

noncomputable section

namespace Cert.Meet

open Idealize.ShloMosaic Idealize.ShloMosaic.TcCoe Idealize.SL.Sem
open Cert.KernelIdeal.Chunk Cert.ReferenceIdeal.Trip

/-- An index of a matrix is its row and column. -/
theorem ix2_all {a b : ℕ} {α : Type} {f g : (⟨2, ![a, b]⟩ : Shape).Idx → α} (e : ∀ i j, f (ix2 i j) = g (ix2 i j)) : f = g := by
  funext y
  have hy : y = ix2 (y 0) (y 1) := by funext t; fin_cases t <;> rfl
  rw [hy]
  exact e _ _

theorem ix3_all {a b d : ℕ} {α : Type} {f g : (⟨3, ![a, b, d]⟩ : Shape).Idx → α}
    (e : ∀ i j k, f (ix3 i j k) = g (ix3 i j k)) : f = g := by
  funext y
  have hy : y = ix3 (y 0) (y 1) (y 2) := by funext t; fin_cases t <;> rfl
  rw [hy]
  exact e _ _ _

theorem ix4_all {a b d n : ℕ} {α : Type} {f g : (⟨4, ![a, b, d, n]⟩ : Shape).Idx → α}
    (e : ∀ i j k l, f (ix4 i j k l) = g (ix4 i j k l)) : f = g := by
  funext y
  have hy : y = ix4 (y 0) (y 1) (y 2) (y 3) := by funext t; fin_cases t <;> rfl
  rw [hy]
  exact e _ _ _ _

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

section
variable (e : chM m' c = chK m c)
include e

theorem same_U : Cert.ReferenceIdeal.Value.out_main_v31 (at_ m' c 128) = (Cert.KernelIdeal.Gen.dats m 0 c).arrAt 10 Cert.KernelIdeal.cfg0.N :=
  ix3_all (a := 8) (b := 8192) (d := 128) fun h q x => (out_U m' c h q x).trans ((congrArg (fun C => Spec.outU C h q x) e).trans (res_U m c h q x).symm)

theorem same_W : Cert.ReferenceIdeal.Value.out_main_v34 (at_ m' c 128) = (Cert.KernelIdeal.Gen.dats m 0 c).arrAt 11 Cert.KernelIdeal.cfg0.N :=
  ix3_all (a := 8) (b := 8192) (d := 128) fun h q x => (out_W m' c h q x).trans ((congrArg (fun C => Spec.outW C h q x) e).trans (res_W m c h q x).symm)

theorem same_QG : Cert.ReferenceIdeal.Value.out_main_v36 (at_ m' c 128) = (Cert.KernelIdeal.Gen.dats m 0 c).arrAt 12 Cert.KernelIdeal.cfg0.N :=
  ix3_all (a := 8) (b := 8192) (d := 128) fun h q x => (out_QG m' c h q x).trans ((congrArg (fun C => Spec.outQG C h q x) e).trans (res_QG m c h q x).symm)

theorem same_KD : Cert.ReferenceIdeal.Value.out_main_v38 (at_ m' c 128) = (Cert.KernelIdeal.Gen.dats m 0 c).arrAt 13 Cert.KernelIdeal.cfg0.N :=
  ix3_all (a := 8) (b := 8192) (d := 128) fun h q x => (out_KD m' c h q x).trans ((congrArg (fun C => Spec.outKD C h q x) e).trans (res_KD m c h q x).symm)

theorem same_QK : cdqk (at_ m' c 128) = (Cert.KernelIdeal.Gen.dats m 0 c).arrAt 14 Cert.KernelIdeal.cfg0.N :=
  ix4_all (a := 128) (b := 8) (d := 64) (n := 64) fun n h i j => (at_dqk m' c n h i j).trans
    ((congrArg (fun C => Spec.outQK C n h i j) e).trans (res_QK m c h n i j).symm)

theorem same_EG : cdeg (at_ m' c 128) = (Cert.KernelIdeal.Gen.dats m 0 c).arrAt 15 Cert.KernelIdeal.cfg0.N :=
  ix4_all (a := 128) (b := 8) (d := 1) (n := 128) fun n h i x => by
    obtain rfl : i = 0 := Subsingleton.elim _ _
    exact (at_deg m' c n h x).trans ((congrArg (fun C => Spec.outEG C n h x) e).trans (res_EG m c h x n).symm)

theorem same_Z : Cert.ReferenceIdeal.Value.out_main_v39 (at_ m' c 128) = (Cert.KernelIdeal.Gen.dats m 0 c).arrAt 16 Cert.KernelIdeal.cfg0.N :=
  ix2_all (a := 8192) (b := 1024) fun q p => (out_Z m' c q p).trans ((congrArg (fun C => Spec.outZ C q p) e).trans (res_Z m c q p).symm)

theorem same_NW : cN (at_ m' c 128) = (Cert.KernelIdeal.Gen.dats m 0 c).arrAt 17 Cert.KernelIdeal.cfg0.N :=
  ix2_all (a := 1) (b := 128) fun i x => by
    obtain rfl : i = 0 := Subsingleton.elim _ _
    exact (at_N m' c x 128 le_rfl).trans ((congrArg (fun C => Spec.outNW C x) e).trans (res_NW m c x).symm)

end

theorem algebraic : algebraic_KernelIdeal_ReferenceIdeal := by
  intro m g m' g' _ hag
  have e (c) : chM m' c = chK m c := by
    obtain ⟨h0, h1, h2, h3, h4, h5, h6, h7, h8, h9⟩ := hag c
    unfold chM chK
    rw [h0, h1, h2, h3, h4, h5, h6, h7, h8, h9]
  refine ⟨_, _, _, _, _, _, _, _, Cert.KernelIdeal.Value.run_blocks m g, ?_⟩
  refine (θ_run _ _ _).mono (fun r h c => ?_) (Cert.ReferenceIdeal.Value.run m' g')
  obtain ⟨r0, r1, r2, r3, r4, r5, r6, r7, k⟩ := h c
  exact ⟨r0.trans (same_U m m' c (e c)), r1.trans (same_W m m' c (e c)), r2.trans (same_QG m m' c (e c)), r3.trans (same_KD m m' c (e c)),
    r4.trans (same_QK m m' c (e c)), r5.trans (same_EG m m' c (e c)), r6.trans (same_Z m m' c (e c)), r7.trans (same_NW m m' c (e c)), k⟩

end Cert.Meet

end
-- ==== Proof.Sums.lean ====
module

public import proofs.«01_k».proof.Proof.Spec
public import Idealize.ShloMosaic.Lib.Pointwise

/-! A sum over all rows, taken a block of rows at a time. -/

@[expose] public section

noncomputable section

namespace Cert.Sums

open Idealize.ShloMosaic Finset

/-- The terms of a sum numbered by the naturals: nothing is left to add past the last. -/
def ext {n : ℕ} (f : Fin n → EReal) (r : ℕ) : EReal := if h : r < n then f ⟨r, h⟩ else 0

/-- The sum of the terms before number `k`. -/
def upto {n : ℕ} (f : Fin n → EReal) (k : ℕ) : EReal := ∑ r ∈ range k, ext f r

theorem whole {n : ℕ} (f : Fin n → EReal) : upto f n = ∑ r, f r := by
  unfold upto
  rw [sum_range]
  exact sum_congr rfl fun r _ => dif_pos r.isLt

theorem zero {n : ℕ} (f : Fin n → EReal) : upto f 0 = 0 := sum_range_zero _

/-- A block of `w` terms from term `b` continues the sum. -/
theorem more {n w : ℕ} (f : Fin n → EReal) (b : ℕ) (g : Fin w → EReal)
    (e : ∀ k : Fin w, ∃ h : b + k.val < n, g k = f ⟨b + k.val, h⟩) : upto f (b + w) = upto f b + ∑ k, g k := by
  unfold upto
  rw [sum_range_add]
  congr 1
  rw [sum_range]
  refine sum_congr rfl fun k _ => ?_
  obtain ⟨h, e⟩ := e k
  rw [e]
  exact dif_pos h

/-- The first block is the sum's beginning. -/
theorem start {n w : ℕ} (f : Fin n → EReal) (g : Fin w → EReal)
    (e : ∀ k : Fin w, ∃ h : k.val < n, g k = f ⟨k.val, h⟩) : upto f w = ∑ k, g k := by
  have := more f 0 g (fun k => by
    obtain ⟨h, e⟩ := e k
    exact ⟨by omega, e.trans (congrArg f (Fin.ext (Nat.zero_add _).symm))⟩)
  rwa [Nat.zero_add, zero, zero_add] at this

/-- A running sum kept over the points of a grid, `p` points to a run: begun at a run's first point by a block of `w` terms
    on top of `z`, continued by a block of `w` terms at each of the others. -/
theorem fold_from {N p w n : ℕ} (S : (t : ℕ) → t < N → EReal) (z : ℕ → EReal) (f : ℕ → Fin n → EReal)
    (first : ∀ t h, t % p = 0 → S t h = z (t / p) + upto (f (t / p)) w)
    (next : ∀ t h, (t + 1) % p ≠ 0 → ∃ g : Fin w → EReal, S (t + 1) h = S t (Nat.lt_of_succ_lt h) + ∑ k, g k
      ∧ ∀ k : Fin w, ∃ hk : w * ((t + 1) % p) + k.val < n, g k = f ((t + 1) / p) ⟨w * ((t + 1) % p) + k.val, hk⟩) :
    ∀ t h, S t h = z (t / p) + upto (f (t / p)) (w * (t % p + 1)) := by
  intro t
  induction t with
  | zero => intro h; rw [first 0 h (Nat.zero_mod _), Nat.zero_mod, Nat.zero_add, Nat.mul_one]
  | succ t ih =>
    intro h
    by_cases h0 : (t + 1) % p = 0
    · rw [first _ h h0, h0, Nat.zero_add, Nat.mul_one]
    · obtain ⟨g, e, eg⟩ := next t h h0
      have hp : p ≠ 1 := fun hp => h0 (by rw [hp]; exact Nat.mod_one _)
      have hm : (t + 1) % p = t % p + 1 := by
        rcases Nat.eq_zero_or_pos p with rfl | hpos
        · simp
        · have h1 := Nat.mod_lt t hpos
          rw [Nat.add_mod, Nat.mod_eq_of_lt (show 1 < p by omega)]
          rcases Nat.lt_or_ge (t % p + 1) p with h2 | h2
          · exact Nat.mod_eq_of_lt h2
          · exfalso; apply h0
            rw [Nat.add_mod, Nat.mod_eq_of_lt (show 1 < p by omega), show t % p + 1 = p by omega, Nat.mod_self]
      have hd : (t + 1) / p = t / p := by
        rw [Nat.succ_div, if_neg (fun hdvd => h0 (Nat.mod_eq_zero_of_dvd hdvd)), Nat.add_zero]
      rw [e, ih, Nat.mul_add w ((t + 1) % p) 1, Nat.mul_one, more _ _ g eg, hd, hm, add_assoc]

/-- The same on top of nothing. -/
theorem fold {N p w n : ℕ} (S : (t : ℕ) → t < N → EReal) (f : ℕ → Fin n → EReal)
    (first : ∀ t h, t % p = 0 → S t h = upto (f (t / p)) w)
    (next : ∀ t h, (t + 1) % p ≠ 0 → ∃ g : Fin w → EReal, S (t + 1) h = S t (Nat.lt_of_succ_lt h) + ∑ k, g k
      ∧ ∀ k : Fin w, ∃ hk : w * ((t + 1) % p) + k.val < n, g k = f ((t + 1) / p) ⟨w * ((t + 1) % p) + k.val, hk⟩)
    (t : ℕ) (h : t < N) : S t h = upto (f (t / p)) (w * (t % p + 1)) :=
  (fold_from S (fun _ => 0) f (fun t h h0 => (first t h h0).trans (zero_add _).symm) next t h).trans (zero_add _)

end Cert.Sums

end
-- ==== Proof.DgradUp.lean ====
module

public import proofs.«01_k».proof.Defs
public import proofs.«01_k».proof.Proof.Sums
public import proofs.«01_k».proof.Proof.Meet
public import proofs.«01_k».proof.Proof.Gen.DgradUpIdeal.Value
public import proofs.«01_k».proof.Proof.Gen.DgradUpRefIdeal.Run
public import Idealize.ShloMosaic.Lib.Pipeline.ValueKit.Geometry

/-! The backward of the projection into the feed-forward layer and of the modulation before it. -/

@[expose] public section

set_option maxRecDepth 16384

noncomputable section

namespace Cert.DgradUpIdeal.Sum

open Idealize.ShloMosaic Idealize.ShloMosaic.TcCoe Idealize.SL.Sem Cert.DgradUpIdeal Cert.DgradUpIdeal.Gen Cert.DgradUpIdeal.Value

theorem hz : (![0, 0] : Fin 2 → Nat) = fun _ => 0 := funext fun a => by fin_cases a <;> rfl

section Found
variable {F : FTy → Type} [FloatOps F]
variable (c : Dev nD) (i : grid0.Coords) (a2 : Memref sig .tc .vmem S1024x1408 .bf16) (h2 : a2.IsWhole)
  (a3 : Memref sig .tc .vmem S1024x1408 .bf16) (h3 : a3.IsWhole) (a4 : Memref sig .tc .vmem S1024x1024 .f32) (h4 : a4.IsWhole)
  (a5 : Memref sig .tc .vmem S1024x1024 .f32) (h5 : a5.IsWhole) (a6 : Memref sig .tc .vmem S1x1024 .f32) (h6 : a6.IsWhole)
  (a7 : Memref sig .tc .vmem S1024x1024 .f32) (h7 : a7.IsWhole) (a8 : Memref sig .tc .vmem S1x1024 .f32) (h8 : a8.IsWhole)
  (a9 : Memref sig .tc .vmem S1x1024 .f32) (h9 : a9.IsWhole) (a10 : Memref sig .tc .vmem S1024x1024 .f32) (h10 : a10.IsWhole)
  (x w : Vec F S1024x1408 .bf16) (y d : Vec F S1024x1024 .f32) (g p q : Vec F S1x1024 .f32) (s : Vec F S1024x1024 .f32)

/-- The first point of a block of rows keeps the product of its columns. -/
theorem keep_A (hc0 : cond0_0 i) (hc1 : ¬cond0_1 i) (hc2 : cond0_2 i) (hc3 : ¬cond0_3 i) :
    sout0_A_0 c i a2 h2 a3 h3 a4 h4 a5 h5 a6 h6 a7 h7 a8 h8 a9 h9 a10 h10 hc0 hc1 hc2 hc3 x w y d g = k0_pay1 x w := by
  unfold sout0_A_0
  rw [View.read_writes_eq_canon _ _ _ (scover0_A_0 c i a2 h2 a3 h3 a4 h4 a5 h5 a6 h6 a7 h7 a8 h8 a9 h9 a10 h10 hc0 hc1 hc2 hc3 x w y d g)]
  unfold kernelRun0_A
  dsimp only
  sl_unfold_words
  rw [View.canon_unit_zero hz]
  unfold k0_pay2
  simp only [View.readAt_eq_ld, h2.read_unread, h3.read_unread, h4.read_unread, h5.read_unread, h6.read_unread, h8.read_unread,
    h9.read_unread, h10.read_unread, View.ld_unit_zero (S := S1024x1408) hz, View.ld_unit_zero (S := S1024x1024) hz,
    View.ld_unit_zero (S := S1x1024) hz, shapeCast_self]

theorem keep_D (hc0 : cond0_0 i) (hc1 : ¬cond0_1 i) (hc2 : ¬cond0_2 i) (hc3 : ¬cond0_3 i) :
    sout0_D_0 c i a2 h2 a3 h3 a4 h4 a5 h5 a6 h6 a7 h7 a8 h8 a9 h9 a10 h10 hc0 hc1 hc2 hc3 x w y d g = k0_pay1 x w := by
  unfold sout0_D_0
  rw [View.read_writes_eq_canon _ _ _ (scover0_D_0 c i a2 h2 a3 h3 a4 h4 a5 h5 a6 h6 a7 h7 a8 h8 a9 h9 a10 h10 hc0 hc1 hc2 hc3 x w y d g)]
  unfold kernelRun0_D
  dsimp only
  sl_unfold_words
  rw [View.canon_unit_zero hz]
  unfold k0_pay2
  simp only [View.readAt_eq_ld, h2.read_unread, h3.read_unread, h4.read_unread, h5.read_unread, h6.read_unread, h8.read_unread,
    h9.read_unread, h10.read_unread, View.ld_unit_zero (S := S1024x1408) hz, View.ld_unit_zero (S := S1024x1024) hz,
    View.ld_unit_zero (S := S1x1024) hz, shapeCast_self]

/-- The others add theirs. -/
theorem keep_B (hc0 : ¬cond0_0 i) (hc1 : cond0_1 i) (hc2 : ¬cond0_2 i) (hc3 : ¬cond0_3 i) :
    sout0_B_0 c i a2 h2 a3 h3 a4 h4 a5 h5 a6 h6 a7 h7 a8 h8 a9 h9 a10 h10 hc0 hc1 hc2 hc3 x w y d g s = addf s (k0_pay1 x w) := by
  unfold sout0_B_0
  rw [View.read_writes_eq_canon _ _ _ (scover0_B_0 c i a2 h2 a3 h3 a4 h4 a5 h5 a6 h6 a7 h7 a8 h8 a9 h9 a10 h10 hc0 hc1 hc2 hc3 x w y d g s)]
  unfold kernelRun0_B
  dsimp only
  sl_unfold_words
  rw [View.canon_unit_zero hz]
  unfold k0_pay3
  simp only [View.readAt_eq_ld, h2.read_unread, h3.read_unread, h4.read_unread, h5.read_unread, h6.read_unread, h8.read_unread,
    h9.read_unread, h10.read_unread, View.ld_unit_zero (S := S1024x1408) hz, View.ld_unit_zero (S := S1024x1024) hz,
    View.ld_unit_zero (S := S1x1024) hz, shapeCast_self]

theorem keep_C (hc0 : ¬cond0_0 i) (hc1 : cond0_1 i) (hc2 : ¬cond0_2 i) (hc3 : cond0_3 i) :
    sout0_C_0 c i a2 h2 a3 h3 a4 h4 a5 h5 a6 h6 a7 h7 a8 h8 a9 h9 a10 h10 hc0 hc1 hc2 hc3 x w y d g p q s = addf s (k0_pay1 x w) := by
  unfold sout0_C_0
  rw [View.read_writes_eq_canon _ _ _ (scover0_C_0 c i a2 h2 a3 h3 a4 h4 a5 h5 a6 h6 a7 h7 a8 h8 a9 h9 a10 h10 hc0 hc1 hc2 hc3 x w y d g p q s)]
  unfold kernelRun0_C
  dsimp only
  sl_unfold_words
  rw [View.canon_unit_zero hz]
  unfold k0_pay3
  simp only [View.readAt_eq_ld, h2.read_unread, h3.read_unread, h4.read_unread, h5.read_unread, h6.read_unread, h8.read_unread,
    h9.read_unread, h10.read_unread, View.ld_unit_zero (S := S1024x1408) hz, View.ld_unit_zero (S := S1024x1024) hz,
    View.ld_unit_zero (S := S1x1024) hz, shapeCast_self]

/-- The last one writes the rows of the result, and adds to the two sums over the rows. -/
theorem dx_C (hc0 : ¬cond0_0 i) (hc1 : cond0_1 i) (hc2 : ¬cond0_2 i) (hc3 : cond0_3 i) :
    out0_C_5 c i a2 h2 a3 h3 a4 h4 a5 h5 a6 h6 a7 h7 a8 h8 a9 h9 a10 h10 hc0 hc1 hc2 hc3 x w y d g p q s = k0_pay6 (addf s (k0_pay1 x w)) d g := by
  unfold out0_C_5
  rw [View.read_writes_eq_canon _ _ _ (cover0_C_5 c i a2 h2 a3 h3 a4 h4 a5 h5 a6 h6 a7 h7 a8 h8 a9 h9 a10 h10 hc0 hc1 hc2 hc3 x w y d g p q s)]
  unfold kernelRun0_C
  dsimp only
  sl_unfold_words
  rw [View.canon_unit_zero hz]
  rw [View.readCov_unit_zero (S := S1024x1024) _ hz]
  unfold k0_pay3
  simp only [View.readAt_eq_ld, h2.read_unread, h3.read_unread, h4.read_unread, h5.read_unread, h6.read_unread, h8.read_unread,
    h9.read_unread, h10.read_unread, View.ld_unit_zero (S := S1024x1408) hz, View.ld_unit_zero (S := S1024x1024) hz,
    View.ld_unit_zero (S := S1x1024) hz, shapeCast_self]

theorem sc_C (hc0 : ¬cond0_0 i) (hc1 : cond0_1 i) (hc2 : ¬cond0_2 i) (hc3 : cond0_3 i) :
    out0_C_6 c i a2 h2 a3 h3 a4 h4 a5 h5 a6 h6 a7 h7 a8 h8 a9 h9 a10 h10 hc0 hc1 hc2 hc3 x w y d g p q s = k0_pay7 (addf s (k0_pay1 x w)) p y := by
  unfold out0_C_6
  rw [View.read_writes_eq_canon _ _ _ (cover0_C_6 c i a2 h2 a3 h3 a4 h4 a5 h5 a6 h6 a7 h7 a8 h8 a9 h9 a10 h10 hc0 hc1 hc2 hc3 x w y d g p q s)]
  unfold kernelRun0_C
  dsimp only
  sl_unfold_words
  rw [View.canon_unit_zero hz]
  rw [View.readCov_unit_zero (S := S1024x1024) _ hz]
  unfold k0_pay3
  simp only [View.readAt_eq_ld, h2.read_unread, h3.read_unread, h4.read_unread, h5.read_unread, h6.read_unread, h8.read_unread,
    h9.read_unread, h10.read_unread, View.ld_unit_zero (S := S1024x1408) hz, View.ld_unit_zero (S := S1024x1024) hz,
    View.ld_unit_zero (S := S1x1024) hz, shapeCast_self]

theorem sh_C (hc0 : ¬cond0_0 i) (hc1 : cond0_1 i) (hc2 : ¬cond0_2 i) (hc3 : cond0_3 i) :
    out0_C_7 c i a2 h2 a3 h3 a4 h4 a5 h5 a6 h6 a7 h7 a8 h8 a9 h9 a10 h10 hc0 hc1 hc2 hc3 x w y d g p q s = k0_pay8 (addf s (k0_pay1 x w)) q := by
  unfold out0_C_7
  rw [View.read_writes_eq_canon _ _ _ (cover0_C_7 c i a2 h2 a3 h3 a4 h4 a5 h5 a6 h6 a7 h7 a8 h8 a9 h9 a10 h10 hc0 hc1 hc2 hc3 x w y d g p q s)]
  unfold kernelRun0_C
  dsimp only
  sl_unfold_words
  rw [View.canon_unit_zero hz]
  rw [View.readCov_unit_zero (S := S1024x1024) _ hz]
  unfold k0_pay3
  simp only [View.readAt_eq_ld, h2.read_unread, h3.read_unread, h4.read_unread, h5.read_unread, h6.read_unread, h8.read_unread,
    h9.read_unread, h10.read_unread, View.ld_unit_zero (S := S1024x1408) hz, View.ld_unit_zero (S := S1024x1024) hz,
    View.ld_unit_zero (S := S1x1024) hz, shapeCast_self]

/-- The first point of all begins the two sums. -/
theorem sc_A (hc0 : cond0_0 i) (hc1 : ¬cond0_1 i) (hc2 : cond0_2 i) (hc3 : ¬cond0_3 i) :
    out0_A_6 c i a2 h2 a3 h3 a4 h4 a5 h5 a6 h6 a7 h7 a8 h8 a9 h9 a10 h10 hc0 hc1 hc2 hc3 x w y d g = k0_pay4 := by
  unfold out0_A_6
  rw [View.read_writes_eq_canon _ _ _ (cover0_A_6 c i a2 h2 a3 h3 a4 h4 a5 h5 a6 h6 a7 h7 a8 h8 a9 h9 a10 h10 hc0 hc1 hc2 hc3 x w y d g)]
  unfold kernelRun0_A
  dsimp only
  sl_unfold_words
  rw [View.canon_unit_zero hz]

theorem sh_A (hc0 : cond0_0 i) (hc1 : ¬cond0_1 i) (hc2 : cond0_2 i) (hc3 : ¬cond0_3 i) :
    out0_A_7 c i a2 h2 a3 h3 a4 h4 a5 h5 a6 h6 a7 h7 a8 h8 a9 h9 a10 h10 hc0 hc1 hc2 hc3 x w y d g = k0_pay5 := by
  unfold out0_A_7
  rw [View.read_writes_eq_canon _ _ _ (cover0_A_7 c i a2 h2 a3 h3 a4 h4 a5 h5 a6 h6 a7 h7 a8 h8 a9 h9 a10 h10 hc0 hc1 hc2 hc3 x w y d g)]
  unfold kernelRun0_A
  dsimp only
  sl_unfold_words
  rw [View.canon_unit_zero hz]

end Found

variable (m : (ℓ : Loc nD τ sig) → Buf (Elt Ideal) ℓ) (c : Dev nD)

theorem prod_at (x w : Vec Ideal S1024x1408 .bf16) (a b : Fin 1024) :
    k0_pay1 (F := Ideal) x w (ix2 a b) = ∑ k, x (ix2 a k) * w (ix2 b k) := by
  pointwise [k0_pay1]

theorem dx_at (s d : Vec Ideal S1024x1024 .f32) (g : Vec Ideal S1x1024 .f32) (a b : Fin 1024) :
    k0_pay6 (F := Ideal) s d g (ix2 a b) = d (ix2 a b) + s (ix2 a b) * (1 + g (ix2 0 b)) := by
  pointwise [k0_pay6]

theorem sc_at (s y : Vec Ideal S1024x1024 .f32) (p : Vec Ideal S1x1024 .f32) (b : Fin 1024) :
    k0_pay7 (F := Ideal) s p y (ix2 0 b) = p (ix2 0 b) + ∑ r, s (ix2 r b) * y (ix2 r b) := by
  pointwise [k0_pay7]

theorem sh_at (s : Vec Ideal S1024x1024 .f32) (q : Vec Ideal S1x1024 .f32) (b : Fin 1024) :
    k0_pay8 (F := Ideal) s q (ix2 0 b) = q (ix2 0 b) + ∑ r, s (ix2 r b) := by
  pointwise [k0_pay8]

theorem sc_zero (b : Fin 1024) : k0_pay4 (F := Ideal) (ix2 0 b) = 0 := by
  pointwise [k0_pay4]

theorem sh_zero (b : Fin 1024) : k0_pay5 (F := Ideal) (ix2 0 b) = 0 := by
  pointwise [k0_pay5]

theorem ix_0 : ∀ t : Fin cfg0.N, win0_0.index t = ![t.val / 4, t.val % 4] := (by decide +kernel : ∀ t : Fin grid0.N, _)
theorem ix_1 : ∀ t : Fin cfg0.N, win0_1.index t = ![0, t.val % 4] := (by decide +kernel : ∀ t : Fin grid0.N, _)
theorem ix_2 : ∀ t : Fin cfg0.N, win0_2.index t = ![t.val / 4, 0] := (by decide +kernel : ∀ t : Fin grid0.N, _)
theorem ix_3 : ∀ t : Fin cfg0.N, win0_3.index t = ![t.val / 4, 0] := (by decide +kernel : ∀ t : Fin grid0.N, _)
theorem ix_4 : ∀ t : Fin cfg0.N, win0_4.index t = ![0, 0] := (by decide +kernel : ∀ t : Fin grid0.N, _)

/-- The argument arrays. -/
def arrX : S8192x5632.Idx → EReal := m ((c : Thread nD τ).loc main_arg0)
def arrW : S1024x5632.Idx → EReal := m ((c : Thread nD τ).loc main_arg1)
def arrY : S8192x1024.Idx → EReal := m ((c : Thread nD τ).loc main_arg2)
def arrD : S8192x1024.Idx → EReal := m ((c : Thread nD τ).loc main_arg3)
def arrG : S1x1024.Idx → EReal := m ((c : Thread nD τ).loc main_arg4)

/-- The blocks of them a grid point reads. -/
def blkX (t : Fin cfg0.N) : S1024x1408.Idx → EReal := iblk m c 0 t
def blkW (t : Fin cfg0.N) : S1024x1408.Idx → EReal := iblk m c 1 t
def blkY (t : Fin cfg0.N) : S1024x1024.Idx → EReal := iblk m c 2 t
def blkD (t : Fin cfg0.N) : S1024x1024.Idx → EReal := iblk m c 3 t
def blkG (t : Fin cfg0.N) : S1x1024.Idx → EReal := iblk m c 4 t

theorem lt_N (t : Fin cfg0.N) : t.val < 32 := lt_of_lt_of_eq t.isLt N_0

/-- The row of the whole arrays at row `a` of block `r`. -/
def row (r : ℕ) (a : Fin 1024) : Fin 8192 := ⟨(1024 * r + a.val) % 8192, Nat.mod_lt _ (by norm_num)⟩

theorem blk_X (t : Fin cfg0.N) (a : Fin 1024) (k : Fin 1408) :
    blkX m c t (ix2 a k) = arrX m c (ix2 (row (t.val / 4) a) ⟨1408 * (t.val % 4) + k.val, by omega⟩) := by
  unfold blkX
  blk_simp [iblk]
  rw [V_main_arg0]
  unfold arrX
  congr 1
  have := lt_N t
  blk_ext [ix_0, row]

theorem blk_W (t : Fin cfg0.N) (b : Fin 1024) (k : Fin 1408) :
    blkW m c t (ix2 b k) = arrW m c (ix2 b ⟨1408 * (t.val % 4) + k.val, by omega⟩) := by
  unfold blkW
  blk_simp [iblk]
  rw [V_main_arg1]
  unfold arrW
  congr 1
  blk_ext [ix_1]

theorem blk_Y (t : Fin cfg0.N) (a b : Fin 1024) : blkY m c t (ix2 a b) = arrY m c (ix2 (row (t.val / 4) a) b) := by
  unfold blkY
  blk_simp [iblk]
  rw [V_main_arg2]
  unfold arrY
  congr 1
  have := lt_N t
  blk_ext [ix_2, row]

theorem blk_D (t : Fin cfg0.N) (a b : Fin 1024) : blkD m c t (ix2 a b) = arrD m c (ix2 (row (t.val / 4) a) b) := by
  unfold blkD
  blk_simp [iblk]
  rw [V_main_arg3]
  unfold arrD
  congr 1
  have := lt_N t
  blk_ext [ix_3, row]

theorem blk_G (t : Fin cfg0.N) (b : Fin 1024) : blkG m c t (ix2 0 b) = arrG m c (ix2 0 b) := by
  unfold blkG
  blk_simp [iblk]
  rw [V_main_arg4]
  unfold arrG
  congr 1
  blk_ext [ix_4]

/-- The products summed at a row and a column of the cotangent before the modulation, and their sum. -/
def term (i : Fin 8192) (j : Fin 1024) : Fin 5632 → EReal := fun k => arrX m c (ix2 i k) * arrW m c (ix2 j k)
def ct (i : Fin 8192) (j : Fin 1024) : EReal := ∑ k, term m c i j k

/-- What is kept after each point. -/
theorem kept (a b : Fin 1024) : ∀ (t : ℕ) (h : t < cfg0.N),
    (outsAt0 m c t h).2.2.2 (ix2 a b) = Sums.upto (term m c (row (t / 4) a) b) (1408 * (t % 4 + 1)) :=
  Sums.fold (fun t h => ((outsAt0 m c t h).2.2.2 (ix2 a b) : EReal)) (fun r => term m c (row r a) b)
    (fun t h h0 => by
      have hN : t < 32 := lt_N ⟨t, h⟩
      refine Eq.trans ?_ (Sums.start _ (fun k => blkX m c ⟨t, h⟩ (ix2 a k) * blkW m c ⟨t, h⟩ (ix2 b k)) fun k => ⟨by omega, ?_⟩).symm
      · by_cases h2 : t % 32 = 0
        · rw [outsAt0_A m c ⟨t, h⟩ h0 (by dsimp only; omega) h2 (by dsimp only; omega)]
          dsimp only
          rw [keep_A]
          exact prod_at _ _ a b
        · rw [outsAt0_D m c ⟨t, h⟩ h0 (by dsimp only; omega) h2 (by dsimp only; omega)]
          dsimp only
          rw [keep_D]
          exact prod_at _ _ a b
      · rw [blk_X, blk_W]
        unfold term
        have hv : (⟨t, h⟩ : Fin cfg0.N).val = t := rfl
        congr 4 <;> omega)
    (fun t h h0 => by
      refine ⟨fun k => blkX m c ⟨t + 1, h⟩ (ix2 a k) * blkW m c ⟨t + 1, h⟩ (ix2 b k), ?_, fun k => ⟨by omega, ?_⟩⟩
      · by_cases h3 : (t + 1) % 4 = 3
        · rw [outsAt0_C m c ⟨t + 1, h⟩ h0 (by dsimp only; omega) (by dsimp only; omega) h3]
          dsimp only
          rw [keep_C]
          exact congrArg (_ + ·) (prod_at _ _ a b)
        · rw [outsAt0_B m c ⟨t + 1, h⟩ h0 (by dsimp only; omega) (by dsimp only; omega) h3]
          dsimp only
          rw [keep_B]
          exact congrArg (_ + ·) (prod_at _ _ a b)
      · dsimp only
        rw [blk_X, blk_W]
        rfl)

/-- After a block's last point all its columns are summed. -/
theorem full (a b : Fin 1024) (t : ℕ) (h : t < cfg0.N) (h3 : t % 4 = 3) :
    (outsAt0 m c t h).2.2.2 (ix2 a b) = ct m c (row (t / 4) a) b := by
  rw [kept, h3, Sums.whole]
  rfl

/-- What the last point of a block writes, from what it keeps. -/
theorem left_dx (t : Fin cfg0.N) (h3 : t.val % 4 = 3) (a b : Fin 1024) :
    ((outsAt0 m c t.val t.isLt).1 (ix2 a b) : EReal)
      = arrD m c (ix2 (row (t.val / 4) a) b) + ct m c (row (t.val / 4) a) b * (1 + arrG m c (ix2 0 b)) := by
  have hk := full m c a b t.val t.isLt h3
  rw [outsAt0_C m c t (by omega) (by omega) (by omega) h3] at hk ⊢
  dsimp only at hk ⊢
  rw [keep_C] at hk
  rw [dx_C]
  refine (dx_at _ _ _ a b).trans ?_
  rw [hk]
  exact congrArg₂ (· + ·) (blk_D m c t a b) (congrArg (_ * ·) (congrArg (1 + ·) (blk_G m c t b)))

/-- The kernel's first result. -/
theorem res_dx (i : Fin 8192) (j : Fin 1024) : (G5 m c : S8192x1024.Idx → EReal) (ix2 i j)
    = arrD m c (ix2 i j) + ct m c i j * (1 + arrG m c (ix2 0 j)) := by
  have hp : pt5Of (ix2 i j) = 4 * (i.val / 1024) + 3 := by
    show 4 * (1 * (i.val / 1024 - 0) + 1 * (j.val / 1024 - 0)) + 3 = _
    omega
  have hN : pt5Of (ix2 i j) < cfg0.N := lt_of_lt_of_eq (by rw [hp]; omega) N_0.symm
  unfold G5
  rw [dif_pos hN]
  refine (congrArg (fun o => o.1 (loc5Of (ix2 i j))) (outsAt0_sweep m c _ hN).symm).trans ?_
  have hl : loc5Of (ix2 i j) = ix2 ⟨i.val % 1024, Nat.mod_lt _ (by norm_num)⟩ ⟨j.val % 1024, Nat.mod_lt _ (by norm_num)⟩ := by
    funext a; fin_cases a <;> rfl
  rw [hl]
  refine (left_dx m c ⟨_, hN⟩ (by show pt5Of (ix2 i j) % 4 = 3; rw [hp]; omega) _ _).trans ?_
  have hd : pt5Of (ix2 i j) / 4 = i.val / 1024 := by rw [hp]; omega
  have hr : row (pt5Of (ix2 i j) / 4) ⟨i.val % 1024, Nat.mod_lt _ (by norm_num)⟩ = i := Fin.ext (by simp only [row, hd]; omega)
  have hj : (⟨j.val % 1024, Nat.mod_lt _ (by norm_num)⟩ : Fin 1024) = j := Fin.ext (Nat.mod_eq_of_lt j.isLt)
  show arrD m c (ix2 (row (pt5Of (ix2 i j) / 4) _) _) + ct m c (row (pt5Of (ix2 i j) / 4) _) _ * _ = _
  rw [hr, hj]

/-- A sum over the rows, held in an output block: begun as zero by the first point of all, kept by the points inside a
    block of rows, continued by the last point of each block. -/
theorem over_rows (S : (t : ℕ) → t < cfg0.N → EReal) (f : Fin 8192 → EReal)
    (first : ∀ h, S 0 h = 0)
    (same : ∀ t h, (t + 1) % 4 ≠ 3 → S (t + 1) h = S t (Nat.lt_of_succ_lt h))
    (next : ∀ t h, (t + 1) % 4 = 3 → S (t + 1) h = S t (Nat.lt_of_succ_lt h) + ∑ r : Fin 1024, f (row ((t + 1) / 4) r)) :
    ∀ t h, S t h = Sums.upto f (1024 * ((t + 1) / 4)) := by
  intro t
  induction t with
  | zero => intro h; rw [first h]; exact (Sums.zero f).symm
  | succ t ih =>
    intro h
    have hN : t + 1 < 32 := lt_N ⟨t + 1, h⟩
    by_cases h3 : (t + 1) % 4 = 3
    · rw [next t h h3, ih, show 1024 * ((t + 1 + 1) / 4) = 1024 * ((t + 1) / 4) + 1024 by omega]
      refine (Sums.more f _ (fun r : Fin 1024 => f (row ((t + 1) / 4) r)) fun r => ⟨by omega, ?_⟩).symm
      exact congrArg f (Fin.ext (by simp only [row]; omega))
    · rw [same t h h3, ih, show (t + 1 + 1) / 4 = (t + 1) / 4 by omega]

/-- The two sums over the rows after each point. -/
theorem kept_sc (b : Fin 1024) : ∀ (t : ℕ) (h : t < cfg0.N), (outsAt0 m c t h).2.1 (ix2 0 b)
    = Sums.upto (fun q => ct m c q b * arrY m c (ix2 q b)) (1024 * ((t + 1) / 4)) := by
  refine over_rows (fun t h => ((outsAt0 m c t h).2.1 (ix2 0 b) : EReal)) _ (fun h => ?_) (fun t h h3 => ?_) fun t h h3 => ?_
  · rw [outsAt0_A m c ⟨0, h⟩ (by rfl) (by dsimp only; omega) (by rfl) (by dsimp only; omega)]
    dsimp only
    rw [sc_A]
    exact sc_zero b
  · have hN : t + 1 < 32 := lt_N ⟨t + 1, h⟩
    by_cases h0 : (t + 1) % 4 = 0
    · rw [outsAt0_D m c ⟨t + 1, h⟩ h0 (by dsimp only; omega) (by dsimp only; omega) h3]
      rfl
    · rw [outsAt0_B m c ⟨t + 1, h⟩ h0 (by dsimp only; omega) (by dsimp only; omega) h3]
      rfl
  · have hk := fun a => full m c a b (t + 1) h h3
    rw [outsAt0_C m c ⟨t + 1, h⟩ (by dsimp only; omega) (by dsimp only; omega) (by dsimp only; omega) h3] at hk ⊢
    dsimp only at hk ⊢
    rw [keep_C] at hk
    rw [sc_C]
    refine (sc_at _ _ _ b).trans (congrArg (_ + ·) (Finset.sum_congr rfl fun r _ => ?_))
    rw [hk]
    exact congrArg (_ * ·) (blk_Y m c ⟨t + 1, h⟩ r b)

theorem kept_sh (b : Fin 1024) : ∀ (t : ℕ) (h : t < cfg0.N), (outsAt0 m c t h).2.2.1 (ix2 0 b)
    = Sums.upto (fun q => ct m c q b) (1024 * ((t + 1) / 4)) := by
  refine over_rows (fun t h => ((outsAt0 m c t h).2.2.1 (ix2 0 b) : EReal)) _ (fun h => ?_) (fun t h h3 => ?_) fun t h h3 => ?_
  · rw [outsAt0_A m c ⟨0, h⟩ (by rfl) (by dsimp only; omega) (by rfl) (by dsimp only; omega)]
    dsimp only
    rw [sh_A]
    exact sh_zero b
  · have hN : t + 1 < 32 := lt_N ⟨t + 1, h⟩
    by_cases h0 : (t + 1) % 4 = 0
    · rw [outsAt0_D m c ⟨t + 1, h⟩ h0 (by dsimp only; omega) (by dsimp only; omega) h3]
      rfl
    · rw [outsAt0_B m c ⟨t + 1, h⟩ h0 (by dsimp only; omega) (by dsimp only; omega) h3]
      rfl
  · have hk := fun a => full m c a b (t + 1) h h3
    rw [outsAt0_C m c ⟨t + 1, h⟩ (by dsimp only; omega) (by dsimp only; omega) (by dsimp only; omega) h3] at hk ⊢
    dsimp only at hk ⊢
    rw [keep_C] at hk
    rw [sh_C]
    exact (sh_at _ _ b).trans (congrArg (_ + ·) (Finset.sum_congr rfl fun r _ => hk r))

/-- The kernel's second and third result. -/
theorem res_sc (j : Fin 1024) : (G6 m c : S1x1024.Idx → EReal) (ix2 0 j) = ∑ q, ct m c q j * arrY m c (ix2 q j) := by
  rw [G6_last, ← outsAt0_sweep m c 31 (lt_of_lt_of_eq (by decide) N_0.symm)]
  exact (kept_sc m c j 31 _).trans (Sums.whole _)

theorem res_sh (j : Fin 1024) : (G7 m c : S1x1024.Idx → EReal) (ix2 0 j) = ∑ q, ct m c q j := by
  rw [G7_last, ← outsAt0_sweep m c 31 (lt_of_lt_of_eq (by decide) N_0.symm)]
  exact (kept_sh m c j 31 _).trans (Sums.whole _)

end Cert.DgradUpIdeal.Sum

namespace Cert.DgradUpRefIdeal.Sum

open Idealize.ShloMosaic Idealize.ShloMosaic.TcCoe Idealize.SL.Sem Cert.DgradUpRefIdeal Cert.DgradUpRefIdeal.Gen

variable (x : FVec Ideal S8192x5632 .bf16) (w : FVec Ideal S1024x5632 .bf16) (y d : FVec Ideal S8192x1024 .f32) (g : FVec Ideal S1x1024 .f32)

/-- The reference's cotangent before the modulation. -/
def ct : FVec Ideal S8192x1024 .f32 := Host.dotGeneral dot_S8192x5632_S1024x5632_S8192x1024_1_1_0_0_n_n none
  (extf .f32 x bitsLt_bf16_f32) (extf .f32 w bitsLt_bf16_f32)

theorem ct_at (i : Fin 8192) (j : Fin 1024) : ct x w (ix2 i j) = ∑ k, x (ix2 i k) * w (ix2 j k) := by
  pointwise [ct]

/-- Its results at an index. -/
theorem dx_at (v : FVec Ideal S8192x1024 .f32) (i : Fin 8192) (j : Fin 1024) :
    (addf (mulf v (broadcastInDim S8192x1024 ![0, 1] bcast_S1x1024_S8192x1024_0_1
      (addf (broadcastInDim S1x1024 ![] bcast_S_S1x1024 (constant S_ .f32 0x3F800000#32)) g))) d : FVec Ideal S8192x1024 .f32) (ix2 i j)
      = v (ix2 i j) * (1 + g (ix2 0 j)) + d (ix2 i j) := by
  pointwise []

theorem rows_at (v : FVec Ideal S8192x1024 .f32) (j : Fin 1024) :
    (shapeCast S1x1024 (Host.reduceAdd v (constant S_ .f32 0x00000000#32) reducesTo_S8192x1024_S1024_d0 h_S_)
      shapeCasts_S1024_S1x1024 : FVec Ideal S1x1024 .f32) (ix2 0 j) = ∑ q, v (ix2 q j) := by
  pointwise []

theorem prod_at (v : FVec Ideal S8192x1024 .f32) (i : Fin 8192) (j : Fin 1024) :
    (mulf y v : FVec Ideal S8192x1024 .f32) (ix2 i j) = y (ix2 i j) * v (ix2 i j) := by
  pointwise []

end Cert.DgradUpRefIdeal.Sum

namespace Cert.DgradUp.Claims

open Idealize.ShloMosaic Idealize.ShloMosaic.TcCoe Idealize.SL.Sem

theorem algebraic : Cert.algebraic_DgradUpIdeal_DgradUpRefIdeal := by
  intro m g m' g' _ hag
  refine ⟨_, _, _, Cert.DgradUpIdeal.Value.run m g, ?_⟩
  refine (θ_run _ _ _).mono (fun r h c => ?_) (Cert.DgradUpRefIdeal.Value.run m' g')
  obtain ⟨r0, r1, r2, k⟩ := h c
  obtain ⟨e0, e1, e2, e3, e4⟩ := hag c
  have hc := fun i j => Cert.DgradUpRefIdeal.Sum.ct_at (m' ((c.tc : Thread Cert.DgradUpRefIdeal.nD Cert.DgradUpRefIdeal.τ).loc Cert.DgradUpRefIdeal.main_arg0)) (m' ((c.tc : Thread Cert.DgradUpRefIdeal.nD Cert.DgradUpRefIdeal.τ).loc Cert.DgradUpRefIdeal.main_arg1)) i j
  refine ⟨r0.trans ?_, r1.trans ?_, r2.trans ?_, k⟩
  · refine Cert.Meet.ix2_all fun i j => ?_
    refine (Cert.DgradUpRefIdeal.Sum.dx_at _ _ (Cert.DgradUpRefIdeal.Sum.ct _ _) i j).trans (Eq.trans ?_ (Cert.DgradUpIdeal.Sum.res_dx m c i j).symm)
    rw [hc, e0, e1, e3, e4]
    exact add_comm _ _
  · refine Cert.Meet.ix2_all fun i j => ?_
    obtain rfl : i = 0 := Subsingleton.elim _ _
    refine (Cert.DgradUpRefIdeal.Sum.rows_at _ j).trans (Eq.trans (Finset.sum_congr rfl fun q _ => ?_) (Cert.DgradUpIdeal.Sum.res_sc m c j).symm)
    refine (Cert.DgradUpRefIdeal.Sum.prod_at _ (Cert.DgradUpRefIdeal.Sum.ct _ _) q j).trans ?_
    rw [hc, e0, e1, e2]
    exact mul_comm _ _
  · refine Cert.Meet.ix2_all fun i j => ?_
    obtain rfl : i = 0 := Subsingleton.elim _ _
    refine (Cert.DgradUpRefIdeal.Sum.rows_at _ j).trans (Eq.trans (Finset.sum_congr rfl fun q _ => ?_) (Cert.DgradUpIdeal.Sum.res_sh m c j).symm)
    refine (hc q j).trans ?_
    rw [e0, e1]
    rfl

end Cert.DgradUp.Claims

end
-- ==== Proof.DgradIn.lean ====
module

public import proofs.«01_k».proof.Defs
public import proofs.«01_k».proof.Proof.Sums
public import proofs.«01_k».proof.Proof.Meet
public import proofs.«01_k».proof.Proof.Gen.DgradInIdeal.Value
public import proofs.«01_k».proof.Proof.Gen.DgradInRefIdeal.Run
public import Idealize.ShloMosaic.Lib.Pipeline.ValueKit.Geometry

/-! The backward of the input projection: the cotangents of its parts, end to end, times the weights turned over. -/

@[expose] public section

set_option maxRecDepth 16384

noncomputable section

namespace Cert.DgradIn

/-- A row of 3072 entries, six of 1024 and one of 512, end to end. -/
def ends (x : Fin 3072 → EReal) (y : Fin 6 → Fin 1024 → EReal) (z : Fin 512 → EReal) (q : Fin 9728) : EReal :=
  if q.val < 3072 then x ⟨q.val % 3072, Nat.mod_lt _ (by norm_num)⟩
  else if q.val < 9216 then y ⟨(q.val - 3072) / 1024 % 6, Nat.mod_lt _ (by norm_num)⟩ ⟨(q.val - 3072) % 1024, Nat.mod_lt _ (by norm_num)⟩
  else z ⟨(q.val - 9216) % 512, Nat.mod_lt _ (by norm_num)⟩

variable (x : Fin 3072 → EReal) (y : Fin 6 → Fin 1024 → EReal) (z : Fin 512 → EReal) (q : Fin 9728)

theorem ends_first (k : Fin 3072) (h : q.val = k.val) : ends x y z q = x k := by
  unfold ends
  rw [if_pos (by omega)]
  exact congrArg x (Fin.ext (by dsimp only; omega))

theorem ends_mid (j : Fin 6) (k : Fin 1024) (h : q.val = 3072 + 1024 * j.val + k.val) : ends x y z q = y j k := by
  unfold ends
  rw [if_neg (by omega), if_pos (by omega)]
  exact congrArg₂ y (Fin.ext (by dsimp only; omega)) (Fin.ext (by dsimp only; omega))

theorem ends_last (k : Fin 512) (h : q.val = 9216 + k.val) : ends x y z q = z k := by
  unfold ends
  rw [if_neg (by omega), if_neg (by omega)]
  exact congrArg z (Fin.ext (by dsimp only; omega))

variable {x y z q}

theorem of_first {v : EReal} (k : Fin 3072) (hv : x k = v) (h : q.val = k.val) : v = ends x y z q := hv.symm.trans (ends_first x y z q k h).symm

theorem of_mid {v : EReal} (j : Fin 6) (k : Fin 1024) (hv : y j k = v) (h : q.val = 3072 + 1024 * j.val + k.val) : v = ends x y z q :=
  hv.symm.trans (ends_mid x y z q j k h).symm

theorem of_last {v : EReal} (k : Fin 512) (hv : z k = v) (h : q.val = 9216 + k.val) : v = ends x y z q := hv.symm.trans (ends_last x y z q k h).symm

end Cert.DgradIn

namespace Cert.DgradInIdeal.Sum

open Idealize.ShloMosaic Idealize.ShloMosaic.TcCoe Idealize.SL.Sem Cert.DgradInIdeal Cert.DgradInIdeal.Gen Cert.DgradInIdeal.Value

theorem hz : (![0, 0] : Fin 2 → Nat) = fun _ => 0 := funext fun a => by fin_cases a <;> rfl

section Found
variable {F : FTy → Type} [FloatOps F]
variable (c : Dev nD) (i : grid0.Coords)
  (a2 : Memref sig .tc .vmem S1024x1024 .bf16) (h2 : a2.IsWhole)
  (a3 : Memref sig .tc .vmem S1024x1024 .bf16) (h3 : a3.IsWhole)
  (a4 : Memref sig .tc .vmem S1024x1024 .bf16) (h4 : a4.IsWhole)
  (a5 : Memref sig .tc .vmem S1024x1024 .bf16) (h5 : a5.IsWhole)
  (a6 : Memref sig .tc .vmem S1024x1024 .bf16) (h6 : a6.IsWhole)
  (a7 : Memref sig .tc .vmem S1024x1024 .bf16) (h7 : a7.IsWhole)
  (a8 : Memref sig .tc .vmem S1024x1024 .bf16) (h8 : a8.IsWhole)
  (a9 : Memref sig .tc .vmem S1024x512 .bf16) (h9 : a9.IsWhole)
  (a10 : Memref sig .tc .vmem S1024x1024 .bf16) (h10 : a10.IsWhole)
  (a11 : Memref sig .tc .vmem S1024x512 .bf16) (h11 : a11.IsWhole)
  (a12 : Memref sig .tc .vmem S1024x1024 .f32) (h12 : a12.IsWhole)
  (a13 : Memref sig .tc .vmem S1024x1024 .f32) (h13 : a13.IsWhole)
  (x0 x1 x2 x3 x4 x5 x6 : Vec F S1024x1024 .bf16) (x7 : Vec F S1024x512 .bf16) (x8 : Vec F S1024x1024 .bf16) (x9 : Vec F S1024x512 .bf16)
  (s : Vec F S1024x1024 .f32)

/-- The first point keeps the product of the last 512 columns, and adds that of its own. -/
theorem keep_A (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) :
    sout0_A_0 c i a2 h2 a3 h3 a4 h4 a5 h5 a6 h6 a7 h7 a8 h8 a9 h9 a10 h10 a11 h11 a12 h12 a13 h13 hc0 hc1 hc2 hc3 hc4 hc5 hc6 hc7 hc8 x0 x1 x2 x3 x4 x5 x6 x7 x8 x9 = k0_pay4 (k0_pay3 x7 x9) x0 x8 := by
  unfold sout0_A_0
  rw [View.read_writes_eq_canon _ _ _ (scover0_A_0 c i a2 h2 a3 h3 a4 h4 a5 h5 a6 h6 a7 h7 a8 h8 a9 h9 a10 h10 a11 h11 a12 h12 a13 h13 hc0 hc1 hc2 hc3 hc4 hc5 hc6 hc7 hc8 x0 x1 x2 x3 x4 x5 x6 x7 x8 x9)]
  unfold kernelRun0_A
  dsimp only
  sl_unfold_words
  rw [View.canon_cons_unit_zero hz, View.readCov_unit_zero (S := S1024x1024) _ hz]
  simp only [View.readAt_eq_ld, h2.read_unread, h3.read_unread, h4.read_unread, h5.read_unread, h6.read_unread, h7.read_unread,
    h8.read_unread, h9.read_unread, h10.read_unread, h11.read_unread, h13.read_unread, View.ld_unit_zero (S := S1024x512) hz,
    View.ld_unit_zero (S := S1024x1024) hz, shapeCast_self]

/-- Each of the others adds the product of its columns. -/
theorem keep_B (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) :
    sout0_B_0 c i a2 h2 a3 h3 a4 h4 a5 h5 a6 h6 a7 h7 a8 h8 a9 h9 a10 h10 a11 h11 a12 h12 a13 h13 hc0 hc1 hc2 hc3 hc4 hc5 hc6 hc7 hc8 x0 x1 x2 x3 x4 x5 x6 x7 x8 x9 s = k0_pay4 s x0 x8 := by
  unfold sout0_B_0
  rw [View.read_writes_eq_canon _ _ _ (scover0_B_0 c i a2 h2 a3 h3 a4 h4 a5 h5 a6 h6 a7 h7 a8 h8 a9 h9 a10 h10 a11 h11 a12 h12 a13 h13 hc0 hc1 hc2 hc3 hc4 hc5 hc6 hc7 hc8 x0 x1 x2 x3 x4 x5 x6 x7 x8 x9 s)]
  unfold kernelRun0_B
  dsimp only
  sl_unfold_words
  rw [View.canon_unit_zero hz]
  simp only [View.readAt_eq_ld, h2.read_unread, h3.read_unread, h4.read_unread, h5.read_unread, h6.read_unread, h7.read_unread,
    h8.read_unread, h9.read_unread, h10.read_unread, h11.read_unread, h13.read_unread, View.ld_unit_zero (S := S1024x512) hz,
    View.ld_unit_zero (S := S1024x1024) hz, shapeCast_self]

theorem keep_C (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i) (hc8 : ¬cond0_8 i) :
    sout0_C_0 c i a2 h2 a3 h3 a4 h4 a5 h5 a6 h6 a7 h7 a8 h8 a9 h9 a10 h10 a11 h11 a12 h12 a13 h13 hc0 hc1 hc2 hc3 hc4 hc5 hc6 hc7 hc8 x0 x1 x2 x3 x4 x5 x6 x7 x8 x9 s = k0_pay4 s x1 x8 := by
  unfold sout0_C_0
  rw [View.read_writes_eq_canon _ _ _ (scover0_C_0 c i a2 h2 a3 h3 a4 h4 a5 h5 a6 h6 a7 h7 a8 h8 a9 h9 a10 h10 a11 h11 a12 h12 a13 h13 hc0 hc1 hc2 hc3 hc4 hc5 hc6 hc7 hc8 x0 x1 x2 x3 x4 x5 x6 x7 x8 x9 s)]
  unfold kernelRun0_C
  dsimp only
  sl_unfold_words
  rw [View.canon_unit_zero hz]
  simp only [View.readAt_eq_ld, h2.read_unread, h3.read_unread, h4.read_unread, h5.read_unread, h6.read_unread, h7.read_unread,
    h8.read_unread, h9.read_unread, h10.read_unread, h11.read_unread, h13.read_unread, View.ld_unit_zero (S := S1024x512) hz,
    View.ld_unit_zero (S := S1024x1024) hz, shapeCast_self]
  rfl

theorem keep_D (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i) (hc8 : ¬cond0_8 i) :
    sout0_D_0 c i a2 h2 a3 h3 a4 h4 a5 h5 a6 h6 a7 h7 a8 h8 a9 h9 a10 h10 a11 h11 a12 h12 a13 h13 hc0 hc1 hc2 hc3 hc4 hc5 hc6 hc7 hc8 x0 x1 x2 x3 x4 x5 x6 x7 x8 x9 s = k0_pay4 s x2 x8 := by
  unfold sout0_D_0
  rw [View.read_writes_eq_canon _ _ _ (scover0_D_0 c i a2 h2 a3 h3 a4 h4 a5 h5 a6 h6 a7 h7 a8 h8 a9 h9 a10 h10 a11 h11 a12 h12 a13 h13 hc0 hc1 hc2 hc3 hc4 hc5 hc6 hc7 hc8 x0 x1 x2 x3 x4 x5 x6 x7 x8 x9 s)]
  unfold kernelRun0_D
  dsimp only
  sl_unfold_words
  rw [View.canon_unit_zero hz]
  simp only [View.readAt_eq_ld, h2.read_unread, h3.read_unread, h4.read_unread, h5.read_unread, h6.read_unread, h7.read_unread,
    h8.read_unread, h9.read_unread, h10.read_unread, h11.read_unread, h13.read_unread, View.ld_unit_zero (S := S1024x512) hz,
    View.ld_unit_zero (S := S1024x1024) hz, shapeCast_self]
  rfl

theorem keep_E (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i) (hc8 : ¬cond0_8 i) :
    sout0_E_0 c i a2 h2 a3 h3 a4 h4 a5 h5 a6 h6 a7 h7 a8 h8 a9 h9 a10 h10 a11 h11 a12 h12 a13 h13 hc0 hc1 hc2 hc3 hc4 hc5 hc6 hc7 hc8 x0 x1 x2 x3 x4 x5 x6 x7 x8 x9 s = k0_pay4 s x3 x8 := by
  unfold sout0_E_0
  rw [View.read_writes_eq_canon _ _ _ (scover0_E_0 c i a2 h2 a3 h3 a4 h4 a5 h5 a6 h6 a7 h7 a8 h8 a9 h9 a10 h10 a11 h11 a12 h12 a13 h13 hc0 hc1 hc2 hc3 hc4 hc5 hc6 hc7 hc8 x0 x1 x2 x3 x4 x5 x6 x7 x8 x9 s)]
  unfold kernelRun0_E
  dsimp only
  sl_unfold_words
  rw [View.canon_unit_zero hz]
  simp only [View.readAt_eq_ld, h2.read_unread, h3.read_unread, h4.read_unread, h5.read_unread, h6.read_unread, h7.read_unread,
    h8.read_unread, h9.read_unread, h10.read_unread, h11.read_unread, h13.read_unread, View.ld_unit_zero (S := S1024x512) hz,
    View.ld_unit_zero (S := S1024x1024) hz, shapeCast_self]
  rfl

theorem keep_F (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i) (hc8 : ¬cond0_8 i) :
    sout0_F_0 c i a2 h2 a3 h3 a4 h4 a5 h5 a6 h6 a7 h7 a8 h8 a9 h9 a10 h10 a11 h11 a12 h12 a13 h13 hc0 hc1 hc2 hc3 hc4 hc5 hc6 hc7 hc8 x0 x1 x2 x3 x4 x5 x6 x7 x8 x9 s = k0_pay4 s x4 x8 := by
  unfold sout0_F_0
  rw [View.read_writes_eq_canon _ _ _ (scover0_F_0 c i a2 h2 a3 h3 a4 h4 a5 h5 a6 h6 a7 h7 a8 h8 a9 h9 a10 h10 a11 h11 a12 h12 a13 h13 hc0 hc1 hc2 hc3 hc4 hc5 hc6 hc7 hc8 x0 x1 x2 x3 x4 x5 x6 x7 x8 x9 s)]
  unfold kernelRun0_F
  dsimp only
  sl_unfold_words
  rw [View.canon_unit_zero hz]
  simp only [View.readAt_eq_ld, h2.read_unread, h3.read_unread, h4.read_unread, h5.read_unread, h6.read_unread, h7.read_unread,
    h8.read_unread, h9.read_unread, h10.read_unread, h11.read_unread, h13.read_unread, View.ld_unit_zero (S := S1024x512) hz,
    View.ld_unit_zero (S := S1024x1024) hz, shapeCast_self]
  rfl

theorem keep_G (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i) (hc8 : ¬cond0_8 i) :
    sout0_G_0 c i a2 h2 a3 h3 a4 h4 a5 h5 a6 h6 a7 h7 a8 h8 a9 h9 a10 h10 a11 h11 a12 h12 a13 h13 hc0 hc1 hc2 hc3 hc4 hc5 hc6 hc7 hc8 x0 x1 x2 x3 x4 x5 x6 x7 x8 x9 s = k0_pay4 s x5 x8 := by
  unfold sout0_G_0
  rw [View.read_writes_eq_canon _ _ _ (scover0_G_0 c i a2 h2 a3 h3 a4 h4 a5 h5 a6 h6 a7 h7 a8 h8 a9 h9 a10 h10 a11 h11 a12 h12 a13 h13 hc0 hc1 hc2 hc3 hc4 hc5 hc6 hc7 hc8 x0 x1 x2 x3 x4 x5 x6 x7 x8 x9 s)]
  unfold kernelRun0_G
  dsimp only
  sl_unfold_words
  rw [View.canon_unit_zero hz]
  simp only [View.readAt_eq_ld, h2.read_unread, h3.read_unread, h4.read_unread, h5.read_unread, h6.read_unread, h7.read_unread,
    h8.read_unread, h9.read_unread, h10.read_unread, h11.read_unread, h13.read_unread, View.ld_unit_zero (S := S1024x512) hz,
    View.ld_unit_zero (S := S1024x1024) hz, shapeCast_self]
  rfl

theorem keep_H (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) (hc8 : cond0_8 i) :
    sout0_H_0 c i a2 h2 a3 h3 a4 h4 a5 h5 a6 h6 a7 h7 a8 h8 a9 h9 a10 h10 a11 h11 a12 h12 a13 h13 hc0 hc1 hc2 hc3 hc4 hc5 hc6 hc7 hc8 x0 x1 x2 x3 x4 x5 x6 x7 x8 x9 s = k0_pay4 s x6 x8 := by
  unfold sout0_H_0
  rw [View.read_writes_eq_canon _ _ _ (scover0_H_0 c i a2 h2 a3 h3 a4 h4 a5 h5 a6 h6 a7 h7 a8 h8 a9 h9 a10 h10 a11 h11 a12 h12 a13 h13 hc0 hc1 hc2 hc3 hc4 hc5 hc6 hc7 hc8 x0 x1 x2 x3 x4 x5 x6 x7 x8 x9 s)]
  unfold kernelRun0_H
  dsimp only
  sl_unfold_words
  rw [View.canon_unit_zero hz]
  simp only [View.readAt_eq_ld, h2.read_unread, h3.read_unread, h4.read_unread, h5.read_unread, h6.read_unread, h7.read_unread,
    h8.read_unread, h9.read_unread, h10.read_unread, h11.read_unread, h13.read_unread, View.ld_unit_zero (S := S1024x512) hz,
    View.ld_unit_zero (S := S1024x1024) hz, shapeCast_self]
  rfl

/-- The last point writes out what it keeps. -/
theorem left_H (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) (hc8 : cond0_8 i) :
    out0_H_10 c i a2 h2 a3 h3 a4 h4 a5 h5 a6 h6 a7 h7 a8 h8 a9 h9 a10 h10 a11 h11 a12 h12 a13 h13 hc0 hc1 hc2 hc3 hc4 hc5 hc6 hc7 hc8 x0 x1 x2 x3 x4 x5 x6 x7 x8 x9 s = k0_pay4 s x6 x8 := by
  unfold out0_H_10
  rw [View.read_writes_eq_canon _ _ _ (cover0_H_10 c i a2 h2 a3 h3 a4 h4 a5 h5 a6 h6 a7 h7 a8 h8 a9 h9 a10 h10 a11 h11 a12 h12 a13 h13 hc0 hc1 hc2 hc3 hc4 hc5 hc6 hc7 hc8 x0 x1 x2 x3 x4 x5 x6 x7 x8 x9 s)]
  unfold kernelRun0_H
  dsimp only
  sl_unfold_words
  rw [View.canon_unit_zero hz, View.readCov_unit_zero (S := S1024x1024) _ hz]
  simp only [View.readAt_eq_ld, h2.read_unread, h3.read_unread, h4.read_unread, h5.read_unread, h6.read_unread, h7.read_unread,
    h8.read_unread, h9.read_unread, h10.read_unread, h11.read_unread, h13.read_unread, View.ld_unit_zero (S := S1024x512) hz,
    View.ld_unit_zero (S := S1024x1024) hz, shapeCast_self]
  rfl

end Found

variable (m : (ℓ : Loc nD τ sig) → Buf (Elt Ideal) ℓ) (c : Dev nD)

theorem tail_at (x w : Vec Ideal S1024x512 .bf16) (a b : Fin 1024) :
    k0_pay3 (F := Ideal) x w (ix2 a b) = ∑ k, x (ix2 a k) * w (ix2 b k) := by
  pointwise [k0_pay3]

theorem inc_at (s : Vec Ideal S1024x1024 .f32) (x w : Vec Ideal S1024x1024 .bf16) (a b : Fin 1024) :
    k0_pay4 (F := Ideal) s x w (ix2 a b) = s (ix2 a b) + ∑ k, x (ix2 a k) * w (ix2 b k) := by
  pointwise [k0_pay4]

theorem ix_0 : ∀ t : Fin cfg0.N, win0_0.index t = ![t.val / 9, min (t.val % 9) 2] := (by decide +kernel : ∀ t : Fin grid0.N, _)
theorem ix_1 : ∀ t : Fin cfg0.N, win0_1.index t = ![t.val / 9, 0] := (by decide +kernel : ∀ t : Fin grid0.N, _)
theorem ix_2 : ∀ t : Fin cfg0.N, win0_2.index t = ![t.val / 9, 0] := (by decide +kernel : ∀ t : Fin grid0.N, _)
theorem ix_3 : ∀ t : Fin cfg0.N, win0_3.index t = ![t.val / 9, 0] := (by decide +kernel : ∀ t : Fin grid0.N, _)
theorem ix_4 : ∀ t : Fin cfg0.N, win0_4.index t = ![t.val / 9, 0] := (by decide +kernel : ∀ t : Fin grid0.N, _)
theorem ix_5 : ∀ t : Fin cfg0.N, win0_5.index t = ![t.val / 9, 0] := (by decide +kernel : ∀ t : Fin grid0.N, _)
theorem ix_6 : ∀ t : Fin cfg0.N, win0_6.index t = ![t.val / 9, 0] := (by decide +kernel : ∀ t : Fin grid0.N, _)
theorem ix_7 : ∀ t : Fin cfg0.N, win0_7.index t = ![t.val / 9, 0] := (by decide +kernel : ∀ t : Fin grid0.N, _)
theorem ix_8 : ∀ t : Fin cfg0.N, win0_8.index t = ![0, t.val % 9] := (by decide +kernel : ∀ t : Fin grid0.N, _)
theorem ix_9 : ∀ t : Fin cfg0.N, win0_9.index t = ![0, 18] := (by decide +kernel : ∀ t : Fin grid0.N, _)

/-- The argument arrays: the eight parts and the weights. -/
def arr0 : S8192x3072.Idx → EReal := m ((c : Thread nD τ).loc main_arg0)
def arr1 : S8192x1024.Idx → EReal := m ((c : Thread nD τ).loc main_arg1)
def arr2 : S8192x1024.Idx → EReal := m ((c : Thread nD τ).loc main_arg2)
def arr3 : S8192x1024.Idx → EReal := m ((c : Thread nD τ).loc main_arg3)
def arr4 : S8192x1024.Idx → EReal := m ((c : Thread nD τ).loc main_arg4)
def arr5 : S8192x1024.Idx → EReal := m ((c : Thread nD τ).loc main_arg5)
def arr6 : S8192x1024.Idx → EReal := m ((c : Thread nD τ).loc main_arg6)
def arr7 : S8192x512.Idx → EReal := m ((c : Thread nD τ).loc main_arg7)
def arrW : S1024x9728.Idx → EReal := m ((c : Thread nD τ).loc main_arg8)

/-- The blocks of them a grid point reads. -/
def blk0 (t : Fin cfg0.N) : S1024x1024.Idx → EReal := iblk m c 0 t
def blk1 (t : Fin cfg0.N) : S1024x1024.Idx → EReal := iblk m c 1 t
def blk2 (t : Fin cfg0.N) : S1024x1024.Idx → EReal := iblk m c 2 t
def blk3 (t : Fin cfg0.N) : S1024x1024.Idx → EReal := iblk m c 3 t
def blk4 (t : Fin cfg0.N) : S1024x1024.Idx → EReal := iblk m c 4 t
def blk5 (t : Fin cfg0.N) : S1024x1024.Idx → EReal := iblk m c 5 t
def blk6 (t : Fin cfg0.N) : S1024x1024.Idx → EReal := iblk m c 6 t
def blk7 (t : Fin cfg0.N) : S1024x512.Idx → EReal := iblk m c 7 t
def blkW (t : Fin cfg0.N) : S1024x1024.Idx → EReal := X0_8 m c t
def blkT (t : Fin cfg0.N) : S1024x512.Idx → EReal := iblk m c 9 t

theorem lt_N (t : Fin cfg0.N) : t.val < 72 := lt_of_lt_of_eq t.isLt N_0

/-- The row of the whole arrays at row `a` of block `r`. -/
def row (r : ℕ) (a : Fin 1024) : Fin 8192 := ⟨(1024 * r + a.val) % 8192, Nat.mod_lt _ (by norm_num)⟩

theorem blk_0 (t : Fin cfg0.N) (a k : Fin 1024) :
    blk0 m c t (ix2 a k) = arr0 m c (ix2 (row (t.val / 9) a) ⟨1024 * min (t.val % 9) 2 + k.val, by omega⟩) := by
  unfold blk0
  blk_simp [iblk]
  rw [V_main_arg0]
  unfold arr0
  congr 1
  have := lt_N t
  blk_ext [ix_0, row]

/-- Six of the parts are read alike. -/
theorem blk_16 (t : Fin cfg0.N) (a k : Fin 1024) :
    blk1 m c t (ix2 a k) = arr1 m c (ix2 (row (t.val / 9) a) k) ∧ blk2 m c t (ix2 a k) = arr2 m c (ix2 (row (t.val / 9) a) k)
    ∧ blk3 m c t (ix2 a k) = arr3 m c (ix2 (row (t.val / 9) a) k) ∧ blk4 m c t (ix2 a k) = arr4 m c (ix2 (row (t.val / 9) a) k)
    ∧ blk5 m c t (ix2 a k) = arr5 m c (ix2 (row (t.val / 9) a) k) ∧ blk6 m c t (ix2 a k) = arr6 m c (ix2 (row (t.val / 9) a) k) := by
  have := lt_N t
  refine ⟨?_, ?_, ?_, ?_, ?_, ?_⟩
  all_goals first | unfold blk1 arr1 | unfold blk2 arr2 | unfold blk3 arr3 | unfold blk4 arr4 | unfold blk5 arr5 | unfold blk6 arr6
  all_goals blk_simp [iblk]
  all_goals first | rw [V_main_arg1] | rw [V_main_arg2] | rw [V_main_arg3] | rw [V_main_arg4] | rw [V_main_arg5] | rw [V_main_arg6]
  all_goals congr 1
  all_goals blk_ext [ix_1, ix_2, ix_3, ix_4, ix_5, ix_6, row]

theorem blk_7 (t : Fin cfg0.N) (a : Fin 1024) (k : Fin 512) : blk7 m c t (ix2 a k) = arr7 m c (ix2 (row (t.val / 9) a) k) := by
  unfold blk7
  blk_simp [iblk]
  rw [V_main_arg7]
  unfold arr7
  congr 1
  have := lt_N t
  blk_ext [ix_7, row]

theorem blk_W (t : Fin cfg0.N) (b k : Fin 1024) :
    blkW m c t (ix2 b k) = arrW m c (ix2 b ⟨1024 * (t.val % 9) + k.val, by omega⟩) := by
  unfold blkW X0_8 Pipeline.Window.fill
  rw [dif_pos (moved0_8 t _)]
  blk_simp [iblk]
  rw [V_main_arg8]
  unfold arrW
  congr 1
  blk_ext [ix_8]

theorem blk_T (t : Fin cfg0.N) (b : Fin 1024) (k : Fin 512) :
    blkT m c t (ix2 b k) = arrW m c (ix2 b ⟨9216 + k.val, by omega⟩) := by
  unfold blkT
  blk_simp [iblk]
  rw [V_main_arg8]
  unfold arrW
  congr 1
  blk_ext [ix_9]

/-- The parts of a row end to end. -/
def ends (i : Fin 8192) (q : Fin 9728) : EReal :=
  Cert.DgradIn.ends (fun k => arr0 m c (ix2 i k)) ![fun k => arr1 m c (ix2 i k), fun k => arr2 m c (ix2 i k), fun k => arr3 m c (ix2 i k),
    fun k => arr4 m c (ix2 i k), fun k => arr5 m c (ix2 i k), fun k => arr6 m c (ix2 i k)] (fun k => arr7 m c (ix2 i k)) q

/-- The products summed at a row and a column of the result. -/
def term (i : Fin 8192) (j : Fin 1024) : Fin 9728 → EReal := fun q => ends m c i q * arrW m c (ix2 j q)

/-- The last 512 of them. -/
def tail (i : Fin 8192) (j : Fin 1024) : EReal := ∑ k : Fin 512, term m c i j ⟨9216 + k.val, by omega⟩

/-- What a point but the first of a block of rows adds: the product of one part's columns. -/
theorem next (t : Fin cfg0.N) (h0 : ¬t.val % 9 = 0) : ∃ x : Vec Ideal S1024x1024 .bf16,
    (outsAt0 m c t.val t.isLt).2 = k0_pay4 (F := Ideal) (outsAt0 m c (t.val - 1) (Nat.lt_of_le_of_lt (Nat.sub_le _ _) t.isLt)).2 x (X0_8 m c t)
    ∧ ∀ a k : Fin 1024, (x (ix2 a k) : EReal) = ends m c (row (t.val / 9) a) ⟨1024 * (t.val % 9) + k.val, by omega⟩ := by
  have hN := lt_N t
  have cases : t.val % 9 ≤ 2 ∨ t.val % 9 = 3 ∨ t.val % 9 = 4 ∨ t.val % 9 = 5 ∨ t.val % 9 = 6 ∨ t.val % 9 = 7 ∨ t.val % 9 = 8 := by omega
  rcases cases with h | h | h | h | h | h | h
  · refine ⟨iblk m c 0 t, ?_, fun a k => (blk_0 m c t a k).trans ?_⟩
    · rw [outsAt0_B m c t h0 h (by omega) (by omega) (by omega) (by omega) (by omega) (by omega) (by omega)]
      dsimp only
      rw [keep_B]
    · exact (Cert.DgradIn.of_first _ rfl (by first | omega | (dsimp only; omega) | (simp only [Fin.val_ofNat]; omega)))
  · refine ⟨iblk m c 1 t, ?_, fun a k => (blk_16 m c t a k).1.trans ?_⟩
    · rw [outsAt0_C m c t h0 (by omega) h (by omega) (by omega) (by omega) (by omega) (by omega) (by omega)]
      dsimp only
      rw [keep_C]
    · exact (Cert.DgradIn.of_mid 0 k rfl (by first | omega | (dsimp only; omega) | (simp only [Fin.val_ofNat]; omega)))
  · refine ⟨iblk m c 2 t, ?_, fun a k => (blk_16 m c t a k).2.1.trans ?_⟩
    · rw [outsAt0_D m c t h0 (by omega) (by omega) h (by omega) (by omega) (by omega) (by omega) (by omega)]
      dsimp only
      rw [keep_D]
    · exact (Cert.DgradIn.of_mid 1 k rfl (by first | omega | (dsimp only; omega) | (simp only [Fin.val_ofNat]; omega)))
  · refine ⟨iblk m c 3 t, ?_, fun a k => (blk_16 m c t a k).2.2.1.trans ?_⟩
    · rw [outsAt0_E m c t h0 (by omega) (by omega) (by omega) h (by omega) (by omega) (by omega) (by omega)]
      dsimp only
      rw [keep_E]
    · exact (Cert.DgradIn.of_mid 2 k rfl (by first | omega | (dsimp only; omega) | (simp only [Fin.val_ofNat]; omega)))
  · refine ⟨iblk m c 4 t, ?_, fun a k => (blk_16 m c t a k).2.2.2.1.trans ?_⟩
    · rw [outsAt0_F m c t h0 (by omega) (by omega) (by omega) (by omega) h (by omega) (by omega) (by omega)]
      dsimp only
      rw [keep_F]
    · exact (Cert.DgradIn.of_mid 3 k rfl (by first | omega | (dsimp only; omega) | (simp only [Fin.val_ofNat]; omega)))
  · refine ⟨iblk m c 5 t, ?_, fun a k => (blk_16 m c t a k).2.2.2.2.1.trans ?_⟩
    · rw [outsAt0_G m c t h0 (by omega) (by omega) (by omega) (by omega) (by omega) h (by omega) (by omega)]
      dsimp only
      rw [keep_G]
    · exact (Cert.DgradIn.of_mid 4 k rfl (by first | omega | (dsimp only; omega) | (simp only [Fin.val_ofNat]; omega)))
  · refine ⟨iblk m c 6 t, ?_, fun a k => (blk_16 m c t a k).2.2.2.2.2.trans ?_⟩
    · rw [outsAt0_H m c t h0 (by omega) (by omega) (by omega) (by omega) (by omega) (by omega) h h]
      dsimp only
      rw [keep_H]
    · exact (Cert.DgradIn.of_mid 5 k rfl (by first | omega | (dsimp only; omega) | (simp only [Fin.val_ofNat]; omega)))

/-- What is kept after each point. -/
theorem kept (a b : Fin 1024) : ∀ (t : ℕ) (h : t < cfg0.N), (outsAt0 m c t h).2 (ix2 a b)
    = tail m c (row (t / 9) a) b + Sums.upto (term m c (row (t / 9) a) b) (1024 * (t % 9 + 1)) :=
  Sums.fold_from (fun t h => ((outsAt0 m c t h).2 (ix2 a b) : EReal)) (fun r => tail m c (row r a) b) (fun r => term m c (row r a) b)
    (fun t h h0 => by
      have hN : t < 72 := lt_N ⟨t, h⟩
      have hv : (⟨t, h⟩ : Fin cfg0.N).val = t := rfl
      rw [outsAt0_A m c ⟨t, h⟩ h0 (by dsimp only; omega) (by dsimp only; omega) (by dsimp only; omega) (by dsimp only; omega)
        (by dsimp only; omega) (by dsimp only; omega) (by dsimp only; omega) (by dsimp only; omega)]
      dsimp only
      rw [keep_A]
      refine (inc_at _ _ _ a b).trans (congrArg₂ (· + ·) ((tail_at _ _ a b).trans ?_) ?_)
      · refine Finset.sum_congr rfl fun k _ => ?_
        refine (congrArg₂ (· * ·) (blk_7 m c ⟨t, h⟩ a k) (blk_T m c ⟨t, h⟩ b k)).trans ?_
        unfold term
        exact congrArg (· * arrW m c (ix2 b ⟨9216 + k.val, by omega⟩)) (show arr7 m c _ = ends m c _ _ from Cert.DgradIn.of_last k rfl rfl)
      · refine (Sums.start _ (fun k => blk0 m c ⟨t, h⟩ (ix2 a k) * blkW m c ⟨t, h⟩ (ix2 b k)) fun k => ⟨by omega, ?_⟩).symm
        rw [blk_0, blk_W]
        unfold term
        refine congrArg₂ (· * ·) (Cert.DgradIn.of_first _ rfl (by first | omega | (dsimp only; omega) | (simp only [Fin.val_ofNat]; omega))) (congrArg (fun q => arrW m c (ix2 b q)) (Fin.ext (by dsimp only; omega))))
    (fun t h h0 => by
      obtain ⟨x, e, ex⟩ := next m c ⟨t + 1, h⟩ h0
      refine ⟨fun k => (x (ix2 a k) : EReal) * blkW m c ⟨t + 1, h⟩ (ix2 b k), ?_, fun k => ⟨by omega, ?_⟩⟩
      · exact (congrFun e (ix2 a b)).trans (inc_at _ _ _ a b)
      · dsimp only
        rw [ex, blk_W]
        rfl)

/-- What the last point of a block writes is what it keeps. -/
theorem left_kept (t : Fin cfg0.N) (h : t.val % 9 = 8) (y : S1024x1024.Idx) :
    (outsAt0 m c t.val t.isLt).1 y = (outsAt0 m c t.val t.isLt).2 y := by
  rw [outsAt0_H m c t (by omega) (by omega) (by omega) (by omega) (by omega) (by omega) (by omega) h h]
  dsimp only
  rw [left_H, keep_H]

/-- The kernel's result: every column is summed. -/
theorem res (i : Fin 8192) (j : Fin 1024) : (G10 m c : S8192x1024.Idx → EReal) (ix2 i j) = ∑ q, term m c i j q := by
  have hp : pt10Of (ix2 i j) = 9 * (i.val / 1024) + 8 := by
    show 9 * (1 * (i.val / 1024 - 0) + 1 * (j.val / 1024 - 0)) + 8 = _
    omega
  have hN : pt10Of (ix2 i j) < cfg0.N := lt_of_lt_of_eq (by rw [hp]; omega) N_0.symm
  unfold G10
  rw [dif_pos hN]
  refine (congrArg (fun o => o.1 (loc10Of (ix2 i j))) (outsAt0_sweep m c _ hN).symm).trans ?_
  refine (left_kept m c ⟨_, hN⟩ (by show pt10Of (ix2 i j) % 9 = 8; rw [hp]; omega) _).trans ?_
  have hl : loc10Of (ix2 i j) = ix2 ⟨i.val % 1024, Nat.mod_lt _ (by norm_num)⟩ ⟨j.val % 1024, Nat.mod_lt _ (by norm_num)⟩ := by
    funext a; fin_cases a <;> rfl
  rw [hl]
  refine (kept m c _ _ _ hN).trans ?_
  have hd : pt10Of (ix2 i j) / 9 = i.val / 1024 := by rw [hp]; omega
  have hr : row (i.val / 1024) ⟨i.val % 1024, Nat.mod_lt _ (by norm_num)⟩ = i := Fin.ext (by simp only [row]; omega)
  have hj : (⟨j.val % 1024, Nat.mod_lt _ (by norm_num)⟩ : Fin 1024) = j := Fin.ext (Nat.mod_eq_of_lt j.isLt)
  rw [hd, hr, hj, show 1024 * (pt10Of (ix2 i j) % 9 + 1) = 9216 by rw [hp]; omega, ← Sums.whole, add_comm]
  exact (Sums.more (w := 512) (term m c i j) 9216 (fun k => term m c i j ⟨9216 + k.val, by omega⟩) fun k => ⟨by omega, rfl⟩).symm

end Cert.DgradInIdeal.Sum

namespace Cert.DgradInRefIdeal.Sum

open Idealize.ShloMosaic Idealize.ShloMosaic.TcCoe Idealize.SL.Sem Cert.DgradInRefIdeal Cert.DgradInRefIdeal.Gen

theorem dot_at (x : FVec Ideal S8192x9728 .f32) (w : FVec Ideal S1024x9728 .bf16) (i : Fin 8192) (j : Fin 1024) :
    (Host.dotGeneral dot_S8192x9728_S1024x9728_S8192x1024_1_1_0_0_n_n none x (extf .f32 w bitsLt_bf16_f32) : FVec Ideal S8192x1024 .f32) (ix2 i j)
      = ∑ q, x (ix2 i q) * w (ix2 j q) := by
  pointwise []

variable (x0 : FVec Ideal S8192x3072 .bf16) (x1 x2 x3 x4 x5 x6 : FVec Ideal S8192x1024 .bf16) (x7 : FVec Ideal S8192x512 .bf16)

/-- The parts laid end to end. -/
theorem cat_at (i : Fin 8192) (q : Fin 9728) :
    (concatenate S8192x9728 1 [⟨S8192x3072, extf .f32 x0 bitsLt_bf16_f32⟩, ⟨S8192x1024, extf .f32 x1 bitsLt_bf16_f32⟩,
      ⟨S8192x1024, extf .f32 x2 bitsLt_bf16_f32⟩, ⟨S8192x1024, extf .f32 x3 bitsLt_bf16_f32⟩, ⟨S8192x1024, extf .f32 x4 bitsLt_bf16_f32⟩,
      ⟨S8192x1024, extf .f32 x5 bitsLt_bf16_f32⟩, ⟨S8192x1024, extf .f32 x6 bitsLt_bf16_f32⟩, ⟨S8192x512, extf .f32 x7 bitsLt_bf16_f32⟩]
      concatenates_S8192x3072_S8192x1024_S8192x1024_S8192x1024_S8192x1024_S8192x1024_S8192x1024_S8192x512_S8192x9728_d1 : FVec Ideal S8192x9728 .f32) (ix2 i q)
      = Cert.DgradIn.ends (fun k => x0 (ix2 i k)) ![fun k => x1 (ix2 i k), fun k => x2 (ix2 i k), fun k => x3 (ix2 i k),
        fun k => x4 (ix2 i k), fun k => x5 (ix2 i k), fun k => x6 (ix2 i k)] (fun k => x7 (ix2 i k)) q := by
  pointwise []
  split_ifs
  all_goals first
    | exact (Cert.DgradIn.of_first _ rfl rfl)
    | exact (Cert.DgradIn.of_mid 0 _ rfl (by first | omega | (dsimp only; omega) | (simp only [Fin.val_ofNat]; omega)))
    | exact (Cert.DgradIn.of_mid 1 _ rfl (by first | omega | (dsimp only; omega) | (simp only [Fin.val_ofNat]; omega)))
    | exact (Cert.DgradIn.of_mid 2 _ rfl (by first | omega | (dsimp only; omega) | (simp only [Fin.val_ofNat]; omega)))
    | exact (Cert.DgradIn.of_mid 3 _ rfl (by first | omega | (dsimp only; omega) | (simp only [Fin.val_ofNat]; omega)))
    | exact (Cert.DgradIn.of_mid 4 _ rfl (by first | omega | (dsimp only; omega) | (simp only [Fin.val_ofNat]; omega)))
    | exact (Cert.DgradIn.of_mid 5 _ rfl (by first | omega | (dsimp only; omega) | (simp only [Fin.val_ofNat]; omega)))
    | exact (Cert.DgradIn.of_last _ rfl (by first | omega | (dsimp only; omega) | (simp only [Fin.val_ofNat]; omega)))

end Cert.DgradInRefIdeal.Sum

namespace Cert.DgradIn.Claims

open Idealize.ShloMosaic Idealize.ShloMosaic.TcCoe Idealize.SL.Sem

theorem algebraic : Cert.algebraic_DgradInIdeal_DgradInRefIdeal := by
  intro m g m' g' _ hag
  refine ⟨_, Cert.DgradInIdeal.Value.run m g, ?_⟩
  refine (θ_run _ _ _).mono (fun r h c => ?_) (Cert.DgradInRefIdeal.Value.run m' g')
  obtain ⟨r0, k⟩ := h c
  obtain ⟨e0, e1, e2, e3, e4, e5, e6, e7, e8⟩ := hag c
  refine ⟨r0.trans ?_, k⟩
  refine Cert.Meet.ix2_all fun i j => ?_
  refine (Cert.DgradInRefIdeal.Sum.dot_at _ _ i j).trans (Eq.trans (Finset.sum_congr rfl fun q _ => ?_) (Cert.DgradInIdeal.Sum.res m c i j).symm)
  rw [Cert.DgradInRefIdeal.Sum.cat_at, e0, e1, e2, e3, e4, e5, e6, e7, e8]
  rfl

end Cert.DgradIn.Claims

end
-- ==== Proof.WgradPre.lean ====
module

public import proofs.«01_k».proof.Defs
public import proofs.«01_k».proof.Proof.Sums
public import proofs.«01_k».proof.Proof.Meet
public import proofs.«01_k».proof.Proof.Gen.WgradPreIdeal.Value
public import proofs.«01_k».proof.Proof.Gen.WgradPreRefIdeal.Run
public import Idealize.ShloMosaic.Lib.Pipeline.ValueKit.Geometry

/-! The weight gradient of the input projection's first 3072 columns. -/

@[expose] public section

set_option maxRecDepth 16384

noncomputable section

namespace Cert.WgradPreIdeal.Sum

open Idealize.ShloMosaic Idealize.ShloMosaic.TcCoe Idealize.SL.Sem Cert.WgradPreIdeal Cert.WgradPreIdeal.Gen Cert.WgradPreIdeal.Value

theorem hz : (![0, 0] : Fin 2 → Nat) = fun _ => 0 := funext fun a => by fin_cases a <;> rfl

section Found
variable {F : FTy → Type} [FloatOps F]
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x : Vec F S2048x1024 .bf16) (w : Vec F S2048x1024 .bf16) (s : Vec F S1024x1024 .f32)

/-- The first point of a block keeps the product of its rows. -/
theorem keep_A (hc0 : cond0_0 i) (hc1 : ¬cond0_1 i) (hc2 : ¬cond0_2 i) :
    sout0_A_0 c i a3 h3 a4 h4 a5 h5 a6 h6 hc0 hc1 hc2 x w = k0_pay1 x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero hz]
  unfold k0_pay2
  simp only [View.readAt_eq_ld, h3.read_unread, h4.read_unread, View.ld_unit_zero (S := S2048x1024) hz, shapeCast_self]

/-- A middle point adds the product of its rows to what was kept. -/
theorem keep_B (hc0 : ¬cond0_0 i) (hc1 : cond0_1 i) (hc2 : ¬cond0_2 i) :
    sout0_B_0 c i a3 h3 a4 h4 a5 h5 a6 h6 hc0 hc1 hc2 x w s = addf s (k0_pay1 x w) := by
  unfold sout0_B_0
  rw [View.read_writes_eq_canon _ _ _ (scover0_B_0 c i a3 h3 a4 h4 a5 h5 a6 h6 hc0 hc1 hc2 x w s)]
  unfold kernelRun0_B
  dsimp only
  rw [View.canon_unit_zero hz]
  unfold k0_pay3
  simp only [View.readAt_eq_ld, h3.read_unread, h4.read_unread, h6.read_unread, View.ld_unit_zero (S := S2048x1024) hz,
    View.ld_unit_zero (S := S1024x1024) hz, shapeCast_self]

/-- So does the last point, -/
theorem keep_C (hc0 : ¬cond0_0 i) (hc1 : cond0_1 i) (hc2 : cond0_2 i) :
    sout0_C_0 c i a3 h3 a4 h4 a5 h5 a6 h6 hc0 hc1 hc2 x w s = addf s (k0_pay1 x w) := by
  unfold sout0_C_0
  rw [View.read_writes_eq_canon _ _ _ (scover0_C_0 c i a3 h3 a4 h4 a5 h5 a6 h6 hc0 hc1 hc2 x w s)]
  unfold kernelRun0_C
  dsimp only
  sl_unfold_words
  rw [View.canon_unit_zero hz]
  unfold k0_pay3
  simp only [View.readAt_eq_ld, h3.read_unread, h4.read_unread, h6.read_unread, View.ld_unit_zero (S := S2048x1024) hz,
    View.ld_unit_zero (S := S1024x1024) hz, shapeCast_self]

/-- which then writes it out rounded. -/
theorem left_C (hc0 : ¬cond0_0 i) (hc1 : cond0_1 i) (hc2 : cond0_2 i) :
    out0_C_2 c i a3 h3 a4 h4 a5 h5 a6 h6 hc0 hc1 hc2 x w s = k0_pay4 (addf s (k0_pay1 x w)) := by
  unfold out0_C_2
  rw [View.read_writes_eq_canon _ _ _ (cover0_C_2 c i a3 h3 a4 h4 a5 h5 a6 h6 hc0 hc1 hc2 x w s)]
  unfold kernelRun0_C
  dsimp only
  sl_unfold_words
  rw [View.canon_unit_zero hz, View.readCov_unit_zero (S := S1024x1024) _ hz]
  unfold k0_pay3
  simp only [View.readAt_eq_ld, h3.read_unread, h4.read_unread, h6.read_unread, View.ld_unit_zero (S := S2048x1024) hz,
    View.ld_unit_zero (S := S1024x1024) hz, shapeCast_self]

end Found

variable (m : (ℓ : Loc nD τ sig) → Buf (Elt Ideal) ℓ) (c : Dev nD)

theorem prod_at (x w : Vec Ideal S2048x1024 .bf16) (a b : Fin 1024) :
    k0_pay1 (F := Ideal) x w (ix2 a b) = ∑ k, x (ix2 k a) * w (ix2 k b) := by
  pointwise [k0_pay1]

theorem ix_0 : ∀ t : Fin cfg0.N, win0_0.index t = ![t.val % 4, t.val / 4 / 3] := (by decide +kernel : ∀ t : Fin grid0.N, _)
theorem ix_1 : ∀ t : Fin cfg0.N, win0_1.index t = ![t.val % 4, t.val / 4 % 3] := (by decide +kernel : ∀ t : Fin grid0.N, _)

/-- The two argument arrays. -/
def arrL : S8192x1024.Idx → EReal := m ((c : Thread nD τ).loc main_arg0)
def arrR : S8192x3072.Idx → EReal := m ((c : Thread nD τ).loc main_arg1)

/-- The blocks of them a grid point reads. -/
def blkL (t : Fin cfg0.N) : S2048x1024.Idx → EReal := iblk m c 0 t
def blkR (t : Fin cfg0.N) : S2048x1024.Idx → EReal := iblk m c 1 t

/-- The column of the left and of the right array that block `r` of the result has at its row `a`, column `b`. -/
def colL (r : ℕ) (a : Fin 1024) : Fin 1024 := ⟨(1024 * (r / 3) + a.val) % 1024, Nat.mod_lt _ (by norm_num)⟩
def colR (r : ℕ) (b : Fin 1024) : Fin 3072 := ⟨(1024 * (r % 3) + b.val) % 3072, Nat.mod_lt _ (by norm_num)⟩

theorem lt_N (t : Fin cfg0.N) : t.val < 12 := lt_of_lt_of_eq t.isLt N_0

theorem blk_L (t : Fin cfg0.N) (k : Fin 2048) (a : Fin 1024) :
    blkL m c t (ix2 k a) = arrL m c (ix2 ⟨2048 * (t.val % 4) + k.val, by omega⟩ (colL (t.val / 4) a)) := by
  unfold blkL
  blk_simp [iblk]
  rw [V_main_arg0]
  unfold arrL
  congr 1
  have := lt_N t
  blk_ext [ix_0, colL]

theorem blk_R (t : Fin cfg0.N) (k : Fin 2048) (b : Fin 1024) :
    blkR m c t (ix2 k b) = arrR m c (ix2 ⟨2048 * (t.val % 4) + k.val, by omega⟩ (colR (t.val / 4) b)) := by
  unfold blkR
  blk_simp [iblk]
  rw [V_main_arg1]
  unfold arrR
  congr 1
  have := lt_N t
  blk_ext [ix_1, colR]

/-- The products that block `r` sums at its row `a`, column `b`. -/
def term (a b : Fin 1024) (r : ℕ) : Fin 8192 → EReal := fun q =>
  arrL m c (ix2 q (colL r a)) * arrR m c (ix2 q (colR r b))

/-- What is kept after each point. -/
theorem kept (a b : Fin 1024) : ∀ (t : ℕ) (h : t < cfg0.N),
    (outsAt0 m c t h).2 (ix2 a b) = Sums.upto (term m c a b (t / 4)) (2048 * (t % 4 + 1)) :=
  Sums.fold (fun t h => ((outsAt0 m c t h).2 (ix2 a b) : EReal)) (term m c a b)
    (fun t h h0 => by
      have hN : t < 12 := lt_N ⟨t, h⟩
      rw [outsAt0_A m c ⟨t, h⟩ h0 (by dsimp only; omega) (by dsimp only; omega)]
      dsimp only
      rw [keep_A, prod_at]
      refine (Sums.start _ (fun k => blkL m c ⟨t, h⟩ (ix2 k a) * blkR m c ⟨t, h⟩ (ix2 k b)) fun k => ⟨by omega, ?_⟩).symm
      rw [blk_L, blk_R]
      unfold term
      have hv : (⟨t, h⟩ : Fin cfg0.N).val = t := rfl
      congr 4 <;> omega)
    (fun t h h0 => by
      refine ⟨fun k => blkL m c ⟨t + 1, h⟩ (ix2 k a) * blkR m c ⟨t + 1, h⟩ (ix2 k b), ?_, fun k => ⟨by omega, ?_⟩⟩
      · by_cases h3 : (t + 1) % 4 = 3
        · rw [outsAt0_C m c ⟨t + 1, h⟩ h0 (by dsimp only; omega) h3]
          dsimp only
          rw [keep_C]
          exact congrArg (_ + ·) (prod_at _ _ a b)
        · rw [outsAt0_B m c ⟨t + 1, h⟩ h0 (by dsimp only; omega) h3]
          dsimp only
          rw [keep_B]
          exact congrArg (_ + ·) (prod_at _ _ a b)
      · dsimp only
        rw [blk_L, blk_R]
        rfl)

/-- What the last point of a block writes is what is kept. -/
theorem left_kept (t : Fin cfg0.N) (h : t.val % 4 = 3) (y : S1024x1024.Idx) :
    (outsAt0 m c t.val t.isLt).1 y = (outsAt0 m c t.val t.isLt).2 y := by
  rw [outsAt0_C m c t (by omega) (by omega) h]
  dsimp only
  rw [left_C, keep_C]
  rfl

/-- The kernel's result: every row is summed. -/
theorem res (i : Fin 1024) (j : Fin 3072) : ((dats m 0 c).arrAt 2 cfg0.N : S1024x3072.Idx → EReal) (ix2 i j)
    = ∑ q, arrL m c (ix2 q i) * arrR m c (ix2 q j) := by
  have hp : pt2Of (ix2 i j) = 4 * (3 * (i.val / 1024) + j.val / 1024) + 3 := by
    show 4 * (3 * (i.val / 1024 - 0) + 1 * (j.val / 1024 - 0)) + 3 = _
    omega
  have hN : pt2Of (ix2 i j) < cfg0.N := lt_of_lt_of_eq (by rw [hp]; omega) N_0.symm
  rw [final2]
  unfold G2
  rw [dif_pos hN]
  refine (congrArg (fun o => o.1 (loc2Of (ix2 i j))) (outsAt0_sweep m c _ hN).symm).trans ?_
  refine (left_kept m c ⟨_, hN⟩ (by show pt2Of (ix2 i j) % 4 = 3; rw [hp]; omega) _).trans ?_
  have hl : loc2Of (ix2 i j) = ix2 ⟨i.val % 1024, Nat.mod_lt _ (by norm_num)⟩ ⟨j.val % 1024, Nat.mod_lt _ (by norm_num)⟩ := by
    funext a; fin_cases a <;> rfl
  rw [hl]
  refine (kept m c _ _ _ hN).trans ?_
  have hd : pt2Of (ix2 i j) / 4 = 3 * (i.val / 1024) + j.val / 1024 := by rw [hp]; omega
  rw [hd, show 2048 * (pt2Of (ix2 i j) % 4 + 1) = 8192 by rw [hp]; omega, Sums.whole]
  refine Finset.sum_congr rfl fun q _ => ?_
  unfold term
  congr 3 <;> exact Fin.ext (by simp only [colL, colR]; omega)

end Cert.WgradPreIdeal.Sum

namespace Cert.WgradPreRefIdeal.Sum

open Idealize.ShloMosaic Idealize.ShloMosaic.TcCoe Idealize.SL.Sem Cert.WgradPreRefIdeal Cert.WgradPreRefIdeal.Gen

/-- The reference's result at an index. -/
theorem at_ix (x : FVec Ideal S8192x1024 .bf16) (w : FVec Ideal S8192x3072 .bf16) (i : Fin 1024) (j : Fin 3072) :
    (truncf .bf16 (transpose S1024x3072 [1, 0] (Host.dotGeneral dot_S8192x3072_S8192x1024_S3072x1024_0_0_1_1_n_n none
      (extf .f32 w bitsLt_bf16_f32) (extf .f32 x bitsLt_bf16_f32)) transposes_S3072x1024_S1024x3072_1_0) bitsLt_bf16_f32 : FVec Ideal S1024x3072 .bf16) (ix2 i j)
      = ∑ q, x (ix2 q i) * w (ix2 q j) := by
  have e : (transpose S1024x3072 [1, 0] (Host.dotGeneral dot_S8192x3072_S8192x1024_S3072x1024_0_0_1_1_n_n none
      (extf .f32 w bitsLt_bf16_f32) (extf .f32 x bitsLt_bf16_f32)) transposes_S3072x1024_S1024x3072_1_0 : FVec Ideal S1024x3072 .f32) (ix2 i j)
      = ∑ q, w (ix2 q j) * x (ix2 q i) := by
    pointwise []
  exact e.trans (Finset.sum_congr rfl fun q _ => mul_comm _ _)

end Cert.WgradPreRefIdeal.Sum

namespace Cert.WgradPre.Claims

open Idealize.ShloMosaic Idealize.ShloMosaic.TcCoe Idealize.SL.Sem

theorem algebraic : Cert.algebraic_WgradPreIdeal_WgradPreRefIdeal := by
  intro m g m' g' _ hag
  refine ⟨_, Cert.WgradPreIdeal.Value.run_blocks m g, ?_⟩
  refine (θ_run _ _ _).mono (fun r h c => ?_) (Cert.WgradPreRefIdeal.Value.run m' g')
  obtain ⟨r0, k⟩ := h c
  refine ⟨r0.trans ?_, k⟩
  refine Cert.Meet.ix2_all fun i j => ?_
  rw [(hag c).1, (hag c).2]
  exact (Cert.WgradPreRefIdeal.Sum.at_ix _ _ i j).trans (Cert.WgradPreIdeal.Sum.res m c i j).symm

end Cert.WgradPre.Claims

end
-- ==== Proof.WgradSq.lean ====
module

public import proofs.«01_k».proof.Defs
public import proofs.«01_k».proof.Proof.Sums
public import proofs.«01_k».proof.Proof.Meet
public import proofs.«01_k».proof.Proof.Gen.WgradSqIdeal.Value
public import proofs.«01_k».proof.Proof.Gen.WgradSqRefIdeal.Run
public import Idealize.ShloMosaic.Lib.Pipeline.ValueKit.Geometry

/-! The weight gradient of a product with 1024 columns on both sides. -/

@[expose] public section

set_option maxRecDepth 16384

noncomputable section

namespace Cert.WgradSqIdeal.Sum

open Idealize.ShloMosaic Idealize.ShloMosaic.TcCoe Idealize.SL.Sem Cert.WgradSqIdeal Cert.WgradSqIdeal.Gen Cert.WgradSqIdeal.Value

theorem hz : (![0, 0] : Fin 2 → Nat) = fun _ => 0 := funext fun a => by fin_cases a <;> rfl

section Found
variable {F : FTy → Type} [FloatOps F]
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x : Vec F S2048x1024 .bf16) (w : Vec F S2048x1024 .bf16) (s : Vec F S1024x1024 .f32)

/-- The first point of a block keeps the product of its rows. -/
theorem keep_A (hc0 : cond0_0 i) (hc1 : ¬cond0_1 i) (hc2 : ¬cond0_2 i) :
    sout0_A_0 c i a3 h3 a4 h4 a5 h5 a6 h6 hc0 hc1 hc2 x w = k0_pay1 x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero hz]
  unfold k0_pay2
  simp only [View.readAt_eq_ld, h3.read_unread, h4.read_unread, View.ld_unit_zero (S := S2048x1024) hz, shapeCast_self]

/-- A middle point adds the product of its rows to what was kept. -/
theorem keep_B (hc0 : ¬cond0_0 i) (hc1 : cond0_1 i) (hc2 : ¬cond0_2 i) :
    sout0_B_0 c i a3 h3 a4 h4 a5 h5 a6 h6 hc0 hc1 hc2 x w s = addf s (k0_pay1 x w) := by
  unfold sout0_B_0
  rw [View.read_writes_eq_canon _ _ _ (scover0_B_0 c i a3 h3 a4 h4 a5 h5 a6 h6 hc0 hc1 hc2 x w s)]
  unfold kernelRun0_B
  dsimp only
  rw [View.canon_unit_zero hz]
  unfold k0_pay3
  simp only [View.readAt_eq_ld, h3.read_unread, h4.read_unread, h6.read_unread, View.ld_unit_zero (S := S2048x1024) hz,
    View.ld_unit_zero (S := S1024x1024) hz, shapeCast_self]

/-- So does the last point, -/
theorem keep_C (hc0 : ¬cond0_0 i) (hc1 : cond0_1 i) (hc2 : cond0_2 i) :
    sout0_C_0 c i a3 h3 a4 h4 a5 h5 a6 h6 hc0 hc1 hc2 x w s = addf s (k0_pay1 x w) := by
  unfold sout0_C_0
  rw [View.read_writes_eq_canon _ _ _ (scover0_C_0 c i a3 h3 a4 h4 a5 h5 a6 h6 hc0 hc1 hc2 x w s)]
  unfold kernelRun0_C
  dsimp only
  sl_unfold_words
  rw [View.canon_unit_zero hz]
  unfold k0_pay3
  simp only [View.readAt_eq_ld, h3.read_unread, h4.read_unread, h6.read_unread, View.ld_unit_zero (S := S2048x1024) hz,
    View.ld_unit_zero (S := S1024x1024) hz, shapeCast_self]

/-- which then writes it out rounded. -/
theorem left_C (hc0 : ¬cond0_0 i) (hc1 : cond0_1 i) (hc2 : cond0_2 i) :
    out0_C_2 c i a3 h3 a4 h4 a5 h5 a6 h6 hc0 hc1 hc2 x w s = k0_pay4 (addf s (k0_pay1 x w)) := by
  unfold out0_C_2
  rw [View.read_writes_eq_canon _ _ _ (cover0_C_2 c i a3 h3 a4 h4 a5 h5 a6 h6 hc0 hc1 hc2 x w s)]
  unfold kernelRun0_C
  dsimp only
  sl_unfold_words
  rw [View.canon_unit_zero hz, View.readCov_unit_zero (S := S1024x1024) _ hz]
  unfold k0_pay3
  simp only [View.readAt_eq_ld, h3.read_unread, h4.read_unread, h6.read_unread, View.ld_unit_zero (S := S2048x1024) hz,
    View.ld_unit_zero (S := S1024x1024) hz, shapeCast_self]

end Found

variable (m : (ℓ : Loc nD τ sig) → Buf (Elt Ideal) ℓ) (c : Dev nD)

theorem prod_at (x : Vec Ideal S2048x1024 .bf16) (w : Vec Ideal S2048x1024 .bf16) (a : Fin 1024) (b : Fin 1024) :
    k0_pay1 (F := Ideal) x w (ix2 a b) = ∑ k, x (ix2 k a) * w (ix2 k b) := by
  pointwise [k0_pay1]

theorem ix_0 : ∀ t : Fin cfg0.N, win0_0.index t = ![t.val % 4, t.val / 4 / 1] := (by decide +kernel : ∀ t : Fin grid0.N, _)
theorem ix_1 : ∀ t : Fin cfg0.N, win0_1.index t = ![t.val % 4, t.val / 4 % 1] := (by decide +kernel : ∀ t : Fin grid0.N, _)

/-- The two argument arrays. -/
def arrL : S8192x1024.Idx → EReal := m ((c : Thread nD τ).loc main_arg0)
def arrR : S8192x1024.Idx → EReal := m ((c : Thread nD τ).loc main_arg1)

/-- The blocks of them a grid point reads. -/
def blkL (t : Fin cfg0.N) : S2048x1024.Idx → EReal := iblk m c 0 t
def blkR (t : Fin cfg0.N) : S2048x1024.Idx → EReal := iblk m c 1 t

/-- The column of the left and of the right array that block `r` of the result has at its row `a`, column `b`. -/
def colL (r : ℕ) (a : Fin 1024) : Fin 1024 := ⟨(1024 * (r / 1) + a.val) % 1024, Nat.mod_lt _ (by norm_num)⟩
def colR (r : ℕ) (b : Fin 1024) : Fin 1024 := ⟨(1024 * (r % 1) + b.val) % 1024, Nat.mod_lt _ (by norm_num)⟩

theorem lt_N (t : Fin cfg0.N) : t.val < 4 := lt_of_lt_of_eq t.isLt N_0

theorem blk_L (t : Fin cfg0.N) (k : Fin 2048) (a : Fin 1024) :
    blkL m c t (ix2 k a) = arrL m c (ix2 ⟨2048 * (t.val % 4) + k.val, by omega⟩ (colL (t.val / 4) a)) := by
  unfold blkL
  blk_simp [iblk]
  rw [V_main_arg0]
  unfold arrL
  congr 1
  have := lt_N t
  blk_ext [ix_0, colL]

theorem blk_R (t : Fin cfg0.N) (k : Fin 2048) (b : Fin 1024) :
    blkR m c t (ix2 k b) = arrR m c (ix2 ⟨2048 * (t.val % 4) + k.val, by omega⟩ (colR (t.val / 4) b)) := by
  unfold blkR
  blk_simp [iblk]
  rw [V_main_arg1]
  unfold arrR
  congr 1
  have := lt_N t
  blk_ext [ix_1, colR]

/-- The products that block `r` sums at its row `a`, column `b`. -/
def term (a : Fin 1024) (b : Fin 1024) (r : ℕ) : Fin 8192 → EReal := fun q =>
  arrL m c (ix2 q (colL r a)) * arrR m c (ix2 q (colR r b))

/-- What is kept after each point. -/
theorem kept (a : Fin 1024) (b : Fin 1024) : ∀ (t : ℕ) (h : t < cfg0.N),
    (outsAt0 m c t h).2 (ix2 a b) = Sums.upto (term m c a b (t / 4)) (2048 * (t % 4 + 1)) :=
  Sums.fold (fun t h => ((outsAt0 m c t h).2 (ix2 a b) : EReal)) (term m c a b)
    (fun t h h0 => by
      have hN : t < 4 := lt_N ⟨t, h⟩
      rw [outsAt0_A m c ⟨t, h⟩ h0 (by dsimp only; omega) (by dsimp only; omega)]
      dsimp only
      rw [keep_A, prod_at]
      refine (Sums.start _ (fun k => blkL m c ⟨t, h⟩ (ix2 k a) * blkR m c ⟨t, h⟩ (ix2 k b)) fun k => ⟨by omega, ?_⟩).symm
      rw [blk_L, blk_R]
      unfold term
      have hv : (⟨t, h⟩ : Fin cfg0.N).val = t := rfl
      congr 4 <;> omega)
    (fun t h h0 => by
      refine ⟨fun k => blkL m c ⟨t + 1, h⟩ (ix2 k a) * blkR m c ⟨t + 1, h⟩ (ix2 k b), ?_, fun k => ⟨by omega, ?_⟩⟩
      · by_cases h3 : (t + 1) % 4 = 3
        · rw [outsAt0_C m c ⟨t + 1, h⟩ h0 (by dsimp only; omega) h3]
          dsimp only
          rw [keep_C]
          exact congrArg (_ + ·) (prod_at _ _ a b)
        · rw [outsAt0_B m c ⟨t + 1, h⟩ h0 (by dsimp only; omega) h3]
          dsimp only
          rw [keep_B]
          exact congrArg (_ + ·) (prod_at _ _ a b)
      · dsimp only
        rw [blk_L, blk_R]
        rfl)

/-- What the last point of a block writes is what is kept. -/
theorem left_kept (t : Fin cfg0.N) (h : t.val % 4 = 3) (y : S1024x1024.Idx) :
    (outsAt0 m c t.val t.isLt).1 y = (outsAt0 m c t.val t.isLt).2 y := by
  rw [outsAt0_C m c t (by omega) (by omega) h]
  dsimp only
  rw [left_C, keep_C]
  rfl

/-- The kernel's result: every row is summed. -/
theorem res (i : Fin 1024) (j : Fin 1024) : ((dats m 0 c).arrAt 2 cfg0.N : S1024x1024.Idx → EReal) (ix2 i j)
    = ∑ q, arrL m c (ix2 q i) * arrR m c (ix2 q j) := by
  have hp : pt2Of (ix2 i j) = 4 * (1 * (i.val / 1024) + j.val / 1024) + 3 := by
    show 4 * (1 * (i.val / 1024 - 0) + 1 * (j.val / 1024 - 0)) + 3 = _
    omega
  have hN : pt2Of (ix2 i j) < cfg0.N := lt_of_lt_of_eq (by rw [hp]; omega) N_0.symm
  rw [final2]
  unfold G2
  rw [dif_pos hN]
  refine (congrArg (fun o => o.1 (loc2Of (ix2 i j))) (outsAt0_sweep m c _ hN).symm).trans ?_
  refine (left_kept m c ⟨_, hN⟩ (by show pt2Of (ix2 i j) % 4 = 3; rw [hp]; omega) _).trans ?_
  have hl : loc2Of (ix2 i j) = ix2 ⟨i.val % 1024, Nat.mod_lt _ (by norm_num)⟩ ⟨j.val % 1024, Nat.mod_lt _ (by norm_num)⟩ := by
    funext a; fin_cases a <;> rfl
  rw [hl]
  refine (kept m c _ _ _ hN).trans ?_
  have hd : pt2Of (ix2 i j) / 4 = 1 * (i.val / 1024) + j.val / 1024 := by rw [hp]; omega
  rw [hd, show 2048 * (pt2Of (ix2 i j) % 4 + 1) = 8192 by rw [hp]; omega, Sums.whole]
  refine Finset.sum_congr rfl fun q _ => ?_
  unfold term
  congr 3 <;> exact Fin.ext (by simp only [colL, colR]; omega)

end Cert.WgradSqIdeal.Sum

namespace Cert.WgradSqRefIdeal.Sum

open Idealize.ShloMosaic Idealize.ShloMosaic.TcCoe Idealize.SL.Sem Cert.WgradSqRefIdeal Cert.WgradSqRefIdeal.Gen

/-- The reference's result at an index. -/
theorem at_ix (x : FVec Ideal S8192x1024 .bf16) (w : FVec Ideal S8192x1024 .bf16) (i : Fin 1024) (j : Fin 1024) :
    (truncf .bf16 (transpose S1024x1024 [1, 0] (Host.dotGeneral dot_S8192x1024_S8192x1024_S1024x1024_0_0_1_1_n_n none
      (extf .f32 w bitsLt_bf16_f32) (extf .f32 x bitsLt_bf16_f32)) transposes_S1024x1024_S1024x1024_1_0) bitsLt_bf16_f32 : FVec Ideal S1024x1024 .bf16) (ix2 i j)
      = ∑ q, x (ix2 q i) * w (ix2 q j) := by
  have e : (transpose S1024x1024 [1, 0] (Host.dotGeneral dot_S8192x1024_S8192x1024_S1024x1024_0_0_1_1_n_n none
      (extf .f32 w bitsLt_bf16_f32) (extf .f32 x bitsLt_bf16_f32)) transposes_S1024x1024_S1024x1024_1_0 : FVec Ideal S1024x1024 .f32) (ix2 i j)
      = ∑ q, w (ix2 q j) * x (ix2 q i) := by
    pointwise []
  exact e.trans (Finset.sum_congr rfl fun q _ => mul_comm _ _)

end Cert.WgradSqRefIdeal.Sum

namespace Cert.WgradSq.Claims

open Idealize.ShloMosaic Idealize.ShloMosaic.TcCoe Idealize.SL.Sem

theorem algebraic : Cert.algebraic_WgradSqIdeal_WgradSqRefIdeal := by
  intro m g m' g' _ hag
  refine ⟨_, Cert.WgradSqIdeal.Value.run_blocks m g, ?_⟩
  refine (θ_run _ _ _).mono (fun r h c => ?_) (Cert.WgradSqRefIdeal.Value.run m' g')
  obtain ⟨r0, k⟩ := h c
  refine ⟨r0.trans ?_, k⟩
  refine Cert.Meet.ix2_all fun i j => ?_
  rw [(hag c).1, (hag c).2]
  exact (Cert.WgradSqRefIdeal.Sum.at_ix _ _ i j).trans (Cert.WgradSqIdeal.Sum.res m c i j).symm

end Cert.WgradSq.Claims

end
-- ==== Proof.WgradBa.lean ====
module

public import proofs.«01_k».proof.Defs
public import proofs.«01_k».proof.Proof.Sums
public import proofs.«01_k».proof.Proof.Meet
public import proofs.«01_k».proof.Proof.Gen.WgradBaIdeal.Value
public import proofs.«01_k».proof.Proof.Gen.WgradBaRefIdeal.Run
public import Idealize.ShloMosaic.Lib.Pipeline.ValueKit.Geometry

/-! The weight gradient of the input projection's last 512 columns. -/

@[expose] public section

set_option maxRecDepth 16384

noncomputable section

namespace Cert.WgradBaIdeal.Sum

open Idealize.ShloMosaic Idealize.ShloMosaic.TcCoe Idealize.SL.Sem Cert.WgradBaIdeal Cert.WgradBaIdeal.Gen Cert.WgradBaIdeal.Value

theorem hz : (![0, 0] : Fin 2 → Nat) = fun _ => 0 := funext fun a => by fin_cases a <;> rfl

section Found
variable {F : FTy → Type} [FloatOps F]
variable (c : Dev nD) (i : grid0.Coords) (a3 : Memref sig .tc .vmem S2048x1024 .bf16) (h3 : a3.IsWhole)
  (a4 : Memref sig .tc .vmem S2048x512 .bf16) (h4 : a4.IsWhole) (a5 : Memref sig .tc .vmem S1024x512 .bf16) (h5 : a5.IsWhole)
  (a6 : Memref sig .tc .vmem S1024x512 .f32) (h6 : a6.IsWhole)
  (x : Vec F S2048x1024 .bf16) (w : Vec F S2048x512 .bf16) (s : Vec F S1024x512 .f32)

/-- The first point of a block keeps the product of its rows. -/
theorem keep_A (hc0 : cond0_0 i) (hc1 : ¬cond0_1 i) (hc2 : ¬cond0_2 i) :
    sout0_A_0 c i a3 h3 a4 h4 a5 h5 a6 h6 hc0 hc1 hc2 x w = k0_pay1 x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero hz]
  unfold k0_pay2
  simp only [View.readAt_eq_ld, h3.read_unread, h4.read_unread, View.ld_unit_zero (S := S2048x1024) hz, View.ld_unit_zero (S := S2048x512) hz, shapeCast_self]

/-- A middle point adds the product of its rows to what was kept. -/
theorem keep_B (hc0 : ¬cond0_0 i) (hc1 : cond0_1 i) (hc2 : ¬cond0_2 i) :
    sout0_B_0 c i a3 h3 a4 h4 a5 h5 a6 h6 hc0 hc1 hc2 x w s = addf s (k0_pay1 x w) := by
  unfold sout0_B_0
  rw [View.read_writes_eq_canon _ _ _ (scover0_B_0 c i a3 h3 a4 h4 a5 h5 a6 h6 hc0 hc1 hc2 x w s)]
  unfold kernelRun0_B
  dsimp only
  rw [View.canon_unit_zero hz]
  unfold k0_pay3
  simp only [View.readAt_eq_ld, h3.read_unread, h4.read_unread, h6.read_unread, View.ld_unit_zero (S := S2048x1024) hz, View.ld_unit_zero (S := S2048x512) hz,
    View.ld_unit_zero (S := S1024x512) hz, shapeCast_self]

/-- So does the last point, -/
theorem keep_C (hc0 : ¬cond0_0 i) (hc1 : cond0_1 i) (hc2 : cond0_2 i) :
    sout0_C_0 c i a3 h3 a4 h4 a5 h5 a6 h6 hc0 hc1 hc2 x w s = addf s (k0_pay1 x w) := by
  unfold sout0_C_0
  rw [View.read_writes_eq_canon _ _ _ (scover0_C_0 c i a3 h3 a4 h4 a5 h5 a6 h6 hc0 hc1 hc2 x w s)]
  unfold kernelRun0_C
  dsimp only
  sl_unfold_words
  rw [View.canon_unit_zero hz]
  unfold k0_pay3
  simp only [View.readAt_eq_ld, h3.read_unread, h4.read_unread, h6.read_unread, View.ld_unit_zero (S := S2048x1024) hz, View.ld_unit_zero (S := S2048x512) hz,
    View.ld_unit_zero (S := S1024x512) hz, shapeCast_self]

/-- which then writes it out rounded. -/
theorem left_C (hc0 : ¬cond0_0 i) (hc1 : cond0_1 i) (hc2 : cond0_2 i) :
    out0_C_2 c i a3 h3 a4 h4 a5 h5 a6 h6 hc0 hc1 hc2 x w s = k0_pay4 (addf s (k0_pay1 x w)) := by
  unfold out0_C_2
  rw [View.read_writes_eq_canon _ _ _ (cover0_C_2 c i a3 h3 a4 h4 a5 h5 a6 h6 hc0 hc1 hc2 x w s)]
  unfold kernelRun0_C
  dsimp only
  sl_unfold_words
  rw [View.canon_unit_zero hz, View.readCov_unit_zero (S := S1024x512) _ hz]
  unfold k0_pay3
  simp only [View.readAt_eq_ld, h3.read_unread, h4.read_unread, h6.read_unread, View.ld_unit_zero (S := S2048x1024) hz, View.ld_unit_zero (S := S2048x512) hz,
    View.ld_unit_zero (S := S1024x512) hz, shapeCast_self]

end Found

variable (m : (ℓ : Loc nD τ sig) → Buf (Elt Ideal) ℓ) (c : Dev nD)

theorem prod_at (x : Vec Ideal S2048x1024 .bf16) (w : Vec Ideal S2048x512 .bf16) (a : Fin 1024) (b : Fin 512) :
    k0_pay1 (F := Ideal) x w (ix2 a b) = ∑ k, x (ix2 k a) * w (ix2 k b) := by
  pointwise [k0_pay1]

theorem ix_0 : ∀ t : Fin cfg0.N, win0_0.index t = ![t.val % 4, t.val / 4 / 1] := (by decide +kernel : ∀ t : Fin grid0.N, _)
theorem ix_1 : ∀ t : Fin cfg0.N, win0_1.index t = ![t.val % 4, t.val / 4 % 1] := (by decide +kernel : ∀ t : Fin grid0.N, _)

/-- The two argument arrays. -/
def arrL : S8192x1024.Idx → EReal := m ((c : Thread nD τ).loc main_arg0)
def arrR : S8192x512.Idx → EReal := m ((c : Thread nD τ).loc main_arg1)

/-- The blocks of them a grid point reads. -/
def blkL (t : Fin cfg0.N) : S2048x1024.Idx → EReal := iblk m c 0 t
def blkR (t : Fin cfg0.N) : S2048x512.Idx → EReal := iblk m c 1 t

/-- The column of the left and of the right array that block `r` of the result has at its row `a`, column `b`. -/
def colL (r : ℕ) (a : Fin 1024) : Fin 1024 := ⟨(1024 * (r / 1) + a.val) % 1024, Nat.mod_lt _ (by norm_num)⟩
def colR (r : ℕ) (b : Fin 512) : Fin 512 := ⟨(512 * (r % 1) + b.val) % 512, Nat.mod_lt _ (by norm_num)⟩

theorem lt_N (t : Fin cfg0.N) : t.val < 4 := lt_of_lt_of_eq t.isLt N_0

theorem blk_L (t : Fin cfg0.N) (k : Fin 2048) (a : Fin 1024) :
    blkL m c t (ix2 k a) = arrL m c (ix2 ⟨2048 * (t.val % 4) + k.val, by omega⟩ (colL (t.val / 4) a)) := by
  unfold blkL
  blk_simp [iblk]
  rw [V_main_arg0]
  unfold arrL
  congr 1
  have := lt_N t
  blk_ext [ix_0, colL]

theorem blk_R (t : Fin cfg0.N) (k : Fin 2048) (b : Fin 512) :
    blkR m c t (ix2 k b) = arrR m c (ix2 ⟨2048 * (t.val % 4) + k.val, by omega⟩ (colR (t.val / 4) b)) := by
  unfold blkR
  blk_simp [iblk]
  rw [V_main_arg1]
  unfold arrR
  congr 1
  have := lt_N t
  blk_ext [ix_1, colR]

/-- The products that block `r` sums at its row `a`, column `b`. -/
def term (a : Fin 1024) (b : Fin 512) (r : ℕ) : Fin 8192 → EReal := fun q =>
  arrL m c (ix2 q (colL r a)) * arrR m c (ix2 q (colR r b))

/-- What is kept after each point. -/
theorem kept (a : Fin 1024) (b : Fin 512) : ∀ (t : ℕ) (h : t < cfg0.N),
    (outsAt0 m c t h).2 (ix2 a b) = Sums.upto (term m c a b (t / 4)) (2048 * (t % 4 + 1)) :=
  Sums.fold (fun t h => ((outsAt0 m c t h).2 (ix2 a b) : EReal)) (term m c a b)
    (fun t h h0 => by
      have hN : t < 4 := lt_N ⟨t, h⟩
      rw [outsAt0_A m c ⟨t, h⟩ h0 (by dsimp only; omega) (by dsimp only; omega)]
      dsimp only
      rw [keep_A, prod_at]
      refine (Sums.start _ (fun k => blkL m c ⟨t, h⟩ (ix2 k a) * blkR m c ⟨t, h⟩ (ix2 k b)) fun k => ⟨by omega, ?_⟩).symm
      rw [blk_L, blk_R]
      unfold term
      have hv : (⟨t, h⟩ : Fin cfg0.N).val = t := rfl
      congr 4 <;> omega)
    (fun t h h0 => by
      refine ⟨fun k => blkL m c ⟨t + 1, h⟩ (ix2 k a) * blkR m c ⟨t + 1, h⟩ (ix2 k b), ?_, fun k => ⟨by omega, ?_⟩⟩
      · by_cases h3 : (t + 1) % 4 = 3
        · rw [outsAt0_C m c ⟨t + 1, h⟩ h0 (by dsimp only; omega) h3]
          dsimp only
          rw [keep_C]
          exact congrArg (_ + ·) (prod_at _ _ a b)
        · rw [outsAt0_B m c ⟨t + 1, h⟩ h0 (by dsimp only; omega) h3]
          dsimp only
          rw [keep_B]
          exact congrArg (_ + ·) (prod_at _ _ a b)
      · dsimp only
        rw [blk_L, blk_R]
        rfl)

/-- What the last point of a block writes is what is kept. -/
theorem left_kept (t : Fin cfg0.N) (h : t.val % 4 = 3) (y : S1024x512.Idx) :
    (outsAt0 m c t.val t.isLt).1 y = (outsAt0 m c t.val t.isLt).2 y := by
  rw [outsAt0_C m c t (by omega) (by omega) h]
  dsimp only
  rw [left_C, keep_C]
  rfl

/-- The kernel's result: every row is summed. -/
theorem res (i : Fin 1024) (j : Fin 512) : ((dats m 0 c).arrAt 2 cfg0.N : S1024x512.Idx → EReal) (ix2 i j)
    = ∑ q, arrL m c (ix2 q i) * arrR m c (ix2 q j) := by
  have hp : pt2Of (ix2 i j) = 4 * (1 * (i.val / 1024) + j.val / 512) + 3 := by
    show 4 * (1 * (i.val / 1024 - 0) + 1 * (j.val / 512 - 0)) + 3 = _
    omega
  have hN : pt2Of (ix2 i j) < cfg0.N := lt_of_lt_of_eq (by rw [hp]; omega) N_0.symm
  rw [final2]
  unfold G2
  rw [dif_pos hN]
  refine (congrArg (fun o => o.1 (loc2Of (ix2 i j))) (outsAt0_sweep m c _ hN).symm).trans ?_
  refine (left_kept m c ⟨_, hN⟩ (by show pt2Of (ix2 i j) % 4 = 3; rw [hp]; omega) _).trans ?_
  have hl : loc2Of (ix2 i j) = ix2 ⟨i.val % 1024, Nat.mod_lt _ (by norm_num)⟩ ⟨j.val % 512, Nat.mod_lt _ (by norm_num)⟩ := by
    funext a; fin_cases a <;> rfl
  rw [hl]
  refine (kept m c _ _ _ hN).trans ?_
  have hd : pt2Of (ix2 i j) / 4 = 1 * (i.val / 1024) + j.val / 512 := by rw [hp]; omega
  rw [hd, show 2048 * (pt2Of (ix2 i j) % 4 + 1) = 8192 by rw [hp]; omega, Sums.whole]
  refine Finset.sum_congr rfl fun q _ => ?_
  unfold term
  congr 3 <;> exact Fin.ext (by simp only [colL, colR]; omega)

end Cert.WgradBaIdeal.Sum

namespace Cert.WgradBaRefIdeal.Sum

open Idealize.ShloMosaic Idealize.ShloMosaic.TcCoe Idealize.SL.Sem Cert.WgradBaRefIdeal Cert.WgradBaRefIdeal.Gen

/-- The reference's result at an index. -/
theorem at_ix (x : FVec Ideal S8192x1024 .bf16) (w : FVec Ideal S8192x512 .bf16) (i : Fin 1024) (j : Fin 512) :
    (truncf .bf16 (transpose S1024x512 [1, 0] (Host.dotGeneral dot_S8192x512_S8192x1024_S512x1024_0_0_1_1_n_n none
      (extf .f32 w bitsLt_bf16_f32) (extf .f32 x bitsLt_bf16_f32)) transposes_S512x1024_S1024x512_1_0) bitsLt_bf16_f32 : FVec Ideal S1024x512 .bf16) (ix2 i j)
      = ∑ q, x (ix2 q i) * w (ix2 q j) := by
  have e : (transpose S1024x512 [1, 0] (Host.dotGeneral dot_S8192x512_S8192x1024_S512x1024_0_0_1_1_n_n none
      (extf .f32 w bitsLt_bf16_f32) (extf .f32 x bitsLt_bf16_f32)) transposes_S512x1024_S1024x512_1_0 : FVec Ideal S1024x512 .f32) (ix2 i j)
      = ∑ q, w (ix2 q j) * x (ix2 q i) := by
    pointwise []
  exact e.trans (Finset.sum_congr rfl fun q _ => mul_comm _ _)

end Cert.WgradBaRefIdeal.Sum

namespace Cert.WgradBa.Claims

open Idealize.ShloMosaic Idealize.ShloMosaic.TcCoe Idealize.SL.Sem

theorem algebraic : Cert.algebraic_WgradBaIdeal_WgradBaRefIdeal := by
  intro m g m' g' _ hag
  refine ⟨_, Cert.WgradBaIdeal.Value.run_blocks m g, ?_⟩
  refine (θ_run _ _ _).mono (fun r h c => ?_) (Cert.WgradBaRefIdeal.Value.run m' g')
  obtain ⟨r0, k⟩ := h c
  refine ⟨r0.trans ?_, k⟩
  refine Cert.Meet.ix2_all fun i j => ?_
  rw [(hag c).1, (hag c).2]
  exact (Cert.WgradBaRefIdeal.Sum.at_ix _ _ i j).trans (Cert.WgradBaIdeal.Sum.res m c i j).symm

end Cert.WgradBa.Claims

end
-- ==== Proof.WgradUp.lean ====
module

public import proofs.«01_k».proof.Defs
public import proofs.«01_k».proof.Proof.Sums
public import proofs.«01_k».proof.Proof.Meet
public import proofs.«01_k».proof.Proof.Gen.WgradUpIdeal.Value
public import proofs.«01_k».proof.Proof.Gen.WgradUpRefIdeal.Run
public import Idealize.ShloMosaic.Lib.Pipeline.ValueKit.Geometry

/-! The weight gradient of the up projection. -/

@[expose] public section

set_option maxRecDepth 16384

noncomputable section

namespace Cert.WgradUpIdeal.Sum

open Idealize.ShloMosaic Idealize.ShloMosaic.TcCoe Idealize.SL.Sem Cert.WgradUpIdeal Cert.WgradUpIdeal.Gen Cert.WgradUpIdeal.Value

theorem hz : (![0, 0] : Fin 2 → Nat) = fun _ => 0 := funext fun a => by fin_cases a <;> rfl

section Found
variable {F : FTy → Type} [FloatOps F]
variable (c : Dev nD) (i : grid0.Coords) (a3 : Memref sig .tc .vmem S2048x1024 .bf16) (h3 : a3.IsWhole)
  (a4 : Memref sig .tc .vmem S2048x512 .bf16) (h4 : a4.IsWhole) (a5 : Memref sig .tc .vmem S1024x512 .bf16) (h5 : a5.IsWhole)
  (a6 : Memref sig .tc .vmem S1024x512 .f32) (h6 : a6.IsWhole)
  (x : Vec F S2048x1024 .bf16) (w : Vec F S2048x512 .bf16) (s : Vec F S1024x512 .f32)

/-- The first point of a block keeps the product of its rows. -/
theorem keep_A (hc0 : cond0_0 i) (hc1 : ¬cond0_1 i) (hc2 : ¬cond0_2 i) :
    sout0_A_0 c i a3 h3 a4 h4 a5 h5 a6 h6 hc0 hc1 hc2 x w = k0_pay1 x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero hz]
  unfold k0_pay2
  simp only [View.readAt_eq_ld, h3.read_unread, h4.read_unread, View.ld_unit_zero (S := S2048x1024) hz, View.ld_unit_zero (S := S2048x512) hz, shapeCast_self]

/-- A middle point adds the product of its rows to what was kept. -/
theorem keep_B (hc0 : ¬cond0_0 i) (hc1 : cond0_1 i) (hc2 : ¬cond0_2 i) :
    sout0_B_0 c i a3 h3 a4 h4 a5 h5 a6 h6 hc0 hc1 hc2 x w s = addf s (k0_pay1 x w) := by
  unfold sout0_B_0
  rw [View.read_writes_eq_canon _ _ _ (scover0_B_0 c i a3 h3 a4 h4 a5 h5 a6 h6 hc0 hc1 hc2 x w s)]
  unfold kernelRun0_B
  dsimp only
  rw [View.canon_unit_zero hz]
  unfold k0_pay3
  simp only [View.readAt_eq_ld, h3.read_unread, h4.read_unread, h6.read_unread, View.ld_unit_zero (S := S2048x1024) hz, View.ld_unit_zero (S := S2048x512) hz,
    View.ld_unit_zero (S := S1024x512) hz, shapeCast_self]

/-- So does the last point, -/
theorem keep_C (hc0 : ¬cond0_0 i) (hc1 : cond0_1 i) (hc2 : cond0_2 i) :
    sout0_C_0 c i a3 h3 a4 h4 a5 h5 a6 h6 hc0 hc1 hc2 x w s = addf s (k0_pay1 x w) := by
  unfold sout0_C_0
  rw [View.read_writes_eq_canon _ _ _ (scover0_C_0 c i a3 h3 a4 h4 a5 h5 a6 h6 hc0 hc1 hc2 x w s)]
  unfold kernelRun0_C
  dsimp only
  sl_unfold_words
  rw [View.canon_unit_zero hz]
  unfold k0_pay3
  simp only [View.readAt_eq_ld, h3.read_unread, h4.read_unread, h6.read_unread, View.ld_unit_zero (S := S2048x1024) hz, View.ld_unit_zero (S := S2048x512) hz,
    View.ld_unit_zero (S := S1024x512) hz, shapeCast_self]

/-- which then writes it out rounded. -/
theorem left_C (hc0 : ¬cond0_0 i) (hc1 : cond0_1 i) (hc2 : cond0_2 i) :
    out0_C_2 c i a3 h3 a4 h4 a5 h5 a6 h6 hc0 hc1 hc2 x w s = k0_pay4 (addf s (k0_pay1 x w)) := by
  unfold out0_C_2
  rw [View.read_writes_eq_canon _ _ _ (cover0_C_2 c i a3 h3 a4 h4 a5 h5 a6 h6 hc0 hc1 hc2 x w s)]
  unfold kernelRun0_C
  dsimp only
  sl_unfold_words
  rw [View.canon_unit_zero hz, View.readCov_unit_zero (S := S1024x512) _ hz]
  unfold k0_pay3
  simp only [View.readAt_eq_ld, h3.read_unread, h4.read_unread, h6.read_unread, View.ld_unit_zero (S := S2048x1024) hz, View.ld_unit_zero (S := S2048x512) hz,
    View.ld_unit_zero (S := S1024x512) hz, shapeCast_self]

end Found

variable (m : (ℓ : Loc nD τ sig) → Buf (Elt Ideal) ℓ) (c : Dev nD)

theorem prod_at (x : Vec Ideal S2048x1024 .bf16) (w : Vec Ideal S2048x512 .bf16) (a : Fin 1024) (b : Fin 512) :
    k0_pay1 (F := Ideal) x w (ix2 a b) = ∑ k, x (ix2 k a) * w (ix2 k b) := by
  pointwise [k0_pay1]

theorem ix_0 : ∀ t : Fin cfg0.N, win0_0.index t = ![t.val % 4, t.val / 4 / 11] := (by decide +kernel : ∀ t : Fin grid0.N, _)
theorem ix_1 : ∀ t : Fin cfg0.N, win0_1.index t = ![t.val % 4, t.val / 4 % 11] := (by decide +kernel : ∀ t : Fin grid0.N, _)

/-- The two argument arrays. -/
def arrL : S8192x1024.Idx → EReal := m ((c : Thread nD τ).loc main_arg0)
def arrR : S8192x5632.Idx → EReal := m ((c : Thread nD τ).loc main_arg1)

/-- The blocks of them a grid point reads. -/
def blkL (t : Fin cfg0.N) : S2048x1024.Idx → EReal := iblk m c 0 t
def blkR (t : Fin cfg0.N) : S2048x512.Idx → EReal := iblk m c 1 t

/-- The column of the left and of the right array that block `r` of the result has at its row `a`, column `b`. -/
def colL (r : ℕ) (a : Fin 1024) : Fin 1024 := ⟨(1024 * (r / 11) + a.val) % 1024, Nat.mod_lt _ (by norm_num)⟩
def colR (r : ℕ) (b : Fin 512) : Fin 5632 := ⟨(512 * (r % 11) + b.val) % 5632, Nat.mod_lt _ (by norm_num)⟩

theorem lt_N (t : Fin cfg0.N) : t.val < 44 := lt_of_lt_of_eq t.isLt N_0

theorem blk_L (t : Fin cfg0.N) (k : Fin 2048) (a : Fin 1024) :
    blkL m c t (ix2 k a) = arrL m c (ix2 ⟨2048 * (t.val % 4) + k.val, by omega⟩ (colL (t.val / 4) a)) := by
  unfold blkL
  blk_simp [iblk]
  rw [V_main_arg0]
  unfold arrL
  congr 1
  have := lt_N t
  blk_ext [ix_0, colL]

theorem blk_R (t : Fin cfg0.N) (k : Fin 2048) (b : Fin 512) :
    blkR m c t (ix2 k b) = arrR m c (ix2 ⟨2048 * (t.val % 4) + k.val, by omega⟩ (colR (t.val / 4) b)) := by
  unfold blkR
  blk_simp [iblk]
  rw [V_main_arg1]
  unfold arrR
  congr 1
  have := lt_N t
  blk_ext [ix_1, colR]

/-- The products that block `r` sums at its row `a`, column `b`. -/
def term (a : Fin 1024) (b : Fin 512) (r : ℕ) : Fin 8192 → EReal := fun q =>
  arrL m c (ix2 q (colL r a)) * arrR m c (ix2 q (colR r b))

/-- What is kept after each point. -/
theorem kept (a : Fin 1024) (b : Fin 512) : ∀ (t : ℕ) (h : t < cfg0.N),
    (outsAt0 m c t h).2 (ix2 a b) = Sums.upto (term m c a b (t / 4)) (2048 * (t % 4 + 1)) :=
  Sums.fold (fun t h => ((outsAt0 m c t h).2 (ix2 a b) : EReal)) (term m c a b)
    (fun t h h0 => by
      have hN : t < 44 := lt_N ⟨t, h⟩
      rw [outsAt0_A m c ⟨t, h⟩ h0 (by dsimp only; omega) (by dsimp only; omega)]
      dsimp only
      rw [keep_A, prod_at]
      refine (Sums.start _ (fun k => blkL m c ⟨t, h⟩ (ix2 k a) * blkR m c ⟨t, h⟩ (ix2 k b)) fun k => ⟨by omega, ?_⟩).symm
      rw [blk_L, blk_R]
      unfold term
      have hv : (⟨t, h⟩ : Fin cfg0.N).val = t := rfl
      congr 4 <;> omega)
    (fun t h h0 => by
      refine ⟨fun k => blkL m c ⟨t + 1, h⟩ (ix2 k a) * blkR m c ⟨t + 1, h⟩ (ix2 k b), ?_, fun k => ⟨by omega, ?_⟩⟩
      · by_cases h3 : (t + 1) % 4 = 3
        · rw [outsAt0_C m c ⟨t + 1, h⟩ h0 (by dsimp only; omega) h3]
          dsimp only
          rw [keep_C]
          exact congrArg (_ + ·) (prod_at _ _ a b)
        · rw [outsAt0_B m c ⟨t + 1, h⟩ h0 (by dsimp only; omega) h3]
          dsimp only
          rw [keep_B]
          exact congrArg (_ + ·) (prod_at _ _ a b)
      · dsimp only
        rw [blk_L, blk_R]
        rfl)

/-- What the last point of a block writes is what is kept. -/
theorem left_kept (t : Fin cfg0.N) (h : t.val % 4 = 3) (y : S1024x512.Idx) :
    (outsAt0 m c t.val t.isLt).1 y = (outsAt0 m c t.val t.isLt).2 y := by
  rw [outsAt0_C m c t (by omega) (by omega) h]
  dsimp only
  rw [left_C, keep_C]
  rfl

/-- The kernel's result: every row is summed. -/
theorem res (i : Fin 1024) (j : Fin 5632) : ((dats m 0 c).arrAt 2 cfg0.N : S1024x5632.Idx → EReal) (ix2 i j)
    = ∑ q, arrL m c (ix2 q i) * arrR m c (ix2 q j) := by
  have hp : pt2Of (ix2 i j) = 4 * (11 * (i.val / 1024) + j.val / 512) + 3 := by
    show 4 * (11 * (i.val / 1024 - 0) + 1 * (j.val / 512 - 0)) + 3 = _
    omega
  have hN : pt2Of (ix2 i j) < cfg0.N := lt_of_lt_of_eq (by rw [hp]; omega) N_0.symm
  rw [final2]
  unfold G2
  rw [dif_pos hN]
  refine (congrArg (fun o => o.1 (loc2Of (ix2 i j))) (outsAt0_sweep m c _ hN).symm).trans ?_
  refine (left_kept m c ⟨_, hN⟩ (by show pt2Of (ix2 i j) % 4 = 3; rw [hp]; omega) _).trans ?_
  have hl : loc2Of (ix2 i j) = ix2 ⟨i.val % 1024, Nat.mod_lt _ (by norm_num)⟩ ⟨j.val % 512, Nat.mod_lt _ (by norm_num)⟩ := by
    funext a; fin_cases a <;> rfl
  rw [hl]
  refine (kept m c _ _ _ hN).trans ?_
  have hd : pt2Of (ix2 i j) / 4 = 11 * (i.val / 1024) + j.val / 512 := by rw [hp]; omega
  rw [hd, show 2048 * (pt2Of (ix2 i j) % 4 + 1) = 8192 by rw [hp]; omega, Sums.whole]
  refine Finset.sum_congr rfl fun q _ => ?_
  unfold term
  congr 3 <;> exact Fin.ext (by simp only [colL, colR]; omega)

end Cert.WgradUpIdeal.Sum

namespace Cert.WgradUpRefIdeal.Sum

open Idealize.ShloMosaic Idealize.ShloMosaic.TcCoe Idealize.SL.Sem Cert.WgradUpRefIdeal Cert.WgradUpRefIdeal.Gen

/-- The reference's result at an index. -/
theorem at_ix (x : FVec Ideal S8192x1024 .bf16) (w : FVec Ideal S8192x5632 .bf16) (i : Fin 1024) (j : Fin 5632) :
    (truncf .bf16 (transpose S1024x5632 [1, 0] (Host.dotGeneral dot_S8192x5632_S8192x1024_S5632x1024_0_0_1_1_n_n none
      (extf .f32 w bitsLt_bf16_f32) (extf .f32 x bitsLt_bf16_f32)) transposes_S5632x1024_S1024x5632_1_0) bitsLt_bf16_f32 : FVec Ideal S1024x5632 .bf16) (ix2 i j)
      = ∑ q, x (ix2 q i) * w (ix2 q j) := by
  have e : (transpose S1024x5632 [1, 0] (Host.dotGeneral dot_S8192x5632_S8192x1024_S5632x1024_0_0_1_1_n_n none
      (extf .f32 w bitsLt_bf16_f32) (extf .f32 x bitsLt_bf16_f32)) transposes_S5632x1024_S1024x5632_1_0 : FVec Ideal S1024x5632 .f32) (ix2 i j)
      = ∑ q, w (ix2 q j) * x (ix2 q i) := by
    pointwise []
  exact e.trans (Finset.sum_congr rfl fun q _ => mul_comm _ _)

end Cert.WgradUpRefIdeal.Sum

namespace Cert.WgradUp.Claims

open Idealize.ShloMosaic Idealize.ShloMosaic.TcCoe Idealize.SL.Sem

theorem algebraic : Cert.algebraic_WgradUpIdeal_WgradUpRefIdeal := by
  intro m g m' g' _ hag
  refine ⟨_, Cert.WgradUpIdeal.Value.run_blocks m g, ?_⟩
  refine (θ_run _ _ _).mono (fun r h c => ?_) (Cert.WgradUpRefIdeal.Value.run m' g')
  obtain ⟨r0, k⟩ := h c
  refine ⟨r0.trans ?_, k⟩
  refine Cert.Meet.ix2_all fun i j => ?_
  rw [(hag c).1, (hag c).2]
  exact (Cert.WgradUpRefIdeal.Sum.at_ix _ _ i j).trans (Cert.WgradUpIdeal.Sum.res m c i j).symm

end Cert.WgradUp.Claims

end
-- ==== Proof.WgradDown.lean ====
module

public import proofs.«01_k».proof.Defs
public import proofs.«01_k».proof.Proof.Sums
public import proofs.«01_k».proof.Proof.Meet
public import proofs.«01_k».proof.Proof.Gen.WgradDownIdeal.Value
public import proofs.«01_k».proof.Proof.Gen.WgradDownRefIdeal.Run
public import Idealize.ShloMosaic.Lib.Pipeline.ValueKit.Geometry

/-! The weight gradient of the down projection. -/

@[expose] public section

set_option maxRecDepth 16384

noncomputable section

namespace Cert.WgradDownIdeal.Sum

open Idealize.ShloMosaic Idealize.ShloMosaic.TcCoe Idealize.SL.Sem Cert.WgradDownIdeal Cert.WgradDownIdeal.Gen Cert.WgradDownIdeal.Value

theorem hz : (![0, 0] : Fin 2 → Nat) = fun _ => 0 := funext fun a => by fin_cases a <;> rfl

section Found
variable {F : FTy → Type} [FloatOps F]
variable (c : Dev nD) (i : grid0.Coords) (a3 : Memref sig .tc .vmem S2048x256 .bf16) (h3 : a3.IsWhole)
  (a4 : Memref sig .tc .vmem S2048x1024 .bf16) (h4 : a4.IsWhole) (a5 : Memref sig .tc .vmem S256x1024 .bf16) (h5 : a5.IsWhole)
  (a6 : Memref sig .tc .vmem S256x1024 .f32) (h6 : a6.IsWhole)
  (x : Vec F S2048x256 .bf16) (w : Vec F S2048x1024 .bf16) (s : Vec F S256x1024 .f32)

/-- The first point of a block keeps the product of its rows. -/
theorem keep_A (hc0 : cond0_0 i) (hc1 : ¬cond0_1 i) (hc2 : ¬cond0_2 i) :
    sout0_A_0 c i a3 h3 a4 h4 a5 h5 a6 h6 hc0 hc1 hc2 x w = k0_pay1 x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero hz]
  unfold k0_pay2
  simp only [View.readAt_eq_ld, h3.read_unread, h4.read_unread, View.ld_unit_zero (S := S2048x256) hz, View.ld_unit_zero (S := S2048x1024) hz, shapeCast_self]

/-- A middle point adds the product of its rows to what was kept. -/
theorem keep_B (hc0 : ¬cond0_0 i) (hc1 : cond0_1 i) (hc2 : ¬cond0_2 i) :
    sout0_B_0 c i a3 h3 a4 h4 a5 h5 a6 h6 hc0 hc1 hc2 x w s = addf s (k0_pay1 x w) := by
  unfold sout0_B_0
  rw [View.read_writes_eq_canon _ _ _ (scover0_B_0 c i a3 h3 a4 h4 a5 h5 a6 h6 hc0 hc1 hc2 x w s)]
  unfold kernelRun0_B
  dsimp only
  rw [View.canon_unit_zero hz]
  unfold k0_pay3
  simp only [View.readAt_eq_ld, h3.read_unread, h4.read_unread, h6.read_unread, View.ld_unit_zero (S := S2048x256) hz, View.ld_unit_zero (S := S2048x1024) hz,
    View.ld_unit_zero (S := S256x1024) hz, shapeCast_self]

/-- So does the last point, -/
theorem keep_C (hc0 : ¬cond0_0 i) (hc1 : cond0_1 i) (hc2 : cond0_2 i) :
    sout0_C_0 c i a3 h3 a4 h4 a5 h5 a6 h6 hc0 hc1 hc2 x w s = addf s (k0_pay1 x w) := by
  unfold sout0_C_0
  rw [View.read_writes_eq_canon _ _ _ (scover0_C_0 c i a3 h3 a4 h4 a5 h5 a6 h6 hc0 hc1 hc2 x w s)]
  unfold kernelRun0_C
  dsimp only
  sl_unfold_words
  rw [View.canon_unit_zero hz]
  unfold k0_pay3
  simp only [View.readAt_eq_ld, h3.read_unread, h4.read_unread, h6.read_unread, View.ld_unit_zero (S := S2048x256) hz, View.ld_unit_zero (S := S2048x1024) hz,
    View.ld_unit_zero (S := S256x1024) hz, shapeCast_self]

/-- which then writes it out rounded. -/
theorem left_C (hc0 : ¬cond0_0 i) (hc1 : cond0_1 i) (hc2 : cond0_2 i) :
    out0_C_2 c i a3 h3 a4 h4 a5 h5 a6 h6 hc0 hc1 hc2 x w s = k0_pay4 (addf s (k0_pay1 x w)) := by
  unfold out0_C_2
  rw [View.read_writes_eq_canon _ _ _ (cover0_C_2 c i a3 h3 a4 h4 a5 h5 a6 h6 hc0 hc1 hc2 x w s)]
  unfold kernelRun0_C
  dsimp only
  sl_unfold_words
  rw [View.canon_unit_zero hz, View.readCov_unit_zero (S := S256x1024) _ hz]
  unfold k0_pay3
  simp only [View.readAt_eq_ld, h3.read_unread, h4.read_unread, h6.read_unread, View.ld_unit_zero (S := S2048x256) hz, View.ld_unit_zero (S := S2048x1024) hz,
    View.ld_unit_zero (S := S256x1024) hz, shapeCast_self]

end Found

variable (m : (ℓ : Loc nD τ sig) → Buf (Elt Ideal) ℓ) (c : Dev nD)

theorem prod_at (x : Vec Ideal S2048x256 .bf16) (w : Vec Ideal S2048x1024 .bf16) (a : Fin 256) (b : Fin 1024) :
    k0_pay1 (F := Ideal) x w (ix2 a b) = ∑ k, x (ix2 k a) * w (ix2 k b) := by
  pointwise [k0_pay1]

theorem ix_0 : ∀ t : Fin cfg0.N, win0_0.index t = ![t.val % 4, t.val / 4 / 1] := (by decide +kernel : ∀ t : Fin grid0.N, _)
theorem ix_1 : ∀ t : Fin cfg0.N, win0_1.index t = ![t.val % 4, t.val / 4 % 1] := (by decide +kernel : ∀ t : Fin grid0.N, _)

/-- The two argument arrays. -/
def arrL : S8192x2816.Idx → EReal := m ((c : Thread nD τ).loc main_arg0)
def arrR : S8192x1024.Idx → EReal := m ((c : Thread nD τ).loc main_arg1)

/-- The blocks of them a grid point reads. -/
def blkL (t : Fin cfg0.N) : S2048x256.Idx → EReal := iblk m c 0 t
def blkR (t : Fin cfg0.N) : S2048x1024.Idx → EReal := iblk m c 1 t

/-- The column of the left and of the right array that block `r` of the result has at its row `a`, column `b`. -/
def colL (r : ℕ) (a : Fin 256) : Fin 2816 := ⟨(256 * (r / 1) + a.val) % 2816, Nat.mod_lt _ (by norm_num)⟩
def colR (r : ℕ) (b : Fin 1024) : Fin 1024 := ⟨(1024 * (r % 1) + b.val) % 1024, Nat.mod_lt _ (by norm_num)⟩

theorem lt_N (t : Fin cfg0.N) : t.val < 44 := lt_of_lt_of_eq t.isLt N_0

theorem blk_L (t : Fin cfg0.N) (k : Fin 2048) (a : Fin 256) :
    blkL m c t (ix2 k a) = arrL m c (ix2 ⟨2048 * (t.val % 4) + k.val, by omega⟩ (colL (t.val / 4) a)) := by
  unfold blkL
  blk_simp [iblk]
  rw [V_main_arg0]
  unfold arrL
  congr 1
  have := lt_N t
  blk_ext [ix_0, colL]

theorem blk_R (t : Fin cfg0.N) (k : Fin 2048) (b : Fin 1024) :
    blkR m c t (ix2 k b) = arrR m c (ix2 ⟨2048 * (t.val % 4) + k.val, by omega⟩ (colR (t.val / 4) b)) := by
  unfold blkR
  blk_simp [iblk]
  rw [V_main_arg1]
  unfold arrR
  congr 1
  have := lt_N t
  blk_ext [ix_1, colR]

/-- The products that block `r` sums at its row `a`, column `b`. -/
def term (a : Fin 256) (b : Fin 1024) (r : ℕ) : Fin 8192 → EReal := fun q =>
  arrL m c (ix2 q (colL r a)) * arrR m c (ix2 q (colR r b))

/-- What is kept after each point. -/
theorem kept (a : Fin 256) (b : Fin 1024) : ∀ (t : ℕ) (h : t < cfg0.N),
    (outsAt0 m c t h).2 (ix2 a b) = Sums.upto (term m c a b (t / 4)) (2048 * (t % 4 + 1)) :=
  Sums.fold (fun t h => ((outsAt0 m c t h).2 (ix2 a b) : EReal)) (term m c a b)
    (fun t h h0 => by
      have hN : t < 44 := lt_N ⟨t, h⟩
      rw [outsAt0_A m c ⟨t, h⟩ h0 (by dsimp only; omega) (by dsimp only; omega)]
      dsimp only
      rw [keep_A, prod_at]
      refine (Sums.start _ (fun k => blkL m c ⟨t, h⟩ (ix2 k a) * blkR m c ⟨t, h⟩ (ix2 k b)) fun k => ⟨by omega, ?_⟩).symm
      rw [blk_L, blk_R]
      unfold term
      have hv : (⟨t, h⟩ : Fin cfg0.N).val = t := rfl
      congr 4 <;> omega)
    (fun t h h0 => by
      refine ⟨fun k => blkL m c ⟨t + 1, h⟩ (ix2 k a) * blkR m c ⟨t + 1, h⟩ (ix2 k b), ?_, fun k => ⟨by omega, ?_⟩⟩
      · by_cases h3 : (t + 1) % 4 = 3
        · rw [outsAt0_C m c ⟨t + 1, h⟩ h0 (by dsimp only; omega) h3]
          dsimp only
          rw [keep_C]
          exact congrArg (_ + ·) (prod_at _ _ a b)
        · rw [outsAt0_B m c ⟨t + 1, h⟩ h0 (by dsimp only; omega) h3]
          dsimp only
          rw [keep_B]
          exact congrArg (_ + ·) (prod_at _ _ a b)
      · dsimp only
        rw [blk_L, blk_R]
        rfl)

/-- What the last point of a block writes is what is kept. -/
theorem left_kept (t : Fin cfg0.N) (h : t.val % 4 = 3) (y : S256x1024.Idx) :
    (outsAt0 m c t.val t.isLt).1 y = (outsAt0 m c t.val t.isLt).2 y := by
  rw [outsAt0_C m c t (by omega) (by omega) h]
  dsimp only
  rw [left_C, keep_C]
  rfl

/-- The kernel's result: every row is summed. -/
theorem res (i : Fin 2816) (j : Fin 1024) : ((dats m 0 c).arrAt 2 cfg0.N : S2816x1024.Idx → EReal) (ix2 i j)
    = ∑ q, arrL m c (ix2 q i) * arrR m c (ix2 q j) := by
  have hp : pt2Of (ix2 i j) = 4 * (1 * (i.val / 256) + j.val / 1024) + 3 := by
    show 4 * (1 * (i.val / 256 - 0) + 1 * (j.val / 1024 - 0)) + 3 = _
    omega
  have hN : pt2Of (ix2 i j) < cfg0.N := lt_of_lt_of_eq (by rw [hp]; omega) N_0.symm
  rw [final2]
  unfold G2
  rw [dif_pos hN]
  refine (congrArg (fun o => o.1 (loc2Of (ix2 i j))) (outsAt0_sweep m c _ hN).symm).trans ?_
  refine (left_kept m c ⟨_, hN⟩ (by show pt2Of (ix2 i j) % 4 = 3; rw [hp]; omega) _).trans ?_
  have hl : loc2Of (ix2 i j) = ix2 ⟨i.val % 256, Nat.mod_lt _ (by norm_num)⟩ ⟨j.val % 1024, Nat.mod_lt _ (by norm_num)⟩ := by
    funext a; fin_cases a <;> rfl
  rw [hl]
  refine (kept m c _ _ _ hN).trans ?_
  have hd : pt2Of (ix2 i j) / 4 = 1 * (i.val / 256) + j.val / 1024 := by rw [hp]; omega
  rw [hd, show 2048 * (pt2Of (ix2 i j) % 4 + 1) = 8192 by rw [hp]; omega, Sums.whole]
  refine Finset.sum_congr rfl fun q _ => ?_
  unfold term
  congr 3 <;> exact Fin.ext (by simp only [colL, colR]; omega)

end Cert.WgradDownIdeal.Sum

namespace Cert.WgradDownRefIdeal.Sum

open Idealize.ShloMosaic Idealize.ShloMosaic.TcCoe Idealize.SL.Sem Cert.WgradDownRefIdeal Cert.WgradDownRefIdeal.Gen

/-- The reference's result at an index. -/
theorem at_ix (x : FVec Ideal S8192x2816 .bf16) (w : FVec Ideal S8192x1024 .bf16) (i : Fin 2816) (j : Fin 1024) :
    (truncf .bf16 (transpose S2816x1024 [1, 0] (Host.dotGeneral dot_S8192x1024_S8192x2816_S1024x2816_0_0_1_1_n_n none
      (extf .f32 w bitsLt_bf16_f32) (extf .f32 x bitsLt_bf16_f32)) transposes_S1024x2816_S2816x1024_1_0) bitsLt_bf16_f32 : FVec Ideal S2816x1024 .bf16) (ix2 i j)
      = ∑ q, x (ix2 q i) * w (ix2 q j) := by
  have e : (transpose S2816x1024 [1, 0] (Host.dotGeneral dot_S8192x1024_S8192x2816_S1024x2816_0_0_1_1_n_n none
      (extf .f32 w bitsLt_bf16_f32) (extf .f32 x bitsLt_bf16_f32)) transposes_S1024x2816_S2816x1024_1_0 : FVec Ideal S2816x1024 .f32) (ix2 i j)
      = ∑ q, w (ix2 q j) * x (ix2 q i) := by
    pointwise []
  exact e.trans (Finset.sum_congr rfl fun q _ => mul_comm _ _)

end Cert.WgradDownRefIdeal.Sum

namespace Cert.WgradDown.Claims

open Idealize.ShloMosaic Idealize.ShloMosaic.TcCoe Idealize.SL.Sem

theorem algebraic : Cert.algebraic_WgradDownIdeal_WgradDownRefIdeal := by
  intro m g m' g' _ hag
  refine ⟨_, Cert.WgradDownIdeal.Value.run_blocks m g, ?_⟩
  refine (θ_run _ _ _).mono (fun r h c => ?_) (Cert.WgradDownRefIdeal.Value.run m' g')
  obtain ⟨r0, k⟩ := h c
  refine ⟨r0.trans ?_, k⟩
  refine Cert.Meet.ix2_all fun i j => ?_
  rw [(hag c).1, (hag c).2]
  exact (Cert.WgradDownRefIdeal.Sum.at_ix _ _ i j).trans (Cert.WgradDownIdeal.Sum.res m c i j).symm

end Cert.WgradDown.Claims

end
-- ==== Proof.FwdIn.lean ====
module

public import proofs.«01_k».proof.Defs
public import proofs.«01_k».proof.Proof.Meet
public import proofs.«01_k».proof.Proof.Gen.FwdInIdeal.Value
public import proofs.«01_k».proof.Proof.Gen.FwdInRefIdeal.Run
public import Idealize.ShloMosaic.Lib.Pipeline.ValueKit.Geometry

/-! The input projection. -/

@[expose] public section

set_option maxRecDepth 16384

noncomputable section

namespace Cert.FwdInIdeal.Prod

open Idealize.ShloMosaic Idealize.ShloMosaic.TcCoe Idealize.SL.Sem Cert.FwdInIdeal Cert.FwdInIdeal.Gen Cert.FwdInIdeal.Value

theorem hz : (![0, 0] : Fin 2 → Nat) = fun _ => 0 := funext fun a => by fin_cases a <;> rfl

variable (m : (ℓ : Loc nD τ sig) → Buf (Elt Ideal) ℓ) (c : Dev nD)

theorem prod_at (x : Vec Ideal S2048x1024 .bf16) (w : Vec Ideal S1024x512 .bf16) (a : Fin 2048) (b : Fin 512) :
    k0_pay1 (F := Ideal) x w (ix2 a b) = ∑ k, x (ix2 a k) * w (ix2 k b) := by
  pointwise [k0_pay1]

/-- What a grid point writes is the product of the two blocks it reads. -/
theorem left (x : Vec Ideal S2048x1024 .bf16) (w : Vec Ideal S1024x512 .bf16) : out0_2 x w = k0_pay1 x w := by
  unfold out0_2
  rw [View.canon_unit_zero hz, View.ld_unit_zero (S := S2048x1024) hz, View.ld_unit_zero (S := S1024x512) hz]

theorem ix_0 : ∀ t : Fin cfg0.N, win0_0.index t = ![t.val / 19, 0] := (by decide +kernel : ∀ t : Fin grid0.N, _)
theorem ix_1 : ∀ t : Fin cfg0.N, win0_1.index t = ![0, t.val % 19] := (by decide +kernel : ∀ t : Fin grid0.N, _)
theorem ix_2 : ∀ t : Fin cfg0.N, win0_2.index t = ![t.val / 19, t.val % 19] := (by decide +kernel : ∀ t : Fin grid0.N, _)

/-- The two argument arrays. -/
def arrL : S8192x1024.Idx → EReal := m ((c : Thread nD τ).loc main_arg0)
def arrR : S1024x9728.Idx → EReal := m ((c : Thread nD τ).loc main_arg1)

/-- The blocks of them a grid point reads. -/
def blkL (t : Fin cfg0.N) : S2048x1024.Idx → EReal := iblk m c 0 t
def blkR (t : Fin cfg0.N) : S1024x512.Idx → EReal := iblk m c 1 t

theorem lt_N (t : Fin cfg0.N) : t.val < 76 := lt_of_lt_of_eq t.isLt N_0

theorem blk_L (t : Fin cfg0.N) (a : Fin 2048) (k : Fin 1024) :
    blkL m c t (ix2 a k) = arrL m c (ix2 ⟨2048 * (t.val / 19) + a.val, by have := lt_N t; omega⟩ k) := by
  unfold blkL
  blk_simp [iblk]
  rw [V_main_arg0]
  unfold arrL
  congr 1
  have := lt_N t
  blk_ext [ix_0]

theorem blk_R (t : Fin cfg0.N) (k : Fin 1024) (b : Fin 512) :
    blkR m c t (ix2 k b) = arrR m c (ix2 k ⟨512 * (t.val % 19) + b.val, by omega⟩) := by
  unfold blkR
  blk_simp [iblk]
  rw [V_main_arg1]
  unfold arrR
  congr 1
  have := lt_N t
  blk_ext [ix_1]

/-- The whole product, index by index. -/
def prod : S8192x9728.Idx → EReal := fun y => ∑ k, arrL m c (ix2 (y 0) k) * arrR m c (ix2 k (y 1))

/-- A grid point's product at a row and a column of its block is the whole product there. -/
theorem part (t : Fin cfg0.N) (a : Fin 2048) (b : Fin 512) (e : S8192x9728.Idx)
    (h0 : (e 0).val = 2048 * (t.val / 19) + a.val) (h1 : (e 1).val = 512 * (t.val % 19) + b.val) :
    (k0_pay1 (F := Ideal) (blkL m c t) (blkR m c t) (ix2 a b) : EReal) = prod m c e := by
  refine (prod_at _ _ a b).trans (Finset.sum_congr rfl fun k _ => ?_)
  rw [blk_L, blk_R]
  congr 3
  · exact Fin.ext h0.symm
  · exact Fin.ext h1.symm

/-- The kernel's result. -/
theorem res : ((dats m 0 c).arrAt 2 cfg0.N : S8192x9728.Idx → EReal) = prod m c := by
  refine (dats m 0 c).arrAt_eq_of_covers 2 _ (by decide +kernel) fun t hf y => ?_
  blk_simp
  rw [after0_2, left]
  have hy : y = ix2 (y 0) (y 1) := by funext a; fin_cases a <;> rfl
  have e := ix_2 t
  rw [hy]
  refine part m c t (y 0) (y 1) _ ?_ ?_ <;> blk_simp [e] <;> omega

end Cert.FwdInIdeal.Prod

namespace Cert.FwdInRefIdeal.Prod

open Idealize.ShloMosaic Idealize.ShloMosaic.TcCoe Idealize.SL.Sem Cert.FwdInRefIdeal Cert.FwdInRefIdeal.Gen

/-- The reference's result at an index. -/
theorem at_ix (x : FVec Ideal S8192x1024 .bf16) (w : FVec Ideal S1024x9728 .bf16) (i : Fin 8192) (j : Fin 9728) :
    (Host.dotGeneral dot_S8192x1024_S1024x9728_S8192x9728_1_0_0_1_n_n none
      (extf .f32 x bitsLt_bf16_f32) (extf .f32 w bitsLt_bf16_f32) : FVec Ideal S8192x9728 .f32) (ix2 i j)
      = ∑ k, x (ix2 i k) * w (ix2 k j) := by
  pointwise []

end Cert.FwdInRefIdeal.Prod

namespace Cert.FwdIn.Claims

open Idealize.ShloMosaic Idealize.ShloMosaic.TcCoe Idealize.SL.Sem

theorem algebraic : Cert.algebraic_FwdInIdeal_FwdInRefIdeal := by
  intro m g m' g' _ hag
  refine ⟨_, Cert.FwdInIdeal.Value.run_blocks m g, ?_⟩
  refine (θ_run _ _ _).mono (fun r h c => ?_) (Cert.FwdInRefIdeal.Value.run m' g')
  obtain ⟨r0, k⟩ := h c
  refine ⟨r0.trans ?_, k⟩
  rw [(hag c).1, (hag c).2]
  refine Eq.trans ?_ (Cert.FwdInIdeal.Prod.res m c).symm
  refine Cert.Meet.ix2_all fun i j => ?_
  exact Cert.FwdInRefIdeal.Prod.at_ix _ _ i j

end Cert.FwdIn.Claims

end
-- ==== Proof.FwdUp.lean ====
module

public import proofs.«01_k».proof.Defs
public import proofs.«01_k».proof.Proof.Meet
public import proofs.«01_k».proof.Proof.Gen.FwdUpIdeal.Value
public import proofs.«01_k».proof.Proof.Gen.FwdUpRefIdeal.Run
public import Idealize.ShloMosaic.Lib.Pipeline.ValueKit.Geometry

/-! The projection into the feed-forward layer. -/

@[expose] public section

set_option maxRecDepth 16384

noncomputable section

namespace Cert.FwdUpIdeal.Prod

open Idealize.ShloMosaic Idealize.ShloMosaic.TcCoe Idealize.SL.Sem Cert.FwdUpIdeal Cert.FwdUpIdeal.Gen Cert.FwdUpIdeal.Value

theorem hz : (![0, 0] : Fin 2 → Nat) = fun _ => 0 := funext fun a => by fin_cases a <;> rfl

variable (m : (ℓ : Loc nD τ sig) → Buf (Elt Ideal) ℓ) (c : Dev nD)

theorem prod_at (x : Vec Ideal S2048x1024 .bf16) (w : Vec Ideal S1024x512 .bf16) (a : Fin 2048) (b : Fin 512) :
    k0_pay1 (F := Ideal) x w (ix2 a b) = ∑ k, x (ix2 a k) * w (ix2 k b) := by
  pointwise [k0_pay1]

/-- What a grid point writes is the product of the two blocks it reads. -/
theorem left (x : Vec Ideal S2048x1024 .bf16) (w : Vec Ideal S1024x512 .bf16) : out0_2 x w = k0_pay1 x w := by
  unfold out0_2
  rw [View.canon_unit_zero hz, View.ld_unit_zero (S := S2048x1024) hz, View.ld_unit_zero (S := S1024x512) hz]

theorem ix_0 : ∀ t : Fin cfg0.N, win0_0.index t = ![t.val / 11, 0] := (by decide +kernel : ∀ t : Fin grid0.N, _)
theorem ix_1 : ∀ t : Fin cfg0.N, win0_1.index t = ![0, t.val % 11] := (by decide +kernel : ∀ t : Fin grid0.N, _)
theorem ix_2 : ∀ t : Fin cfg0.N, win0_2.index t = ![t.val / 11, t.val % 11] := (by decide +kernel : ∀ t : Fin grid0.N, _)

/-- The two argument arrays. -/
def arrL : S8192x1024.Idx → EReal := m ((c : Thread nD τ).loc main_arg0)
def arrR : S1024x5632.Idx → EReal := m ((c : Thread nD τ).loc main_arg1)

/-- The blocks of them a grid point reads. -/
def blkL (t : Fin cfg0.N) : S2048x1024.Idx → EReal := iblk m c 0 t
def blkR (t : Fin cfg0.N) : S1024x512.Idx → EReal := iblk m c 1 t

theorem lt_N (t : Fin cfg0.N) : t.val < 44 := lt_of_lt_of_eq t.isLt N_0

theorem blk_L (t : Fin cfg0.N) (a : Fin 2048) (k : Fin 1024) :
    blkL m c t (ix2 a k) = arrL m c (ix2 ⟨2048 * (t.val / 11) + a.val, by have := lt_N t; omega⟩ k) := by
  unfold blkL
  blk_simp [iblk]
  rw [V_main_arg0]
  unfold arrL
  congr 1
  have := lt_N t
  blk_ext [ix_0]

theorem blk_R (t : Fin cfg0.N) (k : Fin 1024) (b : Fin 512) :
    blkR m c t (ix2 k b) = arrR m c (ix2 k ⟨512 * (t.val % 11) + b.val, by omega⟩) := by
  unfold blkR
  blk_simp [iblk]
  rw [V_main_arg1]
  unfold arrR
  congr 1
  have := lt_N t
  blk_ext [ix_1]

/-- The whole product, index by index. -/
def prod : S8192x5632.Idx → EReal := fun y => ∑ k, arrL m c (ix2 (y 0) k) * arrR m c (ix2 k (y 1))

/-- A grid point's product at a row and a column of its block is the whole product there. -/
theorem part (t : Fin cfg0.N) (a : Fin 2048) (b : Fin 512) (e : S8192x5632.Idx)
    (h0 : (e 0).val = 2048 * (t.val / 11) + a.val) (h1 : (e 1).val = 512 * (t.val % 11) + b.val) :
    (k0_pay1 (F := Ideal) (blkL m c t) (blkR m c t) (ix2 a b) : EReal) = prod m c e := by
  refine (prod_at _ _ a b).trans (Finset.sum_congr rfl fun k _ => ?_)
  rw [blk_L, blk_R]
  congr 3
  · exact Fin.ext h0.symm
  · exact Fin.ext h1.symm

/-- The kernel's result. -/
theorem res : ((dats m 0 c).arrAt 2 cfg0.N : S8192x5632.Idx → EReal) = prod m c := by
  refine (dats m 0 c).arrAt_eq_of_covers 2 _ (by decide +kernel) fun t hf y => ?_
  blk_simp
  rw [after0_2, left]
  have hy : y = ix2 (y 0) (y 1) := by funext a; fin_cases a <;> rfl
  have e := ix_2 t
  rw [hy]
  refine part m c t (y 0) (y 1) _ ?_ ?_ <;> blk_simp [e] <;> omega

end Cert.FwdUpIdeal.Prod

namespace Cert.FwdUpRefIdeal.Prod

open Idealize.ShloMosaic Idealize.ShloMosaic.TcCoe Idealize.SL.Sem Cert.FwdUpRefIdeal Cert.FwdUpRefIdeal.Gen

/-- The reference's result at an index. -/
theorem at_ix (x : FVec Ideal S8192x1024 .bf16) (w : FVec Ideal S1024x5632 .bf16) (i : Fin 8192) (j : Fin 5632) :
    (Host.dotGeneral dot_S8192x1024_S1024x5632_S8192x5632_1_0_0_1_n_n none
      (extf .f32 x bitsLt_bf16_f32) (extf .f32 w bitsLt_bf16_f32) : FVec Ideal S8192x5632 .f32) (ix2 i j)
      = ∑ k, x (ix2 i k) * w (ix2 k j) := by
  pointwise []

end Cert.FwdUpRefIdeal.Prod

namespace Cert.FwdUp.Claims

open Idealize.ShloMosaic Idealize.ShloMosaic.TcCoe Idealize.SL.Sem

theorem algebraic : Cert.algebraic_FwdUpIdeal_FwdUpRefIdeal := by
  intro m g m' g' _ hag
  refine ⟨_, Cert.FwdUpIdeal.Value.run_blocks m g, ?_⟩
  refine (θ_run _ _ _).mono (fun r h c => ?_) (Cert.FwdUpRefIdeal.Value.run m' g')
  obtain ⟨r0, k⟩ := h c
  refine ⟨r0.trans ?_, k⟩
  rw [(hag c).1, (hag c).2]
  refine Eq.trans ?_ (Cert.FwdUpIdeal.Prod.res m c).symm
  refine Cert.Meet.ix2_all fun i j => ?_
  exact Cert.FwdUpRefIdeal.Prod.at_ix _ _ i j

end Cert.FwdUp.Claims

end
-- ==== Proof.Norm.lean ====
module

public import proofs.«01_k».proof.Proof.Spec
public import Idealize.ShloMosaic.Lib.Pointwise

/-! The layer norm of a row and its gradient. -/

@[expose] public section

noncomputable section

namespace Cert.Norm

open Idealize.ShloMosaic Spec

/-- The row's width, the constant under the root, and the residual's weight. -/
def width : EReal := Ideal.ofBits .f32 0x44800000#32
def eps : EReal := Ideal.ofBits .f32 0x3727C5AC#32
def alpha : EReal := Ideal.ofBits .f32 0x3F9837F0#32

variable (p g d : Fin 1024 → EReal) (j : Fin 1024)

/-- The row about its mean, its spread, and the row scaled by it. -/
def cen : EReal := p j - Ideal.div (∑ k, p k) width
def spread : EReal := Ideal.div (∑ k, cen p k * cen p k) width + eps
def root : EReal := Ideal.rsqrt (spread p)
def unit : EReal := cen p j * root p

/-- The gradient of the scaled row, of the row about its mean, and of the row, where `d` is that of the norm. -/
def dunit : EReal := d j * g j
def pull : EReal := Ideal.div ((∑ k, cen p k * dunit g d k) * (mhalf * Ideal.div (root p) (spread p))) width
def dcen : EReal := dunit g d j * root p + pull p g d * (two * cen p j)
def back : EReal := dcen p g d j + Ideal.div (∑ k, -(dcen p g d k)) width

/-- A product and its mirror add up to the product with twice the factor. -/
theorem twice (q e : EReal) : e * q + q * e = q * (two * e) := by
  rw [mul_comm e q, two_mul_add, mul_left_comm]

end Cert.Norm

end
-- ==== Proof.Head.lean ====
module

public import proofs.«01_k».proof.Defs
public import proofs.«01_k».proof.Proof.Norm
public import proofs.«01_k».proof.Proof.Sums
public import proofs.«01_k».proof.Proof.Gen.HeadIdeal.Value
public import proofs.«01_k».proof.Proof.Gen.HeadRefIdeal.Run
public import proofs.«01_k».proof.Proof.Meet
public import Idealize.ShloMosaic.Lib.Pipeline.ValueKit.Geometry

/-! The product down, the last norm and the loss, with their gradients. -/

@[expose] public section

set_option maxRecDepth 16384

noncomputable section

namespace Cert.Head

open Idealize.ShloMosaic Spec Norm

/-- A row of the state, of the target and of the activations; the gate, the norm's weight and bias; the weights of the product down. -/
structure In where
  y : Fin 1024 → EReal
  tg : Fin 1024 → EReal
  a : Fin 2816 → EReal
  gt : Fin 1024 → EReal
  g : Fin 1024 → EReal
  b : Fin 1024 → EReal
  wd : Fin 2816 → Fin 1024 → EReal

variable (I : In) (j : Fin 1024)

/-- The product down, the norm's input, and what the norm's output misses the target by. -/
def ffn : EReal := ∑ k, I.a k * I.wd k j
def pre : EReal := alpha * I.y j + I.gt j * ffn I j
def err : EReal := unit (pre I) j * I.g j + I.b j - I.tg j

/-- The gradients of the norm's output, of its input, of the state, of the product and of the activations. -/
def dout : EReal := Ideal.div half width * (two * err I j)
def din : EReal := back (pre I) I.g (dout I) j
def dy : EReal := alpha * din I j
def dffn : EReal := I.gt j * din I j
def da (k : Fin 2816) : EReal := ∑ j, dffn I j * I.wd k j

/-- What a row adds to the gradients of the gate and of the norm's weight, and to the loss. -/
def dgt : EReal := din I j * ffn I j
def dg : EReal := unit (pre I) j * dout I j
def loss : EReal := Ideal.div (∑ j, err I j * err I j) width

/-- What row `r` of the arrays gives. -/
def ofArgs (a : (⟨2, ![8192, 2816]⟩ : Shape).Idx → EReal) (y tg : (⟨2, ![8192, 1024]⟩ : Shape).Idx → EReal)
    (gt g b : (⟨2, ![1, 1024]⟩ : Shape).Idx → EReal) (wd : (⟨2, ![2816, 1024]⟩ : Shape).Idx → EReal) (r : Fin 8192) : In where
  y := fun j => y (ix2 r j)
  tg := fun j => tg (ix2 r j)
  a := fun j => a (ix2 r j)
  gt := fun j => gt (ix2 0 j)
  g := fun j => g (ix2 0 j)
  b := fun j => b (ix2 0 j)
  wd := fun k j => wd (ix2 k j)

/-- Half of a sum is the sum of the halves. -/
theorem half_sum {ι : Type} (s : Finset ι) (f : ι → EReal) : half * ∑ k ∈ s, f k = ∑ k ∈ s, half * f k := by
  classical
  rw [half_eq]
  induction s using Finset.induction_on with
  | empty => simp
  | insert a s ha ih => rw [Finset.sum_insert ha, Finset.sum_insert ha, EReal.left_distrib_of_nonneg_of_ne_top (by exact_mod_cast (by norm_num : (0 : ℝ) ≤ 1 / 2)) (EReal.coe_ne_top _), ih]

end Cert.Head

namespace Cert.HeadIdeal.Row

open Idealize.ShloMosaic Idealize.ShloMosaic.TcCoe Idealize.SL.Sem Cert.HeadIdeal Cert.HeadIdeal.Gen Cert.HeadIdeal.Value

theorem hz : (![0, 0] : Fin 2 → Nat) = fun _ => 0 := funext fun a => by fin_cases a <;> rfl

/-! ## What the body computes from its blocks -/

section Body

variable (x0 : Vec Ideal S256x2816 .bf16) (x1 : Vec Ideal S256x1024 .f32) (x2 : Vec Ideal S256x1024 .f32) (x3 : Vec Ideal S1x1024 .f32) (x4 : Vec Ideal S1x1024 .f32) (x5 : Vec Ideal S1x1024 .f32) (x6 : Vec Ideal S2816x1024 .bf16)

/-- What a row of the blocks gives. -/
def inp (a : Fin 256) : Head.In where
  y := fun j => x1 (ix2 a j)
  tg := fun j => x2 (ix2 a j)
  a := fun k => x0 (ix2 a k)
  gt := fun j => x3 (ix2 0 j)
  g := fun j => x4 (ix2 0 j)
  b := fun j => x5 (ix2 0 j)
  wd := fun k j => x6 (ix2 k j)

/-- The gradient of the norm's input about its mean. -/
def mid : FVec Ideal S256x1024 .f32 := k0_pay14 x4 x5 x2 (k0_pay4 x0 x1 x3 x6) (k0_pay6 x0 x1 x3 x6) (k0_pay7 x0 x1 x3 x6) (k0_pay8 x0 x1 x3 x6)

variable (a : Fin 256) (j : Fin 1024)

theorem ffn_at : k0_pay3 (F := Ideal) x0 x6 (ix2 a j) = Head.ffn (inp x0 x1 x2 x3 x4 x5 x6 a) j := by
  pointwise [k0_pay3]
  rfl

theorem cen_at : k0_pay4 (F := Ideal) x0 x1 x3 x6 (ix2 a j) = Norm.cen (Head.pre (inp x0 x1 x2 x3 x4 x5 x6 a)) j := by
  pointwise [k0_pay4, k0_pay3]
  rfl

theorem root_at : k0_pay6 (F := Ideal) x0 x1 x3 x6 (ix2 a 0) = Norm.root (Head.pre (inp x0 x1 x2 x3 x4 x5 x6 a)) := by
  pointwise [k0_pay6, k0_pay5, k0_pay4, k0_pay3]
  rfl

theorem ratio_at : k0_pay7 (F := Ideal) x0 x1 x3 x6 (ix2 a 0)
    = Spec.mhalf * Ideal.div (Norm.root (Head.pre (inp x0 x1 x2 x3 x4 x5 x6 a))) (Norm.spread (Head.pre (inp x0 x1 x2 x3 x4 x5 x6 a))) := by
  pointwise [k0_pay7, k0_pay6, k0_pay5, k0_pay4, k0_pay3]
  rfl

theorem unit_at : k0_pay8 (F := Ideal) x0 x1 x3 x6 (ix2 a j) = Norm.unit (Head.pre (inp x0 x1 x2 x3 x4 x5 x6 a)) j := by
  pointwise [k0_pay8, k0_pay6, k0_pay5, k0_pay4, k0_pay3]
  rfl

theorem dout_at : k0_pay11 (F := Ideal) x4 x5 x2 (k0_pay8 x0 x1 x3 x6) (ix2 a j) = Head.dout (inp x0 x1 x2 x3 x4 x5 x6 a) j := by
  have e : ∀ v : FVec Ideal S256x1024 .f32, k0_pay11 (F := Ideal) x4 x5 x2 v (ix2 a j)
      = Ideal.div Spec.half Norm.width * (Spec.two * (v (ix2 a j) * x4 (ix2 0 j) + x5 (ix2 0 j) - x2 (ix2 a j))) := fun v => by
    rw [← Norm.twice]
    pointwise [k0_pay11, k0_pay9]
    simp only [Finset.univ_unique, Finset.sum_singleton]
    rfl
  rw [e, unit_at x0 x1 x2 x3 x4 x5 x6]
  rfl

theorem mid_at : mid x0 x1 x2 x3 x4 x5 x6 (ix2 a j) = Norm.dcen (Head.pre (inp x0 x1 x2 x3 x4 x5 x6 a)) (fun j => x4 (ix2 0 j)) (Head.dout (inp x0 x1 x2 x3 x4 x5 x6 a)) j := by
  have e : ∀ (c : FVec Ideal S256x1024 .f32) (r q : FVec Ideal S256x1 .f32) (v : FVec Ideal S256x1024 .f32),
      k0_pay14 (F := Ideal) x4 x5 x2 c r q v (ix2 a j)
        = k0_pay11 (F := Ideal) x4 x5 x2 v (ix2 a j) * x4 (ix2 0 j) * r (ix2 a 0)
          + Ideal.div ((∑ k, c (ix2 a k) * (k0_pay11 (F := Ideal) x4 x5 x2 v (ix2 a k) * x4 (ix2 0 k))) * q (ix2 a 0)) Norm.width * (Spec.two * c (ix2 a j)) :=
    fun c r q v => by
      rw [← Norm.twice, ← add_assoc]
      pointwise [k0_pay14]
      simp only [Finset.univ_unique, Finset.sum_singleton]
      rfl
  unfold mid
  rw [e]
  simp only [dout_at, cen_at x0 x1 x2 x3 x4 x5 x6, root_at x0 x1 x2 x3 x4 x5 x6, ratio_at x0 x1 x2 x3 x4 x5 x6]
  rfl

theorem din_at : k0_pay15 (F := Ideal) (mid x0 x1 x2 x3 x4 x5 x6) (ix2 a j) = Head.din (inp x0 x1 x2 x3 x4 x5 x6 a) j := by
  have e : ∀ v : FVec Ideal S256x1024 .f32, k0_pay15 (F := Ideal) v (ix2 a j) = v (ix2 a j) + Ideal.div (∑ k, -(v (ix2 a k) : EReal)) Norm.width := fun v => by
    pointwise [k0_pay15]
    simp only [Finset.univ_unique, Finset.sum_singleton, sub_eq_add_neg, zero_add]
    rfl
  rw [e]
  simp only [mid_at]
  rfl

theorem dy_at : k0_pay17 (F := Ideal) (mid x0 x1 x2 x3 x4 x5 x6) (ix2 a j) = Head.dy (inp x0 x1 x2 x3 x4 x5 x6 a) j := by
  refine Eq.trans ?_ (congrArg (Norm.alpha * ·) (din_at x0 x1 x2 x3 x4 x5 x6 a j))
  pointwise [k0_pay17]
  rfl

theorem dffn_at : k0_pay19 (F := Ideal) x3 (mid x0 x1 x2 x3 x4 x5 x6) (ix2 a j) = Head.dffn (inp x0 x1 x2 x3 x4 x5 x6 a) j := by
  refine Eq.trans ?_ (congrArg (x3 (ix2 0 j) * ·) (din_at x0 x1 x2 x3 x4 x5 x6 a j))
  pointwise [k0_pay19, k0_pay16]

theorem da_at (k : Fin 2816) : k0_pay18 (F := Ideal) x3 x6 (mid x0 x1 x2 x3 x4 x5 x6) (ix2 a k) = Head.da (inp x0 x1 x2 x3 x4 x5 x6 a) k := by
  refine Eq.trans ?_ (Finset.sum_congr rfl fun j _ => congrArg (fun q => (x3 (ix2 0 j) * q : EReal) * x6 (ix2 k j)) (din_at x0 x1 x2 x3 x4 x5 x6 a j))
  pointwise [k0_pay18, k0_pay16]

/-- What a point adds to its four sums. -/
theorem dgt_at (p : Vec Ideal S1x1024 .f32) : k0_pay24 (F := Ideal) (k0_pay3 x0 x6) (mid x0 x1 x2 x3 x4 x5 x6) p (ix2 0 j)
    = p (ix2 0 j) + ∑ a, Head.dgt (inp x0 x1 x2 x3 x4 x5 x6 a) j := by
  refine Eq.trans ?_ (congrArg (p (ix2 0 j) + ·) (Finset.sum_congr rfl fun a _ => congrArg₂ (· * ·) (din_at x0 x1 x2 x3 x4 x5 x6 a j) (ffn_at x0 x1 x2 x3 x4 x5 x6 a j)))
  pointwise [k0_pay24]

theorem dg_at (p : Vec Ideal S1x1024 .f32) : k0_pay25 (F := Ideal) (k0_pay13 x4 x5 x2 (k0_pay8 x0 x1 x3 x6)) p (ix2 0 j)
    = p (ix2 0 j) + ∑ a, Head.dg (inp x0 x1 x2 x3 x4 x5 x6 a) j := by
  refine Eq.trans ?_ (congrArg (p (ix2 0 j) + ·) (Finset.sum_congr rfl fun a _ => congrArg₂ (· * ·) (unit_at x0 x1 x2 x3 x4 x5 x6 a j) (dout_at x0 x1 x2 x3 x4 x5 x6 a j)))
  pointwise [k0_pay25, k0_pay13]

theorem db_at (p : Vec Ideal S1x1024 .f32) : k0_pay1 (F := Ideal) (k0_pay12 x4 x5 x2 (k0_pay8 x0 x1 x3 x6)) p (ix2 0 j)
    = p (ix2 0 j) + ∑ a, Head.dout (inp x0 x1 x2 x3 x4 x5 x6 a) j := by
  refine Eq.trans ?_ (congrArg (p (ix2 0 j) + ·) (Finset.sum_congr rfl fun a _ => dout_at x0 x1 x2 x3 x4 x5 x6 a j))
  pointwise [k0_pay1, k0_pay12]

theorem loss_at (p : Vec Ideal S1x128 .f32) (k : Fin 128) : k0_pay2 (F := Ideal) (k0_pay10 x4 x5 x2 (k0_pay8 x0 x1 x3 x6)) p (ix2 0 k)
    = p (ix2 0 k) + ∑ a, Spec.half * Head.loss (inp x0 x1 x2 x3 x4 x5 x6 a) := by
  rw [← Head.half_sum]
  have e : ∀ v : FVec Ideal S256x1024 .f32, k0_pay2 (F := Ideal) (k0_pay10 x4 x5 x2 v) p (ix2 0 k)
      = p (ix2 0 k) + Spec.half * ∑ a, Ideal.div (∑ j, (v (ix2 a j) * x4 (ix2 0 j) + x5 (ix2 0 j) - x2 (ix2 a j)) * (v (ix2 a j) * x4 (ix2 0 j) + x5 (ix2 0 j) - x2 (ix2 a j))) Norm.width := fun v => by
    pointwise [k0_pay2, k0_pay10, k0_pay9]
    simp only [Finset.univ_unique, Finset.sum_singleton]
    rfl
  rw [e]
  simp only [unit_at x0 x1 x2 x3 x4 x5 x6]
  rfl

variable (c : Dev nD) (i : grid0.Coords) (a1 : Memref sig .tc .vmem S256x2816 .bf16) (h1 : a1.IsWhole) (a2 : Memref sig .tc .vmem S256x1024 .f32) (h2 : a2.IsWhole) (a3 : Memref sig .tc .vmem S256x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S2816x1024 .bf16) (h7 : a7.IsWhole) (a8 : Memref sig .tc .vmem S256x2816 .f32) (h8 : a8.IsWhole) (a9 : Memref sig .tc .vmem S256x1024 .f32) (h9 : a9.IsWhole) (a10 : Memref sig .tc .vmem S256x1024 .bf16) (h10 : a10.IsWhole) (a11 : Memref sig .tc .vmem S1x1024 .f32) (h11 : a11.IsWhole) (a12 : Memref sig .tc .vmem S1x1024 .f32) (h12 : a12.IsWhole) (a13 : Memref sig .tc .vmem S1x1024 .f32) (h13 : a13.IsWhole) (a14 : Memref sig .tc .vmem S1x128 .f32) (h14 : a14.IsWhole)
  (p10 p11 p12 : Vec Ideal S1x1024 .f32) (p13 : Vec Ideal S1x128 .f32)

/-- What a point writes: the first begins the four sums from nothing. -/
theorem left_A (hc0 : cond0_0 i) :
    out0_A_7 c i a1 h1 a2 h2 a3 h3 a4 h4 a5 h5 a6 h6 a7 h7 a8 h8 a9 h9 a10 h10 a11 h11 a12 h12 a13 h13 a14 h14 hc0 x0 x1 x2 x3 x4 x5 x6 = k0_pay18 x3 x6 (mid x0 x1 x2 x3 x4 x5 x6)
    ∧ out0_A_8 c i a1 h1 a2 h2 a3 h3 a4 h4 a5 h5 a6 h6 a7 h7 a8 h8 a9 h9 a10 h10 a11 h11 a12 h12 a13 h13 a14 h14 hc0 x0 x1 x2 x3 x4 x5 x6 = k0_pay17 (mid x0 x1 x2 x3 x4 x5 x6)
    ∧ out0_A_9 c i a1 h1 a2 h2 a3 h3 a4 h4 a5 h5 a6 h6 a7 h7 a8 h8 a9 h9 a10 h10 a11 h11 a12 h12 a13 h13 a14 h14 hc0 x0 x1 x2 x3 x4 x5 x6 = k0_pay19 x3 (mid x0 x1 x2 x3 x4 x5 x6)
    ∧ out0_A_10 c i a1 h1 a2 h2 a3 h3 a4 h4 a5 h5 a6 h6 a7 h7 a8 h8 a9 h9 a10 h10 a11 h11 a12 h12 a13 h13 a14 h14 hc0 x0 x1 x2 x3 x4 x5 x6 = k0_pay24 (k0_pay3 x0 x6) (mid x0 x1 x2 x3 x4 x5 x6) (k0_pay20 (F := Ideal))
    ∧ out0_A_11 c i a1 h1 a2 h2 a3 h3 a4 h4 a5 h5 a6 h6 a7 h7 a8 h8 a9 h9 a10 h10 a11 h11 a12 h12 a13 h13 a14 h14 hc0 x0 x1 x2 x3 x4 x5 x6 = k0_pay25 (k0_pay13 x4 x5 x2 (k0_pay8 x0 x1 x3 x6)) (k0_pay21 (F := Ideal))
    ∧ out0_A_12 c i a1 h1 a2 h2 a3 h3 a4 h4 a5 h5 a6 h6 a7 h7 a8 h8 a9 h9 a10 h10 a11 h11 a12 h12 a13 h13 a14 h14 hc0 x0 x1 x2 x3 x4 x5 x6 = k0_pay1 (k0_pay12 x4 x5 x2 (k0_pay8 x0 x1 x3 x6)) (k0_pay22 (F := Ideal))
    ∧ out0_A_13 c i a1 h1 a2 h2 a3 h3 a4 h4 a5 h5 a6 h6 a7 h7 a8 h8 a9 h9 a10 h10 a11 h11 a12 h12 a13 h13 a14 h14 hc0 x0 x1 x2 x3 x4 x5 x6 = k0_pay2 (k0_pay10 x4 x5 x2 (k0_pay8 x0 x1 x3 x6)) (k0_pay23 (F := Ideal)) := by
  refine ⟨?_, ?_, ?_, ?_, ?_, ?_, ?_⟩
  · unfold out0_A_7
    rw [View.read_writes_eq_canon _ _ _ (cover0_A_7 c i a1 h1 a2 h2 a3 h3 a4 h4 a5 h5 a6 h6 a7 h7 a8 h8 a9 h9 a10 h10 a11 h11 a12 h12 a13 h13 a14 h14 hc0 x0 x1 x2 x3 x4 x5 x6)]
    unfold kernelRun0_A
    dsimp only
    sl_unfold_words
    unfold mid
    rw [View.canon_unit_zero hz]
    simp only [View.readAt_eq_ld, h1.read_unread, h2.read_unread, h3.read_unread, h4.read_unread, h5.read_unread, h6.read_unread, h7.read_unread, h11.read_unread, h12.read_unread, h13.read_unread, h14.read_unread,
      View.ld_unit_zero (S := S256x2816) hz, View.ld_unit_zero (S := S256x1024) hz, View.ld_unit_zero (S := S1x1024) hz,
      View.ld_unit_zero (S := S2816x1024) hz, View.ld_unit_zero (S := S1x128) hz, shapeCast_self]
  · unfold out0_A_8
    rw [View.read_writes_eq_canon _ _ _ (cover0_A_8 c i a1 h1 a2 h2 a3 h3 a4 h4 a5 h5 a6 h6 a7 h7 a8 h8 a9 h9 a10 h10 a11 h11 a12 h12 a13 h13 a14 h14 hc0 x0 x1 x2 x3 x4 x5 x6)]
    unfold kernelRun0_A
    dsimp only
    sl_unfold_words
    unfold mid
    rw [View.canon_unit_zero hz]
    simp only [View.readAt_eq_ld, h1.read_unread, h2.read_unread, h3.read_unread, h4.read_unread, h5.read_unread, h6.read_unread, h7.read_unread, h11.read_unread, h12.read_unread, h13.read_unread, h14.read_unread,
      View.ld_unit_zero (S := S256x2816) hz, View.ld_unit_zero (S := S256x1024) hz, View.ld_unit_zero (S := S1x1024) hz,
      View.ld_unit_zero (S := S2816x1024) hz, View.ld_unit_zero (S := S1x128) hz, shapeCast_self]
  · unfold out0_A_9
    rw [View.read_writes_eq_canon _ _ _ (cover0_A_9 c i a1 h1 a2 h2 a3 h3 a4 h4 a5 h5 a6 h6 a7 h7 a8 h8 a9 h9 a10 h10 a11 h11 a12 h12 a13 h13 a14 h14 hc0 x0 x1 x2 x3 x4 x5 x6)]
    unfold kernelRun0_A
    dsimp only
    sl_unfold_words
    unfold mid
    rw [View.canon_unit_zero hz]
    simp only [View.readAt_eq_ld, h1.read_unread, h2.read_unread, h3.read_unread, h4.read_unread, h5.read_unread, h6.read_unread, h7.read_unread, h11.read_unread, h12.read_unread, h13.read_unread, h14.read_unread,
      View.ld_unit_zero (S := S256x2816) hz, View.ld_unit_zero (S := S256x1024) hz, View.ld_unit_zero (S := S1x1024) hz,
      View.ld_unit_zero (S := S2816x1024) hz, View.ld_unit_zero (S := S1x128) hz, shapeCast_self]
  · unfold out0_A_10
    rw [View.read_writes_eq_canon _ _ _ (cover0_A_10 c i a1 h1 a2 h2 a3 h3 a4 h4 a5 h5 a6 h6 a7 h7 a8 h8 a9 h9 a10 h10 a11 h11 a12 h12 a13 h13 a14 h14 hc0 x0 x1 x2 x3 x4 x5 x6)]
    unfold kernelRun0_A
    dsimp only
    sl_unfold_words
    unfold mid
    rw [View.canon_cons_unit_zero hz, View.readCov_unit_zero (S := S1x1024) _ hz]
    simp only [View.readAt_eq_ld, h1.read_unread, h2.read_unread, h3.read_unread, h4.read_unread, h5.read_unread, h6.read_unread, h7.read_unread, h11.read_unread, h12.read_unread, h13.read_unread, h14.read_unread,
      View.ld_unit_zero (S := S256x2816) hz, View.ld_unit_zero (S := S256x1024) hz, View.ld_unit_zero (S := S1x1024) hz,
      View.ld_unit_zero (S := S2816x1024) hz, View.ld_unit_zero (S := S1x128) hz, shapeCast_self]
  · unfold out0_A_11
    rw [View.read_writes_eq_canon _ _ _ (cover0_A_11 c i a1 h1 a2 h2 a3 h3 a4 h4 a5 h5 a6 h6 a7 h7 a8 h8 a9 h9 a10 h10 a11 h11 a12 h12 a13 h13 a14 h14 hc0 x0 x1 x2 x3 x4 x5 x6)]
    unfold kernelRun0_A
    dsimp only
    sl_unfold_words
    rw [View.canon_cons_unit_zero hz, View.readCov_unit_zero (S := S1x1024) _ hz]
    simp only [View.readAt_eq_ld, h1.read_unread, h2.read_unread, h3.read_unread, h4.read_unread, h5.read_unread, h6.read_unread, h7.read_unread, h11.read_unread, h12.read_unread, h13.read_unread, h14.read_unread,
      View.ld_unit_zero (S := S256x2816) hz, View.ld_unit_zero (S := S256x1024) hz, View.ld_unit_zero (S := S1x1024) hz,
      View.ld_unit_zero (S := S2816x1024) hz, View.ld_unit_zero (S := S1x128) hz, shapeCast_self]
  · unfold out0_A_12
    rw [View.read_writes_eq_canon _ _ _ (cover0_A_12 c i a1 h1 a2 h2 a3 h3 a4 h4 a5 h5 a6 h6 a7 h7 a8 h8 a9 h9 a10 h10 a11 h11 a12 h12 a13 h13 a14 h14 hc0 x0 x1 x2 x3 x4 x5 x6)]
    unfold kernelRun0_A
    dsimp only
    sl_unfold_words
    rw [View.canon_cons_unit_zero hz, View.readCov_unit_zero (S := S1x1024) _ hz]
    simp only [View.readAt_eq_ld, h1.read_unread, h2.read_unread, h3.read_unread, h4.read_unread, h5.read_unread, h6.read_unread, h7.read_unread, h11.read_unread, h12.read_unread, h13.read_unread, h14.read_unread,
      View.ld_unit_zero (S := S256x2816) hz, View.ld_unit_zero (S := S256x1024) hz, View.ld_unit_zero (S := S1x1024) hz,
      View.ld_unit_zero (S := S2816x1024) hz, View.ld_unit_zero (S := S1x128) hz, shapeCast_self]
  · unfold out0_A_13
    rw [View.read_writes_eq_canon _ _ _ (cover0_A_13 c i a1 h1 a2 h2 a3 h3 a4 h4 a5 h5 a6 h6 a7 h7 a8 h8 a9 h9 a10 h10 a11 h11 a12 h12 a13 h13 a14 h14 hc0 x0 x1 x2 x3 x4 x5 x6)]
    unfold kernelRun0_A
    dsimp only
    sl_unfold_words
    rw [View.canon_cons_unit_zero hz, View.readCov_unit_zero (S := S1x128) _ hz]
    simp only [View.readAt_eq_ld, h1.read_unread, h2.read_unread, h3.read_unread, h4.read_unread, h5.read_unread, h6.read_unread, h7.read_unread, h11.read_unread, h12.read_unread, h13.read_unread, h14.read_unread,
      View.ld_unit_zero (S := S256x2816) hz, View.ld_unit_zero (S := S256x1024) hz, View.ld_unit_zero (S := S1x1024) hz,
      View.ld_unit_zero (S := S2816x1024) hz, View.ld_unit_zero (S := S1x128) hz, shapeCast_self]

/-- What a point writes: the others continue the four sums. -/
theorem left_B (hc0 : ¬cond0_0 i) :
    out0_B_7 c i a1 h1 a2 h2 a3 h3 a4 h4 a5 h5 a6 h6 a7 h7 a8 h8 a9 h9 a10 h10 a11 h11 a12 h12 a13 h13 a14 h14 hc0 x0 x1 x2 x3 x4 x5 x6 p10 p11 p12 p13 = k0_pay18 x3 x6 (mid x0 x1 x2 x3 x4 x5 x6)
    ∧ out0_B_8 c i a1 h1 a2 h2 a3 h3 a4 h4 a5 h5 a6 h6 a7 h7 a8 h8 a9 h9 a10 h10 a11 h11 a12 h12 a13 h13 a14 h14 hc0 x0 x1 x2 x3 x4 x5 x6 p10 p11 p12 p13 = k0_pay17 (mid x0 x1 x2 x3 x4 x5 x6)
    ∧ out0_B_9 c i a1 h1 a2 h2 a3 h3 a4 h4 a5 h5 a6 h6 a7 h7 a8 h8 a9 h9 a10 h10 a11 h11 a12 h12 a13 h13 a14 h14 hc0 x0 x1 x2 x3 x4 x5 x6 p10 p11 p12 p13 = k0_pay19 x3 (mid x0 x1 x2 x3 x4 x5 x6)
    ∧ out0_B_10 c i a1 h1 a2 h2 a3 h3 a4 h4 a5 h5 a6 h6 a7 h7 a8 h8 a9 h9 a10 h10 a11 h11 a12 h12 a13 h13 a14 h14 hc0 x0 x1 x2 x3 x4 x5 x6 p10 p11 p12 p13 = k0_pay24 (k0_pay3 x0 x6) (mid x0 x1 x2 x3 x4 x5 x6) p10
    ∧ out0_B_11 c i a1 h1 a2 h2 a3 h3 a4 h4 a5 h5 a6 h6 a7 h7 a8 h8 a9 h9 a10 h10 a11 h11 a12 h12 a13 h13 a14 h14 hc0 x0 x1 x2 x3 x4 x5 x6 p10 p11 p12 p13 = k0_pay25 (k0_pay13 x4 x5 x2 (k0_pay8 x0 x1 x3 x6)) p11
    ∧ out0_B_12 c i a1 h1 a2 h2 a3 h3 a4 h4 a5 h5 a6 h6 a7 h7 a8 h8 a9 h9 a10 h10 a11 h11 a12 h12 a13 h13 a14 h14 hc0 x0 x1 x2 x3 x4 x5 x6 p10 p11 p12 p13 = k0_pay1 (k0_pay12 x4 x5 x2 (k0_pay8 x0 x1 x3 x6)) p12
    ∧ out0_B_13 c i a1 h1 a2 h2 a3 h3 a4 h4 a5 h5 a6 h6 a7 h7 a8 h8 a9 h9 a10 h10 a11 h11 a12 h12 a13 h13 a14 h14 hc0 x0 x1 x2 x3 x4 x5 x6 p10 p11 p12 p13 = k0_pay2 (k0_pay10 x4 x5 x2 (k0_pay8 x0 x1 x3 x6)) p13 := by
  refine ⟨?_, ?_, ?_, ?_, ?_, ?_, ?_⟩
  · unfold out0_B_7
    rw [View.read_writes_eq_canon _ _ _ (cover0_B_7 c i a1 h1 a2 h2 a3 h3 a4 h4 a5 h5 a6 h6 a7 h7 a8 h8 a9 h9 a10 h10 a11 h11 a12 h12 a13 h13 a14 h14 hc0 x0 x1 x2 x3 x4 x5 x6 p10 p11 p12 p13)]
    unfold kernelRun0_B
    dsimp only
    sl_unfold_words
    unfold mid
    rw [View.canon_unit_zero hz]
    simp only [View.readAt_eq_ld, h1.read_unread, h2.read_unread, h3.read_unread, h4.read_unread, h5.read_unread, h6.read_unread, h7.read_unread, h11.read_unread, h12.read_unread, h13.read_unread, h14.read_unread,
      View.ld_unit_zero (S := S256x2816) hz, View.ld_unit_zero (S := S256x1024) hz, View.ld_unit_zero (S := S1x1024) hz,
      View.ld_unit_zero (S := S2816x1024) hz, View.ld_unit_zero (S := S1x128) hz, shapeCast_self]
  · unfold out0_B_8
    rw [View.read_writes_eq_canon _ _ _ (cover0_B_8 c i a1 h1 a2 h2 a3 h3 a4 h4 a5 h5 a6 h6 a7 h7 a8 h8 a9 h9 a10 h10 a11 h11 a12 h12 a13 h13 a14 h14 hc0 x0 x1 x2 x3 x4 x5 x6 p10 p11 p12 p13)]
    unfold kernelRun0_B
    dsimp only
    sl_unfold_words
    unfold mid
    rw [View.canon_unit_zero hz]
    simp only [View.readAt_eq_ld, h1.read_unread, h2.read_unread, h3.read_unread, h4.read_unread, h5.read_unread, h6.read_unread, h7.read_unread, h11.read_unread, h12.read_unread, h13.read_unread, h14.read_unread,
      View.ld_unit_zero (S := S256x2816) hz, View.ld_unit_zero (S := S256x1024) hz, View.ld_unit_zero (S := S1x1024) hz,
      View.ld_unit_zero (S := S2816x1024) hz, View.ld_unit_zero (S := S1x128) hz, shapeCast_self]
  · unfold out0_B_9
    rw [View.read_writes_eq_canon _ _ _ (cover0_B_9 c i a1 h1 a2 h2 a3 h3 a4 h4 a5 h5 a6 h6 a7 h7 a8 h8 a9 h9 a10 h10 a11 h11 a12 h12 a13 h13 a14 h14 hc0 x0 x1 x2 x3 x4 x5 x6 p10 p11 p12 p13)]
    unfold kernelRun0_B
    dsimp only
    sl_unfold_words
    unfold mid
    rw [View.canon_unit_zero hz]
    simp only [View.readAt_eq_ld, h1.read_unread, h2.read_unread, h3.read_unread, h4.read_unread, h5.read_unread, h6.read_unread, h7.read_unread, h11.read_unread, h12.read_unread, h13.read_unread, h14.read_unread,
      View.ld_unit_zero (S := S256x2816) hz, View.ld_unit_zero (S := S256x1024) hz, View.ld_unit_zero (S := S1x1024) hz,
      View.ld_unit_zero (S := S2816x1024) hz, View.ld_unit_zero (S := S1x128) hz, shapeCast_self]
  · unfold out0_B_10
    rw [View.read_writes_eq_canon _ _ _ (cover0_B_10 c i a1 h1 a2 h2 a3 h3 a4 h4 a5 h5 a6 h6 a7 h7 a8 h8 a9 h9 a10 h10 a11 h11 a12 h12 a13 h13 a14 h14 hc0 x0 x1 x2 x3 x4 x5 x6 p10 p11 p12 p13)]
    unfold kernelRun0_B
    dsimp only
    sl_unfold_words
    unfold mid
    rw [View.canon_unit_zero hz]
    simp only [View.readAt_eq_ld, h1.read_unread, h2.read_unread, h3.read_unread, h4.read_unread, h5.read_unread, h6.read_unread, h7.read_unread, h11.read_unread, h12.read_unread, h13.read_unread, h14.read_unread,
      View.ld_unit_zero (S := S256x2816) hz, View.ld_unit_zero (S := S256x1024) hz, View.ld_unit_zero (S := S1x1024) hz,
      View.ld_unit_zero (S := S2816x1024) hz, View.ld_unit_zero (S := S1x128) hz, shapeCast_self]
  · unfold out0_B_11
    rw [View.read_writes_eq_canon _ _ _ (cover0_B_11 c i a1 h1 a2 h2 a3 h3 a4 h4 a5 h5 a6 h6 a7 h7 a8 h8 a9 h9 a10 h10 a11 h11 a12 h12 a13 h13 a14 h14 hc0 x0 x1 x2 x3 x4 x5 x6 p10 p11 p12 p13)]
    unfold kernelRun0_B
    dsimp only
    sl_unfold_words
    rw [View.canon_unit_zero hz]
    simp only [View.readAt_eq_ld, h1.read_unread, h2.read_unread, h3.read_unread, h4.read_unread, h5.read_unread, h6.read_unread, h7.read_unread, h11.read_unread, h12.read_unread, h13.read_unread, h14.read_unread,
      View.ld_unit_zero (S := S256x2816) hz, View.ld_unit_zero (S := S256x1024) hz, View.ld_unit_zero (S := S1x1024) hz,
      View.ld_unit_zero (S := S2816x1024) hz, View.ld_unit_zero (S := S1x128) hz, shapeCast_self]
  · unfold out0_B_12
    rw [View.read_writes_eq_canon _ _ _ (cover0_B_12 c i a1 h1 a2 h2 a3 h3 a4 h4 a5 h5 a6 h6 a7 h7 a8 h8 a9 h9 a10 h10 a11 h11 a12 h12 a13 h13 a14 h14 hc0 x0 x1 x2 x3 x4 x5 x6 p10 p11 p12 p13)]
    unfold kernelRun0_B
    dsimp only
    sl_unfold_words
    rw [View.canon_unit_zero hz]
    simp only [View.readAt_eq_ld, h1.read_unread, h2.read_unread, h3.read_unread, h4.read_unread, h5.read_unread, h6.read_unread, h7.read_unread, h11.read_unread, h12.read_unread, h13.read_unread, h14.read_unread,
      View.ld_unit_zero (S := S256x2816) hz, View.ld_unit_zero (S := S256x1024) hz, View.ld_unit_zero (S := S1x1024) hz,
      View.ld_unit_zero (S := S2816x1024) hz, View.ld_unit_zero (S := S1x128) hz, shapeCast_self]
  · unfold out0_B_13
    rw [View.read_writes_eq_canon _ _ _ (cover0_B_13 c i a1 h1 a2 h2 a3 h3 a4 h4 a5 h5 a6 h6 a7 h7 a8 h8 a9 h9 a10 h10 a11 h11 a12 h12 a13 h13 a14 h14 hc0 x0 x1 x2 x3 x4 x5 x6 p10 p11 p12 p13)]
    unfold kernelRun0_B
    dsimp only
    sl_unfold_words
    rw [View.canon_unit_zero hz]
    simp only [View.readAt_eq_ld, h1.read_unread, h2.read_unread, h3.read_unread, h4.read_unread, h5.read_unread, h6.read_unread, h7.read_unread, h11.read_unread, h12.read_unread, h13.read_unread, h14.read_unread,
      View.ld_unit_zero (S := S256x2816) hz, View.ld_unit_zero (S := S256x1024) hz, View.ld_unit_zero (S := S1x1024) hz,
      View.ld_unit_zero (S := S2816x1024) hz, View.ld_unit_zero (S := S1x128) hz, shapeCast_self]

end Body

/-! ## The blocks as parts of the arrays -/

variable (m : (ℓ : Loc nD τ sig) → Buf (Elt Ideal) ℓ) (c : Dev nD)

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![t.val, 0] := (by decide +kernel : ∀ t : Fin grid0.N, _)
theorem ix_8 : ∀ t : Fin cfg0.N, win0_8.index t = ![t.val, 0] := (by decide +kernel : ∀ t : Fin grid0.N, _)
theorem ix_9 : ∀ t : Fin cfg0.N, win0_9.index t = ![t.val, 0] := (by decide +kernel : ∀ t : Fin grid0.N, _)

theorem lt_N (t : Fin cfg0.N) : t.val < 32 := lt_of_lt_of_eq t.isLt N_0

/-- The row of the arrays that is a row of a point's blocks. -/
def row (t : Fin cfg0.N) (a : Fin 256) : Fin 8192 := ⟨256 * t.val + a.val, by have := lt_N t; omega⟩

/-- The arrays. -/
def arr0 : S8192x2816.Idx → EReal := m ((c : Thread nD τ).loc main_arg0)
def arr1 : S8192x1024.Idx → EReal := m ((c : Thread nD τ).loc main_arg1)
def arr2 : S8192x1024.Idx → EReal := m ((c : Thread nD τ).loc main_arg2)
def arr3 : S1x1024.Idx → EReal := m ((c : Thread nD τ).loc main_arg3)
def arr4 : S1x1024.Idx → EReal := m ((c : Thread nD τ).loc main_arg4)
def arr5 : S1x1024.Idx → EReal := m ((c : Thread nD τ).loc main_arg5)
def arr6 : S2816x1024.Idx → EReal := m ((c : Thread nD τ).loc main_arg6)

/-- A point's blocks of them. -/
def blk0 (t : Fin cfg0.N) : S256x2816.Idx → EReal := iblk m c 0 t
def blk1 (t : Fin cfg0.N) : S256x1024.Idx → EReal := iblk m c 1 t
def blk2 (t : Fin cfg0.N) : S256x1024.Idx → EReal := iblk m c 2 t
def blk3 (t : Fin cfg0.N) : S1x1024.Idx → EReal := iblk m c 3 t
def blk4 (t : Fin cfg0.N) : S1x1024.Idx → EReal := iblk m c 4 t
def blk5 (t : Fin cfg0.N) : S1x1024.Idx → EReal := iblk m c 5 t
def blk6 (t : Fin cfg0.N) : S2816x1024.Idx → EReal := iblk m c 6 t

theorem blk_0 (t : Fin cfg0.N) (a : Fin 256) (j : Fin 2816) : blk0 m c t (ix2 a j) = arr0 m c (ix2 (row t a) j) := by
  unfold blk0
  blk_simp [iblk]
  rw [V_main_arg0]
  unfold arr0
  congr 1
  have := lt_N t
  blk_ext [ix_0, row]

theorem blk_1 (t : Fin cfg0.N) (a : Fin 256) (j : Fin 1024) : blk1 m c t (ix2 a j) = arr1 m c (ix2 (row t a) j) := by
  unfold blk1
  blk_simp [iblk]
  rw [V_main_arg1]
  unfold arr1
  congr 1
  have := lt_N t
  blk_ext [ix_1, row]

theorem blk_2 (t : Fin cfg0.N) (a : Fin 256) (j : Fin 1024) : blk2 m c t (ix2 a j) = arr2 m c (ix2 (row t a) j) := by
  unfold blk2
  blk_simp [iblk]
  rw [V_main_arg2]
  unfold arr2
  congr 1
  have := lt_N t
  blk_ext [ix_2, row]

theorem blk_3 (t : Fin cfg0.N) (j : Fin 1024) : blk3 m c t (ix2 0 j) = arr3 m c (ix2 0 j) := by
  unfold blk3
  blk_simp [iblk]
  rw [V_main_arg3]
  unfold arr3
  congr 1
  have := lt_N t
  blk_ext [ix_3, row]

theorem blk_4 (t : Fin cfg0.N) (j : Fin 1024) : blk4 m c t (ix2 0 j) = arr4 m c (ix2 0 j) := by
  unfold blk4
  blk_simp [iblk]
  rw [V_main_arg4]
  unfold arr4
  congr 1
  have := lt_N t
  blk_ext [ix_4, row]

theorem blk_5 (t : Fin cfg0.N) (j : Fin 1024) : blk5 m c t (ix2 0 j) = arr5 m c (ix2 0 j) := by
  unfold blk5
  blk_simp [iblk]
  rw [V_main_arg5]
  unfold arr5
  congr 1
  have := lt_N t
  blk_ext [ix_5, row]

theorem blk_6 (t : Fin cfg0.N) (k : Fin 2816) (j : Fin 1024) : blk6 m c t (ix2 k j) = arr6 m c (ix2 k j) := by
  unfold blk6
  blk_simp [iblk]
  rw [V_main_arg6]
  unfold arr6
  congr 1
  have := lt_N t
  blk_ext [ix_6, row]

/-- What a row of the arrays gives. -/
def whole (r : Fin 8192) : Head.In := Head.ofArgs (arr0 m c) (arr1 m c) (arr2 m c) (arr3 m c) (arr4 m c) (arr5 m c) (arr6 m c) r

theorem inp_eq (t : Fin cfg0.N) (a : Fin 256) : inp (blk0 m c t) (blk1 m c t) (blk2 m c t) (blk3 m c t) (blk4 m c t) (blk5 m c t) (blk6 m c t) a = whole m c (row t a) := by
  unfold inp whole Head.ofArgs
  simp only [blk_0, blk_1, blk_2, blk_3, blk_4, blk_5, blk_6]

/-- What the point before left of the four sums, nothing at the first point. -/
def prev (t : ℕ) (h : t < cfg0.N) : Vec Ideal S1x1024 .f32 × Vec Ideal S1x1024 .f32 × Vec Ideal S1x1024 .f32 × Vec Ideal S1x128 .f32 :=
  if t % 32 = 0 then (k0_pay20 (F := Ideal), k0_pay21 (F := Ideal), k0_pay22 (F := Ideal), k0_pay23 (F := Ideal)) else (outsAt0 m c (t - 1) (Nat.lt_of_le_of_lt (Nat.sub_le _ _) h)).2.2.2

/-- What a point leaves. -/
theorem outs (t : Fin cfg0.N) : outsAt0 m c t.val t.isLt = (k0_pay18 (blk3 m c t) (blk6 m c t) (mid (blk0 m c t) (blk1 m c t) (blk2 m c t) (blk3 m c t) (blk4 m c t) (blk5 m c t) (blk6 m c t)),
    k0_pay17 (mid (blk0 m c t) (blk1 m c t) (blk2 m c t) (blk3 m c t) (blk4 m c t) (blk5 m c t) (blk6 m c t)),
    k0_pay19 (blk3 m c t) (mid (blk0 m c t) (blk1 m c t) (blk2 m c t) (blk3 m c t) (blk4 m c t) (blk5 m c t) (blk6 m c t)),
    k0_pay24 (k0_pay3 (blk0 m c t) (blk6 m c t)) (mid (blk0 m c t) (blk1 m c t) (blk2 m c t) (blk3 m c t) (blk4 m c t) (blk5 m c t) (blk6 m c t)) (prev m c t.val t.isLt).1,
    k0_pay25 (k0_pay13 (blk4 m c t) (blk5 m c t) (blk2 m c t) (k0_pay8 (blk0 m c t) (blk1 m c t) (blk3 m c t) (blk6 m c t))) (prev m c t.val t.isLt).2.1,
    k0_pay1 (k0_pay12 (blk4 m c t) (blk5 m c t) (blk2 m c t) (k0_pay8 (blk0 m c t) (blk1 m c t) (blk3 m c t) (blk6 m c t))) (prev m c t.val t.isLt).2.2.1,
    k0_pay2 (k0_pay10 (blk4 m c t) (blk5 m c t) (blk2 m c t) (k0_pay8 (blk0 m c t) (blk1 m c t) (blk3 m c t) (blk6 m c t))) (prev m c t.val t.isLt).2.2.2) := by
  by_cases h0 : t.val % 32 = 0
  · rw [outsAt0_A m c t h0]
    have e := left_A (iblk m c 0 t) (iblk m c 1 t) (iblk m c 2 t) (iblk m c 3 t) (iblk m c 4 t) (iblk m c 5 t) (iblk m c 6 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0)
    obtain ⟨e7, e8, e9, e10, e11, e12, e13⟩ := e
    rw [e7, e8, e9, e10, e11, e12, e13]
    unfold prev
    rw [if_pos h0]
    rfl
  · rw [outsAt0_B m c t h0]
    have e := left_B (iblk m c 0 t) (iblk m c 1 t) (iblk m c 2 t) (iblk m c 3 t) (iblk m c 4 t) (iblk m c 5 t) (iblk m c 6 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
      (prev m c t.val t.isLt).1 (prev m c t.val t.isLt).2.1 (prev m c t.val t.isLt).2.2.1 (prev m c t.val t.isLt).2.2.2 (fun h => h0 ((hcond0_0 t).mp h))
    obtain ⟨e7, e8, e9, e10, e11, e12, e13⟩ := e
    unfold prev at e7 e8 e9 e10 e11 e12 e13 ⊢
    rw [if_neg h0] at e7 e8 e9 e10 e11 e12 e13 ⊢
    rw [e7, e8, e9, e10, e11, e12, e13]
    rfl

/-- The last point. -/
def last : Fin cfg0.N := ⟨31, lt_of_lt_of_eq (by norm_num) N_0.symm⟩

/-- A sum kept over the points is the sum over all rows. -/
theorem total (S : (t : ℕ) → t < cfg0.N → EReal) (f : Fin 8192 → EReal)
    (first : ∀ t h, t % 32 = 0 → S t h = ∑ a, f (row ⟨t, h⟩ a))
    (next : ∀ t h, (t + 1) % 32 ≠ 0 → S (t + 1) h = S t (Nat.lt_of_succ_lt h) + ∑ a, f (row ⟨t + 1, h⟩ a)) (t : Fin cfg0.N) (ht : t.val = 31) :
    S t.val t.isLt = ∑ r, f r := by
  have e := Sums.fold S (fun _ => f) (p := 32) (w := 256)
    (fun t h h0 => (first t h h0).trans (Sums.start f _ fun k => ⟨by omega, congrArg f (Fin.ext (by
      have := lt_N ⟨t, h⟩
      show 256 * t + k.val = k.val
      have : t = 0 := by dsimp only at this; omega
      omega))⟩).symm)
    (fun t h h0 => ⟨_, next t h h0, fun k => by
      have := lt_N ⟨t + 1, h⟩
      dsimp only at this
      exact ⟨by omega, congrArg f (Fin.ext (by show 256 * (t + 1) + k.val = 256 * ((t + 1) % 32) + k.val; omega))⟩⟩) t.val t.isLt
  rw [e, ht]
  exact Sums.whole f

def res7 : S8192x2816.Idx → EReal := fun y => Head.da (whole m c (y 0)) (y 1)

theorem part_7 (t : Fin cfg0.N) (a : Fin 256) (j : Fin 2816) (e : S8192x2816.Idx) (h0 : (e 0).val = 256 * t.val + a.val) (h1 : (e 1).val = j.val) :
    ((outsAt0 m c t.val t.isLt).1 (ix2 a j) : EReal) = res7 m c e := by
  have r0 : e 0 = row t a := Fin.ext h0
  have r1 : e 1 = j := Fin.ext h1
  rw [outs]
  refine (da_at (blk0 m c t) (blk1 m c t) (blk2 m c t) (blk3 m c t) (blk4 m c t) (blk5 m c t) (blk6 m c t) a j).trans ?_
  unfold res7
  rw [r0, r1, inp_eq]

theorem res_7 : ((dats m 0 c).arrAt 7 cfg0.N : S8192x2816.Idx → EReal) = res7 m c := by
  refine (dats m 0 c).arrAt_eq_of_covers 7 _ (by decide +kernel) fun t hf y => ?_
  blk_simp
  rw [after0_7]
  have hy : y = ix2 (y 0) (y 1) := by funext a; fin_cases a <;> rfl
  have e := ix_7 t
  rw [hy]
  refine part_7 m c t (y 0) (y 1) _ ?_ ?_ <;> blk_simp [e] <;> omega

def res8 : S8192x1024.Idx → EReal := fun y => Head.dy (whole m c (y 0)) (y 1)

theorem part_8 (t : Fin cfg0.N) (a : Fin 256) (j : Fin 1024) (e : S8192x1024.Idx) (h0 : (e 0).val = 256 * t.val + a.val) (h1 : (e 1).val = j.val) :
    ((outsAt0 m c t.val t.isLt).2.1 (ix2 a j) : EReal) = res8 m c e := by
  have r0 : e 0 = row t a := Fin.ext h0
  have r1 : e 1 = j := Fin.ext h1
  rw [outs]
  refine (dy_at (blk0 m c t) (blk1 m c t) (blk2 m c t) (blk3 m c t) (blk4 m c t) (blk5 m c t) (blk6 m c t) a j).trans ?_
  unfold res8
  rw [r0, r1, inp_eq]

theorem res_8 : ((dats m 0 c).arrAt 8 cfg0.N : S8192x1024.Idx → EReal) = res8 m c := by
  refine (dats m 0 c).arrAt_eq_of_covers 8 _ (by decide +kernel) fun t hf y => ?_
  blk_simp
  rw [after0_8]
  have hy : y = ix2 (y 0) (y 1) := by funext a; fin_cases a <;> rfl
  have e := ix_8 t
  rw [hy]
  refine part_8 m c t (y 0) (y 1) _ ?_ ?_ <;> blk_simp [e] <;> omega

def res9 : S8192x1024.Idx → EReal := fun y => Head.dffn (whole m c (y 0)) (y 1)

theorem part_9 (t : Fin cfg0.N) (a : Fin 256) (j : Fin 1024) (e : S8192x1024.Idx) (h0 : (e 0).val = 256 * t.val + a.val) (h1 : (e 1).val = j.val) :
    ((outsAt0 m c t.val t.isLt).2.2.1 (ix2 a j) : EReal) = res9 m c e := by
  have r0 : e 0 = row t a := Fin.ext h0
  have r1 : e 1 = j := Fin.ext h1
  rw [outs]
  refine (dffn_at (blk0 m c t) (blk1 m c t) (blk2 m c t) (blk3 m c t) (blk4 m c t) (blk5 m c t) (blk6 m c t) a j).trans ?_
  unfold res9
  rw [r0, r1, inp_eq]

theorem res_9 : ((dats m 0 c).arrAt 9 cfg0.N : S8192x1024.Idx → EReal) = res9 m c := by
  refine (dats m 0 c).arrAt_eq_of_covers 9 _ (by decide +kernel) fun t hf y => ?_
  blk_simp
  rw [after0_9]
  have hy : y = ix2 (y 0) (y 1) := by funext a; fin_cases a <;> rfl
  have e := ix_9 t
  rw [hy]
  refine part_9 m c t (y 0) (y 1) _ ?_ ?_ <;> blk_simp [e] <;> omega

theorem kept_10 (j : Fin 1024) (t : Fin cfg0.N) (ht : t.val = 31) :
    ((outsAt0 m c t.val t.isLt).2.2.2.1 (ix2 0 j) : EReal) = ∑ r, Head.dgt (whole m c r) j :=
  total (fun t h => ((outsAt0 m c t h).2.2.2.1 (ix2 0 j) : EReal)) (fun r => Head.dgt (whole m c r) j)
    (fun t h h0 => by
      refine (congrArg (fun o => (o.2.2.2.1 (ix2 0 j) : EReal)) (outs m c ⟨t, h⟩)).trans ((dgt_at (blk0 m c ⟨t, h⟩) (blk1 m c ⟨t, h⟩) (blk2 m c ⟨t, h⟩) (blk3 m c ⟨t, h⟩) (blk4 m c ⟨t, h⟩) (blk5 m c ⟨t, h⟩) (blk6 m c ⟨t, h⟩) j _).trans ?_)
      simp only [inp_eq]
      have e : ((prev m c t h).1 (ix2 0 j) : EReal) = 0 := by
        unfold prev
        rw [if_pos h0]
        pointwise [k0_pay20]
      exact (congrArg (· + _) e).trans (zero_add _))
    (fun t h h0 => by
      refine (congrArg (fun o => (o.2.2.2.1 (ix2 0 j) : EReal)) (outs m c ⟨t + 1, h⟩)).trans ((dgt_at (blk0 m c ⟨t + 1, h⟩) (blk1 m c ⟨t + 1, h⟩) (blk2 m c ⟨t + 1, h⟩) (blk3 m c ⟨t + 1, h⟩) (blk4 m c ⟨t + 1, h⟩) (blk5 m c ⟨t + 1, h⟩) (blk6 m c ⟨t + 1, h⟩) j _).trans ?_)
      simp only [inp_eq]
      have e : prev m c (t + 1) h = (outsAt0 m c t (Nat.lt_of_succ_lt h)).2.2.2 := by
        unfold prev
        rw [if_neg h0]
        rfl
      exact congrArg (fun p => (p.1 (ix2 0 j) + _ : EReal)) e) t ht

def res10 : S1x1024.Idx → EReal := fun y => ∑ r, Head.dgt (whole m c r) (y 1)

theorem res_10 : ((dats m 0 c).arrAt 10 cfg0.N : S1x1024.Idx → EReal) = res10 m c := by
  refine (dats m 0 c).arrAt_eq_of_after_last 10 last (by decide +kernel) _ fun y => ?_
  blk_simp
  rw [after0_10]
  have hy : y = ix2 0 (y 1) := by
    funext a
    fin_cases a
    · exact Fin.ext (by have := (y 0).isLt; show (y 0).val = 0; change (y 0).val < 1 at this; omega)
    · rfl
  rw [hy]
  exact kept_10 m c (y 1) _ rfl

theorem kept_11 (j : Fin 1024) (t : Fin cfg0.N) (ht : t.val = 31) :
    ((outsAt0 m c t.val t.isLt).2.2.2.2.1 (ix2 0 j) : EReal) = ∑ r, Head.dg (whole m c r) j :=
  total (fun t h => ((outsAt0 m c t h).2.2.2.2.1 (ix2 0 j) : EReal)) (fun r => Head.dg (whole m c r) j)
    (fun t h h0 => by
      refine (congrArg (fun o => (o.2.2.2.2.1 (ix2 0 j) : EReal)) (outs m c ⟨t, h⟩)).trans ((dg_at (blk0 m c ⟨t, h⟩) (blk1 m c ⟨t, h⟩) (blk2 m c ⟨t, h⟩) (blk3 m c ⟨t, h⟩) (blk4 m c ⟨t, h⟩) (blk5 m c ⟨t, h⟩) (blk6 m c ⟨t, h⟩) j _).trans ?_)
      simp only [inp_eq]
      have e : ((prev m c t h).2.1 (ix2 0 j) : EReal) = 0 := by
        unfold prev
        rw [if_pos h0]
        pointwise [k0_pay21]
      exact (congrArg (· + _) e).trans (zero_add _))
    (fun t h h0 => by
      refine (congrArg (fun o => (o.2.2.2.2.1 (ix2 0 j) : EReal)) (outs m c ⟨t + 1, h⟩)).trans ((dg_at (blk0 m c ⟨t + 1, h⟩) (blk1 m c ⟨t + 1, h⟩) (blk2 m c ⟨t + 1, h⟩) (blk3 m c ⟨t + 1, h⟩) (blk4 m c ⟨t + 1, h⟩) (blk5 m c ⟨t + 1, h⟩) (blk6 m c ⟨t + 1, h⟩) j _).trans ?_)
      simp only [inp_eq]
      have e : prev m c (t + 1) h = (outsAt0 m c t (Nat.lt_of_succ_lt h)).2.2.2 := by
        unfold prev
        rw [if_neg h0]
        rfl
      exact congrArg (fun p => (p.2.1 (ix2 0 j) + _ : EReal)) e) t ht

def res11 : S1x1024.Idx → EReal := fun y => ∑ r, Head.dg (whole m c r) (y 1)

theorem res_11 : ((dats m 0 c).arrAt 11 cfg0.N : S1x1024.Idx → EReal) = res11 m c := by
  refine (dats m 0 c).arrAt_eq_of_after_last 11 last (by decide +kernel) _ fun y => ?_
  blk_simp
  rw [after0_11]
  have hy : y = ix2 0 (y 1) := by
    funext a
    fin_cases a
    · exact Fin.ext (by have := (y 0).isLt; show (y 0).val = 0; change (y 0).val < 1 at this; omega)
    · rfl
  rw [hy]
  exact kept_11 m c (y 1) _ rfl

theorem kept_12 (j : Fin 1024) (t : Fin cfg0.N) (ht : t.val = 31) :
    ((outsAt0 m c t.val t.isLt).2.2.2.2.2.1 (ix2 0 j) : EReal) = ∑ r, Head.dout (whole m c r) j :=
  total (fun t h => ((outsAt0 m c t h).2.2.2.2.2.1 (ix2 0 j) : EReal)) (fun r => Head.dout (whole m c r) j)
    (fun t h h0 => by
      refine (congrArg (fun o => (o.2.2.2.2.2.1 (ix2 0 j) : EReal)) (outs m c ⟨t, h⟩)).trans ((db_at (blk0 m c ⟨t, h⟩) (blk1 m c ⟨t, h⟩) (blk2 m c ⟨t, h⟩) (blk3 m c ⟨t, h⟩) (blk4 m c ⟨t, h⟩) (blk5 m c ⟨t, h⟩) (blk6 m c ⟨t, h⟩) j _).trans ?_)
      simp only [inp_eq]
      have e : ((prev m c t h).2.2.1 (ix2 0 j) : EReal) = 0 := by
        unfold prev
        rw [if_pos h0]
        pointwise [k0_pay22]
      exact (congrArg (· + _) e).trans (zero_add _))
    (fun t h h0 => by
      refine (congrArg (fun o => (o.2.2.2.2.2.1 (ix2 0 j) : EReal)) (outs m c ⟨t + 1, h⟩)).trans ((db_at (blk0 m c ⟨t + 1, h⟩) (blk1 m c ⟨t + 1, h⟩) (blk2 m c ⟨t + 1, h⟩) (blk3 m c ⟨t + 1, h⟩) (blk4 m c ⟨t + 1, h⟩) (blk5 m c ⟨t + 1, h⟩) (blk6 m c ⟨t + 1, h⟩) j _).trans ?_)
      simp only [inp_eq]
      have e : prev m c (t + 1) h = (outsAt0 m c t (Nat.lt_of_succ_lt h)).2.2.2 := by
        unfold prev
        rw [if_neg h0]
        rfl
      exact congrArg (fun p => (p.2.2.1 (ix2 0 j) + _ : EReal)) e) t ht

def res12 : S1x1024.Idx → EReal := fun y => ∑ r, Head.dout (whole m c r) (y 1)

theorem res_12 : ((dats m 0 c).arrAt 12 cfg0.N : S1x1024.Idx → EReal) = res12 m c := by
  refine (dats m 0 c).arrAt_eq_of_after_last 12 last (by decide +kernel) _ fun y => ?_
  blk_simp
  rw [after0_12]
  have hy : y = ix2 0 (y 1) := by
    funext a
    fin_cases a
    · exact Fin.ext (by have := (y 0).isLt; show (y 0).val = 0; change (y 0).val < 1 at this; omega)
    · rfl
  rw [hy]
  exact kept_12 m c (y 1) _ rfl

theorem kept_13 (j : Fin 128) (t : Fin cfg0.N) (ht : t.val = 31) :
    ((outsAt0 m c t.val t.isLt).2.2.2.2.2.2 (ix2 0 j) : EReal) = ∑ r, Spec.half * Head.loss (whole m c r) :=
  total (fun t h => ((outsAt0 m c t h).2.2.2.2.2.2 (ix2 0 j) : EReal)) (fun r => Spec.half * Head.loss (whole m c r))
    (fun t h h0 => by
      refine (congrArg (fun o => (o.2.2.2.2.2.2 (ix2 0 j) : EReal)) (outs m c ⟨t, h⟩)).trans ((loss_at (blk0 m c ⟨t, h⟩) (blk1 m c ⟨t, h⟩) (blk2 m c ⟨t, h⟩) (blk3 m c ⟨t, h⟩) (blk4 m c ⟨t, h⟩) (blk5 m c ⟨t, h⟩) (blk6 m c ⟨t, h⟩) _ j).trans ?_)
      simp only [inp_eq]
      have e : ((prev m c t h).2.2.2 (ix2 0 j) : EReal) = 0 := by
        unfold prev
        rw [if_pos h0]
        pointwise [k0_pay23]
      exact (congrArg (· + _) e).trans (zero_add _))
    (fun t h h0 => by
      refine (congrArg (fun o => (o.2.2.2.2.2.2 (ix2 0 j) : EReal)) (outs m c ⟨t + 1, h⟩)).trans ((loss_at (blk0 m c ⟨t + 1, h⟩) (blk1 m c ⟨t + 1, h⟩) (blk2 m c ⟨t + 1, h⟩) (blk3 m c ⟨t + 1, h⟩) (blk4 m c ⟨t + 1, h⟩) (blk5 m c ⟨t + 1, h⟩) (blk6 m c ⟨t + 1, h⟩) _ j).trans ?_)
      simp only [inp_eq]
      have e : prev m c (t + 1) h = (outsAt0 m c t (Nat.lt_of_succ_lt h)).2.2.2 := by
        unfold prev
        rw [if_neg h0]
        rfl
      exact congrArg (fun p => (p.2.2.2 (ix2 0 j) + _ : EReal)) e) t ht

def res13 : S1x128.Idx → EReal := fun y => ∑ r, Spec.half * Head.loss (whole m c r)

theorem res_13 : ((dats m 0 c).arrAt 13 cfg0.N : S1x128.Idx → EReal) = res13 m c := by
  refine (dats m 0 c).arrAt_eq_of_after_last 13 last (by decide +kernel) _ fun y => ?_
  blk_simp
  rw [after0_13]
  have hy : y = ix2 0 (y 1) := by
    funext a
    fin_cases a
    · exact Fin.ext (by have := (y 0).isLt; show (y 0).val = 0; change (y 0).val < 1 at this; omega)
    · rfl
  rw [hy]
  exact kept_13 m c (y 1) _ rfl

end Cert.HeadIdeal.Row

namespace Cert.HeadRefIdeal.Row

open Idealize.ShloMosaic Idealize.ShloMosaic.TcCoe Idealize.SL.Sem Cert.HeadRefIdeal Cert.HeadRefIdeal.Gen Cert.HeadRefIdeal.Value

variable (m : (ℓ : Loc nD τ sig) → Buf (Elt Ideal) ℓ) (c : Dev nD)

/-- What a row of the reference's arguments gives. -/
def whole (i : Fin 8192) : Head.In :=
  Head.ofArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i

theorem da_at (i : Fin 8192) (j : Fin 2816) : (res_main_v82 (F := Ideal) m c (ix2 i j) : EReal) = Head.da (whole m c i) j := by
  unfold res_main_v82
  pointwise []
  simp only [Finset.univ_unique, Finset.sum_singleton]
  rfl

theorem dy_at (i : Fin 8192) (j : Fin 1024) : (res_main_v81 (F := Ideal) m c (ix2 i j) : EReal) = Head.dy (whole m c i) j := by
  unfold res_main_v81
  pointwise []
  simp only [Finset.univ_unique, Finset.sum_singleton]
  rfl

theorem dffn_at (i : Fin 8192) (j : Fin 1024) : (res_main_v83 (F := Ideal) m c (ix2 i j) : EReal) = Head.dffn (whole m c i) j := by
  unfold res_main_v83
  pointwise []
  simp only [Finset.univ_unique, Finset.sum_singleton]
  rfl

theorem dgt_at (i : Fin 1) (j : Fin 1024) : (res_main_v79 (F := Ideal) m c (ix2 i j) : EReal) = ∑ r, Head.dgt (whole m c r) j := by
  unfold res_main_v79
  pointwise []
  simp only [Finset.univ_unique, Finset.sum_singleton]
  rfl

theorem dg_at (i : Fin 1) (j : Fin 1024) : (res_main_v52 (F := Ideal) m c (ix2 i j) : EReal) = ∑ r, Head.dg (whole m c r) j := by
  unfold res_main_v52
  pointwise []
  rfl

theorem db_at (i : Fin 1) (j : Fin 1024) : (res_main_v49 (F := Ideal) m c (ix2 i j) : EReal) = ∑ r, Head.dout (whole m c r) j := by
  unfold res_main_v49
  pointwise []
  rfl

theorem loss_at (i : Fin 1) (j : Fin 128) : (res_main_v84 (F := Ideal) m c (ix2 i j) : EReal) = ∑ r, Spec.half * Head.loss (whole m c r) := by
  rw [← Head.half_sum]
  unfold res_main_v84
  pointwise []
  rfl

end Cert.HeadRefIdeal.Row

namespace Cert.Head.Claims

open Idealize.ShloMosaic Idealize.ShloMosaic.TcCoe Idealize.SL.Sem

theorem algebraic : Cert.algebraic_HeadIdeal_HeadRefIdeal := by
  intro m g m' g' _ hag
  refine ⟨_, _, _, _, _, _, _, Cert.HeadIdeal.Value.run_blocks m g, ?_⟩
  refine (θ_run _ _ _).mono (fun r h c => ?_) (Cert.HeadRefIdeal.Value.run m' g')
  obtain ⟨r0, r1, r2, r3, r4, r5, r6, k⟩ := h c
  obtain ⟨e0, e1, e2, e3, e4, e5, e6⟩ := hag c
  have hw : Cert.HeadRefIdeal.Row.whole m' c = Cert.HeadIdeal.Row.whole m c := by
    unfold Cert.HeadRefIdeal.Row.whole
    rw [e0, e1, e2, e3, e4, e5, e6]
    rfl
  refine ⟨r0.trans ?_, r1.trans ?_, r2.trans ?_, r3.trans ?_, r4.trans ?_, r5.trans ?_, r6.trans ?_, k⟩
  · refine Eq.trans ?_ (Cert.HeadIdeal.Row.res_7 m c).symm
    refine Cert.Meet.ix2_all fun i j => (Cert.HeadRefIdeal.Row.da_at m' c i j).trans ?_
    rw [hw]
    rfl
  · refine Eq.trans ?_ (Cert.HeadIdeal.Row.res_8 m c).symm
    refine Cert.Meet.ix2_all fun i j => (Cert.HeadRefIdeal.Row.dy_at m' c i j).trans ?_
    rw [hw]
    rfl
  · refine Eq.trans ?_ (Cert.HeadIdeal.Row.res_9 m c).symm
    refine Cert.Meet.ix2_all fun i j => (Cert.HeadRefIdeal.Row.dffn_at m' c i j).trans ?_
    rw [hw]
    rfl
  · refine Eq.trans ?_ (Cert.HeadIdeal.Row.res_10 m c).symm
    refine Cert.Meet.ix2_all fun i j => (Cert.HeadRefIdeal.Row.dgt_at m' c i j).trans ?_
    rw [hw]
    rfl
  · refine Eq.trans ?_ (Cert.HeadIdeal.Row.res_11 m c).symm
    refine Cert.Meet.ix2_all fun i j => (Cert.HeadRefIdeal.Row.dg_at m' c i j).trans ?_
    rw [hw]
    rfl
  · refine Eq.trans ?_ (Cert.HeadIdeal.Row.res_12 m c).symm
    refine Cert.Meet.ix2_all fun i j => (Cert.HeadRefIdeal.Row.db_at m' c i j).trans ?_
    rw [hw]
    rfl
  · refine Eq.trans ?_ (Cert.HeadIdeal.Row.res_13 m c).symm
    refine Cert.Meet.ix2_all fun i j => (Cert.HeadRefIdeal.Row.loss_at m' c i j).trans ?_
    rw [hw]
    rfl

end Cert.Head.Claims

end
-- ==== Proof.Mix.lean ====
module

public import proofs.«01_k».proof.Proof.Norm

/-! What the merge computes for a row: two gated branches, their mix, and the residual in front of the norm. -/

@[expose] public section

noncomputable section

namespace Cert.Mix

open Idealize.ShloMosaic Spec Norm

/-- A row of the residual, the two branches and the two gates' arguments; the gates' biases and the mix's gate; the weights. -/
structure In where
  x : Fin 1024 → EReal
  oa : Fin 1024 → EReal
  ob : Fin 1024 → EReal
  ra : Fin 1024 → EReal
  rb : Fin 1024 → EReal
  ba : Fin 1024 → EReal
  bb : Fin 1024 → EReal
  gt : Fin 1024 → EReal
  wa : Fin 1024 → Fin 1024 → EReal
  wb : Fin 1024 → Fin 1024 → EReal
  wo : Fin 1024 → Fin 1024 → EReal

/-- The logistic function. -/
def sig (z : EReal) : EReal := Ideal.div 1 (1 + Ideal.exp (-z))

variable (I : In) (j : Fin 1024)

def ga : EReal := sig (I.ra j + I.ba j)
def gb : EReal := sig (I.rb j + I.bb j)
def pa : EReal := ∑ k, I.oa k * I.wa k j
def pb : EReal := ∑ k, I.ob k * I.wb k j
def merged : EReal := ga I j * pa I j + gb I j * pb I j
def mix : EReal := ∑ k, merged I k * I.wo k j
def pre : EReal := alpha * I.x j + I.gt j * mix I j

/-- The kernel's way of writing the logistic function. -/
theorem sig_eq (z : EReal) : half * Ideal.tanh (half * z) + half = sig z := sigmoid_eq z

/-- What row `r` of the arrays gives the merge: the gates' arguments are two column blocks of one projection. -/
def ofArgs (x oa ob : (⟨2, ![8192, 1024]⟩ : Shape).Idx → EReal) (proj : (⟨2, ![8192, 9728]⟩ : Shape).Idx → EReal)
    (ba bb gt : (⟨2, ![1, 1024]⟩ : Shape).Idx → EReal) (wa wb wo : (⟨2, ![1024, 1024]⟩ : Shape).Idx → EReal) (r : Fin 8192) : In where
  x := fun j => x (ix2 r j)
  oa := fun j => oa (ix2 r j)
  ob := fun j => ob (ix2 r j)
  ra := fun j => proj (ix2 r ⟨7168 + j.val, by omega⟩)
  rb := fun j => proj (ix2 r ⟨8192 + j.val, by omega⟩)
  ba := fun j => ba (ix2 0 j)
  bb := fun j => bb (ix2 0 j)
  gt := fun j => gt (ix2 0 j)
  wa := fun k j => wa (ix2 k j)
  wb := fun k j => wb (ix2 k j)
  wo := fun k j => wo (ix2 k j)

end Cert.Mix

end
-- ==== Proof.Merge.lean ====
module

public import proofs.«01_k».proof.Defs
public import proofs.«01_k».proof.Proof.Mix
public import proofs.«01_k».proof.Proof.Gen.MergeIdeal.Value
public import proofs.«01_k».proof.Proof.Gen.MergeRefIdeal.Run
public import proofs.«01_k».proof.Proof.Meet
public import Idealize.ShloMosaic.Lib.Pipeline.ValueKit.Geometry

/-! The merge of the two branches, forward. -/

@[expose] public section

set_option maxRecDepth 16384

noncomputable section

namespace Cert.Mix

open Idealize.ShloMosaic Spec Norm

/-- The norm's output, and the modulated row handed to the feed-forward. -/
def y1 (I : In) (g b : Fin 1024 → EReal) (j : Fin 1024) : EReal := unit (pre I) j * g j + b j
def h (I : In) (g b sc sh : Fin 1024 → EReal) (j : Fin 1024) : EReal := y1 I g b j * (1 + sc j) + sh j

end Cert.Mix

namespace Cert.MergeIdeal.Row

open Idealize.ShloMosaic Idealize.ShloMosaic.TcCoe Idealize.SL.Sem Cert.MergeIdeal Cert.MergeIdeal.Gen Cert.MergeIdeal.Value

theorem hz : (![0, 0] : Fin 2 → Nat) = fun _ => 0 := funext fun a => by fin_cases a <;> rfl

/-! ## What the body computes from its blocks -/

section Body

variable (x0 : Vec Ideal S256x1024 .f32) (x1 : Vec Ideal S256x1024 .bf16) (x2 : Vec Ideal S256x1024 .bf16) (x3 : Vec Ideal S256x1024 .f32) (x4 : Vec Ideal S256x1024 .f32) (x5 : Vec Ideal S1x1024 .f32) (x6 : Vec Ideal S1x1024 .f32) (x7 : Vec Ideal S1x1024 .f32) (x8 : Vec Ideal S1x1024 .f32) (x9 : Vec Ideal S1x1024 .f32) (x10 : Vec Ideal S1x1024 .f32) (x11 : Vec Ideal S1x1024 .f32) (x12 : Vec Ideal S1024x1024 .bf16) (x13 : Vec Ideal S1024x1024 .bf16) (x14 : Vec Ideal S1024x1024 .bf16)

/-- What a row of the blocks gives the merge. -/
def inp (a : Fin 256) : Mix.In where
  x := fun j => x0 (ix2 a j)
  oa := fun j => x1 (ix2 a j)
  ob := fun j => x2 (ix2 a j)
  ra := fun j => x3 (ix2 a j)
  rb := fun j => x4 (ix2 a j)
  ba := fun j => x5 (ix2 0 j)
  bb := fun j => x6 (ix2 0 j)
  gt := fun j => x7 (ix2 0 j)
  wa := fun k j => x12 (ix2 k j)
  wb := fun k j => x13 (ix2 k j)
  wo := fun k j => x14 (ix2 k j)

variable (a : Fin 256) (j : Fin 1024)

theorem gate_at : k0_pay3 (F := Ideal) x5 x3 (ix2 a j) = Mix.sig (x3 (ix2 a j) + x5 (ix2 0 j)) := by
  refine Eq.trans ?_ (Mix.sig_eq _)
  pointwise [k0_pay3, Spec.half]

theorem y_at : k0_pay4 x6 x7 x8 x9 k0_pay2 x0 x1 x2 x4 x12 x13 x14 (k0_pay3 x5 x3) (ix2 a j)
    = Mix.y1 (inp x0 x1 x2 x3 x4 x5 x6 x7 x12 x13 x14 a) (fun j => x8 (ix2 0 j)) (fun j => x9 (ix2 0 j)) j := by
  have e : ∀ (v : FVec Ideal S256x1024 .f32), k0_pay4 (F := Ideal) x6 x7 x8 x9 k0_pay2 x0 x1 x2 x4 x12 x13 x14 v (ix2 a j)
      = Norm.unit (fun j => Norm.alpha * x0 (ix2 a j) + x7 (ix2 0 j) * ∑ k, (v (ix2 a k) * ∑ l, x1 (ix2 a l) * x12 (ix2 l k)
        + (Spec.half * Ideal.tanh (Spec.half * (x4 (ix2 a k) + x6 (ix2 0 k))) + Spec.half) * ∑ l, x2 (ix2 a l) * x13 (ix2 l k)) * x14 (ix2 k j)) j
        * x8 (ix2 0 j) + x9 (ix2 0 j) := by
    intro v
    pointwise [k0_pay4, k0_pay2]
    rfl
  rw [e]
  simp only [gate_at, Mix.sig_eq]
  rfl

theorem h_at (v : FVec Ideal S256x1024 .f32) : k0_pay1 (F := Ideal) x10 x11 v (ix2 a j) = v (ix2 a j) * (1 + x10 (ix2 0 j)) + x11 (ix2 0 j) := by
  pointwise [k0_pay1]

variable (c : Dev nD) (i : grid0.Coords) (a1 : Memref sig .tc .vmem S256x1024 .f32) (h1 : a1.IsWhole) (a2 : Memref sig .tc .vmem S256x1024 .bf16) (h2 : a2.IsWhole) (a3 : Memref sig .tc .vmem S256x1024 .bf16) (h3 : a3.IsWhole) (a4 : Memref sig .tc .vmem S256x1024 .f32) (h4 : a4.IsWhole) (a5 : Memref sig .tc .vmem S256x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole) (a11 : Memref sig .tc .vmem S1x1024 .f32) (h11 : a11.IsWhole) (a12 : Memref sig .tc .vmem S1x1024 .f32) (h12 : a12.IsWhole) (a13 : Memref sig .tc .vmem S1024x1024 .bf16) (h13 : a13.IsWhole) (a14 : Memref sig .tc .vmem S1024x1024 .bf16) (h14 : a14.IsWhole) (a15 : Memref sig .tc .vmem S1024x1024 .bf16) (h15 : a15.IsWhole) (a16 : Memref sig .tc .vmem S256x1024 .f32) (h16 : a16.IsWhole) (a17 : Memref sig .tc .vmem S256x1024 .bf16) (h17 : a17.IsWhole)

/-- A grid point writes the two payloads of the blocks it reads. -/
theorem left_y : out0_A_15 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 x13 x14 = k0_pay4 x6 x7 x8 x9 k0_pay2 x0 x1 x2 x4 x12 x13 x14 (k0_pay3 x5 x3) := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 x13 x14)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S256x1024) hz, View.ld_unit_zero (S := S1x1024) hz,
    View.ld_unit_zero (S := S1024x1024) hz, shapeCast_self]

theorem left_h : out0_A_16 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 x13 x14 = k0_pay1 x10 x11 (k0_pay4 x6 x7 x8 x9 k0_pay2 x0 x1 x2 x4 x12 x13 x14 (k0_pay3 x5 x3)) := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 x13 x14)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S256x1024) hz, View.ld_unit_zero (S := S1x1024) hz,
    View.ld_unit_zero (S := S1024x1024) hz, shapeCast_self]

end Body

/-! ## The blocks as parts of the arrays -/

variable (m : (ℓ : Loc nD τ sig) → Buf (Elt Ideal) ℓ) (c : Dev nD)

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![t.val, 7] := (by decide +kernel : ∀ t : Fin grid0.N, _)
theorem ix_4 : ∀ t : Fin cfg0.N, win0_4.index t = ![t.val, 8] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![0, 0] := (by decide +kernel : ∀ t : Fin grid0.N, _)
theorem ix_9 : ∀ t : Fin cfg0.N, win0_9.index t = ![0, 0] := (by decide +kernel : ∀ t : Fin grid0.N, _)
theorem ix_10 : ∀ t : Fin cfg0.N, win0_10.index t = ![0, 0] := (by decide +kernel : ∀ t : Fin grid0.N, _)
theorem ix_11 : ∀ t : Fin cfg0.N, win0_11.index t = ![0, 0] := (by decide +kernel : ∀ t : Fin grid0.N, _)
theorem ix_12 : ∀ t : Fin cfg0.N, win0_12.index t = ![0, 0] := (by decide +kernel : ∀ t : Fin grid0.N, _)
theorem ix_13 : ∀ t : Fin cfg0.N, win0_13.index t = ![0, 0] := (by decide +kernel : ∀ t : Fin grid0.N, _)
theorem ix_14 : ∀ t : Fin cfg0.N, win0_14.index t = ![0, 0] := (by decide +kernel : ∀ t : Fin grid0.N, _)
theorem ix_15 : ∀ t : Fin cfg0.N, win0_15.index t = ![t.val, 0] := (by decide +kernel : ∀ t : Fin grid0.N, _)
theorem ix_16 : ∀ t : Fin cfg0.N, win0_16.index t = ![t.val, 0] := (by decide +kernel : ∀ t : Fin grid0.N, _)

theorem lt_N (t : Fin cfg0.N) : t.val < 32 := lt_of_lt_of_eq t.isLt N_0

/-- The row of the arrays that is a row of a point's blocks. -/
def row (t : Fin cfg0.N) (a : Fin 256) : Fin 8192 := ⟨256 * t.val + a.val, by have := lt_N t; omega⟩

/-- The arrays. -/
def arr0 : S8192x1024.Idx → EReal := m ((c : Thread nD τ).loc main_arg0)
def arr1 : S8192x1024.Idx → EReal := m ((c : Thread nD τ).loc main_arg1)
def arr2 : S8192x1024.Idx → EReal := m ((c : Thread nD τ).loc main_arg2)
def arr3 : S8192x9728.Idx → EReal := m ((c : Thread nD τ).loc main_arg3)
def arr4 : S1x1024.Idx → EReal := m ((c : Thread nD τ).loc main_arg4)
def arr5 : S1x1024.Idx → EReal := m ((c : Thread nD τ).loc main_arg5)
def arr6 : S1x1024.Idx → EReal := m ((c : Thread nD τ).loc main_arg6)
def arr7 : S1x1024.Idx → EReal := m ((c : Thread nD τ).loc main_arg7)
def arr8 : S1x1024.Idx → EReal := m ((c : Thread nD τ).loc main_arg8)
def arr9 : S1x1024.Idx → EReal := m ((c : Thread nD τ).loc main_arg9)
def arr10 : S1x1024.Idx → EReal := m ((c : Thread nD τ).loc main_arg10)
def arr11 : S1024x1024.Idx → EReal := m ((c : Thread nD τ).loc main_arg11)
def arr12 : S1024x1024.Idx → EReal := m ((c : Thread nD τ).loc main_arg12)
def arr13 : S1024x1024.Idx → EReal := m ((c : Thread nD τ).loc main_arg13)

/-- A point's blocks of them. -/
def blk0 (t : Fin cfg0.N) : S256x1024.Idx → EReal := iblk m c 0 t
def blk1 (t : Fin cfg0.N) : S256x1024.Idx → EReal := iblk m c 1 t
def blk2 (t : Fin cfg0.N) : S256x1024.Idx → EReal := iblk m c 2 t
def blk3 (t : Fin cfg0.N) : S256x1024.Idx → EReal := X0_3 m c t
def blk4 (t : Fin cfg0.N) : S256x1024.Idx → EReal := X0_4 m c t
def blk5 (t : Fin cfg0.N) : S1x1024.Idx → EReal := iblk m c 5 t
def blk6 (t : Fin cfg0.N) : S1x1024.Idx → EReal := iblk m c 6 t
def blk7 (t : Fin cfg0.N) : S1x1024.Idx → EReal := iblk m c 7 t
def blk8 (t : Fin cfg0.N) : S1x1024.Idx → EReal := iblk m c 8 t
def blk9 (t : Fin cfg0.N) : S1x1024.Idx → EReal := iblk m c 9 t
def blk10 (t : Fin cfg0.N) : S1x1024.Idx → EReal := iblk m c 10 t
def blk11 (t : Fin cfg0.N) : S1x1024.Idx → EReal := iblk m c 11 t
def blk12 (t : Fin cfg0.N) : S1024x1024.Idx → EReal := iblk m c 12 t
def blk13 (t : Fin cfg0.N) : S1024x1024.Idx → EReal := iblk m c 13 t
def blk14 (t : Fin cfg0.N) : S1024x1024.Idx → EReal := iblk m c 14 t

theorem blk_0 (t : Fin cfg0.N) (a : Fin 256) (j : Fin 1024) : blk0 m c t (ix2 a j) = arr0 m c (ix2 (row t a) j) := by
  unfold blk0
  blk_simp [iblk]
  rw [V_main_arg0]
  unfold arr0
  congr 1
  have := lt_N t
  blk_ext [ix_0, row]

theorem blk_1 (t : Fin cfg0.N) (a : Fin 256) (j : Fin 1024) : blk1 m c t (ix2 a j) = arr1 m c (ix2 (row t a) j) := by
  unfold blk1
  blk_simp [iblk]
  rw [V_main_arg1]
  unfold arr1
  congr 1
  have := lt_N t
  blk_ext [ix_1, row]

theorem blk_2 (t : Fin cfg0.N) (a : Fin 256) (j : Fin 1024) : blk2 m c t (ix2 a j) = arr2 m c (ix2 (row t a) j) := by
  unfold blk2
  blk_simp [iblk]
  rw [V_main_arg2]
  unfold arr2
  congr 1
  have := lt_N t
  blk_ext [ix_2, row]

theorem blk_3 (t : Fin cfg0.N) (a : Fin 256) (j : Fin 1024) : blk3 m c t (ix2 a j) = arr3 m c (ix2 (row t a) ⟨7168 + j.val, by omega⟩) := by
  unfold blk3 X0_3 Pipeline.Window.fill
  rw [dif_pos (moved0_3 t _)]
  blk_simp [iblk]
  rw [V_main_arg3]
  unfold arr3
  congr 1
  have := lt_N t
  blk_ext [ix_3, row]

theorem blk_4 (t : Fin cfg0.N) (a : Fin 256) (j : Fin 1024) : blk4 m c t (ix2 a j) = arr3 m c (ix2 (row t a) ⟨8192 + j.val, by omega⟩) := by
  unfold blk4 X0_4 Pipeline.Window.fill
  rw [dif_pos (moved0_4 t _)]
  blk_simp [iblk]
  rw [V_main_arg3]
  unfold arr3
  congr 1
  have := lt_N t
  blk_ext [ix_4, row]

theorem blk_5 (t : Fin cfg0.N) (j : Fin 1024) : blk5 m c t (ix2 0 j) = arr4 m c (ix2 0 j) := by
  unfold blk5
  blk_simp [iblk]
  rw [V_main_arg4]
  unfold arr4
  congr 1
  have := lt_N t
  blk_ext [ix_5, row]

theorem blk_6 (t : Fin cfg0.N) (j : Fin 1024) : blk6 m c t (ix2 0 j) = arr5 m c (ix2 0 j) := by
  unfold blk6
  blk_simp [iblk]
  rw [V_main_arg5]
  unfold arr5
  congr 1
  have := lt_N t
  blk_ext [ix_6, row]

theorem blk_7 (t : Fin cfg0.N) (j : Fin 1024) : blk7 m c t (ix2 0 j) = arr6 m c (ix2 0 j) := by
  unfold blk7
  blk_simp [iblk]
  rw [V_main_arg6]
  unfold arr6
  congr 1
  have := lt_N t
  blk_ext [ix_7, row]

theorem blk_8 (t : Fin cfg0.N) (j : Fin 1024) : blk8 m c t (ix2 0 j) = arr7 m c (ix2 0 j) := by
  unfold blk8
  blk_simp [iblk]
  rw [V_main_arg7]
  unfold arr7
  congr 1
  have := lt_N t
  blk_ext [ix_8, row]

theorem blk_9 (t : Fin cfg0.N) (j : Fin 1024) : blk9 m c t (ix2 0 j) = arr8 m c (ix2 0 j) := by
  unfold blk9
  blk_simp [iblk]
  rw [V_main_arg8]
  unfold arr8
  congr 1
  have := lt_N t
  blk_ext [ix_9, row]

theorem blk_10 (t : Fin cfg0.N) (j : Fin 1024) : blk10 m c t (ix2 0 j) = arr9 m c (ix2 0 j) := by
  unfold blk10
  blk_simp [iblk]
  rw [V_main_arg9]
  unfold arr9
  congr 1
  have := lt_N t
  blk_ext [ix_10, row]

theorem blk_11 (t : Fin cfg0.N) (j : Fin 1024) : blk11 m c t (ix2 0 j) = arr10 m c (ix2 0 j) := by
  unfold blk11
  blk_simp [iblk]
  rw [V_main_arg10]
  unfold arr10
  congr 1
  have := lt_N t
  blk_ext [ix_11, row]

theorem blk_12 (t : Fin cfg0.N) (k j : Fin 1024) : blk12 m c t (ix2 k j) = arr11 m c (ix2 k j) := by
  unfold blk12
  blk_simp [iblk]
  rw [V_main_arg11]
  unfold arr11
  congr 1
  have := lt_N t
  blk_ext [ix_12, row]

theorem blk_13 (t : Fin cfg0.N) (k j : Fin 1024) : blk13 m c t (ix2 k j) = arr12 m c (ix2 k j) := by
  unfold blk13
  blk_simp [iblk]
  rw [V_main_arg12]
  unfold arr12
  congr 1
  have := lt_N t
  blk_ext [ix_13, row]

theorem blk_14 (t : Fin cfg0.N) (k j : Fin 1024) : blk14 m c t (ix2 k j) = arr13 m c (ix2 k j) := by
  unfold blk14
  blk_simp [iblk]
  rw [V_main_arg13]
  unfold arr13
  congr 1
  have := lt_N t
  blk_ext [ix_14, row]

/-- What a row of the arrays gives the merge. -/
def whole (r : Fin 8192) : Mix.In :=
  Mix.ofArgs (arr0 m c) (arr1 m c) (arr2 m c) (arr3 m c) (arr4 m c) (arr5 m c) (arr6 m c) (arr11 m c) (arr12 m c) (arr13 m c) r

theorem inp_eq (t : Fin cfg0.N) (a : Fin 256) :
    inp (blk0 m c t) (blk1 m c t) (blk2 m c t) (blk3 m c t) (blk4 m c t) (blk5 m c t) (blk6 m c t) (blk7 m c t) (blk12 m c t) (blk13 m c t) (blk14 m c t) a
      = whole m c (row t a) := by
  unfold inp whole Mix.ofArgs
  simp only [blk_0, blk_1, blk_2, blk_3, blk_4, blk_5, blk_6, blk_7, blk_12, blk_13, blk_14]

/-- The two results, index by index. -/
def resY : S8192x1024.Idx → EReal := fun y => Mix.y1 (whole m c (y 0)) (fun j => arr7 m c (ix2 0 j)) (fun j => arr8 m c (ix2 0 j)) (y 1)
def resH : S8192x1024.Idx → EReal := fun y => Mix.h (whole m c (y 0)) (fun j => arr7 m c (ix2 0 j)) (fun j => arr8 m c (ix2 0 j))
  (fun j => arr9 m c (ix2 0 j)) (fun j => arr10 m c (ix2 0 j)) (y 1)

theorem part_y (t : Fin cfg0.N) (a : Fin 256) (j : Fin 1024) (e : S8192x1024.Idx) (h0 : (e 0).val = 256 * t.val + a.val) (h1 : (e 1).val = j.val) :
    (k0_pay4 (F := Ideal) (blk6 m c t) (blk7 m c t) (blk8 m c t) (blk9 m c t) k0_pay2 (blk0 m c t) (blk1 m c t) (blk2 m c t) (blk4 m c t) (blk12 m c t) (blk13 m c t) (blk14 m c t) (k0_pay3 (blk5 m c t) (blk3 m c t)) (ix2 a j) : EReal) = resY m c e := by
  have r0 : e 0 = row t a := Fin.ext h0
  have r1 : e 1 = j := Fin.ext h1
  refine (y_at _ _ _ _ _ _ _ _ _ _ _ _ _ a j).trans ?_
  unfold resY
  rw [r0, r1, inp_eq]
  simp only [blk_8, blk_9]

theorem part_h (t : Fin cfg0.N) (a : Fin 256) (j : Fin 1024) (e : S8192x1024.Idx) (h0 : (e 0).val = 256 * t.val + a.val) (h1 : (e 1).val = j.val) :
    (k0_pay1 (F := Ideal) (blk10 m c t) (blk11 m c t) (k0_pay4 (F := Ideal) (blk6 m c t) (blk7 m c t) (blk8 m c t) (blk9 m c t) k0_pay2 (blk0 m c t) (blk1 m c t) (blk2 m c t) (blk4 m c t) (blk12 m c t) (blk13 m c t) (blk14 m c t) (k0_pay3 (blk5 m c t) (blk3 m c t))) (ix2 a j) : EReal) = resH m c e := by
  have r1 : e 1 = j := Fin.ext h1
  refine (h_at _ _ a j _).trans ?_
  rw [part_y m c t a j e h0 h1, blk_10, blk_11]
  unfold resH resY Mix.h
  rw [r1]

theorem res_y : ((dats m 0 c).arrAt 15 cfg0.N : S8192x1024.Idx → EReal) = resY m c := by
  refine (dats m 0 c).arrAt_eq_of_covers 15 _ (by decide +kernel) fun t hf y => ?_
  blk_simp
  rw [after0_15]
  unfold outsAt0
  dsimp only
  rw [left_y]
  have hy : y = ix2 (y 0) (y 1) := by funext a; fin_cases a <;> rfl
  have e := ix_15 t
  rw [hy]
  refine part_y m c t (y 0) (y 1) _ ?_ ?_ <;> blk_simp [e] <;> omega

theorem res_h : ((dats m 0 c).arrAt 16 cfg0.N : S8192x1024.Idx → EReal) = resH m c := by
  refine (dats m 0 c).arrAt_eq_of_covers 16 _ (by decide +kernel) fun t hf y => ?_
  blk_simp
  rw [after0_16]
  unfold outsAt0
  dsimp only
  rw [left_h]
  have hy : y = ix2 (y 0) (y 1) := by funext a; fin_cases a <;> rfl
  have e := ix_16 t
  rw [hy]
  refine part_h m c t (y 0) (y 1) _ ?_ ?_ <;> blk_simp [e] <;> omega

end Cert.MergeIdeal.Row

namespace Cert.MergeRefIdeal.Row

open Idealize.ShloMosaic Idealize.ShloMosaic.TcCoe Idealize.SL.Sem Cert.MergeRefIdeal Cert.MergeRefIdeal.Gen Cert.MergeRefIdeal.Value

variable (m : (ℓ : Loc nD τ sig) → Buf (Elt Ideal) ℓ) (c : Dev nD)

/-- A row the reference's arguments name. -/
def vec (v : S1x1024.Idx → EReal) (j : Fin 1024) : EReal := v (ix2 0 j)

/-- What a row of the reference's arguments gives the merge. -/
def whole (i : Fin 8192) : Mix.In :=
  Mix.ofArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) i

theorem y_at (i : Fin 8192) (j : Fin 1024) : (res_main_v53 (F := Ideal) m c (ix2 i j) : EReal)
    = Mix.y1 (whole m c i) (vec (m ((c : Thread nD τ).loc main_arg7))) (vec (m ((c : Thread nD τ).loc main_arg8))) j := by
  unfold res_main_v53
  pointwise []
  rfl

theorem h_at (i : Fin 8192) (j : Fin 1024) : (res_main_v60 (F := Ideal) m c (ix2 i j) : EReal)
    = Mix.h (whole m c i) (vec (m ((c : Thread nD τ).loc main_arg7))) (vec (m ((c : Thread nD τ).loc main_arg8)))
      (vec (m ((c : Thread nD τ).loc main_arg9))) (vec (m ((c : Thread nD τ).loc main_arg10))) j := by
  unfold res_main_v60
  pointwise []
  rfl

end Cert.MergeRefIdeal.Row

namespace Cert.Merge.Claims

open Idealize.ShloMosaic Idealize.ShloMosaic.TcCoe Idealize.SL.Sem

theorem algebraic : Cert.algebraic_MergeIdeal_MergeRefIdeal := by
  intro m g m' g' _ hag
  refine ⟨_, _, Cert.MergeIdeal.Value.run_blocks m g, ?_⟩
  refine (θ_run _ _ _).mono (fun r h c => ?_) (Cert.MergeRefIdeal.Value.run m' g')
  obtain ⟨r0, r1, k⟩ := h c
  obtain ⟨e0, e1, e2, e3, e4, e5, e6, e7, e8, e9, e10, e11, e12, e13⟩ := hag c
  have hw : ∀ i, Cert.MergeRefIdeal.Row.whole m' c i = Cert.MergeIdeal.Row.whole m c i := fun i => by
    unfold Cert.MergeRefIdeal.Row.whole
    rw [e0, e1, e2, e3, e4, e5, e6, e11, e12, e13]
    rfl
  refine ⟨r0.trans ?_, r1.trans ?_, k⟩
  · refine Eq.trans ?_ (Cert.MergeIdeal.Row.res_y m c).symm
    refine Cert.Meet.ix2_all fun i j => ?_
    refine (Cert.MergeRefIdeal.Row.y_at m' c i j).trans ?_
    rw [hw, e7, e8]
    rfl
  · refine Eq.trans ?_ (Cert.MergeIdeal.Row.res_h m c).symm
    refine Cert.Meet.ix2_all fun i j => ?_
    refine (Cert.MergeRefIdeal.Row.h_at m' c i j).trans ?_
    rw [hw, e7, e8, e9, e10]
    rfl

end Cert.Merge.Claims

end
-- ==== Proof.MergeBwdRun.lean ====
module

public import proofs.«01_k».proof.Defs
public import proofs.«01_k».proof.Proof.Gen.MergeBwdIdeal.Frame.Runs
public import Idealize.ShloMosaic.Lib.Pipeline.Value
public import Idealize.ShloMosaic.Lib.Claim

/-! The run of the merge's gradients, for any float values: what a point of the grid leaves in its buffers. -/

@[expose] public section

set_option maxRecDepth 16384

noncomputable section

namespace Cert.MergeBwdIdeal.Row

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergeBwdIdeal Cert.MergeBwdIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The blocks a point reads. -/
structure Blocks (F : FTy → Type) where
  x0 : Vec F S256x1024 .f32
  x1 : Vec F S256x1024 .bf16
  x2 : Vec F S256x1024 .bf16
  x3 : Vec F S256x1024 .f32
  x4 : Vec F S256x1024 .f32
  x5 : Vec F S1x1024 .f32
  x6 : Vec F S1x1024 .f32
  x7 : Vec F S1x1024 .f32
  x8 : Vec F S1x1024 .f32
  x9 : Vec F S1x1024 .f32
  x10 : Vec F S1x1024 .f32
  x11 : Vec F S1x1024 .f32
  x12 : Vec F S1024x1024 .bf16
  x13 : Vec F S1024x1024 .bf16
  x14 : Vec F S1024x1024 .bf16
  x15 : Vec F S256x1024 .f32

/-- The five sums kept over the points. -/
structure Sums (F : FTy → Type) where
  ra : Vec F S1x1024 .f32
  rb : Vec F S1x1024 .f32
  gt : Vec F S1x1024 .f32
  g : Vec F S1x1024 .f32
  b : Vec F S1x1024 .f32

section Body

variable (p : Blocks F)

/-- The two gates, the two branch products, what is merged, and the mix. -/
def gA : FVec F S256x1024 .f32 := k0_pay7 p.x5 p.x3
def gB : FVec F S256x1024 .f32 := k0_pay10 p.x6 p.x4
def pA : FVec F S256x1024 .f32 := k0_pay11 k0_pay2 (k0_pay3 p.x1) p.x12
def pB : FVec F S256x1024 .f32 := k0_pay12 k0_pay2 (k0_pay4 p.x2) p.x13
def mg : FVec F S256x1024 .f32 := k0_pay13 p.x6 k0_pay2 (k0_pay3 p.x1) (k0_pay4 p.x2) p.x4 p.x12 p.x13 (gA p)
def mx : FVec F S256x1024 .f32 := k0_pay14 p.x6 k0_pay2 (k0_pay3 p.x1) (k0_pay4 p.x2) p.x4 p.x12 p.x13 p.x14 (gA p)

/-- The norm's input about its mean, the root of its spread, and their ratio. -/
def ce : FVec F S256x1024 .f32 := k0_pay15 p.x6 p.x7 k0_pay2 p.x0 (k0_pay3 p.x1) (k0_pay4 p.x2) p.x4 p.x12 p.x13 p.x14 (gA p)
def rt : FVec F S256x1 .f32 := k0_pay17 p.x6 p.x7 k0_pay2 p.x0 (k0_pay3 p.x1) (k0_pay4 p.x2) p.x4 p.x12 p.x13 p.x14 (gA p)
def qo : FVec F S256x1 .f32 := k0_pay18 p.x6 p.x7 k0_pay2 p.x0 (k0_pay3 p.x1) (k0_pay4 p.x2) p.x4 p.x12 p.x13 p.x14 (gA p)

/-- The mix's gradient. -/
def dm : FVec F S256x1024 .bf16 := k0_pay26 p.x7 p.x8 (ce p) (rt p) (qo p) p.x15

/-- What a point writes to its nine outputs of rows. -/
def o16 : Vec F S256x1024 .f32 := k0_pay25 p.x8 (ce p) (rt p) (qo p) p.x15
def o17 : Vec F S256x1024 .f32 := k0_pay31 p.x12 p.x14 (gA p) (dm p)
def o18 : Vec F S256x1024 .f32 := k0_pay30 p.x13 p.x14 (gB p) (dm p)
def o19 : Vec F S256x1024 .bf16 := k0_pay36 p.x14 (k0_pay6 p.x5 p.x3) (pA p) (dm p)
def o20 : Vec F S256x1024 .bf16 := k0_pay37 p.x14 (k0_pay9 p.x6 p.x4) (pB p) (dm p)
def o21 : Vec F S256x1024 .bf16 := k0_pay38 (mg p)
def o22 : Vec F S256x1024 .bf16 := k0_pay39 (k0_pay23 p.x7 p.x8 (ce p) (rt p) (qo p) p.x15)
def o23 : Vec F S256x1024 .bf16 := k0_pay40 (k0_pay29 p.x14 (gA p) (dm p))
def o24 : Vec F S256x1024 .bf16 := k0_pay41 (k0_pay28 p.x14 (gB p) (dm p))

/-- The sums before the first point, and what a point makes of what the point before left. -/
def start : Sums F := ⟨k0_pay42, k0_pay43, k0_pay44, k0_pay45, k0_pay46⟩
def step (s : Sums F) : Sums F :=
  ⟨k0_pay47 (k0_pay35 p.x14 (k0_pay6 p.x5 p.x3) (pA p) (dm p)) s.ra,
    k0_pay48 (k0_pay33 p.x14 (k0_pay9 p.x6 p.x4) (pB p) (dm p)) s.rb,
    k0_pay49 (k0_pay24 p.x8 (mx p) (ce p) (rt p) (qo p) p.x15) s.gt,
    k0_pay50 (k0_pay21 (ce p) (rt p) p.x15) s.g,
    k0_pay1 (k0_pay20 p.x15) (k0_pay51 s.b)⟩

end Body

/-- A store through a whole buffer, the last, is what is read back. -/
theorem last_store {S : Shape} {e : EltTy} {sg : RefSig} {κ : Kind} {sp : Space} (v : View sg κ sp S e) (f : v.ty.Contents (Elt F))
    {off : Fin S.rank → Nat} (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ fun y => ⟨_, List.mem_cons_self .., View.mem_set_unit_zero h inb y⟩, View.canon_cons_unit_zero h]

set_option maxHeartbeats 8000000 in
/-- The body on whole buffers, the inputs' at the blocks `p` and the sums' at `d`: it runs to the continuation holding the inputs' as
    they were and the outputs' at what the point writes, the sums going on from `s`, which is nothing at the first point and `d` elsewhere. -/
theorem body_run (c : Dev nD) (i : grid0.Coords) (a1 : Memref sig .tc .vmem S256x1024 .f32) (h1 : a1.IsWhole) (a2 : Memref sig .tc .vmem S256x1024 .bf16) (h2 : a2.IsWhole) (a3 : Memref sig .tc .vmem S256x1024 .bf16) (h3 : a3.IsWhole) (a4 : Memref sig .tc .vmem S256x1024 .f32) (h4 : a4.IsWhole) (a5 : Memref sig .tc .vmem S256x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole) (a11 : Memref sig .tc .vmem S1x1024 .f32) (h11 : a11.IsWhole) (a12 : Memref sig .tc .vmem S1x1024 .f32) (h12 : a12.IsWhole) (a13 : Memref sig .tc .vmem S1024x1024 .bf16) (h13 : a13.IsWhole) (a14 : Memref sig .tc .vmem S1024x1024 .bf16) (h14 : a14.IsWhole) (a15 : Memref sig .tc .vmem S1024x1024 .bf16) (h15 : a15.IsWhole) (a16 : Memref sig .tc .vmem S256x1024 .f32) (h16 : a16.IsWhole) (a17 : Memref sig .tc .vmem S256x1024 .f32) (h17 : a17.IsWhole) (a18 : Memref sig .tc .vmem S256x1024 .f32) (h18 : a18.IsWhole) (a19 : Memref sig .tc .vmem S256x1024 .f32) (h19 : a19.IsWhole) (a20 : Memref sig .tc .vmem S256x1024 .bf16) (h20 : a20.IsWhole) (a21 : Memref sig .tc .vmem S256x1024 .bf16) (h21 : a21.IsWhole) (a22 : Memref sig .tc .vmem S256x1024 .bf16) (h22 : a22.IsWhole) (a23 : Memref sig .tc .vmem S256x1024 .bf16) (h23 : a23.IsWhole) (a24 : Memref sig .tc .vmem S256x1024 .bf16) (h24 : a24.IsWhole) (a25 : Memref sig .tc .vmem S256x1024 .bf16) (h25 : a25.IsWhole) (a26 : Memref sig .tc .vmem S1x1024 .f32) (h26 : a26.IsWhole) (a27 : Memref sig .tc .vmem S1x1024 .f32) (h27 : a27.IsWhole) (a28 : Memref sig .tc .vmem S1x1024 .f32) (h28 : a28.IsWhole) (a29 : Memref sig .tc .vmem S1x1024 .f32) (h29 : a29.IsWhole) (a30 : Memref sig .tc .vmem S1x1024 .f32) (h30 : a30.IsWhole)
    (p : Blocks F) (d s : Sums F) (hA : cond0_0 i → s = start) (hB : ¬cond0_0 i → s = d) (E : Set ℕ) (K : PUnit → sProp 𝕄) :
    iprop(owns (c : Thread nD τ) a1 fullShare p.x0 ∗ owns (c : Thread nD τ) a2 fullShare p.x1 ∗ owns (c : Thread nD τ) a3 fullShare p.x2 ∗ owns (c : Thread nD τ) a4 fullShare p.x3 ∗ owns (c : Thread nD τ) a5 fullShare p.x4 ∗ owns (c : Thread nD τ) a6 fullShare p.x5 ∗ owns (c : Thread nD τ) a7 fullShare p.x6 ∗ owns (c : Thread nD τ) a8 fullShare p.x7 ∗ owns (c : Thread nD τ) a9 fullShare p.x8 ∗ owns (c : Thread nD τ) a10 fullShare p.x9 ∗ owns (c : Thread nD τ) a11 fullShare p.x10 ∗ owns (c : Thread nD τ) a12 fullShare p.x11 ∗ owns (c : Thread nD τ) a13 fullShare p.x12 ∗ owns (c : Thread nD τ) a14 fullShare p.x13 ∗ owns (c : Thread nD τ) a15 fullShare p.x14 ∗ owns (c : Thread nD τ) a16 fullShare p.x15 ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d) ∗ (∃ d, owns (c : Thread nD τ) a22 fullShare d) ∗ (∃ d, owns (c : Thread nD τ) a23 fullShare d) ∗ (∃ d, owns (c : Thread nD τ) a24 fullShare d) ∗ (∃ d, owns (c : Thread nD τ) a25 fullShare d) ∗ owns (c : Thread nD τ) a26 fullShare d.ra ∗ owns (c : Thread nD τ) a27 fullShare d.rb ∗ owns (c : Thread nD τ) a28 fullShare d.gt ∗ owns (c : Thread nD τ) a29 fullShare d.g ∗ owns (c : Thread nD τ) a30 fullShare d.b
      ∗ (iprop(owns (c : Thread nD τ) a1 fullShare p.x0 ∗ owns (c : Thread nD τ) a2 fullShare p.x1 ∗ owns (c : Thread nD τ) a3 fullShare p.x2 ∗ owns (c : Thread nD τ) a4 fullShare p.x3 ∗ owns (c : Thread nD τ) a5 fullShare p.x4 ∗ owns (c : Thread nD τ) a6 fullShare p.x5 ∗ owns (c : Thread nD τ) a7 fullShare p.x6 ∗ owns (c : Thread nD τ) a8 fullShare p.x7 ∗ owns (c : Thread nD τ) a9 fullShare p.x8 ∗ owns (c : Thread nD τ) a10 fullShare p.x9 ∗ owns (c : Thread nD τ) a11 fullShare p.x10 ∗ owns (c : Thread nD τ) a12 fullShare p.x11 ∗ owns (c : Thread nD τ) a13 fullShare p.x12 ∗ owns (c : Thread nD τ) a14 fullShare p.x13 ∗ owns (c : Thread nD τ) a15 fullShare p.x14 ∗ owns (c : Thread nD τ) a16 fullShare p.x15 ∗ owns (c : Thread nD τ) a17 fullShare (o16 p) ∗ owns (c : Thread nD τ) a18 fullShare (o17 p) ∗ owns (c : Thread nD τ) a19 fullShare (o18 p) ∗ owns (c : Thread nD τ) a20 fullShare (o19 p) ∗ owns (c : Thread nD τ) a21 fullShare (o20 p) ∗ owns (c : Thread nD τ) a22 fullShare (o21 p) ∗ owns (c : Thread nD τ) a23 fullShare (o22 p) ∗ owns (c : Thread nD τ) a24 fullShare (o23 p) ∗ owns (c : Thread nD τ) a25 fullShare (o24 p) ∗ owns (c : Thread nD τ) a26 fullShare (step p s).ra ∗ owns (c : Thread nD τ) a27 fullShare (step p s).rb ∗ owns (c : Thread nD τ) a28 fullShare (step p s).gt ∗ owns (c : Thread nD τ) a29 fullShare (step p s).g ∗ owns (c : Thread nD τ) a30 fullShare (step p s).b) -∗ K ⟨⟩))
    ⊢ wp frame (wpE (defs₀ (F := F)) Variants.none c none) E (cc0_merge_bwd i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30) K := by
  simp only [cc0_merge_bwd_eq_skeleton]; unfold cc0_merge_bwd_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%f25, %hf25, H25⟩, ⟨%f26, %hf26, H26⟩, ⟨%f27, %hf27, H27⟩, ⟨%f28, %hf28, H28⟩, ⟨%f29, %hf29, H29⟩, Hk⟩
  obtain rfl := h1.eq_unread hf0; obtain rfl := h2.eq_unread hf1; obtain rfl := h3.eq_unread hf2; obtain rfl := h4.eq_unread hf3; obtain rfl := h5.eq_unread hf4; obtain rfl := h6.eq_unread hf5; obtain rfl := h7.eq_unread hf6; obtain rfl := h8.eq_unread hf7; obtain rfl := h9.eq_unread hf8; obtain rfl := h10.eq_unread hf9; obtain rfl := h11.eq_unread hf10; obtain rfl := h12.eq_unread hf11; obtain rfl := h13.eq_unread hf12; obtain rfl := h14.eq_unread hf13; obtain rfl := h15.eq_unread hf14; obtain rfl := h16.eq_unread hf15; obtain rfl := h26.eq_unread hf25; obtain rfl := h27.eq_unread hf26; obtain rfl := h28.eq_unread hf27; obtain rfl := h29.eq_unread hf28; obtain rfl := h30.eq_unread hf29
  by_cases hc0 : cond0_0 i
  on_goal 1 => obtain rfl := hA hc0
  on_goal 2 => obtain rfl := hB hc0
  all_goals
    sl_exec (disch := first | sl_exact hc0)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]
    · iexists _; isplitr; · ipureintro; exact h8.read_unread _
      iexact H7
    isplitl [H8]
    · iexists _; isplitr; · ipureintro; exact h9.read_unread _
      iexact H8
    isplitl [H9]
    · iexists _; isplitr; · ipureintro; exact h10.read_unread _
      iexact H9
    isplitl [H10]
    · iexists _; isplitr; · ipureintro; exact h11.read_unread _
      iexact H10
    isplitl [H11]
    · iexists _; isplitr; · ipureintro; exact h12.read_unread _
      iexact H11
    isplitl [H12]
    · iexists _; isplitr; · ipureintro; exact h13.read_unread _
      iexact H12
    isplitl [H13]
    · iexists _; isplitr; · ipureintro; exact h14.read_unread _
      iexact H13
    isplitl [H14]
    · iexists _; isplitr; · ipureintro; exact h15.read_unread _
      iexact H14
    isplitl [H15]
    · iexists _; isplitr; · ipureintro; exact h16.read_unread _
      iexact H15
    isplitl [H16]
    · iexists _; isplitr; swap; · iexact H16
      ipureintro; sl_unfold_words; rw [last_store _ _ hz]; try rw [View.readCov_unit_zero (S := S1x1024) _ hz]
      simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h26.read_unread, h27.read_unread, h28.read_unread, h29.read_unread, h30.read_unread, View.ld_unit_zero (S := S256x1024) hz, View.ld_unit_zero (S := S1x1024) hz, View.ld_unit_zero (S := S1024x1024) hz, shapeCast_self]; try rfl
    isplitl [H17]
    · iexists _; isplitr; swap; · iexact H17
      ipureintro; sl_unfold_words; rw [last_store _ _ hz]; try rw [View.readCov_unit_zero (S := S1x1024) _ hz]
      simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h26.read_unread, h27.read_unread, h28.read_unread, h29.read_unread, h30.read_unread, View.ld_unit_zero (S := S256x1024) hz, View.ld_unit_zero (S := S1x1024) hz, View.ld_unit_zero (S := S1024x1024) hz, shapeCast_self]; try rfl
    isplitl [H18]
    · iexists _; isplitr; swap; · iexact H18
      ipureintro; sl_unfold_words; rw [last_store _ _ hz]; try rw [View.readCov_unit_zero (S := S1x1024) _ hz]
      simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h26.read_unread, h27.read_unread, h28.read_unread, h29.read_unread, h30.read_unread, View.ld_unit_zero (S := S256x1024) hz, View.ld_unit_zero (S := S1x1024) hz, View.ld_unit_zero (S := S1024x1024) hz, shapeCast_self]; try rfl
    isplitl [H19]
    · iexists _; isplitr; swap; · iexact H19
      ipureintro; sl_unfold_words; rw [last_store _ _ hz]; try rw [View.readCov_unit_zero (S := S1x1024) _ hz]
      simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h26.read_unread, h27.read_unread, h28.read_unread, h29.read_unread, h30.read_unread, View.ld_unit_zero (S := S256x1024) hz, View.ld_unit_zero (S := S1x1024) hz, View.ld_unit_zero (S := S1024x1024) hz, shapeCast_self]; try rfl
    isplitl [H20]
    · iexists _; isplitr; swap; · iexact H20
      ipureintro; sl_unfold_words; rw [last_store _ _ hz]; try rw [View.readCov_unit_zero (S := S1x1024) _ hz]
      simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h26.read_unread, h27.read_unread, h28.read_unread, h29.read_unread, h30.read_unread, View.ld_unit_zero (S := S256x1024) hz, View.ld_unit_zero (S := S1x1024) hz, View.ld_unit_zero (S := S1024x1024) hz, shapeCast_self]; try rfl
    isplitl [H21]
    · iexists _; isplitr; swap; · iexact H21
      ipureintro; sl_unfold_words; rw [last_store _ _ hz]; try rw [View.readCov_unit_zero (S := S1x1024) _ hz]
      simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h26.read_unread, h27.read_unread, h28.read_unread, h29.read_unread, h30.read_unread, View.ld_unit_zero (S := S256x1024) hz, View.ld_unit_zero (S := S1x1024) hz, View.ld_unit_zero (S := S1024x1024) hz, shapeCast_self]; try rfl
    isplitl [H22]
    · iexists _; isplitr; swap; · iexact H22
      ipureintro; sl_unfold_words; rw [last_store _ _ hz]; try rw [View.readCov_unit_zero (S := S1x1024) _ hz]
      simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h26.read_unread, h27.read_unread, h28.read_unread, h29.read_unread, h30.read_unread, View.ld_unit_zero (S := S256x1024) hz, View.ld_unit_zero (S := S1x1024) hz, View.ld_unit_zero (S := S1024x1024) hz, shapeCast_self]; try rfl
    isplitl [H23]
    · iexists _; isplitr; swap; · iexact H23
      ipureintro; sl_unfold_words; rw [last_store _ _ hz]; try rw [View.readCov_unit_zero (S := S1x1024) _ hz]
      simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h26.read_unread, h27.read_unread, h28.read_unread, h29.read_unread, h30.read_unread, View.ld_unit_zero (S := S256x1024) hz, View.ld_unit_zero (S := S1x1024) hz, View.ld_unit_zero (S := S1024x1024) hz, shapeCast_self]; try rfl
    isplitl [H24]
    · iexists _; isplitr; swap; · iexact H24
      ipureintro; sl_unfold_words; rw [last_store _ _ hz]; try rw [View.readCov_unit_zero (S := S1x1024) _ hz]
      simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h26.read_unread, h27.read_unread, h28.read_unread, h29.read_unread, h30.read_unread, View.ld_unit_zero (S := S256x1024) hz, View.ld_unit_zero (S := S1x1024) hz, View.ld_unit_zero (S := S1024x1024) hz, shapeCast_self]; try rfl
    isplitl [H25]
    · iexists _; isplitr; swap; · iexact H25
      ipureintro; sl_unfold_words; rw [last_store _ _ hz]; try rw [View.readCov_unit_zero (S := S1x1024) _ hz]
      simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h26.read_unread, h27.read_unread, h28.read_unread, h29.read_unread, h30.read_unread, View.ld_unit_zero (S := S256x1024) hz, View.ld_unit_zero (S := S1x1024) hz, View.ld_unit_zero (S := S1024x1024) hz, shapeCast_self]; try rfl
    isplitl [H26]
    · iexists _; isplitr; swap; · iexact H26
      ipureintro; sl_unfold_words; rw [last_store _ _ hz]; try rw [View.readCov_unit_zero (S := S1x1024) _ hz]
      simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h26.read_unread, h27.read_unread, h28.read_unread, h29.read_unread, h30.read_unread, View.ld_unit_zero (S := S256x1024) hz, View.ld_unit_zero (S := S1x1024) hz, View.ld_unit_zero (S := S1024x1024) hz, shapeCast_self]; try rfl
    isplitl [H27]
    · iexists _; isplitr; swap; · iexact H27
      ipureintro; sl_unfold_words; rw [last_store _ _ hz]; try rw [View.readCov_unit_zero (S := S1x1024) _ hz]
      simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h26.read_unread, h27.read_unread, h28.read_unread, h29.read_unread, h30.read_unread, View.ld_unit_zero (S := S256x1024) hz, View.ld_unit_zero (S := S1x1024) hz, View.ld_unit_zero (S := S1024x1024) hz, shapeCast_self]; try rfl
    isplitl [H28]
    · iexists _; isplitr; swap; · iexact H28
      ipureintro; sl_unfold_words; rw [last_store _ _ hz]; try rw [View.readCov_unit_zero (S := S1x1024) _ hz]
      simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h26.read_unread, h27.read_unread, h28.read_unread, h29.read_unread, h30.read_unread, View.ld_unit_zero (S := S256x1024) hz, View.ld_unit_zero (S := S1x1024) hz, View.ld_unit_zero (S := S1024x1024) hz, shapeCast_self]; try rfl
    · iexists _; isplitr; swap; · iexact H29
      ipureintro; sl_unfold_words; rw [last_store _ _ hz]; try rw [View.readCov_unit_zero (S := S1x1024) _ hz]
      simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h26.read_unread, h27.read_unread, h28.read_unread, h29.read_unread, h30.read_unread, View.ld_unit_zero (S := S256x1024) hz, View.ld_unit_zero (S := S1x1024) hz, View.ld_unit_zero (S := S1024x1024) hz, shapeCast_self]; try rfl

end Cert.MergeBwdIdeal.Row

end
-- ==== Proof.MergeBwdLaunch.lean ====
module

public import proofs.«01_k».proof.Defs
public import proofs.«01_k».proof.Proof.Gen.MergeBwd
public import proofs.«01_k».proof.Proof.MergeBwdRun
public import Idealize.ShloMosaic.Lib.Claim

/-! The launch of the merge's gradients, for any float values, and the two frames. -/

@[expose] public section

set_option maxRecDepth 16384

noncomputable section

namespace Cert.MergeBwdIdeal.Row

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergeBwdIdeal Cert.MergeBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point's blocks of the arrays. -/
def blks (c : Dev nD) (t : Fin cfg0.N) : Blocks F :=
  ⟨iblk m c 0 t, iblk m c 1 t, iblk m c 2 t, X0_3 m c t, X0_4 m c t, iblk m c 5 t, iblk m c 6 t, iblk m c 7 t, iblk m c 8 t, iblk m c 9 t, iblk m c 10 t, iblk m c 11 t, iblk m c 12 t, iblk m c 13 t, iblk m c 14 t, iblk m c 15 t⟩

/-- The sums after a point, and before it. -/
def sums (c : Dev nD) : (n : ℕ) → n < cfg0.N → Sums F
  | 0, h => step (blks m c ⟨0, h⟩) start
  | n + 1, h => step (blks m c ⟨n + 1, h⟩) (sums c n (Nat.lt_of_succ_lt h))

def prev (c : Dev nD) : (n : ℕ) → n < cfg0.N → Sums F
  | 0, _ => start
  | n + 1, h => sums m c n (Nat.lt_of_succ_lt h)

theorem sums_eq (c : Dev nD) (n : ℕ) (h : n < cfg0.N) : sums m c n h = step (blks m c ⟨n, h⟩) (prev m c n h) := by
  cases n <;> rfl

/-- The arrays as the launch finds them, and what a point leaves in every window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => X0_4 m c t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => o16 (blks m c t)
    | ⟨17, _⟩ => o17 (blks m c t)
    | ⟨18, _⟩ => o18 (blks m c t)
    | ⟨19, _⟩ => o19 (blks m c t)
    | ⟨20, _⟩ => o20 (blks m c t)
    | ⟨21, _⟩ => o21 (blks m c t)
    | ⟨22, _⟩ => o22 (blks m c t)
    | ⟨23, _⟩ => o23 (blks m c t)
    | ⟨24, _⟩ => o24 (blks m c t)
    | ⟨25, _⟩ => (sums m c t.val t.isLt).ra
    | ⟨26, _⟩ => (sums m c t.val t.isLt).rb
    | ⟨27, _⟩ => (sums m c t.val t.isLt).gt
    | ⟨28, _⟩ => (sums m c t.val t.isLt).g
    | ⟨29, _⟩ => (sums m c t.val t.isLt).b
    | ⟨_ + 30, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = o16 (blks m c t) := by dsimp only [dats]
theorem after0_17 (c : Dev nD) (t : Fin cfg0.N) : (dats m 0 c).after 17 t = o17 (blks m c t) := by dsimp only [dats]
theorem after0_18 (c : Dev nD) (t : Fin cfg0.N) : (dats m 0 c).after 18 t = o18 (blks m c t) := by dsimp only [dats]
theorem after0_19 (c : Dev nD) (t : Fin cfg0.N) : (dats m 0 c).after 19 t = o19 (blks m c t) := by dsimp only [dats]
theorem after0_20 (c : Dev nD) (t : Fin cfg0.N) : (dats m 0 c).after 20 t = o20 (blks m c t) := by dsimp only [dats]
theorem after0_21 (c : Dev nD) (t : Fin cfg0.N) : (dats m 0 c).after 21 t = o21 (blks m c t) := by dsimp only [dats]
theorem after0_22 (c : Dev nD) (t : Fin cfg0.N) : (dats m 0 c).after 22 t = o22 (blks m c t) := by dsimp only [dats]
theorem after0_23 (c : Dev nD) (t : Fin cfg0.N) : (dats m 0 c).after 23 t = o23 (blks m c t) := by dsimp only [dats]
theorem after0_24 (c : Dev nD) (t : Fin cfg0.N) : (dats m 0 c).after 24 t = o24 (blks m c t) := by dsimp only [dats]
theorem after0_25 (c : Dev nD) (t : Fin cfg0.N) : (dats m 0 c).after 25 t = (sums m c t.val t.isLt).ra := by dsimp only [dats]
theorem after0_26 (c : Dev nD) (t : Fin cfg0.N) : (dats m 0 c).after 26 t = (sums m c t.val t.isLt).rb := by dsimp only [dats]
theorem after0_27 (c : Dev nD) (t : Fin cfg0.N) : (dats m 0 c).after 27 t = (sums m c t.val t.isLt).gt := by dsimp only [dats]
theorem after0_28 (c : Dev nD) (t : Fin cfg0.N) : (dats m 0 c).after 28 t = (sums m c t.val t.isLt).g := by dsimp only [dats]
theorem after0_29 (c : Dev nD) (t : Fin cfg0.N) : (dats m 0 c).after 29 t = (sums m c t.val t.isLt).b := by dsimp only [dats]

theorem before0_0 (c : Dev nD) (t : Fin cfg0.N) (d) : (dats m 0 c).before 0 t d = (blks m c t).x0 :=
  before0_0_of m (dats m 0 c) (A_eq m c 0) (after0_0 m c) t d
theorem before0_1 (c : Dev nD) (t : Fin cfg0.N) (d) : (dats m 0 c).before 1 t d = (blks m c t).x1 :=
  before0_1_of m (dats m 0 c) (A_eq m c 1) (after0_1 m c) t d
theorem before0_2 (c : Dev nD) (t : Fin cfg0.N) (d) : (dats m 0 c).before 2 t d = (blks m c t).x2 :=
  before0_2_of m (dats m 0 c) (A_eq m c 2) (after0_2 m c) t d
theorem before0_3 (c : Dev nD) (t : Fin cfg0.N) (d) : (dats m 0 c).before 3 t d = (blks m c t).x3 :=
  before0_3_of m (dats m 0 c) (A_eq m c 3) (after0_3 m c) t d
theorem before0_4 (c : Dev nD) (t : Fin cfg0.N) (d) : (dats m 0 c).before 4 t d = (blks m c t).x4 :=
  before0_4_of m (dats m 0 c) (A_eq m c 4) (after0_4 m c) t d
theorem before0_5 (c : Dev nD) (t : Fin cfg0.N) (d) : (dats m 0 c).before 5 t d = (blks m c t).x5 :=
  before0_5_of m (dats m 0 c) (A_eq m c 5) (after0_5 m c) t d
theorem before0_6 (c : Dev nD) (t : Fin cfg0.N) (d) : (dats m 0 c).before 6 t d = (blks m c t).x6 :=
  before0_6_of m (dats m 0 c) (A_eq m c 6) (after0_6 m c) t d
theorem before0_7 (c : Dev nD) (t : Fin cfg0.N) (d) : (dats m 0 c).before 7 t d = (blks m c t).x7 :=
  before0_7_of m (dats m 0 c) (A_eq m c 7) (after0_7 m c) t d
theorem before0_8 (c : Dev nD) (t : Fin cfg0.N) (d) : (dats m 0 c).before 8 t d = (blks m c t).x8 :=
  before0_8_of m (dats m 0 c) (A_eq m c 8) (after0_8 m c) t d
theorem before0_9 (c : Dev nD) (t : Fin cfg0.N) (d) : (dats m 0 c).before 9 t d = (blks m c t).x9 :=
  before0_9_of m (dats m 0 c) (A_eq m c 9) (after0_9 m c) t d
theorem before0_10 (c : Dev nD) (t : Fin cfg0.N) (d) : (dats m 0 c).before 10 t d = (blks m c t).x10 :=
  before0_10_of m (dats m 0 c) (A_eq m c 10) (after0_10 m c) t d
theorem before0_11 (c : Dev nD) (t : Fin cfg0.N) (d) : (dats m 0 c).before 11 t d = (blks m c t).x11 :=
  before0_11_of m (dats m 0 c) (A_eq m c 11) (after0_11 m c) t d
theorem before0_12 (c : Dev nD) (t : Fin cfg0.N) (d) : (dats m 0 c).before 12 t d = (blks m c t).x12 :=
  before0_12_of m (dats m 0 c) (A_eq m c 12) (after0_12 m c) t d
theorem before0_13 (c : Dev nD) (t : Fin cfg0.N) (d) : (dats m 0 c).before 13 t d = (blks m c t).x13 :=
  before0_13_of m (dats m 0 c) (A_eq m c 13) (after0_13 m c) t d
theorem before0_14 (c : Dev nD) (t : Fin cfg0.N) (d) : (dats m 0 c).before 14 t d = (blks m c t).x14 :=
  before0_14_of m (dats m 0 c) (A_eq m c 14) (after0_14 m c) t d
theorem before0_15 (c : Dev nD) (t : Fin cfg0.N) (d) : (dats m 0 c).before 15 t d = (blks m c t).x15 :=
  before0_15_of m (dats m 0 c) (A_eq m c 15) (after0_15 m c) t d

/-- After the first point a sum's buffer holds what the point before left. -/
theorem before0_25 (c : Dev nD) (t : Fin cfg0.N) (h0 : ¬t.val % 32 = 0) (d) : (dats m 0 c).before 25 t d = (prev m c t.val t.isLt).ra := by
  have hN : t.val < 32 := lt_of_lt_of_eq t.isLt (show cfg0.N = 32 from N_0)
  rw [Dat.before_out_kept _ 25 rfl t (by omega) (Bool.eq_false_iff.mpr fun h => by have := (flush0_25 _).mp h; dsimp only at this; omega)
    (fun _ => rfl) (fun _ _ => rfl), after0_25]
  obtain ⟨n, h⟩ := t
  cases n with
  | zero => exact absurd rfl h0
  | succ n => rfl

theorem before0_26 (c : Dev nD) (t : Fin cfg0.N) (h0 : ¬t.val % 32 = 0) (d) : (dats m 0 c).before 26 t d = (prev m c t.val t.isLt).rb := by
  have hN : t.val < 32 := lt_of_lt_of_eq t.isLt (show cfg0.N = 32 from N_0)
  rw [Dat.before_out_kept _ 26 rfl t (by omega) (Bool.eq_false_iff.mpr fun h => by have := (flush0_26 _).mp h; dsimp only at this; omega)
    (fun _ => rfl) (fun _ _ => rfl), after0_26]
  obtain ⟨n, h⟩ := t
  cases n with
  | zero => exact absurd rfl h0
  | succ n => rfl

theorem before0_27 (c : Dev nD) (t : Fin cfg0.N) (h0 : ¬t.val % 32 = 0) (d) : (dats m 0 c).before 27 t d = (prev m c t.val t.isLt).gt := by
  have hN : t.val < 32 := lt_of_lt_of_eq t.isLt (show cfg0.N = 32 from N_0)
  rw [Dat.before_out_kept _ 27 rfl t (by omega) (Bool.eq_false_iff.mpr fun h => by have := (flush0_27 _).mp h; dsimp only at this; omega)
    (fun _ => rfl) (fun _ _ => rfl), after0_27]
  obtain ⟨n, h⟩ := t
  cases n with
  | zero => exact absurd rfl h0
  | succ n => rfl

theorem before0_28 (c : Dev nD) (t : Fin cfg0.N) (h0 : ¬t.val % 32 = 0) (d) : (dats m 0 c).before 28 t d = (prev m c t.val t.isLt).g := by
  have hN : t.val < 32 := lt_of_lt_of_eq t.isLt (show cfg0.N = 32 from N_0)
  rw [Dat.before_out_kept _ 28 rfl t (by omega) (Bool.eq_false_iff.mpr fun h => by have := (flush0_28 _).mp h; dsimp only at this; omega)
    (fun _ => rfl) (fun _ _ => rfl), after0_28]
  obtain ⟨n, h⟩ := t
  cases n with
  | zero => exact absurd rfl h0
  | succ n => rfl

theorem before0_29 (c : Dev nD) (t : Fin cfg0.N) (h0 : ¬t.val % 32 = 0) (d) : (dats m 0 c).before 29 t d = (prev m c t.val t.isLt).b := by
  have hN : t.val < 32 := lt_of_lt_of_eq t.isLt (show cfg0.N = 32 from N_0)
  rw [Dat.before_out_kept _ 29 rfl t (by omega) (Bool.eq_false_iff.mpr fun h => by have := (flush0_29 _).mp h; dsimp only at this; omega)
    (fun _ => rfl) (fun _ _ => rfl), after0_29]
  obtain ⟨n, h⟩ := t
  cases n with
  | zero => exact absurd rfl h0
  | succ n => rfl

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t))

set_option maxHeartbeats 5600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (body_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (blks m c t)
    ⟨(dats m 0 c).before 25 t d25, (dats m 0 c).before 26 t d26, (dats m 0 c).before 27 t d27, (dats m 0 c).before 28 t d28, (dats m 0 c).before 29 t d29⟩ (prev m c t.val t.isLt)
    (fun h => by
      have h0 := (hcond0_0 t).mp h
      have hN : t.val < 32 := lt_of_lt_of_eq t.isLt (show cfg0.N = 32 from N_0)
      have ht : t = ⟨0, by rw [show cfg0.N = 32 from N_0]; omega⟩ := Fin.ext (by show t.val = 0; omega)
      rw [ht]
      rfl)
    (fun h => by
      have h0 : ¬t.val % 32 = 0 := fun e => h ((hcond0_0 t).mpr e)
      rw [before0_25 m c t h0 d25, before0_26 m c t h0 d26, before0_27 m c t h0 d27, before0_28 m c t h0 d28, before0_29 m c t h0 d29]) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexact H25
  isplitl [H26]; · iexact H26
  isplitl [H27]; · iexact H27
  isplitl [H28]; · iexact H28
  isplitl [H29]; · iexact H29
  iintro ⟨K0, K1, K2, K3, K4, K5, K6, K7, K8, K9, K10, K11, K12, K13, K14, K15, K16, K17, K18, K19, K20, K21, K22, K23, K24, K25, K26, K27, K28, K29⟩
  rw [after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, sums_eq]
  isplitl [HΦ]; · iexact HΦ
  isplitl [Ho]; · iexact Ho
  isplitl [K0]; · iexact K0
  isplitl [K1]; · iexact K1
  isplitl [K2]; · iexact K2
  isplitl [K3]; · iexact K3
  isplitl [K4]; · iexact K4
  isplitl [K5]; · iexact K5
  isplitl [K6]; · iexact K6
  isplitl [K7]; · iexact K7
  isplitl [K8]; · iexact K8
  isplitl [K9]; · iexact K9
  isplitl [K10]; · iexact K10
  isplitl [K11]; · iexact K11
  isplitl [K12]; · iexact K12
  isplitl [K13]; · iexact K13
  isplitl [K14]; · iexact K14
  isplitl [K15]; · iexact K15
  isplitl [K16]; · iexact K16
  isplitl [K17]; · iexact K17
  isplitl [K18]; · iexact K18
  isplitl [K19]; · iexact K19
  isplitl [K20]; · iexact K20
  isplitl [K21]; · iexact K21
  isplitl [K22]; · iexact K22
  isplitl [K23]; · iexact K23
  isplitl [K24]; · iexact K24
  isplitl [K25]; · iexact K25
  isplitl [K26]; · iexact K26
  isplitl [K27]; · iexact K27
  isplitl [K28]; · iexact K28
  iexact K29

/-- The body table's row at a point is the body there. -/
theorem body_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch: every array of the pipeline ends at what the points leave of it, every other buffer as found, every counter at zero. -/
theorem launch_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem launch : θ_run defs (onTc (τ := τ) (main (F := F))) (s₀ m ρ) (Pipeline.FramePost cfgs (dats m) 0 (V m)) :=
  (θ_run defs _ _).mono (fun _ h => h.1) (launch_quiescent m ρ)

/-- The arguments as the launch leaves them. -/
def Kept (c : Dev nD) (r : PUnit × MemSt nD τ sig (Elt F)) : Prop :=
  r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14)

/-- The arguments end as they began, and every counter at zero. -/
theorem keeps : θ_run defs (onTc (τ := τ) (main (F := F))) ⟨m, fun _ => 0, ρ⟩ (fun r => (∀ c : Dev nD, Kept m c r) ∧ r.2.sem = fun _ => 0) :=
  θ_run_and (frame_of m ρ (dats m) (A_eq m) (launch m ρ)) ((θ_run defs _ _).mono (fun _ h => h.2) (launch_quiescent m ρ))

/-- The results end at what the points leave of them, the arguments as they began. -/
theorem results : θ_run defs (onTc (τ := τ) (main (F := F))) ⟨m, fun _ => 0, ρ⟩ fun r => ∀ c : Dev nD,
      r.2.mem ((c : Thread nD τ).loc main_v0_0) = (dats m 0 c).arrAt 16 cfg0.N
      ∧ r.2.mem ((c : Thread nD τ).loc main_v0_1) = (dats m 0 c).arrAt 17 cfg0.N
      ∧ r.2.mem ((c : Thread nD τ).loc main_v0_2) = (dats m 0 c).arrAt 18 cfg0.N
      ∧ r.2.mem ((c : Thread nD τ).loc main_v0_3) = (dats m 0 c).arrAt 19 cfg0.N
      ∧ r.2.mem ((c : Thread nD τ).loc main_v0_4) = (dats m 0 c).arrAt 20 cfg0.N
      ∧ r.2.mem ((c : Thread nD τ).loc main_v0_5) = (dats m 0 c).arrAt 21 cfg0.N
      ∧ r.2.mem ((c : Thread nD τ).loc main_v0_6) = (dats m 0 c).arrAt 22 cfg0.N
      ∧ r.2.mem ((c : Thread nD τ).loc main_v0_7) = (dats m 0 c).arrAt 23 cfg0.N
      ∧ r.2.mem ((c : Thread nD τ).loc main_v0_8) = (dats m 0 c).arrAt 24 cfg0.N
      ∧ r.2.mem ((c : Thread nD τ).loc main_v0_9) = (dats m 0 c).arrAt 25 cfg0.N
      ∧ r.2.mem ((c : Thread nD τ).loc main_v0_10) = (dats m 0 c).arrAt 26 cfg0.N
      ∧ r.2.mem ((c : Thread nD τ).loc main_v0_11) = (dats m 0 c).arrAt 27 cfg0.N
      ∧ r.2.mem ((c : Thread nD τ).loc main_v0_12) = (dats m 0 c).arrAt 28 cfg0.N
      ∧ r.2.mem ((c : Thread nD τ).loc main_v0_13) = (dats m 0 c).arrAt 29 cfg0.N
      ∧ Kept m c r :=
  (θ_run defs _ _).mono (fun r h c => ⟨(h.1 c).1 16, (h.1 c).1 17, (h.1 c).1 18, (h.1 c).1 19, (h.1 c).1 20, (h.1 c).1 21, (h.1 c).1 22, (h.1 c).1 23, (h.1 c).1 24, (h.1 c).1 25, (h.1 c).1 26, (h.1 c).1 27, (h.1 c).1 28, (h.1 c).1 29, h.2.1 c⟩)
    (θ_run_and (launch m ρ) (keeps m ρ))

end Cert.MergeBwdIdeal.Row

namespace Cert.MergeBwd.Claims

open Idealize.ShloMosaic Idealize.ShloMosaic.TcCoe Idealize.SL.Sem Cert.MergeBwdIdeal.Row

theorem frame_ideal : Cert.quiescent_MergeBwdIdeal := fun m ρ _ => keeps m ρ

/-- The program itself, of the same text, at its own values. -/
theorem frame_kernel : Cert.quiescent_MergeBwd := by
  have h := fun m ρ (_ : True) => keeps (F := Bits) m ρ
  exact Eq.mp (by sl_kernel_rfl) h

end Cert.MergeBwd.Claims

end
-- ==== Proof.MergeBwd.lean ====
module

public import proofs.«01_k».proof.Defs
public import proofs.«01_k».proof.Proof.Mix
public import proofs.«01_k».proof.Proof.Sums
public import proofs.«01_k».proof.Proof.MergeBwdLaunch
public import proofs.«01_k».proof.Proof.Gen.MergeBwdRefIdeal.Run
public import proofs.«01_k».proof.Proof.Meet
public import Idealize.ShloMosaic.Lib.Pipeline.ValueKit.Geometry

/-! The gradients of the merge of the two branches. -/

@[expose] public section

set_option maxRecDepth 16384

noncomputable section

namespace Cert.Mix

open Idealize.ShloMosaic Spec Norm

variable (I : In) (g d : Fin 1024 → EReal) (j : Fin 1024)

/-- The gradients of the norm's input, of the residual, of the mix and of what is mixed, where `d` is that of the norm and `g` its weight. -/
def dpre : EReal := back (pre I) g d j
def dx : EReal := alpha * dpre I g d j
def dmix : EReal := I.gt j * dpre I g d j
def dmerged : EReal := ∑ k, dmix I g d k * I.wo j k

/-- The gradients of the two branch products and of the branches. -/
def dpa : EReal := ga I j * dmerged I g d j
def dpb : EReal := gb I j * dmerged I g d j
def doa : EReal := ∑ k, dpa I g d k * I.wa j k
def dob : EReal := ∑ k, dpb I g d k * I.wb j k

/-- The gradients of the two gates' arguments. -/
def dra : EReal := dmerged I g d j * pa I j * (ga I j * (1 - ga I j))
def drb : EReal := dmerged I g d j * pb I j * (gb I j * (1 - gb I j))

/-- What a row adds to the gradients of the mix's gate and of the norm's weight. -/
def dgt : EReal := dpre I g d j * mix I j
def dg : EReal := unit (pre I) j * d j

/-- The kernel's way of writing a gate's gradient. -/
theorem slope (q z : EReal) : half * (half * q * ((1 + Ideal.tanh (half * z)) * (1 - Ideal.tanh (half * z)))) = q * (sig z * (1 - sig z)) := by
  refine Eq.trans ?_ (congrArg (q * ·) (slope_eq z))
  ac_rfl

end Cert.Mix

namespace Cert.MergeBwdIdeal.Row

open Idealize.ShloMosaic Idealize.ShloMosaic.TcCoe Idealize.SL.Sem Cert.MergeBwdIdeal Cert.MergeBwdIdeal.Gen

/-! ## What the body computes from its blocks -/

section Body

variable (p : Blocks Ideal)

/-- What a row of the blocks gives the merge. -/
def inp (a : Fin 256) : Mix.In where
  x := fun j => p.x0 (ix2 a j)
  oa := fun j => p.x1 (ix2 a j)
  ob := fun j => p.x2 (ix2 a j)
  ra := fun j => p.x3 (ix2 a j)
  rb := fun j => p.x4 (ix2 a j)
  ba := fun j => p.x5 (ix2 0 j)
  bb := fun j => p.x6 (ix2 0 j)
  gt := fun j => p.x7 (ix2 0 j)
  wa := fun k j => p.x12 (ix2 k j)
  wb := fun k j => p.x13 (ix2 k j)
  wo := fun k j => p.x14 (ix2 k j)

/-- The norm's weight, and the norm's gradient at a row. -/
abbrev nw (j : Fin 1024) : EReal := p.x8 (ix2 0 j)
abbrev nd (a : Fin 256) (j : Fin 1024) : EReal := p.x15 (ix2 a j)

variable (a : Fin 256) (j : Fin 1024)

theorem gA_at : (gA p) (ix2 a j) = Mix.ga (inp p a) j := by
  refine Eq.trans ?_ (Mix.sig_eq _)
  pointwise [gA, k0_pay7, k0_pay5]
  rfl

theorem gB_at : (gB p) (ix2 a j) = Mix.gb (inp p a) j := by
  refine Eq.trans ?_ (Mix.sig_eq _)
  pointwise [gB, k0_pay10, k0_pay8]
  rfl

theorem pA_at : (pA p) (ix2 a j) = Mix.pa (inp p a) j := by
  pointwise [pA, k0_pay11, k0_pay2, k0_pay3]
  rfl

theorem pB_at : (pB p) (ix2 a j) = Mix.pb (inp p a) j := by
  pointwise [pB, k0_pay12, k0_pay2, k0_pay4]
  rfl

theorem mg_at : (mg p) (ix2 a j) = Mix.merged (inp p a) j := by
  have e : (mg p) (ix2 a j) = (gA p) (ix2 a j) * (pA p) (ix2 a j) + (gB p) (ix2 a j) * (pB p) (ix2 a j) := rfl
  rw [e, gA_at p, gB_at p, pA_at p, pB_at p]
  rfl

theorem mx_at : (mx p) (ix2 a j) = Mix.mix (inp p a) j := by
  have e : (mx p) (ix2 a j) = ∑ k, (mg p) (ix2 a k) * p.x14 (ix2 k j) := by
    unfold mx mg
    generalize (gA p) = v
    pointwise [k0_pay14, k0_pay2]
  rw [e]
  simp only [mg_at p]
  rfl

theorem pre_at : (Norm.alpha * p.x0 (ix2 a j) + p.x7 (ix2 0 j) * (mx p) (ix2 a j) : EReal) = Mix.pre (inp p a) j := by
  rw [mx_at]
  rfl

theorem ce_at : (ce p) (ix2 a j) = Norm.cen (Mix.pre (inp p a)) j := by
  have e : (ce p) (ix2 a j) = Norm.cen (fun j => Norm.alpha * p.x0 (ix2 a j) + p.x7 (ix2 0 j) * (mx p) (ix2 a j)) j := by
    have hm : k0_pay14 p.x6 k0_pay2 (k0_pay3 p.x1) (k0_pay4 p.x2) p.x4 p.x12 p.x13 p.x14 (gA p) = mx p := rfl
    unfold ce k0_pay15
    rw [hm]
    generalize mx p = v
    pointwise []
    rfl
  exact e.trans (congrArg (fun f => Norm.cen f j) (funext fun j => pre_at p a j))

theorem rt_at : (rt p) (ix2 a 0) = Norm.root (Mix.pre (inp p a)) := by
  have e : (rt p) (ix2 a 0) = Ideal.rsqrt (Ideal.div (∑ k, (ce p) (ix2 a k) * (ce p) (ix2 a k)) Norm.width + Norm.eps) := by
    unfold rt k0_pay17 k0_pay16
    change rsqrt (F := Ideal) (addf (divf (shapeCast _ (multiReduction .add _ _ (mulf (ce p) (ce p)) _ _ _ _) _) _) _) (ix2 a 0) = _
    generalize (ce p) = v
    pointwise []
    rfl
  rw [e]
  simp only [ce_at p]
  rfl

theorem qo_at : (qo p) (ix2 a 0) = Ideal.div (Norm.root (Mix.pre (inp p a))) (Norm.spread (Mix.pre (inp p a))) := by
  have e : (qo p) (ix2 a 0) = Ideal.div ((rt p) (ix2 a 0)) (Ideal.div (∑ k, (ce p) (ix2 a k) * (ce p) (ix2 a k)) Norm.width + Norm.eps) := by
    unfold qo k0_pay18 k0_pay16
    change divf (F := Ideal) (rt p) (addf (divf (shapeCast _ (multiReduction .add _ _ (mulf (ce p) (ce p)) _ _ _ _) _) _) _) (ix2 a 0) = _
    generalize (ce p) = v
    generalize (rt p) = u
    pointwise []
    rfl
  rw [e]
  simp only [ce_at p, rt_at p]
  rfl

theorem back_at : k0_pay22 (F := Ideal) p.x8 (ce p) (rt p) (qo p) p.x15 (ix2 a j) = Mix.dpre (inp p a) (nw p) (nd p a) j := by
  have e : ∀ (c : FVec Ideal S256x1024 .f32) (r q : FVec Ideal S256x1 .f32), k0_pay22 (F := Ideal) p.x8 c r q p.x15 (ix2 a j)
      = (fun D : Fin 1024 → EReal => D j + Ideal.div (∑ k, -D k) Norm.width)
        (fun j => p.x15 (ix2 a j) * p.x8 (ix2 0 j) * r (ix2 a 0)
          + Ideal.div ((∑ k, c (ix2 a k) * (p.x15 (ix2 a k) * p.x8 (ix2 0 k))) * (Spec.mhalf * q (ix2 a 0))) Norm.width * (Spec.two * c (ix2 a j))) :=
    fun c r q => by
      simp only [← Norm.twice, ← add_assoc]
      pointwise [k0_pay22, k0_pay19]
      simp only [Finset.univ_unique, Finset.sum_singleton, sub_eq_add_neg, zero_add]
      rfl
  rw [e]
  simp only [ce_at p, rt_at p, qo_at p]
  rfl

theorem dm_at : (dm p) (ix2 a j) = Mix.dmix (inp p a) (nw p) (nd p a) j := by
  refine Eq.trans ?_ (congrArg (p.x7 (ix2 0 j) * ·) (back_at p a j))
  pointwise [dm, k0_pay26, k0_pay23]

theorem dmerged_at : k0_pay27 (F := Ideal) p.x14 (dm p) (ix2 a j) = Mix.dmerged (inp p a) (nw p) (nd p a) j := by
  refine Eq.trans ?_ (Finset.sum_congr rfl fun k _ => congrArg (fun q => (q * p.x14 (ix2 j k) : EReal)) (dm_at p a k))
  pointwise [k0_pay27]

/-! The results of a row. -/

theorem dx_at : o16 p (ix2 a j) = Mix.dx (inp p a) (nw p) (nd p a) j := by
  unfold o16
  refine Eq.trans ?_ (congrArg (Norm.alpha * ·) (back_at p a j))
  pointwise [k0_pay25]
  rfl

theorem dmix_at : o22 p (ix2 a j) = Mix.dmix (inp p a) (nw p) (nd p a) j := by
  unfold o22
  refine Eq.trans ?_ (dm_at p a j)
  pointwise [k0_pay39, dm, k0_pay26]

theorem dpa_at : k0_pay29 (F := Ideal) p.x14 (gA p) (dm p) (ix2 a j) = Mix.dpa (inp p a) (nw p) (nd p a) j := by
  refine Eq.trans ?_ (congrArg₂ (· * ·) (gA_at p a j) (dmerged_at p a j))
  pointwise [k0_pay29]

theorem dpb_at : k0_pay28 (F := Ideal) p.x14 (gB p) (dm p) (ix2 a j) = Mix.dpb (inp p a) (nw p) (nd p a) j := by
  refine Eq.trans ?_ (congrArg₂ (· * ·) (gB_at p a j) (dmerged_at p a j))
  pointwise [k0_pay28]

theorem dpa_out : o23 p (ix2 a j) = Mix.dpa (inp p a) (nw p) (nd p a) j := by
  unfold o23
  refine Eq.trans ?_ (dpa_at p a j)
  pointwise [k0_pay40]

theorem dpb_out : o24 p (ix2 a j) = Mix.dpb (inp p a) (nw p) (nd p a) j := by
  unfold o24
  refine Eq.trans ?_ (dpb_at p a j)
  pointwise [k0_pay41]

theorem mg_out : o21 p (ix2 a j) = Mix.merged (inp p a) j := by
  unfold o21
  refine Eq.trans ?_ (mg_at p a j)
  pointwise [k0_pay38]

theorem doa_at : o17 p (ix2 a j) = Mix.doa (inp p a) (nw p) (nd p a) j := by
  unfold o17
  refine Eq.trans ?_ (Finset.sum_congr rfl fun k _ => congrArg (fun q => (q * p.x12 (ix2 j k) : EReal)) (dpa_at p a k))
  pointwise [k0_pay31]

theorem dob_at : o18 p (ix2 a j) = Mix.dob (inp p a) (nw p) (nd p a) j := by
  unfold o18
  refine Eq.trans ?_ (Finset.sum_congr rfl fun k _ => congrArg (fun q => (q * p.x13 (ix2 j k) : EReal)) (dpb_at p a k))
  pointwise [k0_pay30]

theorem dra_at : k0_pay34 (F := Ideal) p.x14 (k0_pay6 p.x5 p.x3) (pA p) (dm p) (ix2 a j) = Mix.dra (inp p a) (nw p) (nd p a) j := by
  refine Eq.trans ?_ ((Mix.slope _ _).trans (congrArg₂ (fun q u => (q * u * (Mix.ga (inp p a) j * (1 - Mix.ga (inp p a) j)) : EReal)) (dmerged_at p a j) (pA_at p a j)))
  pointwise [k0_pay34, k0_pay6, k0_pay5]
  rfl

theorem drb_at : k0_pay32 (F := Ideal) p.x14 (k0_pay9 p.x6 p.x4) (pB p) (dm p) (ix2 a j) = Mix.drb (inp p a) (nw p) (nd p a) j := by
  refine Eq.trans ?_ ((Mix.slope _ _).trans (congrArg₂ (fun q u => (q * u * (Mix.gb (inp p a) j * (1 - Mix.gb (inp p a) j)) : EReal)) (dmerged_at p a j) (pB_at p a j)))
  pointwise [k0_pay32, k0_pay9, k0_pay8]
  rfl

theorem dra_out : o19 p (ix2 a j) = Mix.dra (inp p a) (nw p) (nd p a) j := by
  unfold o19
  refine Eq.trans ?_ (dra_at p a j)
  pointwise [k0_pay36]

theorem drb_out : o20 p (ix2 a j) = Mix.drb (inp p a) (nw p) (nd p a) j := by
  unfold o20
  refine Eq.trans ?_ (drb_at p a j)
  pointwise [k0_pay37]

/-- What a point adds to its five sums. -/
theorem sum_ra (s : Sums Ideal) : (step p s).ra (ix2 0 j) = s.ra (ix2 0 j) + ∑ a, Mix.dra (inp p a) (nw p) (nd p a) j := by
  change k0_pay47 (F := Ideal) (k0_pay35 p.x14 (k0_pay6 p.x5 p.x3) (pA p) (dm p)) s.ra (ix2 0 j) = _
  refine Eq.trans ?_ (congrArg (s.ra (ix2 0 j) + ·) (Finset.sum_congr rfl fun a _ => dra_at p a j))
  pointwise [k0_pay47, k0_pay35]

theorem sum_rb (s : Sums Ideal) : (step p s).rb (ix2 0 j) = s.rb (ix2 0 j) + ∑ a, Mix.drb (inp p a) (nw p) (nd p a) j := by
  change k0_pay48 (F := Ideal) (k0_pay33 p.x14 (k0_pay9 p.x6 p.x4) (pB p) (dm p)) s.rb (ix2 0 j) = _
  refine Eq.trans ?_ (congrArg (s.rb (ix2 0 j) + ·) (Finset.sum_congr rfl fun a _ => drb_at p a j))
  pointwise [k0_pay48, k0_pay33]

theorem sum_gt (s : Sums Ideal) : (step p s).gt (ix2 0 j) = s.gt (ix2 0 j) + ∑ a, Mix.dgt (inp p a) (nw p) (nd p a) j := by
  change k0_pay49 (F := Ideal) (k0_pay24 p.x8 (mx p) (ce p) (rt p) (qo p) p.x15) s.gt (ix2 0 j) = _
  refine Eq.trans ?_ (congrArg (s.gt (ix2 0 j) + ·) (Finset.sum_congr rfl fun a _ => congrArg₂ (· * ·) (back_at p a j) (mx_at p a j)))
  pointwise [k0_pay49, k0_pay24]

theorem sum_g (s : Sums Ideal) : (step p s).g (ix2 0 j) = s.g (ix2 0 j) + ∑ a, Mix.dg (inp p a) (nd p a) j := by
  change k0_pay50 (F := Ideal) (k0_pay21 (ce p) (rt p) p.x15) s.g (ix2 0 j) = _
  refine Eq.trans ?_ (congrArg (s.g (ix2 0 j) + ·) (Finset.sum_congr rfl fun a _ => congrArg (fun q => (q * p.x15 (ix2 a j) : EReal)) (congrArg₂ (· * ·) (ce_at p a j) (rt_at p a))))
  pointwise [k0_pay50, k0_pay21, k0_pay19]

theorem sum_b (s : Sums Ideal) : (step p s).b (ix2 0 j) = s.b (ix2 0 j) + ∑ a, p.x15 (ix2 a j) := by
  change k0_pay1 (F := Ideal) (k0_pay20 p.x15) (k0_pay51 s.b) (ix2 0 j) = _
  pointwise [k0_pay1, k0_pay20, k0_pay51]

end Body

/-! ## The blocks as parts of the arrays -/

variable (m : (ℓ : Loc nD τ sig) → Buf (Elt Ideal) ℓ) (c : Dev nD)

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![t.val, 7] := (by decide +kernel : ∀ t : Fin grid0.N, _)
theorem ix_4 : ∀ t : Fin cfg0.N, win0_4.index t = ![t.val, 8] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![0, 0] := (by decide +kernel : ∀ t : Fin grid0.N, _)
theorem ix_12 : ∀ t : Fin cfg0.N, win0_12.index t = ![0, 0] := (by decide +kernel : ∀ t : Fin grid0.N, _)
theorem ix_13 : ∀ t : Fin cfg0.N, win0_13.index t = ![0, 0] := (by decide +kernel : ∀ t : Fin grid0.N, _)
theorem ix_14 : ∀ t : Fin cfg0.N, win0_14.index t = ![0, 0] := (by decide +kernel : ∀ t : Fin grid0.N, _)
theorem ix_15 : ∀ t : Fin cfg0.N, win0_15.index t = ![t.val, 0] := (by decide +kernel : ∀ t : Fin grid0.N, _)
theorem ix_16 : ∀ t : Fin cfg0.N, win0_16.index t = ![t.val, 0] := (by decide +kernel : ∀ t : Fin grid0.N, _)
theorem ix_17 : ∀ t : Fin cfg0.N, win0_17.index t = ![t.val, 0] := (by decide +kernel : ∀ t : Fin grid0.N, _)
theorem ix_18 : ∀ t : Fin cfg0.N, win0_18.index t = ![t.val, 0] := (by decide +kernel : ∀ t : Fin grid0.N, _)
theorem ix_19 : ∀ t : Fin cfg0.N, win0_19.index t = ![t.val, 0] := (by decide +kernel : ∀ t : Fin grid0.N, _)
theorem ix_20 : ∀ t : Fin cfg0.N, win0_20.index t = ![t.val, 0] := (by decide +kernel : ∀ t : Fin grid0.N, _)
theorem ix_21 : ∀ t : Fin cfg0.N, win0_21.index t = ![t.val, 0] := (by decide +kernel : ∀ t : Fin grid0.N, _)
theorem ix_22 : ∀ t : Fin cfg0.N, win0_22.index t = ![t.val, 0] := (by decide +kernel : ∀ t : Fin grid0.N, _)
theorem ix_23 : ∀ t : Fin cfg0.N, win0_23.index t = ![t.val, 0] := (by decide +kernel : ∀ t : Fin grid0.N, _)
theorem ix_24 : ∀ t : Fin cfg0.N, win0_24.index t = ![t.val, 0] := (by decide +kernel : ∀ t : Fin grid0.N, _)

theorem lt_N (t : Fin cfg0.N) : t.val < 32 := lt_of_lt_of_eq t.isLt N_0

/-- The row of the arrays that is a row of a point's blocks. -/
def row (t : Fin cfg0.N) (a : Fin 256) : Fin 8192 := ⟨256 * t.val + a.val, by have := lt_N t; omega⟩

/-- The arrays. -/
def arr0 : S8192x1024.Idx → EReal := m ((c : Thread nD τ).loc main_arg0)
def arr1 : S8192x1024.Idx → EReal := m ((c : Thread nD τ).loc main_arg1)
def arr2 : S8192x1024.Idx → EReal := m ((c : Thread nD τ).loc main_arg2)
def arr3 : S8192x9728.Idx → EReal := m ((c : Thread nD τ).loc main_arg3)
def arr4 : S1x1024.Idx → EReal := m ((c : Thread nD τ).loc main_arg4)
def arr5 : S1x1024.Idx → EReal := m ((c : Thread nD τ).loc main_arg5)
def arr6 : S1x1024.Idx → EReal := m ((c : Thread nD τ).loc main_arg6)
def arr7 : S1x1024.Idx → EReal := m ((c : Thread nD τ).loc main_arg7)
def arr11 : S1024x1024.Idx → EReal := m ((c : Thread nD τ).loc main_arg11)
def arr12 : S1024x1024.Idx → EReal := m ((c : Thread nD τ).loc main_arg12)
def arr13 : S1024x1024.Idx → EReal := m ((c : Thread nD τ).loc main_arg13)
def arr14 : S8192x1024.Idx → EReal := m ((c : Thread nD τ).loc main_arg14)

/-! A point's blocks of them. -/

theorem blk_0 (t : Fin cfg0.N) (a : Fin 256) (j : Fin 1024) : ((blks m c t).x0 (ix2 a j) : EReal) = arr0 m c (ix2 (row t a) j) := by
  change (iblk m c 0 t : S256x1024.Idx → EReal) (ix2 a j) = _
  blk_simp [iblk]
  rw [V_main_arg0]
  unfold arr0
  congr 1
  have := lt_N t
  blk_ext [ix_0, row]

theorem blk_1 (t : Fin cfg0.N) (a : Fin 256) (j : Fin 1024) : ((blks m c t).x1 (ix2 a j) : EReal) = arr1 m c (ix2 (row t a) j) := by
  change (iblk m c 1 t : S256x1024.Idx → EReal) (ix2 a j) = _
  blk_simp [iblk]
  rw [V_main_arg1]
  unfold arr1
  congr 1
  have := lt_N t
  blk_ext [ix_1, row]

theorem blk_2 (t : Fin cfg0.N) (a : Fin 256) (j : Fin 1024) : ((blks m c t).x2 (ix2 a j) : EReal) = arr2 m c (ix2 (row t a) j) := by
  change (iblk m c 2 t : S256x1024.Idx → EReal) (ix2 a j) = _
  blk_simp [iblk]
  rw [V_main_arg2]
  unfold arr2
  congr 1
  have := lt_N t
  blk_ext [ix_2, row]

theorem blk_3 (t : Fin cfg0.N) (a : Fin 256) (j : Fin 1024) : ((blks m c t).x3 (ix2 a j) : EReal) = arr3 m c (ix2 (row t a) ⟨7168 + j.val, by omega⟩) := by
  change (X0_3 m c t : S256x1024.Idx → EReal) (ix2 a j) = _
  unfold X0_3 Pipeline.Window.fill
  rw [dif_pos (moved0_3 t _)]
  blk_simp [iblk]
  rw [V_main_arg3]
  unfold arr3
  congr 1
  have := lt_N t
  blk_ext [ix_3, row]

theorem blk_4 (t : Fin cfg0.N) (a : Fin 256) (j : Fin 1024) : ((blks m c t).x4 (ix2 a j) : EReal) = arr3 m c (ix2 (row t a) ⟨8192 + j.val, by omega⟩) := by
  change (X0_4 m c t : S256x1024.Idx → EReal) (ix2 a j) = _
  unfold X0_4 Pipeline.Window.fill
  rw [dif_pos (moved0_4 t _)]
  blk_simp [iblk]
  rw [V_main_arg3]
  unfold arr3
  congr 1
  have := lt_N t
  blk_ext [ix_4, row]

theorem blk_5 (t : Fin cfg0.N) (j : Fin 1024) : ((blks m c t).x5 (ix2 0 j) : EReal) = arr4 m c (ix2 0 j) := by
  change (iblk m c 5 t : S1x1024.Idx → EReal) (ix2 0 j) = _
  blk_simp [iblk]
  rw [V_main_arg4]
  unfold arr4
  congr 1
  have := lt_N t
  blk_ext [ix_5, row]

theorem blk_6 (t : Fin cfg0.N) (j : Fin 1024) : ((blks m c t).x6 (ix2 0 j) : EReal) = arr5 m c (ix2 0 j) := by
  change (iblk m c 6 t : S1x1024.Idx → EReal) (ix2 0 j) = _
  blk_simp [iblk]
  rw [V_main_arg5]
  unfold arr5
  congr 1
  have := lt_N t
  blk_ext [ix_6, row]

theorem blk_7 (t : Fin cfg0.N) (j : Fin 1024) : ((blks m c t).x7 (ix2 0 j) : EReal) = arr6 m c (ix2 0 j) := by
  change (iblk m c 7 t : S1x1024.Idx → EReal) (ix2 0 j) = _
  blk_simp [iblk]
  rw [V_main_arg6]
  unfold arr6
  congr 1
  have := lt_N t
  blk_ext [ix_7, row]

theorem blk_8 (t : Fin cfg0.N) (j : Fin 1024) : ((blks m c t).x8 (ix2 0 j) : EReal) = arr7 m c (ix2 0 j) := by
  change (iblk m c 8 t : S1x1024.Idx → EReal) (ix2 0 j) = _
  blk_simp [iblk]
  rw [V_main_arg7]
  unfold arr7
  congr 1
  have := lt_N t
  blk_ext [ix_8, row]

theorem blk_12 (t : Fin cfg0.N) (k j : Fin 1024) : ((blks m c t).x12 (ix2 k j) : EReal) = arr11 m c (ix2 k j) := by
  change (iblk m c 12 t : S1024x1024.Idx → EReal) (ix2 k j) = _
  blk_simp [iblk]
  rw [V_main_arg11]
  unfold arr11
  congr 1
  have := lt_N t
  blk_ext [ix_12, row]

theorem blk_13 (t : Fin cfg0.N) (k j : Fin 1024) : ((blks m c t).x13 (ix2 k j) : EReal) = arr12 m c (ix2 k j) := by
  change (iblk m c 13 t : S1024x1024.Idx → EReal) (ix2 k j) = _
  blk_simp [iblk]
  rw [V_main_arg12]
  unfold arr12
  congr 1
  have := lt_N t
  blk_ext [ix_13, row]

theorem blk_14 (t : Fin cfg0.N) (k j : Fin 1024) : ((blks m c t).x14 (ix2 k j) : EReal) = arr13 m c (ix2 k j) := by
  change (iblk m c 14 t : S1024x1024.Idx → EReal) (ix2 k j) = _
  blk_simp [iblk]
  rw [V_main_arg13]
  unfold arr13
  congr 1
  have := lt_N t
  blk_ext [ix_14, row]

theorem blk_15 (t : Fin cfg0.N) (a : Fin 256) (j : Fin 1024) : ((blks m c t).x15 (ix2 a j) : EReal) = arr14 m c (ix2 (row t a) j) := by
  change (iblk m c 15 t : S256x1024.Idx → EReal) (ix2 a j) = _
  blk_simp [iblk]
  rw [V_main_arg14]
  unfold arr14
  congr 1
  have := lt_N t
  blk_ext [ix_15, row]

/-- What a row of the arrays gives the merge, the norm's weight, and the norm's gradient at a row. -/
def whole (r : Fin 8192) : Mix.In :=
  Mix.ofArgs (arr0 m c) (arr1 m c) (arr2 m c) (arr3 m c) (arr4 m c) (arr5 m c) (arr6 m c) (arr11 m c) (arr12 m c) (arr13 m c) r
def gw (j : Fin 1024) : EReal := arr7 m c (ix2 0 j)
def dd (r : Fin 8192) (j : Fin 1024) : EReal := arr14 m c (ix2 r j)

theorem inp_eq (t : Fin cfg0.N) (a : Fin 256) : inp (blks m c t) a = whole m c (row t a) := by
  unfold inp whole Mix.ofArgs
  simp only [blk_0, blk_1, blk_2, blk_3, blk_4, blk_5, blk_6, blk_7, blk_12, blk_13, blk_14]

theorem gw_eq (t : Fin cfg0.N) : nw (blks m c t) = gw m c := by
  funext j
  exact blk_8 m c t j

theorem dd_eq (t : Fin cfg0.N) (a : Fin 256) : nd (blks m c t) a = dd m c (row t a) := by
  funext j
  exact blk_15 m c t a j

/-- The last point. -/
def last : Fin cfg0.N := ⟨31, lt_of_lt_of_eq (by norm_num) N_0.symm⟩

/-- A sum kept over the points, each adding `s` of its rows to `g` of what the point before left, is the sum over all rows. -/
theorem kept (g : Sums Ideal → EReal) (s : Fin 8192 → EReal) (h0 : g start = 0)
    (hs : ∀ (t : Fin cfg0.N) (q : Sums Ideal), g (step (blks m c t) q) = g q + ∑ a, s (row t a)) (t : Fin cfg0.N) (ht : t.val = 31) :
    g (sums m c t.val t.isLt) = ∑ r, s r := by
  have e := Sums.fold (fun t h => g (sums m c t h)) (fun _ => s) (p := 32) (w := 256)
    (fun t h e0 => by
      have ht : t = 0 := by have := lt_N ⟨t, h⟩; dsimp only at this; omega
      subst ht
      refine Eq.trans ?_ (Sums.start s (fun a => s (row ⟨0, h⟩ a)) fun k => ⟨by omega, congrArg s (Fin.ext (by
        show 256 * 0 + k.val = k.val
        omega))⟩).symm
      refine (hs ⟨0, h⟩ start).trans ?_
      rw [h0, zero_add])
    (fun t h e0 => ⟨fun a => s (row ⟨t + 1, h⟩ a), hs ⟨t + 1, h⟩ _, fun k => by
      have := lt_N ⟨t + 1, h⟩
      dsimp only at this
      exact ⟨by omega, congrArg s (Fin.ext (by show 256 * (t + 1) + k.val = 256 * ((t + 1) % 32) + k.val; omega))⟩⟩) t.val t.isLt
  rw [e, ht]
  exact Sums.whole s

/-- An index of a single row. -/
theorem one_row (y : S1x1024.Idx) : y = ix2 0 (y 1) := by
  funext a
  fin_cases a
  · exact Fin.ext (by have := (y 0).isLt; show (y 0).val = 0; change (y 0).val < 1 at this; omega)
  · rfl

/-- An index is its two coordinates. -/
theorem two (y : S256x1024.Idx) : y = ix2 (y 0) (y 1) := by funext a; fin_cases a <;> rfl

/-! ## The results, index by index -/

def res16 : S8192x1024.Idx → EReal := fun y => Mix.dx (whole m c (y 0)) (gw m c) (dd m c (y 0)) (y 1)

theorem part_16 (t : Fin cfg0.N) (a : Fin 256) (j : Fin 1024) (e : S8192x1024.Idx) (h0 : (e 0).val = 256 * t.val + a.val) (h1 : (e 1).val = j.val) :
    (o16 (blks m c t) (ix2 a j) : EReal) = res16 m c e := by
  refine (dx_at (blks m c t) a j).trans ?_
  unfold res16
  rw [show e 0 = row t a from Fin.ext h0, show e 1 = j from Fin.ext h1, inp_eq, gw_eq, dd_eq]

theorem res_16 : ((dats m 0 c).arrAt 16 cfg0.N : S8192x1024.Idx → EReal) = res16 m c := by
  refine (dats m 0 c).arrAt_eq_of_covers 16 _ (by decide +kernel) fun t hf y => ?_
  blk_simp
  rw [after0_16]
  have e := ix_16 t
  rw [two y]
  refine part_16 m c t (y 0) (y 1) _ ?_ ?_ <;> blk_simp [e] <;> omega

def res17 : S8192x1024.Idx → EReal := fun y => Mix.doa (whole m c (y 0)) (gw m c) (dd m c (y 0)) (y 1)

theorem part_17 (t : Fin cfg0.N) (a : Fin 256) (j : Fin 1024) (e : S8192x1024.Idx) (h0 : (e 0).val = 256 * t.val + a.val) (h1 : (e 1).val = j.val) :
    (o17 (blks m c t) (ix2 a j) : EReal) = res17 m c e := by
  refine (doa_at (blks m c t) a j).trans ?_
  unfold res17
  rw [show e 0 = row t a from Fin.ext h0, show e 1 = j from Fin.ext h1, inp_eq, gw_eq, dd_eq]

theorem res_17 : ((dats m 0 c).arrAt 17 cfg0.N : S8192x1024.Idx → EReal) = res17 m c := by
  refine (dats m 0 c).arrAt_eq_of_covers 17 _ (by decide +kernel) fun t hf y => ?_
  blk_simp
  rw [after0_17]
  have e := ix_17 t
  rw [two y]
  refine part_17 m c t (y 0) (y 1) _ ?_ ?_ <;> blk_simp [e] <;> omega

def res18 : S8192x1024.Idx → EReal := fun y => Mix.dob (whole m c (y 0)) (gw m c) (dd m c (y 0)) (y 1)

theorem part_18 (t : Fin cfg0.N) (a : Fin 256) (j : Fin 1024) (e : S8192x1024.Idx) (h0 : (e 0).val = 256 * t.val + a.val) (h1 : (e 1).val = j.val) :
    (o18 (blks m c t) (ix2 a j) : EReal) = res18 m c e := by
  refine (dob_at (blks m c t) a j).trans ?_
  unfold res18
  rw [show e 0 = row t a from Fin.ext h0, show e 1 = j from Fin.ext h1, inp_eq, gw_eq, dd_eq]

theorem res_18 : ((dats m 0 c).arrAt 18 cfg0.N : S8192x1024.Idx → EReal) = res18 m c := by
  refine (dats m 0 c).arrAt_eq_of_covers 18 _ (by decide +kernel) fun t hf y => ?_
  blk_simp
  rw [after0_18]
  have e := ix_18 t
  rw [two y]
  refine part_18 m c t (y 0) (y 1) _ ?_ ?_ <;> blk_simp [e] <;> omega

def res19 : S8192x1024.Idx → EReal := fun y => Mix.dra (whole m c (y 0)) (gw m c) (dd m c (y 0)) (y 1)

theorem part_19 (t : Fin cfg0.N) (a : Fin 256) (j : Fin 1024) (e : S8192x1024.Idx) (h0 : (e 0).val = 256 * t.val + a.val) (h1 : (e 1).val = j.val) :
    (o19 (blks m c t) (ix2 a j) : EReal) = res19 m c e := by
  refine (dra_out (blks m c t) a j).trans ?_
  unfold res19
  rw [show e 0 = row t a from Fin.ext h0, show e 1 = j from Fin.ext h1, inp_eq, gw_eq, dd_eq]

theorem res_19 : ((dats m 0 c).arrAt 19 cfg0.N : S8192x1024.Idx → EReal) = res19 m c := by
  refine (dats m 0 c).arrAt_eq_of_covers 19 _ (by decide +kernel) fun t hf y => ?_
  blk_simp
  rw [after0_19]
  have e := ix_19 t
  rw [two y]
  refine part_19 m c t (y 0) (y 1) _ ?_ ?_ <;> blk_simp [e] <;> omega

def res20 : S8192x1024.Idx → EReal := fun y => Mix.drb (whole m c (y 0)) (gw m c) (dd m c (y 0)) (y 1)

theorem part_20 (t : Fin cfg0.N) (a : Fin 256) (j : Fin 1024) (e : S8192x1024.Idx) (h0 : (e 0).val = 256 * t.val + a.val) (h1 : (e 1).val = j.val) :
    (o20 (blks m c t) (ix2 a j) : EReal) = res20 m c e := by
  refine (drb_out (blks m c t) a j).trans ?_
  unfold res20
  rw [show e 0 = row t a from Fin.ext h0, show e 1 = j from Fin.ext h1, inp_eq, gw_eq, dd_eq]

theorem res_20 : ((dats m 0 c).arrAt 20 cfg0.N : S8192x1024.Idx → EReal) = res20 m c := by
  refine (dats m 0 c).arrAt_eq_of_covers 20 _ (by decide +kernel) fun t hf y => ?_
  blk_simp
  rw [after0_20]
  have e := ix_20 t
  rw [two y]
  refine part_20 m c t (y 0) (y 1) _ ?_ ?_ <;> blk_simp [e] <;> omega

def res21 : S8192x1024.Idx → EReal := fun y => Mix.merged (whole m c (y 0)) (y 1)

theorem part_21 (t : Fin cfg0.N) (a : Fin 256) (j : Fin 1024) (e : S8192x1024.Idx) (h0 : (e 0).val = 256 * t.val + a.val) (h1 : (e 1).val = j.val) :
    (o21 (blks m c t) (ix2 a j) : EReal) = res21 m c e := by
  refine (mg_out (blks m c t) a j).trans ?_
  unfold res21
  rw [show e 0 = row t a from Fin.ext h0, show e 1 = j from Fin.ext h1, inp_eq]

theorem res_21 : ((dats m 0 c).arrAt 21 cfg0.N : S8192x1024.Idx → EReal) = res21 m c := by
  refine (dats m 0 c).arrAt_eq_of_covers 21 _ (by decide +kernel) fun t hf y => ?_
  blk_simp
  rw [after0_21]
  have e := ix_21 t
  rw [two y]
  refine part_21 m c t (y 0) (y 1) _ ?_ ?_ <;> blk_simp [e] <;> omega

def res22 : S8192x1024.Idx → EReal := fun y => Mix.dmix (whole m c (y 0)) (gw m c) (dd m c (y 0)) (y 1)

theorem part_22 (t : Fin cfg0.N) (a : Fin 256) (j : Fin 1024) (e : S8192x1024.Idx) (h0 : (e 0).val = 256 * t.val + a.val) (h1 : (e 1).val = j.val) :
    (o22 (blks m c t) (ix2 a j) : EReal) = res22 m c e := by
  refine (dmix_at (blks m c t) a j).trans ?_
  unfold res22
  rw [show e 0 = row t a from Fin.ext h0, show e 1 = j from Fin.ext h1, inp_eq, gw_eq, dd_eq]

theorem res_22 : ((dats m 0 c).arrAt 22 cfg0.N : S8192x1024.Idx → EReal) = res22 m c := by
  refine (dats m 0 c).arrAt_eq_of_covers 22 _ (by decide +kernel) fun t hf y => ?_
  blk_simp
  rw [after0_22]
  have e := ix_22 t
  rw [two y]
  refine part_22 m c t (y 0) (y 1) _ ?_ ?_ <;> blk_simp [e] <;> omega

def res23 : S8192x1024.Idx → EReal := fun y => Mix.dpa (whole m c (y 0)) (gw m c) (dd m c (y 0)) (y 1)

theorem part_23 (t : Fin cfg0.N) (a : Fin 256) (j : Fin 1024) (e : S8192x1024.Idx) (h0 : (e 0).val = 256 * t.val + a.val) (h1 : (e 1).val = j.val) :
    (o23 (blks m c t) (ix2 a j) : EReal) = res23 m c e := by
  refine (dpa_out (blks m c t) a j).trans ?_
  unfold res23
  rw [show e 0 = row t a from Fin.ext h0, show e 1 = j from Fin.ext h1, inp_eq, gw_eq, dd_eq]

theorem res_23 : ((dats m 0 c).arrAt 23 cfg0.N : S8192x1024.Idx → EReal) = res23 m c := by
  refine (dats m 0 c).arrAt_eq_of_covers 23 _ (by decide +kernel) fun t hf y => ?_
  blk_simp
  rw [after0_23]
  have e := ix_23 t
  rw [two y]
  refine part_23 m c t (y 0) (y 1) _ ?_ ?_ <;> blk_simp [e] <;> omega

def res24 : S8192x1024.Idx → EReal := fun y => Mix.dpb (whole m c (y 0)) (gw m c) (dd m c (y 0)) (y 1)

theorem part_24 (t : Fin cfg0.N) (a : Fin 256) (j : Fin 1024) (e : S8192x1024.Idx) (h0 : (e 0).val = 256 * t.val + a.val) (h1 : (e 1).val = j.val) :
    (o24 (blks m c t) (ix2 a j) : EReal) = res24 m c e := by
  refine (dpb_out (blks m c t) a j).trans ?_
  unfold res24
  rw [show e 0 = row t a from Fin.ext h0, show e 1 = j from Fin.ext h1, inp_eq, gw_eq, dd_eq]

theorem res_24 : ((dats m 0 c).arrAt 24 cfg0.N : S8192x1024.Idx → EReal) = res24 m c := by
  refine (dats m 0 c).arrAt_eq_of_covers 24 _ (by decide +kernel) fun t hf y => ?_
  blk_simp
  rw [after0_24]
  have e := ix_24 t
  rw [two y]
  refine part_24 m c t (y 0) (y 1) _ ?_ ?_ <;> blk_simp [e] <;> omega

def res25 : S1x1024.Idx → EReal := fun y => ∑ r, Mix.dra (whole m c r) (gw m c) (dd m c r) (y 1)

theorem res_25 : ((dats m 0 c).arrAt 25 cfg0.N : S1x1024.Idx → EReal) = res25 m c := by
  refine (dats m 0 c).arrAt_eq_of_after_last 25 last (by decide +kernel) _ fun y => ?_
  blk_simp
  rw [after0_25, one_row y]
  generalize y 1 = j
  refine kept m c (fun s => (s.ra (ix2 0 j) : EReal)) (fun r => Mix.dra (whole m c r) (gw m c) (dd m c r) j) (by pointwise [start, k0_pay42]) (fun t s => ?_) last rfl
  refine (sum_ra (blks m c t) j s).trans ?_
  simp only [inp_eq, gw_eq, dd_eq]

def res26 : S1x1024.Idx → EReal := fun y => ∑ r, Mix.drb (whole m c r) (gw m c) (dd m c r) (y 1)

theorem res_26 : ((dats m 0 c).arrAt 26 cfg0.N : S1x1024.Idx → EReal) = res26 m c := by
  refine (dats m 0 c).arrAt_eq_of_after_last 26 last (by decide +kernel) _ fun y => ?_
  blk_simp
  rw [after0_26, one_row y]
  generalize y 1 = j
  refine kept m c (fun s => (s.rb (ix2 0 j) : EReal)) (fun r => Mix.drb (whole m c r) (gw m c) (dd m c r) j) (by pointwise [start, k0_pay43]) (fun t s => ?_) last rfl
  refine (sum_rb (blks m c t) j s).trans ?_
  simp only [inp_eq, gw_eq, dd_eq]

def res27 : S1x1024.Idx → EReal := fun y => ∑ r, Mix.dgt (whole m c r) (gw m c) (dd m c r) (y 1)

theorem res_27 : ((dats m 0 c).arrAt 27 cfg0.N : S1x1024.Idx → EReal) = res27 m c := by
  refine (dats m 0 c).arrAt_eq_of_after_last 27 last (by decide +kernel) _ fun y => ?_
  blk_simp
  rw [after0_27, one_row y]
  generalize y 1 = j
  refine kept m c (fun s => (s.gt (ix2 0 j) : EReal)) (fun r => Mix.dgt (whole m c r) (gw m c) (dd m c r) j) (by pointwise [start, k0_pay44]) (fun t s => ?_) last rfl
  refine (sum_gt (blks m c t) j s).trans ?_
  simp only [inp_eq, gw_eq, dd_eq]

def res28 : S1x1024.Idx → EReal := fun y => ∑ r, Mix.dg (whole m c r) (dd m c r) (y 1)

theorem res_28 : ((dats m 0 c).arrAt 28 cfg0.N : S1x1024.Idx → EReal) = res28 m c := by
  refine (dats m 0 c).arrAt_eq_of_after_last 28 last (by decide +kernel) _ fun y => ?_
  blk_simp
  rw [after0_28, one_row y]
  generalize y 1 = j
  refine kept m c (fun s => (s.g (ix2 0 j) : EReal)) (fun r => Mix.dg (whole m c r) (dd m c r) j) (by pointwise [start, k0_pay45]) (fun t s => ?_) last rfl
  refine (sum_g (blks m c t) j s).trans ?_
  simp only [inp_eq, dd_eq]

def res29 : S1x1024.Idx → EReal := fun y => ∑ r, dd m c r (y 1)

theorem res_29 : ((dats m 0 c).arrAt 29 cfg0.N : S1x1024.Idx → EReal) = res29 m c := by
  refine (dats m 0 c).arrAt_eq_of_after_last 29 last (by decide +kernel) _ fun y => ?_
  blk_simp
  rw [after0_29, one_row y]
  generalize y 1 = j
  refine kept m c (fun s => (s.b (ix2 0 j) : EReal)) (fun r => dd m c r j) (by pointwise [start, k0_pay46]) (fun t s => ?_) last rfl
  refine (sum_b (blks m c t) j s).trans ?_
  exact congrArg (_ + ·) (Finset.sum_congr rfl fun a _ => blk_15 m c t a j)

end Cert.MergeBwdIdeal.Row

namespace Cert.MergeBwdRefIdeal.Row

open Idealize.ShloMosaic Idealize.ShloMosaic.TcCoe Idealize.SL.Sem Cert.MergeBwdRefIdeal Cert.MergeBwdRefIdeal.Gen Cert.MergeBwdRefIdeal.Value

variable (m : (ℓ : Loc nD τ sig) → Buf (Elt Ideal) ℓ) (c : Dev nD)

/-- What a row of the reference's arguments gives the merge, the norm's weight, and the norm's gradient at a row. -/
def whole (i : Fin 8192) : Mix.In :=
  Mix.ofArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) i
def gw (j : Fin 1024) : EReal := (m ((c : Thread nD τ).loc main_arg7) : S1x1024.Idx → EReal) (ix2 0 j)
def dd (i : Fin 8192) (j : Fin 1024) : EReal := (m ((c : Thread nD τ).loc main_arg14) : S8192x1024.Idx → EReal) (ix2 i j)

theorem at_99 (i : Fin 8192) (j : Fin 1024) : (res_main_v99 (F := Ideal) m c (ix2 i j) : EReal) = Mix.dx (whole m c i) (gw m c) (dd m c i) j := by
  unfold res_main_v99
  pointwise []
  simp only [Finset.univ_unique, Finset.sum_singleton]
  rfl

theorem at_111 (i : Fin 8192) (j : Fin 1024) : (res_main_v111 (F := Ideal) m c (ix2 i j) : EReal) = Mix.doa (whole m c i) (gw m c) (dd m c i) j := by
  unfold res_main_v111
  pointwise []
  simp only [Finset.univ_unique, Finset.sum_singleton]
  rfl

theorem at_112 (i : Fin 8192) (j : Fin 1024) : (res_main_v112 (F := Ideal) m c (ix2 i j) : EReal) = Mix.dob (whole m c i) (gw m c) (dd m c i) j := by
  unfold res_main_v112
  pointwise []
  simp only [Finset.univ_unique, Finset.sum_singleton]
  rfl

theorem at_113 (i : Fin 8192) (j : Fin 1024) : (res_main_v113 (F := Ideal) m c (ix2 i j) : EReal) = Mix.dra (whole m c i) (gw m c) (dd m c i) j := by
  unfold res_main_v113
  pointwise []
  simp only [Finset.univ_unique, Finset.sum_singleton]
  rfl

theorem at_114 (i : Fin 8192) (j : Fin 1024) : (res_main_v114 (F := Ideal) m c (ix2 i j) : EReal) = Mix.drb (whole m c i) (gw m c) (dd m c i) j := by
  unfold res_main_v114
  pointwise []
  simp only [Finset.univ_unique, Finset.sum_singleton]
  rfl

theorem at_116 (i : Fin 8192) (j : Fin 1024) : (res_main_v116 (F := Ideal) m c (ix2 i j) : EReal) = Mix.dmix (whole m c i) (gw m c) (dd m c i) j := by
  unfold res_main_v116
  pointwise []
  simp only [Finset.univ_unique, Finset.sum_singleton]
  rfl

theorem at_117 (i : Fin 8192) (j : Fin 1024) : (res_main_v117 (F := Ideal) m c (ix2 i j) : EReal) = Mix.dpa (whole m c i) (gw m c) (dd m c i) j := by
  unfold res_main_v117
  pointwise []
  simp only [Finset.univ_unique, Finset.sum_singleton]
  rfl

theorem at_118 (i : Fin 8192) (j : Fin 1024) : (res_main_v118 (F := Ideal) m c (ix2 i j) : EReal) = Mix.dpb (whole m c i) (gw m c) (dd m c i) j := by
  unfold res_main_v118
  pointwise []
  simp only [Finset.univ_unique, Finset.sum_singleton]
  rfl

theorem at_110 (i : Fin 1) (j : Fin 1024) : (res_main_v110 (F := Ideal) m c (ix2 i j) : EReal) = ∑ r, Mix.dra (whole m c r) (gw m c) (dd m c r) j := by
  unfold res_main_v110
  pointwise []
  simp only [Finset.univ_unique, Finset.sum_singleton]
  rfl

theorem at_105 (i : Fin 1) (j : Fin 1024) : (res_main_v105 (F := Ideal) m c (ix2 i j) : EReal) = ∑ r, Mix.drb (whole m c r) (gw m c) (dd m c r) j := by
  unfold res_main_v105
  pointwise []
  simp only [Finset.univ_unique, Finset.sum_singleton]
  rfl

theorem at_97 (i : Fin 1) (j : Fin 1024) : (res_main_v97 (F := Ideal) m c (ix2 i j) : EReal) = ∑ r, Mix.dgt (whole m c r) (gw m c) (dd m c r) j := by
  unfold res_main_v97
  pointwise []
  simp only [Finset.univ_unique, Finset.sum_singleton]
  rfl

theorem at_70 (i : Fin 1) (j : Fin 1024) : (res_main_v70 (F := Ideal) m c (ix2 i j) : EReal) = ∑ r, Mix.dg (whole m c r) (dd m c r) j := by
  unfold res_main_v70
  pointwise []
  rfl

end Cert.MergeBwdRefIdeal.Row

namespace Cert.MergeBwd.Claims

open Idealize.ShloMosaic Idealize.ShloMosaic.TcCoe Idealize.SL.Sem

theorem algebraic : Cert.algebraic_MergeBwdIdeal_MergeBwdRefIdeal := by
  intro m g m' g' _ hag
  refine ⟨_, _, _, _, _, _, _, _, _, _, _, _, _, _, Cert.MergeBwdIdeal.Row.results m g, ?_⟩
  refine (θ_run _ _ _).mono (fun r h c => ?_) (Cert.MergeBwdRefIdeal.Value.run m' g')
  obtain ⟨r0, r1, r2, r3, r4, r5, r6, r7, r8, r9, r10, r11, r12, r13, k⟩ := h c
  obtain ⟨e0, e1, e2, e3, e4, e5, e6, e7, e8, e9, e10, e11, e12, e13, e14⟩ := hag c
  have hw : Cert.MergeBwdRefIdeal.Row.whole m' c = Cert.MergeBwdIdeal.Row.whole m c := by
    funext i
    unfold Cert.MergeBwdRefIdeal.Row.whole
    rw [e0, e1, e2, e3, e4, e5, e6, e11, e12, e13]
    rfl
  have hg : Cert.MergeBwdRefIdeal.Row.gw m' c = Cert.MergeBwdIdeal.Row.gw m c := by
    funext j
    unfold Cert.MergeBwdRefIdeal.Row.gw
    rw [e7]
    rfl
  have hd : Cert.MergeBwdRefIdeal.Row.dd m' c = Cert.MergeBwdIdeal.Row.dd m c := by
    funext i j
    unfold Cert.MergeBwdRefIdeal.Row.dd
    rw [e14]
    rfl
  refine ⟨r0.trans (Eq.trans ?_ (Cert.MergeBwdIdeal.Row.res_16 m c).symm), r1.trans (Eq.trans ?_ (Cert.MergeBwdIdeal.Row.res_17 m c).symm), r2.trans (Eq.trans ?_ (Cert.MergeBwdIdeal.Row.res_18 m c).symm), r3.trans (Eq.trans ?_ (Cert.MergeBwdIdeal.Row.res_19 m c).symm), r4.trans (Eq.trans ?_ (Cert.MergeBwdIdeal.Row.res_20 m c).symm), r5.trans (Eq.trans ?_ (Cert.MergeBwdIdeal.Row.res_21 m c).symm), r6.trans (Eq.trans ?_ (Cert.MergeBwdIdeal.Row.res_22 m c).symm), r7.trans (Eq.trans ?_ (Cert.MergeBwdIdeal.Row.res_23 m c).symm), r8.trans (Eq.trans ?_ (Cert.MergeBwdIdeal.Row.res_24 m c).symm), r9.trans (Eq.trans ?_ (Cert.MergeBwdIdeal.Row.res_25 m c).symm), r10.trans (Eq.trans ?_ (Cert.MergeBwdIdeal.Row.res_26 m c).symm), r11.trans (Eq.trans ?_ (Cert.MergeBwdIdeal.Row.res_27 m c).symm), r12.trans (Eq.trans ?_ (Cert.MergeBwdIdeal.Row.res_28 m c).symm), r13.trans (Eq.trans ?_ (Cert.MergeBwdIdeal.Row.res_29 m c).symm), k⟩
  · refine Cert.Meet.ix2_all fun i j => (Cert.MergeBwdRefIdeal.Row.at_99 m' c i j).trans ?_
    rw [hw, hg, hd]
    rfl
  · refine Cert.Meet.ix2_all fun i j => (Cert.MergeBwdRefIdeal.Row.at_111 m' c i j).trans ?_
    rw [hw, hg, hd]
    rfl
  · refine Cert.Meet.ix2_all fun i j => (Cert.MergeBwdRefIdeal.Row.at_112 m' c i j).trans ?_
    rw [hw, hg, hd]
    rfl
  · refine Cert.Meet.ix2_all fun i j => (Cert.MergeBwdRefIdeal.Row.at_113 m' c i j).trans ?_
    rw [hw, hg, hd]
    rfl
  · refine Cert.Meet.ix2_all fun i j => (Cert.MergeBwdRefIdeal.Row.at_114 m' c i j).trans ?_
    rw [hw, hg, hd]
    rfl
  · refine Cert.Meet.ix2_all fun i j => Eq.trans (b := (Mix.merged (Cert.MergeBwdRefIdeal.Row.whole m' c i) j : EReal)) ?_ ?_
    · pointwise []
      rfl
    · rw [hw]
      rfl
  · refine Cert.Meet.ix2_all fun i j => (Cert.MergeBwdRefIdeal.Row.at_116 m' c i j).trans ?_
    rw [hw, hg, hd]
    rfl
  · refine Cert.Meet.ix2_all fun i j => (Cert.MergeBwdRefIdeal.Row.at_117 m' c i j).trans ?_
    rw [hw, hg, hd]
    rfl
  · refine Cert.Meet.ix2_all fun i j => (Cert.MergeBwdRefIdeal.Row.at_118 m' c i j).trans ?_
    rw [hw, hg, hd]
    rfl
  · refine Cert.Meet.ix2_all fun i j => (Cert.MergeBwdRefIdeal.Row.at_110 m' c i j).trans ?_
    rw [hw, hg, hd]
    rfl
  · refine Cert.Meet.ix2_all fun i j => (Cert.MergeBwdRefIdeal.Row.at_105 m' c i j).trans ?_
    rw [hw, hg, hd]
    rfl
  · refine Cert.Meet.ix2_all fun i j => (Cert.MergeBwdRefIdeal.Row.at_97 m' c i j).trans ?_
    rw [hw, hg, hd]
    rfl
  · refine Cert.Meet.ix2_all fun i j => (Cert.MergeBwdRefIdeal.Row.at_70 m' c i j).trans ?_
    rw [hw, hd]
    rfl
  · refine Cert.Meet.ix2_all fun i j => Eq.trans (b := (∑ r, Cert.MergeBwdRefIdeal.Row.dd m' c r j : EReal)) ?_ ?_
    · pointwise []
      rfl
    · rw [hd]
      rfl

end Cert.MergeBwd.Claims

end
-- ==== Proof.Adam.lean ====
module

public import proofs.«01_k».proof.Proof.Meet
public import Idealize.ShloMosaic.Lib.Pointwise

/-! One step of AdamW for one weight, and for an array of them whose gradient comes in parts. -/

@[expose] public section

noncomputable section

namespace Cert.Adam

open Idealize.ShloMosaic

theorem hz : (![0, 0, 0] : Fin 3 → Nat) = fun _ => 0 := funext fun a => by fin_cases a <;> rfl

section One
variable (g w u v : EReal)

/-- The new first moment, the new second moment, and the weight's change. -/
def mom : EReal := Ideal.ofBits .f32 0x3F666666#32 * u + Ideal.ofBits .f32 0x3DCCCCCD#32 * g
def sec : EReal := Ideal.ofBits .f32 0x3F7FBE77#32 * v + Ideal.ofBits .f32 0x3A83126F#32 * (g * g)
def change : EReal :=
  Ideal.ofBits .f32 0xBA83126F#32 * (Ideal.div (Ideal.div (mom g u) (Ideal.ofBits .f32 0x3F26BD02#32))
    (Ideal.sqrt (Ideal.div (sec g v) (Ideal.ofBits .f32 0x3C231ACC#32)) + Ideal.ofBits .f32 0x322BCC77#32)
    + Ideal.ofBits .f32 0x3C23D70A#32 * w)

end One

section Arrays

/-- A matrix with a leading axis of `n`. -/
abbrev Arr (n R C : ℕ) : Type := (⟨3, ![n, R, C]⟩ : Shape).Idx → EReal

variable {n R C : ℕ} (p : Arr n R C) (w u v : Arr 1 R C) (y : (⟨3, ![1, R, C]⟩ : Shape).Idx)

/-- The gradient added up, the change, and the two moments, index by index. -/
def grads : EReal := ∑ s, p (ix3 s (y 1) (y 2))
def changes : EReal := change (grads p y) (w y) (u y) (v y)
def moms : EReal := mom (grads p y) (u y)
def secs : EReal := sec (grads p y) (v y)

/-- A function on a matrix with one leading index is known from its rows and columns. -/
theorem all {α : Type} {f h : (⟨3, ![1, R, C]⟩ : Shape).Idx → α} (e : ∀ a b, f (ix3 0 a b) = h (ix3 0 a b)) : f = h :=
  Cert.Meet.ix3_all fun i a b => by
    obtain rfl : i = 0 := Subsingleton.elim _ _
    exact e a b

/-- The four arrays are the results of the step. -/
structure Update (p : Arr n R C) (w u v g d f s : Arr 1 R C) : Prop where
  sum : g = grads p
  delta : d = changes p w u v
  one : f = moms p u
  two : s = secs p v

/-- Blocks of the four arguments that are the rows `r` of their arrays. -/
structure Rows {T : ℕ} (r : Fin T → Fin R) (x : Arr n T C) (xw xu xv : Arr 1 T C) (p : Arr n R C) (w u v : Arr 1 R C) : Prop where
  parts : ∀ s a b, x (ix3 s a b) = p (ix3 s (r a) b)
  weight : ∀ a b, xw (ix3 0 a b) = w (ix3 0 (r a) b)
  first : ∀ a b, xu (ix3 0 a b) = u (ix3 0 (r a) b)
  second : ∀ a b, xv (ix3 0 a b) = v (ix3 0 (r a) b)

/-- The step on such blocks is those rows of the step on the arrays. -/
theorem Update.rows {T : ℕ} {r : Fin T → Fin R} {x : Arr n T C} {xw xu xv og od of os : Arr 1 T C} {p : Arr n R C} {w u v : Arr 1 R C}
    (o : Update x xw xu xv og od of os) (h : Rows r x xw xu xv p w u v) (z : (⟨3, ![1, T, C]⟩ : Shape).Idx)
    (y : (⟨3, ![1, R, C]⟩ : Shape).Idx) (e1 : (y 1).val = (r (z 1)).val) (e2 : (y 2).val = (z 2).val) :
    og z = grads p y ∧ od z = changes p w u v y ∧ of z = moms p u y ∧ os z = secs p v y := by
  obtain ⟨rfl, rfl, rfl, rfl⟩ := o
  have hz : z = ix3 0 (z 1) (z 2) := by
    funext d
    fin_cases d
    exacts [Subsingleton.elim (α := Fin 1) _ _, rfl, rfl]
  have hy : y = ix3 0 (r (z 1)) (z 2) := by
    funext d
    fin_cases d
    exacts [Subsingleton.elim (α := Fin 1) _ _, Fin.ext e1, Fin.ext e2]
  have g : grads x z = grads p y := by
    rw [hy]
    exact Finset.sum_congr rfl fun s _ => h.parts s _ _
  have mw : xw z = w y := (congrArg xw hz).trans ((h.weight _ _).trans (congrArg w hy.symm))
  have mu : xu z = u y := (congrArg xu hz).trans ((h.first _ _).trans (congrArg u hy.symm))
  have mv : xv z = v y := (congrArg xv hz).trans ((h.second _ _).trans (congrArg v hy.symm))
  refine ⟨g, ?_, congrArg₂ mom g mu, congrArg₂ sec g mv⟩
  unfold changes
  rw [g, mw, mu, mv]

end Arrays

end Cert.Adam

end
-- ==== Proof.AdamIn.lean ====
module

public import proofs.«01_k».proof.Defs
public import proofs.«01_k».proof.Proof.Adam
public import proofs.«01_k».proof.Proof.Gen.AdamInIdeal.Value
public import proofs.«01_k».proof.Proof.Gen.AdamInRefIdeal.Run
public import Idealize.ShloMosaic.Lib.Pipeline.ValueKit.Geometry

/-! The AdamW update of the input projection's weight. -/

@[expose] public section

set_option maxRecDepth 16384

noncomputable section

open Idealize.ShloMosaic Idealize.ShloMosaic.TcCoe Idealize.SL.Sem Cert.Adam

namespace Cert.AdamInIdeal.Step

open Cert.AdamInIdeal Cert.AdamInIdeal.Gen Cert.AdamInIdeal.Value

/-- What the body leaves is the step on the blocks that it reads. -/
theorem left (x : Vec Ideal S8x256x1154 .bf16) (w u v : Vec Ideal S1x256x1154 .f32) : Update (n := 8) (R := 256) (C := 1154) x w u v
    (out0_4 (F := Ideal) x w u v) (out0_5 (F := Ideal) x w u v) (out0_6 (F := Ideal) x w u v) (out0_7 (F := Ideal) x w u v) := by
  refine ⟨all fun a b => ?_, all fun a b => ?_, all fun a b => ?_, all fun a b => ?_⟩
  all_goals
    simp only [out0_4, out0_5, out0_6, out0_7, grads, changes, moms, secs, Fin.sum_univ_eight]
    rw [View.canon_unit_zero hz]
    pointwise [k0_pay1, k0_pay2, k0_pay3, k0_pay4, k0_pay5, k0_pay6, k0_pay7, k0_pay8]
    try rfl

variable (m : (ℓ : Loc nD τ sig) → Buf (Elt Ideal) ℓ) (c : Dev nD)

/-- The row of the arrays that a row of a grid point's blocks is. -/
def row (t : Fin cfg0.N) (a : Fin 256) : Fin 1024 := ⟨256 * t.val + a.val, by have := lt_of_lt_of_eq t.isLt N_0; omega⟩

theorem row_val (t : Fin cfg0.N) (a : Fin 256) : (row t a).val = 256 * t.val + a.val := rfl

theorem ix : ∀ t : Fin cfg0.N, (win0_0.index t = ![0, t.val, 0] ∧ win0_1.index t = ![0, t.val, 0] ∧ win0_2.index t = ![0, t.val, 0]
    ∧ win0_3.index t = ![0, t.val, 0]) ∧ win0_4.index t = ![0, t.val, 0] ∧ win0_5.index t = ![0, t.val, 0]
    ∧ win0_6.index t = ![0, t.val, 0] ∧ win0_7.index t = ![0, t.val, 0] := (by decide +kernel : ∀ t : Fin grid0.N, _)

/-- A grid point reads its rows of the four arguments. -/
theorem reads (t : Fin cfg0.N) : Rows (n := 8) (R := 1024) (C := 1154) (row t) (iblk m c 0 t) (iblk m c 1 t) (iblk m c 2 t) (iblk m c 3 t)
    (m ((c : Thread nD τ).loc main_arg0)) (m ((c : Thread nD τ).loc main_arg1)) (m ((c : Thread nD τ).loc main_arg2))
    (m ((c : Thread nD τ).loc main_arg3)) := by
  constructor
  all_goals
    intros
    blk_simp [iblk]
    simp only [V_main_arg0, V_main_arg1, V_main_arg2, V_main_arg3]
    congr 1
    blk_ext [(ix t).1.1, (ix t).1.2.1, (ix t).1.2.2.1, (ix t).1.2.2.2, row]

/-- The four results. -/
theorem res : Update (n := 8) (R := 1024) (C := 1154) (m ((c : Thread nD τ).loc main_arg0)) (m ((c : Thread nD τ).loc main_arg1))
    (m ((c : Thread nD τ).loc main_arg2)) (m ((c : Thread nD τ).loc main_arg3)) ((dats m 0 c).arrAt 4 cfg0.N) ((dats m 0 c).arrAt 5 cfg0.N)
    ((dats m 0 c).arrAt 6 cfg0.N) ((dats m 0 c).arrAt 7 cfg0.N) := by
  have rows := fun t => (left _ _ _ _).rows (reads m c t)
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩ <;> blk_simp
  · rw [after0_4]
    refine (rows t y _ (Eq.trans ?_ (row_val _ _).symm) ?_).1 <;> blk_simp [(ix t).2.1] <;> omega
  · rw [after0_5]
    refine (rows t y _ (Eq.trans ?_ (row_val _ _).symm) ?_).2.1 <;> blk_simp [(ix t).2.2.1] <;> omega
  · rw [after0_6]
    refine (rows t y _ (Eq.trans ?_ (row_val _ _).symm) ?_).2.2.1 <;> blk_simp [(ix t).2.2.2.1] <;> omega
  · rw [after0_7]
    refine (rows t y _ (Eq.trans ?_ (row_val _ _).symm) ?_).2.2.2 <;> blk_simp [(ix t).2.2.2.2] <;> omega

end Cert.AdamInIdeal.Step

namespace Cert.AdamIn.Claims

theorem algebraic : Cert.algebraic_AdamInIdeal_AdamInRefIdeal := by
  intro m g m' g' _ hag
  refine ⟨_, _, _, _, Cert.AdamInIdeal.Value.run_blocks m g, ?_⟩
  refine (θ_run _ _ _).mono (fun r h c => ?_) (Cert.AdamInRefIdeal.Value.run m' g')
  obtain ⟨r0, r1, r2, r3, k⟩ := h c
  obtain ⟨e0, e1, e2, e3⟩ := hag c
  obtain ⟨s0, s1, s2, s3⟩ := Cert.AdamInIdeal.Step.res m c
  rw [e0, e1, e2, e3] at r1
  rw [e0] at r0
  rw [e0, e2] at r2
  rw [e0, e3] at r3
  refine ⟨r0.trans (Eq.trans (all fun a b => ?_) s0.symm), r1.trans (Eq.trans (all fun a b => ?_) s1.symm),
    r2.trans (Eq.trans (all fun a b => ?_) s2.symm), r3.trans (Eq.trans (all fun a b => ?_) s3.symm), k⟩
  all_goals
    pointwise [grads, changes, moms, secs]
    try rfl

end Cert.AdamIn.Claims

end
-- ==== Proof.AdamUp.lean ====
module

public import proofs.«01_k».proof.Defs
public import proofs.«01_k».proof.Proof.Adam
public import proofs.«01_k».proof.Proof.Gen.AdamUpIdeal.Value
public import proofs.«01_k».proof.Proof.Gen.AdamUpRefIdeal.Run
public import Idealize.ShloMosaic.Lib.Pipeline.ValueKit.Geometry

/-! The AdamW update of the up projection's weight. -/

@[expose] public section

set_option maxRecDepth 16384

noncomputable section

open Idealize.ShloMosaic Idealize.ShloMosaic.TcCoe Idealize.SL.Sem Cert.Adam

namespace Cert.AdamUpIdeal.Step

open Cert.AdamUpIdeal Cert.AdamUpIdeal.Gen Cert.AdamUpIdeal.Value

/-- What the body leaves is the step on the blocks that it reads. -/
theorem left (x : Vec Ideal S8x256x704 .bf16) (w u v : Vec Ideal S1x256x704 .f32) : Update (n := 8) (R := 256) (C := 704) x w u v
    (out0_4 (F := Ideal) x w u v) (out0_5 (F := Ideal) x w u v) (out0_6 (F := Ideal) x w u v) (out0_7 (F := Ideal) x w u v) := by
  refine ⟨all fun a b => ?_, all fun a b => ?_, all fun a b => ?_, all fun a b => ?_⟩
  all_goals
    simp only [out0_4, out0_5, out0_6, out0_7, grads, changes, moms, secs, Fin.sum_univ_eight]
    rw [View.canon_unit_zero hz]
    pointwise [k0_pay1, k0_pay2, k0_pay3, k0_pay4, k0_pay5, k0_pay6, k0_pay7, k0_pay8]
    try rfl

variable (m : (ℓ : Loc nD τ sig) → Buf (Elt Ideal) ℓ) (c : Dev nD)

/-- The row of the arrays that a row of a grid point's blocks is. -/
def row (t : Fin cfg0.N) (a : Fin 256) : Fin 1024 := ⟨256 * t.val + a.val, by have := lt_of_lt_of_eq t.isLt N_0; omega⟩

theorem row_val (t : Fin cfg0.N) (a : Fin 256) : (row t a).val = 256 * t.val + a.val := rfl

theorem ix : ∀ t : Fin cfg0.N, (win0_0.index t = ![0, t.val, 0] ∧ win0_1.index t = ![0, t.val, 0] ∧ win0_2.index t = ![0, t.val, 0]
    ∧ win0_3.index t = ![0, t.val, 0]) ∧ win0_4.index t = ![0, t.val, 0] ∧ win0_5.index t = ![0, t.val, 0]
    ∧ win0_6.index t = ![0, t.val, 0] ∧ win0_7.index t = ![0, t.val, 0] := (by decide +kernel : ∀ t : Fin grid0.N, _)

/-- A grid point reads its rows of the four arguments. -/
theorem reads (t : Fin cfg0.N) : Rows (n := 8) (R := 1024) (C := 704) (row t) (iblk m c 0 t) (iblk m c 1 t) (iblk m c 2 t) (iblk m c 3 t)
    (m ((c : Thread nD τ).loc main_arg0)) (m ((c : Thread nD τ).loc main_arg1)) (m ((c : Thread nD τ).loc main_arg2))
    (m ((c : Thread nD τ).loc main_arg3)) := by
  constructor
  all_goals
    intros
    blk_simp [iblk]
    simp only [V_main_arg0, V_main_arg1, V_main_arg2, V_main_arg3]
    congr 1
    blk_ext [(ix t).1.1, (ix t).1.2.1, (ix t).1.2.2.1, (ix t).1.2.2.2, row]

/-- The four results. -/
theorem res : Update (n := 8) (R := 1024) (C := 704) (m ((c : Thread nD τ).loc main_arg0)) (m ((c : Thread nD τ).loc main_arg1))
    (m ((c : Thread nD τ).loc main_arg2)) (m ((c : Thread nD τ).loc main_arg3)) ((dats m 0 c).arrAt 4 cfg0.N) ((dats m 0 c).arrAt 5 cfg0.N)
    ((dats m 0 c).arrAt 6 cfg0.N) ((dats m 0 c).arrAt 7 cfg0.N) := by
  have rows := fun t => (left _ _ _ _).rows (reads m c t)
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩ <;> blk_simp
  · rw [after0_4]
    refine (rows t y _ (Eq.trans ?_ (row_val _ _).symm) ?_).1 <;> blk_simp [(ix t).2.1] <;> omega
  · rw [after0_5]
    refine (rows t y _ (Eq.trans ?_ (row_val _ _).symm) ?_).2.1 <;> blk_simp [(ix t).2.2.1] <;> omega
  · rw [after0_6]
    refine (rows t y _ (Eq.trans ?_ (row_val _ _).symm) ?_).2.2.1 <;> blk_simp [(ix t).2.2.2.1] <;> omega
  · rw [after0_7]
    refine (rows t y _ (Eq.trans ?_ (row_val _ _).symm) ?_).2.2.2 <;> blk_simp [(ix t).2.2.2.2] <;> omega

end Cert.AdamUpIdeal.Step

namespace Cert.AdamUp.Claims

theorem algebraic : Cert.algebraic_AdamUpIdeal_AdamUpRefIdeal := by
  intro m g m' g' _ hag
  refine ⟨_, _, _, _, Cert.AdamUpIdeal.Value.run_blocks m g, ?_⟩
  refine (θ_run _ _ _).mono (fun r h c => ?_) (Cert.AdamUpRefIdeal.Value.run m' g')
  obtain ⟨r0, r1, r2, r3, k⟩ := h c
  obtain ⟨e0, e1, e2, e3⟩ := hag c
  obtain ⟨s0, s1, s2, s3⟩ := Cert.AdamUpIdeal.Step.res m c
  rw [e0, e1, e2, e3] at r1
  rw [e0] at r0
  rw [e0, e2] at r2
  rw [e0, e3] at r3
  refine ⟨r0.trans (Eq.trans (all fun a b => ?_) s0.symm), r1.trans (Eq.trans (all fun a b => ?_) s1.symm),
    r2.trans (Eq.trans (all fun a b => ?_) s2.symm), r3.trans (Eq.trans (all fun a b => ?_) s3.symm), k⟩
  all_goals
    pointwise [grads, changes, moms, secs]
    try rfl

end Cert.AdamUp.Claims

end
-- ==== Proof.AdamDown.lean ====
module

public import proofs.«01_k».proof.Defs
public import proofs.«01_k».proof.Proof.Adam
public import proofs.«01_k».proof.Proof.Gen.AdamDownIdeal.Value
public import proofs.«01_k».proof.Proof.Gen.AdamDownRefIdeal.Run
public import Idealize.ShloMosaic.Lib.Pipeline.ValueKit.Geometry

/-! The AdamW update of the down projection's weight. -/

@[expose] public section

set_option maxRecDepth 16384

noncomputable section

open Idealize.ShloMosaic Idealize.ShloMosaic.TcCoe Idealize.SL.Sem Cert.Adam

namespace Cert.AdamDownIdeal.Step

open Cert.AdamDownIdeal Cert.AdamDownIdeal.Gen Cert.AdamDownIdeal.Value

/-- What the body leaves is the step on the blocks that it reads. -/
theorem left (x : Vec Ideal S8x32x1024 .bf16) (w u v : Vec Ideal S1x32x1024 .f32) : Update (n := 8) (R := 32) (C := 1024) x w u v
    (out0_4 (F := Ideal) x w u v) (out0_5 (F := Ideal) x w u v) (out0_6 (F := Ideal) x w u v) (out0_7 (F := Ideal) x w u v) := by
  refine ⟨all fun a b => ?_, all fun a b => ?_, all fun a b => ?_, all fun a b => ?_⟩
  all_goals
    simp only [out0_4, out0_5, out0_6, out0_7, grads, changes, moms, secs, Fin.sum_univ_eight]
    rw [View.canon_unit_zero hz]
    pointwise [k0_pay1, k0_pay2, k0_pay3, k0_pay4, k0_pay5, k0_pay6, k0_pay7, k0_pay8]
    try rfl

variable (m : (ℓ : Loc nD τ sig) → Buf (Elt Ideal) ℓ) (c : Dev nD)

/-- The row of the arrays that a row of a grid point's blocks is. -/
def row (t : Fin cfg0.N) (a : Fin 32) : Fin 352 := ⟨32 * t.val + a.val, by have := lt_of_lt_of_eq t.isLt N_0; omega⟩

theorem row_val (t : Fin cfg0.N) (a : Fin 32) : (row t a).val = 32 * t.val + a.val := rfl

theorem ix : ∀ t : Fin cfg0.N, (win0_0.index t = ![0, t.val, 0] ∧ win0_1.index t = ![0, t.val, 0] ∧ win0_2.index t = ![0, t.val, 0]
    ∧ win0_3.index t = ![0, t.val, 0]) ∧ win0_4.index t = ![0, t.val, 0] ∧ win0_5.index t = ![0, t.val, 0]
    ∧ win0_6.index t = ![0, t.val, 0] ∧ win0_7.index t = ![0, t.val, 0] := (by decide +kernel : ∀ t : Fin grid0.N, _)

/-- A grid point reads its rows of the four arguments. -/
theorem reads (t : Fin cfg0.N) : Rows (n := 8) (R := 352) (C := 1024) (row t) (iblk m c 0 t) (iblk m c 1 t) (iblk m c 2 t) (iblk m c 3 t)
    (m ((c : Thread nD τ).loc main_arg0)) (m ((c : Thread nD τ).loc main_arg1)) (m ((c : Thread nD τ).loc main_arg2))
    (m ((c : Thread nD τ).loc main_arg3)) := by
  constructor
  all_goals
    intros
    blk_simp [iblk]
    simp only [V_main_arg0, V_main_arg1, V_main_arg2, V_main_arg3]
    congr 1
    blk_ext [(ix t).1.1, (ix t).1.2.1, (ix t).1.2.2.1, (ix t).1.2.2.2, row]

/-- The four results. -/
theorem res : Update (n := 8) (R := 352) (C := 1024) (m ((c : Thread nD τ).loc main_arg0)) (m ((c : Thread nD τ).loc main_arg1))
    (m ((c : Thread nD τ).loc main_arg2)) (m ((c : Thread nD τ).loc main_arg3)) ((dats m 0 c).arrAt 4 cfg0.N) ((dats m 0 c).arrAt 5 cfg0.N)
    ((dats m 0 c).arrAt 6 cfg0.N) ((dats m 0 c).arrAt 7 cfg0.N) := by
  have rows := fun t => (left _ _ _ _).rows (reads m c t)
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩ <;> blk_simp
  · rw [after0_4]
    refine (rows t y _ (Eq.trans ?_ (row_val _ _).symm) ?_).1 <;> blk_simp [(ix t).2.1] <;> omega
  · rw [after0_5]
    refine (rows t y _ (Eq.trans ?_ (row_val _ _).symm) ?_).2.1 <;> blk_simp [(ix t).2.2.1] <;> omega
  · rw [after0_6]
    refine (rows t y _ (Eq.trans ?_ (row_val _ _).symm) ?_).2.2.1 <;> blk_simp [(ix t).2.2.2.1] <;> omega
  · rw [after0_7]
    refine (rows t y _ (Eq.trans ?_ (row_val _ _).symm) ?_).2.2.2 <;> blk_simp [(ix t).2.2.2.2] <;> omega

end Cert.AdamDownIdeal.Step

namespace Cert.AdamDown.Claims

theorem algebraic : Cert.algebraic_AdamDownIdeal_AdamDownRefIdeal := by
  intro m g m' g' _ hag
  refine ⟨_, _, _, _, Cert.AdamDownIdeal.Value.run_blocks m g, ?_⟩
  refine (θ_run _ _ _).mono (fun r h c => ?_) (Cert.AdamDownRefIdeal.Value.run m' g')
  obtain ⟨r0, r1, r2, r3, k⟩ := h c
  obtain ⟨e0, e1, e2, e3⟩ := hag c
  obtain ⟨s0, s1, s2, s3⟩ := Cert.AdamDownIdeal.Step.res m c
  rw [e0, e1, e2, e3] at r1
  rw [e0] at r0
  rw [e0, e2] at r2
  rw [e0, e3] at r3
  refine ⟨r0.trans (Eq.trans (all fun a b => ?_) s0.symm), r1.trans (Eq.trans (all fun a b => ?_) s1.symm),
    r2.trans (Eq.trans (all fun a b => ?_) s2.symm), r3.trans (Eq.trans (all fun a b => ?_) s3.symm), k⟩
  all_goals
    pointwise [grads, changes, moms, secs]
    try rfl

end Cert.AdamDown.Claims

end
-- ==== Proof.AdamSq.lean ====
module

public import proofs.«01_k».proof.Defs
public import proofs.«01_k».proof.Proof.Adam
public import proofs.«01_k».proof.Proof.Gen.AdamSqIdeal.Value
public import proofs.«01_k».proof.Proof.Gen.AdamSqRefIdeal.Run
public import Idealize.ShloMosaic.Lib.Pipeline.ValueKit.Geometry

/-! The AdamW update of a branch's weight, and of that after the merge. -/

@[expose] public section

set_option maxRecDepth 16384

noncomputable section

open Idealize.ShloMosaic Idealize.ShloMosaic.TcCoe Idealize.SL.Sem Cert.Adam

namespace Cert.AdamSqIdeal.Step

open Cert.AdamSqIdeal Cert.AdamSqIdeal.Gen Cert.AdamSqIdeal.Value

/-- What the body leaves is the step on the blocks that it reads. -/
theorem left (x : Vec Ideal S8x128x1024 .bf16) (w u v : Vec Ideal S1x128x1024 .f32) : Update (n := 8) (R := 128) (C := 1024) x w u v
    (out0_4 (F := Ideal) x w u v) (out0_5 (F := Ideal) x w u v) (out0_6 (F := Ideal) x w u v) (out0_7 (F := Ideal) x w u v) := by
  refine ⟨all fun a b => ?_, all fun a b => ?_, all fun a b => ?_, all fun a b => ?_⟩
  all_goals
    simp only [out0_4, out0_5, out0_6, out0_7, grads, changes, moms, secs, Fin.sum_univ_eight]
    rw [View.canon_unit_zero hz]
    pointwise [k0_pay1, k0_pay2, k0_pay3, k0_pay4, k0_pay5, k0_pay6, k0_pay7, k0_pay8]
    try rfl

variable (m : (ℓ : Loc nD τ sig) → Buf (Elt Ideal) ℓ) (c : Dev nD)

/-- The row of the arrays that a row of a grid point's blocks is. -/
def row (t : Fin cfg0.N) (a : Fin 128) : Fin 128 := ⟨128 * t.val + a.val, by have := lt_of_lt_of_eq t.isLt N_0; omega⟩

theorem row_val (t : Fin cfg0.N) (a : Fin 128) : (row t a).val = 128 * t.val + a.val := rfl

theorem ix : ∀ t : Fin cfg0.N, (win0_0.index t = ![0, t.val, 0] ∧ win0_1.index t = ![0, t.val, 0] ∧ win0_2.index t = ![0, t.val, 0]
    ∧ win0_3.index t = ![0, t.val, 0]) ∧ win0_4.index t = ![0, t.val, 0] ∧ win0_5.index t = ![0, t.val, 0]
    ∧ win0_6.index t = ![0, t.val, 0] ∧ win0_7.index t = ![0, t.val, 0] := (by decide +kernel : ∀ t : Fin grid0.N, _)

/-- A grid point reads its rows of the four arguments. -/
theorem reads (t : Fin cfg0.N) : Rows (n := 8) (R := 128) (C := 1024) (row t) (iblk m c 0 t) (iblk m c 1 t) (iblk m c 2 t) (iblk m c 3 t)
    (m ((c : Thread nD τ).loc main_arg0)) (m ((c : Thread nD τ).loc main_arg1)) (m ((c : Thread nD τ).loc main_arg2))
    (m ((c : Thread nD τ).loc main_arg3)) := by
  constructor
  all_goals
    intros
    blk_simp [iblk]
    simp only [V_main_arg0, V_main_arg1, V_main_arg2, V_main_arg3]
    congr 1
    blk_ext [(ix t).1.1, (ix t).1.2.1, (ix t).1.2.2.1, (ix t).1.2.2.2, row]

/-- The four results. -/
theorem res : Update (n := 8) (R := 128) (C := 1024) (m ((c : Thread nD τ).loc main_arg0)) (m ((c : Thread nD τ).loc main_arg1))
    (m ((c : Thread nD τ).loc main_arg2)) (m ((c : Thread nD τ).loc main_arg3)) ((dats m 0 c).arrAt 4 cfg0.N) ((dats m 0 c).arrAt 5 cfg0.N)
    ((dats m 0 c).arrAt 6 cfg0.N) ((dats m 0 c).arrAt 7 cfg0.N) := by
  have rows := fun t => (left _ _ _ _).rows (reads m c t)
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩ <;> blk_simp
  · rw [after0_4]
    refine (rows t y _ (Eq.trans ?_ (row_val _ _).symm) ?_).1 <;> blk_simp [(ix t).2.1] <;> omega
  · rw [after0_5]
    refine (rows t y _ (Eq.trans ?_ (row_val _ _).symm) ?_).2.1 <;> blk_simp [(ix t).2.2.1] <;> omega
  · rw [after0_6]
    refine (rows t y _ (Eq.trans ?_ (row_val _ _).symm) ?_).2.2.1 <;> blk_simp [(ix t).2.2.2.1] <;> omega
  · rw [after0_7]
    refine (rows t y _ (Eq.trans ?_ (row_val _ _).symm) ?_).2.2.2 <;> blk_simp [(ix t).2.2.2.2] <;> omega

end Cert.AdamSqIdeal.Step

namespace Cert.AdamSq.Claims

theorem algebraic : Cert.algebraic_AdamSqIdeal_AdamSqRefIdeal := by
  intro m g m' g' _ hag
  refine ⟨_, _, _, _, Cert.AdamSqIdeal.Value.run_blocks m g, ?_⟩
  refine (θ_run _ _ _).mono (fun r h c => ?_) (Cert.AdamSqRefIdeal.Value.run m' g')
  obtain ⟨r0, r1, r2, r3, k⟩ := h c
  obtain ⟨e0, e1, e2, e3⟩ := hag c
  obtain ⟨s0, s1, s2, s3⟩ := Cert.AdamSqIdeal.Step.res m c
  rw [e0, e1, e2, e3] at r1
  rw [e0] at r0
  rw [e0, e2] at r2
  rw [e0, e3] at r3
  refine ⟨r0.trans (Eq.trans (all fun a b => ?_) s0.symm), r1.trans (Eq.trans (all fun a b => ?_) s1.symm),
    r2.trans (Eq.trans (all fun a b => ?_) s2.symm), r3.trans (Eq.trans (all fun a b => ?_) s3.symm), k⟩
  all_goals
    pointwise [grads, changes, moms, secs]
    try rfl

end Cert.AdamSq.Claims

end
-- ==== Proof.AdamAda.lean ====
module

public import proofs.«01_k».proof.Defs
public import proofs.«01_k».proof.Proof.Adam
public import proofs.«01_k».proof.Proof.Gen.AdamAdaIdeal.Value
public import proofs.«01_k».proof.Proof.Gen.AdamAdaRefIdeal.Run
public import Idealize.ShloMosaic.Lib.Pipeline.ValueKit.Geometry

/-! The AdamW update of the modulation's weight. -/

@[expose] public section

set_option maxRecDepth 16384

noncomputable section

open Idealize.ShloMosaic Idealize.ShloMosaic.TcCoe Idealize.SL.Sem Cert.Adam

namespace Cert.AdamAdaIdeal.Step

open Cert.AdamAdaIdeal Cert.AdamAdaIdeal.Gen Cert.AdamAdaIdeal.Value

/-- What the body leaves is the step on the blocks that it reads. -/
theorem left (x : Vec Ideal S1x256x768 .f32) (w u v : Vec Ideal S1x256x768 .f32) : Update (n := 1) (R := 256) (C := 768) x w u v
    (out0_4 (F := Ideal) x w u v) (out0_5 (F := Ideal) x w u v) (out0_6 (F := Ideal) x w u v) (out0_7 (F := Ideal) x w u v) := by
  refine ⟨all fun a b => ?_, all fun a b => ?_, all fun a b => ?_, all fun a b => ?_⟩
  all_goals
    simp only [out0_4, out0_5, out0_6, out0_7, grads, changes, moms, secs, Fin.sum_univ_one]
    rw [View.canon_unit_zero hz]
    pointwise [k0_pay1, k0_pay2, k0_pay3, k0_pay4, k0_pay5, k0_pay6, k0_pay7, k0_pay8, k0_pay9]
    try rfl

variable (m : (ℓ : Loc nD τ sig) → Buf (Elt Ideal) ℓ) (c : Dev nD)

/-- The row of the arrays that a row of a grid point's blocks is. -/
def row (t : Fin cfg0.N) (a : Fin 256) : Fin 1024 := ⟨256 * t.val + a.val, by have := lt_of_lt_of_eq t.isLt N_0; omega⟩

theorem row_val (t : Fin cfg0.N) (a : Fin 256) : (row t a).val = 256 * t.val + a.val := rfl

theorem ix : ∀ t : Fin cfg0.N, (win0_0.index t = ![0, t.val, 0] ∧ win0_1.index t = ![0, t.val, 0] ∧ win0_2.index t = ![0, t.val, 0]
    ∧ win0_3.index t = ![0, t.val, 0]) ∧ win0_4.index t = ![0, t.val, 0] ∧ win0_5.index t = ![0, t.val, 0]
    ∧ win0_6.index t = ![0, t.val, 0] ∧ win0_7.index t = ![0, t.val, 0] := (by decide +kernel : ∀ t : Fin grid0.N, _)

/-- A grid point reads its rows of the four arguments. -/
theorem reads (t : Fin cfg0.N) : Rows (n := 1) (R := 1024) (C := 768) (row t) (iblk m c 0 t) (iblk m c 1 t) (iblk m c 2 t) (iblk m c 3 t)
    (m ((c : Thread nD τ).loc main_arg0)) (m ((c : Thread nD τ).loc main_arg1)) (m ((c : Thread nD τ).loc main_arg2))
    (m ((c : Thread nD τ).loc main_arg3)) := by
  constructor
  all_goals
    intros
    blk_simp [iblk]
    simp only [V_main_arg0, V_main_arg1, V_main_arg2, V_main_arg3]
    congr 1
    blk_ext [(ix t).1.1, (ix t).1.2.1, (ix t).1.2.2.1, (ix t).1.2.2.2, row]

/-- The four results. -/
theorem res : Update (n := 1) (R := 1024) (C := 768) (m ((c : Thread nD τ).loc main_arg0)) (m ((c : Thread nD τ).loc main_arg1))
    (m ((c : Thread nD τ).loc main_arg2)) (m ((c : Thread nD τ).loc main_arg3)) ((dats m 0 c).arrAt 4 cfg0.N) ((dats m 0 c).arrAt 5 cfg0.N)
    ((dats m 0 c).arrAt 6 cfg0.N) ((dats m 0 c).arrAt 7 cfg0.N) := by
  have rows := fun t => (left _ _ _ _).rows (reads m c t)
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩ <;> blk_simp
  · rw [after0_4]
    refine (rows t y _ (Eq.trans ?_ (row_val _ _).symm) ?_).1 <;> blk_simp [(ix t).2.1] <;> omega
  · rw [after0_5]
    refine (rows t y _ (Eq.trans ?_ (row_val _ _).symm) ?_).2.1 <;> blk_simp [(ix t).2.2.1] <;> omega
  · rw [after0_6]
    refine (rows t y _ (Eq.trans ?_ (row_val _ _).symm) ?_).2.2.1 <;> blk_simp [(ix t).2.2.2.1] <;> omega
  · rw [after0_7]
    refine (rows t y _ (Eq.trans ?_ (row_val _ _).symm) ?_).2.2.2 <;> blk_simp [(ix t).2.2.2.2] <;> omega

end Cert.AdamAdaIdeal.Step

namespace Cert.AdamAda.Claims

theorem algebraic : Cert.algebraic_AdamAdaIdeal_AdamAdaRefIdeal := by
  intro m g m' g' _ hag
  refine ⟨_, _, _, _, Cert.AdamAdaIdeal.Value.run_blocks m g, ?_⟩
  refine (θ_run _ _ _).mono (fun r h c => ?_) (Cert.AdamAdaRefIdeal.Value.run m' g')
  obtain ⟨r0, r1, r2, r3, k⟩ := h c
  obtain ⟨e0, e1, e2, e3⟩ := hag c
  obtain ⟨s0, s1, s2, s3⟩ := Cert.AdamAdaIdeal.Step.res m c
  rw [e0, e1, e2, e3] at r1
  rw [e0] at r0
  rw [e0, e2] at r2
  rw [e0, e3] at r3
  refine ⟨r0.trans (Eq.trans (all fun a b => ?_) s0.symm), r1.trans (Eq.trans (all fun a b => ?_) s1.symm),
    r2.trans (Eq.trans (all fun a b => ?_) s2.symm), r3.trans (Eq.trans (all fun a b => ?_) s3.symm), k⟩
  all_goals
    pointwise [grads, changes, moms, secs]
    try rfl

end Cert.AdamAda.Claims

end
-- ==== Proof.ModBwd.lean ====
module

public import proofs.«01_k».proof.Defs
public import proofs.«01_k».proof.Proof.Sums
public import proofs.«01_k».proof.Proof.Meet
public import proofs.«01_k».proof.Proof.Gen.ModBwdIdeal.Value
public import proofs.«01_k».proof.Proof.Gen.ModBwdRefIdeal.Run
public import Idealize.ShloMosaic.Lib.Pipeline.ValueKit.Geometry

/-! The backward of the first modulation: the gradient of the step's input, and the sums over the rows for the condition. -/

@[expose] public section

set_option maxRecDepth 16384

noncomputable section

namespace Cert.ModBwdIdeal.Step

open Idealize.ShloMosaic Idealize.ShloMosaic.TcCoe Idealize.SL.Sem Cert.ModBwdIdeal Cert.ModBwdIdeal.Gen Cert.ModBwdIdeal.Value

theorem hz : (![0, 0] : Fin 2 → Nat) = fun _ => 0 := funext fun a => by fin_cases a <;> rfl

section Found
variable (c : Dev nD) (i : grid0.Coords) (a1 : Memref sig .tc .vmem S512x1024 .f32) (h1 : a1.IsWhole)
  (a2 : Memref sig .tc .vmem S512x1024 .f32) (h2 : a2.IsWhole) (a3 : Memref sig .tc .vmem S512x1024 .f32) (h3 : a3.IsWhole)
  (a4 : Memref sig .tc .vmem S1x1024 .f32) (h4 : a4.IsWhole) (a5 : Memref sig .tc .vmem S512x1024 .f32) (h5 : a5.IsWhole)
  (a6 : Memref sig .tc .vmem S1x1024 .f32) (h6 : a6.IsWhole) (a7 : Memref sig .tc .vmem S1x1024 .f32) (h7 : a7.IsWhole)
  (g x d : Vec Ideal S512x1024 .f32) (s p q : Vec Ideal S1x1024 .f32)

/-- What a point writes: the first begins the two sums from zero. -/
theorem left_A (hc : cond0_0 i) :
    out0_A_4 c i a1 h1 a2 h2 a3 h3 a4 h4 a5 h5 a6 h6 a7 h7 hc g x d s = k0_pay1 g d s
    ∧ out0_A_5 c i a1 h1 a2 h2 a3 h3 a4 h4 a5 h5 a6 h6 a7 h7 hc g x d s = k0_pay4 g (k0_pay2 (F := Ideal)) x
    ∧ out0_A_6 c i a1 h1 a2 h2 a3 h3 a4 h4 a5 h5 a6 h6 a7 h7 hc g x d s = k0_pay5 g (k0_pay3 (F := Ideal)) := by
  unfold out0_A_4 out0_A_5 out0_A_6
  rw [View.read_writes_eq_canon _ _ _ (cover0_A_4 c i a1 h1 a2 h2 a3 h3 a4 h4 a5 h5 a6 h6 a7 h7 hc g x d s),
    View.read_writes_eq_canon _ _ _ (cover0_A_5 c i a1 h1 a2 h2 a3 h3 a4 h4 a5 h5 a6 h6 a7 h7 hc g x d s),
    View.read_writes_eq_canon _ _ _ (cover0_A_6 c i a1 h1 a2 h2 a3 h3 a4 h4 a5 h5 a6 h6 a7 h7 hc g x d s)]
  unfold kernelRun0_A
  dsimp only
  sl_unfold_words
  rw [View.canon_unit_zero hz]
  refine ⟨?_, ?_, ?_⟩
  rotate_left
  · rw [View.canon_cons_unit_zero hz, View.readCov_unit_zero (S := S1x1024) _ hz]
    simp only [View.readAt_eq_ld, h1.read_unread, h2.read_unread, View.ld_unit_zero (S := S512x1024) hz]
  · rw [View.canon_cons_unit_zero hz, View.readCov_unit_zero (S := S1x1024) _ hz]
    simp only [View.readAt_eq_ld, h1.read_unread, View.ld_unit_zero (S := S512x1024) hz]
  · simp only [View.readAt_eq_ld, h1.read_unread, h3.read_unread, h4.read_unread, View.ld_unit_zero (S := S512x1024) hz,
      View.ld_unit_zero (S := S1x1024) hz]

theorem left_B (hc : ¬cond0_0 i) :
    out0_B_4 c i a1 h1 a2 h2 a3 h3 a4 h4 a5 h5 a6 h6 a7 h7 hc g x d s p q = k0_pay1 g d s
    ∧ out0_B_5 c i a1 h1 a2 h2 a3 h3 a4 h4 a5 h5 a6 h6 a7 h7 hc g x d s p q = k0_pay4 g p x
    ∧ out0_B_6 c i a1 h1 a2 h2 a3 h3 a4 h4 a5 h5 a6 h6 a7 h7 hc g x d s p q = k0_pay5 g q := by
  unfold out0_B_4 out0_B_5 out0_B_6
  rw [View.read_writes_eq_canon _ _ _ (cover0_B_4 c i a1 h1 a2 h2 a3 h3 a4 h4 a5 h5 a6 h6 a7 h7 hc g x d s p q),
    View.read_writes_eq_canon _ _ _ (cover0_B_5 c i a1 h1 a2 h2 a3 h3 a4 h4 a5 h5 a6 h6 a7 h7 hc g x d s p q),
    View.read_writes_eq_canon _ _ _ (cover0_B_6 c i a1 h1 a2 h2 a3 h3 a4 h4 a5 h5 a6 h6 a7 h7 hc g x d s p q)]
  unfold kernelRun0_B
  dsimp only
  sl_unfold_words
  simp only [View.readAt_eq_ld, h1.read_unread, h2.read_unread, h3.read_unread, h4.read_unread, h6.read_unread, h7.read_unread,
    View.ld_unit_zero (S := S512x1024) hz, View.ld_unit_zero (S := S1x1024) hz]
  refine ⟨?_, ?_, ?_⟩ <;> rw [View.canon_unit_zero hz]

end Found

theorem dx_at (g d : Vec Ideal S512x1024 .f32) (s : Vec Ideal S1x1024 .f32) (a : Fin 512) (b : Fin 1024) :
    k0_pay1 (F := Ideal) g d s (ix2 a b) = d (ix2 a b) + g (ix2 a b) * (1 + s (ix2 0 b)) := by
  pointwise [k0_pay1]

theorem sc_at (g x : Vec Ideal S512x1024 .f32) (p : Vec Ideal S1x1024 .f32) (b : Fin 1024) :
    k0_pay4 (F := Ideal) g p x (ix2 0 b) = p (ix2 0 b) + ∑ r, g (ix2 r b) * x (ix2 r b) := by
  pointwise [k0_pay4]

theorem sh_at (g : Vec Ideal S512x1024 .f32) (q : Vec Ideal S1x1024 .f32) (b : Fin 1024) :
    k0_pay5 (F := Ideal) g q (ix2 0 b) = q (ix2 0 b) + ∑ r, g (ix2 r b) := by
  pointwise [k0_pay5]

theorem zeros (b : Fin 1024) : (k0_pay2 (F := Ideal) (ix2 0 b) : EReal) = 0 ∧ (k0_pay3 (F := Ideal) (ix2 0 b) : EReal) = 0 := by
  constructor <;> pointwise [k0_pay2, k0_pay3]

variable (m : (ℓ : Loc nD τ sig) → Buf (Elt Ideal) ℓ) (c : Dev nD)

theorem ix : ∀ t : Fin cfg0.N, (win0_0.index t = ![t.val, 0] ∧ win0_1.index t = ![t.val, 0] ∧ win0_2.index t = ![t.val, 0]
    ∧ win0_3.index t = ![0, 0]) ∧ win0_4.index t = ![t.val, 0] ∧ win0_5.index t = ![0, 0] ∧ win0_6.index t = ![0, 0] :=
  (by decide +kernel : ∀ t : Fin grid0.N, _)

/-- The argument arrays. -/
def arrG : S8192x1024.Idx → EReal := m ((c : Thread nD τ).loc main_arg0)
def arrX : S8192x1024.Idx → EReal := m ((c : Thread nD τ).loc main_arg1)
def arrD : S8192x1024.Idx → EReal := m ((c : Thread nD τ).loc main_arg2)
def arrS : S1x1024.Idx → EReal := m ((c : Thread nD τ).loc main_arg3)

/-- The blocks of them a grid point reads. -/
def blkG (t : Fin cfg0.N) : S512x1024.Idx → EReal := iblk m c 0 t
def blkX (t : Fin cfg0.N) : S512x1024.Idx → EReal := iblk m c 1 t
def blkD (t : Fin cfg0.N) : S512x1024.Idx → EReal := iblk m c 2 t
def blkS (t : Fin cfg0.N) : S1x1024.Idx → EReal := iblk m c 3 t

theorem lt_N (t : Fin cfg0.N) : t.val < 16 := lt_of_lt_of_eq t.isLt N_0

/-- The row of the arrays that a row of a grid point's blocks is. -/
def row (t : Fin cfg0.N) (a : Fin 512) : Fin 8192 := ⟨512 * t.val + a.val, by have := lt_N t; omega⟩

theorem blk_G (t : Fin cfg0.N) (a : Fin 512) (b : Fin 1024) : blkG m c t (ix2 a b) = arrG m c (ix2 (row t a) b) := by
  unfold blkG
  blk_simp [iblk]
  rw [V_main_arg0]
  unfold arrG
  congr 1
  blk_ext [(ix t).1.1, row]

theorem blk_X (t : Fin cfg0.N) (a : Fin 512) (b : Fin 1024) : blkX m c t (ix2 a b) = arrX m c (ix2 (row t a) b) := by
  unfold blkX
  blk_simp [iblk]
  rw [V_main_arg1]
  unfold arrX
  congr 1
  blk_ext [(ix t).1.2.1, row]

theorem blk_D (t : Fin cfg0.N) (a : Fin 512) (b : Fin 1024) : blkD m c t (ix2 a b) = arrD m c (ix2 (row t a) b) := by
  unfold blkD
  blk_simp [iblk]
  rw [V_main_arg2]
  unfold arrD
  congr 1
  blk_ext [(ix t).1.2.2.1, row]

theorem blk_S (t : Fin cfg0.N) (b : Fin 1024) : blkS m c t (ix2 0 b) = arrS m c (ix2 0 b) := by
  unfold blkS
  blk_simp [iblk]
  rw [V_main_arg3]
  unfold arrS
  congr 1
  blk_ext [(ix t).1.2.2.2]

/-- What a point leaves: its rows' gradient, and the two sums, begun at the first point. -/
theorem left_dx (t : Fin cfg0.N) : (outsAt0 m c t.val t.isLt).1 = k0_pay1 (F := Ideal) (blkG m c t) (blkD m c t) (blkS m c t) := by
  by_cases h : t.val % 16 = 0
  · rw [outsAt0_A m c t h]
    simp only [left_A]
    rfl
  · rw [outsAt0_B m c t h]
    simp only [left_B]
    rfl

theorem left_first (t : Fin cfg0.N) (h : t.val % 16 = 0) :
    (outsAt0 m c t.val t.isLt).2.1 = k0_pay4 (F := Ideal) (blkG m c t) (k0_pay2 (F := Ideal)) (blkX m c t)
    ∧ (outsAt0 m c t.val t.isLt).2.2 = k0_pay5 (F := Ideal) (blkG m c t) (k0_pay3 (F := Ideal)) := by
  rw [outsAt0_A m c t h]
  simp only [left_A]
  exact ⟨rfl, rfl⟩

theorem left_next (t : ℕ) (h : t + 1 < cfg0.N) (h0 : (t + 1) % 16 ≠ 0) :
    (outsAt0 m c (t + 1) h).2.1 = k0_pay4 (F := Ideal) (blkG m c ⟨t + 1, h⟩) (outsAt0 m c t (Nat.lt_of_succ_lt h)).2.1 (blkX m c ⟨t + 1, h⟩)
    ∧ (outsAt0 m c (t + 1) h).2.2 = k0_pay5 (F := Ideal) (blkG m c ⟨t + 1, h⟩) (outsAt0 m c t (Nat.lt_of_succ_lt h)).2.2 := by
  rw [outsAt0_B m c ⟨t + 1, h⟩ h0]
  simp only [left_B]
  exact ⟨rfl, rfl⟩

/-- The gradient with respect to the input. -/
theorem res_dx : (dats m 0 c).arrAt 4 cfg0.N = fun y : S8192x1024.Idx => arrD m c y + arrG m c y * (1 + arrS m c (ix2 0 (y 1))) := by
  refine (dats m 0 c).arrAt_eq_of_covers 4 _ (by decide +kernel) fun t hf y => ?_
  obtain ⟨a, b, rfl⟩ : ∃ a b, y = ix2 a b := ⟨y 0, y 1, by funext d; fin_cases d <;> rfl⟩
  blk_simp
  rw [after0_4, left_dx, dx_at, blk_G, blk_D, blk_S]
  have e : (win0_4.blk t).view.emb (ix2 a b) = ix2 (row t a) b := by
    blk_ext [(ix t).2.1, row]
  rw [e]
  rfl

/-- A sum over the rows kept over the points, each adding its own rows. -/
theorem kept (f : Fin 8192 → EReal) (S : (t : ℕ) → t < cfg0.N → EReal)
    (first : ∀ t h, t % 16 = 0 → S t h = 0 + ∑ k, f (row ⟨t, h⟩ k))
    (next : ∀ t h, (t + 1) % 16 ≠ 0 → S (t + 1) h = S t (Nat.lt_of_succ_lt h) + ∑ k, f (row ⟨t + 1, h⟩ k))
    (t : Fin cfg0.N) (ht : t.val = 15) : S t.val t.isLt = ∑ q, f q := by
  refine (Sums.fold (p := 16) (w := 512) S (fun _ => f) (fun t h h0 => ?_) (fun t h h0 => ⟨_, next t h h0, fun k => ?_⟩) _ t.isLt).trans ?_
  · have := lt_N ⟨t, h⟩
    rw [first t h h0, zero_add]
    exact (Sums.start f _ fun k => ⟨by omega, congrArg f (Fin.ext (by simp only [row] at *; omega))⟩).symm
  · have := lt_N ⟨t + 1, h⟩
    exact ⟨by simp only at this; omega, congrArg f (Fin.ext (by simp only [row] at *; omega))⟩
  · rw [ht]
    exact Sums.whole f

/-- The last point. -/
def last : Fin cfg0.N := ⟨15, lt_of_lt_of_eq (by norm_num) N_0.symm⟩

/-- The gradients with respect to the scale and the shift. -/
theorem res_sc : (dats m 0 c).arrAt 5 cfg0.N = fun y : S1x1024.Idx => (∑ q, arrG m c (ix2 q (y 1)) * arrX m c (ix2 q (y 1)) : EReal) := by
  refine (dats m 0 c).arrAt_eq_of_after_last 5 last (by decide +kernel) _ fun y => ?_
  obtain ⟨b, rfl⟩ : ∃ b, y = ix2 0 b := ⟨y 1, by funext d; fin_cases d; exacts [Subsingleton.elim (α := Fin 1) _ _, rfl]⟩
  blk_simp
  rw [after0_5]
  refine kept (fun q => arrG m c (ix2 q b) * arrX m c (ix2 q b)) (fun t h => ((outsAt0 m c t h).2.1 (ix2 0 b) : EReal))
    (fun t h h0 => ?_) (fun t h h0 => ?_) last rfl
  · refine (congrFun (left_first m c ⟨t, h⟩ h0).1 _).trans ?_
    rw [sc_at, (zeros b).1]
    simp only [blk_G, blk_X]
  · refine (congrFun (left_next m c t h h0).1 _).trans ?_
    rw [sc_at]
    simp only [blk_G, blk_X]

theorem res_sh : (dats m 0 c).arrAt 6 cfg0.N = fun y : S1x1024.Idx => (∑ q, arrG m c (ix2 q (y 1)) : EReal) := by
  refine (dats m 0 c).arrAt_eq_of_after_last 6 last (by decide +kernel) _ fun y => ?_
  obtain ⟨b, rfl⟩ : ∃ b, y = ix2 0 b := ⟨y 1, by funext d; fin_cases d; exacts [Subsingleton.elim (α := Fin 1) _ _, rfl]⟩
  blk_simp
  rw [after0_6]
  refine kept (fun q => arrG m c (ix2 q b)) (fun t h => ((outsAt0 m c t h).2.2 (ix2 0 b) : EReal))
    (fun t h h0 => ?_) (fun t h h0 => ?_) last rfl
  · refine (congrFun (left_first m c ⟨t, h⟩ h0).2 _).trans ?_
    rw [sh_at, (zeros b).2]
    simp only [blk_G]
  · refine (congrFun (left_next m c t h h0).2 _).trans ?_
    rw [sh_at]
    simp only [blk_G]

end Cert.ModBwdIdeal.Step

namespace Cert.ModBwd.Claims

open Idealize.ShloMosaic Idealize.ShloMosaic.TcCoe Idealize.SL.Sem

theorem algebraic : Cert.algebraic_ModBwdIdeal_ModBwdRefIdeal := by
  intro m g m' g' _ hag
  refine ⟨_, _, _, Cert.ModBwdIdeal.Value.run_blocks m g, ?_⟩
  refine (θ_run _ _ _).mono (fun r h c => ?_) (Cert.ModBwdRefIdeal.Value.run m' g')
  obtain ⟨r0, r1, r2, k⟩ := h c
  obtain ⟨e0, e1, e2, e3⟩ := hag c
  rw [e0, e2, e3] at r0
  rw [e0, e1] at r1
  rw [e0] at r2
  refine ⟨r0.trans (Eq.trans (Cert.Meet.ix2_all fun i j => ?_) (Cert.ModBwdIdeal.Step.res_dx m c).symm),
    r1.trans (Eq.trans (Cert.Meet.ix2_all fun i j => ?_) (Cert.ModBwdIdeal.Step.res_sc m c).symm),
    r2.trans (Eq.trans (Cert.Meet.ix2_all fun i j => ?_) (Cert.ModBwdIdeal.Step.res_sh m c).symm), k⟩
  · pointwise [Cert.ModBwdIdeal.Step.arrG, Cert.ModBwdIdeal.Step.arrD, Cert.ModBwdIdeal.Step.arrS]
    exact add_comm _ _
  · pointwise [Cert.ModBwdIdeal.Step.arrG, Cert.ModBwdIdeal.Step.arrX]
    exact Finset.sum_congr rfl fun _ _ => mul_comm _ _
  · pointwise [Cert.ModBwdIdeal.Step.arrG]

end Cert.ModBwd.Claims

end
-- ==== Proof.Mod.lean ====
module

public import proofs.«01_k».proof.Defs
public import proofs.«01_k».proof.Proof.Meet
public import proofs.«01_k».proof.Proof.Gen.ModIdeal.Value
public import proofs.«01_k».proof.Proof.Gen.ModRefIdeal.Run
public import Idealize.ShloMosaic.Lib.Pipeline.ValueKit.Geometry

/-! The modulation by the condition's scale and shift. -/

@[expose] public section

noncomputable section

namespace Cert.ModIdeal.Step

open Idealize.ShloMosaic Idealize.ShloMosaic.TcCoe Idealize.SL.Sem Cert.ModIdeal Cert.ModIdeal.Gen Cert.ModIdeal.Value

theorem hz : (![0, 0] : Fin 2 → Nat) = fun _ => 0 := funext fun a => by fin_cases a <;> rfl

/-- The modulation at an index. -/
def val {T : ℕ} (x : (⟨2, ![T, 1024]⟩ : Shape).Idx → EReal) (s h : S1x1024.Idx → EReal) (y : (⟨2, ![T, 1024]⟩ : Shape).Idx) : EReal :=
  x y * (1 + s (ix2 0 (y 1))) + h (ix2 0 (y 1))

/-- What the body leaves is that of the blocks that it reads. -/
theorem left (x : Vec Ideal S512x1024 .f32) (s h : Vec Ideal S1x1024 .f32) : out0_3 (F := Ideal) x s h = val (T := 512) x s h := by
  refine Cert.Meet.ix2_all fun i j => ?_
  unfold out0_3
  rw [View.canon_unit_zero hz]
  pointwise [k0_pay1, val]

variable (m : (ℓ : Loc nD τ sig) → Buf (Elt Ideal) ℓ) (c : Dev nD)

theorem ix : ∀ t : Fin cfg0.N, (win0_0.index t = ![t.val, 0] ∧ win0_1.index t = ![0, 0]) ∧ win0_2.index t = ![0, 0]
    ∧ win0_3.index t = ![t.val, 0] := (by decide +kernel : ∀ t : Fin grid0.N, _)

theorem res : (dats m 0 c).arrAt 3 cfg0.N = val (T := 8192) (m ((c : Thread nD τ).loc main_arg0)) (m ((c : Thread nD τ).loc main_arg1))
    (m ((c : Thread nD τ).loc main_arg2)) := by
  refine (dats m 0 c).arrAt_eq_of_covers 3 _ (by decide +kernel) fun t hf y => ?_
  blk_simp
  rw [after0_3, left]
  unfold val
  blk_simp [iblk]
  simp only [V_main_arg0, V_main_arg1, V_main_arg2]
  congr 2
  · refine congrArg (1 + ·) ((congrFun (V_main_arg1 m c) _).trans (congrArg _ ?_))
    blk_ext [(ix t).1.2, (ix t).2.2]
  · blk_ext [(ix t).2.1, (ix t).2.2]

end Cert.ModIdeal.Step

namespace Cert.Mod.Claims

open Idealize.ShloMosaic Idealize.ShloMosaic.TcCoe Idealize.SL.Sem

theorem algebraic : Cert.algebraic_ModIdeal_ModRefIdeal := by
  intro m g m' g' _ hag
  refine ⟨_, Cert.ModIdeal.Value.run_blocks m g, ?_⟩
  refine (θ_run _ _ _).mono (fun r h c => ?_) (Cert.ModRefIdeal.Value.run m' g')
  obtain ⟨r0, k⟩ := h c
  obtain ⟨e0, e1, e2⟩ := hag c
  rw [e0, e1, e2] at r0
  refine ⟨r0.trans (Eq.trans (Cert.Meet.ix2_all fun i j => ?_) (Cert.ModIdeal.Step.res m c).symm), k⟩
  pointwise [Cert.ModIdeal.Step.val]

end Cert.Mod.Claims

end
-- ==== Proof.Ada.lean ====
module

public import proofs.«01_k».proof.Defs
public import proofs.«01_k».proof.Proof.Meet
public import proofs.«01_k».proof.Proof.Gen.AdaIdeal.Value
public import proofs.«01_k».proof.Proof.Gen.AdaRefIdeal.Run

/-! The projection of the activated condition. -/

@[expose] public section

noncomputable section

namespace Cert.Ada.Claims

open Idealize.ShloMosaic Idealize.ShloMosaic.TcCoe Idealize.SL.Sem Cert.Spec

/-- The kernel's result: its gate is the sigmoid. -/
theorem left (x : Vec Ideal Cert.AdaIdeal.S8x1024 .f32) (w : Vec Ideal Cert.AdaIdeal.S1024x768 .f32) (b : Vec Ideal Cert.AdaIdeal.S1x768 .f32)
    (i : Fin 8) (j : Fin 768) : Cert.AdaIdeal.Gen.k0_pay1 (F := Ideal) x w b (ix2 i j)
      = (∑ k, x (ix2 i k) * Ideal.div 1 (1 + Ideal.exp (-(x (ix2 i k)))) * w (ix2 k j)) + b (ix2 0 j) := by
  simp only [← sigmoid_eq]
  pointwise [Cert.AdaIdeal.Gen.k0_pay1, half]

theorem algebraic : Cert.algebraic_AdaIdeal_AdaRefIdeal := by
  intro m g m' g' _ hag
  refine ⟨_, Cert.AdaIdeal.Value.run m g, ?_⟩
  refine (θ_run _ _ _).mono (fun r h c => ?_) (Cert.AdaRefIdeal.Value.run m' g')
  obtain ⟨r0, k⟩ := h c
  obtain ⟨e0, e1, e2⟩ := hag c
  rw [e0, e1, e2] at r0
  refine ⟨r0.trans (Cert.Meet.ix2_all fun i j => Eq.trans ?_ (left _ _ _ i j).symm), k⟩
  pointwise []

end Cert.Ada.Claims

end
-- ==== Proof.AdaGrad.lean ====
module

public import proofs.«01_k».proof.Defs
public import proofs.«01_k».proof.Proof.Meet
public import proofs.«01_k».proof.Proof.Gen.AdaGradIdeal.Value
public import proofs.«01_k».proof.Proof.Gen.AdaGradRefIdeal.Run

/-! The gradient of the weight that projects the condition: the activated condition against the cotangent. -/

@[expose] public section

noncomputable section

namespace Cert.AdaGrad.Claims

open Idealize.ShloMosaic Idealize.ShloMosaic.TcCoe Idealize.SL.Sem Cert.Spec

/-- The kernel's result: its gate is the sigmoid. -/
theorem left (x : Vec Ideal Cert.AdaGradIdeal.S1024x8 .f32) (d : Vec Ideal Cert.AdaGradIdeal.S8x768 .f32) (i : Fin 1024) (j : Fin 768) :
    Cert.AdaGradIdeal.Gen.k0_pay1 (F := Ideal) x d (ix2 i j)
      = ∑ k, x (ix2 i k) * Ideal.div 1 (1 + Ideal.exp (-(x (ix2 i k)))) * d (ix2 k j) := by
  simp only [← sigmoid_eq]
  pointwise [Cert.AdaGradIdeal.Gen.k0_pay1, half]

theorem algebraic : Cert.algebraic_AdaGradIdeal_AdaGradRefIdeal := by
  intro m g m' g' _ hag
  refine ⟨_, Cert.AdaGradIdeal.Value.run m g, ?_⟩
  refine (θ_run _ _ _).mono (fun r h c => ?_) (Cert.AdaGradRefIdeal.Value.run m' g')
  obtain ⟨r0, k⟩ := h c
  obtain ⟨e0, e1⟩ := hag c
  rw [e0, e1] at r0
  refine ⟨r0.trans (Cert.Meet.ix2_all fun i j => Eq.trans ?_ (left _ _ i j).symm), k⟩
  pointwise []
  exact Finset.sum_congr rfl fun _ _ => mul_comm _ _

end Cert.AdaGrad.Claims

end
-- ==== Proof.Fwd.lean ====
module

public import proofs.«01_k».proof.Proof.Outs

/-! The forward scan over the extended reals: the state each chunk is met with, and what the chunk makes of it. -/

@[expose] public section

noncomputable section

namespace Cert.Fwd

open Idealize.ShloMosaic Spec

abbrev St := Fin 8 → Fin 128 → Fin 128 → EReal

/-- A chunk met with the state `S`. -/
def meet (C : Ch) (S : St) : Ch := { C with s := S }

/-- The state a chunk leaves. -/
def next (C : Ch) : St := fun h a x => C.s h a x * C.eg h x + ∑ i, C.kd h i a * vn C h i x

/-- A chunk's gated output. -/
def y (C : Ch) (h : Fin 8) (i : Fin 64) (x : Fin 128) : EReal :=
  o C h i x * r C h i * C.nw x * (C.z h i x * sg C h i x)

/-- The state the first `k` chunks leave. -/
def st (A : ℕ → Ch) : ℕ → St
  | 0 => fun _ _ _ => 0
  | k + 1 => next (meet (A k) (st A k))

end Cert.Fwd

end
-- ==== Proof.ScanStep.lean ====
module

public import proofs.«01_k».proof.Proof.Gen.ScanIdeal.Value
public import proofs.«01_k».proof.Proof.Fwd
public import Idealize.ShloMosaic.Lib.Pointwise

/-! The forward scan's kernel: one chunk as functions of what it loads and of the state so far, and what a grid point's
    eight chunks leave. -/

@[expose] public section

set_option maxRecDepth 16384

noncomputable section

namespace Cert.ScanIdeal.Step

open Idealize.ShloMosaic Idealize.ShloMosaic.TcCoe Idealize.SL.Sem Cert.ScanIdeal Cert.ScanIdeal.Gen Cert.ScanIdeal.Value

/-- What one chunk loads. -/
structure In where
  U : Vec Ideal S8x64x128 .f32
  W : Vec Ideal S8x64x128 .bf16
  QG : Vec Ideal S8x64x128 .bf16
  KD : Vec Ideal S8x64x128 .bf16
  QK : Vec Ideal S1x8x64x64 .bf16
  EG : Vec Ideal S1x8x1x128 .f32
  Z : Fin 8 → Vec Ideal S64x128 .f32
  NW : Vec Ideal S1x128 .f32

section Chunk
variable (I : In) (D : Vec Ideal S8x128x128 .f32)

/-- The state left, the normalised output, the gated output, and one head of it. -/
def left : FVec Ideal S8x128x128 .f32 := k0_pay11 (k0_pay7 D I.U I.W I.KD (k0_pay4 I.EG))
def normed : FVec Ideal S8x64x128 .f32 := k0_pay8 D I.U I.W (k0_pay3 I.QK) I.QG I.NW
def gated : FVec Ideal S8x64x128 .f32 :=
  k0_pay10 (k0_pay5 (I.Z 0) (I.Z 1) (I.Z 2) (I.Z 3) (I.Z 4) (I.Z 5) (I.Z 6) (I.Z 7)) (normed I D)
    (k0_pay9 (I.Z 0) (I.Z 1) (I.Z 2) (I.Z 3) (I.Z 4) (I.Z 5) (I.Z 6) (I.Z 7))

theorem one_head (h : ℕ) (hh : h < 8) : S8x64x128.Slices ![h, 0, 0] S1x64x128 := by
  refine ⟨rfl, fun a => ?_⟩
  fin_cases a
  · show h + 1 ≤ 8; omega
  · show 0 + 64 ≤ 64; omega
  · show 0 + 128 ≤ 128; omega

def head (t : FVec Ideal S8x64x128 .f32) (h : ℕ) (hh : h < 8) : FVec Ideal S64x128 .bf16 :=
  truncf .bf16 (shapeCast S64x128 (extractStridedSlice S1x64x128 ![h, 0, 0] t (one_head h hh)) shapeCasts_S1x64x128_S64x128) bitsLt_bf16_f32

/-- A chunk met with the state `D`. -/
def chOf : Spec.Ch where
  s h a x := D (ix3 h a x)
  u h i x := I.U (ix3 h i x)
  w h i x := I.W (ix3 h i x)
  qg h i x := I.QG (ix3 h i x)
  kd h i x := I.KD (ix3 h i x)
  qk h i j := I.QK (ix4 0 h i j)
  eg h x := I.EG (ix4 0 h 0 x)
  z h i x := I.Z h (ix2 i x)
  nw x := I.NW (ix2 0 x)
  g _ _ _ := 0

variable (h : Fin 8) (i : Fin 64) (x : Fin 128)

theorem vn_at : k0_pay6 (F := Ideal) D I.U I.W (ix3 h i x) = Spec.vn (chOf I D) h i x := by
  pointwise [k0_pay6]
  rfl

theorem left_at (a : Fin 128) : left I D (ix3 h a x) = Fwd.next (chOf I D) h a x := by
  have e : left I D (ix3 h a x) = D (ix3 h a x) * I.EG (ix4 0 h 0 x)
      + ∑ j, I.KD (ix3 h j a) * k0_pay6 (F := Ideal) D I.U I.W (ix3 h j x) := by
    pointwise [left, k0_pay11, k0_pay7, k0_pay4]
  rw [e]
  simp only [vn_at]
  rfl

theorem normed_at : normed I D (ix3 h i x) = Spec.o (chOf I D) h i x * Spec.r (chOf I D) h i * (chOf I D).nw x := by
  have e (o : Fin 128 → EReal) (ho : ∀ x, o x = ∑ k, I.QG (ix3 h i k) * D (ix3 h k x)
      + ∑ j, I.QK (ix4 0 h i j) * k0_pay6 (F := Ideal) D I.U I.W (ix3 h j x)) :
      normed I D (ix3 h i x) = o x * Ideal.rsqrt (Ideal.div (∑ y, o y * o y) Spec.c128 + Spec.eps) * I.NW (ix2 0 x) := by
    simp only [ho]
    unfold Spec.c128 Spec.eps
    pointwise [normed, k0_pay8, k0_pay3]
  exact e (Spec.o (chOf I D) h i) fun x => by simp only [vn_at]; rfl

theorem gated_at : gated I D (ix3 h i x) = Fwd.y (chOf I D) h i x := by
  have e : gated I D (ix3 h i x) = normed I D (ix3 h i x)
      * (I.Z h (ix2 i x) * (Spec.half * Ideal.tanh (Spec.half * I.Z h (ix2 i x)) + Spec.half)) := by
    unfold Spec.half
    fin_cases h <;> pointwise [gated, k0_pay10, k0_pay5, k0_pay9]
  rw [e, normed_at, Spec.sigmoid_eq]
  rfl

theorem head_at (t : FVec Ideal S8x64x128 .f32) : (head t h.val h.isLt (ix2 i x) : EReal) = t (ix3 h i x) := by
  pointwise [head]

/-- The state after the first `n` chunks loaded. -/
def carry (I : ℕ → In) : ℕ → FVec Ideal S8x128x128 .f32
  | 0 => D
  | n + 1 => left (I n) (carry I n)

end Chunk

theorem lt8 (n : ℕ) : n % 8 < 8 := Nat.mod_lt _ (by norm_num)

section Point
variable (u : Vec Ideal S8x512x128 .f32) (w q k : Vec Ideal S8x512x128 .bf16) (p : Vec Ideal S8x8x64x64 .bf16)
  (e : Vec Ideal S8x8x1x128 .f32) (z : Vec Ideal S512x1024 .f32) (n : Vec Ideal S1x128 .f32) (D : Vec Ideal S8x128x128 .f32)

/-- Rows of 64, one chunk, and a head's block fit. -/
theorem rows_fit (j : ℕ) : ∀ a, (![0, 64 * (j % 8), 0] : Fin 3 → ℕ) a + S8x64x128.size a ≤ S8x512x128.size a := by
  have := lt8 j
  intro a; fin_cases a <;> simp [S8x64x128, S8x512x128] <;> omega

theorem chunk_fit {b d e : ℕ} (j : ℕ) :
    ∀ a, (![j % 8, 0, 0, 0] : Fin 4 → ℕ) a + (⟨4, ![1, b, d, e]⟩ : Shape).size a ≤ (⟨4, ![8, b, d, e]⟩ : Shape).size a := by
  have := lt8 j
  intro a; fin_cases a <;> simp <;> omega

theorem head_fit (j h : ℕ) : ∀ a, (![64 * (j % 8), 128 * (h % 8)] : Fin 2 → ℕ) a + S64x128.size a ≤ S512x1024.size a := by
  have := lt8 j
  have := lt8 h
  intro a; fin_cases a <;> simp [S64x128, S512x1024] <;> omega

/-- The loads of a point's chunk `j`. -/
def loads (j : ℕ) : In where
  U := View.ld u (Rect.unit (s := S8x512x128) ![0, 64 * (j % 8), 0] S8x64x128.size (rows_fit j))
  W := View.ld w (Rect.unit (s := S8x512x128) ![0, 64 * (j % 8), 0] S8x64x128.size (rows_fit j))
  QG := View.ld q (Rect.unit (s := S8x512x128) ![0, 64 * (j % 8), 0] S8x64x128.size (rows_fit j))
  KD := View.ld k (Rect.unit (s := S8x512x128) ![0, 64 * (j % 8), 0] S8x64x128.size (rows_fit j))
  QK := View.ld p (Rect.unit (s := S8x8x64x64) ![j % 8, 0, 0, 0] S1x8x64x64.size (chunk_fit j))
  EG := View.ld e (Rect.unit (s := S8x8x1x128) ![j % 8, 0, 0, 0] S1x8x1x128.size (chunk_fit j))
  Z h := View.ld z (Rect.unit (s := S512x1024) ![64 * (j % 8), 128 * (h.val % 8)] S64x128.size (head_fit j h.val))
  NW := View.ld n (Rect.unit (s := S1x128) ![0, 0] S1x128.size inb_S1x128_S1x128_0_0)

variable (I : ℕ → In)

/-- Block `b` of the outputs stored: chunk `b / 8`, head `b % 8`; and the state saved before chunk `j`. -/
def pieceY (b : ℕ) : View.Piece (Elt Ideal) S512x1024 .bf16 :=
  ⟨Rect.unit (s := S512x1024) ![64 * (b / 8 % 8), 128 * (b % 8 % 8)] S64x128.size (head_fit (b / 8) (b % 8)),
    head (gated (I (b / 8)) (carry D I (b / 8))) (b % 8) (lt8 b)⟩

def pieceS (j : ℕ) : View.Piece (Elt Ideal) S8x8x128x128 .f32 :=
  ⟨Rect.unit (s := S8x8x128x128) ![j % 8, 0, 0, 0] S1x8x128x128.size (chunk_fit j), k0_pay2 (F := Ideal) (carry D I j)⟩

def listY : List (View.Piece (Elt Ideal) S512x1024 .bf16) := (List.range 64).reverse.map (pieceY D I)
def listS : List (View.Piece (Elt Ideal) S8x8x128x128 .f32) := (List.range 8).reverse.map (pieceS D I)

theorem hz : (![0, 0, 0] : Fin 3 → Nat) = fun _ => 0 := funext fun a => by fin_cases a <;> rfl

variable (c : Dev nD) (i : grid0.Coords) (a1 : Memref sig .tc .vmem S8x512x128 .f32) (h1 : a1.IsWhole)
  (a2 : Memref sig .tc .vmem S8x512x128 .bf16) (h2 : a2.IsWhole) (a3 : Memref sig .tc .vmem S8x512x128 .bf16) (h3 : a3.IsWhole)
  (a4 : Memref sig .tc .vmem S8x512x128 .bf16) (h4 : a4.IsWhole) (a5 : Memref sig .tc .vmem S8x8x64x64 .bf16) (h5 : a5.IsWhole)
  (a6 : Memref sig .tc .vmem S8x8x1x128 .f32) (h6 : a6.IsWhole) (a7 : Memref sig .tc .vmem S512x1024 .f32) (h7 : a7.IsWhole)
  (a8 : Memref sig .tc .vmem S1x128 .f32) (h8 : a8.IsWhole) (a9 : Memref sig .tc .vmem S512x1024 .bf16) (h9 : a9.IsWhole)
  (a10 : Memref sig .tc .vmem S8x8x128x128 .f32) (h10 : a10.IsWhole) (a11 : Memref sig .tc .vmem S8x128x128 .f32) (h11 : a11.IsWhole)

/-- What a point leaves of the state it is met with. -/
theorem left_B (hc : ¬cond0_0 i) :
    out0_B_8 c i a1 h1 a2 h2 a3 h3 a4 h4 a5 h5 a6 h6 a7 h7 a8 h8 a9 h9 a10 h10 a11 h11 hc u w q k p e z n D
      = View.canon (listY D (loads u w q k p e z n))
    ∧ out0_B_9 c i a1 h1 a2 h2 a3 h3 a4 h4 a5 h5 a6 h6 a7 h7 a8 h8 a9 h9 a10 h10 a11 h11 hc u w q k p e z n D
      = View.canon (listS D (loads u w q k p e z n))
    ∧ sout0_B_0 c i a1 h1 a2 h2 a3 h3 a4 h4 a5 h5 a6 h6 a7 h7 a8 h8 a9 h9 a10 h10 a11 h11 hc u w q k p e z n D
      = carry D (loads u w q k p e z n) 8 := by
  unfold out0_B_8 out0_B_9 sout0_B_0
  rw [View.read_writes_eq_canon _ _ _ (cover0_B_8 c i a1 h1 a2 h2 a3 h3 a4 h4 a5 h5 a6 h6 a7 h7 a8 h8 a9 h9 a10 h10 a11 h11 hc u w q k p e z n D),
    View.read_writes_eq_canon _ _ _ (cover0_B_9 c i a1 h1 a2 h2 a3 h3 a4 h4 a5 h5 a6 h6 a7 h7 a8 h8 a9 h9 a10 h10 a11 h11 hc u w q k p e z n D),
    View.read_writes_eq_canon _ _ _ (scover0_B_0 c i a1 h1 a2 h2 a3 h3 a4 h4 a5 h5 a6 h6 a7 h7 a8 h8 a9 h9 a10 h10 a11 h11 hc u w q k p e z n D)]
  unfold kernelRun0_B
  dsimp only
  sl_unfold_words
  simp only [View.readCov_cons_toLoadRect, View.readAt_eq_ld, h1.read_unread, h2.read_unread, h3.read_unread, h4.read_unread, h5.read_unread,
    h6.read_unread, h7.read_unread, h8.read_unread, h11.read_unread, View.ld_unit_zero (S := S8x128x128) hz]
  rw [View.canon_cons_unit_zero hz]
  refine ⟨?_, ?_, ?_⟩
  · sl_kernel_rfl
  · sl_kernel_rfl
  · sl_kernel_rfl

/-- The first point is met with zeros. -/
theorem left_A (hc : cond0_0 i) :
    out0_A_8 c i a1 h1 a2 h2 a3 h3 a4 h4 a5 h5 a6 h6 a7 h7 a8 h8 a9 h9 a10 h10 a11 h11 hc u w q k p e z n
      = View.canon (listY (k0_pay1 (F := Ideal)) (loads u w q k p e z n))
    ∧ out0_A_9 c i a1 h1 a2 h2 a3 h3 a4 h4 a5 h5 a6 h6 a7 h7 a8 h8 a9 h9 a10 h10 a11 h11 hc u w q k p e z n
      = View.canon (listS (k0_pay1 (F := Ideal)) (loads u w q k p e z n))
    ∧ sout0_A_0 c i a1 h1 a2 h2 a3 h3 a4 h4 a5 h5 a6 h6 a7 h7 a8 h8 a9 h9 a10 h10 a11 h11 hc u w q k p e z n
      = carry (k0_pay1 (F := Ideal)) (loads u w q k p e z n) 8 := by
  unfold out0_A_8 out0_A_9 sout0_A_0
  rw [View.read_writes_eq_canon _ _ _ (cover0_A_8 c i a1 h1 a2 h2 a3 h3 a4 h4 a5 h5 a6 h6 a7 h7 a8 h8 a9 h9 a10 h10 a11 h11 hc u w q k p e z n),
    View.read_writes_eq_canon _ _ _ (cover0_A_9 c i a1 h1 a2 h2 a3 h3 a4 h4 a5 h5 a6 h6 a7 h7 a8 h8 a9 h9 a10 h10 a11 h11 hc u w q k p e z n),
    View.read_writes_eq_canon _ _ _ (scover0_A_0 c i a1 h1 a2 h2 a3 h3 a4 h4 a5 h5 a6 h6 a7 h7 a8 h8 a9 h9 a10 h10 a11 h11 hc u w q k p e z n)]
  unfold kernelRun0_A
  dsimp only
  sl_unfold_words
  simp only [View.readCov_cons_toLoadRect, View.readAt_eq_ld, h1.read_unread, h2.read_unread, h3.read_unread, h4.read_unread, h5.read_unread,
    h6.read_unread, h7.read_unread, h8.read_unread, View.ld_unit_zero (S := S8x128x128) hz]
  rw [View.canon_cons_unit_zero hz]
  refine ⟨?_, ?_, ?_⟩
  · sl_kernel_rfl
  · sl_kernel_rfl
  · sl_kernel_rfl

end Point

end Cert.ScanIdeal.Step

end
-- ==== Proof.ScanRef.lean ====
module

public import proofs.«01_k».proof.Proof.Gen.ScanRefIdeal.Run
public import proofs.«01_k».proof.Proof.Rows
public import proofs.«01_k».proof.Proof.Fwd

/-! The plain forward scan's 128 trips over the extended reals, at indices: what each leaves is `Fwd`'s. -/

@[expose] public section

set_option maxRecDepth 16384

noncomputable section

namespace Cert.ScanRefIdeal.Trip

open Idealize.ShloMosaic Idealize.SL.Sem Cert.ScanRefIdeal Cert.ScanRefIdeal.Gen Cert.ScanRefIdeal.Value
open Idealize.ShloMosaic.StableHlo Idealize.ShloMosaic.Tactic Idealize.ShloMosaic.TcCoe Idealize.SL

variable (V : Valuation τ sig (Elt Ideal))

/-! ### The carried arrays -/

def cu : FVec Ideal S128x8x64x128 .f32 := V (Proc.devRef .tc main_v18_0)
def cw : FVec Ideal S128x8x64x128 .f32 := V (Proc.devRef .tc main_v18_1)
def cqg : FVec Ideal S128x8x64x128 .f32 := V (Proc.devRef .tc main_v18_2)
def ckd : FVec Ideal S128x8x64x128 .f32 := V (Proc.devRef .tc main_v18_3)
def cqk : FVec Ideal S128x8x64x64 .f32 := V (Proc.devRef .tc main_v18_4)
def ceg : FVec Ideal S128x8x1x128 .f32 := V (Proc.devRef .tc main_v18_5)
def cz : FVec Ideal S128x8x64x128 .f32 := V (Proc.devRef .tc main_v18_6)
def cnw : FVec Ideal S1x128 .f32 := V (Proc.devRef .tc main_v18_7)
def cS : FVec Ideal S8x128x128 .f32 := V (Proc.devRef .tc main_v18_9)
def cy : FVec Ideal S128x8x64x128 .f32 := V (Proc.devRef .tc main_v18_10)
def cs : FVec Ideal S128x8x128x128 .f32 := V (Proc.devRef .tc main_v18_11)

/-- Chunk `n` of the carried inputs, with no state yet. -/
def chAt (n : Fin 128) : Spec.Ch where
  s _ _ _ := 0
  u h i x := cu V (ix4 n h i x)
  w h i x := cw V (ix4 n h i x)
  qg h i x := cqg V (ix4 n h i x)
  kd h i x := ckd V (ix4 n h i x)
  qk h i j := cqk V (ix4 n h i j)
  eg h x := ceg V (ix4 n h 0 x)
  z h i x := cz V (ix4 n h i x)
  nw x := cnw V (ix2 0 x)
  g _ _ _ := 0

def sAt : Fwd.St := fun h a x => cS V (ix3 h a x)

/-- Chunk `n` met with the carried state. -/
abbrev M (n : Fin 128) : Spec.Ch := Fwd.meet (chAt V n) (sAt V)

/-- The counter as the start of a row's slice. -/
abbrev start : Fin 4 → ℤ := fun k => (((![V (Proc.devRef .tc main_v18_8), constantI S_ 32 0#32, constantI S_ 32 0#32, constantI S_ 32 0#32] :
    Fin 4 → (⟨S_, .i32⟩ : BufTy).Contents (Elt Ideal))) k (Shape.Idx.first h_S_)).toInt

def Ctr (n : Fin 128) : Prop := ∀ a : Fin 4, start V a = ((![n.val, 0, 0, 0] : Fin 4 → ℕ) a : ℤ)

variable {V} {n : Fin 128} (hn : Ctr V n) (h : Fin 8) (i : Fin 64) (x : Fin 128)
include hn

theorem row_at (t : FVec Ideal S128x8x64x128 .f32) :
    shapeCast S8x64x128 (Host.dynamicSlice S1x8x64x128 t (start V) sliceFits_S128x8x64x128_S1x8x64x128) shapeCasts_S1x8x64x128_S8x64x128 (ix3 h i x)
      = t (ix4 n h i x) := by
  refine (congrArg (fun t => shapeCast S8x64x128 t shapeCasts_S1x8x64x128_S8x64x128 (ix3 h i x))
    (Rows.slice_row (p := 8) (q := 64) (r := 128) _ _ _ n hn)).trans ?_
  pointwise []

theorem qk_at (j : Fin 64) :
    shapeCast S8x64x64 (Host.dynamicSlice S1x8x64x64 (cqk V) (start V) sliceFits_S128x8x64x64_S1x8x64x64) shapeCasts_S1x8x64x64_S8x64x64 (ix3 h i j)
      = cqk V (ix4 n h i j) := by
  refine (congrArg (fun t => shapeCast S8x64x64 t shapeCasts_S1x8x64x64_S8x64x64 (ix3 h i j))
    (Rows.slice_row (p := 8) (q := 64) (r := 64) _ _ _ n hn)).trans ?_
  pointwise []

theorem eg_at :
    shapeCast S8x1x128 (Host.dynamicSlice S1x8x1x128 (ceg V) (start V) sliceFits_S128x8x1x128_S1x8x1x128) shapeCasts_S1x8x1x128_S8x1x128 (ix3 h 0 x)
      = ceg V (ix4 n h 0 x) := by
  refine (congrArg (fun t => shapeCast S8x1x128 t shapeCasts_S1x8x1x128_S8x1x128 (ix3 h 0 x))
    (Rows.slice_row (p := 8) (q := 1) (r := 128) _ _ _ n hn)).trans ?_
  pointwise []

theorem vn_at : res_main_while0b_v30 V (ix3 h i x) = Spec.vn (M V n) h i x := by
  have e (a b : FVec Ideal S8x64x128 .f32) (s : FVec Ideal S8x128x128 .f32) (ha : a (ix3 h i x) = cu V (ix4 n h i x))
      (hb : ∀ k, b (ix3 h i k) = cw V (ix4 n h i k)) (hs : s = cS V) :
      subf a (Host.dotGeneral (F := Ideal) dot_S8x64x128_S8x128x128_S8x64x128_2_1_1_2_0_0 none b s) (ix3 h i x) = Spec.vn (M V n) h i x := by
    pointwise []
    simp only [ha, hb, hs]
    rfl
  exact e _ _ _ (row_at hn h i x _) (fun k => row_at hn h i k _) rfl

theorem o_at : res_main_while0b_v33 V (ix3 h i x) = Spec.o (M V n) h i x := by
  have e (a : FVec Ideal S8x64x128 .f32) (s : FVec Ideal S8x128x128 .f32) (q : FVec Ideal S8x64x64 .f32) (v : FVec Ideal S8x64x128 .f32)
      (ha : ∀ k, a (ix3 h i k) = cqg V (ix4 n h i k)) (hs : s = cS V) (hq : ∀ j, q (ix3 h i j) = cqk V (ix4 n h i j))
      (hv : ∀ j, v (ix3 h j x) = Spec.vn (M V n) h j x) :
      addf (Host.dotGeneral (F := Ideal) dot_S8x64x128_S8x128x128_S8x64x128_2_1_1_2_0_0 none a s)
        (Host.dotGeneral (F := Ideal) dot_S8x64x64_S8x64x128_S8x64x128_2_1_1_2_0_0 none q v) (ix3 h i x) = Spec.o (M V n) h i x := by
    pointwise []
    simp only [ha, hs, hq, hv]
    rfl
  exact e _ _ _ _ (fun k => row_at hn h i k _) rfl (fun j => qk_at hn h i j) fun j => vn_at hn h j x

theorem S_step (a : Fin 128) : cS (STEP V) (ix3 h a x) = Fwd.next (M V n) h a x := by
  unfold cS
  rw [STEP_main_v18_9]
  have e (g : FVec Ideal S8x1x128 .f32) (s : FVec Ideal S8x128x128 .f32) (k v : FVec Ideal S8x64x128 .f32)
      (hg : g (ix3 h 0 x) = ceg V (ix4 n h 0 x)) (hs : s = cS V) (hk : ∀ j, k (ix3 h j a) = ckd V (ix4 n h j a))
      (hv : ∀ j, v (ix3 h j x) = Spec.vn (M V n) h j x) :
      addf (mulf s (broadcastInDim S8x128x128 ![0, 1, 2] bcast_S8x1x128_S8x128x128_0_1_2 g))
        (Host.dotGeneral (F := Ideal) dot_S8x64x128_S8x64x128_S8x128x128_1_1_2_2_0_0 none k v) (ix3 h a x) = Fwd.next (M V n) h a x := by
    pointwise []
    simp only [hg, hs, hk, hv]
    rfl
  exact e _ _ _ _ (eg_at hn h x) rfl (fun j => row_at hn h j a _) fun j => vn_at hn h j x

theorem z_at : res_main_while0b_v28 V (ix3 h i x) = (chAt V n).z h i x := row_at hn h i x (cz V)

theorem y_step (m : Fin 128) : cy (STEP V) (ix4 m h i x) = if m = n then Fwd.y (M V n) h i x else cy V (ix4 m h i x) := by
  unfold cy
  rw [STEP_main_v18_10]
  unfold step_main_v18_10
  refine (Rows.update_row (p := 8) (q := 64) (r := 128) _ _ _ _ n hn m h i x).trans ?_
  refine congrArg₂ (ite (m = n)) ?_ rfl
  pointwise []
  simp only [o_at hn, z_at hn]
  rfl

theorem s_step (m : Fin 128) (a : Fin 128) : cs (STEP V) (ix4 m h a x) = if m = n then sAt V h a x else cs V (ix4 m h a x) := by
  unfold cs
  rw [STEP_main_v18_11]
  unfold step_main_v18_11
  refine (Rows.update_row (p := 8) (q := 128) (r := 128) _ _ _ _ n hn m h a x).trans ?_
  refine congrArg₂ (ite (m = n)) ?_ rfl
  pointwise []
  rfl

omit hn

variable (m : (ℓ : Loc nD τ sig) → Buf (Elt Ideal) ℓ) (c : Dev nD)

/-- The contents the loop starts from, and after `k` trips. -/
abbrev E : Valuation τ sig (Elt Ideal) := entryContents preI m c
def at_ (k : ℕ) : Valuation τ sig (Elt Ideal) := STEP^[k] (E m c)

theorem at_succ (k : ℕ) : at_ m c (k + 1) = STEP (at_ m c k) := Function.iterate_succ_apply' _ _ _

/-- Chunk `n` of the reference's arguments. -/
def chM (n : Fin 128) : Spec.Ch :=
  Spec.ofArgs (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (fun _ => 0) (fun _ => 0) n

/-- Rows of 64 of an array whose heads lead. -/
theorem rows_at (f : FVec Ideal S8x8192x128 .f32) (n : Fin 128) :
    transpose S128x8x64x128 [1, 0, 2, 3] (shapeCast S8x128x64x128 f shapeCasts_S8x8192x128_S8x128x64x128)
      transposes_S8x128x64x128_S128x8x64x128_1_0_2_3 (ix4 n h i x) = f (ix3 h ⟨64 * n.val + i.val, by omega⟩ x) := by
  pointwise []
  exact congrArg f (congrArg (ix3 h · x) (Fin.ext (by show n.val * 64 + i.val = 64 * n.val + i.val; omega)))

set_option maxHeartbeats 2000000 in
theorem chE (n : Fin 128) : chAt (E m c) n = chM m c n := by
  unfold chAt chM Spec.ofArgs
  congr 1
  · funext h i x
    unfold cu E
    simp only [entryContents, afterL_cons, afterL_nil]
    after_reads_simp
    rw [id_eq]
    exact rows_at h i x _ n
  · funext h i x
    unfold cw E
    simp only [entryContents, afterL_cons, afterL_nil]
    after_reads_simp
    rw [id_eq]
    exact rows_at h i x _ n
  · funext h i x
    unfold cqg E
    simp only [entryContents, afterL_cons, afterL_nil]
    after_reads_simp
    rw [id_eq]
    exact rows_at h i x _ n
  · funext h i x
    unfold ckd E
    simp only [entryContents, afterL_cons, afterL_nil]
    after_reads_simp
    rw [id_eq]
    exact rows_at h i x _ n
  · funext h i x
    unfold cz E
    simp only [entryContents, afterL_cons, afterL_nil]
    after_reads_simp
    rw [id_eq]
    pointwise []
    exact congrArg (m ((c.tc : Thread nD τ).loc main_arg6)) (congrArg₂ ix2 (Fin.ext (by show n.val * 64 + i.val = 64 * n.val + i.val; omega))
      (Fin.ext (by show 3072 + (h.val * 128 + x.val) = 3072 + 128 * h.val + x.val; omega)))

theorem at_ctr : ∀ k, at_ m c k (Proc.devRef .tc main_v18_8) = fun _ => BitVec.ofNat 32 k
  | 0 => ctr_entry m c
  | k + 1 => by
    rw [at_succ, STEP_main_v18_8]
    unfold step_main_v18_8
    rw [id_eq, at_ctr k]
    funext j
    show BitVec.ofNat 32 k + BitVec.ofNat 32 1 = BitVec.ofNat 32 (k + 1)
    rw [BitVec.ofNat_add]

theorem word_int : ∀ k : Fin 128, (BitVec.ofNat 32 k.val).toInt = ((k.val : ℕ) : ℤ) := by decide +kernel

theorem at_Ctr (k : Fin 128) : Ctr (at_ m c k.val) k := by
  intro a
  unfold start
  rw [at_ctr]
  fin_cases a
  · exact word_int k
  all_goals rfl

theorem at_ch (n : Fin 128) : ∀ k, chAt (at_ m c k) n = chM m c n
  | 0 => chE m c n
  | k + 1 => by
    rw [← at_ch n k, at_succ]
    unfold chAt cu cw cqg ckd cqk ceg cz cnw
    rw [STEP_main_v18_0, STEP_main_v18_1, STEP_main_v18_2, STEP_main_v18_3, STEP_main_v18_4, STEP_main_v18_5,
      STEP_main_v18_6, STEP_main_v18_7]

/-- The chunks in order. -/
def ord (k : ℕ) : Spec.Ch := chM m c ⟨k % 128, Nat.mod_lt _ (by norm_num)⟩

theorem ord_val (k : Fin 128) : ord m c k.val = chM m c k := congrArg (chM m c) (Fin.ext (Nat.mod_eq_of_lt k.isLt))

theorem at_S : ∀ k, k ≤ 128 → sAt (at_ m c k) = Fwd.st (ord m c) k
  | 0, _ => by
    funext h a x
    show (cS (E m c)) (ix3 h a x) = 0
    unfold cS E
    simp only [entryContents, afterL_cons, afterL_nil]
    after_reads_simp
    rw [id_eq]
    pointwise []
  | k + 1, hk => by
    funext h a x
    show cS (at_ m c (k + 1)) (ix3 h a x) = Fwd.next (Fwd.meet (ord m c k) (Fwd.st (ord m c) k)) h a x
    rw [at_succ, S_step (at_Ctr m c ⟨k, hk⟩), M, at_S k (by omega), at_ch, ← ord_val m c ⟨k, hk⟩]

/-- A row written at its chunk's trip, and kept after. -/
theorem keep {α : Type} (f : ℕ → α) (n : Fin 128) (v : α)
    (hs : ∀ k : Fin 128, f (k.val + 1) = if n = k then v else f k.val) : f 128 = v := by
  have hk : ∀ d, n.val + 1 + d ≤ 128 → f (n.val + 1 + d) = v := by
    intro d
    induction d with
    | zero => exact fun _ => (hs n).trans (if_pos rfl)
    | succ d ih =>
      intro hd
      refine (hs ⟨n.val + 1 + d, by omega⟩).trans ((if_neg fun e => ?_).trans (ih (by omega)))
      have := congrArg Fin.val e
      simp only at this
      omega
  have h1 := hk (127 - n.val) (by omega)
  rwa [show n.val + 1 + (127 - n.val) = 128 by omega] at h1

/-- What chunk `n` is met as. -/
abbrev met (n : Fin 128) : Spec.Ch := Fwd.meet (chM m c n) (Fwd.st (ord m c) n.val)

theorem at_y (n : Fin 128) : cy (at_ m c 128) (ix4 n h i x) = Fwd.y (met m c n) h i x := by
  refine keep (fun k => cy (at_ m c k) (ix4 n h i x)) n _ fun k => ?_
  show cy (at_ m c (k.val + 1)) (ix4 n h i x) = _
  rw [at_succ, y_step (at_Ctr m c k), M, at_S m c k.val (by omega), at_ch]
  split_ifs with e
  · subst e; rfl
  · rfl

theorem at_s (n : Fin 128) (a : Fin 128) : cs (at_ m c 128) (ix4 n h a x) = Fwd.st (ord m c) n.val h a x := by
  refine keep (fun k => cs (at_ m c k) (ix4 n h a x)) n _ fun k => ?_
  show cs (at_ m c (k.val + 1)) (ix4 n h a x) = _
  rw [at_succ, s_step (at_Ctr m c k), at_S m c k.val (by omega)]
  split_ifs with e
  · subst e; rfl
  · rfl

theorem flat_at (f : FVec Ideal S128x8x64x128 .f32) (q : Fin 8192) (p : Fin 1024) :
    shapeCast S8192x1024 (transpose S128x64x8x128 [0, 2, 1, 3] f transposes_S128x8x64x128_S128x64x8x128_0_2_1_3)
      shapeCasts_S128x64x8x128_S8192x1024 (ix2 q p) = f (ix4 (Spec.chunkOf q) (Spec.headOf p) (Spec.rowOf q) (Spec.laneOf p)) := by
  unfold Spec.chunkOf Spec.rowOf Spec.headOf Spec.laneOf
  pointwise []

/-- The cast to bf16 keeps an extended real. -/
theorem cast_at {s : Shape} (f : FVec Ideal s .f32) (j : s.Idx) : truncf (F := Ideal) .bf16 f bitsLt_bf16_f32 j = f j := rfl

theorem out_y (q : Fin 8192) (p : Fin 1024) : out_main_v21 (at_ m c 128) (ix2 q p)
    = Fwd.y (met m c (Spec.chunkOf q)) (Spec.headOf p) (Spec.rowOf q) (Spec.laneOf p) := by
  unfold out_main_v21
  refine (cast_at _ _).trans ?_
  exact (flat_at (cy (at_ m c 128)) q p).trans (at_y (Spec.headOf p) (Spec.rowOf q) (Spec.laneOf p) m c (Spec.chunkOf q))

end Cert.ScanRefIdeal.Trip

end
-- ==== Proof.ScanFwd.lean ====
module

public import proofs.«01_k».proof.Defs
public import proofs.«01_k».proof.Proof.Meet
public import proofs.«01_k».proof.Proof.ScanStep
public import proofs.«01_k».proof.Proof.ScanRef
public import Idealize.ShloMosaic.Lib.Pipeline.ValueKit.Geometry

/-! The forward scan: what the grid's points leave, chunk after chunk, and that the reference leaves the same. -/

@[expose] public section

set_option maxRecDepth 16384

noncomputable section

namespace Cert.ScanIdeal.Step

open Idealize.ShloMosaic Idealize.ShloMosaic.TcCoe Idealize.SL.Sem Cert.ScanIdeal Cert.ScanIdeal.Gen Cert.ScanIdeal.Value
open Idealize.ShloMosaic.Pipeline (Dat)

/-! A point's blocks at an index. -/

section Blocks
variable (D : Vec Ideal S8x128x128 .f32) (I : ℕ → In)

/-- Row `q`, column `p` of a point's outputs. -/
def outY (q p : ℕ) : EReal := Fwd.y (chOf (I (q / 64)) (carry D I (q / 64))) ⟨p / 128 % 8, by omega⟩ ⟨q % 64, by omega⟩ ⟨p % 128, by omega⟩

theorem canonY (y : S512x1024.Idx) : (View.canon (listY D I) y : EReal) = outY D I (y 0).val (y 1).val := by
  refine View.canon_apply_of_pieces (Val := Elt Ideal) (e := .bf16) (fun z : S512x1024.Idx => outY D I (z 0).val (z 1).val) _
    (fun p hp x => ?_) y (View.cover_of_tiledL (listY D I) S64x128.size (by sl_kernel_rfl) y)
  obtain ⟨b, hb, rfl⟩ := List.mem_map.mp hp
  have hb : b < 64 := by simpa using hb
  obtain ⟨i, l, rfl⟩ : ∃ i l, x = ix2 i l := ⟨x 0, x 1, by funext d; fin_cases d <;> rfl⟩
  refine (head_at ⟨b % 8, lt8 b⟩ i l (gated (I (b / 8)) (carry D I (b / 8)))).trans ((gated_at _ _ _ _ _).trans ?_)
  show _ = outY D I (64 * (b / 8 % 8) + 1 * i.val) (128 * (b % 8 % 8) + 1 * l.val)
  have e0 : (64 * (b / 8 % 8) + 1 * i.val) / 64 = b / 8 := by omega
  have e1 : (64 * (b / 8 % 8) + 1 * i.val) % 64 = i.val := by omega
  have e2 : (128 * (b % 8 % 8) + 1 * l.val) / 128 % 8 = b % 8 := by omega
  have e3 : (128 * (b % 8 % 8) + 1 * l.val) % 128 = l.val := by omega
  simp only [outY, e0, e1, e2, e3]

theorem canonS (y : S8x8x128x128.Idx) : (View.canon (listS D I) y : EReal) = carry D I (y 0).val (ix3 (y 1) (y 2) (y 3)) := by
  refine View.canon_apply_of_pieces (Val := Elt Ideal) (e := .f32)
    (fun z : S8x8x128x128.Idx => (carry D I (z 0).val (ix3 (z 1) (z 2) (z 3)) : EReal)) _
    (fun p hp x => ?_) y (View.cover_of_tiledL (listS D I) S1x8x128x128.size (by sl_kernel_rfl) y)
  obtain ⟨j, hj, rfl⟩ := List.mem_map.mp hp
  have hj : j < 8 := by simpa using hj
  obtain ⟨z, h, a, l, rfl⟩ : ∃ z h a l, x = ix4 z h a l := ⟨x 0, x 1, x 2, x 3, by funext d; fin_cases d <;> rfl⟩
  have hp : ∀ S : Vec Ideal S8x128x128 .f32, (k0_pay2 (F := Ideal) S (ix4 z h a l) : EReal) = S (ix3 h a l) := fun S => by
    pointwise [k0_pay2]
  refine (hp _).trans ?_
  have z0 : z.val = 0 := by have : z.val < 1 := z.isLt; omega
  have e0 : (((pieceS D I j).1.emb (ix4 z h a l) 0 : Fin 8) : ℕ) = j := by show j % 8 + 1 * z.val = _; omega
  have e1 : ((pieceS D I j).1.emb (ix4 z h a l) 1) = h := Fin.ext (by show 0 + 1 * h.val = _; omega)
  have e2 : ((pieceS D I j).1.emb (ix4 z h a l) 2) = a := Fin.ext (by show 0 + 1 * a.val = _; omega)
  have e3 : ((pieceS D I j).1.emb (ix4 z h a l) 3) = l := Fin.ext (by show 0 + 1 * l.val = _; omega)
  simp only [e0, e1, e2, e3]

theorem canonS_at (j h : Fin 8) (a x : Fin 128) : (View.canon (listS D I) (ix4 j h a x) : EReal) = carry D I j.val (ix3 h a x) :=
  canonS D I (ix4 j h a x)

end Blocks

theorem ix_0 : ∀ t : Fin cfg0.N, win0_0.index t = ![0, t.val, 0] := (by decide +kernel : ∀ t : Fin grid0.N, _)
theorem ix_1 : ∀ t : Fin cfg0.N, win0_1.index t = ![0, t.val, 0] := (by decide +kernel : ∀ t : Fin grid0.N, _)
theorem ix_2 : ∀ t : Fin cfg0.N, win0_2.index t = ![0, t.val, 0] := (by decide +kernel : ∀ t : Fin grid0.N, _)
theorem ix_3 : ∀ t : Fin cfg0.N, win0_3.index t = ![0, t.val, 0] := (by decide +kernel : ∀ t : Fin grid0.N, _)
theorem ix_4 : ∀ t : Fin cfg0.N, win0_4.index t = ![t.val, 0, 0, 0] := (by decide +kernel : ∀ t : Fin grid0.N, _)
theorem ix_5 : ∀ t : Fin cfg0.N, win0_5.index t = ![t.val, 0, 0, 0] := (by decide +kernel : ∀ t : Fin grid0.N, _)
theorem ix_6 : ∀ t : Fin cfg0.N, win0_6.index t = ![t.val, 3] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![t.val, 0] := (by decide +kernel : ∀ t : Fin grid0.N, _)
theorem ix_9 : ∀ t : Fin cfg0.N, win0_9.index t = ![t.val, 0, 0, 0] := (by decide +kernel : ∀ t : Fin grid0.N, _)

theorem idx_unit {s : Shape} (off size : Fin s.rank → Nat) (inb) (j : (Rect.unit off size inb).shape.Idx) (a : Fin s.rank) :
    (((Rect.unit off size inb).idx j a : Fin _) : Nat) = off a + (j a : Nat) := by
  show off a + 1 * (j a : Nat) = _; omega

theorem val_lt (t : Fin cfg0.N) : t.val < 16 := lt_of_lt_of_eq t.isLt N_0

variable (m : (ℓ : Loc nD τ sig) → Buf (Elt Ideal) ℓ) (c : Dev nD)

theorem ZE (t : Fin cfg0.N) (y : S512x1024.Idx) : X0_6 m c t y = V m c main_arg6 (((cfg0.win 6).blk t).view.emb (fun a => ⟨(y a).val, lt_of_lt_of_eq (y a).isLt (xsize0_6 t a).symm⟩)) := by
  unfold X0_6 Pipeline.Window.fill
  rw [dif_pos (moved0_6 t y)]
  rfl

/-- Chunk `n` of the kernel's arguments, the chunks in order, and how each is met. -/
def chK (n : Fin 128) : Spec.Ch :=
  Spec.ofArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (fun _ => 0) (fun _ => 0) n

def ordK (k : ℕ) : Spec.Ch := chK m c ⟨k % 128, Nat.mod_lt _ (by norm_num)⟩

def metK (k : ℕ) : Spec.Ch := Fwd.meet (ordK m c k) (Fwd.st (ordK m c) k)

/-- What point `t` loads for its chunk `j`. -/
abbrev ins (t : Fin cfg0.N) : ℕ → In :=
  loads (iblk m c 0 t) (iblk m c 1 t) (iblk m c 2 t) (iblk m c 3 t) (iblk m c 4 t) (iblk m c 5 t) (X0_6 m c t) (iblk m c 7 t)

section Loads
variable (t : Fin cfg0.N) (j : ℕ) (hj : j < 8)
include hj

theorem in_U (h : Fin 8) (i : Fin 64) (x : Fin 128) :
    (ins m c t j).U (ix3 h i x) = m ((c : Thread nD τ).loc main_arg0) (ix3 h ⟨64 * ((8 * t.val + j) % 128) + i.val, by omega⟩ x) := by
  show iblk m c 0 t _ = _
  blk_simp [iblk]
  rw [V_main_arg0]
  congr 1
  have hv := val_lt t
  blk_ext [ix_0, hv, idx_unit]

theorem in_W (h : Fin 8) (i : Fin 64) (x : Fin 128) :
    (ins m c t j).W (ix3 h i x) = m ((c : Thread nD τ).loc main_arg1) (ix3 h ⟨64 * ((8 * t.val + j) % 128) + i.val, by omega⟩ x) := by
  show iblk m c 1 t _ = _
  blk_simp [iblk]
  rw [V_main_arg1]
  congr 1
  have hv := val_lt t
  blk_ext [ix_1, hv, idx_unit]

theorem in_QG (h : Fin 8) (i : Fin 64) (x : Fin 128) :
    (ins m c t j).QG (ix3 h i x) = m ((c : Thread nD τ).loc main_arg2) (ix3 h ⟨64 * ((8 * t.val + j) % 128) + i.val, by omega⟩ x) := by
  show iblk m c 2 t _ = _
  blk_simp [iblk]
  rw [V_main_arg2]
  congr 1
  have hv := val_lt t
  blk_ext [ix_2, hv, idx_unit]

theorem in_KD (h : Fin 8) (i : Fin 64) (x : Fin 128) :
    (ins m c t j).KD (ix3 h i x) = m ((c : Thread nD τ).loc main_arg3) (ix3 h ⟨64 * ((8 * t.val + j) % 128) + i.val, by omega⟩ x) := by
  show iblk m c 3 t _ = _
  blk_simp [iblk]
  rw [V_main_arg3]
  congr 1
  have hv := val_lt t
  blk_ext [ix_3, hv, idx_unit]

theorem in_QK (h : Fin 8) (i l : Fin 64) :
    (ins m c t j).QK (ix4 0 h i l) = m ((c : Thread nD τ).loc main_arg4) (ix4 ⟨(8 * t.val + j) % 128, by omega⟩ h i l) := by
  show iblk m c 4 t _ = _
  blk_simp [iblk]
  rw [V_main_arg4]
  congr 1
  have hv := val_lt t
  blk_ext [ix_4, hv, idx_unit]

theorem in_EG (h : Fin 8) (x : Fin 128) :
    (ins m c t j).EG (ix4 0 h 0 x) = m ((c : Thread nD τ).loc main_arg5) (ix4 ⟨(8 * t.val + j) % 128, by omega⟩ h 0 x) := by
  show iblk m c 5 t _ = _
  blk_simp [iblk]
  rw [V_main_arg5]
  congr 1
  have hv := val_lt t
  blk_ext [ix_5, hv, idx_unit]

theorem in_Z (h : Fin 8) (i : Fin 64) (x : Fin 128) : (ins m c t j).Z h (ix2 i x)
    = m ((c : Thread nD τ).loc main_arg6) (ix2 ⟨64 * ((8 * t.val + j) % 128) + i.val, by omega⟩ ⟨3072 + 128 * h.val + x.val, by omega⟩) := by
  show X0_6 m c t _ = _
  rw [ZE]
  blk_simp
  rw [V_main_arg6]
  congr 1
  have hv := val_lt t
  blk_ext [ix_6, hv, idx_unit]

theorem in_NW (x : Fin 128) : (ins m c t j).NW (ix2 0 x) = m ((c : Thread nD τ).loc main_arg7) (ix2 0 x) := by
  show iblk m c 7 t _ = _
  blk_simp [iblk]
  rw [V_main_arg7]
  congr 1
  have hv := val_lt t
  blk_ext [ix_7, hv, idx_unit]

/-- Chunk `j` of point `t` is the arguments' chunk `8 t + j`. -/
theorem chOf_ins (D : Vec Ideal S8x128x128 .f32) (S : Fwd.St) (hD : ∀ h a x, (D (ix3 h a x) : EReal) = S h a x) :
    chOf (ins m c t j) D = Fwd.meet (ordK m c (8 * t.val + j)) S := by
  unfold chOf Fwd.meet ordK chK Spec.ofArgs
  congr 1
  · funext h a x; exact hD h a x
  · funext h i x; exact in_U m c t j hj h i x
  · funext h i x; exact in_W m c t j hj h i x
  · funext h i x; exact in_QG m c t j hj h i x
  · funext h i x; exact in_KD m c t j hj h i x
  · funext h i l; exact in_QK m c t j hj h i l
  · funext h x; exact in_EG m c t j hj h x
  · funext h i x; exact in_Z m c t j hj h i x
  · funext x; exact in_NW m c t j hj x

end Loads

/-- The state point `t` is met with. -/
def met (t : Fin cfg0.N) : Vec Ideal S8x128x128 .f32 :=
  if t.val % 16 = 0 then k0_pay1 (F := Ideal) else (outsAt0 m c (t.val - 1) (Nat.lt_of_le_of_lt (Nat.sub_le _ _) t.isLt)).2.2

/-- What point `t` leaves. -/
theorem outs_eq (t : Fin cfg0.N) : outsAt0 m c t.val t.isLt = (View.canon (listY (met m c t) (ins m c t)),
    View.canon (listS (met m c t) (ins m c t)), carry (met m c t) (ins m c t) 8) := by
  unfold met
  by_cases h : t.val % 16 = 0
  · rw [outsAt0_A m c t h]
    simp only [left_A, if_pos h]
  · rw [outsAt0_B m c t h]
    simp only [left_B, if_neg h]

theorem carry_at (t : Fin cfg0.N) (D : Vec Ideal S8x128x128 .f32)
    (hD : ∀ h a x, (D (ix3 h a x) : EReal) = Fwd.st (ordK m c) (8 * t.val) h a x) :
    ∀ n, n ≤ 8 → ∀ h a x, (carry D (ins m c t) n (ix3 h a x) : EReal) = Fwd.st (ordK m c) (8 * t.val + n) h a x
  | 0, _ => hD
  | n + 1, hn => fun h a x => by
    refine (left_at _ _ _ _ _).trans ?_
    rw [chOf_ins m c t n (by omega) _ _ (carry_at t D hD n (by omega))]
    rfl

theorem zero_at (h : Fin 8) (a x : Fin 128) : (k0_pay1 (F := Ideal) (ix3 h a x) : EReal) = 0 := by
  pointwise [k0_pay1]

theorem met_at : ∀ (n : ℕ) (hn : n < cfg0.N) (h : Fin 8) (a x : Fin 128),
    (met m c ⟨n, hn⟩ (ix3 h a x) : EReal) = Fwd.st (ordK m c) (8 * n) h a x
  | 0, hn, h, a, x => by
    unfold met
    rw [if_pos (show (⟨0, hn⟩ : Fin cfg0.N).val % 16 = 0 from rfl)]
    exact zero_at h a x
  | n + 1, hn, h, a, x => by
    have := val_lt ⟨n + 1, hn⟩
    unfold met
    rw [if_neg (by simp only at this ⊢; omega)]
    have e := outs_eq m c ⟨n, Nat.lt_of_succ_lt hn⟩
    show ((outsAt0 m c n (Nat.lt_of_succ_lt hn)).2.2 (ix3 h a x) : EReal) = _
    refine (congrArg (fun o => (o.2.2 (ix3 h a x) : EReal)) e).trans ?_
    exact carry_at m c ⟨n, Nat.lt_of_succ_lt hn⟩ _ (met_at n _) 8 le_rfl h a x

/-- Row `q`, column `p` of the gated output. -/
def valY (q p : ℕ) : EReal := Fwd.y (metK m c (q / 64)) ⟨p / 128 % 8, by omega⟩ ⟨q % 64, by omega⟩ ⟨p % 128, by omega⟩

theorem res_y : (dats m 0 c).arrAt 8 cfg0.N = fun y : S8192x1024.Idx => (valY m c (y 0).val (y 1).val : EReal) := by
  refine (dats m 0 c).arrAt_eq_of_covers 8 _ (by decide +kernel) fun t hf y => ?_
  obtain ⟨a, b, rfl⟩ : ∃ a b, y = ix2 a b := ⟨y 0, y 1, by funext d; fin_cases d <;> rfl⟩
  blk_simp
  rw [after0_8, outs_eq]
  refine (canonY _ _ (ix2 a b)).trans ?_
  have hv := val_lt t
  have i0 : win0_8.index t 0 = t.val := congrFun (ix_8 t) 0
  have i1 : win0_8.index t 1 = 0 := congrFun (ix_8 t) 1
  rw [i0, i1, Nat.zero_mul, Nat.zero_add]
  show outY (met m c t) (ins m c t) a.val b.val = valY m c (t.val * 512 + a.val) b.val
  have e0 : (t.val * 512 + a.val) / 64 = 8 * t.val + a.val / 64 := by omega
  have e1 : (t.val * 512 + a.val) % 64 = a.val % 64 := by omega
  have e2 := chOf_ins m c t (a.val / 64) (by omega) _ _ (carry_at m c t _ (met_at m c t.val t.isLt) (a.val / 64) (by omega))
  simp only [outY, valY, e0, e1, metK, ← e2]

/-- The state saved before chunk `n`. -/
def valS (n h a x : ℕ) : EReal := Fwd.st (ordK m c) n ⟨h % 8, by omega⟩ ⟨a % 128, by omega⟩ ⟨x % 128, by omega⟩

theorem valS_at (n : ℕ) (h : Fin 8) (a x : Fin 128) : Fwd.st (ordK m c) n h a x = valS m c n h.val a.val x.val := by
  simp only [valS, Nat.mod_eq_of_lt h.isLt, Nat.mod_eq_of_lt a.isLt, Nat.mod_eq_of_lt x.isLt]

theorem left_s (t : Fin cfg0.N) (j h : Fin 8) (a x : Fin 128) :
    ((outsAt0 m c t.val t.isLt).2.1 (ix4 j h a x) : EReal) = valS m c (8 * t.val + j.val) h.val a.val x.val := by
  rw [outs_eq]
  dsimp only
  rw [canonS_at]
  exact (carry_at m c t (met m c t) (met_at m c t.val t.isLt) j.val (by omega) h a x).trans (valS_at m c _ h a x)

theorem res_s : (dats m 0 c).arrAt 9 cfg0.N
    = fun y : S128x8x128x128.Idx => (valS m c (y 0).val (y 1).val (y 2).val (y 3).val : EReal) := by
  refine (dats m 0 c).arrAt_eq_of_covers 9 _ (by decide +kernel) fun t hf y => ?_
  obtain ⟨j, h, a, x, rfl⟩ : ∃ j h a x, y = ix4 j h a x := ⟨y 0, y 1, y 2, y 3, by funext d; fin_cases d <;> rfl⟩
  blk_simp
  rw [after0_9]
  refine (left_s m c t j h a x).trans ?_
  have i0 : win0_9.index t 0 = t.val := congrFun (ix_9 t) 0
  have i1 : win0_9.index t 1 = 0 := congrFun (ix_9 t) 1
  have i2 : win0_9.index t 2 = 0 := congrFun (ix_9 t) 2
  have i3 : win0_9.index t 3 = 0 := congrFun (ix_9 t) 3
  rw [i0, i1, i2, i3]
  simp only [Nat.zero_mul, Nat.zero_add, Nat.mul_comm t.val 8]

end Cert.ScanIdeal.Step

namespace Cert.Scan.Claims

open Idealize.ShloMosaic Idealize.ShloMosaic.TcCoe Idealize.SL.Sem

open Cert.ScanIdeal.Step Cert.ScanRefIdeal.Trip

theorem algebraic : Cert.algebraic_ScanIdeal_ScanRefIdeal := by
  intro m g m' g' _ hag
  have e (c) : ord m' c = ordK m c := by
    obtain ⟨h0, h1, h2, h3, h4, h5, h6, h7⟩ := hag c
    funext k
    unfold ord ordK chM chK
    rw [h0, h1, h2, h3, h4, h5, h6, h7]
  refine ⟨_, _, Cert.ScanIdeal.Value.run_blocks m g, ?_⟩
  refine (θ_run _ _ _).mono (fun r h c => ?_) (Cert.ScanRefIdeal.Value.run m' g')
  obtain ⟨r0, r1, k⟩ := h c
  refine ⟨r0.trans (Eq.trans (Cert.Meet.ix2_all fun q p => ?_) (res_y m c).symm),
    r1.trans (Eq.trans (Cert.Meet.ix4_all fun n h a x => ?_) (res_s m c).symm), k⟩
  · refine (out_y m' c q p).trans ?_
    have e1 : Spec.headOf p = ⟨p.val / 128 % 8, by omega⟩ := Fin.ext (by show p.val / 128 = p.val / 128 % 8; omega)
    show Fwd.y (Fwd.meet (chM m' c (Spec.chunkOf q)) (Fwd.st (ord m' c) (Spec.chunkOf q).val)) _ _ _ = _
    rw [← ord_val, e, e1]
    rfl
  · refine (at_s h x m' c n a).trans ?_
    rw [e]
    exact valS_at m c n.val h a x

end Cert.Scan.Claims

end
-- ==== Proof.Act.lean ====
module

public import proofs.«01_k».proof.Defs
public import proofs.«01_k».proof.Proof.Meet
public import proofs.«01_k».proof.Proof.Gen.ActIdeal.Value
public import proofs.«01_k».proof.Proof.Gen.ActRefIdeal.Run
public import Idealize.ShloMosaic.Lib.Pipeline.ValueKit.Geometry

/-! The gated feed-forward's activation: the causal convolution of the two halves of a row, and the gate. -/

@[expose] public section

set_option maxRecDepth 16384

noncomputable section

namespace Cert.ActIdeal.Step

open Idealize.ShloMosaic Idealize.ShloMosaic.TcCoe Idealize.SL.Sem Cert.ActIdeal Cert.ActIdeal.Gen Cert.ActIdeal.Value

section Body

/-- The convolution of one block of columns: the rows two back, one back and in place, each by its weight, and the bias. -/
def conv (e : FVec Ideal S136x128 .f32) (r0 r1 r2 b : Vec Ideal S1x128 .f32) : FVec Ideal S128x128 .f32 :=
  addf (addf (addf
    (mulf (extractStridedSlice S128x128 ![8, 0] (dynamicRotate 0 2#32 none e rotates_S136x128_d0) slices_S136x128_o8_0_S128x128)
      (broadcastTo S128x128 r0 broadcasts_S1x128_S128x128))
    (mulf (extractStridedSlice S128x128 ![8, 0] (dynamicRotate 0 1#32 none e rotates_S136x128_d0) slices_S136x128_o8_0_S128x128)
      (broadcastTo S128x128 r1 broadcasts_S1x128_S128x128)))
    (mulf (extractStridedSlice S128x128 ![8, 0] e slices_S136x128_o8_0_S128x128) (broadcastTo S128x128 r2 broadcasts_S1x128_S128x128)))
    (broadcastTo S128x128 b broadcasts_S1x128_S128x128)

/-- The gate. -/
def gated (g v : FVec Ideal S128x128 .f32) : FVec Ideal S128x128 .bf16 :=
  truncf .bf16 (mulf (mulf g (addf
    (mulf (broadcast S128x128 (Scalar.ofBits .f32 0x3F000000#32)) (tanh (mulf (broadcast S128x128 (Scalar.ofBits .f32 0x3F000000#32)) g)))
    (broadcast S128x128 (Scalar.ofBits .f32 0x3F000000#32)))) v) bitsLt_bf16_f32

/-- A block of 128 columns fits where its last column does. -/
theorem fits {R S r o C : ℕ} (hr : r + R ≤ S) (ho : o + 128 ≤ C) :
    ∀ a, (![r, o] : Fin 2 → ℕ) a + (⟨2, ![R, 128]⟩ : Shape).size a ≤ (⟨2, ![S, C]⟩ : Shape).size a := by
  intro a
  fin_cases a
  exacts [hr, ho]

variable (i : grid0.Coords) (x0 : Vec Ideal S8x5632 .f32) (x1 : Vec Ideal S128x5632 .f32) (x2 : Vec Ideal S3x5632 .f32)
  (x3 : Vec Ideal S1x5632 .f32)

/-- The convolution of the 128 columns from column `o` on. -/
def cols (o : ℕ) (h : o + 128 ≤ 5632) : FVec Ideal S128x128 .f32 :=
  conv (k0_pay3 i (View.ld x0 (Rect.unit (s := S8x5632) ![0, o] S8x128.size (fits (by norm_num) h)))
      (View.ld x1 (Rect.unit (s := S128x5632) ![0, o] S128x128.size (fits (by norm_num) h))))
    (View.ld x2 (Rect.unit (s := S3x5632) ![0, o] S1x128.size (fits (by norm_num) h)))
    (View.ld x2 (Rect.unit (s := S3x5632) ![1, o] S1x128.size (fits (by norm_num) h)))
    (View.ld x2 (Rect.unit (s := S3x5632) ![2, o] S1x128.size (fits (by norm_num) h)))
    (View.ld x3 (Rect.unit (s := S1x5632) ![0, o] S1x128.size (fits (by norm_num) h)))

/-- Block `n` of the columns that a point writes. -/
def piece (n : Fin 22) : View.Piece (Elt Ideal) S128x2816 .bf16 :=
  ⟨Rect.unit (s := S128x2816) ![0, 128 * n.val] S128x128.size (fits (by norm_num) (by omega)),
    gated (cols i x0 x1 x2 x3 (128 * n.val) (by omega)) (cols i x0 x1 x2 x3 (2816 + 128 * n.val) (by omega))⟩

theorem pieces : out0_4 (F := Ideal) i x0 x1 x2 x3
    = View.canon (([21, 20, 19, 18, 17, 16, 15, 14, 13, 12, 11, 10, 9, 8, 7, 6, 5, 4, 3, 2, 1, 0] : List (Fin 22)).map (piece i x0 x1 x2 x3)) := by
  sl_kernel_rfl

/-- A row that the convolution takes: of the halo, times the flag, or of the block. -/
def tap (k : ℕ) (hk : k < 136) (l : Fin 5632) : EReal :=
  if h : k < 8 then x0 (ix2 ⟨k, h⟩ l) * k0_pay2 (F := Ideal) i else x1 (ix2 ⟨k - 8, by omega⟩ l)

theorem cols_at (o : ℕ) (h : o + 128 ≤ 5632) (a l : Fin 128) (y : Fin 5632) (hy : y.val = o + l.val) :
    (cols i x0 x1 x2 x3 o h (ix2 a l) : EReal) =
      tap i x0 x1 (a.val + 6) (by omega) y * x2 (ix2 0 y) + tap i x0 x1 (a.val + 7) (by omega) y * x2 (ix2 1 y)
        + x1 (ix2 a y) * x2 (ix2 2 y) + x3 (ix2 0 y) := by
  have lt : o + l.val < 5632 := by omega
  obtain rfl : y = ⟨o + l.val, lt⟩ := Fin.ext hy
  have e2 : (8 + a.val + 136 - 2) % 136 = a.val + 6 := by omega
  have e1 : (8 + a.val + 136 - 1) % 136 = a.val + 7 := by omega
  unfold cols
  simp only [View.ld_unit]
  pointwise [conv, k0_pay3, tap]
  simp only [e1, e2]

/-- What a point leaves at an index of its block. -/
def rowVal (g v : EReal) : EReal := g * (Cert.Spec.half * Ideal.tanh (Cert.Spec.half * g) + Cert.Spec.half) * v

theorem gated_at (g v : FVec Ideal S128x128 .f32) (a l : Fin 128) : (gated g v (ix2 a l) : EReal) = rowVal (g (ix2 a l)) (v (ix2 a l)) := by
  pointwise [gated, rowVal, Cert.Spec.half]

end Body

variable (m : (ℓ : Loc nD τ sig) → Buf (Elt Ideal) ℓ) (c : Dev nD)

theorem ix : ∀ t : Fin cfg0.N, (win0_0.index t = ![16 * t.val - 1, 0] ∧ win0_1.index t = ![t.val, 0] ∧ win0_2.index t = ![0, 0]
    ∧ win0_3.index t = ![0, 0]) ∧ win0_4.index t = ![t.val, 0] :=
  (by decide +kernel : ∀ t : Fin grid0.N, _)

theorem flag_bit : ∀ t : Fin cfg0.N, Scalar.cmpi .sgt (BitVec.ofNat 32 (grid0.coords t 0).val) 0#32 = if t.val = 0 then 0#1 else 1#1 :=
  (by decide +kernel : ∀ t : Fin grid0.N, _)

/-- The flag drops the halo at the first point only. -/
theorem flag (t : Fin cfg0.N) : (k0_pay2 (F := Ideal) (grid0.coords t) : EReal) = if t.val = 0 then 0 else 1 := by
  unfold k0_pay2
  dsimp only
  rw [flag_bit]
  split <;> pointwise

/-- The argument arrays. -/
def arrU : S8192x5632.Idx → EReal := m ((c : Thread nD τ).loc main_arg0)
def arrW : S3x5632.Idx → EReal := m ((c : Thread nD τ).loc main_arg1)
def arrB : S1x5632.Idx → EReal := m ((c : Thread nD τ).loc main_arg2)

/-- The blocks of them a grid point reads. -/
def blkP (t : Fin cfg0.N) : S8x5632.Idx → EReal := iblk m c 0 t
def blkC (t : Fin cfg0.N) : S128x5632.Idx → EReal := iblk m c 1 t
def blkW (t : Fin cfg0.N) : S3x5632.Idx → EReal := iblk m c 2 t
def blkB (t : Fin cfg0.N) : S1x5632.Idx → EReal := iblk m c 3 t

theorem lt_N (t : Fin cfg0.N) : t.val < 64 := lt_of_lt_of_eq t.isLt N_0

/-- The row of the array that a row of a grid point's block is, and that a row of its halo is. -/
def row (t : Fin cfg0.N) (a : Fin 128) : Fin 8192 := ⟨128 * t.val + a.val, by have := lt_N t; omega⟩
def halo (t : Fin cfg0.N) (a : Fin 8) : Fin 8192 := ⟨8 * (16 * t.val - 1) + a.val, by have := lt_N t; omega⟩

theorem blk_P (t : Fin cfg0.N) (a : Fin 8) (b : Fin 5632) : blkP m c t (ix2 a b) = arrU m c (ix2 (halo t a) b) := by
  unfold blkP
  blk_simp [iblk]
  rw [V_main_arg0]
  unfold arrU
  congr 1
  blk_ext [(ix t).1.1, halo]

theorem blk_C (t : Fin cfg0.N) (a : Fin 128) (b : Fin 5632) : blkC m c t (ix2 a b) = arrU m c (ix2 (row t a) b) := by
  unfold blkC
  blk_simp [iblk]
  rw [V_main_arg0]
  unfold arrU
  congr 1
  blk_ext [(ix t).1.2.1, row]

theorem blk_W (t : Fin cfg0.N) : blkW m c t = arrW m c := by
  refine Cert.Meet.ix2_all fun a b => ?_
  unfold blkW
  blk_simp [iblk]
  rw [V_main_arg1]
  unfold arrW
  congr 1
  blk_ext [(ix t).1.2.2.1]

theorem blk_B (t : Fin cfg0.N) : blkB m c t = arrB m c := by
  refine Cert.Meet.ix2_all fun a b => ?_
  unfold blkB
  blk_simp [iblk]
  rw [V_main_arg2]
  unfold arrB
  congr 1
  blk_ext [(ix t).1.2.2.2]

/-- The array with two rows of zeros before it. -/
def before (u : S8192x5632.Idx → EReal) (z : ℕ) (l : Fin 5632) : EReal :=
  if h : 2 ≤ z ∧ z < 8194 then u (ix2 ⟨z - 2, by omega⟩ l) else 0

theorem tap_eq (t : Fin cfg0.N) (a : Fin 128) (d : ℕ) (hd : d < 2) (l : Fin 5632) :
    tap (grid0.coords t) (blkP m c t) (blkC m c t) (a.val + 6 + d) (by omega) l = before (arrU m c) ((row t a).val + d) l := by
  have ht := lt_N t
  unfold tap before
  by_cases h : a.val + 6 + d < 8
  · rw [dif_pos h, blk_P, flag]
    by_cases h0 : t.val = 0
    · rw [if_pos h0, mul_zero, dif_neg (by simp only [row]; omega)]
    · rw [if_neg h0, mul_one, dif_pos (by simp only [row]; omega)]
      congr 2
      simp only [row, halo, Fin.mk.injEq]
      omega
  · rw [dif_neg h, blk_C, dif_pos (by simp only [row]; omega)]
    congr 2
    simp only [row, Fin.mk.injEq]
    omega

/-- The convolution at a row and a column, and the gated value. -/
def convVal (u : S8192x5632.Idx → EReal) (w : S3x5632.Idx → EReal) (b : S1x5632.Idx → EReal) (r : Fin 8192) (l : Fin 5632) : EReal :=
  before u r.val l * w (ix2 0 l) + before u (r.val + 1) l * w (ix2 1 l) + u (ix2 r l) * w (ix2 2 l) + b (ix2 0 l)

def val (u : S8192x5632.Idx → EReal) (w : S3x5632.Idx → EReal) (b : S1x5632.Idx → EReal) (r : Fin 8192) (l : Fin 2816) : EReal :=
  rowVal (convVal u w b r (l.castLE (by norm_num))) (convVal u w b r ⟨2816 + l.val, by omega⟩)

theorem cols_eq (t : Fin cfg0.N) (o : ℕ) (h : o + 128 ≤ 5632) (a l : Fin 128) (y : Fin 5632) (hy : y.val = o + l.val) :
    (cols (grid0.coords t) (blkP m c t) (blkC m c t) (blkW m c t) (blkB m c t) o h (ix2 a l) : EReal)
      = convVal (arrU m c) (arrW m c) (arrB m c) (row t a) y := by
  have t0 : tap (grid0.coords t) (blkP m c t) (blkC m c t) (a.val + 6) (by omega) y = before (arrU m c) (row t a).val y :=
    tap_eq m c t a 0 (by norm_num) y
  have t1 : tap (grid0.coords t) (blkP m c t) (blkC m c t) (a.val + 7) (by omega) y = before (arrU m c) ((row t a).val + 1) y :=
    tap_eq m c t a 1 (by norm_num) y
  rw [cols_at _ _ _ _ _ o h a l y hy, blk_W, blk_B, blk_C, convVal, t0, t1]

/-- What a point leaves. -/
theorem left (t : Fin cfg0.N) (a : Fin 128) (y : Fin 2816) :
    (out0_4 (F := Ideal) (grid0.coords t) (blkP m c t) (blkC m c t) (blkW m c t) (blkB m c t) (ix2 a y) : EReal)
      = val (arrU m c) (arrW m c) (arrB m c) (row t a) y := by
  rw [pieces]
  refine View.canon_apply_of_pieces (Val := Elt Ideal) (e := .bf16) (fun z : S128x2816.Idx => (val (arrU m c) (arrW m c) (arrB m c) (row t (z 0)) (z 1) : EReal)) _
    (fun p hp x => ?_) (ix2 a y) (cover0_4 _ _ _ _ _ _ _ _ _ _ _ _ _ _ _ _ _ _ _ _ _ _ _)
  obtain ⟨n, -, rfl⟩ := List.mem_map.mp hp
  obtain ⟨b, l, rfl⟩ : ∃ b l, x = ix2 b l := ⟨x 0, x 1, by funext d; fin_cases d <;> rfl⟩
  refine (gated_at _ _ b l).trans ?_
  have e0 : ((piece (grid0.coords t) (blkP m c t) (blkC m c t) (blkW m c t) (blkB m c t) n).1.emb (ix2 b l) 0) = b :=
    Fin.ext (by show 0 + 1 * b.val = _; omega)
  have e1 : ((piece (grid0.coords t) (blkP m c t) (blkC m c t) (blkW m c t) (blkB m c t) n).1.emb (ix2 b l) 1)
      = (⟨128 * n.val + l.val, by omega⟩ : Fin 2816) := Fin.ext (by show 128 * n.val + 1 * l.val = 128 * n.val + l.val; omega)
  simp only [e0, e1]
  rw [val, cols_eq m c t _ _ b l ⟨128 * n.val + l.val, by omega⟩ rfl, cols_eq m c t _ _ b l ⟨2816 + (128 * n.val + l.val), by omega⟩ (by simp only; omega)]
  rfl

theorem res : (dats m 0 c).arrAt 4 cfg0.N = fun y : S8192x2816.Idx => (val (arrU m c) (arrW m c) (arrB m c) (y 0) (y 1) : EReal) := by
  refine (dats m 0 c).arrAt_eq_of_covers 4 _ (by decide +kernel) fun t hf y => ?_
  obtain ⟨a, b, rfl⟩ : ∃ a b, y = ix2 a b := ⟨y 0, y 1, by funext d; fin_cases d <;> rfl⟩
  blk_simp
  rw [after0_4]
  refine (left m c t a b).trans ?_
  have e : (win0_4.blk t).view.emb (ix2 a b) = ix2 (row t a) b := by
    blk_ext [(ix t).2, row]
  rw [e]
  rfl

end Cert.ActIdeal.Step

namespace Cert.Act.Claims

open Idealize.ShloMosaic Idealize.ShloMosaic.TcCoe Idealize.SL.Sem

open Cert.ActIdeal.Step

/-- The reference's padded array. -/
theorem padded (u : Cert.ActRefIdeal.S8192x5632.Idx → EReal) (z : Fin 8194) (l : Fin 5632) :
    (pad (α := EReal) Cert.ActRefIdeal.S8194x5632 ![2, 0] ![0, 0] ![0, 0] u (sitofp (F := Ideal) .f32 (constantI Cert.ActRefIdeal.S_ 32 0#32))
      Cert.ActRefIdeal.Gen.pads_S8192x5632_S8194x5632_200_000 Cert.ActRefIdeal.Gen.h_S_ (ix2 z l)) = before u z.val l := by
  unfold before
  by_cases h : 2 ≤ z.val
  · rw [dif_pos ⟨h, z.isLt⟩]
    pointwise
    rw [dif_pos]
    exact ⟨h, by omega⟩
  · rw [dif_neg fun k => h k.1]
    pointwise
    rw [dif_neg fun k => h k.1]
    exact (congrArg (fun x : ℝ => (x : EReal)) (by simp : ((BitVec.toInt 0#32 : ℤ) : ℝ) = 0)).trans EReal.coe_zero

theorem algebraic : Cert.algebraic_ActIdeal_ActRefIdeal := by
  intro m g m' g' _ hag
  refine ⟨_, Cert.ActIdeal.Value.run_blocks m g, ?_⟩
  refine (θ_run _ _ _).mono (fun r h c => ?_) (Cert.ActRefIdeal.Value.run m' g')
  obtain ⟨r0, k⟩ := h c
  obtain ⟨e0, e1, e2⟩ := hag c
  refine ⟨r0.trans (Eq.trans (Cert.Meet.ix2_all fun i j => ?_) (Cert.ActIdeal.Step.res m c).symm), k⟩
  unfold Cert.ActRefIdeal.Value.res_main_v21
  rw [e0, e1, e2]
  have hp := padded (arrU m c)
  generalize hP : pad _ _ _ _ _ _ _ _ = P at hp
  unfold arrU at hP
  rw [hP]
  have hq : ∀ l : Fin 5632, P (ix2 ⟨2 + i.val, by omega⟩ l) = arrU m c (ix2 i l) := fun l => by
    rw [hp, before, dif_pos (by simp only; omega)]
    congr 2
    exact Fin.ext (by simp only; omega)
  pointwise [Cert.ActIdeal.Step.val]
  simp only [hq]
  simp only [hp, rowVal, Cert.Spec.sigmoid_eq, convVal, Nat.add_comm 1]
  rfl

end Cert.Act.Claims

end
-- ==== Proof.lean ====
module

public import proofs.«01_k».proof.Defs
public import proofs.«01_k».proof.Proof.Gen.KernelIdeal.Value
public import proofs.«01_k».proof.Proof.Gen.ReferenceIdeal.Run
public import proofs.«01_k».proof.Proof.Meet
public import proofs.«01_k».proof.Proof.Gen.Kernel.Frame
public import proofs.«01_k».proof.Proof.Gen.DgradUp.Frame
public import proofs.«01_k».proof.Proof.DgradUp
public import proofs.«01_k».proof.Proof.Gen.DgradIn.Frame
public import proofs.«01_k».proof.Proof.DgradIn
public import proofs.«01_k».proof.Proof.Gen.WgradPre.Frame
public import proofs.«01_k».proof.Proof.WgradPre
public import proofs.«01_k».proof.Proof.Gen.WgradSq.Frame
public import proofs.«01_k».proof.Proof.WgradSq
public import proofs.«01_k».proof.Proof.Gen.WgradBa.Frame
public import proofs.«01_k».proof.Proof.WgradBa
public import proofs.«01_k».proof.Proof.Gen.WgradUp.Frame
public import proofs.«01_k».proof.Proof.WgradUp
public import proofs.«01_k».proof.Proof.Gen.WgradDown.Frame
public import proofs.«01_k».proof.Proof.WgradDown
public import proofs.«01_k».proof.Proof.Gen.FwdIn.Frame
public import proofs.«01_k».proof.Proof.FwdIn
public import proofs.«01_k».proof.Proof.Gen.FwdUp.Frame
public import proofs.«01_k».proof.Proof.FwdUp
public import proofs.«01_k».proof.Proof.Gen.Head.Frame
public import proofs.«01_k».proof.Proof.Gen.Merge.Frame
public import proofs.«01_k».proof.Proof.Head
public import proofs.«01_k».proof.Proof.Merge
public import proofs.«01_k».proof.Proof.MergeBwdLaunch
public import proofs.«01_k».proof.Proof.MergeBwd
public import proofs.«01_k».proof.Proof.Gen.AdamIn.Frame
public import proofs.«01_k».proof.Proof.Gen.AdamUp.Frame
public import proofs.«01_k».proof.Proof.Gen.AdamDown.Frame
public import proofs.«01_k».proof.Proof.Gen.AdamSq.Frame
public import proofs.«01_k».proof.Proof.Gen.AdamAda.Frame
public import proofs.«01_k».proof.Proof.AdamIn
public import proofs.«01_k».proof.Proof.AdamUp
public import proofs.«01_k».proof.Proof.AdamDown
public import proofs.«01_k».proof.Proof.AdamSq
public import proofs.«01_k».proof.Proof.AdamAda
public import proofs.«01_k».proof.Proof.Gen.ModBwd.Frame
public import proofs.«01_k».proof.Proof.ModBwd
public import proofs.«01_k».proof.Proof.Gen.Mod.Frame
public import proofs.«01_k».proof.Proof.Mod
public import proofs.«01_k».proof.Proof.Gen.Ada.Frame
public import proofs.«01_k».proof.Proof.Ada
public import proofs.«01_k».proof.Proof.Gen.AdaGrad.Frame
public import proofs.«01_k».proof.Proof.AdaGrad
public import proofs.«01_k».proof.Proof.Gen.Act.Frame
public import proofs.«01_k».proof.Proof.Gen.Scan.Frame
public import proofs.«01_k».proof.Proof.ScanFwd
public import proofs.«01_k».proof.Proof.Act
public import Idealize.ShloMosaic.Adequacy
public import Idealize.ShloMosaic.Init

@[expose] public section

noncomputable section

namespace Cert.Proof

open Idealize.ShloMosaic Idealize.SL.Sem Cert.Kernel

/-- The references have no semaphore, so every counter of theirs is zero. -/
theorem no_counter {nD : ℕ} {τ : Topo} {sig : RefSig} (r : Sem sig → False) (d : DmaSem sig → False) (f : GSem nD τ sig → ℤ) :
    f = fun _ => 0 := by
  funext g
  rcases g with ⟨_, i | i⟩
  exacts [(r i).elim, (d i).elim]

theorem claim : Cert.Claim := ⟨Cert.Kernel.Gen.facts, Cert.KernelIdeal.Gen.facts, Cert.ReferenceIdeal.Gen.facts,
  Cert.DgradUp.Gen.facts,
  Cert.DgradUpIdeal.Gen.facts,
  Cert.DgradUpRefIdeal.Gen.facts,
  Cert.DgradIn.Gen.facts,
  Cert.DgradInIdeal.Gen.facts,
  Cert.DgradInRefIdeal.Gen.facts,
  Cert.WgradPre.Gen.facts,
  Cert.WgradPreIdeal.Gen.facts,
  Cert.WgradPreRefIdeal.Gen.facts,
  Cert.WgradSq.Gen.facts,
  Cert.WgradSqIdeal.Gen.facts,
  Cert.WgradSqRefIdeal.Gen.facts,
  Cert.WgradBa.Gen.facts,
  Cert.WgradBaIdeal.Gen.facts,
  Cert.WgradBaRefIdeal.Gen.facts,
  Cert.WgradUp.Gen.facts,
  Cert.WgradUpIdeal.Gen.facts,
  Cert.WgradUpRefIdeal.Gen.facts,
  Cert.WgradDown.Gen.facts,
  Cert.WgradDownIdeal.Gen.facts,
  Cert.WgradDownRefIdeal.Gen.facts,
  Cert.FwdIn.Gen.facts,
  Cert.FwdInIdeal.Gen.facts,
  Cert.FwdInRefIdeal.Gen.facts,
  Cert.FwdUp.Gen.facts,
  Cert.FwdUpIdeal.Gen.facts,
  Cert.FwdUpRefIdeal.Gen.facts,
  Cert.Head.Gen.facts,
  Cert.HeadIdeal.Gen.facts,
  Cert.HeadRefIdeal.Gen.facts,
  Cert.Merge.Gen.facts,
  Cert.MergeIdeal.Gen.facts,
  Cert.MergeRefIdeal.Gen.facts,
  Cert.MergeBwd.Gen.facts,
  Cert.MergeBwdIdeal.Gen.facts,
  Cert.MergeBwdRefIdeal.Gen.facts,
  Cert.AdamIn.Gen.facts,
  Cert.AdamInIdeal.Gen.facts,
  Cert.AdamInRefIdeal.Gen.facts,
  Cert.AdamUp.Gen.facts,
  Cert.AdamUpIdeal.Gen.facts,
  Cert.AdamUpRefIdeal.Gen.facts,
  Cert.AdamDown.Gen.facts,
  Cert.AdamDownIdeal.Gen.facts,
  Cert.AdamDownRefIdeal.Gen.facts,
  Cert.AdamSq.Gen.facts,
  Cert.AdamSqIdeal.Gen.facts,
  Cert.AdamSqRefIdeal.Gen.facts,
  Cert.AdamAda.Gen.facts,
  Cert.AdamAdaIdeal.Gen.facts,
  Cert.AdamAdaRefIdeal.Gen.facts,
  Cert.ModBwd.Gen.facts,
  Cert.ModBwdIdeal.Gen.facts,
  Cert.ModBwdRefIdeal.Gen.facts,
  Cert.Mod.Gen.facts,
  Cert.ModIdeal.Gen.facts,
  Cert.ModRefIdeal.Gen.facts,
  Cert.Ada.Gen.facts,
  Cert.AdaIdeal.Gen.facts,
  Cert.AdaRefIdeal.Gen.facts,
  Cert.AdaGrad.Gen.facts,
  Cert.AdaGradIdeal.Gen.facts,
  Cert.AdaGradRefIdeal.Gen.facts,
  Cert.Act.Gen.facts,
  Cert.ActIdeal.Gen.facts,
  Cert.ActRefIdeal.Gen.facts,
  Cert.Scan.Gen.facts,
  Cert.ScanIdeal.Gen.facts,
  Cert.ScanRefIdeal.Gen.facts, by
  refine ⟨fun m ρ _ => Cert.Kernel.Gen.frame m ρ,
    fun m ρ _ => Cert.KernelIdeal.Gen.frame m ρ,
    fun m ρ _ => (θ_run _ _ _).mono (fun _ h => ⟨fun c => (h c).2.2.2.2.2.2.2.2, no_counter Fin.elim0 Fin.elim0 _⟩) (Cert.ReferenceIdeal.Value.run m ρ),
    fun m ρ _ => Cert.DgradUp.Gen.frame m ρ,
    fun m ρ _ => Cert.DgradUpIdeal.Gen.frame m ρ,
    fun m ρ _ => (θ_run _ _ _).mono (fun _ h => ⟨fun c => (h c).2.2.2, no_counter Fin.elim0 Fin.elim0 _⟩) (Cert.DgradUpRefIdeal.Value.run m ρ),
    fun m ρ _ => Cert.DgradIn.Gen.frame m ρ,
    fun m ρ _ => Cert.DgradInIdeal.Gen.frame m ρ,
    fun m ρ _ => (θ_run _ _ _).mono (fun _ h => ⟨fun c => (h c).2, no_counter Fin.elim0 Fin.elim0 _⟩) (Cert.DgradInRefIdeal.Value.run m ρ),
    fun m ρ _ => Cert.WgradPre.Gen.frame m ρ,
    fun m ρ _ => Cert.WgradPreIdeal.Gen.frame m ρ,
    fun m ρ _ => (θ_run _ _ _).mono (fun _ h => ⟨fun c => (h c).2, no_counter Fin.elim0 Fin.elim0 _⟩) (Cert.WgradPreRefIdeal.Value.run m ρ),
    fun m ρ _ => Cert.WgradSq.Gen.frame m ρ,
    fun m ρ _ => Cert.WgradSqIdeal.Gen.frame m ρ,
    fun m ρ _ => (θ_run _ _ _).mono (fun _ h => ⟨fun c => (h c).2, no_counter Fin.elim0 Fin.elim0 _⟩) (Cert.WgradSqRefIdeal.Value.run m ρ),
    fun m ρ _ => Cert.WgradBa.Gen.frame m ρ,
    fun m ρ _ => Cert.WgradBaIdeal.Gen.frame m ρ,
    fun m ρ _ => (θ_run _ _ _).mono (fun _ h => ⟨fun c => (h c).2, no_counter Fin.elim0 Fin.elim0 _⟩) (Cert.WgradBaRefIdeal.Value.run m ρ),
    fun m ρ _ => Cert.WgradUp.Gen.frame m ρ,
    fun m ρ _ => Cert.WgradUpIdeal.Gen.frame m ρ,
    fun m ρ _ => (θ_run _ _ _).mono (fun _ h => ⟨fun c => (h c).2, no_counter Fin.elim0 Fin.elim0 _⟩) (Cert.WgradUpRefIdeal.Value.run m ρ),
    fun m ρ _ => Cert.WgradDown.Gen.frame m ρ,
    fun m ρ _ => Cert.WgradDownIdeal.Gen.frame m ρ,
    fun m ρ _ => (θ_run _ _ _).mono (fun _ h => ⟨fun c => (h c).2, no_counter Fin.elim0 Fin.elim0 _⟩) (Cert.WgradDownRefIdeal.Value.run m ρ),
    fun m ρ _ => Cert.FwdIn.Gen.frame m ρ,
    fun m ρ _ => Cert.FwdInIdeal.Gen.frame m ρ,
    fun m ρ _ => (θ_run _ _ _).mono (fun _ h => ⟨fun c => (h c).2, no_counter Fin.elim0 Fin.elim0 _⟩) (Cert.FwdInRefIdeal.Value.run m ρ),
    fun m ρ _ => Cert.FwdUp.Gen.frame m ρ,
    fun m ρ _ => Cert.FwdUpIdeal.Gen.frame m ρ,
    fun m ρ _ => (θ_run _ _ _).mono (fun _ h => ⟨fun c => (h c).2, no_counter Fin.elim0 Fin.elim0 _⟩) (Cert.FwdUpRefIdeal.Value.run m ρ),
    fun m ρ _ => Cert.Head.Gen.frame m ρ,
    fun m ρ _ => Cert.HeadIdeal.Gen.frame m ρ,
    fun m ρ _ => (θ_run _ _ _).mono (fun _ h => ⟨fun c => (h c).2.2.2.2.2.2.2, no_counter Fin.elim0 Fin.elim0 _⟩) (Cert.HeadRefIdeal.Value.run m ρ),
    fun m ρ _ => Cert.Merge.Gen.frame m ρ,
    fun m ρ _ => Cert.MergeIdeal.Gen.frame m ρ,
    fun m ρ _ => (θ_run _ _ _).mono (fun _ h => ⟨fun c => (h c).2.2, no_counter Fin.elim0 Fin.elim0 _⟩) (Cert.MergeRefIdeal.Value.run m ρ),
    Cert.MergeBwd.Claims.frame_kernel,
    Cert.MergeBwd.Claims.frame_ideal,
    fun m ρ _ => (θ_run _ _ _).mono (fun _ h => ⟨fun c => (h c).2.2.2.2.2.2.2.2.2.2.2.2.2.2, no_counter Fin.elim0 Fin.elim0 _⟩) (Cert.MergeBwdRefIdeal.Value.run m ρ),
    fun m ρ _ => Cert.AdamIn.Gen.frame m ρ,
    fun m ρ _ => Cert.AdamInIdeal.Gen.frame m ρ,
    fun m ρ _ => (θ_run _ _ _).mono (fun _ h => ⟨fun c => (h c).2.2.2.2, no_counter Fin.elim0 Fin.elim0 _⟩) (Cert.AdamInRefIdeal.Value.run m ρ),
    fun m ρ _ => Cert.AdamUp.Gen.frame m ρ,
    fun m ρ _ => Cert.AdamUpIdeal.Gen.frame m ρ,
    fun m ρ _ => (θ_run _ _ _).mono (fun _ h => ⟨fun c => (h c).2.2.2.2, no_counter Fin.elim0 Fin.elim0 _⟩) (Cert.AdamUpRefIdeal.Value.run m ρ),
    fun m ρ _ => Cert.AdamDown.Gen.frame m ρ,
    fun m ρ _ => Cert.AdamDownIdeal.Gen.frame m ρ,
    fun m ρ _ => (θ_run _ _ _).mono (fun _ h => ⟨fun c => (h c).2.2.2.2, no_counter Fin.elim0 Fin.elim0 _⟩) (Cert.AdamDownRefIdeal.Value.run m ρ),
    fun m ρ _ => Cert.AdamSq.Gen.frame m ρ,
    fun m ρ _ => Cert.AdamSqIdeal.Gen.frame m ρ,
    fun m ρ _ => (θ_run _ _ _).mono (fun _ h => ⟨fun c => (h c).2.2.2.2, no_counter Fin.elim0 Fin.elim0 _⟩) (Cert.AdamSqRefIdeal.Value.run m ρ),
    fun m ρ _ => Cert.AdamAda.Gen.frame m ρ,
    fun m ρ _ => Cert.AdamAdaIdeal.Gen.frame m ρ,
    fun m ρ _ => (θ_run _ _ _).mono (fun _ h => ⟨fun c => (h c).2.2.2.2, no_counter Fin.elim0 Fin.elim0 _⟩) (Cert.AdamAdaRefIdeal.Value.run m ρ),
    fun m ρ _ => Cert.ModBwd.Gen.frame m ρ,
    fun m ρ _ => Cert.ModBwdIdeal.Gen.frame m ρ,
    fun m ρ _ => (θ_run _ _ _).mono (fun _ h => ⟨fun c => (h c).2.2.2, no_counter Fin.elim0 Fin.elim0 _⟩) (Cert.ModBwdRefIdeal.Value.run m ρ),
    fun m ρ _ => Cert.Mod.Gen.frame m ρ,
    fun m ρ _ => Cert.ModIdeal.Gen.frame m ρ,
    fun m ρ _ => (θ_run _ _ _).mono (fun _ h => ⟨fun c => (h c).2, no_counter Fin.elim0 Fin.elim0 _⟩) (Cert.ModRefIdeal.Value.run m ρ),
    fun m ρ _ => Cert.Ada.Gen.frame m ρ,
    fun m ρ _ => Cert.AdaIdeal.Gen.frame m ρ,
    fun m ρ _ => (θ_run _ _ _).mono (fun _ h => ⟨fun c => (h c).2, no_counter Fin.elim0 Fin.elim0 _⟩) (Cert.AdaRefIdeal.Value.run m ρ),
    fun m ρ _ => Cert.AdaGrad.Gen.frame m ρ,
    fun m ρ _ => Cert.AdaGradIdeal.Gen.frame m ρ,
    fun m ρ _ => (θ_run _ _ _).mono (fun _ h => ⟨fun c => (h c).2, no_counter Fin.elim0 Fin.elim0 _⟩) (Cert.AdaGradRefIdeal.Value.run m ρ),
    fun m ρ _ => Cert.Act.Gen.frame m ρ,
    fun m ρ _ => Cert.ActIdeal.Gen.frame m ρ,
    fun m ρ _ => (θ_run _ _ _).mono (fun _ h => ⟨fun c => (h c).2, no_counter Fin.elim0 Fin.elim0 _⟩) (Cert.ActRefIdeal.Value.run m ρ),
    fun m ρ _ => Cert.Scan.Gen.frame m ρ,
    fun m ρ _ => Cert.ScanIdeal.Gen.frame m ρ,
    fun m ρ _ => (θ_run _ _ _).mono (fun _ h => ⟨fun c => (h c).2.2, no_counter Fin.elim0 Fin.elim0 _⟩) (Cert.ScanRefIdeal.Value.run m ρ),
    trivial, Cert.Meet.algebraic,
    trivial, Cert.DgradUp.Claims.algebraic,
    trivial, Cert.DgradIn.Claims.algebraic,
    trivial, Cert.WgradPre.Claims.algebraic,
    trivial, Cert.WgradSq.Claims.algebraic,
    trivial, Cert.WgradBa.Claims.algebraic,
    trivial, Cert.WgradUp.Claims.algebraic,
    trivial, Cert.WgradDown.Claims.algebraic,
    trivial, Cert.FwdIn.Claims.algebraic,
    trivial, Cert.FwdUp.Claims.algebraic,
    trivial, Cert.Head.Claims.algebraic,
    trivial, Cert.Merge.Claims.algebraic,
    trivial, Cert.MergeBwd.Claims.algebraic,
    trivial, Cert.AdamIn.Claims.algebraic,
    trivial, Cert.AdamUp.Claims.algebraic,
    trivial, Cert.AdamDown.Claims.algebraic,
    trivial, Cert.AdamSq.Claims.algebraic,
    trivial, Cert.AdamAda.Claims.algebraic,
    trivial, Cert.ModBwd.Claims.algebraic,
    trivial, Cert.Mod.Claims.algebraic,
    trivial, Cert.Ada.Claims.algebraic,
    trivial, Cert.AdaGrad.Claims.algebraic,
    trivial, Cert.Act.Claims.algebraic,
    trivial, Cert.Scan.Claims.algebraic⟩⟩

end Cert.Proof

end
